-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v61) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v52_0)) (v1 : (c : Dev Cert.Kernel4Ideal.nD) → Buf (Elt Ideal) ((c.tc : Thread Cert.Kernel4Ideal.nD Cert.Kernel4Ideal.τ).loc Cert.Kernel4Ideal.main_v52_1)) (v2 : (c : Dev Cert.Kernel4Ideal.nD) → Buf (Elt Ideal) ((c.tc : Thread Cert.Kernel4Ideal.nD Cert.Kernel4Ideal.τ).loc Cert.Kernel4Ideal.main_v52_2)) (v3 : (c : Dev Cert.Kernel4Ideal.nD) → Buf (Elt Ideal) ((c.tc : Thread Cert.Kernel4Ideal.nD Cert.Kernel4Ideal.τ).loc Cert.Kernel4Ideal.main_v52_3)) (v4 : (c : Dev Cert.Kernel4Ideal.nD) → Buf (Elt Ideal) ((c.tc : Thread Cert.Kernel4Ideal.nD Cert.Kernel4Ideal.τ).loc Cert.Kernel4Ideal.main_v52_4)) (v5 : (c : Dev Cert.Kernel4Ideal.nD) → Buf (Elt Ideal) ((c.tc : Thread Cert.Kernel4Ideal.nD Cert.Kernel4Ideal.τ).loc Cert.Kernel4Ideal.main_v52_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v52_0) = v0 c
          ∧ r.2.mem ((c.tc : Thread Cert.Kernel4Ideal.nD Cert.Kernel4Ideal.τ).loc Cert.Kernel4Ideal.main_v52_1) = v1 c
          ∧ r.2.mem ((c.tc : Thread Cert.Kernel4Ideal.nD Cert.Kernel4Ideal.τ).loc Cert.Kernel4Ideal.main_v52_2) = v2 c
          ∧ r.2.mem ((c.tc : Thread Cert.Kernel4Ideal.nD Cert.Kernel4Ideal.τ).loc Cert.Kernel4Ideal.main_v52_3) = v3 c
          ∧ r.2.mem ((c.tc : Thread Cert.Kernel4Ideal.nD Cert.Kernel4Ideal.τ).loc Cert.Kernel4Ideal.main_v52_4) = v4 c
          ∧ r.2.mem ((c.tc : Thread Cert.Kernel4Ideal.nD Cert.Kernel4Ideal.τ).loc Cert.Kernel4Ideal.main_v52_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v61) = v0 c
          ∧ r.2.mem ((c.tc : Thread Cert.Reference4Ideal.nD Cert.Reference4Ideal.τ).loc Cert.Reference4Ideal.main_v76) = v1 c
          ∧ r.2.mem ((c.tc : Thread Cert.Reference4Ideal.nD Cert.Reference4Ideal.τ).loc Cert.Reference4Ideal.main_v77) = v2 c
          ∧ r.2.mem ((c.tc : Thread Cert.Reference4Ideal.nD Cert.Reference4Ideal.τ).loc Cert.Reference4Ideal.main_v78) = v3 c
          ∧ r.2.mem ((c.tc : Thread Cert.Reference4Ideal.nD Cert.Reference4Ideal.τ).loc Cert.Reference4Ideal.main_v105) = v4 c
          ∧ r.2.mem ((c.tc : Thread Cert.Reference4Ideal.nD Cert.Reference4Ideal.τ).loc Cert.Reference4Ideal.main_v106) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S32768x256 : Shape := ⟨2, ![32768, 256]⟩
abbrev S32x32768 : Shape := ⟨2, ![32, 32768]⟩
abbrev S32768x64 : Shape := ⟨2, ![32768, 64]⟩
abbrev S264x32768 : Shape := ⟨2, ![264, 32768]⟩
abbrev S256x512 : Shape := ⟨2, ![256, 512]⟩
abbrev S256x1024 : Shape := ⟨2, ![256, 1024]⟩
abbrev S256x8x128 : Shape := ⟨3, ![256, 8, 128]⟩
abbrev S32x8 : Shape := ⟨2, ![32, 8]⟩
abbrev S384 : Shape := ⟨1, ![384]⟩
abbrev S128 : Shape := ⟨1, ![128]⟩
abbrev S128x1 : Shape := ⟨2, ![128, 1]⟩
abbrev S1x128 : Shape := ⟨2, ![1, 128]⟩
abbrev S_ : Shape := ⟨0, ![]⟩
abbrev S128x128 : Shape := ⟨2, ![128, 128]⟩
abbrev S1x128x128 : Shape := ⟨3, ![1, 128, 128]⟩
abbrev S3x128x128 : Shape := ⟨3, ![3, 128, 128]⟩
abbrev S3x128x128x1 : Shape := ⟨4, ![3, 128, 128, 1]⟩
abbrev S3x128x128x32 : Shape := ⟨4, ![3, 128, 128, 32]⟩
abbrev S8x3x128x128 : Shape := ⟨4, ![8, 3, 128, 128]⟩
abbrev S3x128x8x128 : Shape := ⟨4, ![3, 128, 8, 128]⟩
abbrev S1x8 : Shape := ⟨2, ![1, 8]⟩
abbrev S8 : Shape := ⟨1, ![8]⟩
abbrev S1x1x8x1 : Shape := ⟨4, ![1, 1, 8, 1]⟩
abbrev S3x128x1024 : Shape := ⟨3, ![3, 128, 1024]⟩
abbrev S512x256 : Shape := ⟨2, ![512, 256]⟩
abbrev S1024x256 : Shape := ⟨2, ![1024, 256]⟩
abbrev S8x256x128 : Shape := ⟨3, ![8, 256, 128]⟩
abbrev S8x128x256 : Shape := ⟨3, ![8, 128, 256]⟩
abbrev S32768x1024 : Shape := ⟨2, ![32768, 1024]⟩
abbrev S32x128 : Shape := ⟨2, ![32, 128]⟩
abbrev S4096x64 : Shape := ⟨2, ![4096, 64]⟩
abbrev S4096x256 : Shape := ⟨2, ![4096, 256]⟩
abbrev S264x4096 : Shape := ⟨2, ![264, 4096]⟩
abbrev S512x1024 : Shape := ⟨2, ![512, 1024]⟩
abbrev S4096x128 : Shape := ⟨2, ![4096, 128]⟩
abbrev S32x16x8x128 : Shape := ⟨4, ![32, 16, 8, 128]⟩
abbrev S8x128 : Shape := ⟨2, ![8, 128]⟩
abbrev S264x1024 : Shape := ⟨2, ![264, 1024]⟩
abbrev S8x64x1024 : Shape := ⟨3, ![8, 64, 1024]⟩
abbrev S8x256x1024 : Shape := ⟨3, ![8, 256, 1024]⟩
abbrev S4x256x1024 : Shape := ⟨3, ![4, 256, 1024]⟩
abbrev S256x128 : Shape := ⟨2, ![256, 128]⟩
abbrev S512x512 : Shape := ⟨2, ![512, 512]⟩
abbrev S1024x512 : Shape := ⟨2, ![1024, 512]⟩
abbrev S64x128 : Shape := ⟨2, ![64, 128]⟩
abbrev S64x1024 : Shape := ⟨2, ![64, 1024]⟩
abbrev S1x64x1024 : Shape := ⟨3, ![1, 64, 1024]⟩
abbrev S1x256x128 : Shape := ⟨3, ![1, 256, 128]⟩
abbrev S128x512 : Shape := ⟨2, ![128, 512]⟩
abbrev S1x1024 : Shape := ⟨2, ![1, 1024]⟩
abbrev S256x64 : Shape := ⟨2, ![256, 64]⟩
abbrev S128x1024 : Shape := ⟨2, ![128, 1024]⟩
abbrev S1x1x8x128 : Shape := ⟨4, ![1, 1, 8, 128]⟩
abbrev S16x8x128 : Shape := ⟨3, ![16, 8, 128]⟩
abbrev S1x16x8x128 : Shape := ⟨4, ![1, 16, 8, 128]⟩
abbrev S1x1x128 : Shape := ⟨3, ![1, 1, 128]⟩
abbrev S1 : Shape := ⟨1, ![1]⟩
abbrev S1x1x1 : Shape := ⟨3, ![1, 1, 1]⟩
abbrev S4x8x128 : Shape := ⟨3, ![4, 8, 128]⟩
abbrev S8x4x8x128 : Shape := ⟨4, ![8, 4, 8, 128]⟩
abbrev S256x256 : Shape := ⟨2, ![256, 256]⟩
abbrev S1x256x1024 : Shape := ⟨3, ![1, 256, 1024]⟩
abbrev S16x16x1024 : Shape := ⟨3, ![16, 16, 1024]⟩
abbrev S16x1024 : Shape := ⟨2, ![16, 1024]⟩
abbrev S1024 : Shape := ⟨1, ![1024]⟩
abbrev S264x256 : Shape := ⟨2, ![264, 256]⟩
abbrev S1x128x1024 : Shape := ⟨3, ![1, 128, 1024]⟩
abbrev S1x128x256 : Shape := ⟨3, ![1, 128, 256]⟩
abbrev S128x256 : Shape := ⟨2, ![128, 256]⟩
abbrev S512x128 : Shape := ⟨2, ![512, 128]⟩

abbrev nBuf : Space → Nat
  | .hbm => 81
  | .vmem => 29
  | .smem => 0
  | _ => 0

abbrev bufTy : (tb : Table) → Fin (tcTables nBuf tb) → BufTy
  | .hbm, ⟨0, _⟩ => ⟨S32768x256, .bf16⟩
  | .hbm, ⟨1, _⟩ => ⟨S32x32768, .f32⟩
  | .hbm, ⟨2, _⟩ => ⟨S32768x64, .bf16⟩
  | .hbm, ⟨3, _⟩ => ⟨S32768x256, .bf16⟩
  | .hbm, ⟨4, _⟩ => ⟨S264x32768, .bf16⟩
  | .hbm, ⟨5, _⟩ => ⟨S256x512, .f32⟩
  | .hbm, ⟨6, _⟩ => ⟨S256x1024, .f32⟩
  | .hbm, ⟨7, _⟩ => ⟨S256x8x128, .f32⟩
  | .hbm, ⟨8, _⟩ => ⟨S256x8x128, .f32⟩
  | .hbm, ⟨9, _⟩ => ⟨S32x8, .f32⟩
  | .hbm, ⟨10, _⟩ => ⟨S384, .i32⟩
  | .hbm, ⟨11, _⟩ => ⟨S128, .i32⟩
  | .hbm, ⟨12, _⟩ => ⟨S128x1, .i32⟩
  | .hbm, ⟨13, _⟩ => ⟨S128, .i32⟩
  | .hbm, ⟨14, _⟩ => ⟨S1x128, .i32⟩
  | .hbm, ⟨15, _⟩ => ⟨S_, .i32⟩
  | .hbm, ⟨16, _⟩ => ⟨S1x128, .i32⟩
  | .hbm, ⟨17, _⟩ => ⟨S1x128, .i32⟩
  | .hbm, ⟨18, _⟩ => ⟨S128x128, .i32⟩
  | .hbm, ⟨19, _⟩ => ⟨S128x128, .i32⟩
  | .hbm, ⟨20, _⟩ => ⟨S128x128, .i32⟩
  | .hbm, ⟨21, _⟩ => ⟨S_, .i32⟩
  | .hbm, ⟨22, _⟩ => ⟨S128x128, .i32⟩
  | .hbm, ⟨23, _⟩ => ⟨S128x128, .i32⟩
  | .hbm, ⟨24, _⟩ => ⟨S_, .i32⟩
  | .hbm, ⟨25, _⟩ => ⟨S1x128, .i32⟩
  | .hbm, ⟨26, _⟩ => ⟨S1x128, .i32⟩
  | .hbm, ⟨27, _⟩ => ⟨S128x128, .i32⟩
  | .hbm, ⟨28, _⟩ => ⟨S128x128, .i32⟩
  | .hbm, ⟨29, _⟩ => ⟨S128x128, .i32⟩
  | .hbm, ⟨30, _⟩ => ⟨S_, .i32⟩
  | .hbm, ⟨31, _⟩ => ⟨S128x128, .i32⟩
  | .hbm, ⟨32, _⟩ => ⟨S128x128, .i32⟩
  | .hbm, ⟨33, _⟩ => ⟨S_, .i32⟩
  | .hbm, ⟨34, _⟩ => ⟨S1x128, .i32⟩
  | .hbm, ⟨35, _⟩ => ⟨S1x128, .i32⟩
  | .hbm, ⟨36, _⟩ => ⟨S128x128, .i32⟩
  | .hbm, ⟨37, _⟩ => ⟨S128x128, .i32⟩
  | .hbm, ⟨38, _⟩ => ⟨S128x128, .i32⟩
  | .hbm, ⟨39, _⟩ => ⟨S_, .i32⟩
  | .hbm, ⟨40, _⟩ => ⟨S128x128, .i32⟩
  | .hbm, ⟨41, _⟩ => ⟨S128x128, .i32⟩
  | .hbm, ⟨42, _⟩ => ⟨S1x128x128, .i32⟩
  | .hbm, ⟨43, _⟩ => ⟨S1x128x128, .i32⟩
  | .hbm, ⟨44, _⟩ => ⟨S1x128x128, .i32⟩
  | .hbm, ⟨45, _⟩ => ⟨S3x128x128, .i32⟩
  | .hbm, ⟨46, _⟩ => ⟨S_, .i32⟩
  | .hbm, ⟨47, _⟩ => ⟨S3x128x128, .i32⟩
  | .hbm, ⟨48, _⟩ => ⟨S3x128x128, .i1⟩
  | .hbm, ⟨49, _⟩ => ⟨S_, .i32⟩
  | .hbm, ⟨50, _⟩ => ⟨S3x128x128, .i32⟩
  | .hbm, ⟨51, _⟩ => ⟨S3x128x128, .i32⟩
  | .hbm, ⟨52, _⟩ => ⟨S3x128x128, .i32⟩
  | .hbm, ⟨53, _⟩ => ⟨S3x128x128x1, .i32⟩
  | .hbm, ⟨54, _⟩ => ⟨S3x128x128, .i32⟩
  | .hbm, ⟨55, _⟩ => ⟨S3x128x128x1, .i32⟩
  | .hbm, ⟨56, _⟩ => ⟨S3x128x128x32, .i32⟩
  | .hbm, ⟨57, _⟩ => ⟨S3x128x128x32, .i32⟩
  | .hbm, ⟨58, _⟩ => ⟨S3x128x128x32, .i1⟩
  | .hbm, ⟨59, _⟩ => ⟨S3x128x128x32, .f32⟩
  | .hbm, ⟨60, _⟩ => ⟨S8x3x128x128, .f32⟩
  | .hbm, ⟨61, _⟩ => ⟨S3x128x8x128, .f32⟩
  | .hbm, ⟨62, _⟩ => ⟨S1x8, .f32⟩
  | .hbm, ⟨63, _⟩ => ⟨S8, .f32⟩
  | .hbm, ⟨64, _⟩ => ⟨S1x1x8x1, .f32⟩
  | .hbm, ⟨65, _⟩ => ⟨S3x128x8x128, .f32⟩
  | .hbm, ⟨66, _⟩ => ⟨S3x128x8x128, .f32⟩
  | .hbm, ⟨67, _⟩ => ⟨S_, .f32⟩
  | .hbm, ⟨68, _⟩ => ⟨S3x128x8x128, .f32⟩
  | .hbm, ⟨69, _⟩ => ⟨S3x128x8x128, .f32⟩
  | .hbm, ⟨70, _⟩ => ⟨S3x128x1024, .f32⟩
  | .hbm, ⟨71, _⟩ => ⟨S3x128x1024, .bf16⟩
  | .hbm, ⟨72, _⟩ => ⟨S512x256, .f32⟩
  | .hbm, ⟨73, _⟩ => ⟨S512x256, .bf16⟩
  | .hbm, ⟨74, _⟩ => ⟨S1024x256, .f32⟩
  | .hbm, ⟨75, _⟩ => ⟨S1024x256, .bf16⟩
  | .hbm, ⟨76, _⟩ => ⟨S8x256x128, .f32⟩
  | .hbm, ⟨77, _⟩ => ⟨S8x256x128, .bf16⟩
  | .hbm, ⟨78, _⟩ => ⟨S8x128x256, .f32⟩
  | .hbm, ⟨79, _⟩ => ⟨S8x128x256, .bf16⟩
  | .hbm, ⟨80, _⟩ => ⟨S32768x1024, .bf16⟩
  | .local _ .vmem, ⟨0, _⟩ => ⟨S512x256, .bf16⟩
  | .local _ .vmem, ⟨1, _⟩ => ⟨S512x256, .bf16⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S4096x64, .bf16⟩
  | .local _ .vmem, ⟨7, _⟩ => ⟨S4096x64, .bf16⟩
  | .local _ .vmem, ⟨8, _⟩ => ⟨S4096x256, .bf16⟩
  | .local _ .vmem, ⟨9, _⟩ => ⟨S4096x256, .bf16⟩
  | .local _ .vmem, ⟨10, _⟩ => ⟨S264x4096, .bf16⟩
  | .local _ .vmem, ⟨11, _⟩ => ⟨S264x4096, .bf16⟩
  | .local _ .vmem, ⟨12, _⟩ => ⟨S512x256, .bf16⟩
  | .local _ .vmem, ⟨13, _⟩ => ⟨S1024x256, .bf16⟩
  | .local _ .vmem, ⟨14, _⟩ => ⟨S8x256x128, .bf16⟩
  | .local _ .vmem, ⟨15, _⟩ => ⟨S8x128x256, .bf16⟩
  | .local _ .vmem, ⟨16, _⟩ => ⟨S3x128x1024, .bf16⟩
  | .local _ .vmem, ⟨17, _⟩ => ⟨S512x1024, .bf16⟩
  | .local _ .vmem, ⟨18, _⟩ => ⟨S512x1024, .bf16⟩
  | .local _ .vmem, ⟨19, _⟩ => ⟨S4096x128, .i32⟩
  | .local _ .vmem, ⟨20, _⟩ => ⟨S4096x128, .i32⟩
  | .local _ .vmem, ⟨21, _⟩ => ⟨S32x16x8x128, .i32⟩
  | .local _ .vmem, ⟨22, _⟩ => ⟨S8x128, .i32⟩
  | .local _ .vmem, ⟨23, _⟩ => ⟨S264x1024, .f32⟩
  | .local _ .vmem, ⟨24, _⟩ => ⟨S256x1024, .bf16⟩
  | .local _ .vmem, ⟨25, _⟩ => ⟨S256x1024, .bf16⟩
  | .local _ .vmem, ⟨26, _⟩ => ⟨S8x64x1024, .bf16⟩
  | .local _ .vmem, ⟨27, _⟩ => ⟨S8x256x1024, .bf16⟩
  | .local _ .vmem, ⟨28, _⟩ => ⟨S4x256x1024, .bf16⟩
  | _, _ => ⟨S32768x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_scratch8 : Ref sig .tc := ⟨.vmem, 27, rfl⟩
abbrev cc0_scratch9 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [BitOps F]

abbrev grid0 : Pipeline.Grid := ⟨2, ![8, 32], ![false, false]⟩

def k0_cond3 (i : grid0.Coords) : BitVec 1 :=
  let arg1 : BitVec 32 := BitVec.ofNat 32 (i 1).val
  let c0_i32_8 : BitVec 32 := 0#32
  let v21 : BitVec 1 := Scalar.cmpi .sgt arg1 c0_i32_8
  let c1_i32_9 : BitVec 32 := 1#32
  let v22 : BitVec 32 := Scalar.addi arg1 c1_i32_9
  let c4_i32_10 : BitVec 32 := 4#32
  let c0_i32_11 : BitVec 32 := 0#32
  let v23 : BitVec 1 := Scalar.cmpi .eq c4_i32_10 c0_i32_11
  let c1_i32_12 : BitVec 32 := 1#32
  let v24 : BitVec 32 := Scalar.select v23 c1_i32_12 c4_i32_10
  let v25 : BitVec 32 := Scalar.remsi v22 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c0_i32_16 : BitVec 32 := 0#32
  let v33 : BitVec 1 := Scalar.cmpi .eq v32 c0_i32_16
  let v34 : BitVec 1 := Scalar.andi v21 v33
  let c1_i32_17 : BitVec 32 := 1#32
  let v35 : BitVec 32 := Scalar.addi arg1 c1_i32_17
  let c32_i32 : BitVec 32 := 32#32
  let v36 : BitVec 1 := Scalar.cmpi .slt v35 c32_i32
  let v37 : BitVec 1 := Scalar.andi v34 v36
  let v38 : BitVec 32 := Scalar.extui v37
  let c0_i32_18 : BitVec 32 := 0#32
  let v39 : BitVec 1 := Scalar.cmpi .ne v38 c0_i32_18
  v39

def k0_off1 (i : grid0.Coords) (c0_i32_130 : BitVec 32) : Fin 3 → Nat :=
  let arg1 : BitVec 32 := BitVec.ofNat 32 (i 1).val
  let c1_i32_107 : BitVec 32 := 1#32
  let v207 : BitVec 32 := Scalar.addi arg1 c1_i32_107
  let c0_i32_109 : BitVec 32 := 0#32
  let v209 : BitVec 1 := Scalar.cmpi .sgt v207 c0_i32_109
  let v210 : BitVec 32 := Scalar.extui v209
  let c0_i32_110 : BitVec 32 := 0#32
  let v211 : BitVec 1 := Scalar.cmpi .slt v207 c0_i32_110
  let v212 : BitVec 32 := Scalar.extui v211
  let v213 : BitVec 32 := Scalar.subi v210 v212
  let c4_i32_108 : BitVec 32 := 4#32
  let c0_i32_111 : BitVec 32 := 0#32
  let v214 : BitVec 1 := Scalar.cmpi .sgt c4_i32_108 c0_i32_111
  let v215 : BitVec 32 := Scalar.extui v214
  let c0_i32_112 : BitVec 32 := 0#32
  let v216 : BitVec 1 := Scalar.cmpi .slt c4_i32_108 c0_i32_112
  let v217 : BitVec 32 := Scalar.extui v216
  let v218 : BitVec 32 := Scalar.subi v215 v217
  let v219 : BitVec 1 := Scalar.cmpi .ne v213 v218
  let v220 : BitVec 32 := Scalar.remsi v207 c4_i32_108
  let c0_i32_113 : BitVec 32 := 0#32
  let v221 : BitVec 1 := Scalar.cmpi .ne v220 c0_i32_113
  let v222 : BitVec 1 := Scalar.andi v219 v221
  let v208 : BitVec 32 := Scalar.divsi v207 c4_i32_108
  let c1_i32_114 : BitVec 32 := 1#32
  let v223 : BitVec 32 := Scalar.subi v208 c1_i32_114
  let v224 : BitVec 32 := Scalar.select v222 v223 v208
  let c2_i32_115 : BitVec 32 := 2#32
  let c0_i32_116 : BitVec 32 := 0#32
  let v225 : BitVec 1 := Scalar.cmpi .eq c2_i32_115 c0_i32_116
  let c1_i32_117 : BitVec 32 := 1#32
  let v226 : BitVec 32 := Scalar.select v225 c1_i32_117 c2_i32_115
  let v227 : BitVec 32 := Scalar.remsi v224 v226
  let c0_i32_119 : BitVec 32 := 0#32
  let v229 : BitVec 1 := Scalar.cmpi .slt v227 c0_i32_119
  let c0_i32_120 : BitVec 32 := 0#32
  let v230 : BitVec 1 := Scalar.cmpi .slt v226 c0_i32_120
  let v231 : BitVec 1 := Scalar.xori v229 v230
  let c0_i32_118 : BitVec 32 := 0#32
  let v228 : BitVec 1 := Scalar.cmpi .ne v227 c0_i32_118
  let v232 : BitVec 1 := Scalar.andi v231 v228
  let v233 : BitVec 32 := Scalar.addi v227 v226
  let v234 : BitVec 32 := Scalar.select v232 v233 v227
  let c4_i32_121 : BitVec 32 := 4#32
  let v235 : BitVec 32 := Scalar.muli v234 c4_i32_121
  let v254 : BitVec 32 := Scalar.addi v235 c0_i32_130
  let v255 : Index := Scalar.indexCast v254
  let c0_131 : Index := 0#32
  let c0_132 : Index := 0#32
  ![v255.toNat, 0, 0]
def k0_off2 (i : grid0.Coords) (c0_i32_147 : BitVec 32) : Fin 3 → Nat :=
  let arg1 : BitVec 32 := BitVec.ofNat 32 (i 1).val
  let c1_i32_107 : BitVec 32 := 1#32
  let v207 : BitVec 32 := Scalar.addi arg1 c1_i32_107
  let c0_i32_109 : BitVec 32 := 0#32
  let v209 : BitVec 1 := Scalar.cmpi .sgt v207 c0_i32_109
  let v210 : BitVec 32 := Scalar.extui v209
  let c0_i32_110 : BitVec 32 := 0#32
  let v211 : BitVec 1 := Scalar.cmpi .slt v207 c0_i32_110
  let v212 : BitVec 32 := Scalar.extui v211
  let v213 : BitVec 32 := Scalar.subi v210 v212
  let c4_i32_108 : BitVec 32 := 4#32
  let c0_i32_111 : BitVec 32 := 0#32
  let v214 : BitVec 1 := Scalar.cmpi .sgt c4_i32_108 c0_i32_111
  let v215 : BitVec 32 := Scalar.extui v214
  let c0_i32_112 : BitVec 32 := 0#32
  let v216 : BitVec 1 := Scalar.cmpi .slt c4_i32_108 c0_i32_112
  let v217 : BitVec 32 := Scalar.extui v216
  let v218 : BitVec 32 := Scalar.subi v215 v217
  let v219 : BitVec 1 := Scalar.cmpi .ne v213 v218
  let v220 : BitVec 32 := Scalar.remsi v207 c4_i32_108
  let c0_i32_113 : BitVec 32 := 0#32
  let v221 : BitVec 1 := Scalar.cmpi .ne v220 c0_i32_113
  let v222 : BitVec 1 := Scalar.andi v219 v221
  let v208 : BitVec 32 := Scalar.divsi v207 c4_i32_108
  let c1_i32_114 : BitVec 32 := 1#32
  let v223 : BitVec 32 := Scalar.subi v208 c1_i32_114
  let v224 : BitVec 32 := Scalar.select v222 v223 v208
  let c2_i32_115 : BitVec 32 := 2#32
  let c0_i32_116 : BitVec 32 := 0#32
  let v225 : BitVec 1 := Scalar.cmpi .eq c2_i32_115 c0_i32_116
  let c1_i32_117 : BitVec 32 := 1#32
  let v226 : BitVec 32 := Scalar.select v225 c1_i32_117 c2_i32_115
  let v227 : BitVec 32 := Scalar.remsi v224 v226
  let c0_i32_119 : BitVec 32 := 0#32
  let v229 : BitVec 1 := Scalar.cmpi .slt v227 c0_i32_119
  let c0_i32_120 : BitVec 32 := 0#32
  let v230 : BitVec 1 := Scalar.cmpi .slt v226 c0_i32_120
  let v231 : BitVec 1 := Scalar.xori v229 v230
  let c0_i32_118 : BitVec 32 := 0#32
  let v228 : BitVec 1 := Scalar.cmpi .ne v227 c0_i32_118
  let v232 : BitVec 1 := Scalar.andi v231 v228
  let v233 : BitVec 32 := Scalar.addi v227 v226
  let v234 : BitVec 32 := Scalar.select v232 v233 v227
  let c4_i32_121 : BitVec 32 := 4#32
  let v235 : BitVec 32 := Scalar.muli v234 c4_i32_121
  let v309 : BitVec 32 := Scalar.addi v235 c0_i32_147
  let v310 : Index := Scalar.indexCast v309
  let c0_148 : Index := 0#32
  let c0_149 : Index := 0#32
  ![v310.toNat, 0, 0]
def k0_off3 (i : grid0.Coords) (c0_i32_164 : BitVec 32) : Fin 3 → Nat :=
  let arg1 : BitVec 32 := BitVec.ofNat 32 (i 1).val
  let c1_i32_107 : BitVec 32 := 1#32
  let v207 : BitVec 32 := Scalar.addi arg1 c1_i32_107
  let c0_i32_109 : BitVec 32 := 0#32
  let v209 : BitVec 1 := Scalar.cmpi .sgt v207 c0_i32_109
  let v210 : BitVec 32 := Scalar.extui v209
  let c0_i32_110 : BitVec 32 := 0#32
  let v211 : BitVec 1 := Scalar.cmpi .slt v207 c0_i32_110
  let v212 : BitVec 32 := Scalar.extui v211
  let v213 : BitVec 32 := Scalar.subi v210 v212
  let c4_i32_108 : BitVec 32 := 4#32
  let c0_i32_111 : BitVec 32 := 0#32
  let v214 : BitVec 1 := Scalar.cmpi .sgt c4_i32_108 c0_i32_111
  let v215 : BitVec 32 := Scalar.extui v214
  let c0_i32_112 : BitVec 32 := 0#32
  let v216 : BitVec 1 := Scalar.cmpi .slt c4_i32_108 c0_i32_112
  let v217 : BitVec 32 := Scalar.extui v216
  let v218 : BitVec 32 := Scalar.subi v215 v217
  let v219 : BitVec 1 := Scalar.cmpi .ne v213 v218
  let v220 : BitVec 32 := Scalar.remsi v207 c4_i32_108
  let c0_i32_113 : BitVec 32 := 0#32
  let v221 : BitVec 1 := Scalar.cmpi .ne v220 c0_i32_113
  let v222 : BitVec 1 := Scalar.andi v219 v221
  let v208 : BitVec 32 := Scalar.divsi v207 c4_i32_108
  let c1_i32_114 : BitVec 32 := 1#32
  let v223 : BitVec 32 := Scalar.subi v208 c1_i32_114
  let v224 : BitVec 32 := Scalar.select v222 v223 v208
  let c2_i32_115 : BitVec 32 := 2#32
  let c0_i32_116 : BitVec 32 := 0#32
  let v225 : BitVec 1 := Scalar.cmpi .eq c2_i32_115 c0_i32_116
  let c1_i32_117 : BitVec 32 := 1#32
  let v226 : BitVec 32 := Scalar.select v225 c1_i32_117 c2_i32_115
  let v227 : BitVec 32 := Scalar.remsi v224 v226
  let c0_i32_119 : BitVec 32 := 0#32
  let v229 : BitVec 1 := Scalar.cmpi .slt v227 c0_i32_119
  let c0_i32_120 : BitVec 32 := 0#32
  let v230 : BitVec 1 := Scalar.cmpi .slt v226 c0_i32_120
  let v231 : BitVec 1 := Scalar.xori v229 v230
  let c0_i32_118 : BitVec 32 := 0#32
  let v228 : BitVec 1 := Scalar.cmpi .ne v227 c0_i32_118
  let v232 : BitVec 1 := Scalar.andi v231 v228
  let v233 : BitVec 32 := Scalar.addi v227 v226
  let v234 : BitVec 32 := Scalar.select v232 v233 v227
  let c4_i32_121 : BitVec 32 := 4#32
  let v235 : BitVec 32 := Scalar.muli v234 c4_i32_121
  let v340 : BitVec 32 := Scalar.addi v235 c0_i32_164
  let v341 : Index := Scalar.indexCast v340
  let c0_165 : Index := 0#32
  let c128 : Index := 128#32
  ![v341.toNat, 0, 128]
def k0_off4 (i : grid0.Coords) (c0_i32_180 : BitVec 32) : Fin 3 → Nat :=
  let arg1 : BitVec 32 := BitVec.ofNat 32 (i 1).val
  let c1_i32_107 : BitVec 32 := 1#32
  let v207 : BitVec 32 := Scalar.addi arg1 c1_i32_107
  let c0_i32_109 : BitVec 32 := 0#32
  let v209 : BitVec 1 := Scalar.cmpi .sgt v207 c0_i32_109
  let v210 : BitVec 32 := Scalar.extui v209
  let c0_i32_110 : BitVec 32 := 0#32
  let v211 : BitVec 1 := Scalar.cmpi .slt v207 c0_i32_110
  let v212 : BitVec 32 := Scalar.extui v211
  let v213 : BitVec 32 := Scalar.subi v210 v212
  let c4_i32_108 : BitVec 32 := 4#32
  let c0_i32_111 : BitVec 32 := 0#32
  let v214 : BitVec 1 := Scalar.cmpi .sgt c4_i32_108 c0_i32_111
  let v215 : BitVec 32 := Scalar.extui v214
  let c0_i32_112 : BitVec 32 := 0#32
  let v216 : BitVec 1 := Scalar.cmpi .slt c4_i32_108 c0_i32_112
  let v217 : BitVec 32 := Scalar.extui v216
  let v218 : BitVec 32 := Scalar.subi v215 v217
  let v219 : BitVec 1 := Scalar.cmpi .ne v213 v218
  let v220 : BitVec 32 := Scalar.remsi v207 c4_i32_108
  let c0_i32_113 : BitVec 32 := 0#32
  let v221 : BitVec 1 := Scalar.cmpi .ne v220 c0_i32_113
  let v222 : BitVec 1 := Scalar.andi v219 v221
  let v208 : BitVec 32 := Scalar.divsi v207 c4_i32_108
  let c1_i32_114 : BitVec 32 := 1#32
  let v223 : BitVec 32 := Scalar.subi v208 c1_i32_114
  let v224 : BitVec 32 := Scalar.select v222 v223 v208
  let c2_i32_115 : BitVec 32 := 2#32
  let c0_i32_116 : BitVec 32 := 0#32
  let v225 : BitVec 1 := Scalar.cmpi .eq c2_i32_115 c0_i32_116
  let c1_i32_117 : BitVec 32 := 1#32
  let v226 : BitVec 32 := Scalar.select v225 c1_i32_117 c2_i32_115
  let v227 : BitVec 32 := Scalar.remsi v224 v226
  let c0_i32_119 : BitVec 32 := 0#32
  let v229 : BitVec 1 := Scalar.cmpi .slt v227 c0_i32_119
  let c0_i32_120 : BitVec 32 := 0#32
  let v230 : BitVec 1 := Scalar.cmpi .slt v226 c0_i32_120
  let v231 : BitVec 1 := Scalar.xori v229 v230
  let c0_i32_118 : BitVec 32 := 0#32
  let v228 : BitVec 1 := Scalar.cmpi .ne v227 c0_i32_118
  let v232 : BitVec 1 := Scalar.andi v231 v228
  let v233 : BitVec 32 := Scalar.addi v227 v226
  let v234 : BitVec 32 := Scalar.select v232 v233 v227
  let c4_i32_121 : BitVec 32 := 4#32
  let v235 : BitVec 32 := Scalar.muli v234 c4_i32_121
  let v371 : BitVec 32 := Scalar.addi v235 c0_i32_180
  let v372 : Index := Scalar.indexCast v371
  let c0_181 : Index := 0#32
  let c256_182 : Index := 256#32
  ![v372.toNat, 0, 256]
def k0_off5 (i : grid0.Coords) (c0_i32_197 : BitVec 32) : Fin 3 → Nat :=
  let arg1 : BitVec 32 := BitVec.ofNat 32 (i 1).val
  let c1_i32_107 : BitVec 32 := 1#32
  let v207 : BitVec 32 := Scalar.addi arg1 c1_i32_107
  let c0_i32_109 : BitVec 32 := 0#32
  let v209 : BitVec 1 := Scalar.cmpi .sgt v207 c0_i32_109
  let v210 : BitVec 32 := Scalar.extui v209
  let c0_i32_110 : BitVec 32 := 0#32
  let v211 : BitVec 1 := Scalar.cmpi .slt v207 c0_i32_110
  let v212 : BitVec 32 := Scalar.extui v211
  let v213 : BitVec 32 := Scalar.subi v210 v212
  let c4_i32_108 : BitVec 32 := 4#32
  let c0_i32_111 : BitVec 32 := 0#32
  let v214 : BitVec 1 := Scalar.cmpi .sgt c4_i32_108 c0_i32_111
  let v215 : BitVec 32 := Scalar.extui v214
  let c0_i32_112 : BitVec 32 := 0#32
  let v216 : BitVec 1 := Scalar.cmpi .slt c4_i32_108 c0_i32_112
  let v217 : BitVec 32 := Scalar.extui v216
  let v218 : BitVec 32 := Scalar.subi v215 v217
  let v219 : BitVec 1 := Scalar.cmpi .ne v213 v218
  let v220 : BitVec 32 := Scalar.remsi v207 c4_i32_108
  let c0_i32_113 : BitVec 32 := 0#32
  let v221 : BitVec 1 := Scalar.cmpi .ne v220 c0_i32_113
  let v222 : BitVec 1 := Scalar.andi v219 v221
  let v208 : BitVec 32 := Scalar.divsi v207 c4_i32_108
  let c1_i32_114 : BitVec 32 := 1#32
  let v223 : BitVec 32 := Scalar.subi v208 c1_i32_114
  let v224 : BitVec 32 := Scalar.select v222 v223 v208
  let c2_i32_115 : BitVec 32 := 2#32
  let c0_i32_116 : BitVec 32 := 0#32
  let v225 : BitVec 1 := Scalar.cmpi .eq c2_i32_115 c0_i32_116
  let c1_i32_117 : BitVec 32 := 1#32
  let v226 : BitVec 32 := Scalar.select v225 c1_i32_117 c2_i32_115
  let v227 : BitVec 32 := Scalar.remsi v224 v226
  let c0_i32_119 : BitVec 32 := 0#32
  let v229 : BitVec 1 := Scalar.cmpi .slt v227 c0_i32_119
  let c0_i32_120 : BitVec 32 := 0#32
  let v230 : BitVec 1 := Scalar.cmpi .slt v226 c0_i32_120
  let v231 : BitVec 1 := Scalar.xori v229 v230
  let c0_i32_118 : BitVec 32 := 0#32
  let v228 : BitVec 1 := Scalar.cmpi .ne v227 c0_i32_118
  let v232 : BitVec 1 := Scalar.andi v231 v228
  let v233 : BitVec 32 := Scalar.addi v227 v226
  let v234 : BitVec 32 := Scalar.select v232 v233 v227
  let c4_i32_121 : BitVec 32 := 4#32
  let v235 : BitVec 32 := Scalar.muli v234 c4_i32_121
  let v402 : BitVec 32 := Scalar.addi v235 c0_i32_197
  let v403 : Index := Scalar.indexCast v402
  let c0_198 : Index := 0#32
  let c384 : Index := 384#32
  ![v403.toNat, 0, 384]
def k0_off6 (i : grid0.Coords) (c0_i32_213 : BitVec 32) : Fin 3 → Nat :=
  let arg1 : BitVec 32 := BitVec.ofNat 32 (i 1).val
  let c1_i32_107 : BitVec 32 := 1#32
  let v207 : BitVec 32 := Scalar.addi arg1 c1_i32_107
  let c0_i32_109 : BitVec 32 := 0#32
  let v209 : BitVec 1 := Scalar.cmpi .sgt v207 c0_i32_109
  let v210 : BitVec 32 := Scalar.extui v209
  let c0_i32_110 : BitVec 32 := 0#32
  let v211 : BitVec 1 := Scalar.cmpi .slt v207 c0_i32_110
  let v212 : BitVec 32 := Scalar.extui v211
  let v213 : BitVec 32 := Scalar.subi v210 v212
  let c4_i32_108 : BitVec 32 := 4#32
  let c0_i32_111 : BitVec 32 := 0#32
  let v214 : BitVec 1 := Scalar.cmpi .sgt c4_i32_108 c0_i32_111
  let v215 : BitVec 32 := Scalar.extui v214
  let c0_i32_112 : BitVec 32 := 0#32
  let v216 : BitVec 1 := Scalar.cmpi .slt c4_i32_108 c0_i32_112
  let v217 : BitVec 32 := Scalar.extui v216
  let v218 : BitVec 32 := Scalar.subi v215 v217
  let v219 : BitVec 1 := Scalar.cmpi .ne v213 v218
  let v220 : BitVec 32 := Scalar.remsi v207 c4_i32_108
  let c0_i32_113 : BitVec 32 := 0#32
  let v221 : BitVec 1 := Scalar.cmpi .ne v220 c0_i32_113
  let v222 : BitVec 1 := Scalar.andi v219 v221
  let v208 : BitVec 32 := Scalar.divsi v207 c4_i32_108
  let c1_i32_114 : BitVec 32 := 1#32
  let v223 : BitVec 32 := Scalar.subi v208 c1_i32_114
  let v224 : BitVec 32 := Scalar.select v222 v223 v208
  let c2_i32_115 : BitVec 32 := 2#32
  let c0_i32_116 : BitVec 32 := 0#32
  let v225 : BitVec 1 := Scalar.cmpi .eq c2_i32_115 c0_i32_116
  let c1_i32_117 : BitVec 32 := 1#32
  let v226 : BitVec 32 := Scalar.select v225 c1_i32_117 c2_i32_115
  let v227 : BitVec 32 := Scalar.remsi v224 v226
  let c0_i32_119 : BitVec 32 := 0#32
  let v229 : BitVec 1 := Scalar.cmpi .slt v227 c0_i32_119
  let c0_i32_120 : BitVec 32 := 0#32
  let v230 : BitVec 1 := Scalar.cmpi .slt v226 c0_i32_120
  let v231 : BitVec 1 := Scalar.xori v229 v230
  let c0_i32_118 : BitVec 32 := 0#32
  let v228 : BitVec 1 := Scalar.cmpi .ne v227 c0_i32_118
  let v232 : BitVec 1 := Scalar.andi v231 v228
  let v233 : BitVec 32 := Scalar.addi v227 v226
  let v234 : BitVec 32 := Scalar.select v232 v233 v227
  let c4_i32_121 : BitVec 32 := 4#32
  let v235 : BitVec 32 := Scalar.muli v234 c4_i32_121
  let v433 : BitVec 32 := Scalar.addi v235 c0_i32_213
  let v434 : Index := Scalar.indexCast v433
  let c0_214 : Index := 0#32
  let c512 : Index := 512#32
  ![v434.toNat, 0, 512]
def k0_off7 (i : grid0.Coords) (c0_i32_229 : BitVec 32) : Fin 3 → Nat :=
  let arg1 : BitVec 32 := BitVec.ofNat 32 (i 1).val
  let c1_i32_107 : BitVec 32 := 1#32
  let v207 : BitVec 32 := Scalar.addi arg1 c1_i32_107
  let c0_i32_109 : BitVec 32 := 0#32
  let v209 : BitVec 1 := Scalar.cmpi .sgt v207 c0_i32_109
  let v210 : BitVec 32 := Scalar.extui v209
  let c0_i32_110 : BitVec 32 := 0#32
  let v211 : BitVec 1 := Scalar.cmpi .slt v207 c0_i32_110
  let v212 : BitVec 32 := Scalar.extui v211
  let v213 : BitVec 32 := Scalar.subi v210 v212
  let c4_i32_108 : BitVec 32 := 4#32
  let c0_i32_111 : BitVec 32 := 0#32
  let v214 : BitVec 1 := Scalar.cmpi .sgt c4_i32_108 c0_i32_111
  let v215 : BitVec 32 := Scalar.extui v214
  let c0_i32_112 : BitVec 32 := 0#32
  let v216 : BitVec 1 := Scalar.cmpi .slt c4_i32_108 c0_i32_112
  let v217 : BitVec 32 := Scalar.extui v216
  let v218 : BitVec 32 := Scalar.subi v215 v217
  let v219 : BitVec 1 := Scalar.cmpi .ne v213 v218
  let v220 : BitVec 32 := Scalar.remsi v207 c4_i32_108
  let c0_i32_113 : BitVec 32 := 0#32
  let v221 : BitVec 1 := Scalar.cmpi .ne v220 c0_i32_113
  let v222 : BitVec 1 := Scalar.andi v219 v221
  let v208 : BitVec 32 := Scalar.divsi v207 c4_i32_108
  let c1_i32_114 : BitVec 32 := 1#32
  let v223 : BitVec 32 := Scalar.subi v208 c1_i32_114
  let v224 : BitVec 32 := Scalar.select v222 v223 v208
  let c2_i32_115 : BitVec 32 := 2#32
  let c0_i32_116 : BitVec 32 := 0#32
  let v225 : BitVec 1 := Scalar.cmpi .eq c2_i32_115 c0_i32_116
  let c1_i32_117 : BitVec 32 := 1#32
  let v226 : BitVec 32 := Scalar.select v225 c1_i32_117 c2_i32_115
  let v227 : BitVec 32 := Scalar.remsi v224 v226
  let c0_i32_119 : BitVec 32 := 0#32
  let v229 : BitVec 1 := Scalar.cmpi .slt v227 c0_i32_119
  let c0_i32_120 : BitVec 32 := 0#32
  let v230 : BitVec 1 := Scalar.cmpi .slt v226 c0_i32_120
  let v231 : BitVec 1 := Scalar.xori v229 v230
  let c0_i32_118 : BitVec 32 := 0#32
  let v228 : BitVec 1 := Scalar.cmpi .ne v227 c0_i32_118
  let v232 : BitVec 1 := Scalar.andi v231 v228
  let v233 : BitVec 32 := Scalar.addi v227 v226
  let v234 : BitVec 32 := Scalar.select v232 v233 v227
  let c4_i32_121 : BitVec 32 := 4#32
  let v235 : BitVec 32 := Scalar.muli v234 c4_i32_121
  let v464 : BitVec 32 := Scalar.addi v235 c0_i32_229
  let v465 : Index := Scalar.indexCast v464
  let c0_230 : Index := 0#32
  let c640 : Index := 640#32
  ![v465.toNat, 0, 640]
def k0_off8 (i : grid0.Coords) (c0_i32_245 : BitVec 32) : Fin 3 → Nat :=
  let arg1 : BitVec 32 := BitVec.ofNat 32 (i 1).val
  let c1_i32_107 : BitVec 32 := 1#32
  let v207 : BitVec 32 := Scalar.addi arg1 c1_i32_107
  let c0_i32_109 : BitVec 32 := 0#32
  let v209 : BitVec 1 := Scalar.cmpi .sgt v207 c0_i32_109
  let v210 : BitVec 32 := Scalar.extui v209
  let c0_i32_110 : BitVec 32 := 0#32
  let v211 : BitVec 1 := Scalar.cmpi .slt v207 c0_i32_110
  let v212 : BitVec 32 := Scalar.extui v211
  let v213 : BitVec 32 := Scalar.subi v210 v212
  let c4_i32_108 : BitVec 32 := 4#32
  let c0_i32_111 : BitVec 32 := 0#32
  let v214 : BitVec 1 := Scalar.cmpi .sgt c4_i32_108 c0_i32_111
  let v215 : BitVec 32 := Scalar.extui v214
  let c0_i32_112 : BitVec 32 := 0#32
  let v216 : BitVec 1 := Scalar.cmpi .slt c4_i32_108 c0_i32_112
  let v217 : BitVec 32 := Scalar.extui v216
  let v218 : BitVec 32 := Scalar.subi v215 v217
  let v219 : BitVec 1 := Scalar.cmpi .ne v213 v218
  let v220 : BitVec 32 := Scalar.remsi v207 c4_i32_108
  let c0_i32_113 : BitVec 32 := 0#32
  let v221 : BitVec 1 := Scalar.cmpi .ne v220 c0_i32_113
  let v222 : BitVec 1 := Scalar.andi v219 v221
  let v208 : BitVec 32 := Scalar.divsi v207 c4_i32_108
  let c1_i32_114 : BitVec 32 := 1#32
  let v223 : BitVec 32 := Scalar.subi v208 c1_i32_114
  let v224 : BitVec 32 := Scalar.select v222 v223 v208
  let c2_i32_115 : BitVec 32 := 2#32
  let c0_i32_116 : BitVec 32 := 0#32
  let v225 : BitVec 1 := Scalar.cmpi .eq c2_i32_115 c0_i32_116
  let c1_i32_117 : BitVec 32 := 1#32
  let v226 : BitVec 32 := Scalar.select v225 c1_i32_117 c2_i32_115
  let v227 : BitVec 32 := Scalar.remsi v224 v226
  let c0_i32_119 : BitVec 32 := 0#32
  let v229 : BitVec 1 := Scalar.cmpi .slt v227 c0_i32_119
  let c0_i32_120 : BitVec 32 := 0#32
  let v230 : BitVec 1 := Scalar.cmpi .slt v226 c0_i32_120
  let v231 : BitVec 1 := Scalar.xori v229 v230
  let c0_i32_118 : BitVec 32 := 0#32
  let v228 : BitVec 1 := Scalar.cmpi .ne v227 c0_i32_118
  let v232 : BitVec 1 := Scalar.andi v231 v228
  let v233 : BitVec 32 := Scalar.addi v227 v226
  let v234 : BitVec 32 := Scalar.select v232 v233 v227
  let c4_i32_121 : BitVec 32 := 4#32
  let v235 : BitVec 32 := Scalar.muli v234 c4_i32_121
  let v495 : BitVec 32 := Scalar.addi v235 c0_i32_245
  let v496 : Index := Scalar.indexCast v495
  let c0_246 : Index := 0#32
  let c768 : Index := 768#32
  ![v496.toNat, 0, 768]
def k0_off9 (i : grid0.Coords) (c0_i32_261 : BitVec 32) : Fin 3 → Nat :=
  let arg1 : BitVec 32 := BitVec.ofNat 32 (i 1).val
  let c1_i32_107 : BitVec 32 := 1#32
  let v207 : BitVec 32 := Scalar.addi arg1 c1_i32_107
  let c0_i32_109 : BitVec 32 := 0#32
  let v209 : BitVec 1 := Scalar.cmpi .sgt v207 c0_i32_109
  let v210 : BitVec 32 := Scalar.extui v209
  let c0_i32_110 : BitVec 32 := 0#32
  let v211 : BitVec 1 := Scalar.cmpi .slt v207 c0_i32_110
  let v212 : BitVec 32 := Scalar.extui v211
  let v213 : BitVec 32 := Scalar.subi v210 v212
  let c4_i32_108 : BitVec 32 := 4#32
  let c0_i32_111 : BitVec 32 := 0#32
  let v214 : BitVec 1 := Scalar.cmpi .sgt c4_i32_108 c0_i32_111
  let v215 : BitVec 32 := Scalar.extui v214
  let c0_i32_112 : BitVec 32 := 0#32
  let v216 : BitVec 1 := Scalar.cmpi .slt c4_i32_108 c0_i32_112
  let v217 : BitVec 32 := Scalar.extui v216
  let v218 : BitVec 32 := Scalar.subi v215 v217
  let v219 : BitVec 1 := Scalar.cmpi .ne v213 v218
  let v220 : BitVec 32 := Scalar.remsi v207 c4_i32_108
  let c0_i32_113 : BitVec 32 := 0#32
  let v221 : BitVec 1 := Scalar.cmpi .ne v220 c0_i32_113
  let v222 : BitVec 1 := Scalar.andi v219 v221
  let v208 : BitVec 32 := Scalar.divsi v207 c4_i32_108
  let c1_i32_114 : BitVec 32 := 1#32
  let v223 : BitVec 32 := Scalar.subi v208 c1_i32_114
  let v224 : BitVec 32 := Scalar.select v222 v223 v208
  let c2_i32_115 : BitVec 32 := 2#32
  let c0_i32_116 : BitVec 32 := 0#32
  let v225 : BitVec 1 := Scalar.cmpi .eq c2_i32_115 c0_i32_116
  let c1_i32_117 : BitVec 32 := 1#32
  let v226 : BitVec 32 := Scalar.select v225 c1_i32_117 c2_i32_115
  let v227 : BitVec 32 := Scalar.remsi v224 v226
  let c0_i32_119 : BitVec 32 := 0#32
  let v229 : BitVec 1 := Scalar.cmpi .slt v227 c0_i32_119
  let c0_i32_120 : BitVec 32 := 0#32
  let v230 : BitVec 1 := Scalar.cmpi .slt v226 c0_i32_120
  let v231 : BitVec 1 := Scalar.xori v229 v230
  let c0_i32_118 : BitVec 32 := 0#32
  let v228 : BitVec 1 := Scalar.cmpi .ne v227 c0_i32_118
  let v232 : BitVec 1 := Scalar.andi v231 v228
  let v233 : BitVec 32 := Scalar.addi v227 v226
  let v234 : BitVec 32 := Scalar.select v232 v233 v227
  let c4_i32_121 : BitVec 32 := 4#32
  let v235 : BitVec 32 := Scalar.muli v234 c4_i32_121
  let v526 : BitVec 32 := Scalar.addi v235 c0_i32_261
  let v527 : Index := Scalar.indexCast v526
  let c0_262 : Index := 0#32
  let c896 : Index := 896#32
  ![v527.toNat, 0, 896]
def k0_cond4 (i : grid0.Coords) : BitVec 1 :=
  let arg1 : BitVec 32 := BitVec.ofNat 32 (i 1).val
  let c0_i32_19 : BitVec 32 := 0#32
  let v40 : BitVec 1 := Scalar.cmpi .eq arg1 c0_i32_19
  let v41 : BitVec 32 := Scalar.extui v40
  let c0_i32_20 : BitVec 32 := 0#32
  let v42 : BitVec 1 := Scalar.cmpi .ne v41 c0_i32_20
  v42

def k0_mult1 : BitVec 32 :=
  let c2_i32_124 : BitVec 32 := 2#32
  let c0_i32_123 : BitVec 32 := 0#32
  let v216 : BitVec 32 := Scalar.muli c2_i32_124 c0_i32_123
  let c256_i32_126 : BitVec 32 := 256#32
  let v219 : BitVec 32 := Scalar.muli v216 c256_i32_126
  v219
def k0_off10 : Fin 2 → Nat :=
  let c2_i32_124 : BitVec 32 := 2#32
  let c0_i32_123 : BitVec 32 := 0#32
  let v216 : BitVec 32 := Scalar.muli c2_i32_124 c0_i32_123
  let c256_i32_126 : BitVec 32 := 256#32
  let v219 : BitVec 32 := Scalar.muli v216 c256_i32_126
  let v220 : BitVec 32 := v219
  let v221 : Index := Scalar.indexCast v220
  let c0_127 : Index := 0#32
  ![v221.toNat, 0]
def k0_mult2 : BitVec 32 :=
  let c2_i32_124 : BitVec 32 := 2#32
  let c0_i32_123 : BitVec 32 := 0#32
  let v216 : BitVec 32 := Scalar.muli c2_i32_124 c0_i32_123
  let c256_i32_132 : BitVec 32 := 256#32
  let v226 : BitVec 32 := Scalar.muli v216 c256_i32_132
  let c0_i32_133 : BitVec 32 := 0#32
  let v227 : BitVec 32 := Scalar.addi v226 c0_i32_133
  v227
def k0_off11 (c0_i32_133 : BitVec 32) : Fin 2 → Nat :=
  let c2_i32_124 : BitVec 32 := 2#32
  let c0_i32_123 : BitVec 32 := 0#32
  let v216 : BitVec 32 := Scalar.muli c2_i32_124 c0_i32_123
  let c256_i32_132 : BitVec 32 := 256#32
  let v226 : BitVec 32 := Scalar.muli v216 c256_i32_132
  let v227 : BitVec 32 := Scalar.addi v226 c0_i32_133
  let v228 : BitVec 32 := v227
  let v260 : Index := Scalar.indexCast v228
  let c0_136 : Index := 0#32
  ![v260.toNat, 0]
def k0_mult3 : BitVec 32 :=
  let c2_i32_124 : BitVec 32 := 2#32
  let c0_i32_123 : BitVec 32 := 0#32
  let v216 : BitVec 32 := Scalar.muli c2_i32_124 c0_i32_123
  let c256_i32_138 : BitVec 32 := 256#32
  let v282 : BitVec 32 := Scalar.muli v216 c256_i32_138
  let c128_i32_139 : BitVec 32 := 128#32
  let v283 : BitVec 32 := Scalar.addi v282 c128_i32_139
  v283
def k0_off12 : Fin 4 → Nat :=
  let c0_380 : Index := 0#32
  let c2_i32_124 : BitVec 32 := 2#32
  let c0_i32_123 : BitVec 32 := 0#32
  let v216 : BitVec 32 := Scalar.muli c2_i32_124 c0_i32_123
  let v1058 : Index := Scalar.indexCast v216
  let c0_381 : Index := 0#32
  let c0_382 : Index := 0#32
  ![0, v1058.toNat, 0, 0]
def k0_off13 : Fin 4 → Nat :=
  let c1_383 : Index := 1#32
  let c2_i32_124 : BitVec 32 := 2#32
  let c0_i32_123 : BitVec 32 := 0#32
  let v216 : BitVec 32 := Scalar.muli c2_i32_124 c0_i32_123
  let v1062 : Index := Scalar.indexCast v216
  let c0_384 : Index := 0#32
  let c0_385 : Index := 0#32
  ![1, v1062.toNat, 0, 0]
def k0_off14 : Fin 4 → Nat :=
  let c2_386 : Index := 2#32
  let c2_i32_124 : BitVec 32 := 2#32
  let c0_i32_123 : BitVec 32 := 0#32
  let v216 : BitVec 32 := Scalar.muli c2_i32_124 c0_i32_123
  let v1066 : Index := Scalar.indexCast v216
  let c0_387 : Index := 0#32
  let c0_388 : Index := 0#32
  ![2, v1066.toNat, 0, 0]
def k0_off15 : Fin 4 → Nat :=
  let c3_389 : Index := 3#32
  let c2_i32_124 : BitVec 32 := 2#32
  let c0_i32_123 : BitVec 32 := 0#32
  let v216 : BitVec 32 := Scalar.muli c2_i32_124 c0_i32_123
  let v1070 : Index := Scalar.indexCast v216
  let c0_390 : Index := 0#32
  let c0_391 : Index := 0#32
  ![3, v1070.toNat, 0, 0]
def k0_off16 : Fin 4 → Nat :=
  let c4_392 : Index := 4#32
  let c2_i32_124 : BitVec 32 := 2#32
  let c0_i32_123 : BitVec 32 := 0#32
  let v216 : BitVec 32 := Scalar.muli c2_i32_124 c0_i32_123
  let v1074 : Index := Scalar.indexCast v216
  let c0_393 : Index := 0#32
  let c0_394 : Index := 0#32
  ![4, v1074.toNat, 0, 0]
def k0_off17 : Fin 4 → Nat :=
  let c5_395 : Index := 5#32
  let c2_i32_124 : BitVec 32 := 2#32
  let c0_i32_123 : BitVec 32 := 0#32
  let v216 : BitVec 32 := Scalar.muli c2_i32_124 c0_i32_123
  let v1078 : Index := Scalar.indexCast v216
  let c0_396 : Index := 0#32
  let c0_397 : Index := 0#32
  ![5, v1078.toNat, 0, 0]
def k0_off18 : Fin 4 → Nat :=
  let c6_398 : Index := 6#32
  let c2_i32_124 : BitVec 32 := 2#32
  let c0_i32_123 : BitVec 32 := 0#32
  let v216 : BitVec 32 := Scalar.muli c2_i32_124 c0_i32_123
  let v1082 : Index := Scalar.indexCast v216
  let c0_399 : Index := 0#32
  let c0_400 : Index := 0#32
  ![6, v1082.toNat, 0, 0]
def k0_off19 : Fin 4 → Nat :=
  let c7_401 : Index := 7#32
  let c2_i32_124 : BitVec 32 := 2#32
  let c0_i32_123 : BitVec 32 := 0#32
  let v216 : BitVec 32 := Scalar.muli c2_i32_124 c0_i32_123
  let v1086 : Index := Scalar.indexCast v216
  let c0_402 : Index := 0#32
  let c0_403 : Index := 0#32
  ![7, v1086.toNat, 0, 0]
def k0_off20 : Fin 4 → Nat :=
  let c8 : Index := 8#32
  let c2_i32_124 : BitVec 32 := 2#32
  let c0_i32_123 : BitVec 32 := 0#32
  let v216 : BitVec 32 := Scalar.muli c2_i32_124 c0_i32_123
  let v1090 : Index := Scalar.indexCast v216
  let c0_404 : Index := 0#32
  let c0_405 : Index := 0#32
  ![8, v1090.toNat, 0, 0]
def k0_off21 : Fin 4 → Nat :=
  let c9 : Index := 9#32
  let c2_i32_124 : BitVec 32 := 2#32
  let c0_i32_123 : BitVec 32 := 0#32
  let v216 : BitVec 32 := Scalar.muli c2_i32_124 c0_i32_123
  let v1094 : Index := Scalar.indexCast v216
  let c0_406 : Index := 0#32
  let c0_407 : Index := 0#32
  ![9, v1094.toNat, 0, 0]
def k0_off22 : Fin 4 → Nat :=
  let c10 : Index := 10#32
  let c2_i32_124 : BitVec 32 := 2#32
  let c0_i32_123 : BitVec 32 := 0#32
  let v216 : BitVec 32 := Scalar.muli c2_i32_124 c0_i32_123
  let v1098 : Index := Scalar.indexCast v216
  let c0_408 : Index := 0#32
  let c0_409 : Index := 0#32
  ![10, v1098.toNat, 0, 0]
def k0_off23 : Fin 4 → Nat :=
  let c11 : Index := 11#32
  let c2_i32_124 : BitVec 32 := 2#32
  let c0_i32_123 : BitVec 32 := 0#32
  let v216 : BitVec 32 := Scalar.muli c2_i32_124 c0_i32_123
  let v1102 : Index := Scalar.indexCast v216
  let c0_410 : Index := 0#32
  let c0_411 : Index := 0#32
  ![11, v1102.toNat, 0, 0]
def k0_off24 : Fin 4 → Nat :=
  let c12 : Index := 12#32
  let c2_i32_124 : BitVec 32 := 2#32
  let c0_i32_123 : BitVec 32 := 0#32
  let v216 : BitVec 32 := Scalar.muli c2_i32_124 c0_i32_123
  let v1106 : Index := Scalar.indexCast v216
  let c0_412 : Index := 0#32
  let c0_413 : Index := 0#32
  ![12, v1106.toNat, 0, 0]
def k0_off25 : Fin 4 → Nat :=
  let c13 : Index := 13#32
  let c2_i32_124 : BitVec 32 := 2#32
  let c0_i32_123 : BitVec 32 := 0#32
  let v216 : BitVec 32 := Scalar.muli c2_i32_124 c0_i32_123
  let v1110 : Index := Scalar.indexCast v216
  let c0_414 : Index := 0#32
  let c0_415 : Index := 0#32
  ![13, v1110.toNat, 0, 0]
def k0_off26 : Fin 4 → Nat :=
  let c14 : Index := 14#32
  let c2_i32_124 : BitVec 32 := 2#32
  let c0_i32_123 : BitVec 32 := 0#32
  let v216 : BitVec 32 := Scalar.muli c2_i32_124 c0_i32_123
  let v1114 : Index := Scalar.indexCast v216
  let c0_416 : Index := 0#32
  let c0_417 : Index := 0#32
  ![14, v1114.toNat, 0, 0]
def k0_off27 : Fin 4 → Nat :=
  let c15 : Index := 15#32
  let c2_i32_124 : BitVec 32 := 2#32
  let c0_i32_123 : BitVec 32 := 0#32
  let v216 : BitVec 32 := Scalar.muli c2_i32_124 c0_i32_123
  let v1118 : Index := Scalar.indexCast v216
  let c0_418 : Index := 0#32
  let c0_419 : Index := 0#32
  ![15, v1118.toNat, 0, 0]
def k0_off28 : Fin 4 → Nat :=
  let c16 : Index := 16#32
  let c2_i32_124 : BitVec 32 := 2#32
  let c0_i32_123 : BitVec 32 := 0#32
  let v216 : BitVec 32 := Scalar.muli c2_i32_124 c0_i32_123
  let v1122 : Index := Scalar.indexCast v216
  let c0_420 : Index := 0#32
  let c0_421 : Index := 0#32
  ![16, v1122.toNat, 0, 0]
def k0_off29 : Fin 4 → Nat :=
  let c17 : Index := 17#32
  let c2_i32_124 : BitVec 32 := 2#32
  let c0_i32_123 : BitVec 32 := 0#32
  let v216 : BitVec 32 := Scalar.muli c2_i32_124 c0_i32_123
  let v1126 : Index := Scalar.indexCast v216
  let c0_422 : Index := 0#32
  let c0_423 : Index := 0#32
  ![17, v1126.toNat, 0, 0]
def k0_off30 : Fin 4 → Nat :=
  let c18 : Index := 18#32
  let c2_i32_124 : BitVec 32 := 2#32
  let c0_i32_123 : BitVec 32 := 0#32
  let v216 : BitVec 32 := Scalar.muli c2_i32_124 c0_i32_123
  let v1130 : Index := Scalar.indexCast v216
  let c0_424 : Index := 0#32
  let c0_425 : Index := 0#32
  ![18, v1130.toNat, 0, 0]
def k0_off31 : Fin 4 → Nat :=
  let c19 : Index := 19#32
  let c2_i32_124 : BitVec 32 := 2#32
  let c0_i32_123 : BitVec 32 := 0#32
  let v216 : BitVec 32 := Scalar.muli c2_i32_124 c0_i32_123
  let v1134 : Index := Scalar.indexCast v216
  let c0_426 : Index := 0#32
  let c0_427 : Index := 0#32
  ![19, v1134.toNat, 0, 0]
def k0_off32 : Fin 4 → Nat :=
  let c20 : Index := 20#32
  let c2_i32_124 : BitVec 32 := 2#32
  let c0_i32_123 : BitVec 32 := 0#32
  let v216 : BitVec 32 := Scalar.muli c2_i32_124 c0_i32_123
  let v1138 : Index := Scalar.indexCast v216
  let c0_428 : Index := 0#32
  let c0_429 : Index := 0#32
  ![20, v1138.toNat, 0, 0]
def k0_off33 : Fin 4 → Nat :=
  let c21 : Index := 21#32
  let c2_i32_124 : BitVec 32 := 2#32
  let c0_i32_123 : BitVec 32 := 0#32
  let v216 : BitVec 32 := Scalar.muli c2_i32_124 c0_i32_123
  let v1142 : Index := Scalar.indexCast v216
  let c0_430 : Index := 0#32
  let c0_431 : Index := 0#32
  ![21, v1142.toNat, 0, 0]
def k0_off34 : Fin 4 → Nat :=
  let c22 : Index := 22#32
  let c2_i32_124 : BitVec 32 := 2#32
  let c0_i32_123 : BitVec 32 := 0#32
  let v216 : BitVec 32 := Scalar.muli c2_i32_124 c0_i32_123
  let v1146 : Index := Scalar.indexCast v216
  let c0_432 : Index := 0#32
  let c0_433 : Index := 0#32
  ![22, v1146.toNat, 0, 0]
def k0_off35 : Fin 4 → Nat :=
  let c23 : Index := 23#32
  let c2_i32_124 : BitVec 32 := 2#32
  let c0_i32_123 : BitVec 32 := 0#32
  let v216 : BitVec 32 := Scalar.muli c2_i32_124 c0_i32_123
  let v1150 : Index := Scalar.indexCast v216
  let c0_434 : Index := 0#32
  let c0_435 : Index := 0#32
  ![23, v1150.toNat, 0, 0]
def k0_off36 : Fin 4 → Nat :=
  let c24 : Index := 24#32
  let c2_i32_124 : BitVec 32 := 2#32
  let c0_i32_123 : BitVec 32 := 0#32
  let v216 : BitVec 32 := Scalar.muli c2_i32_124 c0_i32_123
  let v1154 : Index := Scalar.indexCast v216
  let c0_436 : Index := 0#32
  let c0_437 : Index := 0#32
  ![24, v1154.toNat, 0, 0]
def k0_off37 : Fin 4 → Nat :=
  let c25 : Index := 25#32
  let c2_i32_124 : BitVec 32 := 2#32
  let c0_i32_123 : BitVec 32 := 0#32
  let v216 : BitVec 32 := Scalar.muli c2_i32_124 c0_i32_123
  let v1158 : Index := Scalar.indexCast v216
  let c0_438 : Index := 0#32
  let c0_439 : Index := 0#32
  ![25, v1158.toNat, 0, 0]
def k0_off38 : Fin 4 → Nat :=
  let c26 : Index := 26#32
  let c2_i32_124 : BitVec 32 := 2#32
  let c0_i32_123 : BitVec 32 := 0#32
  let v216 : BitVec 32 := Scalar.muli c2_i32_124 c0_i32_123
  let v1162 : Index := Scalar.indexCast v216
  let c0_440 : Index := 0#32
  let c0_441 : Index := 0#32
  ![26, v1162.toNat, 0, 0]
def k0_off39 : Fin 4 → Nat :=
  let c27 : Index := 27#32
  let c2_i32_124 : BitVec 32 := 2#32
  let c0_i32_123 : BitVec 32 := 0#32
  let v216 : BitVec 32 := Scalar.muli c2_i32_124 c0_i32_123
  let v1166 : Index := Scalar.indexCast v216
  let c0_442 : Index := 0#32
  let c0_443 : Index := 0#32
  ![27, v1166.toNat, 0, 0]
def k0_off40 : Fin 4 → Nat :=
  let c28 : Index := 28#32
  let c2_i32_124 : BitVec 32 := 2#32
  let c0_i32_123 : BitVec 32 := 0#32
  let v216 : BitVec 32 := Scalar.muli c2_i32_124 c0_i32_123
  let v1170 : Index := Scalar.indexCast v216
  let c0_444 : Index := 0#32
  let c0_445 : Index := 0#32
  ![28, v1170.toNat, 0, 0]
def k0_off41 : Fin 4 → Nat :=
  let c29 : Index := 29#32
  let c2_i32_124 : BitVec 32 := 2#32
  let c0_i32_123 : BitVec 32 := 0#32
  let v216 : BitVec 32 := Scalar.muli c2_i32_124 c0_i32_123
  let v1174 : Index := Scalar.indexCast v216
  let c0_446 : Index := 0#32
  let c0_447 : Index := 0#32
  ![29, v1174.toNat, 0, 0]
def k0_off42 : Fin 4 → Nat :=
  let c30 : Index := 30#32
  let c2_i32_124 : BitVec 32 := 2#32
  let c0_i32_123 : BitVec 32 := 0#32
  let v216 : BitVec 32 := Scalar.muli c2_i32_124 c0_i32_123
  let v1178 : Index := Scalar.indexCast v216
  let c0_448 : Index := 0#32
  let c0_449 : Index := 0#32
  ![30, v1178.toNat, 0, 0]
def k0_off43 : Fin 4 → Nat :=
  let c31 : Index := 31#32
  let c2_i32_124 : BitVec 32 := 2#32
  let c0_i32_123 : BitVec 32 := 0#32
  let v216 : BitVec 32 := Scalar.muli c2_i32_124 c0_i32_123
  let v1182 : Index := Scalar.indexCast v216
  let c0_450 : Index := 0#32
  let c0_451 : Index := 0#32
  ![31, v1182.toNat, 0, 0]
def k0_mult4 : BitVec 32 :=
  let c2_i32_452 : BitVec 32 := 2#32
  let c0_i32_123 : BitVec 32 := 0#32
  let v1186 : BitVec 32 := Scalar.muli c2_i32_452 c0_i32_123
  let c1_i32_453 : BitVec 32 := 1#32
  let v1187 : BitVec 32 := Scalar.addi v1186 c1_i32_453
  let c256_i32_455 : BitVec 32 := 256#32
  let v1190 : BitVec 32 := Scalar.muli v1187 c256_i32_455
  v1190
def k0_off44 : Fin 2 → Nat :=
  let c2_i32_452 : BitVec 32 := 2#32
  let c0_i32_123 : BitVec 32 := 0#32
  let v1186 : BitVec 32 := Scalar.muli c2_i32_452 c0_i32_123
  let c1_i32_453 : BitVec 32 := 1#32
  let v1187 : BitVec 32 := Scalar.addi v1186 c1_i32_453
  let c256_i32_455 : BitVec 32 := 256#32
  let v1190 : BitVec 32 := Scalar.muli v1187 c256_i32_455
  let v1191 : BitVec 32 := v1190
  let v1192 : Index := Scalar.indexCast v1191
  let c0_456 : Index := 0#32
  ![v1192.toNat, 0]
def k0_mult5 : BitVec 32 :=
  let c2_i32_452 : BitVec 32 := 2#32
  let c0_i32_123 : BitVec 32 := 0#32
  let v1186 : BitVec 32 := Scalar.muli c2_i32_452 c0_i32_123
  let c1_i32_453 : BitVec 32 := 1#32
  let v1187 : BitVec 32 := Scalar.addi v1186 c1_i32_453
  let c256_i32_461 : BitVec 32 := 256#32
  let v1197 : BitVec 32 := Scalar.muli v1187 c256_i32_461
  let c0_i32_462 : BitVec 32 := 0#32
  let v1198 : BitVec 32 := Scalar.addi v1197 c0_i32_462
  v1198
def k0_off45 (c0_i32_462 : BitVec 32) : Fin 2 → Nat :=
  let c2_i32_452 : BitVec 32 := 2#32
  let c0_i32_123 : BitVec 32 := 0#32
  let v1186 : BitVec 32 := Scalar.muli c2_i32_452 c0_i32_123
  let c1_i32_453 : BitVec 32 := 1#32
  let v1187 : BitVec 32 := Scalar.addi v1186 c1_i32_453
  let c256_i32_461 : BitVec 32 := 256#32
  let v1197 : BitVec 32 := Scalar.muli v1187 c256_i32_461
  let v1198 : BitVec 32 := Scalar.addi v1197 c0_i32_462
  let v1199 : BitVec 32 := v1198
  let v1231 : Index := Scalar.indexCast v1199
  let c0_467 : Index := 0#32
  ![v1231.toNat, 0]
def k0_mult6 : BitVec 32 :=
  let c2_i32_452 : BitVec 32 := 2#32
  let c0_i32_123 : BitVec 32 := 0#32
  let v1186 : BitVec 32 := Scalar.muli c2_i32_452 c0_i32_123
  let c1_i32_453 : BitVec 32 := 1#32
  let v1187 : BitVec 32 := Scalar.addi v1186 c1_i32_453
  let c256_i32_469 : BitVec 32 := 256#32
  let v1253 : BitVec 32 := Scalar.muli v1187 c256_i32_469
  let c128_i32_470 : BitVec 32 := 128#32
  let v1254 : BitVec 32 := Scalar.addi v1253 c128_i32_470
  v1254
def k0_off46 : Fin 4 → Nat :=
  let c0_717 : Index := 0#32
  let c2_i32_452 : BitVec 32 := 2#32
  let c0_i32_123 : BitVec 32 := 0#32
  let v1186 : BitVec 32 := Scalar.muli c2_i32_452 c0_i32_123
  let c1_i32_453 : BitVec 32 := 1#32
  let v1187 : BitVec 32 := Scalar.addi v1186 c1_i32_453
  let v2029 : Index := Scalar.indexCast v1187
  let c0_718 : Index := 0#32
  let c0_719 : Index := 0#32
  ![0, v2029.toNat, 0, 0]
def k0_off47 : Fin 4 → Nat :=
  let c1_720 : Index := 1#32
  let c2_i32_452 : BitVec 32 := 2#32
  let c0_i32_123 : BitVec 32 := 0#32
  let v1186 : BitVec 32 := Scalar.muli c2_i32_452 c0_i32_123
  let c1_i32_453 : BitVec 32 := 1#32
  let v1187 : BitVec 32 := Scalar.addi v1186 c1_i32_453
  let v2033 : Index := Scalar.indexCast v1187
  let c0_721 : Index := 0#32
  let c0_722 : Index := 0#32
  ![1, v2033.toNat, 0, 0]
def k0_off48 : Fin 4 → Nat :=
  let c2_723 : Index := 2#32
  let c2_i32_452 : BitVec 32 := 2#32
  let c0_i32_123 : BitVec 32 := 0#32
  let v1186 : BitVec 32 := Scalar.muli c2_i32_452 c0_i32_123
  let c1_i32_453 : BitVec 32 := 1#32
  let v1187 : BitVec 32 := Scalar.addi v1186 c1_i32_453
  let v2037 : Index := Scalar.indexCast v1187
  let c0_724 : Index := 0#32
  let c0_725 : Index := 0#32
  ![2, v2037.toNat, 0, 0]
def k0_off49 : Fin 4 → Nat :=
  let c3_726 : Index := 3#32
  let c2_i32_452 : BitVec 32 := 2#32
  let c0_i32_123 : BitVec 32 := 0#32
  let v1186 : BitVec 32 := Scalar.muli c2_i32_452 c0_i32_123
  let c1_i32_453 : BitVec 32 := 1#32
  let v1187 : BitVec 32 := Scalar.addi v1186 c1_i32_453
  let v2041 : Index := Scalar.indexCast v1187
  let c0_727 : Index := 0#32
  let c0_728 : Index := 0#32
  ![3, v2041.toNat, 0, 0]
def k0_off50 : Fin 4 → Nat :=
  let c4_729 : Index := 4#32
  let c2_i32_452 : BitVec 32 := 2#32
  let c0_i32_123 : BitVec 32 := 0#32
  let v1186 : BitVec 32 := Scalar.muli c2_i32_452 c0_i32_123
  let c1_i32_453 : BitVec 32 := 1#32
  let v1187 : BitVec 32 := Scalar.addi v1186 c1_i32_453
  let v2045 : Index := Scalar.indexCast v1187
  let c0_730 : Index := 0#32
  let c0_731 : Index := 0#32
  ![4, v2045.toNat, 0, 0]
def k0_off51 : Fin 4 → Nat :=
  let c5_732 : Index := 5#32
  let c2_i32_452 : BitVec 32 := 2#32
  let c0_i32_123 : BitVec 32 := 0#32
  let v1186 : BitVec 32 := Scalar.muli c2_i32_452 c0_i32_123
  let c1_i32_453 : BitVec 32 := 1#32
  let v1187 : BitVec 32 := Scalar.addi v1186 c1_i32_453
  let v2049 : Index := Scalar.indexCast v1187
  let c0_733 : Index := 0#32
  let c0_734 : Index := 0#32
  ![5, v2049.toNat, 0, 0]
def k0_off52 : Fin 4 → Nat :=
  let c6_735 : Index := 6#32
  let c2_i32_452 : BitVec 32 := 2#32
  let c0_i32_123 : BitVec 32 := 0#32
  let v1186 : BitVec 32 := Scalar.muli c2_i32_452 c0_i32_123
  let c1_i32_453 : BitVec 32 := 1#32
  let v1187 : BitVec 32 := Scalar.addi v1186 c1_i32_453
  let v2053 : Index := Scalar.indexCast v1187
  let c0_736 : Index := 0#32
  let c0_737 : Index := 0#32
  ![6, v2053.toNat, 0, 0]
def k0_off53 : Fin 4 → Nat :=
  let c7_738 : Index := 7#32
  let c2_i32_452 : BitVec 32 := 2#32
  let c0_i32_123 : BitVec 32 := 0#32
  let v1186 : BitVec 32 := Scalar.muli c2_i32_452 c0_i32_123
  let c1_i32_453 : BitVec 32 := 1#32
  let v1187 : BitVec 32 := Scalar.addi v1186 c1_i32_453
  let v2057 : Index := Scalar.indexCast v1187
  let c0_739 : Index := 0#32
  let c0_740 : Index := 0#32
  ![7, v2057.toNat, 0, 0]
def k0_off54 : Fin 4 → Nat :=
  let c8_741 : Index := 8#32
  let c2_i32_452 : BitVec 32 := 2#32
  let c0_i32_123 : BitVec 32 := 0#32
  let v1186 : BitVec 32 := Scalar.muli c2_i32_452 c0_i32_123
  let c1_i32_453 : BitVec 32 := 1#32
  let v1187 : BitVec 32 := Scalar.addi v1186 c1_i32_453
  let v2061 : Index := Scalar.indexCast v1187
  let c0_742 : Index := 0#32
  let c0_743 : Index := 0#32
  ![8, v2061.toNat, 0, 0]
def k0_off55 : Fin 4 → Nat :=
  let c9_744 : Index := 9#32
  let c2_i32_452 : BitVec 32 := 2#32
  let c0_i32_123 : BitVec 32 := 0#32
  let v1186 : BitVec 32 := Scalar.muli c2_i32_452 c0_i32_123
  let c1_i32_453 : BitVec 32 := 1#32
  let v1187 : BitVec 32 := Scalar.addi v1186 c1_i32_453
  let v2065 : Index := Scalar.indexCast v1187
  let c0_745 : Index := 0#32
  let c0_746 : Index := 0#32
  ![9, v2065.toNat, 0, 0]
def k0_off56 : Fin 4 → Nat :=
  let c10_747 : Index := 10#32
  let c2_i32_452 : BitVec 32 := 2#32
  let c0_i32_123 : BitVec 32 := 0#32
  let v1186 : BitVec 32 := Scalar.muli c2_i32_452 c0_i32_123
  let c1_i32_453 : BitVec 32 := 1#32
  let v1187 : BitVec 32 := Scalar.addi v1186 c1_i32_453
  let v2069 : Index := Scalar.indexCast v1187
  let c0_748 : Index := 0#32
  let c0_749 : Index := 0#32
  ![10, v2069.toNat, 0, 0]
def k0_off57 : Fin 4 → Nat :=
  let c11_750 : Index := 11#32
  let c2_i32_452 : BitVec 32 := 2#32
  let c0_i32_123 : BitVec 32 := 0#32
  let v1186 : BitVec 32 := Scalar.muli c2_i32_452 c0_i32_123
  let c1_i32_453 : BitVec 32 := 1#32
  let v1187 : BitVec 32 := Scalar.addi v1186 c1_i32_453
  let v2073 : Index := Scalar.indexCast v1187
  let c0_751 : Index := 0#32
  let c0_752 : Index := 0#32
  ![11, v2073.toNat, 0, 0]
def k0_off58 : Fin 4 → Nat :=
  let c12_753 : Index := 12#32
  let c2_i32_452 : BitVec 32 := 2#32
  let c0_i32_123 : BitVec 32 := 0#32
  let v1186 : BitVec 32 := Scalar.muli c2_i32_452 c0_i32_123
  let c1_i32_453 : BitVec 32 := 1#32
  let v1187 : BitVec 32 := Scalar.addi v1186 c1_i32_453
  let v2077 : Index := Scalar.indexCast v1187
  let c0_754 : Index := 0#32
  let c0_755 : Index := 0#32
  ![12, v2077.toNat, 0, 0]
def k0_off59 : Fin 4 → Nat :=
  let c13_756 : Index := 13#32
  let c2_i32_452 : BitVec 32 := 2#32
  let c0_i32_123 : BitVec 32 := 0#32
  let v1186 : BitVec 32 := Scalar.muli c2_i32_452 c0_i32_123
  let c1_i32_453 : BitVec 32 := 1#32
  let v1187 : BitVec 32 := Scalar.addi v1186 c1_i32_453
  let v2081 : Index := Scalar.indexCast v1187
  let c0_757 : Index := 0#32
  let c0_758 : Index := 0#32
  ![13, v2081.toNat, 0, 0]
def k0_off60 : Fin 4 → Nat :=
  let c14_759 : Index := 14#32
  let c2_i32_452 : BitVec 32 := 2#32
  let c0_i32_123 : BitVec 32 := 0#32
  let v1186 : BitVec 32 := Scalar.muli c2_i32_452 c0_i32_123
  let c1_i32_453 : BitVec 32 := 1#32
  let v1187 : BitVec 32 := Scalar.addi v1186 c1_i32_453
  let v2085 : Index := Scalar.indexCast v1187
  let c0_760 : Index := 0#32
  let c0_761 : Index := 0#32
  ![14, v2085.toNat, 0, 0]
def k0_off61 : Fin 4 → Nat :=
  let c15_762 : Index := 15#32
  let c2_i32_452 : BitVec 32 := 2#32
  let c0_i32_123 : BitVec 32 := 0#32
  let v1186 : BitVec 32 := Scalar.muli c2_i32_452 c0_i32_123
  let c1_i32_453 : BitVec 32 := 1#32
  let v1187 : BitVec 32 := Scalar.addi v1186 c1_i32_453
  let v2089 : Index := Scalar.indexCast v1187
  let c0_763 : Index := 0#32
  let c0_764 : Index := 0#32
  ![15, v2089.toNat, 0, 0]
def k0_off62 : Fin 4 → Nat :=
  let c16_765 : Index := 16#32
  let c2_i32_452 : BitVec 32 := 2#32
  let c0_i32_123 : BitVec 32 := 0#32
  let v1186 : BitVec 32 := Scalar.muli c2_i32_452 c0_i32_123
  let c1_i32_453 : BitVec 32 := 1#32
  let v1187 : BitVec 32 := Scalar.addi v1186 c1_i32_453
  let v2093 : Index := Scalar.indexCast v1187
  let c0_766 : Index := 0#32
  let c0_767 : Index := 0#32
  ![16, v2093.toNat, 0, 0]
def k0_off63 : Fin 4 → Nat :=
  let c17_768 : Index := 17#32
  let c2_i32_452 : BitVec 32 := 2#32
  let c0_i32_123 : BitVec 32 := 0#32
  let v1186 : BitVec 32 := Scalar.muli c2_i32_452 c0_i32_123
  let c1_i32_453 : BitVec 32 := 1#32
  let v1187 : BitVec 32 := Scalar.addi v1186 c1_i32_453
  let v2097 : Index := Scalar.indexCast v1187
  let c0_769 : Index := 0#32
  let c0_770 : Index := 0#32
  ![17, v2097.toNat, 0, 0]
def k0_off64 : Fin 4 → Nat :=
  let c18_771 : Index := 18#32
  let c2_i32_452 : BitVec 32 := 2#32
  let c0_i32_123 : BitVec 32 := 0#32
  let v1186 : BitVec 32 := Scalar.muli c2_i32_452 c0_i32_123
  let c1_i32_453 : BitVec 32 := 1#32
  let v1187 : BitVec 32 := Scalar.addi v1186 c1_i32_453
  let v2101 : Index := Scalar.indexCast v1187
  let c0_772 : Index := 0#32
  let c0_773 : Index := 0#32
  ![18, v2101.toNat, 0, 0]
def k0_off65 : Fin 4 → Nat :=
  let c19_774 : Index := 19#32
  let c2_i32_452 : BitVec 32 := 2#32
  let c0_i32_123 : BitVec 32 := 0#32
  let v1186 : BitVec 32 := Scalar.muli c2_i32_452 c0_i32_123
  let c1_i32_453 : BitVec 32 := 1#32
  let v1187 : BitVec 32 := Scalar.addi v1186 c1_i32_453
  let v2105 : Index := Scalar.indexCast v1187
  let c0_775 : Index := 0#32
  let c0_776 : Index := 0#32
  ![19, v2105.toNat, 0, 0]
def k0_off66 : Fin 4 → Nat :=
  let c20_777 : Index := 20#32
  let c2_i32_452 : BitVec 32 := 2#32
  let c0_i32_123 : BitVec 32 := 0#32
  let v1186 : BitVec 32 := Scalar.muli c2_i32_452 c0_i32_123
  let c1_i32_453 : BitVec 32 := 1#32
  let v1187 : BitVec 32 := Scalar.addi v1186 c1_i32_453
  let v2109 : Index := Scalar.indexCast v1187
  let c0_778 : Index := 0#32
  let c0_779 : Index := 0#32
  ![20, v2109.toNat, 0, 0]
def k0_off67 : Fin 4 → Nat :=
  let c21_780 : Index := 21#32
  let c2_i32_452 : BitVec 32 := 2#32
  let c0_i32_123 : BitVec 32 := 0#32
  let v1186 : BitVec 32 := Scalar.muli c2_i32_452 c0_i32_123
  let c1_i32_453 : BitVec 32 := 1#32
  let v1187 : BitVec 32 := Scalar.addi v1186 c1_i32_453
  let v2113 : Index := Scalar.indexCast v1187
  let c0_781 : Index := 0#32
  let c0_782 : Index := 0#32
  ![21, v2113.toNat, 0, 0]
def k0_off68 : Fin 4 → Nat :=
  let c22_783 : Index := 22#32
  let c2_i32_452 : BitVec 32 := 2#32
  let c0_i32_123 : BitVec 32 := 0#32
  let v1186 : BitVec 32 := Scalar.muli c2_i32_452 c0_i32_123
  let c1_i32_453 : BitVec 32 := 1#32
  let v1187 : BitVec 32 := Scalar.addi v1186 c1_i32_453
  let v2117 : Index := Scalar.indexCast v1187
  let c0_784 : Index := 0#32
  let c0_785 : Index := 0#32
  ![22, v2117.toNat, 0, 0]
def k0_off69 : Fin 4 → Nat :=
  let c23_786 : Index := 23#32
  let c2_i32_452 : BitVec 32 := 2#32
  let c0_i32_123 : BitVec 32 := 0#32
  let v1186 : BitVec 32 := Scalar.muli c2_i32_452 c0_i32_123
  let c1_i32_453 : BitVec 32 := 1#32
  let v1187 : BitVec 32 := Scalar.addi v1186 c1_i32_453
  let v2121 : Index := Scalar.indexCast v1187
  let c0_787 : Index := 0#32
  let c0_788 : Index := 0#32
  ![23, v2121.toNat, 0, 0]
def k0_off70 : Fin 4 → Nat :=
  let c24_789 : Index := 24#32
  let c2_i32_452 : BitVec 32 := 2#32
  let c0_i32_123 : BitVec 32 := 0#32
  let v1186 : BitVec 32 := Scalar.muli c2_i32_452 c0_i32_123
  let c1_i32_453 : BitVec 32 := 1#32
  let v1187 : BitVec 32 := Scalar.addi v1186 c1_i32_453
  let v2125 : Index := Scalar.indexCast v1187
  let c0_790 : Index := 0#32
  let c0_791 : Index := 0#32
  ![24, v2125.toNat, 0, 0]
def k0_off71 : Fin 4 → Nat :=
  let c25_792 : Index := 25#32
  let c2_i32_452 : BitVec 32 := 2#32
  let c0_i32_123 : BitVec 32 := 0#32
  let v1186 : BitVec 32 := Scalar.muli c2_i32_452 c0_i32_123
  let c1_i32_453 : BitVec 32 := 1#32
  let v1187 : BitVec 32 := Scalar.addi v1186 c1_i32_453
  let v2129 : Index := Scalar.indexCast v1187
  let c0_793 : Index := 0#32
  let c0_794 : Index := 0#32
  ![25, v2129.toNat, 0, 0]
def k0_off72 : Fin 4 → Nat :=
  let c26_795 : Index := 26#32
  let c2_i32_452 : BitVec 32 := 2#32
  let c0_i32_123 : BitVec 32 := 0#32
  let v1186 : BitVec 32 := Scalar.muli c2_i32_452 c0_i32_123
  let c1_i32_453 : BitVec 32 := 1#32
  let v1187 : BitVec 32 := Scalar.addi v1186 c1_i32_453
  let v2133 : Index := Scalar.indexCast v1187
  let c0_796 : Index := 0#32
  let c0_797 : Index := 0#32
  ![26, v2133.toNat, 0, 0]
def k0_off73 : Fin 4 → Nat :=
  let c27_798 : Index := 27#32
  let c2_i32_452 : BitVec 32 := 2#32
  let c0_i32_123 : BitVec 32 := 0#32
  let v1186 : BitVec 32 := Scalar.muli c2_i32_452 c0_i32_123
  let c1_i32_453 : BitVec 32 := 1#32
  let v1187 : BitVec 32 := Scalar.addi v1186 c1_i32_453
  let v2137 : Index := Scalar.indexCast v1187
  let c0_799 : Index := 0#32
  let c0_800 : Index := 0#32
  ![27, v2137.toNat, 0, 0]
def k0_off74 : Fin 4 → Nat :=
  let c28_801 : Index := 28#32
  let c2_i32_452 : BitVec 32 := 2#32
  let c0_i32_123 : BitVec 32 := 0#32
  let v1186 : BitVec 32 := Scalar.muli c2_i32_452 c0_i32_123
  let c1_i32_453 : BitVec 32 := 1#32
  let v1187 : BitVec 32 := Scalar.addi v1186 c1_i32_453
  let v2141 : Index := Scalar.indexCast v1187
  let c0_802 : Index := 0#32
  let c0_803 : Index := 0#32
  ![28, v2141.toNat, 0, 0]
def k0_off75 : Fin 4 → Nat :=
  let c29_804 : Index := 29#32
  let c2_i32_452 : BitVec 32 := 2#32
  let c0_i32_123 : BitVec 32 := 0#32
  let v1186 : BitVec 32 := Scalar.muli c2_i32_452 c0_i32_123
  let c1_i32_453 : BitVec 32 := 1#32
  let v1187 : BitVec 32 := Scalar.addi v1186 c1_i32_453
  let v2145 : Index := Scalar.indexCast v1187
  let c0_805 : Index := 0#32
  let c0_806 : Index := 0#32
  ![29, v2145.toNat, 0, 0]
def k0_off76 : Fin 4 → Nat :=
  let c30_807 : Index := 30#32
  let c2_i32_452 : BitVec 32 := 2#32
  let c0_i32_123 : BitVec 32 := 0#32
  let v1186 : BitVec 32 := Scalar.muli c2_i32_452 c0_i32_123
  let c1_i32_453 : BitVec 32 := 1#32
  let v1187 : BitVec 32 := Scalar.addi v1186 c1_i32_453
  let v2149 : Index := Scalar.indexCast v1187
  let c0_808 : Index := 0#32
  let c0_809 : Index := 0#32
  ![30, v2149.toNat, 0, 0]
def k0_off77 : Fin 4 → Nat :=
  let c31_810 : Index := 31#32
  let c2_i32_452 : BitVec 32 := 2#32
  let c0_i32_123 : BitVec 32 := 0#32
  let v1186 : BitVec 32 := Scalar.muli c2_i32_452 c0_i32_123
  let c1_i32_453 : BitVec 32 := 1#32
  let v1187 : BitVec 32 := Scalar.addi v1186 c1_i32_453
  let v2153 : Index := Scalar.indexCast v1187
  let c0_811 : Index := 0#32
  let c0_812 : Index := 0#32
  ![31, v2153.toNat, 0, 0]
def k0_mult7 : BitVec 32 :=
  let c0_i32_1063 : BitVec 32 := 0#32
  let c256_i32_1064 : BitVec 32 := 256#32
  let v2800 : BitVec 32 := Scalar.muli c0_i32_1063 c256_i32_1064
  v2800
def k0_off78 : Fin 2 → Nat :=
  let c0_i32_1063 : BitVec 32 := 0#32
  let c256_i32_1064 : BitVec 32 := 256#32
  let v2800 : BitVec 32 := Scalar.muli c0_i32_1063 c256_i32_1064
  let v2801 : BitVec 32 := v2800
  let v2802 : Index := Scalar.indexCast v2801
  let c0_1065 : Index := 0#32
  ![v2802.toNat, 0]
@[reducible] def k0_t1_loop : Scf.Loop 32 :=
  let c0_i32_1073 : BitVec 32 := 0#32
  let c13_i32 : BitVec 32 := 13#32
  let v2818 : BitVec 32 := Scalar.addi c0_i32_1073 c13_i32
  let c1_i32_1074 : BitVec 32 := 1#32
  ⟨c0_i32_1073, v2818, c1_i32_1074⟩
def k0_mult8 : BitVec 32 :=
  let c0_i32_1084 : BitVec 32 := 0#32
  let c256_i32_1085 : BitVec 32 := 256#32
  let v2842 : BitVec 32 := Scalar.muli c0_i32_1084 c256_i32_1085
  v2842
def k0_off79 : Fin 2 → Nat :=
  let c0_i32_1084 : BitVec 32 := 0#32
  let c256_i32_1085 : BitVec 32 := 256#32
  let v2842 : BitVec 32 := Scalar.muli c0_i32_1084 c256_i32_1085
  let v2843 : BitVec 32 := v2842
  let v2844 : Index := Scalar.indexCast v2843
  let c0_1086 : Index := 0#32
  ![v2844.toNat, 0]
def k0_mult9 : BitVec 32 :=
  let c0_i32_1076 : BitVec 32 := 0#32
  let c256_i32_1077 : BitVec 32 := 256#32
  let v2820 : BitVec 32 := Scalar.muli c0_i32_1076 c256_i32_1077
  v2820
def k0_mult10 (i : grid0.Coords) : BitVec 32 :=
  let c0_i32_73 : BitVec 32 := 0#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v159 : BitVec 32 := Scalar.minsi c0_i32_73 v72
  let c256_i32_74 : BitVec 32 := 256#32
  let v160 : BitVec 32 := Scalar.muli v159 c256_i32_74
  v160
def k0_off80 (i : grid0.Coords) : Fin 2 → Nat :=
  let c0_i32_73 : BitVec 32 := 0#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v159 : BitVec 32 := Scalar.minsi c0_i32_73 v72
  let c256_i32_74 : BitVec 32 := 256#32
  let v160 : BitVec 32 := Scalar.muli v159 c256_i32_74
  let v161 : BitVec 32 := v160
  let v162 : Index := Scalar.indexCast v161
  let c0_75 : Index := 0#32
  ![v162.toNat, 0]
def k0_off81 (i : grid0.Coords) : Fin 3 → Nat :=
  let arg1 : BitVec 32 := BitVec.ofNat 32 (i 1).val
  let c8_i32 : BitVec 32 := 8#32
  let c0_i32_36 : BitVec 32 := 0#32
  let v73 : BitVec 1 := Scalar.cmpi .eq c8_i32 c0_i32_36
  let c1_i32_37 : BitVec 32 := 1#32
  let v74 : BitVec 32 := Scalar.select v73 c1_i32_37 c8_i32
  let v75 : BitVec 32 := Scalar.remsi arg1 v74
  let c0_i32_39 : BitVec 32 := 0#32
  let v77 : BitVec 1 := Scalar.cmpi .slt v75 c0_i32_39
  let c0_i32_40 : BitVec 32 := 0#32
  let v78 : BitVec 1 := Scalar.cmpi .slt v74 c0_i32_40
  let v79 : BitVec 1 := Scalar.xori v77 v78
  let c0_i32_38 : BitVec 32 := 0#32
  let v76 : BitVec 1 := Scalar.cmpi .ne v75 c0_i32_38
  let v80 : BitVec 1 := Scalar.andi v79 v76
  let v81 : BitVec 32 := Scalar.addi v75 v74
  let v82 : BitVec 32 := Scalar.select v80 v81 v75
  let v164 : Index := Scalar.indexCast v82
  let c0_76 : Index := 0#32
  let c0_77 : Index := 0#32
  ![v164.toNat, 0, 0]
def k0_cond7 (i : grid0.Coords) : BitVec 1 :=
  let arg1 : BitVec 32 := BitVec.ofNat 32 (i 1).val
  let c1_i32_90 : BitVec 32 := 1#32
  let v181 : BitVec 32 := Scalar.addi arg1 c1_i32_90
  let c32_i32_91 : BitVec 32 := 32#32
  let v182 : BitVec 1 := Scalar.cmpi .slt v181 c32_i32_91
  let v183 : BitVec 32 := Scalar.extui v182
  let c0_i32_92 : BitVec 32 := 0#32
  let v184 : BitVec 1 := Scalar.cmpi .ne v183 c0_i32_92
  v184

@[reducible] def k0_t2_loop (i : grid0.Coords) : Scf.Loop 32 :=
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_109 : BitVec 32 := 1#32
  ⟨c0_i32_107, v211, c1_i32_109⟩
def k0_mult11 (i : grid0.Coords) (k0_t2 : Fin (k0_t2_loop i).trips) : BitVec 32 :=
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_146 : BitVec 32 := 1#32
  let v278 : BitVec 32 := Scalar.addi v277 c1_i32_146
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v279 : BitVec 32 := Scalar.minsi v278 v72
  let c256_i32_147 : BitVec 32 := 256#32
  let v280 : BitVec 32 := Scalar.muli v279 c256_i32_147
  v280
def k0_off82 (i : grid0.Coords) (k0_t2 : Fin (k0_t2_loop i).trips) (c1_i32_146 : BitVec 32) : Fin 2 → Nat :=
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let v278 : BitVec 32 := Scalar.addi v277 c1_i32_146
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v279 : BitVec 32 := Scalar.minsi v278 v72
  let c256_i32_147 : BitVec 32 := 256#32
  let v280 : BitVec 32 := Scalar.muli v279 c256_i32_147
  let v281 : BitVec 32 := v280
  let v282 : Index := Scalar.indexCast v281
  let c0_148 : Index := 0#32
  ![v282.toNat, 0]
def k0_off83 (i : grid0.Coords) : Fin 3 → Nat :=
  let arg1 : BitVec 32 := BitVec.ofNat 32 (i 1).val
  let c8_i32 : BitVec 32 := 8#32
  let c0_i32_36 : BitVec 32 := 0#32
  let v73 : BitVec 1 := Scalar.cmpi .eq c8_i32 c0_i32_36
  let c1_i32_37 : BitVec 32 := 1#32
  let v74 : BitVec 32 := Scalar.select v73 c1_i32_37 c8_i32
  let v75 : BitVec 32 := Scalar.remsi arg1 v74
  let c0_i32_39 : BitVec 32 := 0#32
  let v77 : BitVec 1 := Scalar.cmpi .slt v75 c0_i32_39
  let c0_i32_40 : BitVec 32 := 0#32
  let v78 : BitVec 1 := Scalar.cmpi .slt v74 c0_i32_40
  let v79 : BitVec 1 := Scalar.xori v77 v78
  let c0_i32_38 : BitVec 32 := 0#32
  let v76 : BitVec 1 := Scalar.cmpi .ne v75 c0_i32_38
  let v80 : BitVec 1 := Scalar.andi v79 v76
  let v81 : BitVec 32 := Scalar.addi v75 v74
  let v82 : BitVec 32 := Scalar.select v80 v81 v75
  let v284 : Index := Scalar.indexCast v82
  let c0_149 : Index := 0#32
  let c0_150 : Index := 0#32
  ![v284.toNat, 0, 0]
def k0_mult12 (i : grid0.Coords) (k0_t2 : Fin (k0_t2_loop i).trips) : BitVec 32 :=
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v292 : BitVec 32 := Scalar.minsi v277 v72
  let c256_i32_154 : BitVec 32 := 256#32
  let v293 : BitVec 32 := Scalar.muli v292 c256_i32_154
  v293
def k0_mult13 (i : grid0.Coords) (k0_t2 : Fin (k0_t2_loop i).trips) : BitVec 32 :=
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v292 : BitVec 32 := Scalar.minsi v277 v72
  let c256_i32_154 : BitVec 32 := 256#32
  let v293 : BitVec 32 := Scalar.muli v292 c256_i32_154
  let v294 : BitVec 32 := v293
  let c0_i32_155 : BitVec 32 := 0#32
  let v298 : BitVec 32 := Scalar.addi v294 c0_i32_155
  v298
def k0_off84 (i : grid0.Coords) (k0_t2 : Fin (k0_t2_loop i).trips) (c0_i32_155 : BitVec 32) : Fin 2 → Nat :=
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v292 : BitVec 32 := Scalar.minsi v277 v72
  let c256_i32_154 : BitVec 32 := 256#32
  let v293 : BitVec 32 := Scalar.muli v292 c256_i32_154
  let v294 : BitVec 32 := v293
  let v298 : BitVec 32 := Scalar.addi v294 c0_i32_155
  let v299 : BitVec 32 := v298
  let v300 : Index := Scalar.indexCast v299
  let c0_156 : Index := 0#32
  ![v300.toNat, 0]
def k0_mult14 (i : grid0.Coords) (k0_t2 : Fin (k0_t2_loop i).trips) : BitVec 32 :=
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v292 : BitVec 32 := Scalar.minsi v277 v72
  let c256_i32_154 : BitVec 32 := 256#32
  let v293 : BitVec 32 := Scalar.muli v292 c256_i32_154
  let v294 : BitVec 32 := v293
  let c128_i32_161 : BitVec 32 := 128#32
  let v311 : BitVec 32 := Scalar.addi v294 c128_i32_161
  v311
def k0_off85 (i : grid0.Coords) (k0_t2 : Fin (k0_t2_loop i).trips) : Fin 2 → Nat :=
  let c0_168 : Index := 0#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v292 : BitVec 32 := Scalar.minsi v277 v72
  let c256_i32_154 : BitVec 32 := 256#32
  let v293 : BitVec 32 := Scalar.muli v292 c256_i32_154
  let v294 : BitVec 32 := v293
  let v337 : Index := Scalar.indexCast v294
  ![0, v337.toNat]
def k0_mult15 (i : grid0.Coords) (k0_t2 : Fin (k0_t2_loop i).trips) : BitVec 32 :=
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c256_i32_182 : BitVec 32 := 256#32
  let v361 : BitVec 32 := Scalar.muli v277 c256_i32_182
  v361
def k0_off86 (i : grid0.Coords) (k0_t2 : Fin (k0_t2_loop i).trips) : Fin 2 → Nat :=
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c256_i32_182 : BitVec 32 := 256#32
  let v361 : BitVec 32 := Scalar.muli v277 c256_i32_182
  let v362 : BitVec 32 := v361
  let v363 : Index := Scalar.indexCast v362
  let c0_183 : Index := 0#32
  ![v363.toNat, 0]
def k0_off87 (i : grid0.Coords) : Fin 3 → Nat :=
  let arg1 : BitVec 32 := BitVec.ofNat 32 (i 1).val
  let c1_i32_174 : BitVec 32 := 1#32
  let v347 : BitVec 32 := Scalar.addi arg1 c1_i32_174
  let c8_i32_175 : BitVec 32 := 8#32
  let c0_i32_176 : BitVec 32 := 0#32
  let v348 : BitVec 1 := Scalar.cmpi .eq c8_i32_175 c0_i32_176
  let c1_i32_177 : BitVec 32 := 1#32
  let v349 : BitVec 32 := Scalar.select v348 c1_i32_177 c8_i32_175
  let v350 : BitVec 32 := Scalar.remsi v347 v349
  let c0_i32_179 : BitVec 32 := 0#32
  let v352 : BitVec 1 := Scalar.cmpi .slt v350 c0_i32_179
  let c0_i32_180 : BitVec 32 := 0#32
  let v353 : BitVec 1 := Scalar.cmpi .slt v349 c0_i32_180
  let v354 : BitVec 1 := Scalar.xori v352 v353
  let c0_i32_178 : BitVec 32 := 0#32
  let v351 : BitVec 1 := Scalar.cmpi .ne v350 c0_i32_178
  let v355 : BitVec 1 := Scalar.andi v354 v351
  let v356 : BitVec 32 := Scalar.addi v350 v349
  let v357 : BitVec 32 := Scalar.select v355 v356 v350
  let v365 : Index := Scalar.indexCast v357
  let c0_184 : Index := 0#32
  let c0_185 : Index := 0#32
  ![v365.toNat, 0, 0]
def k0_mult16 (i : grid0.Coords) (k0_t2 : Fin (k0_t2_loop i).trips) : BitVec 32 :=
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c256_i32_187 : BitVec 32 := 256#32
  let v369 : BitVec 32 := Scalar.muli v277 c256_i32_187
  let c0_i32_188 : BitVec 32 := 0#32
  let v370 : BitVec 32 := Scalar.addi v369 c0_i32_188
  v370
def k0_off88 (i : grid0.Coords) (k0_t2 : Fin (k0_t2_loop i).trips) (c0_i32_188 : BitVec 32) : Fin 2 → Nat :=
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c256_i32_187 : BitVec 32 := 256#32
  let v369 : BitVec 32 := Scalar.muli v277 c256_i32_187
  let v370 : BitVec 32 := Scalar.addi v369 c0_i32_188
  let v371 : BitVec 32 := v370
  let v403 : Index := Scalar.indexCast v371
  let c0_191 : Index := 0#32
  ![v403.toNat, 0]
def k0_mult17 (i : grid0.Coords) (k0_t2 : Fin (k0_t2_loop i).trips) : BitVec 32 :=
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c256_i32_193 : BitVec 32 := 256#32
  let v425 : BitVec 32 := Scalar.muli v277 c256_i32_193
  let c128_i32_194 : BitVec 32 := 128#32
  let v426 : BitVec 32 := Scalar.addi v425 c128_i32_194
  v426
def k0_off89 (i : grid0.Coords) (k0_t2 : Fin (k0_t2_loop i).trips) : Fin 4 → Nat :=
  let c0_435 : Index := 0#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let v1201 : Index := Scalar.indexCast v277
  let c0_436 : Index := 0#32
  let c0_437 : Index := 0#32
  ![0, v1201.toNat, 0, 0]
def k0_off90 (i : grid0.Coords) (k0_t2 : Fin (k0_t2_loop i).trips) : Fin 4 → Nat :=
  let c1_438 : Index := 1#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let v1205 : Index := Scalar.indexCast v277
  let c0_439 : Index := 0#32
  let c0_440 : Index := 0#32
  ![1, v1205.toNat, 0, 0]
def k0_off91 (i : grid0.Coords) (k0_t2 : Fin (k0_t2_loop i).trips) : Fin 4 → Nat :=
  let c2_441 : Index := 2#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let v1209 : Index := Scalar.indexCast v277
  let c0_442 : Index := 0#32
  let c0_443 : Index := 0#32
  ![2, v1209.toNat, 0, 0]
def k0_off92 (i : grid0.Coords) (k0_t2 : Fin (k0_t2_loop i).trips) : Fin 4 → Nat :=
  let c3_444 : Index := 3#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let v1213 : Index := Scalar.indexCast v277
  let c0_445 : Index := 0#32
  let c0_446 : Index := 0#32
  ![3, v1213.toNat, 0, 0]
def k0_off93 (i : grid0.Coords) (k0_t2 : Fin (k0_t2_loop i).trips) : Fin 4 → Nat :=
  let c4_447 : Index := 4#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let v1217 : Index := Scalar.indexCast v277
  let c0_448 : Index := 0#32
  let c0_449 : Index := 0#32
  ![4, v1217.toNat, 0, 0]
def k0_off94 (i : grid0.Coords) (k0_t2 : Fin (k0_t2_loop i).trips) : Fin 4 → Nat :=
  let c5_450 : Index := 5#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let v1221 : Index := Scalar.indexCast v277
  let c0_451 : Index := 0#32
  let c0_452 : Index := 0#32
  ![5, v1221.toNat, 0, 0]
def k0_off95 (i : grid0.Coords) (k0_t2 : Fin (k0_t2_loop i).trips) : Fin 4 → Nat :=
  let c6_453 : Index := 6#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let v1225 : Index := Scalar.indexCast v277
  let c0_454 : Index := 0#32
  let c0_455 : Index := 0#32
  ![6, v1225.toNat, 0, 0]
def k0_off96 (i : grid0.Coords) (k0_t2 : Fin (k0_t2_loop i).trips) : Fin 4 → Nat :=
  let c7_456 : Index := 7#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let v1229 : Index := Scalar.indexCast v277
  let c0_457 : Index := 0#32
  let c0_458 : Index := 0#32
  ![7, v1229.toNat, 0, 0]
def k0_off97 (i : grid0.Coords) (k0_t2 : Fin (k0_t2_loop i).trips) : Fin 4 → Nat :=
  let c8 : Index := 8#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let v1233 : Index := Scalar.indexCast v277
  let c0_459 : Index := 0#32
  let c0_460 : Index := 0#32
  ![8, v1233.toNat, 0, 0]
def k0_off98 (i : grid0.Coords) (k0_t2 : Fin (k0_t2_loop i).trips) : Fin 4 → Nat :=
  let c9 : Index := 9#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let v1237 : Index := Scalar.indexCast v277
  let c0_461 : Index := 0#32
  let c0_462 : Index := 0#32
  ![9, v1237.toNat, 0, 0]
def k0_off99 (i : grid0.Coords) (k0_t2 : Fin (k0_t2_loop i).trips) : Fin 4 → Nat :=
  let c10 : Index := 10#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let v1241 : Index := Scalar.indexCast v277
  let c0_463 : Index := 0#32
  let c0_464 : Index := 0#32
  ![10, v1241.toNat, 0, 0]
def k0_off100 (i : grid0.Coords) (k0_t2 : Fin (k0_t2_loop i).trips) : Fin 4 → Nat :=
  let c11 : Index := 11#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let v1245 : Index := Scalar.indexCast v277
  let c0_465 : Index := 0#32
  let c0_466 : Index := 0#32
  ![11, v1245.toNat, 0, 0]
def k0_off101 (i : grid0.Coords) (k0_t2 : Fin (k0_t2_loop i).trips) : Fin 4 → Nat :=
  let c12 : Index := 12#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let v1249 : Index := Scalar.indexCast v277
  let c0_467 : Index := 0#32
  let c0_468 : Index := 0#32
  ![12, v1249.toNat, 0, 0]
def k0_off102 (i : grid0.Coords) (k0_t2 : Fin (k0_t2_loop i).trips) : Fin 4 → Nat :=
  let c13 : Index := 13#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let v1253 : Index := Scalar.indexCast v277
  let c0_469 : Index := 0#32
  let c0_470 : Index := 0#32
  ![13, v1253.toNat, 0, 0]
def k0_off103 (i : grid0.Coords) (k0_t2 : Fin (k0_t2_loop i).trips) : Fin 4 → Nat :=
  let c14 : Index := 14#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let v1257 : Index := Scalar.indexCast v277
  let c0_471 : Index := 0#32
  let c0_472 : Index := 0#32
  ![14, v1257.toNat, 0, 0]
def k0_off104 (i : grid0.Coords) (k0_t2 : Fin (k0_t2_loop i).trips) : Fin 4 → Nat :=
  let c15 : Index := 15#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let v1261 : Index := Scalar.indexCast v277
  let c0_473 : Index := 0#32
  let c0_474 : Index := 0#32
  ![15, v1261.toNat, 0, 0]
def k0_off105 (i : grid0.Coords) (k0_t2 : Fin (k0_t2_loop i).trips) : Fin 4 → Nat :=
  let c16 : Index := 16#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let v1265 : Index := Scalar.indexCast v277
  let c0_475 : Index := 0#32
  let c0_476 : Index := 0#32
  ![16, v1265.toNat, 0, 0]
def k0_off106 (i : grid0.Coords) (k0_t2 : Fin (k0_t2_loop i).trips) : Fin 4 → Nat :=
  let c17 : Index := 17#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let v1269 : Index := Scalar.indexCast v277
  let c0_477 : Index := 0#32
  let c0_478 : Index := 0#32
  ![17, v1269.toNat, 0, 0]
def k0_off107 (i : grid0.Coords) (k0_t2 : Fin (k0_t2_loop i).trips) : Fin 4 → Nat :=
  let c18 : Index := 18#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let v1273 : Index := Scalar.indexCast v277
  let c0_479 : Index := 0#32
  let c0_480 : Index := 0#32
  ![18, v1273.toNat, 0, 0]
def k0_off108 (i : grid0.Coords) (k0_t2 : Fin (k0_t2_loop i).trips) : Fin 4 → Nat :=
  let c19 : Index := 19#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let v1277 : Index := Scalar.indexCast v277
  let c0_481 : Index := 0#32
  let c0_482 : Index := 0#32
  ![19, v1277.toNat, 0, 0]
def k0_off109 (i : grid0.Coords) (k0_t2 : Fin (k0_t2_loop i).trips) : Fin 4 → Nat :=
  let c20 : Index := 20#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let v1281 : Index := Scalar.indexCast v277
  let c0_483 : Index := 0#32
  let c0_484 : Index := 0#32
  ![20, v1281.toNat, 0, 0]
def k0_off110 (i : grid0.Coords) (k0_t2 : Fin (k0_t2_loop i).trips) : Fin 4 → Nat :=
  let c21 : Index := 21#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let v1285 : Index := Scalar.indexCast v277
  let c0_485 : Index := 0#32
  let c0_486 : Index := 0#32
  ![21, v1285.toNat, 0, 0]
def k0_off111 (i : grid0.Coords) (k0_t2 : Fin (k0_t2_loop i).trips) : Fin 4 → Nat :=
  let c22 : Index := 22#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let v1289 : Index := Scalar.indexCast v277
  let c0_487 : Index := 0#32
  let c0_488 : Index := 0#32
  ![22, v1289.toNat, 0, 0]
def k0_off112 (i : grid0.Coords) (k0_t2 : Fin (k0_t2_loop i).trips) : Fin 4 → Nat :=
  let c23 : Index := 23#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let v1293 : Index := Scalar.indexCast v277
  let c0_489 : Index := 0#32
  let c0_490 : Index := 0#32
  ![23, v1293.toNat, 0, 0]
def k0_off113 (i : grid0.Coords) (k0_t2 : Fin (k0_t2_loop i).trips) : Fin 4 → Nat :=
  let c24 : Index := 24#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let v1297 : Index := Scalar.indexCast v277
  let c0_491 : Index := 0#32
  let c0_492 : Index := 0#32
  ![24, v1297.toNat, 0, 0]
def k0_off114 (i : grid0.Coords) (k0_t2 : Fin (k0_t2_loop i).trips) : Fin 4 → Nat :=
  let c25 : Index := 25#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let v1301 : Index := Scalar.indexCast v277
  let c0_493 : Index := 0#32
  let c0_494 : Index := 0#32
  ![25, v1301.toNat, 0, 0]
def k0_off115 (i : grid0.Coords) (k0_t2 : Fin (k0_t2_loop i).trips) : Fin 4 → Nat :=
  let c26 : Index := 26#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let v1305 : Index := Scalar.indexCast v277
  let c0_495 : Index := 0#32
  let c0_496 : Index := 0#32
  ![26, v1305.toNat, 0, 0]
def k0_off116 (i : grid0.Coords) (k0_t2 : Fin (k0_t2_loop i).trips) : Fin 4 → Nat :=
  let c27 : Index := 27#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let v1309 : Index := Scalar.indexCast v277
  let c0_497 : Index := 0#32
  let c0_498 : Index := 0#32
  ![27, v1309.toNat, 0, 0]
def k0_off117 (i : grid0.Coords) (k0_t2 : Fin (k0_t2_loop i).trips) : Fin 4 → Nat :=
  let c28 : Index := 28#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let v1313 : Index := Scalar.indexCast v277
  let c0_499 : Index := 0#32
  let c0_500 : Index := 0#32
  ![28, v1313.toNat, 0, 0]
def k0_off118 (i : grid0.Coords) (k0_t2 : Fin (k0_t2_loop i).trips) : Fin 4 → Nat :=
  let c29 : Index := 29#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let v1317 : Index := Scalar.indexCast v277
  let c0_501 : Index := 0#32
  let c0_502 : Index := 0#32
  ![29, v1317.toNat, 0, 0]
def k0_off119 (i : grid0.Coords) (k0_t2 : Fin (k0_t2_loop i).trips) : Fin 4 → Nat :=
  let c30 : Index := 30#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let v1321 : Index := Scalar.indexCast v277
  let c0_503 : Index := 0#32
  let c0_504 : Index := 0#32
  ![30, v1321.toNat, 0, 0]
def k0_off120 (i : grid0.Coords) (k0_t2 : Fin (k0_t2_loop i).trips) : Fin 4 → Nat :=
  let c31 : Index := 31#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let v1325 : Index := Scalar.indexCast v277
  let c0_505 : Index := 0#32
  let c0_506 : Index := 0#32
  ![31, v1325.toNat, 0, 0]
def k0_mult18 (i : grid0.Coords) (k0_t2 : Fin (k0_t2_loop i).trips) : BitVec 32 :=
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c2_i32_507 : BitVec 32 := 2#32
  let v1329 : BitVec 32 := Scalar.addi v277 c2_i32_507
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v1330 : BitVec 32 := Scalar.minsi v1329 v72
  let c256_i32_508 : BitVec 32 := 256#32
  let v1331 : BitVec 32 := Scalar.muli v1330 c256_i32_508
  v1331
def k0_mult19 (i : grid0.Coords) (k0_t2 : Fin (k0_t2_loop i).trips) : BitVec 32 :=
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_515 : BitVec 32 := 1#32
  let v1343 : BitVec 32 := Scalar.addi v277 c1_i32_515
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v1344 : BitVec 32 := Scalar.minsi v1343 v72
  let c256_i32_516 : BitVec 32 := 256#32
  let v1345 : BitVec 32 := Scalar.muli v1344 c256_i32_516
  v1345
def k0_mult20 (i : grid0.Coords) (k0_t2 : Fin (k0_t2_loop i).trips) : BitVec 32 :=
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_515 : BitVec 32 := 1#32
  let v1343 : BitVec 32 := Scalar.addi v277 c1_i32_515
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v1344 : BitVec 32 := Scalar.minsi v1343 v72
  let c256_i32_516 : BitVec 32 := 256#32
  let v1345 : BitVec 32 := Scalar.muli v1344 c256_i32_516
  let v1346 : BitVec 32 := v1345
  let c0_i32_517 : BitVec 32 := 0#32
  let v1350 : BitVec 32 := Scalar.addi v1346 c0_i32_517
  v1350
def k0_off121 (i : grid0.Coords) (k0_t2 : Fin (k0_t2_loop i).trips) (c0_i32_517 : BitVec 32) : Fin 2 → Nat :=
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_515 : BitVec 32 := 1#32
  let v1343 : BitVec 32 := Scalar.addi v277 c1_i32_515
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v1344 : BitVec 32 := Scalar.minsi v1343 v72
  let c256_i32_516 : BitVec 32 := 256#32
  let v1345 : BitVec 32 := Scalar.muli v1344 c256_i32_516
  let v1346 : BitVec 32 := v1345
  let v1350 : BitVec 32 := Scalar.addi v1346 c0_i32_517
  let v1351 : BitVec 32 := v1350
  let v1352 : Index := Scalar.indexCast v1351
  let c0_518 : Index := 0#32
  ![v1352.toNat, 0]
def k0_mult21 (i : grid0.Coords) (k0_t2 : Fin (k0_t2_loop i).trips) : BitVec 32 :=
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_515 : BitVec 32 := 1#32
  let v1343 : BitVec 32 := Scalar.addi v277 c1_i32_515
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v1344 : BitVec 32 := Scalar.minsi v1343 v72
  let c256_i32_516 : BitVec 32 := 256#32
  let v1345 : BitVec 32 := Scalar.muli v1344 c256_i32_516
  let v1346 : BitVec 32 := v1345
  let c128_i32_523 : BitVec 32 := 128#32
  let v1363 : BitVec 32 := Scalar.addi v1346 c128_i32_523
  v1363
def k0_off122 (i : grid0.Coords) (k0_t2 : Fin (k0_t2_loop i).trips) : Fin 2 → Nat :=
  let c0_531 : Index := 0#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_515 : BitVec 32 := 1#32
  let v1343 : BitVec 32 := Scalar.addi v277 c1_i32_515
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v1344 : BitVec 32 := Scalar.minsi v1343 v72
  let c256_i32_516 : BitVec 32 := 256#32
  let v1345 : BitVec 32 := Scalar.muli v1344 c256_i32_516
  let v1346 : BitVec 32 := v1345
  let v1389 : Index := Scalar.indexCast v1346
  ![0, v1389.toNat]
def k0_mult22 (i : grid0.Coords) (k0_t2 : Fin (k0_t2_loop i).trips) : BitVec 32 :=
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let c256_i32_546 : BitVec 32 := 256#32
  let v1414 : BitVec 32 := Scalar.muli v1399 c256_i32_546
  v1414
def k0_off123 (i : grid0.Coords) (k0_t2 : Fin (k0_t2_loop i).trips) : Fin 2 → Nat :=
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let c256_i32_546 : BitVec 32 := 256#32
  let v1414 : BitVec 32 := Scalar.muli v1399 c256_i32_546
  let v1415 : BitVec 32 := v1414
  let v1416 : Index := Scalar.indexCast v1415
  let c0_547 : Index := 0#32
  ![v1416.toNat, 0]
def k0_mult23 (i : grid0.Coords) (k0_t2 : Fin (k0_t2_loop i).trips) : BitVec 32 :=
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let c256_i32_551 : BitVec 32 := 256#32
  let v1422 : BitVec 32 := Scalar.muli v1399 c256_i32_551
  let c0_i32_552 : BitVec 32 := 0#32
  let v1423 : BitVec 32 := Scalar.addi v1422 c0_i32_552
  v1423
def k0_off124 (i : grid0.Coords) (k0_t2 : Fin (k0_t2_loop i).trips) (c0_i32_552 : BitVec 32) : Fin 2 → Nat :=
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let c256_i32_551 : BitVec 32 := 256#32
  let v1422 : BitVec 32 := Scalar.muli v1399 c256_i32_551
  let v1423 : BitVec 32 := Scalar.addi v1422 c0_i32_552
  let v1424 : BitVec 32 := v1423
  let v1456 : Index := Scalar.indexCast v1424
  let c0_557 : Index := 0#32
  ![v1456.toNat, 0]
def k0_mult24 (i : grid0.Coords) (k0_t2 : Fin (k0_t2_loop i).trips) : BitVec 32 :=
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let c256_i32_559 : BitVec 32 := 256#32
  let v1478 : BitVec 32 := Scalar.muli v1399 c256_i32_559
  let c128_i32_560 : BitVec 32 := 128#32
  let v1479 : BitVec 32 := Scalar.addi v1478 c128_i32_560
  v1479
def k0_off125 (i : grid0.Coords) (k0_t2 : Fin (k0_t2_loop i).trips) : Fin 4 → Nat :=
  let c0_807 : Index := 0#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2254 : Index := Scalar.indexCast v1399
  let c0_808 : Index := 0#32
  let c0_809 : Index := 0#32
  ![0, v2254.toNat, 0, 0]
def k0_off126 (i : grid0.Coords) (k0_t2 : Fin (k0_t2_loop i).trips) : Fin 4 → Nat :=
  let c1_810 : Index := 1#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2258 : Index := Scalar.indexCast v1399
  let c0_811 : Index := 0#32
  let c0_812 : Index := 0#32
  ![1, v2258.toNat, 0, 0]
def k0_off127 (i : grid0.Coords) (k0_t2 : Fin (k0_t2_loop i).trips) : Fin 4 → Nat :=
  let c2_813 : Index := 2#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2262 : Index := Scalar.indexCast v1399
  let c0_814 : Index := 0#32
  let c0_815 : Index := 0#32
  ![2, v2262.toNat, 0, 0]
def k0_off128 (i : grid0.Coords) (k0_t2 : Fin (k0_t2_loop i).trips) : Fin 4 → Nat :=
  let c3_816 : Index := 3#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2266 : Index := Scalar.indexCast v1399
  let c0_817 : Index := 0#32
  let c0_818 : Index := 0#32
  ![3, v2266.toNat, 0, 0]
def k0_off129 (i : grid0.Coords) (k0_t2 : Fin (k0_t2_loop i).trips) : Fin 4 → Nat :=
  let c4_819 : Index := 4#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2270 : Index := Scalar.indexCast v1399
  let c0_820 : Index := 0#32
  let c0_821 : Index := 0#32
  ![4, v2270.toNat, 0, 0]
def k0_off130 (i : grid0.Coords) (k0_t2 : Fin (k0_t2_loop i).trips) : Fin 4 → Nat :=
  let c5_822 : Index := 5#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2274 : Index := Scalar.indexCast v1399
  let c0_823 : Index := 0#32
  let c0_824 : Index := 0#32
  ![5, v2274.toNat, 0, 0]
def k0_off131 (i : grid0.Coords) (k0_t2 : Fin (k0_t2_loop i).trips) : Fin 4 → Nat :=
  let c6_825 : Index := 6#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2278 : Index := Scalar.indexCast v1399
  let c0_826 : Index := 0#32
  let c0_827 : Index := 0#32
  ![6, v2278.toNat, 0, 0]
def k0_off132 (i : grid0.Coords) (k0_t2 : Fin (k0_t2_loop i).trips) : Fin 4 → Nat :=
  let c7_828 : Index := 7#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2282 : Index := Scalar.indexCast v1399
  let c0_829 : Index := 0#32
  let c0_830 : Index := 0#32
  ![7, v2282.toNat, 0, 0]
def k0_off133 (i : grid0.Coords) (k0_t2 : Fin (k0_t2_loop i).trips) : Fin 4 → Nat :=
  let c8_831 : Index := 8#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2286 : Index := Scalar.indexCast v1399
  let c0_832 : Index := 0#32
  let c0_833 : Index := 0#32
  ![8, v2286.toNat, 0, 0]
def k0_off134 (i : grid0.Coords) (k0_t2 : Fin (k0_t2_loop i).trips) : Fin 4 → Nat :=
  let c9_834 : Index := 9#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2290 : Index := Scalar.indexCast v1399
  let c0_835 : Index := 0#32
  let c0_836 : Index := 0#32
  ![9, v2290.toNat, 0, 0]
def k0_off135 (i : grid0.Coords) (k0_t2 : Fin (k0_t2_loop i).trips) : Fin 4 → Nat :=
  let c10_837 : Index := 10#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2294 : Index := Scalar.indexCast v1399
  let c0_838 : Index := 0#32
  let c0_839 : Index := 0#32
  ![10, v2294.toNat, 0, 0]
def k0_off136 (i : grid0.Coords) (k0_t2 : Fin (k0_t2_loop i).trips) : Fin 4 → Nat :=
  let c11_840 : Index := 11#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2298 : Index := Scalar.indexCast v1399
  let c0_841 : Index := 0#32
  let c0_842 : Index := 0#32
  ![11, v2298.toNat, 0, 0]
def k0_off137 (i : grid0.Coords) (k0_t2 : Fin (k0_t2_loop i).trips) : Fin 4 → Nat :=
  let c12_843 : Index := 12#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2302 : Index := Scalar.indexCast v1399
  let c0_844 : Index := 0#32
  let c0_845 : Index := 0#32
  ![12, v2302.toNat, 0, 0]
def k0_off138 (i : grid0.Coords) (k0_t2 : Fin (k0_t2_loop i).trips) : Fin 4 → Nat :=
  let c13_846 : Index := 13#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2306 : Index := Scalar.indexCast v1399
  let c0_847 : Index := 0#32
  let c0_848 : Index := 0#32
  ![13, v2306.toNat, 0, 0]
def k0_off139 (i : grid0.Coords) (k0_t2 : Fin (k0_t2_loop i).trips) : Fin 4 → Nat :=
  let c14_849 : Index := 14#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2310 : Index := Scalar.indexCast v1399
  let c0_850 : Index := 0#32
  let c0_851 : Index := 0#32
  ![14, v2310.toNat, 0, 0]
def k0_off140 (i : grid0.Coords) (k0_t2 : Fin (k0_t2_loop i).trips) : Fin 4 → Nat :=
  let c15_852 : Index := 15#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2314 : Index := Scalar.indexCast v1399
  let c0_853 : Index := 0#32
  let c0_854 : Index := 0#32
  ![15, v2314.toNat, 0, 0]
def k0_off141 (i : grid0.Coords) (k0_t2 : Fin (k0_t2_loop i).trips) : Fin 4 → Nat :=
  let c16_855 : Index := 16#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2318 : Index := Scalar.indexCast v1399
  let c0_856 : Index := 0#32
  let c0_857 : Index := 0#32
  ![16, v2318.toNat, 0, 0]
def k0_off142 (i : grid0.Coords) (k0_t2 : Fin (k0_t2_loop i).trips) : Fin 4 → Nat :=
  let c17_858 : Index := 17#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2322 : Index := Scalar.indexCast v1399
  let c0_859 : Index := 0#32
  let c0_860 : Index := 0#32
  ![17, v2322.toNat, 0, 0]
def k0_off143 (i : grid0.Coords) (k0_t2 : Fin (k0_t2_loop i).trips) : Fin 4 → Nat :=
  let c18_861 : Index := 18#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2326 : Index := Scalar.indexCast v1399
  let c0_862 : Index := 0#32
  let c0_863 : Index := 0#32
  ![18, v2326.toNat, 0, 0]
def k0_off144 (i : grid0.Coords) (k0_t2 : Fin (k0_t2_loop i).trips) : Fin 4 → Nat :=
  let c19_864 : Index := 19#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2330 : Index := Scalar.indexCast v1399
  let c0_865 : Index := 0#32
  let c0_866 : Index := 0#32
  ![19, v2330.toNat, 0, 0]
def k0_off145 (i : grid0.Coords) (k0_t2 : Fin (k0_t2_loop i).trips) : Fin 4 → Nat :=
  let c20_867 : Index := 20#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2334 : Index := Scalar.indexCast v1399
  let c0_868 : Index := 0#32
  let c0_869 : Index := 0#32
  ![20, v2334.toNat, 0, 0]
def k0_off146 (i : grid0.Coords) (k0_t2 : Fin (k0_t2_loop i).trips) : Fin 4 → Nat :=
  let c21_870 : Index := 21#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2338 : Index := Scalar.indexCast v1399
  let c0_871 : Index := 0#32
  let c0_872 : Index := 0#32
  ![21, v2338.toNat, 0, 0]
def k0_off147 (i : grid0.Coords) (k0_t2 : Fin (k0_t2_loop i).trips) : Fin 4 → Nat :=
  let c22_873 : Index := 22#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2342 : Index := Scalar.indexCast v1399
  let c0_874 : Index := 0#32
  let c0_875 : Index := 0#32
  ![22, v2342.toNat, 0, 0]
def k0_off148 (i : grid0.Coords) (k0_t2 : Fin (k0_t2_loop i).trips) : Fin 4 → Nat :=
  let c23_876 : Index := 23#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2346 : Index := Scalar.indexCast v1399
  let c0_877 : Index := 0#32
  let c0_878 : Index := 0#32
  ![23, v2346.toNat, 0, 0]
def k0_off149 (i : grid0.Coords) (k0_t2 : Fin (k0_t2_loop i).trips) : Fin 4 → Nat :=
  let c24_879 : Index := 24#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2350 : Index := Scalar.indexCast v1399
  let c0_880 : Index := 0#32
  let c0_881 : Index := 0#32
  ![24, v2350.toNat, 0, 0]
def k0_off150 (i : grid0.Coords) (k0_t2 : Fin (k0_t2_loop i).trips) : Fin 4 → Nat :=
  let c25_882 : Index := 25#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2354 : Index := Scalar.indexCast v1399
  let c0_883 : Index := 0#32
  let c0_884 : Index := 0#32
  ![25, v2354.toNat, 0, 0]
def k0_off151 (i : grid0.Coords) (k0_t2 : Fin (k0_t2_loop i).trips) : Fin 4 → Nat :=
  let c26_885 : Index := 26#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2358 : Index := Scalar.indexCast v1399
  let c0_886 : Index := 0#32
  let c0_887 : Index := 0#32
  ![26, v2358.toNat, 0, 0]
def k0_off152 (i : grid0.Coords) (k0_t2 : Fin (k0_t2_loop i).trips) : Fin 4 → Nat :=
  let c27_888 : Index := 27#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2362 : Index := Scalar.indexCast v1399
  let c0_889 : Index := 0#32
  let c0_890 : Index := 0#32
  ![27, v2362.toNat, 0, 0]
def k0_off153 (i : grid0.Coords) (k0_t2 : Fin (k0_t2_loop i).trips) : Fin 4 → Nat :=
  let c28_891 : Index := 28#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2366 : Index := Scalar.indexCast v1399
  let c0_892 : Index := 0#32
  let c0_893 : Index := 0#32
  ![28, v2366.toNat, 0, 0]
def k0_off154 (i : grid0.Coords) (k0_t2 : Fin (k0_t2_loop i).trips) : Fin 4 → Nat :=
  let c29_894 : Index := 29#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2370 : Index := Scalar.indexCast v1399
  let c0_895 : Index := 0#32
  let c0_896 : Index := 0#32
  ![29, v2370.toNat, 0, 0]
def k0_off155 (i : grid0.Coords) (k0_t2 : Fin (k0_t2_loop i).trips) : Fin 4 → Nat :=
  let c30_897 : Index := 30#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2374 : Index := Scalar.indexCast v1399
  let c0_898 : Index := 0#32
  let c0_899 : Index := 0#32
  ![30, v2374.toNat, 0, 0]
def k0_off156 (i : grid0.Coords) (k0_t2 : Fin (k0_t2_loop i).trips) : Fin 4 → Nat :=
  let c31_900 : Index := 31#32
  let c2_i32_145 : BitVec 32 := 2#32
  let c0_i32_144 : BitVec 32 := 0#32
  let c2_i32_143 : BitVec 32 := 2#32
  let c0_i32_107 : BitVec 32 := 0#32
  let c1_i32_109 : BitVec 32 := 1#32
  let arg24 : BitVec 32 := Scf.iv c0_i32_107 c1_i32_109 k0_t2
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2378 : Index := Scalar.indexCast v1399
  let c0_901 : Index := 0#32
  let c0_902 : Index := 0#32
  ![31, v2378.toNat, 0, 0]
def k0_mult25 (i : grid0.Coords) (k0_t2 : Fin (k0_t2_loop i).trips) : BitVec 32 :=
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_907 : BitVec 32 := 1#32
  let v2386 : BitVec 32 := Scalar.addi v2385 c1_i32_907
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v2387 : BitVec 32 := Scalar.minsi v2386 v72
  let c256_i32_908 : BitVec 32 := 256#32
  let v2388 : BitVec 32 := Scalar.muli v2387 c256_i32_908
  v2388
def k0_off157 (i : grid0.Coords) (k0_t2 : Fin (k0_t2_loop i).trips) (c1_i32_907 : BitVec 32) : Fin 2 → Nat :=
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v2386 : BitVec 32 := Scalar.addi v2385 c1_i32_907
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v2387 : BitVec 32 := Scalar.minsi v2386 v72
  let c256_i32_908 : BitVec 32 := 256#32
  let v2388 : BitVec 32 := Scalar.muli v2387 c256_i32_908
  let v2389 : BitVec 32 := v2388
  let v2390 : Index := Scalar.indexCast v2389
  let c0_909 : Index := 0#32
  ![v2390.toNat, 0]
def k0_mult26 (i : grid0.Coords) (k0_t2 : Fin (k0_t2_loop i).trips) : BitVec 32 :=
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v2400 : BitVec 32 := Scalar.minsi v2385 v72
  let c256_i32_915 : BitVec 32 := 256#32
  let v2401 : BitVec 32 := Scalar.muli v2400 c256_i32_915
  v2401
def k0_mult27 (i : grid0.Coords) (k0_t2 : Fin (k0_t2_loop i).trips) : BitVec 32 :=
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v2400 : BitVec 32 := Scalar.minsi v2385 v72
  let c256_i32_915 : BitVec 32 := 256#32
  let v2401 : BitVec 32 := Scalar.muli v2400 c256_i32_915
  let v2402 : BitVec 32 := v2401
  let c0_i32_916 : BitVec 32 := 0#32
  let v2406 : BitVec 32 := Scalar.addi v2402 c0_i32_916
  v2406
def k0_off158 (i : grid0.Coords) (k0_t2 : Fin (k0_t2_loop i).trips) (c0_i32_916 : BitVec 32) : Fin 2 → Nat :=
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v2400 : BitVec 32 := Scalar.minsi v2385 v72
  let c256_i32_915 : BitVec 32 := 256#32
  let v2401 : BitVec 32 := Scalar.muli v2400 c256_i32_915
  let v2402 : BitVec 32 := v2401
  let v2406 : BitVec 32 := Scalar.addi v2402 c0_i32_916
  let v2407 : BitVec 32 := v2406
  let v2408 : Index := Scalar.indexCast v2407
  let c0_917 : Index := 0#32
  ![v2408.toNat, 0]
def k0_mult28 (i : grid0.Coords) (k0_t2 : Fin (k0_t2_loop i).trips) : BitVec 32 :=
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v2400 : BitVec 32 := Scalar.minsi v2385 v72
  let c256_i32_915 : BitVec 32 := 256#32
  let v2401 : BitVec 32 := Scalar.muli v2400 c256_i32_915
  let v2402 : BitVec 32 := v2401
  let c128_i32_922 : BitVec 32 := 128#32
  let v2419 : BitVec 32 := Scalar.addi v2402 c128_i32_922
  v2419
def k0_off159 (i : grid0.Coords) (k0_t2 : Fin (k0_t2_loop i).trips) : Fin 2 → Nat :=
  let c0_930 : Index := 0#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v2400 : BitVec 32 := Scalar.minsi v2385 v72
  let c256_i32_915 : BitVec 32 := 256#32
  let v2401 : BitVec 32 := Scalar.muli v2400 c256_i32_915
  let v2402 : BitVec 32 := v2401
  let v2445 : Index := Scalar.indexCast v2402
  ![0, v2445.toNat]
def k0_mult29 (i : grid0.Coords) (k0_t2 : Fin (k0_t2_loop i).trips) : BitVec 32 :=
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c256_i32_944 : BitVec 32 := 256#32
  let v2469 : BitVec 32 := Scalar.muli v2385 c256_i32_944
  v2469
def k0_off160 (i : grid0.Coords) (k0_t2 : Fin (k0_t2_loop i).trips) : Fin 2 → Nat :=
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c256_i32_944 : BitVec 32 := 256#32
  let v2469 : BitVec 32 := Scalar.muli v2385 c256_i32_944
  let v2470 : BitVec 32 := v2469
  let v2471 : Index := Scalar.indexCast v2470
  let c0_945 : Index := 0#32
  ![v2471.toNat, 0]
def k0_mult30 (i : grid0.Coords) (k0_t2 : Fin (k0_t2_loop i).trips) : BitVec 32 :=
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c256_i32_949 : BitVec 32 := 256#32
  let v2477 : BitVec 32 := Scalar.muli v2385 c256_i32_949
  let c0_i32_950 : BitVec 32 := 0#32
  let v2478 : BitVec 32 := Scalar.addi v2477 c0_i32_950
  v2478
def k0_off161 (i : grid0.Coords) (k0_t2 : Fin (k0_t2_loop i).trips) (c0_i32_950 : BitVec 32) : Fin 2 → Nat :=
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c256_i32_949 : BitVec 32 := 256#32
  let v2477 : BitVec 32 := Scalar.muli v2385 c256_i32_949
  let v2478 : BitVec 32 := Scalar.addi v2477 c0_i32_950
  let v2479 : BitVec 32 := v2478
  let v2511 : Index := Scalar.indexCast v2479
  let c0_955 : Index := 0#32
  ![v2511.toNat, 0]
def k0_mult31 (i : grid0.Coords) (k0_t2 : Fin (k0_t2_loop i).trips) : BitVec 32 :=
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c256_i32_957 : BitVec 32 := 256#32
  let v2533 : BitVec 32 := Scalar.muli v2385 c256_i32_957
  let c128_i32_958 : BitVec 32 := 128#32
  let v2534 : BitVec 32 := Scalar.addi v2533 c128_i32_958
  v2534
def k0_off162 (i : grid0.Coords) (k0_t2 : Fin (k0_t2_loop i).trips) : Fin 4 → Nat :=
  let c0_1205 : Index := 0#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3309 : Index := Scalar.indexCast v2385
  let c0_1206 : Index := 0#32
  let c0_1207 : Index := 0#32
  ![0, v3309.toNat, 0, 0]
def k0_off163 (i : grid0.Coords) (k0_t2 : Fin (k0_t2_loop i).trips) : Fin 4 → Nat :=
  let c1_1208 : Index := 1#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3313 : Index := Scalar.indexCast v2385
  let c0_1209 : Index := 0#32
  let c0_1210 : Index := 0#32
  ![1, v3313.toNat, 0, 0]
def k0_off164 (i : grid0.Coords) (k0_t2 : Fin (k0_t2_loop i).trips) : Fin 4 → Nat :=
  let c2_1211 : Index := 2#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3317 : Index := Scalar.indexCast v2385
  let c0_1212 : Index := 0#32
  let c0_1213 : Index := 0#32
  ![2, v3317.toNat, 0, 0]
def k0_off165 (i : grid0.Coords) (k0_t2 : Fin (k0_t2_loop i).trips) : Fin 4 → Nat :=
  let c3_1214 : Index := 3#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3321 : Index := Scalar.indexCast v2385
  let c0_1215 : Index := 0#32
  let c0_1216 : Index := 0#32
  ![3, v3321.toNat, 0, 0]
def k0_off166 (i : grid0.Coords) (k0_t2 : Fin (k0_t2_loop i).trips) : Fin 4 → Nat :=
  let c4_1217 : Index := 4#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3325 : Index := Scalar.indexCast v2385
  let c0_1218 : Index := 0#32
  let c0_1219 : Index := 0#32
  ![4, v3325.toNat, 0, 0]
def k0_off167 (i : grid0.Coords) (k0_t2 : Fin (k0_t2_loop i).trips) : Fin 4 → Nat :=
  let c5_1220 : Index := 5#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3329 : Index := Scalar.indexCast v2385
  let c0_1221 : Index := 0#32
  let c0_1222 : Index := 0#32
  ![5, v3329.toNat, 0, 0]
def k0_off168 (i : grid0.Coords) (k0_t2 : Fin (k0_t2_loop i).trips) : Fin 4 → Nat :=
  let c6_1223 : Index := 6#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3333 : Index := Scalar.indexCast v2385
  let c0_1224 : Index := 0#32
  let c0_1225 : Index := 0#32
  ![6, v3333.toNat, 0, 0]
def k0_off169 (i : grid0.Coords) (k0_t2 : Fin (k0_t2_loop i).trips) : Fin 4 → Nat :=
  let c7_1226 : Index := 7#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3337 : Index := Scalar.indexCast v2385
  let c0_1227 : Index := 0#32
  let c0_1228 : Index := 0#32
  ![7, v3337.toNat, 0, 0]
def k0_off170 (i : grid0.Coords) (k0_t2 : Fin (k0_t2_loop i).trips) : Fin 4 → Nat :=
  let c8_1229 : Index := 8#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3341 : Index := Scalar.indexCast v2385
  let c0_1230 : Index := 0#32
  let c0_1231 : Index := 0#32
  ![8, v3341.toNat, 0, 0]
def k0_off171 (i : grid0.Coords) (k0_t2 : Fin (k0_t2_loop i).trips) : Fin 4 → Nat :=
  let c9_1232 : Index := 9#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3345 : Index := Scalar.indexCast v2385
  let c0_1233 : Index := 0#32
  let c0_1234 : Index := 0#32
  ![9, v3345.toNat, 0, 0]
def k0_off172 (i : grid0.Coords) (k0_t2 : Fin (k0_t2_loop i).trips) : Fin 4 → Nat :=
  let c10_1235 : Index := 10#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3349 : Index := Scalar.indexCast v2385
  let c0_1236 : Index := 0#32
  let c0_1237 : Index := 0#32
  ![10, v3349.toNat, 0, 0]
def k0_off173 (i : grid0.Coords) (k0_t2 : Fin (k0_t2_loop i).trips) : Fin 4 → Nat :=
  let c11_1238 : Index := 11#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3353 : Index := Scalar.indexCast v2385
  let c0_1239 : Index := 0#32
  let c0_1240 : Index := 0#32
  ![11, v3353.toNat, 0, 0]
def k0_off174 (i : grid0.Coords) (k0_t2 : Fin (k0_t2_loop i).trips) : Fin 4 → Nat :=
  let c12_1241 : Index := 12#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3357 : Index := Scalar.indexCast v2385
  let c0_1242 : Index := 0#32
  let c0_1243 : Index := 0#32
  ![12, v3357.toNat, 0, 0]
def k0_off175 (i : grid0.Coords) (k0_t2 : Fin (k0_t2_loop i).trips) : Fin 4 → Nat :=
  let c13_1244 : Index := 13#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3361 : Index := Scalar.indexCast v2385
  let c0_1245 : Index := 0#32
  let c0_1246 : Index := 0#32
  ![13, v3361.toNat, 0, 0]
def k0_off176 (i : grid0.Coords) (k0_t2 : Fin (k0_t2_loop i).trips) : Fin 4 → Nat :=
  let c14_1247 : Index := 14#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3365 : Index := Scalar.indexCast v2385
  let c0_1248 : Index := 0#32
  let c0_1249 : Index := 0#32
  ![14, v3365.toNat, 0, 0]
def k0_off177 (i : grid0.Coords) (k0_t2 : Fin (k0_t2_loop i).trips) : Fin 4 → Nat :=
  let c15_1250 : Index := 15#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3369 : Index := Scalar.indexCast v2385
  let c0_1251 : Index := 0#32
  let c0_1252 : Index := 0#32
  ![15, v3369.toNat, 0, 0]
def k0_off178 (i : grid0.Coords) (k0_t2 : Fin (k0_t2_loop i).trips) : Fin 4 → Nat :=
  let c16_1253 : Index := 16#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3373 : Index := Scalar.indexCast v2385
  let c0_1254 : Index := 0#32
  let c0_1255 : Index := 0#32
  ![16, v3373.toNat, 0, 0]
def k0_off179 (i : grid0.Coords) (k0_t2 : Fin (k0_t2_loop i).trips) : Fin 4 → Nat :=
  let c17_1256 : Index := 17#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3377 : Index := Scalar.indexCast v2385
  let c0_1257 : Index := 0#32
  let c0_1258 : Index := 0#32
  ![17, v3377.toNat, 0, 0]
def k0_off180 (i : grid0.Coords) (k0_t2 : Fin (k0_t2_loop i).trips) : Fin 4 → Nat :=
  let c18_1259 : Index := 18#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3381 : Index := Scalar.indexCast v2385
  let c0_1260 : Index := 0#32
  let c0_1261 : Index := 0#32
  ![18, v3381.toNat, 0, 0]
def k0_off181 (i : grid0.Coords) (k0_t2 : Fin (k0_t2_loop i).trips) : Fin 4 → Nat :=
  let c19_1262 : Index := 19#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3385 : Index := Scalar.indexCast v2385
  let c0_1263 : Index := 0#32
  let c0_1264 : Index := 0#32
  ![19, v3385.toNat, 0, 0]
def k0_off182 (i : grid0.Coords) (k0_t2 : Fin (k0_t2_loop i).trips) : Fin 4 → Nat :=
  let c20_1265 : Index := 20#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3389 : Index := Scalar.indexCast v2385
  let c0_1266 : Index := 0#32
  let c0_1267 : Index := 0#32
  ![20, v3389.toNat, 0, 0]
def k0_off183 (i : grid0.Coords) (k0_t2 : Fin (k0_t2_loop i).trips) : Fin 4 → Nat :=
  let c21_1268 : Index := 21#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3393 : Index := Scalar.indexCast v2385
  let c0_1269 : Index := 0#32
  let c0_1270 : Index := 0#32
  ![21, v3393.toNat, 0, 0]
def k0_off184 (i : grid0.Coords) (k0_t2 : Fin (k0_t2_loop i).trips) : Fin 4 → Nat :=
  let c22_1271 : Index := 22#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3397 : Index := Scalar.indexCast v2385
  let c0_1272 : Index := 0#32
  let c0_1273 : Index := 0#32
  ![22, v3397.toNat, 0, 0]
def k0_off185 (i : grid0.Coords) (k0_t2 : Fin (k0_t2_loop i).trips) : Fin 4 → Nat :=
  let c23_1274 : Index := 23#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3401 : Index := Scalar.indexCast v2385
  let c0_1275 : Index := 0#32
  let c0_1276 : Index := 0#32
  ![23, v3401.toNat, 0, 0]
def k0_off186 (i : grid0.Coords) (k0_t2 : Fin (k0_t2_loop i).trips) : Fin 4 → Nat :=
  let c24_1277 : Index := 24#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3405 : Index := Scalar.indexCast v2385
  let c0_1278 : Index := 0#32
  let c0_1279 : Index := 0#32
  ![24, v3405.toNat, 0, 0]
def k0_off187 (i : grid0.Coords) (k0_t2 : Fin (k0_t2_loop i).trips) : Fin 4 → Nat :=
  let c25_1280 : Index := 25#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3409 : Index := Scalar.indexCast v2385
  let c0_1281 : Index := 0#32
  let c0_1282 : Index := 0#32
  ![25, v3409.toNat, 0, 0]
def k0_off188 (i : grid0.Coords) (k0_t2 : Fin (k0_t2_loop i).trips) : Fin 4 → Nat :=
  let c26_1283 : Index := 26#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3413 : Index := Scalar.indexCast v2385
  let c0_1284 : Index := 0#32
  let c0_1285 : Index := 0#32
  ![26, v3413.toNat, 0, 0]
def k0_off189 (i : grid0.Coords) (k0_t2 : Fin (k0_t2_loop i).trips) : Fin 4 → Nat :=
  let c27_1286 : Index := 27#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3417 : Index := Scalar.indexCast v2385
  let c0_1287 : Index := 0#32
  let c0_1288 : Index := 0#32
  ![27, v3417.toNat, 0, 0]
def k0_off190 (i : grid0.Coords) (k0_t2 : Fin (k0_t2_loop i).trips) : Fin 4 → Nat :=
  let c28_1289 : Index := 28#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3421 : Index := Scalar.indexCast v2385
  let c0_1290 : Index := 0#32
  let c0_1291 : Index := 0#32
  ![28, v3421.toNat, 0, 0]
def k0_off191 (i : grid0.Coords) (k0_t2 : Fin (k0_t2_loop i).trips) : Fin 4 → Nat :=
  let c29_1292 : Index := 29#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3425 : Index := Scalar.indexCast v2385
  let c0_1293 : Index := 0#32
  let c0_1294 : Index := 0#32
  ![29, v3425.toNat, 0, 0]
def k0_off192 (i : grid0.Coords) (k0_t2 : Fin (k0_t2_loop i).trips) : Fin 4 → Nat :=
  let c30_1295 : Index := 30#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3429 : Index := Scalar.indexCast v2385
  let c0_1296 : Index := 0#32
  let c0_1297 : Index := 0#32
  ![30, v3429.toNat, 0, 0]
def k0_off193 (i : grid0.Coords) (k0_t2 : Fin (k0_t2_loop i).trips) : Fin 4 → Nat :=
  let c31_1298 : Index := 31#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3433 : Index := Scalar.indexCast v2385
  let c0_1299 : Index := 0#32
  let c0_1300 : Index := 0#32
  ![31, v3433.toNat, 0, 0]
def k0_mult32 (i : grid0.Coords) (k0_t2 : Fin (k0_t2_loop i).trips) : BitVec 32 :=
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c2_i32_1301 : BitVec 32 := 2#32
  let v3437 : BitVec 32 := Scalar.addi v2385 c2_i32_1301
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v3438 : BitVec 32 := Scalar.minsi v3437 v72
  let c256_i32_1302 : BitVec 32 := 256#32
  let v3439 : BitVec 32 := Scalar.muli v3438 c256_i32_1302
  v3439
def k0_mult33 (i : grid0.Coords) (k0_t2 : Fin (k0_t2_loop i).trips) : BitVec 32 :=
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1309 : BitVec 32 := 1#32
  let v3451 : BitVec 32 := Scalar.addi v2385 c1_i32_1309
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v3452 : BitVec 32 := Scalar.minsi v3451 v72
  let c256_i32_1310 : BitVec 32 := 256#32
  let v3453 : BitVec 32 := Scalar.muli v3452 c256_i32_1310
  v3453
def k0_mult34 (i : grid0.Coords) (k0_t2 : Fin (k0_t2_loop i).trips) : BitVec 32 :=
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1309 : BitVec 32 := 1#32
  let v3451 : BitVec 32 := Scalar.addi v2385 c1_i32_1309
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v3452 : BitVec 32 := Scalar.minsi v3451 v72
  let c256_i32_1310 : BitVec 32 := 256#32
  let v3453 : BitVec 32 := Scalar.muli v3452 c256_i32_1310
  let v3454 : BitVec 32 := v3453
  let c0_i32_1311 : BitVec 32 := 0#32
  let v3458 : BitVec 32 := Scalar.addi v3454 c0_i32_1311
  v3458
def k0_off194 (i : grid0.Coords) (k0_t2 : Fin (k0_t2_loop i).trips) (c0_i32_1311 : BitVec 32) : Fin 2 → Nat :=
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1309 : BitVec 32 := 1#32
  let v3451 : BitVec 32 := Scalar.addi v2385 c1_i32_1309
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v3452 : BitVec 32 := Scalar.minsi v3451 v72
  let c256_i32_1310 : BitVec 32 := 256#32
  let v3453 : BitVec 32 := Scalar.muli v3452 c256_i32_1310
  let v3454 : BitVec 32 := v3453
  let v3458 : BitVec 32 := Scalar.addi v3454 c0_i32_1311
  let v3459 : BitVec 32 := v3458
  let v3460 : Index := Scalar.indexCast v3459
  let c0_1312 : Index := 0#32
  ![v3460.toNat, 0]
def k0_mult35 (i : grid0.Coords) (k0_t2 : Fin (k0_t2_loop i).trips) : BitVec 32 :=
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1309 : BitVec 32 := 1#32
  let v3451 : BitVec 32 := Scalar.addi v2385 c1_i32_1309
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v3452 : BitVec 32 := Scalar.minsi v3451 v72
  let c256_i32_1310 : BitVec 32 := 256#32
  let v3453 : BitVec 32 := Scalar.muli v3452 c256_i32_1310
  let v3454 : BitVec 32 := v3453
  let c128_i32_1317 : BitVec 32 := 128#32
  let v3471 : BitVec 32 := Scalar.addi v3454 c128_i32_1317
  v3471
def k0_off195 (i : grid0.Coords) (k0_t2 : Fin (k0_t2_loop i).trips) : Fin 2 → Nat :=
  let c0_1325 : Index := 0#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1309 : BitVec 32 := 1#32
  let v3451 : BitVec 32 := Scalar.addi v2385 c1_i32_1309
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v3452 : BitVec 32 := Scalar.minsi v3451 v72
  let c256_i32_1310 : BitVec 32 := 256#32
  let v3453 : BitVec 32 := Scalar.muli v3452 c256_i32_1310
  let v3454 : BitVec 32 := v3453
  let v3497 : Index := Scalar.indexCast v3454
  ![0, v3497.toNat]
def k0_mult36 (i : grid0.Coords) (k0_t2 : Fin (k0_t2_loop i).trips) : BitVec 32 :=
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let c256_i32_1340 : BitVec 32 := 256#32
  let v3522 : BitVec 32 := Scalar.muli v3507 c256_i32_1340
  v3522
def k0_off196 (i : grid0.Coords) (k0_t2 : Fin (k0_t2_loop i).trips) : Fin 2 → Nat :=
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let c256_i32_1340 : BitVec 32 := 256#32
  let v3522 : BitVec 32 := Scalar.muli v3507 c256_i32_1340
  let v3523 : BitVec 32 := v3522
  let v3524 : Index := Scalar.indexCast v3523
  let c0_1341 : Index := 0#32
  ![v3524.toNat, 0]
def k0_mult37 (i : grid0.Coords) (k0_t2 : Fin (k0_t2_loop i).trips) : BitVec 32 :=
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let c256_i32_1345 : BitVec 32 := 256#32
  let v3530 : BitVec 32 := Scalar.muli v3507 c256_i32_1345
  let c0_i32_1346 : BitVec 32 := 0#32
  let v3531 : BitVec 32 := Scalar.addi v3530 c0_i32_1346
  v3531
def k0_off197 (i : grid0.Coords) (k0_t2 : Fin (k0_t2_loop i).trips) (c0_i32_1346 : BitVec 32) : Fin 2 → Nat :=
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let c256_i32_1345 : BitVec 32 := 256#32
  let v3530 : BitVec 32 := Scalar.muli v3507 c256_i32_1345
  let v3531 : BitVec 32 := Scalar.addi v3530 c0_i32_1346
  let v3532 : BitVec 32 := v3531
  let v3564 : Index := Scalar.indexCast v3532
  let c0_1351 : Index := 0#32
  ![v3564.toNat, 0]
def k0_mult38 (i : grid0.Coords) (k0_t2 : Fin (k0_t2_loop i).trips) : BitVec 32 :=
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let c256_i32_1353 : BitVec 32 := 256#32
  let v3586 : BitVec 32 := Scalar.muli v3507 c256_i32_1353
  let c128_i32_1354 : BitVec 32 := 128#32
  let v3587 : BitVec 32 := Scalar.addi v3586 c128_i32_1354
  v3587
def k0_off198 (i : grid0.Coords) (k0_t2 : Fin (k0_t2_loop i).trips) : Fin 4 → Nat :=
  let c0_1601 : Index := 0#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4362 : Index := Scalar.indexCast v3507
  let c0_1602 : Index := 0#32
  let c0_1603 : Index := 0#32
  ![0, v4362.toNat, 0, 0]
def k0_off199 (i : grid0.Coords) (k0_t2 : Fin (k0_t2_loop i).trips) : Fin 4 → Nat :=
  let c1_1604 : Index := 1#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4366 : Index := Scalar.indexCast v3507
  let c0_1605 : Index := 0#32
  let c0_1606 : Index := 0#32
  ![1, v4366.toNat, 0, 0]
def k0_off200 (i : grid0.Coords) (k0_t2 : Fin (k0_t2_loop i).trips) : Fin 4 → Nat :=
  let c2_1607 : Index := 2#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4370 : Index := Scalar.indexCast v3507
  let c0_1608 : Index := 0#32
  let c0_1609 : Index := 0#32
  ![2, v4370.toNat, 0, 0]
def k0_off201 (i : grid0.Coords) (k0_t2 : Fin (k0_t2_loop i).trips) : Fin 4 → Nat :=
  let c3_1610 : Index := 3#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4374 : Index := Scalar.indexCast v3507
  let c0_1611 : Index := 0#32
  let c0_1612 : Index := 0#32
  ![3, v4374.toNat, 0, 0]
def k0_off202 (i : grid0.Coords) (k0_t2 : Fin (k0_t2_loop i).trips) : Fin 4 → Nat :=
  let c4_1613 : Index := 4#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4378 : Index := Scalar.indexCast v3507
  let c0_1614 : Index := 0#32
  let c0_1615 : Index := 0#32
  ![4, v4378.toNat, 0, 0]
def k0_off203 (i : grid0.Coords) (k0_t2 : Fin (k0_t2_loop i).trips) : Fin 4 → Nat :=
  let c5_1616 : Index := 5#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4382 : Index := Scalar.indexCast v3507
  let c0_1617 : Index := 0#32
  let c0_1618 : Index := 0#32
  ![5, v4382.toNat, 0, 0]
def k0_off204 (i : grid0.Coords) (k0_t2 : Fin (k0_t2_loop i).trips) : Fin 4 → Nat :=
  let c6_1619 : Index := 6#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4386 : Index := Scalar.indexCast v3507
  let c0_1620 : Index := 0#32
  let c0_1621 : Index := 0#32
  ![6, v4386.toNat, 0, 0]
def k0_off205 (i : grid0.Coords) (k0_t2 : Fin (k0_t2_loop i).trips) : Fin 4 → Nat :=
  let c7_1622 : Index := 7#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4390 : Index := Scalar.indexCast v3507
  let c0_1623 : Index := 0#32
  let c0_1624 : Index := 0#32
  ![7, v4390.toNat, 0, 0]
def k0_off206 (i : grid0.Coords) (k0_t2 : Fin (k0_t2_loop i).trips) : Fin 4 → Nat :=
  let c8_1625 : Index := 8#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4394 : Index := Scalar.indexCast v3507
  let c0_1626 : Index := 0#32
  let c0_1627 : Index := 0#32
  ![8, v4394.toNat, 0, 0]
def k0_off207 (i : grid0.Coords) (k0_t2 : Fin (k0_t2_loop i).trips) : Fin 4 → Nat :=
  let c9_1628 : Index := 9#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4398 : Index := Scalar.indexCast v3507
  let c0_1629 : Index := 0#32
  let c0_1630 : Index := 0#32
  ![9, v4398.toNat, 0, 0]
def k0_off208 (i : grid0.Coords) (k0_t2 : Fin (k0_t2_loop i).trips) : Fin 4 → Nat :=
  let c10_1631 : Index := 10#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4402 : Index := Scalar.indexCast v3507
  let c0_1632 : Index := 0#32
  let c0_1633 : Index := 0#32
  ![10, v4402.toNat, 0, 0]
def k0_off209 (i : grid0.Coords) (k0_t2 : Fin (k0_t2_loop i).trips) : Fin 4 → Nat :=
  let c11_1634 : Index := 11#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4406 : Index := Scalar.indexCast v3507
  let c0_1635 : Index := 0#32
  let c0_1636 : Index := 0#32
  ![11, v4406.toNat, 0, 0]
def k0_off210 (i : grid0.Coords) (k0_t2 : Fin (k0_t2_loop i).trips) : Fin 4 → Nat :=
  let c12_1637 : Index := 12#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4410 : Index := Scalar.indexCast v3507
  let c0_1638 : Index := 0#32
  let c0_1639 : Index := 0#32
  ![12, v4410.toNat, 0, 0]
def k0_off211 (i : grid0.Coords) (k0_t2 : Fin (k0_t2_loop i).trips) : Fin 4 → Nat :=
  let c13_1640 : Index := 13#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4414 : Index := Scalar.indexCast v3507
  let c0_1641 : Index := 0#32
  let c0_1642 : Index := 0#32
  ![13, v4414.toNat, 0, 0]
def k0_off212 (i : grid0.Coords) (k0_t2 : Fin (k0_t2_loop i).trips) : Fin 4 → Nat :=
  let c14_1643 : Index := 14#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4418 : Index := Scalar.indexCast v3507
  let c0_1644 : Index := 0#32
  let c0_1645 : Index := 0#32
  ![14, v4418.toNat, 0, 0]
def k0_off213 (i : grid0.Coords) (k0_t2 : Fin (k0_t2_loop i).trips) : Fin 4 → Nat :=
  let c15_1646 : Index := 15#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4422 : Index := Scalar.indexCast v3507
  let c0_1647 : Index := 0#32
  let c0_1648 : Index := 0#32
  ![15, v4422.toNat, 0, 0]
def k0_off214 (i : grid0.Coords) (k0_t2 : Fin (k0_t2_loop i).trips) : Fin 4 → Nat :=
  let c16_1649 : Index := 16#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4426 : Index := Scalar.indexCast v3507
  let c0_1650 : Index := 0#32
  let c0_1651 : Index := 0#32
  ![16, v4426.toNat, 0, 0]
def k0_off215 (i : grid0.Coords) (k0_t2 : Fin (k0_t2_loop i).trips) : Fin 4 → Nat :=
  let c17_1652 : Index := 17#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4430 : Index := Scalar.indexCast v3507
  let c0_1653 : Index := 0#32
  let c0_1654 : Index := 0#32
  ![17, v4430.toNat, 0, 0]
def k0_off216 (i : grid0.Coords) (k0_t2 : Fin (k0_t2_loop i).trips) : Fin 4 → Nat :=
  let c18_1655 : Index := 18#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4434 : Index := Scalar.indexCast v3507
  let c0_1656 : Index := 0#32
  let c0_1657 : Index := 0#32
  ![18, v4434.toNat, 0, 0]
def k0_off217 (i : grid0.Coords) (k0_t2 : Fin (k0_t2_loop i).trips) : Fin 4 → Nat :=
  let c19_1658 : Index := 19#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4438 : Index := Scalar.indexCast v3507
  let c0_1659 : Index := 0#32
  let c0_1660 : Index := 0#32
  ![19, v4438.toNat, 0, 0]
def k0_off218 (i : grid0.Coords) (k0_t2 : Fin (k0_t2_loop i).trips) : Fin 4 → Nat :=
  let c20_1661 : Index := 20#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4442 : Index := Scalar.indexCast v3507
  let c0_1662 : Index := 0#32
  let c0_1663 : Index := 0#32
  ![20, v4442.toNat, 0, 0]
def k0_off219 (i : grid0.Coords) (k0_t2 : Fin (k0_t2_loop i).trips) : Fin 4 → Nat :=
  let c21_1664 : Index := 21#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4446 : Index := Scalar.indexCast v3507
  let c0_1665 : Index := 0#32
  let c0_1666 : Index := 0#32
  ![21, v4446.toNat, 0, 0]
def k0_off220 (i : grid0.Coords) (k0_t2 : Fin (k0_t2_loop i).trips) : Fin 4 → Nat :=
  let c22_1667 : Index := 22#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4450 : Index := Scalar.indexCast v3507
  let c0_1668 : Index := 0#32
  let c0_1669 : Index := 0#32
  ![22, v4450.toNat, 0, 0]
def k0_off221 (i : grid0.Coords) (k0_t2 : Fin (k0_t2_loop i).trips) : Fin 4 → Nat :=
  let c23_1670 : Index := 23#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4454 : Index := Scalar.indexCast v3507
  let c0_1671 : Index := 0#32
  let c0_1672 : Index := 0#32
  ![23, v4454.toNat, 0, 0]
def k0_off222 (i : grid0.Coords) (k0_t2 : Fin (k0_t2_loop i).trips) : Fin 4 → Nat :=
  let c24_1673 : Index := 24#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4458 : Index := Scalar.indexCast v3507
  let c0_1674 : Index := 0#32
  let c0_1675 : Index := 0#32
  ![24, v4458.toNat, 0, 0]
def k0_off223 (i : grid0.Coords) (k0_t2 : Fin (k0_t2_loop i).trips) : Fin 4 → Nat :=
  let c25_1676 : Index := 25#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4462 : Index := Scalar.indexCast v3507
  let c0_1677 : Index := 0#32
  let c0_1678 : Index := 0#32
  ![25, v4462.toNat, 0, 0]
def k0_off224 (i : grid0.Coords) (k0_t2 : Fin (k0_t2_loop i).trips) : Fin 4 → Nat :=
  let c26_1679 : Index := 26#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4466 : Index := Scalar.indexCast v3507
  let c0_1680 : Index := 0#32
  let c0_1681 : Index := 0#32
  ![26, v4466.toNat, 0, 0]
def k0_off225 (i : grid0.Coords) (k0_t2 : Fin (k0_t2_loop i).trips) : Fin 4 → Nat :=
  let c27_1682 : Index := 27#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4470 : Index := Scalar.indexCast v3507
  let c0_1683 : Index := 0#32
  let c0_1684 : Index := 0#32
  ![27, v4470.toNat, 0, 0]
def k0_off226 (i : grid0.Coords) (k0_t2 : Fin (k0_t2_loop i).trips) : Fin 4 → Nat :=
  let c28_1685 : Index := 28#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4474 : Index := Scalar.indexCast v3507
  let c0_1686 : Index := 0#32
  let c0_1687 : Index := 0#32
  ![28, v4474.toNat, 0, 0]
def k0_off227 (i : grid0.Coords) (k0_t2 : Fin (k0_t2_loop i).trips) : Fin 4 → Nat :=
  let c29_1688 : Index := 29#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4478 : Index := Scalar.indexCast v3507
  let c0_1689 : Index := 0#32
  let c0_1690 : Index := 0#32
  ![29, v4478.toNat, 0, 0]
def k0_off228 (i : grid0.Coords) (k0_t2 : Fin (k0_t2_loop i).trips) : Fin 4 → Nat :=
  let c30_1691 : Index := 30#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4482 : Index := Scalar.indexCast v3507
  let c0_1692 : Index := 0#32
  let c0_1693 : Index := 0#32
  ![30, v4482.toNat, 0, 0]
def k0_off229 (i : grid0.Coords) (k0_t2 : Fin (k0_t2_loop i).trips) : Fin 4 → Nat :=
  let c31_1694 : Index := 31#32
  let c2_i32_906 : BitVec 32 := 2#32
  let c0_i32_904 : BitVec 32 := 0#32
  let c2_i32_903 : BitVec 32 := 2#32
  let c0_i32_107 : BitVec 32 := 0#32
  let c1_i32_109 : BitVec 32 := 1#32
  let arg24 : BitVec 32 := Scf.iv c0_i32_107 c1_i32_109 k0_t2
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4486 : Index := Scalar.indexCast v3507
  let c0_1695 : Index := 0#32
  let c0_1696 : Index := 0#32
  ![31, v4486.toNat, 0, 0]
@[reducible] def k0_t3_loop (i : grid0.Coords) : Scf.Loop 32 :=
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let v208 : BitVec 32 := Scalar.addi c0_i32_107 v207
  let c1_i32_110 : BitVec 32 := 1#32
  ⟨v211, v208, c1_i32_110⟩
def k0_mult39 (i : grid0.Coords) (k0_t3 : Fin (k0_t3_loop i).trips) : BitVec 32 :=
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_146 : BitVec 32 := 1#32
  let v278 : BitVec 32 := Scalar.addi v277 c1_i32_146
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v279 : BitVec 32 := Scalar.minsi v278 v72
  let c256_i32_147 : BitVec 32 := 256#32
  let v280 : BitVec 32 := Scalar.muli v279 c256_i32_147
  v280
def k0_off230 (i : grid0.Coords) (k0_t3 : Fin (k0_t3_loop i).trips) (c1_i32_146 : BitVec 32) : Fin 2 → Nat :=
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let v278 : BitVec 32 := Scalar.addi v277 c1_i32_146
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v279 : BitVec 32 := Scalar.minsi v278 v72
  let c256_i32_147 : BitVec 32 := 256#32
  let v280 : BitVec 32 := Scalar.muli v279 c256_i32_147
  let v281 : BitVec 32 := v280
  let v282 : Index := Scalar.indexCast v281
  let c0_148 : Index := 0#32
  ![v282.toNat, 0]
def k0_off231 (i : grid0.Coords) : Fin 3 → Nat :=
  let arg1 : BitVec 32 := BitVec.ofNat 32 (i 1).val
  let c8_i32 : BitVec 32 := 8#32
  let c0_i32_36 : BitVec 32 := 0#32
  let v73 : BitVec 1 := Scalar.cmpi .eq c8_i32 c0_i32_36
  let c1_i32_37 : BitVec 32 := 1#32
  let v74 : BitVec 32 := Scalar.select v73 c1_i32_37 c8_i32
  let v75 : BitVec 32 := Scalar.remsi arg1 v74
  let c0_i32_39 : BitVec 32 := 0#32
  let v77 : BitVec 1 := Scalar.cmpi .slt v75 c0_i32_39
  let c0_i32_40 : BitVec 32 := 0#32
  let v78 : BitVec 1 := Scalar.cmpi .slt v74 c0_i32_40
  let v79 : BitVec 1 := Scalar.xori v77 v78
  let c0_i32_38 : BitVec 32 := 0#32
  let v76 : BitVec 1 := Scalar.cmpi .ne v75 c0_i32_38
  let v80 : BitVec 1 := Scalar.andi v79 v76
  let v81 : BitVec 32 := Scalar.addi v75 v74
  let v82 : BitVec 32 := Scalar.select v80 v81 v75
  let v284 : Index := Scalar.indexCast v82
  let c0_149 : Index := 0#32
  let c0_150 : Index := 0#32
  ![v284.toNat, 0, 0]
def k0_mult40 (i : grid0.Coords) (k0_t3 : Fin (k0_t3_loop i).trips) : BitVec 32 :=
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v292 : BitVec 32 := Scalar.minsi v277 v72
  let c256_i32_154 : BitVec 32 := 256#32
  let v293 : BitVec 32 := Scalar.muli v292 c256_i32_154
  v293
def k0_mult41 (i : grid0.Coords) (k0_t3 : Fin (k0_t3_loop i).trips) : BitVec 32 :=
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v292 : BitVec 32 := Scalar.minsi v277 v72
  let c256_i32_154 : BitVec 32 := 256#32
  let v293 : BitVec 32 := Scalar.muli v292 c256_i32_154
  let v294 : BitVec 32 := v293
  let c0_i32_155 : BitVec 32 := 0#32
  let v298 : BitVec 32 := Scalar.addi v294 c0_i32_155
  v298
def k0_off232 (i : grid0.Coords) (k0_t3 : Fin (k0_t3_loop i).trips) (c0_i32_155 : BitVec 32) : Fin 2 → Nat :=
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v292 : BitVec 32 := Scalar.minsi v277 v72
  let c256_i32_154 : BitVec 32 := 256#32
  let v293 : BitVec 32 := Scalar.muli v292 c256_i32_154
  let v294 : BitVec 32 := v293
  let v298 : BitVec 32 := Scalar.addi v294 c0_i32_155
  let v299 : BitVec 32 := v298
  let v300 : Index := Scalar.indexCast v299
  let c0_156 : Index := 0#32
  ![v300.toNat, 0]
def k0_mult42 (i : grid0.Coords) (k0_t3 : Fin (k0_t3_loop i).trips) : BitVec 32 :=
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v292 : BitVec 32 := Scalar.minsi v277 v72
  let c256_i32_154 : BitVec 32 := 256#32
  let v293 : BitVec 32 := Scalar.muli v292 c256_i32_154
  let v294 : BitVec 32 := v293
  let c128_i32_161 : BitVec 32 := 128#32
  let v311 : BitVec 32 := Scalar.addi v294 c128_i32_161
  v311
def k0_off233 (i : grid0.Coords) (k0_t3 : Fin (k0_t3_loop i).trips) : Fin 2 → Nat :=
  let c0_168 : Index := 0#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v292 : BitVec 32 := Scalar.minsi v277 v72
  let c256_i32_154 : BitVec 32 := 256#32
  let v293 : BitVec 32 := Scalar.muli v292 c256_i32_154
  let v294 : BitVec 32 := v293
  let v337 : Index := Scalar.indexCast v294
  ![0, v337.toNat]
def k0_mult43 (i : grid0.Coords) (k0_t3 : Fin (k0_t3_loop i).trips) : BitVec 32 :=
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c256_i32_182 : BitVec 32 := 256#32
  let v361 : BitVec 32 := Scalar.muli v277 c256_i32_182
  v361
def k0_off234 (i : grid0.Coords) (k0_t3 : Fin (k0_t3_loop i).trips) : Fin 2 → Nat :=
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c256_i32_182 : BitVec 32 := 256#32
  let v361 : BitVec 32 := Scalar.muli v277 c256_i32_182
  let v362 : BitVec 32 := v361
  let v363 : Index := Scalar.indexCast v362
  let c0_183 : Index := 0#32
  ![v363.toNat, 0]
def k0_off235 (i : grid0.Coords) : Fin 3 → Nat :=
  let arg1 : BitVec 32 := BitVec.ofNat 32 (i 1).val
  let c1_i32_174 : BitVec 32 := 1#32
  let v347 : BitVec 32 := Scalar.addi arg1 c1_i32_174
  let c8_i32_175 : BitVec 32 := 8#32
  let c0_i32_176 : BitVec 32 := 0#32
  let v348 : BitVec 1 := Scalar.cmpi .eq c8_i32_175 c0_i32_176
  let c1_i32_177 : BitVec 32 := 1#32
  let v349 : BitVec 32 := Scalar.select v348 c1_i32_177 c8_i32_175
  let v350 : BitVec 32 := Scalar.remsi v347 v349
  let c0_i32_179 : BitVec 32 := 0#32
  let v352 : BitVec 1 := Scalar.cmpi .slt v350 c0_i32_179
  let c0_i32_180 : BitVec 32 := 0#32
  let v353 : BitVec 1 := Scalar.cmpi .slt v349 c0_i32_180
  let v354 : BitVec 1 := Scalar.xori v352 v353
  let c0_i32_178 : BitVec 32 := 0#32
  let v351 : BitVec 1 := Scalar.cmpi .ne v350 c0_i32_178
  let v355 : BitVec 1 := Scalar.andi v354 v351
  let v356 : BitVec 32 := Scalar.addi v350 v349
  let v357 : BitVec 32 := Scalar.select v355 v356 v350
  let v365 : Index := Scalar.indexCast v357
  let c0_184 : Index := 0#32
  let c0_185 : Index := 0#32
  ![v365.toNat, 0, 0]
def k0_mult44 (i : grid0.Coords) (k0_t3 : Fin (k0_t3_loop i).trips) : BitVec 32 :=
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c256_i32_187 : BitVec 32 := 256#32
  let v369 : BitVec 32 := Scalar.muli v277 c256_i32_187
  let c0_i32_188 : BitVec 32 := 0#32
  let v370 : BitVec 32 := Scalar.addi v369 c0_i32_188
  v370
def k0_off236 (i : grid0.Coords) (k0_t3 : Fin (k0_t3_loop i).trips) (c0_i32_188 : BitVec 32) : Fin 2 → Nat :=
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c256_i32_187 : BitVec 32 := 256#32
  let v369 : BitVec 32 := Scalar.muli v277 c256_i32_187
  let v370 : BitVec 32 := Scalar.addi v369 c0_i32_188
  let v371 : BitVec 32 := v370
  let v403 : Index := Scalar.indexCast v371
  let c0_191 : Index := 0#32
  ![v403.toNat, 0]
def k0_mult45 (i : grid0.Coords) (k0_t3 : Fin (k0_t3_loop i).trips) : BitVec 32 :=
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c256_i32_193 : BitVec 32 := 256#32
  let v425 : BitVec 32 := Scalar.muli v277 c256_i32_193
  let c128_i32_194 : BitVec 32 := 128#32
  let v426 : BitVec 32 := Scalar.addi v425 c128_i32_194
  v426
def k0_off237 (i : grid0.Coords) (k0_t3 : Fin (k0_t3_loop i).trips) : Fin 4 → Nat :=
  let c0_435 : Index := 0#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let v1201 : Index := Scalar.indexCast v277
  let c0_436 : Index := 0#32
  let c0_437 : Index := 0#32
  ![0, v1201.toNat, 0, 0]
def k0_off238 (i : grid0.Coords) (k0_t3 : Fin (k0_t3_loop i).trips) : Fin 4 → Nat :=
  let c1_438 : Index := 1#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let v1205 : Index := Scalar.indexCast v277
  let c0_439 : Index := 0#32
  let c0_440 : Index := 0#32
  ![1, v1205.toNat, 0, 0]
def k0_off239 (i : grid0.Coords) (k0_t3 : Fin (k0_t3_loop i).trips) : Fin 4 → Nat :=
  let c2_441 : Index := 2#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let v1209 : Index := Scalar.indexCast v277
  let c0_442 : Index := 0#32
  let c0_443 : Index := 0#32
  ![2, v1209.toNat, 0, 0]
def k0_off240 (i : grid0.Coords) (k0_t3 : Fin (k0_t3_loop i).trips) : Fin 4 → Nat :=
  let c3_444 : Index := 3#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let v1213 : Index := Scalar.indexCast v277
  let c0_445 : Index := 0#32
  let c0_446 : Index := 0#32
  ![3, v1213.toNat, 0, 0]
def k0_off241 (i : grid0.Coords) (k0_t3 : Fin (k0_t3_loop i).trips) : Fin 4 → Nat :=
  let c4_447 : Index := 4#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let v1217 : Index := Scalar.indexCast v277
  let c0_448 : Index := 0#32
  let c0_449 : Index := 0#32
  ![4, v1217.toNat, 0, 0]
def k0_off242 (i : grid0.Coords) (k0_t3 : Fin (k0_t3_loop i).trips) : Fin 4 → Nat :=
  let c5_450 : Index := 5#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let v1221 : Index := Scalar.indexCast v277
  let c0_451 : Index := 0#32
  let c0_452 : Index := 0#32
  ![5, v1221.toNat, 0, 0]
def k0_off243 (i : grid0.Coords) (k0_t3 : Fin (k0_t3_loop i).trips) : Fin 4 → Nat :=
  let c6_453 : Index := 6#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let v1225 : Index := Scalar.indexCast v277
  let c0_454 : Index := 0#32
  let c0_455 : Index := 0#32
  ![6, v1225.toNat, 0, 0]
def k0_off244 (i : grid0.Coords) (k0_t3 : Fin (k0_t3_loop i).trips) : Fin 4 → Nat :=
  let c7_456 : Index := 7#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let v1229 : Index := Scalar.indexCast v277
  let c0_457 : Index := 0#32
  let c0_458 : Index := 0#32
  ![7, v1229.toNat, 0, 0]
def k0_off245 (i : grid0.Coords) (k0_t3 : Fin (k0_t3_loop i).trips) : Fin 4 → Nat :=
  let c8 : Index := 8#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let v1233 : Index := Scalar.indexCast v277
  let c0_459 : Index := 0#32
  let c0_460 : Index := 0#32
  ![8, v1233.toNat, 0, 0]
def k0_off246 (i : grid0.Coords) (k0_t3 : Fin (k0_t3_loop i).trips) : Fin 4 → Nat :=
  let c9 : Index := 9#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let v1237 : Index := Scalar.indexCast v277
  let c0_461 : Index := 0#32
  let c0_462 : Index := 0#32
  ![9, v1237.toNat, 0, 0]
def k0_off247 (i : grid0.Coords) (k0_t3 : Fin (k0_t3_loop i).trips) : Fin 4 → Nat :=
  let c10 : Index := 10#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let v1241 : Index := Scalar.indexCast v277
  let c0_463 : Index := 0#32
  let c0_464 : Index := 0#32
  ![10, v1241.toNat, 0, 0]
def k0_off248 (i : grid0.Coords) (k0_t3 : Fin (k0_t3_loop i).trips) : Fin 4 → Nat :=
  let c11 : Index := 11#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let v1245 : Index := Scalar.indexCast v277
  let c0_465 : Index := 0#32
  let c0_466 : Index := 0#32
  ![11, v1245.toNat, 0, 0]
def k0_off249 (i : grid0.Coords) (k0_t3 : Fin (k0_t3_loop i).trips) : Fin 4 → Nat :=
  let c12 : Index := 12#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let v1249 : Index := Scalar.indexCast v277
  let c0_467 : Index := 0#32
  let c0_468 : Index := 0#32
  ![12, v1249.toNat, 0, 0]
def k0_off250 (i : grid0.Coords) (k0_t3 : Fin (k0_t3_loop i).trips) : Fin 4 → Nat :=
  let c13 : Index := 13#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let v1253 : Index := Scalar.indexCast v277
  let c0_469 : Index := 0#32
  let c0_470 : Index := 0#32
  ![13, v1253.toNat, 0, 0]
def k0_off251 (i : grid0.Coords) (k0_t3 : Fin (k0_t3_loop i).trips) : Fin 4 → Nat :=
  let c14 : Index := 14#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let v1257 : Index := Scalar.indexCast v277
  let c0_471 : Index := 0#32
  let c0_472 : Index := 0#32
  ![14, v1257.toNat, 0, 0]
def k0_off252 (i : grid0.Coords) (k0_t3 : Fin (k0_t3_loop i).trips) : Fin 4 → Nat :=
  let c15 : Index := 15#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let v1261 : Index := Scalar.indexCast v277
  let c0_473 : Index := 0#32
  let c0_474 : Index := 0#32
  ![15, v1261.toNat, 0, 0]
def k0_off253 (i : grid0.Coords) (k0_t3 : Fin (k0_t3_loop i).trips) : Fin 4 → Nat :=
  let c16 : Index := 16#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let v1265 : Index := Scalar.indexCast v277
  let c0_475 : Index := 0#32
  let c0_476 : Index := 0#32
  ![16, v1265.toNat, 0, 0]
def k0_off254 (i : grid0.Coords) (k0_t3 : Fin (k0_t3_loop i).trips) : Fin 4 → Nat :=
  let c17 : Index := 17#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let v1269 : Index := Scalar.indexCast v277
  let c0_477 : Index := 0#32
  let c0_478 : Index := 0#32
  ![17, v1269.toNat, 0, 0]
def k0_off255 (i : grid0.Coords) (k0_t3 : Fin (k0_t3_loop i).trips) : Fin 4 → Nat :=
  let c18 : Index := 18#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let v1273 : Index := Scalar.indexCast v277
  let c0_479 : Index := 0#32
  let c0_480 : Index := 0#32
  ![18, v1273.toNat, 0, 0]
def k0_off256 (i : grid0.Coords) (k0_t3 : Fin (k0_t3_loop i).trips) : Fin 4 → Nat :=
  let c19 : Index := 19#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let v1277 : Index := Scalar.indexCast v277
  let c0_481 : Index := 0#32
  let c0_482 : Index := 0#32
  ![19, v1277.toNat, 0, 0]
def k0_off257 (i : grid0.Coords) (k0_t3 : Fin (k0_t3_loop i).trips) : Fin 4 → Nat :=
  let c20 : Index := 20#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let v1281 : Index := Scalar.indexCast v277
  let c0_483 : Index := 0#32
  let c0_484 : Index := 0#32
  ![20, v1281.toNat, 0, 0]
def k0_off258 (i : grid0.Coords) (k0_t3 : Fin (k0_t3_loop i).trips) : Fin 4 → Nat :=
  let c21 : Index := 21#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let v1285 : Index := Scalar.indexCast v277
  let c0_485 : Index := 0#32
  let c0_486 : Index := 0#32
  ![21, v1285.toNat, 0, 0]
def k0_off259 (i : grid0.Coords) (k0_t3 : Fin (k0_t3_loop i).trips) : Fin 4 → Nat :=
  let c22 : Index := 22#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let v1289 : Index := Scalar.indexCast v277
  let c0_487 : Index := 0#32
  let c0_488 : Index := 0#32
  ![22, v1289.toNat, 0, 0]
def k0_off260 (i : grid0.Coords) (k0_t3 : Fin (k0_t3_loop i).trips) : Fin 4 → Nat :=
  let c23 : Index := 23#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let v1293 : Index := Scalar.indexCast v277
  let c0_489 : Index := 0#32
  let c0_490 : Index := 0#32
  ![23, v1293.toNat, 0, 0]
def k0_off261 (i : grid0.Coords) (k0_t3 : Fin (k0_t3_loop i).trips) : Fin 4 → Nat :=
  let c24 : Index := 24#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let v1297 : Index := Scalar.indexCast v277
  let c0_491 : Index := 0#32
  let c0_492 : Index := 0#32
  ![24, v1297.toNat, 0, 0]
def k0_off262 (i : grid0.Coords) (k0_t3 : Fin (k0_t3_loop i).trips) : Fin 4 → Nat :=
  let c25 : Index := 25#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let v1301 : Index := Scalar.indexCast v277
  let c0_493 : Index := 0#32
  let c0_494 : Index := 0#32
  ![25, v1301.toNat, 0, 0]
def k0_off263 (i : grid0.Coords) (k0_t3 : Fin (k0_t3_loop i).trips) : Fin 4 → Nat :=
  let c26 : Index := 26#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let v1305 : Index := Scalar.indexCast v277
  let c0_495 : Index := 0#32
  let c0_496 : Index := 0#32
  ![26, v1305.toNat, 0, 0]
def k0_off264 (i : grid0.Coords) (k0_t3 : Fin (k0_t3_loop i).trips) : Fin 4 → Nat :=
  let c27 : Index := 27#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let v1309 : Index := Scalar.indexCast v277
  let c0_497 : Index := 0#32
  let c0_498 : Index := 0#32
  ![27, v1309.toNat, 0, 0]
def k0_off265 (i : grid0.Coords) (k0_t3 : Fin (k0_t3_loop i).trips) : Fin 4 → Nat :=
  let c28 : Index := 28#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let v1313 : Index := Scalar.indexCast v277
  let c0_499 : Index := 0#32
  let c0_500 : Index := 0#32
  ![28, v1313.toNat, 0, 0]
def k0_off266 (i : grid0.Coords) (k0_t3 : Fin (k0_t3_loop i).trips) : Fin 4 → Nat :=
  let c29 : Index := 29#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let v1317 : Index := Scalar.indexCast v277
  let c0_501 : Index := 0#32
  let c0_502 : Index := 0#32
  ![29, v1317.toNat, 0, 0]
def k0_off267 (i : grid0.Coords) (k0_t3 : Fin (k0_t3_loop i).trips) : Fin 4 → Nat :=
  let c30 : Index := 30#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let v1321 : Index := Scalar.indexCast v277
  let c0_503 : Index := 0#32
  let c0_504 : Index := 0#32
  ![30, v1321.toNat, 0, 0]
def k0_off268 (i : grid0.Coords) (k0_t3 : Fin (k0_t3_loop i).trips) : Fin 4 → Nat :=
  let c31 : Index := 31#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let v1325 : Index := Scalar.indexCast v277
  let c0_505 : Index := 0#32
  let c0_506 : Index := 0#32
  ![31, v1325.toNat, 0, 0]
def k0_mult46 (i : grid0.Coords) (k0_t3 : Fin (k0_t3_loop i).trips) : BitVec 32 :=
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c2_i32_507 : BitVec 32 := 2#32
  let v1329 : BitVec 32 := Scalar.addi v277 c2_i32_507
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v1330 : BitVec 32 := Scalar.minsi v1329 v72
  let c256_i32_508 : BitVec 32 := 256#32
  let v1331 : BitVec 32 := Scalar.muli v1330 c256_i32_508
  v1331
def k0_mult47 (i : grid0.Coords) (k0_t3 : Fin (k0_t3_loop i).trips) : BitVec 32 :=
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_515 : BitVec 32 := 1#32
  let v1343 : BitVec 32 := Scalar.addi v277 c1_i32_515
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v1344 : BitVec 32 := Scalar.minsi v1343 v72
  let c256_i32_516 : BitVec 32 := 256#32
  let v1345 : BitVec 32 := Scalar.muli v1344 c256_i32_516
  v1345
def k0_mult48 (i : grid0.Coords) (k0_t3 : Fin (k0_t3_loop i).trips) : BitVec 32 :=
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_515 : BitVec 32 := 1#32
  let v1343 : BitVec 32 := Scalar.addi v277 c1_i32_515
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v1344 : BitVec 32 := Scalar.minsi v1343 v72
  let c256_i32_516 : BitVec 32 := 256#32
  let v1345 : BitVec 32 := Scalar.muli v1344 c256_i32_516
  let v1346 : BitVec 32 := v1345
  let c0_i32_517 : BitVec 32 := 0#32
  let v1350 : BitVec 32 := Scalar.addi v1346 c0_i32_517
  v1350
def k0_off269 (i : grid0.Coords) (k0_t3 : Fin (k0_t3_loop i).trips) (c0_i32_517 : BitVec 32) : Fin 2 → Nat :=
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_515 : BitVec 32 := 1#32
  let v1343 : BitVec 32 := Scalar.addi v277 c1_i32_515
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v1344 : BitVec 32 := Scalar.minsi v1343 v72
  let c256_i32_516 : BitVec 32 := 256#32
  let v1345 : BitVec 32 := Scalar.muli v1344 c256_i32_516
  let v1346 : BitVec 32 := v1345
  let v1350 : BitVec 32 := Scalar.addi v1346 c0_i32_517
  let v1351 : BitVec 32 := v1350
  let v1352 : Index := Scalar.indexCast v1351
  let c0_518 : Index := 0#32
  ![v1352.toNat, 0]
def k0_mult49 (i : grid0.Coords) (k0_t3 : Fin (k0_t3_loop i).trips) : BitVec 32 :=
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_515 : BitVec 32 := 1#32
  let v1343 : BitVec 32 := Scalar.addi v277 c1_i32_515
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v1344 : BitVec 32 := Scalar.minsi v1343 v72
  let c256_i32_516 : BitVec 32 := 256#32
  let v1345 : BitVec 32 := Scalar.muli v1344 c256_i32_516
  let v1346 : BitVec 32 := v1345
  let c128_i32_523 : BitVec 32 := 128#32
  let v1363 : BitVec 32 := Scalar.addi v1346 c128_i32_523
  v1363
def k0_off270 (i : grid0.Coords) (k0_t3 : Fin (k0_t3_loop i).trips) : Fin 2 → Nat :=
  let c0_531 : Index := 0#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_515 : BitVec 32 := 1#32
  let v1343 : BitVec 32 := Scalar.addi v277 c1_i32_515
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v1344 : BitVec 32 := Scalar.minsi v1343 v72
  let c256_i32_516 : BitVec 32 := 256#32
  let v1345 : BitVec 32 := Scalar.muli v1344 c256_i32_516
  let v1346 : BitVec 32 := v1345
  let v1389 : Index := Scalar.indexCast v1346
  ![0, v1389.toNat]
def k0_mult50 (i : grid0.Coords) (k0_t3 : Fin (k0_t3_loop i).trips) : BitVec 32 :=
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let c256_i32_546 : BitVec 32 := 256#32
  let v1414 : BitVec 32 := Scalar.muli v1399 c256_i32_546
  v1414
def k0_off271 (i : grid0.Coords) (k0_t3 : Fin (k0_t3_loop i).trips) : Fin 2 → Nat :=
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let c256_i32_546 : BitVec 32 := 256#32
  let v1414 : BitVec 32 := Scalar.muli v1399 c256_i32_546
  let v1415 : BitVec 32 := v1414
  let v1416 : Index := Scalar.indexCast v1415
  let c0_547 : Index := 0#32
  ![v1416.toNat, 0]
def k0_mult51 (i : grid0.Coords) (k0_t3 : Fin (k0_t3_loop i).trips) : BitVec 32 :=
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let c256_i32_551 : BitVec 32 := 256#32
  let v1422 : BitVec 32 := Scalar.muli v1399 c256_i32_551
  let c0_i32_552 : BitVec 32 := 0#32
  let v1423 : BitVec 32 := Scalar.addi v1422 c0_i32_552
  v1423
def k0_off272 (i : grid0.Coords) (k0_t3 : Fin (k0_t3_loop i).trips) (c0_i32_552 : BitVec 32) : Fin 2 → Nat :=
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let c256_i32_551 : BitVec 32 := 256#32
  let v1422 : BitVec 32 := Scalar.muli v1399 c256_i32_551
  let v1423 : BitVec 32 := Scalar.addi v1422 c0_i32_552
  let v1424 : BitVec 32 := v1423
  let v1456 : Index := Scalar.indexCast v1424
  let c0_557 : Index := 0#32
  ![v1456.toNat, 0]
def k0_mult52 (i : grid0.Coords) (k0_t3 : Fin (k0_t3_loop i).trips) : BitVec 32 :=
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let c256_i32_559 : BitVec 32 := 256#32
  let v1478 : BitVec 32 := Scalar.muli v1399 c256_i32_559
  let c128_i32_560 : BitVec 32 := 128#32
  let v1479 : BitVec 32 := Scalar.addi v1478 c128_i32_560
  v1479
def k0_off273 (i : grid0.Coords) (k0_t3 : Fin (k0_t3_loop i).trips) : Fin 4 → Nat :=
  let c0_807 : Index := 0#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2254 : Index := Scalar.indexCast v1399
  let c0_808 : Index := 0#32
  let c0_809 : Index := 0#32
  ![0, v2254.toNat, 0, 0]
def k0_off274 (i : grid0.Coords) (k0_t3 : Fin (k0_t3_loop i).trips) : Fin 4 → Nat :=
  let c1_810 : Index := 1#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2258 : Index := Scalar.indexCast v1399
  let c0_811 : Index := 0#32
  let c0_812 : Index := 0#32
  ![1, v2258.toNat, 0, 0]
def k0_off275 (i : grid0.Coords) (k0_t3 : Fin (k0_t3_loop i).trips) : Fin 4 → Nat :=
  let c2_813 : Index := 2#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2262 : Index := Scalar.indexCast v1399
  let c0_814 : Index := 0#32
  let c0_815 : Index := 0#32
  ![2, v2262.toNat, 0, 0]
def k0_off276 (i : grid0.Coords) (k0_t3 : Fin (k0_t3_loop i).trips) : Fin 4 → Nat :=
  let c3_816 : Index := 3#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2266 : Index := Scalar.indexCast v1399
  let c0_817 : Index := 0#32
  let c0_818 : Index := 0#32
  ![3, v2266.toNat, 0, 0]
def k0_off277 (i : grid0.Coords) (k0_t3 : Fin (k0_t3_loop i).trips) : Fin 4 → Nat :=
  let c4_819 : Index := 4#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2270 : Index := Scalar.indexCast v1399
  let c0_820 : Index := 0#32
  let c0_821 : Index := 0#32
  ![4, v2270.toNat, 0, 0]
def k0_off278 (i : grid0.Coords) (k0_t3 : Fin (k0_t3_loop i).trips) : Fin 4 → Nat :=
  let c5_822 : Index := 5#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2274 : Index := Scalar.indexCast v1399
  let c0_823 : Index := 0#32
  let c0_824 : Index := 0#32
  ![5, v2274.toNat, 0, 0]
def k0_off279 (i : grid0.Coords) (k0_t3 : Fin (k0_t3_loop i).trips) : Fin 4 → Nat :=
  let c6_825 : Index := 6#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2278 : Index := Scalar.indexCast v1399
  let c0_826 : Index := 0#32
  let c0_827 : Index := 0#32
  ![6, v2278.toNat, 0, 0]
def k0_off280 (i : grid0.Coords) (k0_t3 : Fin (k0_t3_loop i).trips) : Fin 4 → Nat :=
  let c7_828 : Index := 7#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2282 : Index := Scalar.indexCast v1399
  let c0_829 : Index := 0#32
  let c0_830 : Index := 0#32
  ![7, v2282.toNat, 0, 0]
def k0_off281 (i : grid0.Coords) (k0_t3 : Fin (k0_t3_loop i).trips) : Fin 4 → Nat :=
  let c8_831 : Index := 8#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2286 : Index := Scalar.indexCast v1399
  let c0_832 : Index := 0#32
  let c0_833 : Index := 0#32
  ![8, v2286.toNat, 0, 0]
def k0_off282 (i : grid0.Coords) (k0_t3 : Fin (k0_t3_loop i).trips) : Fin 4 → Nat :=
  let c9_834 : Index := 9#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2290 : Index := Scalar.indexCast v1399
  let c0_835 : Index := 0#32
  let c0_836 : Index := 0#32
  ![9, v2290.toNat, 0, 0]
def k0_off283 (i : grid0.Coords) (k0_t3 : Fin (k0_t3_loop i).trips) : Fin 4 → Nat :=
  let c10_837 : Index := 10#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2294 : Index := Scalar.indexCast v1399
  let c0_838 : Index := 0#32
  let c0_839 : Index := 0#32
  ![10, v2294.toNat, 0, 0]
def k0_off284 (i : grid0.Coords) (k0_t3 : Fin (k0_t3_loop i).trips) : Fin 4 → Nat :=
  let c11_840 : Index := 11#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2298 : Index := Scalar.indexCast v1399
  let c0_841 : Index := 0#32
  let c0_842 : Index := 0#32
  ![11, v2298.toNat, 0, 0]
def k0_off285 (i : grid0.Coords) (k0_t3 : Fin (k0_t3_loop i).trips) : Fin 4 → Nat :=
  let c12_843 : Index := 12#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2302 : Index := Scalar.indexCast v1399
  let c0_844 : Index := 0#32
  let c0_845 : Index := 0#32
  ![12, v2302.toNat, 0, 0]
def k0_off286 (i : grid0.Coords) (k0_t3 : Fin (k0_t3_loop i).trips) : Fin 4 → Nat :=
  let c13_846 : Index := 13#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2306 : Index := Scalar.indexCast v1399
  let c0_847 : Index := 0#32
  let c0_848 : Index := 0#32
  ![13, v2306.toNat, 0, 0]
def k0_off287 (i : grid0.Coords) (k0_t3 : Fin (k0_t3_loop i).trips) : Fin 4 → Nat :=
  let c14_849 : Index := 14#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2310 : Index := Scalar.indexCast v1399
  let c0_850 : Index := 0#32
  let c0_851 : Index := 0#32
  ![14, v2310.toNat, 0, 0]
def k0_off288 (i : grid0.Coords) (k0_t3 : Fin (k0_t3_loop i).trips) : Fin 4 → Nat :=
  let c15_852 : Index := 15#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2314 : Index := Scalar.indexCast v1399
  let c0_853 : Index := 0#32
  let c0_854 : Index := 0#32
  ![15, v2314.toNat, 0, 0]
def k0_off289 (i : grid0.Coords) (k0_t3 : Fin (k0_t3_loop i).trips) : Fin 4 → Nat :=
  let c16_855 : Index := 16#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2318 : Index := Scalar.indexCast v1399
  let c0_856 : Index := 0#32
  let c0_857 : Index := 0#32
  ![16, v2318.toNat, 0, 0]
def k0_off290 (i : grid0.Coords) (k0_t3 : Fin (k0_t3_loop i).trips) : Fin 4 → Nat :=
  let c17_858 : Index := 17#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2322 : Index := Scalar.indexCast v1399
  let c0_859 : Index := 0#32
  let c0_860 : Index := 0#32
  ![17, v2322.toNat, 0, 0]
def k0_off291 (i : grid0.Coords) (k0_t3 : Fin (k0_t3_loop i).trips) : Fin 4 → Nat :=
  let c18_861 : Index := 18#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2326 : Index := Scalar.indexCast v1399
  let c0_862 : Index := 0#32
  let c0_863 : Index := 0#32
  ![18, v2326.toNat, 0, 0]
def k0_off292 (i : grid0.Coords) (k0_t3 : Fin (k0_t3_loop i).trips) : Fin 4 → Nat :=
  let c19_864 : Index := 19#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2330 : Index := Scalar.indexCast v1399
  let c0_865 : Index := 0#32
  let c0_866 : Index := 0#32
  ![19, v2330.toNat, 0, 0]
def k0_off293 (i : grid0.Coords) (k0_t3 : Fin (k0_t3_loop i).trips) : Fin 4 → Nat :=
  let c20_867 : Index := 20#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2334 : Index := Scalar.indexCast v1399
  let c0_868 : Index := 0#32
  let c0_869 : Index := 0#32
  ![20, v2334.toNat, 0, 0]
def k0_off294 (i : grid0.Coords) (k0_t3 : Fin (k0_t3_loop i).trips) : Fin 4 → Nat :=
  let c21_870 : Index := 21#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2338 : Index := Scalar.indexCast v1399
  let c0_871 : Index := 0#32
  let c0_872 : Index := 0#32
  ![21, v2338.toNat, 0, 0]
def k0_off295 (i : grid0.Coords) (k0_t3 : Fin (k0_t3_loop i).trips) : Fin 4 → Nat :=
  let c22_873 : Index := 22#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2342 : Index := Scalar.indexCast v1399
  let c0_874 : Index := 0#32
  let c0_875 : Index := 0#32
  ![22, v2342.toNat, 0, 0]
def k0_off296 (i : grid0.Coords) (k0_t3 : Fin (k0_t3_loop i).trips) : Fin 4 → Nat :=
  let c23_876 : Index := 23#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2346 : Index := Scalar.indexCast v1399
  let c0_877 : Index := 0#32
  let c0_878 : Index := 0#32
  ![23, v2346.toNat, 0, 0]
def k0_off297 (i : grid0.Coords) (k0_t3 : Fin (k0_t3_loop i).trips) : Fin 4 → Nat :=
  let c24_879 : Index := 24#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2350 : Index := Scalar.indexCast v1399
  let c0_880 : Index := 0#32
  let c0_881 : Index := 0#32
  ![24, v2350.toNat, 0, 0]
def k0_off298 (i : grid0.Coords) (k0_t3 : Fin (k0_t3_loop i).trips) : Fin 4 → Nat :=
  let c25_882 : Index := 25#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2354 : Index := Scalar.indexCast v1399
  let c0_883 : Index := 0#32
  let c0_884 : Index := 0#32
  ![25, v2354.toNat, 0, 0]
def k0_off299 (i : grid0.Coords) (k0_t3 : Fin (k0_t3_loop i).trips) : Fin 4 → Nat :=
  let c26_885 : Index := 26#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2358 : Index := Scalar.indexCast v1399
  let c0_886 : Index := 0#32
  let c0_887 : Index := 0#32
  ![26, v2358.toNat, 0, 0]
def k0_off300 (i : grid0.Coords) (k0_t3 : Fin (k0_t3_loop i).trips) : Fin 4 → Nat :=
  let c27_888 : Index := 27#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2362 : Index := Scalar.indexCast v1399
  let c0_889 : Index := 0#32
  let c0_890 : Index := 0#32
  ![27, v2362.toNat, 0, 0]
def k0_off301 (i : grid0.Coords) (k0_t3 : Fin (k0_t3_loop i).trips) : Fin 4 → Nat :=
  let c28_891 : Index := 28#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2366 : Index := Scalar.indexCast v1399
  let c0_892 : Index := 0#32
  let c0_893 : Index := 0#32
  ![28, v2366.toNat, 0, 0]
def k0_off302 (i : grid0.Coords) (k0_t3 : Fin (k0_t3_loop i).trips) : Fin 4 → Nat :=
  let c29_894 : Index := 29#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2370 : Index := Scalar.indexCast v1399
  let c0_895 : Index := 0#32
  let c0_896 : Index := 0#32
  ![29, v2370.toNat, 0, 0]
def k0_off303 (i : grid0.Coords) (k0_t3 : Fin (k0_t3_loop i).trips) : Fin 4 → Nat :=
  let c30_897 : Index := 30#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2374 : Index := Scalar.indexCast v1399
  let c0_898 : Index := 0#32
  let c0_899 : Index := 0#32
  ![30, v2374.toNat, 0, 0]
def k0_off304 (i : grid0.Coords) (k0_t3 : Fin (k0_t3_loop i).trips) : Fin 4 → Nat :=
  let c31_900 : Index := 31#32
  let c2_i32_145 : BitVec 32 := 2#32
  let c0_i32_144 : BitVec 32 := 0#32
  let c2_i32_143 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v275 : BitVec 32 := Scalar.muli c2_i32_143 arg24
  let v276 : BitVec 32 := Scalar.addi c0_i32_144 v275
  let v277 : BitVec 32 := Scalar.muli c2_i32_145 v276
  let c1_i32_537 : BitVec 32 := 1#32
  let v1399 : BitVec 32 := Scalar.addi v277 c1_i32_537
  let v2378 : Index := Scalar.indexCast v1399
  let c0_901 : Index := 0#32
  let c0_902 : Index := 0#32
  ![31, v2378.toNat, 0, 0]
def k0_mult53 (i : grid0.Coords) (k0_t3 : Fin (k0_t3_loop i).trips) : BitVec 32 :=
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_907 : BitVec 32 := 1#32
  let v2386 : BitVec 32 := Scalar.addi v2385 c1_i32_907
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v2387 : BitVec 32 := Scalar.minsi v2386 v72
  let c256_i32_908 : BitVec 32 := 256#32
  let v2388 : BitVec 32 := Scalar.muli v2387 c256_i32_908
  v2388
def k0_off305 (i : grid0.Coords) (k0_t3 : Fin (k0_t3_loop i).trips) (c1_i32_907 : BitVec 32) : Fin 2 → Nat :=
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v2386 : BitVec 32 := Scalar.addi v2385 c1_i32_907
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v2387 : BitVec 32 := Scalar.minsi v2386 v72
  let c256_i32_908 : BitVec 32 := 256#32
  let v2388 : BitVec 32 := Scalar.muli v2387 c256_i32_908
  let v2389 : BitVec 32 := v2388
  let v2390 : Index := Scalar.indexCast v2389
  let c0_909 : Index := 0#32
  ![v2390.toNat, 0]
def k0_mult54 (i : grid0.Coords) (k0_t3 : Fin (k0_t3_loop i).trips) : BitVec 32 :=
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v2400 : BitVec 32 := Scalar.minsi v2385 v72
  let c256_i32_915 : BitVec 32 := 256#32
  let v2401 : BitVec 32 := Scalar.muli v2400 c256_i32_915
  v2401
def k0_mult55 (i : grid0.Coords) (k0_t3 : Fin (k0_t3_loop i).trips) : BitVec 32 :=
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v2400 : BitVec 32 := Scalar.minsi v2385 v72
  let c256_i32_915 : BitVec 32 := 256#32
  let v2401 : BitVec 32 := Scalar.muli v2400 c256_i32_915
  let v2402 : BitVec 32 := v2401
  let c0_i32_916 : BitVec 32 := 0#32
  let v2406 : BitVec 32 := Scalar.addi v2402 c0_i32_916
  v2406
def k0_off306 (i : grid0.Coords) (k0_t3 : Fin (k0_t3_loop i).trips) (c0_i32_916 : BitVec 32) : Fin 2 → Nat :=
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v2400 : BitVec 32 := Scalar.minsi v2385 v72
  let c256_i32_915 : BitVec 32 := 256#32
  let v2401 : BitVec 32 := Scalar.muli v2400 c256_i32_915
  let v2402 : BitVec 32 := v2401
  let v2406 : BitVec 32 := Scalar.addi v2402 c0_i32_916
  let v2407 : BitVec 32 := v2406
  let v2408 : Index := Scalar.indexCast v2407
  let c0_917 : Index := 0#32
  ![v2408.toNat, 0]
def k0_mult56 (i : grid0.Coords) (k0_t3 : Fin (k0_t3_loop i).trips) : BitVec 32 :=
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v2400 : BitVec 32 := Scalar.minsi v2385 v72
  let c256_i32_915 : BitVec 32 := 256#32
  let v2401 : BitVec 32 := Scalar.muli v2400 c256_i32_915
  let v2402 : BitVec 32 := v2401
  let c128_i32_922 : BitVec 32 := 128#32
  let v2419 : BitVec 32 := Scalar.addi v2402 c128_i32_922
  v2419
def k0_off307 (i : grid0.Coords) (k0_t3 : Fin (k0_t3_loop i).trips) : Fin 2 → Nat :=
  let c0_930 : Index := 0#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v2400 : BitVec 32 := Scalar.minsi v2385 v72
  let c256_i32_915 : BitVec 32 := 256#32
  let v2401 : BitVec 32 := Scalar.muli v2400 c256_i32_915
  let v2402 : BitVec 32 := v2401
  let v2445 : Index := Scalar.indexCast v2402
  ![0, v2445.toNat]
def k0_mult57 (i : grid0.Coords) (k0_t3 : Fin (k0_t3_loop i).trips) : BitVec 32 :=
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c256_i32_944 : BitVec 32 := 256#32
  let v2469 : BitVec 32 := Scalar.muli v2385 c256_i32_944
  v2469
def k0_off308 (i : grid0.Coords) (k0_t3 : Fin (k0_t3_loop i).trips) : Fin 2 → Nat :=
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c256_i32_944 : BitVec 32 := 256#32
  let v2469 : BitVec 32 := Scalar.muli v2385 c256_i32_944
  let v2470 : BitVec 32 := v2469
  let v2471 : Index := Scalar.indexCast v2470
  let c0_945 : Index := 0#32
  ![v2471.toNat, 0]
def k0_mult58 (i : grid0.Coords) (k0_t3 : Fin (k0_t3_loop i).trips) : BitVec 32 :=
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c256_i32_949 : BitVec 32 := 256#32
  let v2477 : BitVec 32 := Scalar.muli v2385 c256_i32_949
  let c0_i32_950 : BitVec 32 := 0#32
  let v2478 : BitVec 32 := Scalar.addi v2477 c0_i32_950
  v2478
def k0_off309 (i : grid0.Coords) (k0_t3 : Fin (k0_t3_loop i).trips) (c0_i32_950 : BitVec 32) : Fin 2 → Nat :=
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c256_i32_949 : BitVec 32 := 256#32
  let v2477 : BitVec 32 := Scalar.muli v2385 c256_i32_949
  let v2478 : BitVec 32 := Scalar.addi v2477 c0_i32_950
  let v2479 : BitVec 32 := v2478
  let v2511 : Index := Scalar.indexCast v2479
  let c0_955 : Index := 0#32
  ![v2511.toNat, 0]
def k0_mult59 (i : grid0.Coords) (k0_t3 : Fin (k0_t3_loop i).trips) : BitVec 32 :=
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c256_i32_957 : BitVec 32 := 256#32
  let v2533 : BitVec 32 := Scalar.muli v2385 c256_i32_957
  let c128_i32_958 : BitVec 32 := 128#32
  let v2534 : BitVec 32 := Scalar.addi v2533 c128_i32_958
  v2534
def k0_off310 (i : grid0.Coords) (k0_t3 : Fin (k0_t3_loop i).trips) : Fin 4 → Nat :=
  let c0_1205 : Index := 0#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3309 : Index := Scalar.indexCast v2385
  let c0_1206 : Index := 0#32
  let c0_1207 : Index := 0#32
  ![0, v3309.toNat, 0, 0]
def k0_off311 (i : grid0.Coords) (k0_t3 : Fin (k0_t3_loop i).trips) : Fin 4 → Nat :=
  let c1_1208 : Index := 1#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3313 : Index := Scalar.indexCast v2385
  let c0_1209 : Index := 0#32
  let c0_1210 : Index := 0#32
  ![1, v3313.toNat, 0, 0]
def k0_off312 (i : grid0.Coords) (k0_t3 : Fin (k0_t3_loop i).trips) : Fin 4 → Nat :=
  let c2_1211 : Index := 2#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3317 : Index := Scalar.indexCast v2385
  let c0_1212 : Index := 0#32
  let c0_1213 : Index := 0#32
  ![2, v3317.toNat, 0, 0]
def k0_off313 (i : grid0.Coords) (k0_t3 : Fin (k0_t3_loop i).trips) : Fin 4 → Nat :=
  let c3_1214 : Index := 3#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3321 : Index := Scalar.indexCast v2385
  let c0_1215 : Index := 0#32
  let c0_1216 : Index := 0#32
  ![3, v3321.toNat, 0, 0]
def k0_off314 (i : grid0.Coords) (k0_t3 : Fin (k0_t3_loop i).trips) : Fin 4 → Nat :=
  let c4_1217 : Index := 4#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3325 : Index := Scalar.indexCast v2385
  let c0_1218 : Index := 0#32
  let c0_1219 : Index := 0#32
  ![4, v3325.toNat, 0, 0]
def k0_off315 (i : grid0.Coords) (k0_t3 : Fin (k0_t3_loop i).trips) : Fin 4 → Nat :=
  let c5_1220 : Index := 5#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3329 : Index := Scalar.indexCast v2385
  let c0_1221 : Index := 0#32
  let c0_1222 : Index := 0#32
  ![5, v3329.toNat, 0, 0]
def k0_off316 (i : grid0.Coords) (k0_t3 : Fin (k0_t3_loop i).trips) : Fin 4 → Nat :=
  let c6_1223 : Index := 6#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3333 : Index := Scalar.indexCast v2385
  let c0_1224 : Index := 0#32
  let c0_1225 : Index := 0#32
  ![6, v3333.toNat, 0, 0]
def k0_off317 (i : grid0.Coords) (k0_t3 : Fin (k0_t3_loop i).trips) : Fin 4 → Nat :=
  let c7_1226 : Index := 7#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3337 : Index := Scalar.indexCast v2385
  let c0_1227 : Index := 0#32
  let c0_1228 : Index := 0#32
  ![7, v3337.toNat, 0, 0]
def k0_off318 (i : grid0.Coords) (k0_t3 : Fin (k0_t3_loop i).trips) : Fin 4 → Nat :=
  let c8_1229 : Index := 8#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3341 : Index := Scalar.indexCast v2385
  let c0_1230 : Index := 0#32
  let c0_1231 : Index := 0#32
  ![8, v3341.toNat, 0, 0]
def k0_off319 (i : grid0.Coords) (k0_t3 : Fin (k0_t3_loop i).trips) : Fin 4 → Nat :=
  let c9_1232 : Index := 9#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3345 : Index := Scalar.indexCast v2385
  let c0_1233 : Index := 0#32
  let c0_1234 : Index := 0#32
  ![9, v3345.toNat, 0, 0]
def k0_off320 (i : grid0.Coords) (k0_t3 : Fin (k0_t3_loop i).trips) : Fin 4 → Nat :=
  let c10_1235 : Index := 10#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3349 : Index := Scalar.indexCast v2385
  let c0_1236 : Index := 0#32
  let c0_1237 : Index := 0#32
  ![10, v3349.toNat, 0, 0]
def k0_off321 (i : grid0.Coords) (k0_t3 : Fin (k0_t3_loop i).trips) : Fin 4 → Nat :=
  let c11_1238 : Index := 11#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3353 : Index := Scalar.indexCast v2385
  let c0_1239 : Index := 0#32
  let c0_1240 : Index := 0#32
  ![11, v3353.toNat, 0, 0]
def k0_off322 (i : grid0.Coords) (k0_t3 : Fin (k0_t3_loop i).trips) : Fin 4 → Nat :=
  let c12_1241 : Index := 12#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3357 : Index := Scalar.indexCast v2385
  let c0_1242 : Index := 0#32
  let c0_1243 : Index := 0#32
  ![12, v3357.toNat, 0, 0]
def k0_off323 (i : grid0.Coords) (k0_t3 : Fin (k0_t3_loop i).trips) : Fin 4 → Nat :=
  let c13_1244 : Index := 13#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3361 : Index := Scalar.indexCast v2385
  let c0_1245 : Index := 0#32
  let c0_1246 : Index := 0#32
  ![13, v3361.toNat, 0, 0]
def k0_off324 (i : grid0.Coords) (k0_t3 : Fin (k0_t3_loop i).trips) : Fin 4 → Nat :=
  let c14_1247 : Index := 14#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3365 : Index := Scalar.indexCast v2385
  let c0_1248 : Index := 0#32
  let c0_1249 : Index := 0#32
  ![14, v3365.toNat, 0, 0]
def k0_off325 (i : grid0.Coords) (k0_t3 : Fin (k0_t3_loop i).trips) : Fin 4 → Nat :=
  let c15_1250 : Index := 15#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3369 : Index := Scalar.indexCast v2385
  let c0_1251 : Index := 0#32
  let c0_1252 : Index := 0#32
  ![15, v3369.toNat, 0, 0]
def k0_off326 (i : grid0.Coords) (k0_t3 : Fin (k0_t3_loop i).trips) : Fin 4 → Nat :=
  let c16_1253 : Index := 16#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3373 : Index := Scalar.indexCast v2385
  let c0_1254 : Index := 0#32
  let c0_1255 : Index := 0#32
  ![16, v3373.toNat, 0, 0]
def k0_off327 (i : grid0.Coords) (k0_t3 : Fin (k0_t3_loop i).trips) : Fin 4 → Nat :=
  let c17_1256 : Index := 17#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3377 : Index := Scalar.indexCast v2385
  let c0_1257 : Index := 0#32
  let c0_1258 : Index := 0#32
  ![17, v3377.toNat, 0, 0]
def k0_off328 (i : grid0.Coords) (k0_t3 : Fin (k0_t3_loop i).trips) : Fin 4 → Nat :=
  let c18_1259 : Index := 18#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3381 : Index := Scalar.indexCast v2385
  let c0_1260 : Index := 0#32
  let c0_1261 : Index := 0#32
  ![18, v3381.toNat, 0, 0]
def k0_off329 (i : grid0.Coords) (k0_t3 : Fin (k0_t3_loop i).trips) : Fin 4 → Nat :=
  let c19_1262 : Index := 19#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3385 : Index := Scalar.indexCast v2385
  let c0_1263 : Index := 0#32
  let c0_1264 : Index := 0#32
  ![19, v3385.toNat, 0, 0]
def k0_off330 (i : grid0.Coords) (k0_t3 : Fin (k0_t3_loop i).trips) : Fin 4 → Nat :=
  let c20_1265 : Index := 20#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3389 : Index := Scalar.indexCast v2385
  let c0_1266 : Index := 0#32
  let c0_1267 : Index := 0#32
  ![20, v3389.toNat, 0, 0]
def k0_off331 (i : grid0.Coords) (k0_t3 : Fin (k0_t3_loop i).trips) : Fin 4 → Nat :=
  let c21_1268 : Index := 21#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3393 : Index := Scalar.indexCast v2385
  let c0_1269 : Index := 0#32
  let c0_1270 : Index := 0#32
  ![21, v3393.toNat, 0, 0]
def k0_off332 (i : grid0.Coords) (k0_t3 : Fin (k0_t3_loop i).trips) : Fin 4 → Nat :=
  let c22_1271 : Index := 22#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3397 : Index := Scalar.indexCast v2385
  let c0_1272 : Index := 0#32
  let c0_1273 : Index := 0#32
  ![22, v3397.toNat, 0, 0]
def k0_off333 (i : grid0.Coords) (k0_t3 : Fin (k0_t3_loop i).trips) : Fin 4 → Nat :=
  let c23_1274 : Index := 23#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3401 : Index := Scalar.indexCast v2385
  let c0_1275 : Index := 0#32
  let c0_1276 : Index := 0#32
  ![23, v3401.toNat, 0, 0]
def k0_off334 (i : grid0.Coords) (k0_t3 : Fin (k0_t3_loop i).trips) : Fin 4 → Nat :=
  let c24_1277 : Index := 24#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3405 : Index := Scalar.indexCast v2385
  let c0_1278 : Index := 0#32
  let c0_1279 : Index := 0#32
  ![24, v3405.toNat, 0, 0]
def k0_off335 (i : grid0.Coords) (k0_t3 : Fin (k0_t3_loop i).trips) : Fin 4 → Nat :=
  let c25_1280 : Index := 25#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3409 : Index := Scalar.indexCast v2385
  let c0_1281 : Index := 0#32
  let c0_1282 : Index := 0#32
  ![25, v3409.toNat, 0, 0]
def k0_off336 (i : grid0.Coords) (k0_t3 : Fin (k0_t3_loop i).trips) : Fin 4 → Nat :=
  let c26_1283 : Index := 26#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3413 : Index := Scalar.indexCast v2385
  let c0_1284 : Index := 0#32
  let c0_1285 : Index := 0#32
  ![26, v3413.toNat, 0, 0]
def k0_off337 (i : grid0.Coords) (k0_t3 : Fin (k0_t3_loop i).trips) : Fin 4 → Nat :=
  let c27_1286 : Index := 27#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3417 : Index := Scalar.indexCast v2385
  let c0_1287 : Index := 0#32
  let c0_1288 : Index := 0#32
  ![27, v3417.toNat, 0, 0]
def k0_off338 (i : grid0.Coords) (k0_t3 : Fin (k0_t3_loop i).trips) : Fin 4 → Nat :=
  let c28_1289 : Index := 28#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3421 : Index := Scalar.indexCast v2385
  let c0_1290 : Index := 0#32
  let c0_1291 : Index := 0#32
  ![28, v3421.toNat, 0, 0]
def k0_off339 (i : grid0.Coords) (k0_t3 : Fin (k0_t3_loop i).trips) : Fin 4 → Nat :=
  let c29_1292 : Index := 29#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3425 : Index := Scalar.indexCast v2385
  let c0_1293 : Index := 0#32
  let c0_1294 : Index := 0#32
  ![29, v3425.toNat, 0, 0]
def k0_off340 (i : grid0.Coords) (k0_t3 : Fin (k0_t3_loop i).trips) : Fin 4 → Nat :=
  let c30_1295 : Index := 30#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3429 : Index := Scalar.indexCast v2385
  let c0_1296 : Index := 0#32
  let c0_1297 : Index := 0#32
  ![30, v3429.toNat, 0, 0]
def k0_off341 (i : grid0.Coords) (k0_t3 : Fin (k0_t3_loop i).trips) : Fin 4 → Nat :=
  let c31_1298 : Index := 31#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let v3433 : Index := Scalar.indexCast v2385
  let c0_1299 : Index := 0#32
  let c0_1300 : Index := 0#32
  ![31, v3433.toNat, 0, 0]
def k0_mult60 (i : grid0.Coords) (k0_t3 : Fin (k0_t3_loop i).trips) : BitVec 32 :=
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c2_i32_1301 : BitVec 32 := 2#32
  let v3437 : BitVec 32 := Scalar.addi v2385 c2_i32_1301
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v3438 : BitVec 32 := Scalar.minsi v3437 v72
  let c256_i32_1302 : BitVec 32 := 256#32
  let v3439 : BitVec 32 := Scalar.muli v3438 c256_i32_1302
  v3439
def k0_mult61 (i : grid0.Coords) (k0_t3 : Fin (k0_t3_loop i).trips) : BitVec 32 :=
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1309 : BitVec 32 := 1#32
  let v3451 : BitVec 32 := Scalar.addi v2385 c1_i32_1309
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v3452 : BitVec 32 := Scalar.minsi v3451 v72
  let c256_i32_1310 : BitVec 32 := 256#32
  let v3453 : BitVec 32 := Scalar.muli v3452 c256_i32_1310
  v3453
def k0_mult62 (i : grid0.Coords) (k0_t3 : Fin (k0_t3_loop i).trips) : BitVec 32 :=
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1309 : BitVec 32 := 1#32
  let v3451 : BitVec 32 := Scalar.addi v2385 c1_i32_1309
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v3452 : BitVec 32 := Scalar.minsi v3451 v72
  let c256_i32_1310 : BitVec 32 := 256#32
  let v3453 : BitVec 32 := Scalar.muli v3452 c256_i32_1310
  let v3454 : BitVec 32 := v3453
  let c0_i32_1311 : BitVec 32 := 0#32
  let v3458 : BitVec 32 := Scalar.addi v3454 c0_i32_1311
  v3458
def k0_off342 (i : grid0.Coords) (k0_t3 : Fin (k0_t3_loop i).trips) (c0_i32_1311 : BitVec 32) : Fin 2 → Nat :=
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1309 : BitVec 32 := 1#32
  let v3451 : BitVec 32 := Scalar.addi v2385 c1_i32_1309
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v3452 : BitVec 32 := Scalar.minsi v3451 v72
  let c256_i32_1310 : BitVec 32 := 256#32
  let v3453 : BitVec 32 := Scalar.muli v3452 c256_i32_1310
  let v3454 : BitVec 32 := v3453
  let v3458 : BitVec 32 := Scalar.addi v3454 c0_i32_1311
  let v3459 : BitVec 32 := v3458
  let v3460 : Index := Scalar.indexCast v3459
  let c0_1312 : Index := 0#32
  ![v3460.toNat, 0]
def k0_mult63 (i : grid0.Coords) (k0_t3 : Fin (k0_t3_loop i).trips) : BitVec 32 :=
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1309 : BitVec 32 := 1#32
  let v3451 : BitVec 32 := Scalar.addi v2385 c1_i32_1309
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v3452 : BitVec 32 := Scalar.minsi v3451 v72
  let c256_i32_1310 : BitVec 32 := 256#32
  let v3453 : BitVec 32 := Scalar.muli v3452 c256_i32_1310
  let v3454 : BitVec 32 := v3453
  let c128_i32_1317 : BitVec 32 := 128#32
  let v3471 : BitVec 32 := Scalar.addi v3454 c128_i32_1317
  v3471
def k0_off343 (i : grid0.Coords) (k0_t3 : Fin (k0_t3_loop i).trips) : Fin 2 → Nat :=
  let c0_1325 : Index := 0#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1309 : BitVec 32 := 1#32
  let v3451 : BitVec 32 := Scalar.addi v2385 c1_i32_1309
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v3452 : BitVec 32 := Scalar.minsi v3451 v72
  let c256_i32_1310 : BitVec 32 := 256#32
  let v3453 : BitVec 32 := Scalar.muli v3452 c256_i32_1310
  let v3454 : BitVec 32 := v3453
  let v3497 : Index := Scalar.indexCast v3454
  ![0, v3497.toNat]
def k0_mult64 (i : grid0.Coords) (k0_t3 : Fin (k0_t3_loop i).trips) : BitVec 32 :=
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let c256_i32_1340 : BitVec 32 := 256#32
  let v3522 : BitVec 32 := Scalar.muli v3507 c256_i32_1340
  v3522
def k0_off344 (i : grid0.Coords) (k0_t3 : Fin (k0_t3_loop i).trips) : Fin 2 → Nat :=
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let c256_i32_1340 : BitVec 32 := 256#32
  let v3522 : BitVec 32 := Scalar.muli v3507 c256_i32_1340
  let v3523 : BitVec 32 := v3522
  let v3524 : Index := Scalar.indexCast v3523
  let c0_1341 : Index := 0#32
  ![v3524.toNat, 0]
def k0_mult65 (i : grid0.Coords) (k0_t3 : Fin (k0_t3_loop i).trips) : BitVec 32 :=
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let c256_i32_1345 : BitVec 32 := 256#32
  let v3530 : BitVec 32 := Scalar.muli v3507 c256_i32_1345
  let c0_i32_1346 : BitVec 32 := 0#32
  let v3531 : BitVec 32 := Scalar.addi v3530 c0_i32_1346
  v3531
def k0_off345 (i : grid0.Coords) (k0_t3 : Fin (k0_t3_loop i).trips) (c0_i32_1346 : BitVec 32) : Fin 2 → Nat :=
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let c256_i32_1345 : BitVec 32 := 256#32
  let v3530 : BitVec 32 := Scalar.muli v3507 c256_i32_1345
  let v3531 : BitVec 32 := Scalar.addi v3530 c0_i32_1346
  let v3532 : BitVec 32 := v3531
  let v3564 : Index := Scalar.indexCast v3532
  let c0_1351 : Index := 0#32
  ![v3564.toNat, 0]
def k0_mult66 (i : grid0.Coords) (k0_t3 : Fin (k0_t3_loop i).trips) : BitVec 32 :=
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let c256_i32_1353 : BitVec 32 := 256#32
  let v3586 : BitVec 32 := Scalar.muli v3507 c256_i32_1353
  let c128_i32_1354 : BitVec 32 := 128#32
  let v3587 : BitVec 32 := Scalar.addi v3586 c128_i32_1354
  v3587
def k0_off346 (i : grid0.Coords) (k0_t3 : Fin (k0_t3_loop i).trips) : Fin 4 → Nat :=
  let c0_1601 : Index := 0#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4362 : Index := Scalar.indexCast v3507
  let c0_1602 : Index := 0#32
  let c0_1603 : Index := 0#32
  ![0, v4362.toNat, 0, 0]
def k0_off347 (i : grid0.Coords) (k0_t3 : Fin (k0_t3_loop i).trips) : Fin 4 → Nat :=
  let c1_1604 : Index := 1#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4366 : Index := Scalar.indexCast v3507
  let c0_1605 : Index := 0#32
  let c0_1606 : Index := 0#32
  ![1, v4366.toNat, 0, 0]
def k0_off348 (i : grid0.Coords) (k0_t3 : Fin (k0_t3_loop i).trips) : Fin 4 → Nat :=
  let c2_1607 : Index := 2#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4370 : Index := Scalar.indexCast v3507
  let c0_1608 : Index := 0#32
  let c0_1609 : Index := 0#32
  ![2, v4370.toNat, 0, 0]
def k0_off349 (i : grid0.Coords) (k0_t3 : Fin (k0_t3_loop i).trips) : Fin 4 → Nat :=
  let c3_1610 : Index := 3#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4374 : Index := Scalar.indexCast v3507
  let c0_1611 : Index := 0#32
  let c0_1612 : Index := 0#32
  ![3, v4374.toNat, 0, 0]
def k0_off350 (i : grid0.Coords) (k0_t3 : Fin (k0_t3_loop i).trips) : Fin 4 → Nat :=
  let c4_1613 : Index := 4#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4378 : Index := Scalar.indexCast v3507
  let c0_1614 : Index := 0#32
  let c0_1615 : Index := 0#32
  ![4, v4378.toNat, 0, 0]
def k0_off351 (i : grid0.Coords) (k0_t3 : Fin (k0_t3_loop i).trips) : Fin 4 → Nat :=
  let c5_1616 : Index := 5#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4382 : Index := Scalar.indexCast v3507
  let c0_1617 : Index := 0#32
  let c0_1618 : Index := 0#32
  ![5, v4382.toNat, 0, 0]
def k0_off352 (i : grid0.Coords) (k0_t3 : Fin (k0_t3_loop i).trips) : Fin 4 → Nat :=
  let c6_1619 : Index := 6#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4386 : Index := Scalar.indexCast v3507
  let c0_1620 : Index := 0#32
  let c0_1621 : Index := 0#32
  ![6, v4386.toNat, 0, 0]
def k0_off353 (i : grid0.Coords) (k0_t3 : Fin (k0_t3_loop i).trips) : Fin 4 → Nat :=
  let c7_1622 : Index := 7#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4390 : Index := Scalar.indexCast v3507
  let c0_1623 : Index := 0#32
  let c0_1624 : Index := 0#32
  ![7, v4390.toNat, 0, 0]
def k0_off354 (i : grid0.Coords) (k0_t3 : Fin (k0_t3_loop i).trips) : Fin 4 → Nat :=
  let c8_1625 : Index := 8#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4394 : Index := Scalar.indexCast v3507
  let c0_1626 : Index := 0#32
  let c0_1627 : Index := 0#32
  ![8, v4394.toNat, 0, 0]
def k0_off355 (i : grid0.Coords) (k0_t3 : Fin (k0_t3_loop i).trips) : Fin 4 → Nat :=
  let c9_1628 : Index := 9#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4398 : Index := Scalar.indexCast v3507
  let c0_1629 : Index := 0#32
  let c0_1630 : Index := 0#32
  ![9, v4398.toNat, 0, 0]
def k0_off356 (i : grid0.Coords) (k0_t3 : Fin (k0_t3_loop i).trips) : Fin 4 → Nat :=
  let c10_1631 : Index := 10#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4402 : Index := Scalar.indexCast v3507
  let c0_1632 : Index := 0#32
  let c0_1633 : Index := 0#32
  ![10, v4402.toNat, 0, 0]
def k0_off357 (i : grid0.Coords) (k0_t3 : Fin (k0_t3_loop i).trips) : Fin 4 → Nat :=
  let c11_1634 : Index := 11#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4406 : Index := Scalar.indexCast v3507
  let c0_1635 : Index := 0#32
  let c0_1636 : Index := 0#32
  ![11, v4406.toNat, 0, 0]
def k0_off358 (i : grid0.Coords) (k0_t3 : Fin (k0_t3_loop i).trips) : Fin 4 → Nat :=
  let c12_1637 : Index := 12#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4410 : Index := Scalar.indexCast v3507
  let c0_1638 : Index := 0#32
  let c0_1639 : Index := 0#32
  ![12, v4410.toNat, 0, 0]
def k0_off359 (i : grid0.Coords) (k0_t3 : Fin (k0_t3_loop i).trips) : Fin 4 → Nat :=
  let c13_1640 : Index := 13#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4414 : Index := Scalar.indexCast v3507
  let c0_1641 : Index := 0#32
  let c0_1642 : Index := 0#32
  ![13, v4414.toNat, 0, 0]
def k0_off360 (i : grid0.Coords) (k0_t3 : Fin (k0_t3_loop i).trips) : Fin 4 → Nat :=
  let c14_1643 : Index := 14#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4418 : Index := Scalar.indexCast v3507
  let c0_1644 : Index := 0#32
  let c0_1645 : Index := 0#32
  ![14, v4418.toNat, 0, 0]
def k0_off361 (i : grid0.Coords) (k0_t3 : Fin (k0_t3_loop i).trips) : Fin 4 → Nat :=
  let c15_1646 : Index := 15#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4422 : Index := Scalar.indexCast v3507
  let c0_1647 : Index := 0#32
  let c0_1648 : Index := 0#32
  ![15, v4422.toNat, 0, 0]
def k0_off362 (i : grid0.Coords) (k0_t3 : Fin (k0_t3_loop i).trips) : Fin 4 → Nat :=
  let c16_1649 : Index := 16#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4426 : Index := Scalar.indexCast v3507
  let c0_1650 : Index := 0#32
  let c0_1651 : Index := 0#32
  ![16, v4426.toNat, 0, 0]
def k0_off363 (i : grid0.Coords) (k0_t3 : Fin (k0_t3_loop i).trips) : Fin 4 → Nat :=
  let c17_1652 : Index := 17#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4430 : Index := Scalar.indexCast v3507
  let c0_1653 : Index := 0#32
  let c0_1654 : Index := 0#32
  ![17, v4430.toNat, 0, 0]
def k0_off364 (i : grid0.Coords) (k0_t3 : Fin (k0_t3_loop i).trips) : Fin 4 → Nat :=
  let c18_1655 : Index := 18#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4434 : Index := Scalar.indexCast v3507
  let c0_1656 : Index := 0#32
  let c0_1657 : Index := 0#32
  ![18, v4434.toNat, 0, 0]
def k0_off365 (i : grid0.Coords) (k0_t3 : Fin (k0_t3_loop i).trips) : Fin 4 → Nat :=
  let c19_1658 : Index := 19#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4438 : Index := Scalar.indexCast v3507
  let c0_1659 : Index := 0#32
  let c0_1660 : Index := 0#32
  ![19, v4438.toNat, 0, 0]
def k0_off366 (i : grid0.Coords) (k0_t3 : Fin (k0_t3_loop i).trips) : Fin 4 → Nat :=
  let c20_1661 : Index := 20#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4442 : Index := Scalar.indexCast v3507
  let c0_1662 : Index := 0#32
  let c0_1663 : Index := 0#32
  ![20, v4442.toNat, 0, 0]
def k0_off367 (i : grid0.Coords) (k0_t3 : Fin (k0_t3_loop i).trips) : Fin 4 → Nat :=
  let c21_1664 : Index := 21#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4446 : Index := Scalar.indexCast v3507
  let c0_1665 : Index := 0#32
  let c0_1666 : Index := 0#32
  ![21, v4446.toNat, 0, 0]
def k0_off368 (i : grid0.Coords) (k0_t3 : Fin (k0_t3_loop i).trips) : Fin 4 → Nat :=
  let c22_1667 : Index := 22#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4450 : Index := Scalar.indexCast v3507
  let c0_1668 : Index := 0#32
  let c0_1669 : Index := 0#32
  ![22, v4450.toNat, 0, 0]
def k0_off369 (i : grid0.Coords) (k0_t3 : Fin (k0_t3_loop i).trips) : Fin 4 → Nat :=
  let c23_1670 : Index := 23#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4454 : Index := Scalar.indexCast v3507
  let c0_1671 : Index := 0#32
  let c0_1672 : Index := 0#32
  ![23, v4454.toNat, 0, 0]
def k0_off370 (i : grid0.Coords) (k0_t3 : Fin (k0_t3_loop i).trips) : Fin 4 → Nat :=
  let c24_1673 : Index := 24#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4458 : Index := Scalar.indexCast v3507
  let c0_1674 : Index := 0#32
  let c0_1675 : Index := 0#32
  ![24, v4458.toNat, 0, 0]
def k0_off371 (i : grid0.Coords) (k0_t3 : Fin (k0_t3_loop i).trips) : Fin 4 → Nat :=
  let c25_1676 : Index := 25#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4462 : Index := Scalar.indexCast v3507
  let c0_1677 : Index := 0#32
  let c0_1678 : Index := 0#32
  ![25, v4462.toNat, 0, 0]
def k0_off372 (i : grid0.Coords) (k0_t3 : Fin (k0_t3_loop i).trips) : Fin 4 → Nat :=
  let c26_1679 : Index := 26#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4466 : Index := Scalar.indexCast v3507
  let c0_1680 : Index := 0#32
  let c0_1681 : Index := 0#32
  ![26, v4466.toNat, 0, 0]
def k0_off373 (i : grid0.Coords) (k0_t3 : Fin (k0_t3_loop i).trips) : Fin 4 → Nat :=
  let c27_1682 : Index := 27#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4470 : Index := Scalar.indexCast v3507
  let c0_1683 : Index := 0#32
  let c0_1684 : Index := 0#32
  ![27, v4470.toNat, 0, 0]
def k0_off374 (i : grid0.Coords) (k0_t3 : Fin (k0_t3_loop i).trips) : Fin 4 → Nat :=
  let c28_1685 : Index := 28#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4474 : Index := Scalar.indexCast v3507
  let c0_1686 : Index := 0#32
  let c0_1687 : Index := 0#32
  ![28, v4474.toNat, 0, 0]
def k0_off375 (i : grid0.Coords) (k0_t3 : Fin (k0_t3_loop i).trips) : Fin 4 → Nat :=
  let c29_1688 : Index := 29#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4478 : Index := Scalar.indexCast v3507
  let c0_1689 : Index := 0#32
  let c0_1690 : Index := 0#32
  ![29, v4478.toNat, 0, 0]
def k0_off376 (i : grid0.Coords) (k0_t3 : Fin (k0_t3_loop i).trips) : Fin 4 → Nat :=
  let c30_1691 : Index := 30#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4482 : Index := Scalar.indexCast v3507
  let c0_1692 : Index := 0#32
  let c0_1693 : Index := 0#32
  ![30, v4482.toNat, 0, 0]
def k0_off377 (i : grid0.Coords) (k0_t3 : Fin (k0_t3_loop i).trips) : Fin 4 → Nat :=
  let c31_1694 : Index := 31#32
  let c2_i32_906 : BitVec 32 := 2#32
  let c0_i32_904 : BitVec 32 := 0#32
  let c2_i32_903 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t3
  let v2382 : BitVec 32 := Scalar.muli c2_i32_903 arg24
  let v2383 : BitVec 32 := Scalar.addi c0_i32_904 v2382
  let c1_i32_905 : BitVec 32 := 1#32
  let v2384 : BitVec 32 := Scalar.addi v2383 c1_i32_905
  let v2385 : BitVec 32 := Scalar.muli c2_i32_906 v2384
  let c1_i32_1331 : BitVec 32 := 1#32
  let v3507 : BitVec 32 := Scalar.addi v2385 c1_i32_1331
  let v4486 : Index := Scalar.indexCast v3507
  let c0_1695 : Index := 0#32
  let c0_1696 : Index := 0#32
  ![31, v4486.toNat, 0, 0]
@[reducible] def k0_t4_loop (i : grid0.Coords) : Scf.Loop 32 :=
  let c0_i32_111 : BitVec 32 := 0#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c2_i32_65 : BitVec 32 := 2#32
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_113 : BitVec 32 := 1#32
  ⟨c0_i32_111, v218, c1_i32_113⟩
def k0_mult67 (i : grid0.Coords) (k0_t4 : Fin (k0_t4_loop i).trips) : BitVec 32 :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_145 : BitVec 32 := 1#32
  let v278 : BitVec 32 := Scalar.addi v277 c1_i32_145
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v279 : BitVec 32 := Scalar.minsi v278 v72
  let c256_i32_146 : BitVec 32 := 256#32
  let v280 : BitVec 32 := Scalar.muli v279 c256_i32_146
  v280
def k0_off378 (i : grid0.Coords) (k0_t4 : Fin (k0_t4_loop i).trips) (c1_i32_145 : BitVec 32) : Fin 2 → Nat :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let v278 : BitVec 32 := Scalar.addi v277 c1_i32_145
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v279 : BitVec 32 := Scalar.minsi v278 v72
  let c256_i32_146 : BitVec 32 := 256#32
  let v280 : BitVec 32 := Scalar.muli v279 c256_i32_146
  let v281 : BitVec 32 := v280
  let v282 : Index := Scalar.indexCast v281
  let c0_147 : Index := 0#32
  ![v282.toNat, 0]
def k0_off379 (i : grid0.Coords) : Fin 3 → Nat :=
  let arg1 : BitVec 32 := BitVec.ofNat 32 (i 1).val
  let c8_i32 : BitVec 32 := 8#32
  let c0_i32_36 : BitVec 32 := 0#32
  let v73 : BitVec 1 := Scalar.cmpi .eq c8_i32 c0_i32_36
  let c1_i32_37 : BitVec 32 := 1#32
  let v74 : BitVec 32 := Scalar.select v73 c1_i32_37 c8_i32
  let v75 : BitVec 32 := Scalar.remsi arg1 v74
  let c0_i32_39 : BitVec 32 := 0#32
  let v77 : BitVec 1 := Scalar.cmpi .slt v75 c0_i32_39
  let c0_i32_40 : BitVec 32 := 0#32
  let v78 : BitVec 1 := Scalar.cmpi .slt v74 c0_i32_40
  let v79 : BitVec 1 := Scalar.xori v77 v78
  let c0_i32_38 : BitVec 32 := 0#32
  let v76 : BitVec 1 := Scalar.cmpi .ne v75 c0_i32_38
  let v80 : BitVec 1 := Scalar.andi v79 v76
  let v81 : BitVec 32 := Scalar.addi v75 v74
  let v82 : BitVec 32 := Scalar.select v80 v81 v75
  let v284 : Index := Scalar.indexCast v82
  let c0_148 : Index := 0#32
  let c0_149 : Index := 0#32
  ![v284.toNat, 0, 0]
def k0_mult68 (i : grid0.Coords) (k0_t4 : Fin (k0_t4_loop i).trips) : BitVec 32 :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v292 : BitVec 32 := Scalar.minsi v277 v72
  let c256_i32_153 : BitVec 32 := 256#32
  let v293 : BitVec 32 := Scalar.muli v292 c256_i32_153
  v293
def k0_mult69 (i : grid0.Coords) (k0_t4 : Fin (k0_t4_loop i).trips) : BitVec 32 :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v292 : BitVec 32 := Scalar.minsi v277 v72
  let c256_i32_153 : BitVec 32 := 256#32
  let v293 : BitVec 32 := Scalar.muli v292 c256_i32_153
  let v294 : BitVec 32 := v293
  let c0_i32_154 : BitVec 32 := 0#32
  let v298 : BitVec 32 := Scalar.addi v294 c0_i32_154
  v298
def k0_off380 (i : grid0.Coords) (k0_t4 : Fin (k0_t4_loop i).trips) (c0_i32_154 : BitVec 32) : Fin 2 → Nat :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v292 : BitVec 32 := Scalar.minsi v277 v72
  let c256_i32_153 : BitVec 32 := 256#32
  let v293 : BitVec 32 := Scalar.muli v292 c256_i32_153
  let v294 : BitVec 32 := v293
  let v298 : BitVec 32 := Scalar.addi v294 c0_i32_154
  let v299 : BitVec 32 := v298
  let v300 : Index := Scalar.indexCast v299
  let c0_155 : Index := 0#32
  ![v300.toNat, 0]
def k0_off381 (i : grid0.Coords) (k0_t4 : Fin (k0_t4_loop i).trips) (c0_i32_159 : BitVec 32) : Fin 3 → Nat :=
  let c2_i32_161 : BitVec 32 := 2#32
  let c0_i32_160 : BitVec 32 := 0#32
  let arg1 : BitVec 32 := BitVec.ofNat 32 (i 1).val
  let c2_i32_144 : BitVec 32 := 2#32
  let c2_i32_65 : BitVec 32 := 2#32
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v292 : BitVec 32 := Scalar.minsi v277 v72
  let c2_i32_158 : BitVec 32 := 2#32
  let v309 : BitVec 32 := Scalar.muli v292 c2_i32_158
  let v310 : BitVec 32 := Scalar.addi v309 c0_i32_159
  let v311 : BitVec 32 := Scalar.subi arg1 v310
  let v312 : BitVec 32 := Scalar.maxsi c0_i32_160 v311
  let v313 : BitVec 32 := Scalar.minsi c2_i32_161 v312
  let v314 : Index := Scalar.indexCast v313
  let c0_162 : Index := 0#32
  let c0_163 : Index := 0#32
  ![v314.toNat, 0, 0]
def k0_mult70 (i : grid0.Coords) (k0_t4 : Fin (k0_t4_loop i).trips) : BitVec 32 :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v292 : BitVec 32 := Scalar.minsi v277 v72
  let c256_i32_153 : BitVec 32 := 256#32
  let v293 : BitVec 32 := Scalar.muli v292 c256_i32_153
  let v294 : BitVec 32 := v293
  let c128_i32_166 : BitVec 32 := 128#32
  let v320 : BitVec 32 := Scalar.addi v294 c128_i32_166
  v320
def k0_off382 (i : grid0.Coords) (k0_t4 : Fin (k0_t4_loop i).trips) : Fin 2 → Nat :=
  let c0_179 : Index := 0#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v292 : BitVec 32 := Scalar.minsi v277 v72
  let c256_i32_153 : BitVec 32 := 256#32
  let v293 : BitVec 32 := Scalar.muli v292 c256_i32_153
  let v294 : BitVec 32 := v293
  let v355 : Index := Scalar.indexCast v294
  ![0, v355.toNat]
def k0_mult71 (i : grid0.Coords) (k0_t4 : Fin (k0_t4_loop i).trips) : BitVec 32 :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c256_i32_193 : BitVec 32 := 256#32
  let v379 : BitVec 32 := Scalar.muli v277 c256_i32_193
  v379
def k0_off383 (i : grid0.Coords) (k0_t4 : Fin (k0_t4_loop i).trips) : Fin 2 → Nat :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c256_i32_193 : BitVec 32 := 256#32
  let v379 : BitVec 32 := Scalar.muli v277 c256_i32_193
  let v380 : BitVec 32 := v379
  let v381 : Index := Scalar.indexCast v380
  let c0_194 : Index := 0#32
  ![v381.toNat, 0]
def k0_off384 (i : grid0.Coords) : Fin 3 → Nat :=
  let arg1 : BitVec 32 := BitVec.ofNat 32 (i 1).val
  let c1_i32_185 : BitVec 32 := 1#32
  let v365 : BitVec 32 := Scalar.addi arg1 c1_i32_185
  let c8_i32_186 : BitVec 32 := 8#32
  let c0_i32_187 : BitVec 32 := 0#32
  let v366 : BitVec 1 := Scalar.cmpi .eq c8_i32_186 c0_i32_187
  let c1_i32_188 : BitVec 32 := 1#32
  let v367 : BitVec 32 := Scalar.select v366 c1_i32_188 c8_i32_186
  let v368 : BitVec 32 := Scalar.remsi v365 v367
  let c0_i32_190 : BitVec 32 := 0#32
  let v370 : BitVec 1 := Scalar.cmpi .slt v368 c0_i32_190
  let c0_i32_191 : BitVec 32 := 0#32
  let v371 : BitVec 1 := Scalar.cmpi .slt v367 c0_i32_191
  let v372 : BitVec 1 := Scalar.xori v370 v371
  let c0_i32_189 : BitVec 32 := 0#32
  let v369 : BitVec 1 := Scalar.cmpi .ne v368 c0_i32_189
  let v373 : BitVec 1 := Scalar.andi v372 v369
  let v374 : BitVec 32 := Scalar.addi v368 v367
  let v375 : BitVec 32 := Scalar.select v373 v374 v368
  let v383 : Index := Scalar.indexCast v375
  let c0_195 : Index := 0#32
  let c0_196 : Index := 0#32
  ![v383.toNat, 0, 0]
def k0_mult72 (i : grid0.Coords) (k0_t4 : Fin (k0_t4_loop i).trips) : BitVec 32 :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c256_i32_198 : BitVec 32 := 256#32
  let v387 : BitVec 32 := Scalar.muli v277 c256_i32_198
  let c0_i32_199 : BitVec 32 := 0#32
  let v388 : BitVec 32 := Scalar.addi v387 c0_i32_199
  v388
def k0_off385 (i : grid0.Coords) (k0_t4 : Fin (k0_t4_loop i).trips) (c0_i32_199 : BitVec 32) : Fin 2 → Nat :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c256_i32_198 : BitVec 32 := 256#32
  let v387 : BitVec 32 := Scalar.muli v277 c256_i32_198
  let v388 : BitVec 32 := Scalar.addi v387 c0_i32_199
  let v389 : BitVec 32 := v388
  let v421 : Index := Scalar.indexCast v389
  let c0_202 : Index := 0#32
  ![v421.toNat, 0]
def k0_mult73 (i : grid0.Coords) (k0_t4 : Fin (k0_t4_loop i).trips) : BitVec 32 :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c256_i32_204 : BitVec 32 := 256#32
  let v443 : BitVec 32 := Scalar.muli v277 c256_i32_204
  let c128_i32_205 : BitVec 32 := 128#32
  let v444 : BitVec 32 := Scalar.addi v443 c128_i32_205
  v444
def k0_off386 (i : grid0.Coords) (k0_t4 : Fin (k0_t4_loop i).trips) : Fin 4 → Nat :=
  let c0_446 : Index := 0#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let v1219 : Index := Scalar.indexCast v277
  let c0_447 : Index := 0#32
  let c0_448 : Index := 0#32
  ![0, v1219.toNat, 0, 0]
def k0_off387 (i : grid0.Coords) (k0_t4 : Fin (k0_t4_loop i).trips) : Fin 4 → Nat :=
  let c1_449 : Index := 1#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let v1223 : Index := Scalar.indexCast v277
  let c0_450 : Index := 0#32
  let c0_451 : Index := 0#32
  ![1, v1223.toNat, 0, 0]
def k0_off388 (i : grid0.Coords) (k0_t4 : Fin (k0_t4_loop i).trips) : Fin 4 → Nat :=
  let c2_452 : Index := 2#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let v1227 : Index := Scalar.indexCast v277
  let c0_453 : Index := 0#32
  let c0_454 : Index := 0#32
  ![2, v1227.toNat, 0, 0]
def k0_off389 (i : grid0.Coords) (k0_t4 : Fin (k0_t4_loop i).trips) : Fin 4 → Nat :=
  let c3_455 : Index := 3#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let v1231 : Index := Scalar.indexCast v277
  let c0_456 : Index := 0#32
  let c0_457 : Index := 0#32
  ![3, v1231.toNat, 0, 0]
def k0_off390 (i : grid0.Coords) (k0_t4 : Fin (k0_t4_loop i).trips) : Fin 4 → Nat :=
  let c4_458 : Index := 4#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let v1235 : Index := Scalar.indexCast v277
  let c0_459 : Index := 0#32
  let c0_460 : Index := 0#32
  ![4, v1235.toNat, 0, 0]
def k0_off391 (i : grid0.Coords) (k0_t4 : Fin (k0_t4_loop i).trips) : Fin 4 → Nat :=
  let c5_461 : Index := 5#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let v1239 : Index := Scalar.indexCast v277
  let c0_462 : Index := 0#32
  let c0_463 : Index := 0#32
  ![5, v1239.toNat, 0, 0]
def k0_off392 (i : grid0.Coords) (k0_t4 : Fin (k0_t4_loop i).trips) : Fin 4 → Nat :=
  let c6_464 : Index := 6#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let v1243 : Index := Scalar.indexCast v277
  let c0_465 : Index := 0#32
  let c0_466 : Index := 0#32
  ![6, v1243.toNat, 0, 0]
def k0_off393 (i : grid0.Coords) (k0_t4 : Fin (k0_t4_loop i).trips) : Fin 4 → Nat :=
  let c7_467 : Index := 7#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let v1247 : Index := Scalar.indexCast v277
  let c0_468 : Index := 0#32
  let c0_469 : Index := 0#32
  ![7, v1247.toNat, 0, 0]
def k0_off394 (i : grid0.Coords) (k0_t4 : Fin (k0_t4_loop i).trips) : Fin 4 → Nat :=
  let c8 : Index := 8#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let v1251 : Index := Scalar.indexCast v277
  let c0_470 : Index := 0#32
  let c0_471 : Index := 0#32
  ![8, v1251.toNat, 0, 0]
def k0_off395 (i : grid0.Coords) (k0_t4 : Fin (k0_t4_loop i).trips) : Fin 4 → Nat :=
  let c9 : Index := 9#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let v1255 : Index := Scalar.indexCast v277
  let c0_472 : Index := 0#32
  let c0_473 : Index := 0#32
  ![9, v1255.toNat, 0, 0]
def k0_off396 (i : grid0.Coords) (k0_t4 : Fin (k0_t4_loop i).trips) : Fin 4 → Nat :=
  let c10 : Index := 10#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let v1259 : Index := Scalar.indexCast v277
  let c0_474 : Index := 0#32
  let c0_475 : Index := 0#32
  ![10, v1259.toNat, 0, 0]
def k0_off397 (i : grid0.Coords) (k0_t4 : Fin (k0_t4_loop i).trips) : Fin 4 → Nat :=
  let c11 : Index := 11#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let v1263 : Index := Scalar.indexCast v277
  let c0_476 : Index := 0#32
  let c0_477 : Index := 0#32
  ![11, v1263.toNat, 0, 0]
def k0_off398 (i : grid0.Coords) (k0_t4 : Fin (k0_t4_loop i).trips) : Fin 4 → Nat :=
  let c12 : Index := 12#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let v1267 : Index := Scalar.indexCast v277
  let c0_478 : Index := 0#32
  let c0_479 : Index := 0#32
  ![12, v1267.toNat, 0, 0]
def k0_off399 (i : grid0.Coords) (k0_t4 : Fin (k0_t4_loop i).trips) : Fin 4 → Nat :=
  let c13 : Index := 13#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let v1271 : Index := Scalar.indexCast v277
  let c0_480 : Index := 0#32
  let c0_481 : Index := 0#32
  ![13, v1271.toNat, 0, 0]
def k0_off400 (i : grid0.Coords) (k0_t4 : Fin (k0_t4_loop i).trips) : Fin 4 → Nat :=
  let c14 : Index := 14#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let v1275 : Index := Scalar.indexCast v277
  let c0_482 : Index := 0#32
  let c0_483 : Index := 0#32
  ![14, v1275.toNat, 0, 0]
def k0_off401 (i : grid0.Coords) (k0_t4 : Fin (k0_t4_loop i).trips) : Fin 4 → Nat :=
  let c15 : Index := 15#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let v1279 : Index := Scalar.indexCast v277
  let c0_484 : Index := 0#32
  let c0_485 : Index := 0#32
  ![15, v1279.toNat, 0, 0]
def k0_off402 (i : grid0.Coords) (k0_t4 : Fin (k0_t4_loop i).trips) : Fin 4 → Nat :=
  let c16 : Index := 16#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let v1283 : Index := Scalar.indexCast v277
  let c0_486 : Index := 0#32
  let c0_487 : Index := 0#32
  ![16, v1283.toNat, 0, 0]
def k0_off403 (i : grid0.Coords) (k0_t4 : Fin (k0_t4_loop i).trips) : Fin 4 → Nat :=
  let c17 : Index := 17#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let v1287 : Index := Scalar.indexCast v277
  let c0_488 : Index := 0#32
  let c0_489 : Index := 0#32
  ![17, v1287.toNat, 0, 0]
def k0_off404 (i : grid0.Coords) (k0_t4 : Fin (k0_t4_loop i).trips) : Fin 4 → Nat :=
  let c18 : Index := 18#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let v1291 : Index := Scalar.indexCast v277
  let c0_490 : Index := 0#32
  let c0_491 : Index := 0#32
  ![18, v1291.toNat, 0, 0]
def k0_off405 (i : grid0.Coords) (k0_t4 : Fin (k0_t4_loop i).trips) : Fin 4 → Nat :=
  let c19 : Index := 19#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let v1295 : Index := Scalar.indexCast v277
  let c0_492 : Index := 0#32
  let c0_493 : Index := 0#32
  ![19, v1295.toNat, 0, 0]
def k0_off406 (i : grid0.Coords) (k0_t4 : Fin (k0_t4_loop i).trips) : Fin 4 → Nat :=
  let c20 : Index := 20#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let v1299 : Index := Scalar.indexCast v277
  let c0_494 : Index := 0#32
  let c0_495 : Index := 0#32
  ![20, v1299.toNat, 0, 0]
def k0_off407 (i : grid0.Coords) (k0_t4 : Fin (k0_t4_loop i).trips) : Fin 4 → Nat :=
  let c21 : Index := 21#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let v1303 : Index := Scalar.indexCast v277
  let c0_496 : Index := 0#32
  let c0_497 : Index := 0#32
  ![21, v1303.toNat, 0, 0]
def k0_off408 (i : grid0.Coords) (k0_t4 : Fin (k0_t4_loop i).trips) : Fin 4 → Nat :=
  let c22 : Index := 22#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let v1307 : Index := Scalar.indexCast v277
  let c0_498 : Index := 0#32
  let c0_499 : Index := 0#32
  ![22, v1307.toNat, 0, 0]
def k0_off409 (i : grid0.Coords) (k0_t4 : Fin (k0_t4_loop i).trips) : Fin 4 → Nat :=
  let c23 : Index := 23#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let v1311 : Index := Scalar.indexCast v277
  let c0_500 : Index := 0#32
  let c0_501 : Index := 0#32
  ![23, v1311.toNat, 0, 0]
def k0_off410 (i : grid0.Coords) (k0_t4 : Fin (k0_t4_loop i).trips) : Fin 4 → Nat :=
  let c24 : Index := 24#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let v1315 : Index := Scalar.indexCast v277
  let c0_502 : Index := 0#32
  let c0_503 : Index := 0#32
  ![24, v1315.toNat, 0, 0]
def k0_off411 (i : grid0.Coords) (k0_t4 : Fin (k0_t4_loop i).trips) : Fin 4 → Nat :=
  let c25 : Index := 25#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let v1319 : Index := Scalar.indexCast v277
  let c0_504 : Index := 0#32
  let c0_505 : Index := 0#32
  ![25, v1319.toNat, 0, 0]
def k0_off412 (i : grid0.Coords) (k0_t4 : Fin (k0_t4_loop i).trips) : Fin 4 → Nat :=
  let c26 : Index := 26#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let v1323 : Index := Scalar.indexCast v277
  let c0_506 : Index := 0#32
  let c0_507 : Index := 0#32
  ![26, v1323.toNat, 0, 0]
def k0_off413 (i : grid0.Coords) (k0_t4 : Fin (k0_t4_loop i).trips) : Fin 4 → Nat :=
  let c27 : Index := 27#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let v1327 : Index := Scalar.indexCast v277
  let c0_508 : Index := 0#32
  let c0_509 : Index := 0#32
  ![27, v1327.toNat, 0, 0]
def k0_off414 (i : grid0.Coords) (k0_t4 : Fin (k0_t4_loop i).trips) : Fin 4 → Nat :=
  let c28 : Index := 28#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let v1331 : Index := Scalar.indexCast v277
  let c0_510 : Index := 0#32
  let c0_511 : Index := 0#32
  ![28, v1331.toNat, 0, 0]
def k0_off415 (i : grid0.Coords) (k0_t4 : Fin (k0_t4_loop i).trips) : Fin 4 → Nat :=
  let c29 : Index := 29#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let v1335 : Index := Scalar.indexCast v277
  let c0_512 : Index := 0#32
  let c0_513 : Index := 0#32
  ![29, v1335.toNat, 0, 0]
def k0_off416 (i : grid0.Coords) (k0_t4 : Fin (k0_t4_loop i).trips) : Fin 4 → Nat :=
  let c30 : Index := 30#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let v1339 : Index := Scalar.indexCast v277
  let c0_514 : Index := 0#32
  let c0_515 : Index := 0#32
  ![30, v1339.toNat, 0, 0]
def k0_off417 (i : grid0.Coords) (k0_t4 : Fin (k0_t4_loop i).trips) : Fin 4 → Nat :=
  let c31 : Index := 31#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let v1343 : Index := Scalar.indexCast v277
  let c0_516 : Index := 0#32
  let c0_517 : Index := 0#32
  ![31, v1343.toNat, 0, 0]
def k0_mult74 (i : grid0.Coords) (k0_t4 : Fin (k0_t4_loop i).trips) : BitVec 32 :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c2_i32_518 : BitVec 32 := 2#32
  let v1347 : BitVec 32 := Scalar.addi v277 c2_i32_518
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v1348 : BitVec 32 := Scalar.minsi v1347 v72
  let c256_i32_519 : BitVec 32 := 256#32
  let v1349 : BitVec 32 := Scalar.muli v1348 c256_i32_519
  v1349
def k0_mult75 (i : grid0.Coords) (k0_t4 : Fin (k0_t4_loop i).trips) : BitVec 32 :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_526 : BitVec 32 := 1#32
  let v1361 : BitVec 32 := Scalar.addi v277 c1_i32_526
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v1362 : BitVec 32 := Scalar.minsi v1361 v72
  let c256_i32_527 : BitVec 32 := 256#32
  let v1363 : BitVec 32 := Scalar.muli v1362 c256_i32_527
  v1363
def k0_mult76 (i : grid0.Coords) (k0_t4 : Fin (k0_t4_loop i).trips) : BitVec 32 :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_526 : BitVec 32 := 1#32
  let v1361 : BitVec 32 := Scalar.addi v277 c1_i32_526
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v1362 : BitVec 32 := Scalar.minsi v1361 v72
  let c256_i32_527 : BitVec 32 := 256#32
  let v1363 : BitVec 32 := Scalar.muli v1362 c256_i32_527
  let v1364 : BitVec 32 := v1363
  let c0_i32_528 : BitVec 32 := 0#32
  let v1368 : BitVec 32 := Scalar.addi v1364 c0_i32_528
  v1368
def k0_off418 (i : grid0.Coords) (k0_t4 : Fin (k0_t4_loop i).trips) (c0_i32_528 : BitVec 32) : Fin 2 → Nat :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_526 : BitVec 32 := 1#32
  let v1361 : BitVec 32 := Scalar.addi v277 c1_i32_526
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v1362 : BitVec 32 := Scalar.minsi v1361 v72
  let c256_i32_527 : BitVec 32 := 256#32
  let v1363 : BitVec 32 := Scalar.muli v1362 c256_i32_527
  let v1364 : BitVec 32 := v1363
  let v1368 : BitVec 32 := Scalar.addi v1364 c0_i32_528
  let v1369 : BitVec 32 := v1368
  let v1370 : Index := Scalar.indexCast v1369
  let c0_529 : Index := 0#32
  ![v1370.toNat, 0]
def k0_off419 (i : grid0.Coords) (k0_t4 : Fin (k0_t4_loop i).trips) (c0_i32_533 : BitVec 32) : Fin 3 → Nat :=
  let c2_i32_535 : BitVec 32 := 2#32
  let c0_i32_534 : BitVec 32 := 0#32
  let arg1 : BitVec 32 := BitVec.ofNat 32 (i 1).val
  let c2_i32_144 : BitVec 32 := 2#32
  let c2_i32_65 : BitVec 32 := 2#32
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_526 : BitVec 32 := 1#32
  let v1361 : BitVec 32 := Scalar.addi v277 c1_i32_526
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v1362 : BitVec 32 := Scalar.minsi v1361 v72
  let c2_i32_532 : BitVec 32 := 2#32
  let v1379 : BitVec 32 := Scalar.muli v1362 c2_i32_532
  let v1380 : BitVec 32 := Scalar.addi v1379 c0_i32_533
  let v1381 : BitVec 32 := Scalar.subi arg1 v1380
  let v1382 : BitVec 32 := Scalar.maxsi c0_i32_534 v1381
  let v1383 : BitVec 32 := Scalar.minsi c2_i32_535 v1382
  let v1384 : Index := Scalar.indexCast v1383
  let c0_536 : Index := 0#32
  let c0_537 : Index := 0#32
  ![v1384.toNat, 0, 0]
def k0_mult77 (i : grid0.Coords) (k0_t4 : Fin (k0_t4_loop i).trips) : BitVec 32 :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_526 : BitVec 32 := 1#32
  let v1361 : BitVec 32 := Scalar.addi v277 c1_i32_526
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v1362 : BitVec 32 := Scalar.minsi v1361 v72
  let c256_i32_527 : BitVec 32 := 256#32
  let v1363 : BitVec 32 := Scalar.muli v1362 c256_i32_527
  let v1364 : BitVec 32 := v1363
  let c128_i32_540 : BitVec 32 := 128#32
  let v1390 : BitVec 32 := Scalar.addi v1364 c128_i32_540
  v1390
def k0_off420 (i : grid0.Coords) (k0_t4 : Fin (k0_t4_loop i).trips) : Fin 2 → Nat :=
  let c0_554 : Index := 0#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_526 : BitVec 32 := 1#32
  let v1361 : BitVec 32 := Scalar.addi v277 c1_i32_526
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v1362 : BitVec 32 := Scalar.minsi v1361 v72
  let c256_i32_527 : BitVec 32 := 256#32
  let v1363 : BitVec 32 := Scalar.muli v1362 c256_i32_527
  let v1364 : BitVec 32 := v1363
  let v1425 : Index := Scalar.indexCast v1364
  ![0, v1425.toNat]
def k0_mult78 (i : grid0.Coords) (k0_t4 : Fin (k0_t4_loop i).trips) : BitVec 32 :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let c256_i32_569 : BitVec 32 := 256#32
  let v1450 : BitVec 32 := Scalar.muli v1435 c256_i32_569
  v1450
def k0_off421 (i : grid0.Coords) (k0_t4 : Fin (k0_t4_loop i).trips) : Fin 2 → Nat :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let c256_i32_569 : BitVec 32 := 256#32
  let v1450 : BitVec 32 := Scalar.muli v1435 c256_i32_569
  let v1451 : BitVec 32 := v1450
  let v1452 : Index := Scalar.indexCast v1451
  let c0_570 : Index := 0#32
  ![v1452.toNat, 0]
def k0_mult79 (i : grid0.Coords) (k0_t4 : Fin (k0_t4_loop i).trips) : BitVec 32 :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let c256_i32_574 : BitVec 32 := 256#32
  let v1458 : BitVec 32 := Scalar.muli v1435 c256_i32_574
  let c0_i32_575 : BitVec 32 := 0#32
  let v1459 : BitVec 32 := Scalar.addi v1458 c0_i32_575
  v1459
def k0_off422 (i : grid0.Coords) (k0_t4 : Fin (k0_t4_loop i).trips) (c0_i32_575 : BitVec 32) : Fin 2 → Nat :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let c256_i32_574 : BitVec 32 := 256#32
  let v1458 : BitVec 32 := Scalar.muli v1435 c256_i32_574
  let v1459 : BitVec 32 := Scalar.addi v1458 c0_i32_575
  let v1460 : BitVec 32 := v1459
  let v1492 : Index := Scalar.indexCast v1460
  let c0_580 : Index := 0#32
  ![v1492.toNat, 0]
def k0_mult80 (i : grid0.Coords) (k0_t4 : Fin (k0_t4_loop i).trips) : BitVec 32 :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let c256_i32_582 : BitVec 32 := 256#32
  let v1514 : BitVec 32 := Scalar.muli v1435 c256_i32_582
  let c128_i32_583 : BitVec 32 := 128#32
  let v1515 : BitVec 32 := Scalar.addi v1514 c128_i32_583
  v1515
def k0_off423 (i : grid0.Coords) (k0_t4 : Fin (k0_t4_loop i).trips) : Fin 4 → Nat :=
  let c0_830 : Index := 0#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2290 : Index := Scalar.indexCast v1435
  let c0_831 : Index := 0#32
  let c0_832 : Index := 0#32
  ![0, v2290.toNat, 0, 0]
def k0_off424 (i : grid0.Coords) (k0_t4 : Fin (k0_t4_loop i).trips) : Fin 4 → Nat :=
  let c1_833 : Index := 1#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2294 : Index := Scalar.indexCast v1435
  let c0_834 : Index := 0#32
  let c0_835 : Index := 0#32
  ![1, v2294.toNat, 0, 0]
def k0_off425 (i : grid0.Coords) (k0_t4 : Fin (k0_t4_loop i).trips) : Fin 4 → Nat :=
  let c2_836 : Index := 2#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2298 : Index := Scalar.indexCast v1435
  let c0_837 : Index := 0#32
  let c0_838 : Index := 0#32
  ![2, v2298.toNat, 0, 0]
def k0_off426 (i : grid0.Coords) (k0_t4 : Fin (k0_t4_loop i).trips) : Fin 4 → Nat :=
  let c3_839 : Index := 3#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2302 : Index := Scalar.indexCast v1435
  let c0_840 : Index := 0#32
  let c0_841 : Index := 0#32
  ![3, v2302.toNat, 0, 0]
def k0_off427 (i : grid0.Coords) (k0_t4 : Fin (k0_t4_loop i).trips) : Fin 4 → Nat :=
  let c4_842 : Index := 4#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2306 : Index := Scalar.indexCast v1435
  let c0_843 : Index := 0#32
  let c0_844 : Index := 0#32
  ![4, v2306.toNat, 0, 0]
def k0_off428 (i : grid0.Coords) (k0_t4 : Fin (k0_t4_loop i).trips) : Fin 4 → Nat :=
  let c5_845 : Index := 5#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2310 : Index := Scalar.indexCast v1435
  let c0_846 : Index := 0#32
  let c0_847 : Index := 0#32
  ![5, v2310.toNat, 0, 0]
def k0_off429 (i : grid0.Coords) (k0_t4 : Fin (k0_t4_loop i).trips) : Fin 4 → Nat :=
  let c6_848 : Index := 6#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2314 : Index := Scalar.indexCast v1435
  let c0_849 : Index := 0#32
  let c0_850 : Index := 0#32
  ![6, v2314.toNat, 0, 0]
def k0_off430 (i : grid0.Coords) (k0_t4 : Fin (k0_t4_loop i).trips) : Fin 4 → Nat :=
  let c7_851 : Index := 7#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2318 : Index := Scalar.indexCast v1435
  let c0_852 : Index := 0#32
  let c0_853 : Index := 0#32
  ![7, v2318.toNat, 0, 0]
def k0_off431 (i : grid0.Coords) (k0_t4 : Fin (k0_t4_loop i).trips) : Fin 4 → Nat :=
  let c8_854 : Index := 8#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2322 : Index := Scalar.indexCast v1435
  let c0_855 : Index := 0#32
  let c0_856 : Index := 0#32
  ![8, v2322.toNat, 0, 0]
def k0_off432 (i : grid0.Coords) (k0_t4 : Fin (k0_t4_loop i).trips) : Fin 4 → Nat :=
  let c9_857 : Index := 9#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2326 : Index := Scalar.indexCast v1435
  let c0_858 : Index := 0#32
  let c0_859 : Index := 0#32
  ![9, v2326.toNat, 0, 0]
def k0_off433 (i : grid0.Coords) (k0_t4 : Fin (k0_t4_loop i).trips) : Fin 4 → Nat :=
  let c10_860 : Index := 10#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2330 : Index := Scalar.indexCast v1435
  let c0_861 : Index := 0#32
  let c0_862 : Index := 0#32
  ![10, v2330.toNat, 0, 0]
def k0_off434 (i : grid0.Coords) (k0_t4 : Fin (k0_t4_loop i).trips) : Fin 4 → Nat :=
  let c11_863 : Index := 11#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2334 : Index := Scalar.indexCast v1435
  let c0_864 : Index := 0#32
  let c0_865 : Index := 0#32
  ![11, v2334.toNat, 0, 0]
def k0_off435 (i : grid0.Coords) (k0_t4 : Fin (k0_t4_loop i).trips) : Fin 4 → Nat :=
  let c12_866 : Index := 12#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2338 : Index := Scalar.indexCast v1435
  let c0_867 : Index := 0#32
  let c0_868 : Index := 0#32
  ![12, v2338.toNat, 0, 0]
def k0_off436 (i : grid0.Coords) (k0_t4 : Fin (k0_t4_loop i).trips) : Fin 4 → Nat :=
  let c13_869 : Index := 13#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2342 : Index := Scalar.indexCast v1435
  let c0_870 : Index := 0#32
  let c0_871 : Index := 0#32
  ![13, v2342.toNat, 0, 0]
def k0_off437 (i : grid0.Coords) (k0_t4 : Fin (k0_t4_loop i).trips) : Fin 4 → Nat :=
  let c14_872 : Index := 14#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2346 : Index := Scalar.indexCast v1435
  let c0_873 : Index := 0#32
  let c0_874 : Index := 0#32
  ![14, v2346.toNat, 0, 0]
def k0_off438 (i : grid0.Coords) (k0_t4 : Fin (k0_t4_loop i).trips) : Fin 4 → Nat :=
  let c15_875 : Index := 15#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2350 : Index := Scalar.indexCast v1435
  let c0_876 : Index := 0#32
  let c0_877 : Index := 0#32
  ![15, v2350.toNat, 0, 0]
def k0_off439 (i : grid0.Coords) (k0_t4 : Fin (k0_t4_loop i).trips) : Fin 4 → Nat :=
  let c16_878 : Index := 16#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2354 : Index := Scalar.indexCast v1435
  let c0_879 : Index := 0#32
  let c0_880 : Index := 0#32
  ![16, v2354.toNat, 0, 0]
def k0_off440 (i : grid0.Coords) (k0_t4 : Fin (k0_t4_loop i).trips) : Fin 4 → Nat :=
  let c17_881 : Index := 17#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2358 : Index := Scalar.indexCast v1435
  let c0_882 : Index := 0#32
  let c0_883 : Index := 0#32
  ![17, v2358.toNat, 0, 0]
def k0_off441 (i : grid0.Coords) (k0_t4 : Fin (k0_t4_loop i).trips) : Fin 4 → Nat :=
  let c18_884 : Index := 18#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2362 : Index := Scalar.indexCast v1435
  let c0_885 : Index := 0#32
  let c0_886 : Index := 0#32
  ![18, v2362.toNat, 0, 0]
def k0_off442 (i : grid0.Coords) (k0_t4 : Fin (k0_t4_loop i).trips) : Fin 4 → Nat :=
  let c19_887 : Index := 19#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2366 : Index := Scalar.indexCast v1435
  let c0_888 : Index := 0#32
  let c0_889 : Index := 0#32
  ![19, v2366.toNat, 0, 0]
def k0_off443 (i : grid0.Coords) (k0_t4 : Fin (k0_t4_loop i).trips) : Fin 4 → Nat :=
  let c20_890 : Index := 20#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2370 : Index := Scalar.indexCast v1435
  let c0_891 : Index := 0#32
  let c0_892 : Index := 0#32
  ![20, v2370.toNat, 0, 0]
def k0_off444 (i : grid0.Coords) (k0_t4 : Fin (k0_t4_loop i).trips) : Fin 4 → Nat :=
  let c21_893 : Index := 21#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2374 : Index := Scalar.indexCast v1435
  let c0_894 : Index := 0#32
  let c0_895 : Index := 0#32
  ![21, v2374.toNat, 0, 0]
def k0_off445 (i : grid0.Coords) (k0_t4 : Fin (k0_t4_loop i).trips) : Fin 4 → Nat :=
  let c22_896 : Index := 22#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2378 : Index := Scalar.indexCast v1435
  let c0_897 : Index := 0#32
  let c0_898 : Index := 0#32
  ![22, v2378.toNat, 0, 0]
def k0_off446 (i : grid0.Coords) (k0_t4 : Fin (k0_t4_loop i).trips) : Fin 4 → Nat :=
  let c23_899 : Index := 23#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2382 : Index := Scalar.indexCast v1435
  let c0_900 : Index := 0#32
  let c0_901 : Index := 0#32
  ![23, v2382.toNat, 0, 0]
def k0_off447 (i : grid0.Coords) (k0_t4 : Fin (k0_t4_loop i).trips) : Fin 4 → Nat :=
  let c24_902 : Index := 24#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2386 : Index := Scalar.indexCast v1435
  let c0_903 : Index := 0#32
  let c0_904 : Index := 0#32
  ![24, v2386.toNat, 0, 0]
def k0_off448 (i : grid0.Coords) (k0_t4 : Fin (k0_t4_loop i).trips) : Fin 4 → Nat :=
  let c25_905 : Index := 25#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2390 : Index := Scalar.indexCast v1435
  let c0_906 : Index := 0#32
  let c0_907 : Index := 0#32
  ![25, v2390.toNat, 0, 0]
def k0_off449 (i : grid0.Coords) (k0_t4 : Fin (k0_t4_loop i).trips) : Fin 4 → Nat :=
  let c26_908 : Index := 26#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2394 : Index := Scalar.indexCast v1435
  let c0_909 : Index := 0#32
  let c0_910 : Index := 0#32
  ![26, v2394.toNat, 0, 0]
def k0_off450 (i : grid0.Coords) (k0_t4 : Fin (k0_t4_loop i).trips) : Fin 4 → Nat :=
  let c27_911 : Index := 27#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2398 : Index := Scalar.indexCast v1435
  let c0_912 : Index := 0#32
  let c0_913 : Index := 0#32
  ![27, v2398.toNat, 0, 0]
def k0_off451 (i : grid0.Coords) (k0_t4 : Fin (k0_t4_loop i).trips) : Fin 4 → Nat :=
  let c28_914 : Index := 28#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2402 : Index := Scalar.indexCast v1435
  let c0_915 : Index := 0#32
  let c0_916 : Index := 0#32
  ![28, v2402.toNat, 0, 0]
def k0_off452 (i : grid0.Coords) (k0_t4 : Fin (k0_t4_loop i).trips) : Fin 4 → Nat :=
  let c29_917 : Index := 29#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2406 : Index := Scalar.indexCast v1435
  let c0_918 : Index := 0#32
  let c0_919 : Index := 0#32
  ![29, v2406.toNat, 0, 0]
def k0_off453 (i : grid0.Coords) (k0_t4 : Fin (k0_t4_loop i).trips) : Fin 4 → Nat :=
  let c30_920 : Index := 30#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2410 : Index := Scalar.indexCast v1435
  let c0_921 : Index := 0#32
  let c0_922 : Index := 0#32
  ![30, v2410.toNat, 0, 0]
def k0_off454 (i : grid0.Coords) (k0_t4 : Fin (k0_t4_loop i).trips) : Fin 4 → Nat :=
  let c31_923 : Index := 31#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c1_i32_113 : BitVec 32 := 1#32
  let arg24 : BitVec 32 := Scf.iv c0_i32_111 c1_i32_113 k0_t4
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2414 : Index := Scalar.indexCast v1435
  let c0_924 : Index := 0#32
  let c0_925 : Index := 0#32
  ![31, v2414.toNat, 0, 0]
def k0_mult81 (i : grid0.Coords) (k0_t4 : Fin (k0_t4_loop i).trips) : BitVec 32 :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_929 : BitVec 32 := 1#32
  let v2422 : BitVec 32 := Scalar.addi v2421 c1_i32_929
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v2423 : BitVec 32 := Scalar.minsi v2422 v72
  let c256_i32_930 : BitVec 32 := 256#32
  let v2424 : BitVec 32 := Scalar.muli v2423 c256_i32_930
  v2424
def k0_off455 (i : grid0.Coords) (k0_t4 : Fin (k0_t4_loop i).trips) (c1_i32_929 : BitVec 32) : Fin 2 → Nat :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v2422 : BitVec 32 := Scalar.addi v2421 c1_i32_929
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v2423 : BitVec 32 := Scalar.minsi v2422 v72
  let c256_i32_930 : BitVec 32 := 256#32
  let v2424 : BitVec 32 := Scalar.muli v2423 c256_i32_930
  let v2425 : BitVec 32 := v2424
  let v2426 : Index := Scalar.indexCast v2425
  let c0_931 : Index := 0#32
  ![v2426.toNat, 0]
def k0_mult82 (i : grid0.Coords) (k0_t4 : Fin (k0_t4_loop i).trips) : BitVec 32 :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v2436 : BitVec 32 := Scalar.minsi v2421 v72
  let c256_i32_937 : BitVec 32 := 256#32
  let v2437 : BitVec 32 := Scalar.muli v2436 c256_i32_937
  v2437
def k0_mult83 (i : grid0.Coords) (k0_t4 : Fin (k0_t4_loop i).trips) : BitVec 32 :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v2436 : BitVec 32 := Scalar.minsi v2421 v72
  let c256_i32_937 : BitVec 32 := 256#32
  let v2437 : BitVec 32 := Scalar.muli v2436 c256_i32_937
  let v2438 : BitVec 32 := v2437
  let c0_i32_938 : BitVec 32 := 0#32
  let v2442 : BitVec 32 := Scalar.addi v2438 c0_i32_938
  v2442
def k0_off456 (i : grid0.Coords) (k0_t4 : Fin (k0_t4_loop i).trips) (c0_i32_938 : BitVec 32) : Fin 2 → Nat :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v2436 : BitVec 32 := Scalar.minsi v2421 v72
  let c256_i32_937 : BitVec 32 := 256#32
  let v2437 : BitVec 32 := Scalar.muli v2436 c256_i32_937
  let v2438 : BitVec 32 := v2437
  let v2442 : BitVec 32 := Scalar.addi v2438 c0_i32_938
  let v2443 : BitVec 32 := v2442
  let v2444 : Index := Scalar.indexCast v2443
  let c0_939 : Index := 0#32
  ![v2444.toNat, 0]
def k0_off457 (i : grid0.Coords) (k0_t4 : Fin (k0_t4_loop i).trips) (c0_i32_943 : BitVec 32) : Fin 3 → Nat :=
  let c2_i32_945 : BitVec 32 := 2#32
  let c0_i32_944 : BitVec 32 := 0#32
  let arg1 : BitVec 32 := BitVec.ofNat 32 (i 1).val
  let c2_i32_928 : BitVec 32 := 2#32
  let c2_i32_65 : BitVec 32 := 2#32
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v2436 : BitVec 32 := Scalar.minsi v2421 v72
  let c2_i32_942 : BitVec 32 := 2#32
  let v2453 : BitVec 32 := Scalar.muli v2436 c2_i32_942
  let v2454 : BitVec 32 := Scalar.addi v2453 c0_i32_943
  let v2455 : BitVec 32 := Scalar.subi arg1 v2454
  let v2456 : BitVec 32 := Scalar.maxsi c0_i32_944 v2455
  let v2457 : BitVec 32 := Scalar.minsi c2_i32_945 v2456
  let v2458 : Index := Scalar.indexCast v2457
  let c0_946 : Index := 0#32
  let c0_947 : Index := 0#32
  ![v2458.toNat, 0, 0]
def k0_mult84 (i : grid0.Coords) (k0_t4 : Fin (k0_t4_loop i).trips) : BitVec 32 :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v2436 : BitVec 32 := Scalar.minsi v2421 v72
  let c256_i32_937 : BitVec 32 := 256#32
  let v2437 : BitVec 32 := Scalar.muli v2436 c256_i32_937
  let v2438 : BitVec 32 := v2437
  let c128_i32_950 : BitVec 32 := 128#32
  let v2464 : BitVec 32 := Scalar.addi v2438 c128_i32_950
  v2464
def k0_off458 (i : grid0.Coords) (k0_t4 : Fin (k0_t4_loop i).trips) : Fin 2 → Nat :=
  let c0_964 : Index := 0#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v2436 : BitVec 32 := Scalar.minsi v2421 v72
  let c256_i32_937 : BitVec 32 := 256#32
  let v2437 : BitVec 32 := Scalar.muli v2436 c256_i32_937
  let v2438 : BitVec 32 := v2437
  let v2499 : Index := Scalar.indexCast v2438
  ![0, v2499.toNat]
def k0_mult85 (i : grid0.Coords) (k0_t4 : Fin (k0_t4_loop i).trips) : BitVec 32 :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c256_i32_978 : BitVec 32 := 256#32
  let v2523 : BitVec 32 := Scalar.muli v2421 c256_i32_978
  v2523
def k0_off459 (i : grid0.Coords) (k0_t4 : Fin (k0_t4_loop i).trips) : Fin 2 → Nat :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c256_i32_978 : BitVec 32 := 256#32
  let v2523 : BitVec 32 := Scalar.muli v2421 c256_i32_978
  let v2524 : BitVec 32 := v2523
  let v2525 : Index := Scalar.indexCast v2524
  let c0_979 : Index := 0#32
  ![v2525.toNat, 0]
def k0_mult86 (i : grid0.Coords) (k0_t4 : Fin (k0_t4_loop i).trips) : BitVec 32 :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c256_i32_983 : BitVec 32 := 256#32
  let v2531 : BitVec 32 := Scalar.muli v2421 c256_i32_983
  let c0_i32_984 : BitVec 32 := 0#32
  let v2532 : BitVec 32 := Scalar.addi v2531 c0_i32_984
  v2532
def k0_off460 (i : grid0.Coords) (k0_t4 : Fin (k0_t4_loop i).trips) (c0_i32_984 : BitVec 32) : Fin 2 → Nat :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c256_i32_983 : BitVec 32 := 256#32
  let v2531 : BitVec 32 := Scalar.muli v2421 c256_i32_983
  let v2532 : BitVec 32 := Scalar.addi v2531 c0_i32_984
  let v2533 : BitVec 32 := v2532
  let v2565 : Index := Scalar.indexCast v2533
  let c0_989 : Index := 0#32
  ![v2565.toNat, 0]
def k0_mult87 (i : grid0.Coords) (k0_t4 : Fin (k0_t4_loop i).trips) : BitVec 32 :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c256_i32_991 : BitVec 32 := 256#32
  let v2587 : BitVec 32 := Scalar.muli v2421 c256_i32_991
  let c128_i32_992 : BitVec 32 := 128#32
  let v2588 : BitVec 32 := Scalar.addi v2587 c128_i32_992
  v2588
def k0_off461 (i : grid0.Coords) (k0_t4 : Fin (k0_t4_loop i).trips) : Fin 4 → Nat :=
  let c0_1239 : Index := 0#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3363 : Index := Scalar.indexCast v2421
  let c0_1240 : Index := 0#32
  let c0_1241 : Index := 0#32
  ![0, v3363.toNat, 0, 0]
def k0_off462 (i : grid0.Coords) (k0_t4 : Fin (k0_t4_loop i).trips) : Fin 4 → Nat :=
  let c1_1242 : Index := 1#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3367 : Index := Scalar.indexCast v2421
  let c0_1243 : Index := 0#32
  let c0_1244 : Index := 0#32
  ![1, v3367.toNat, 0, 0]
def k0_off463 (i : grid0.Coords) (k0_t4 : Fin (k0_t4_loop i).trips) : Fin 4 → Nat :=
  let c2_1245 : Index := 2#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3371 : Index := Scalar.indexCast v2421
  let c0_1246 : Index := 0#32
  let c0_1247 : Index := 0#32
  ![2, v3371.toNat, 0, 0]
def k0_off464 (i : grid0.Coords) (k0_t4 : Fin (k0_t4_loop i).trips) : Fin 4 → Nat :=
  let c3_1248 : Index := 3#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3375 : Index := Scalar.indexCast v2421
  let c0_1249 : Index := 0#32
  let c0_1250 : Index := 0#32
  ![3, v3375.toNat, 0, 0]
def k0_off465 (i : grid0.Coords) (k0_t4 : Fin (k0_t4_loop i).trips) : Fin 4 → Nat :=
  let c4_1251 : Index := 4#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3379 : Index := Scalar.indexCast v2421
  let c0_1252 : Index := 0#32
  let c0_1253 : Index := 0#32
  ![4, v3379.toNat, 0, 0]
def k0_off466 (i : grid0.Coords) (k0_t4 : Fin (k0_t4_loop i).trips) : Fin 4 → Nat :=
  let c5_1254 : Index := 5#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3383 : Index := Scalar.indexCast v2421
  let c0_1255 : Index := 0#32
  let c0_1256 : Index := 0#32
  ![5, v3383.toNat, 0, 0]
def k0_off467 (i : grid0.Coords) (k0_t4 : Fin (k0_t4_loop i).trips) : Fin 4 → Nat :=
  let c6_1257 : Index := 6#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3387 : Index := Scalar.indexCast v2421
  let c0_1258 : Index := 0#32
  let c0_1259 : Index := 0#32
  ![6, v3387.toNat, 0, 0]
def k0_off468 (i : grid0.Coords) (k0_t4 : Fin (k0_t4_loop i).trips) : Fin 4 → Nat :=
  let c7_1260 : Index := 7#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3391 : Index := Scalar.indexCast v2421
  let c0_1261 : Index := 0#32
  let c0_1262 : Index := 0#32
  ![7, v3391.toNat, 0, 0]
def k0_off469 (i : grid0.Coords) (k0_t4 : Fin (k0_t4_loop i).trips) : Fin 4 → Nat :=
  let c8_1263 : Index := 8#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3395 : Index := Scalar.indexCast v2421
  let c0_1264 : Index := 0#32
  let c0_1265 : Index := 0#32
  ![8, v3395.toNat, 0, 0]
def k0_off470 (i : grid0.Coords) (k0_t4 : Fin (k0_t4_loop i).trips) : Fin 4 → Nat :=
  let c9_1266 : Index := 9#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3399 : Index := Scalar.indexCast v2421
  let c0_1267 : Index := 0#32
  let c0_1268 : Index := 0#32
  ![9, v3399.toNat, 0, 0]
def k0_off471 (i : grid0.Coords) (k0_t4 : Fin (k0_t4_loop i).trips) : Fin 4 → Nat :=
  let c10_1269 : Index := 10#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3403 : Index := Scalar.indexCast v2421
  let c0_1270 : Index := 0#32
  let c0_1271 : Index := 0#32
  ![10, v3403.toNat, 0, 0]
def k0_off472 (i : grid0.Coords) (k0_t4 : Fin (k0_t4_loop i).trips) : Fin 4 → Nat :=
  let c11_1272 : Index := 11#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3407 : Index := Scalar.indexCast v2421
  let c0_1273 : Index := 0#32
  let c0_1274 : Index := 0#32
  ![11, v3407.toNat, 0, 0]
def k0_off473 (i : grid0.Coords) (k0_t4 : Fin (k0_t4_loop i).trips) : Fin 4 → Nat :=
  let c12_1275 : Index := 12#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3411 : Index := Scalar.indexCast v2421
  let c0_1276 : Index := 0#32
  let c0_1277 : Index := 0#32
  ![12, v3411.toNat, 0, 0]
def k0_off474 (i : grid0.Coords) (k0_t4 : Fin (k0_t4_loop i).trips) : Fin 4 → Nat :=
  let c13_1278 : Index := 13#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3415 : Index := Scalar.indexCast v2421
  let c0_1279 : Index := 0#32
  let c0_1280 : Index := 0#32
  ![13, v3415.toNat, 0, 0]
def k0_off475 (i : grid0.Coords) (k0_t4 : Fin (k0_t4_loop i).trips) : Fin 4 → Nat :=
  let c14_1281 : Index := 14#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3419 : Index := Scalar.indexCast v2421
  let c0_1282 : Index := 0#32
  let c0_1283 : Index := 0#32
  ![14, v3419.toNat, 0, 0]
def k0_off476 (i : grid0.Coords) (k0_t4 : Fin (k0_t4_loop i).trips) : Fin 4 → Nat :=
  let c15_1284 : Index := 15#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3423 : Index := Scalar.indexCast v2421
  let c0_1285 : Index := 0#32
  let c0_1286 : Index := 0#32
  ![15, v3423.toNat, 0, 0]
def k0_off477 (i : grid0.Coords) (k0_t4 : Fin (k0_t4_loop i).trips) : Fin 4 → Nat :=
  let c16_1287 : Index := 16#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3427 : Index := Scalar.indexCast v2421
  let c0_1288 : Index := 0#32
  let c0_1289 : Index := 0#32
  ![16, v3427.toNat, 0, 0]
def k0_off478 (i : grid0.Coords) (k0_t4 : Fin (k0_t4_loop i).trips) : Fin 4 → Nat :=
  let c17_1290 : Index := 17#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3431 : Index := Scalar.indexCast v2421
  let c0_1291 : Index := 0#32
  let c0_1292 : Index := 0#32
  ![17, v3431.toNat, 0, 0]
def k0_off479 (i : grid0.Coords) (k0_t4 : Fin (k0_t4_loop i).trips) : Fin 4 → Nat :=
  let c18_1293 : Index := 18#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3435 : Index := Scalar.indexCast v2421
  let c0_1294 : Index := 0#32
  let c0_1295 : Index := 0#32
  ![18, v3435.toNat, 0, 0]
def k0_off480 (i : grid0.Coords) (k0_t4 : Fin (k0_t4_loop i).trips) : Fin 4 → Nat :=
  let c19_1296 : Index := 19#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3439 : Index := Scalar.indexCast v2421
  let c0_1297 : Index := 0#32
  let c0_1298 : Index := 0#32
  ![19, v3439.toNat, 0, 0]
def k0_off481 (i : grid0.Coords) (k0_t4 : Fin (k0_t4_loop i).trips) : Fin 4 → Nat :=
  let c20_1299 : Index := 20#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3443 : Index := Scalar.indexCast v2421
  let c0_1300 : Index := 0#32
  let c0_1301 : Index := 0#32
  ![20, v3443.toNat, 0, 0]
def k0_off482 (i : grid0.Coords) (k0_t4 : Fin (k0_t4_loop i).trips) : Fin 4 → Nat :=
  let c21_1302 : Index := 21#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3447 : Index := Scalar.indexCast v2421
  let c0_1303 : Index := 0#32
  let c0_1304 : Index := 0#32
  ![21, v3447.toNat, 0, 0]
def k0_off483 (i : grid0.Coords) (k0_t4 : Fin (k0_t4_loop i).trips) : Fin 4 → Nat :=
  let c22_1305 : Index := 22#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3451 : Index := Scalar.indexCast v2421
  let c0_1306 : Index := 0#32
  let c0_1307 : Index := 0#32
  ![22, v3451.toNat, 0, 0]
def k0_off484 (i : grid0.Coords) (k0_t4 : Fin (k0_t4_loop i).trips) : Fin 4 → Nat :=
  let c23_1308 : Index := 23#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3455 : Index := Scalar.indexCast v2421
  let c0_1309 : Index := 0#32
  let c0_1310 : Index := 0#32
  ![23, v3455.toNat, 0, 0]
def k0_off485 (i : grid0.Coords) (k0_t4 : Fin (k0_t4_loop i).trips) : Fin 4 → Nat :=
  let c24_1311 : Index := 24#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3459 : Index := Scalar.indexCast v2421
  let c0_1312 : Index := 0#32
  let c0_1313 : Index := 0#32
  ![24, v3459.toNat, 0, 0]
def k0_off486 (i : grid0.Coords) (k0_t4 : Fin (k0_t4_loop i).trips) : Fin 4 → Nat :=
  let c25_1314 : Index := 25#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3463 : Index := Scalar.indexCast v2421
  let c0_1315 : Index := 0#32
  let c0_1316 : Index := 0#32
  ![25, v3463.toNat, 0, 0]
def k0_off487 (i : grid0.Coords) (k0_t4 : Fin (k0_t4_loop i).trips) : Fin 4 → Nat :=
  let c26_1317 : Index := 26#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3467 : Index := Scalar.indexCast v2421
  let c0_1318 : Index := 0#32
  let c0_1319 : Index := 0#32
  ![26, v3467.toNat, 0, 0]
def k0_off488 (i : grid0.Coords) (k0_t4 : Fin (k0_t4_loop i).trips) : Fin 4 → Nat :=
  let c27_1320 : Index := 27#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3471 : Index := Scalar.indexCast v2421
  let c0_1321 : Index := 0#32
  let c0_1322 : Index := 0#32
  ![27, v3471.toNat, 0, 0]
def k0_off489 (i : grid0.Coords) (k0_t4 : Fin (k0_t4_loop i).trips) : Fin 4 → Nat :=
  let c28_1323 : Index := 28#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3475 : Index := Scalar.indexCast v2421
  let c0_1324 : Index := 0#32
  let c0_1325 : Index := 0#32
  ![28, v3475.toNat, 0, 0]
def k0_off490 (i : grid0.Coords) (k0_t4 : Fin (k0_t4_loop i).trips) : Fin 4 → Nat :=
  let c29_1326 : Index := 29#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3479 : Index := Scalar.indexCast v2421
  let c0_1327 : Index := 0#32
  let c0_1328 : Index := 0#32
  ![29, v3479.toNat, 0, 0]
def k0_off491 (i : grid0.Coords) (k0_t4 : Fin (k0_t4_loop i).trips) : Fin 4 → Nat :=
  let c30_1329 : Index := 30#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3483 : Index := Scalar.indexCast v2421
  let c0_1330 : Index := 0#32
  let c0_1331 : Index := 0#32
  ![30, v3483.toNat, 0, 0]
def k0_off492 (i : grid0.Coords) (k0_t4 : Fin (k0_t4_loop i).trips) : Fin 4 → Nat :=
  let c31_1332 : Index := 31#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3487 : Index := Scalar.indexCast v2421
  let c0_1333 : Index := 0#32
  let c0_1334 : Index := 0#32
  ![31, v3487.toNat, 0, 0]
def k0_mult88 (i : grid0.Coords) (k0_t4 : Fin (k0_t4_loop i).trips) : BitVec 32 :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c2_i32_1335 : BitVec 32 := 2#32
  let v3491 : BitVec 32 := Scalar.addi v2421 c2_i32_1335
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v3492 : BitVec 32 := Scalar.minsi v3491 v72
  let c256_i32_1336 : BitVec 32 := 256#32
  let v3493 : BitVec 32 := Scalar.muli v3492 c256_i32_1336
  v3493
def k0_mult89 (i : grid0.Coords) (k0_t4 : Fin (k0_t4_loop i).trips) : BitVec 32 :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1343 : BitVec 32 := 1#32
  let v3505 : BitVec 32 := Scalar.addi v2421 c1_i32_1343
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v3506 : BitVec 32 := Scalar.minsi v3505 v72
  let c256_i32_1344 : BitVec 32 := 256#32
  let v3507 : BitVec 32 := Scalar.muli v3506 c256_i32_1344
  v3507
def k0_mult90 (i : grid0.Coords) (k0_t4 : Fin (k0_t4_loop i).trips) : BitVec 32 :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1343 : BitVec 32 := 1#32
  let v3505 : BitVec 32 := Scalar.addi v2421 c1_i32_1343
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v3506 : BitVec 32 := Scalar.minsi v3505 v72
  let c256_i32_1344 : BitVec 32 := 256#32
  let v3507 : BitVec 32 := Scalar.muli v3506 c256_i32_1344
  let v3508 : BitVec 32 := v3507
  let c0_i32_1345 : BitVec 32 := 0#32
  let v3512 : BitVec 32 := Scalar.addi v3508 c0_i32_1345
  v3512
def k0_off493 (i : grid0.Coords) (k0_t4 : Fin (k0_t4_loop i).trips) (c0_i32_1345 : BitVec 32) : Fin 2 → Nat :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1343 : BitVec 32 := 1#32
  let v3505 : BitVec 32 := Scalar.addi v2421 c1_i32_1343
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v3506 : BitVec 32 := Scalar.minsi v3505 v72
  let c256_i32_1344 : BitVec 32 := 256#32
  let v3507 : BitVec 32 := Scalar.muli v3506 c256_i32_1344
  let v3508 : BitVec 32 := v3507
  let v3512 : BitVec 32 := Scalar.addi v3508 c0_i32_1345
  let v3513 : BitVec 32 := v3512
  let v3514 : Index := Scalar.indexCast v3513
  let c0_1346 : Index := 0#32
  ![v3514.toNat, 0]
def k0_off494 (i : grid0.Coords) (k0_t4 : Fin (k0_t4_loop i).trips) (c0_i32_1350 : BitVec 32) : Fin 3 → Nat :=
  let c2_i32_1352 : BitVec 32 := 2#32
  let c0_i32_1351 : BitVec 32 := 0#32
  let arg1 : BitVec 32 := BitVec.ofNat 32 (i 1).val
  let c2_i32_928 : BitVec 32 := 2#32
  let c2_i32_65 : BitVec 32 := 2#32
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1343 : BitVec 32 := 1#32
  let v3505 : BitVec 32 := Scalar.addi v2421 c1_i32_1343
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v3506 : BitVec 32 := Scalar.minsi v3505 v72
  let c2_i32_1349 : BitVec 32 := 2#32
  let v3523 : BitVec 32 := Scalar.muli v3506 c2_i32_1349
  let v3524 : BitVec 32 := Scalar.addi v3523 c0_i32_1350
  let v3525 : BitVec 32 := Scalar.subi arg1 v3524
  let v3526 : BitVec 32 := Scalar.maxsi c0_i32_1351 v3525
  let v3527 : BitVec 32 := Scalar.minsi c2_i32_1352 v3526
  let v3528 : Index := Scalar.indexCast v3527
  let c0_1353 : Index := 0#32
  let c0_1354 : Index := 0#32
  ![v3528.toNat, 0, 0]
def k0_mult91 (i : grid0.Coords) (k0_t4 : Fin (k0_t4_loop i).trips) : BitVec 32 :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1343 : BitVec 32 := 1#32
  let v3505 : BitVec 32 := Scalar.addi v2421 c1_i32_1343
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v3506 : BitVec 32 := Scalar.minsi v3505 v72
  let c256_i32_1344 : BitVec 32 := 256#32
  let v3507 : BitVec 32 := Scalar.muli v3506 c256_i32_1344
  let v3508 : BitVec 32 := v3507
  let c128_i32_1357 : BitVec 32 := 128#32
  let v3534 : BitVec 32 := Scalar.addi v3508 c128_i32_1357
  v3534
def k0_off495 (i : grid0.Coords) (k0_t4 : Fin (k0_t4_loop i).trips) : Fin 2 → Nat :=
  let c0_1371 : Index := 0#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1343 : BitVec 32 := 1#32
  let v3505 : BitVec 32 := Scalar.addi v2421 c1_i32_1343
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v3506 : BitVec 32 := Scalar.minsi v3505 v72
  let c256_i32_1344 : BitVec 32 := 256#32
  let v3507 : BitVec 32 := Scalar.muli v3506 c256_i32_1344
  let v3508 : BitVec 32 := v3507
  let v3569 : Index := Scalar.indexCast v3508
  ![0, v3569.toNat]
def k0_mult92 (i : grid0.Coords) (k0_t4 : Fin (k0_t4_loop i).trips) : BitVec 32 :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let c256_i32_1386 : BitVec 32 := 256#32
  let v3594 : BitVec 32 := Scalar.muli v3579 c256_i32_1386
  v3594
def k0_off496 (i : grid0.Coords) (k0_t4 : Fin (k0_t4_loop i).trips) : Fin 2 → Nat :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let c256_i32_1386 : BitVec 32 := 256#32
  let v3594 : BitVec 32 := Scalar.muli v3579 c256_i32_1386
  let v3595 : BitVec 32 := v3594
  let v3596 : Index := Scalar.indexCast v3595
  let c0_1387 : Index := 0#32
  ![v3596.toNat, 0]
def k0_mult93 (i : grid0.Coords) (k0_t4 : Fin (k0_t4_loop i).trips) : BitVec 32 :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let c256_i32_1391 : BitVec 32 := 256#32
  let v3602 : BitVec 32 := Scalar.muli v3579 c256_i32_1391
  let c0_i32_1392 : BitVec 32 := 0#32
  let v3603 : BitVec 32 := Scalar.addi v3602 c0_i32_1392
  v3603
def k0_off497 (i : grid0.Coords) (k0_t4 : Fin (k0_t4_loop i).trips) (c0_i32_1392 : BitVec 32) : Fin 2 → Nat :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let c256_i32_1391 : BitVec 32 := 256#32
  let v3602 : BitVec 32 := Scalar.muli v3579 c256_i32_1391
  let v3603 : BitVec 32 := Scalar.addi v3602 c0_i32_1392
  let v3604 : BitVec 32 := v3603
  let v3636 : Index := Scalar.indexCast v3604
  let c0_1397 : Index := 0#32
  ![v3636.toNat, 0]
def k0_mult94 (i : grid0.Coords) (k0_t4 : Fin (k0_t4_loop i).trips) : BitVec 32 :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let c256_i32_1399 : BitVec 32 := 256#32
  let v3658 : BitVec 32 := Scalar.muli v3579 c256_i32_1399
  let c128_i32_1400 : BitVec 32 := 128#32
  let v3659 : BitVec 32 := Scalar.addi v3658 c128_i32_1400
  v3659
def k0_off498 (i : grid0.Coords) (k0_t4 : Fin (k0_t4_loop i).trips) : Fin 4 → Nat :=
  let c0_1647 : Index := 0#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4434 : Index := Scalar.indexCast v3579
  let c0_1648 : Index := 0#32
  let c0_1649 : Index := 0#32
  ![0, v4434.toNat, 0, 0]
def k0_off499 (i : grid0.Coords) (k0_t4 : Fin (k0_t4_loop i).trips) : Fin 4 → Nat :=
  let c1_1650 : Index := 1#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4438 : Index := Scalar.indexCast v3579
  let c0_1651 : Index := 0#32
  let c0_1652 : Index := 0#32
  ![1, v4438.toNat, 0, 0]
def k0_off500 (i : grid0.Coords) (k0_t4 : Fin (k0_t4_loop i).trips) : Fin 4 → Nat :=
  let c2_1653 : Index := 2#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4442 : Index := Scalar.indexCast v3579
  let c0_1654 : Index := 0#32
  let c0_1655 : Index := 0#32
  ![2, v4442.toNat, 0, 0]
def k0_off501 (i : grid0.Coords) (k0_t4 : Fin (k0_t4_loop i).trips) : Fin 4 → Nat :=
  let c3_1656 : Index := 3#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4446 : Index := Scalar.indexCast v3579
  let c0_1657 : Index := 0#32
  let c0_1658 : Index := 0#32
  ![3, v4446.toNat, 0, 0]
def k0_off502 (i : grid0.Coords) (k0_t4 : Fin (k0_t4_loop i).trips) : Fin 4 → Nat :=
  let c4_1659 : Index := 4#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4450 : Index := Scalar.indexCast v3579
  let c0_1660 : Index := 0#32
  let c0_1661 : Index := 0#32
  ![4, v4450.toNat, 0, 0]
def k0_off503 (i : grid0.Coords) (k0_t4 : Fin (k0_t4_loop i).trips) : Fin 4 → Nat :=
  let c5_1662 : Index := 5#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4454 : Index := Scalar.indexCast v3579
  let c0_1663 : Index := 0#32
  let c0_1664 : Index := 0#32
  ![5, v4454.toNat, 0, 0]
def k0_off504 (i : grid0.Coords) (k0_t4 : Fin (k0_t4_loop i).trips) : Fin 4 → Nat :=
  let c6_1665 : Index := 6#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4458 : Index := Scalar.indexCast v3579
  let c0_1666 : Index := 0#32
  let c0_1667 : Index := 0#32
  ![6, v4458.toNat, 0, 0]
def k0_off505 (i : grid0.Coords) (k0_t4 : Fin (k0_t4_loop i).trips) : Fin 4 → Nat :=
  let c7_1668 : Index := 7#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4462 : Index := Scalar.indexCast v3579
  let c0_1669 : Index := 0#32
  let c0_1670 : Index := 0#32
  ![7, v4462.toNat, 0, 0]
def k0_off506 (i : grid0.Coords) (k0_t4 : Fin (k0_t4_loop i).trips) : Fin 4 → Nat :=
  let c8_1671 : Index := 8#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4466 : Index := Scalar.indexCast v3579
  let c0_1672 : Index := 0#32
  let c0_1673 : Index := 0#32
  ![8, v4466.toNat, 0, 0]
def k0_off507 (i : grid0.Coords) (k0_t4 : Fin (k0_t4_loop i).trips) : Fin 4 → Nat :=
  let c9_1674 : Index := 9#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4470 : Index := Scalar.indexCast v3579
  let c0_1675 : Index := 0#32
  let c0_1676 : Index := 0#32
  ![9, v4470.toNat, 0, 0]
def k0_off508 (i : grid0.Coords) (k0_t4 : Fin (k0_t4_loop i).trips) : Fin 4 → Nat :=
  let c10_1677 : Index := 10#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4474 : Index := Scalar.indexCast v3579
  let c0_1678 : Index := 0#32
  let c0_1679 : Index := 0#32
  ![10, v4474.toNat, 0, 0]
def k0_off509 (i : grid0.Coords) (k0_t4 : Fin (k0_t4_loop i).trips) : Fin 4 → Nat :=
  let c11_1680 : Index := 11#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4478 : Index := Scalar.indexCast v3579
  let c0_1681 : Index := 0#32
  let c0_1682 : Index := 0#32
  ![11, v4478.toNat, 0, 0]
def k0_off510 (i : grid0.Coords) (k0_t4 : Fin (k0_t4_loop i).trips) : Fin 4 → Nat :=
  let c12_1683 : Index := 12#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4482 : Index := Scalar.indexCast v3579
  let c0_1684 : Index := 0#32
  let c0_1685 : Index := 0#32
  ![12, v4482.toNat, 0, 0]
def k0_off511 (i : grid0.Coords) (k0_t4 : Fin (k0_t4_loop i).trips) : Fin 4 → Nat :=
  let c13_1686 : Index := 13#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4486 : Index := Scalar.indexCast v3579
  let c0_1687 : Index := 0#32
  let c0_1688 : Index := 0#32
  ![13, v4486.toNat, 0, 0]
def k0_off512 (i : grid0.Coords) (k0_t4 : Fin (k0_t4_loop i).trips) : Fin 4 → Nat :=
  let c14_1689 : Index := 14#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4490 : Index := Scalar.indexCast v3579
  let c0_1690 : Index := 0#32
  let c0_1691 : Index := 0#32
  ![14, v4490.toNat, 0, 0]
def k0_off513 (i : grid0.Coords) (k0_t4 : Fin (k0_t4_loop i).trips) : Fin 4 → Nat :=
  let c15_1692 : Index := 15#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4494 : Index := Scalar.indexCast v3579
  let c0_1693 : Index := 0#32
  let c0_1694 : Index := 0#32
  ![15, v4494.toNat, 0, 0]
def k0_off514 (i : grid0.Coords) (k0_t4 : Fin (k0_t4_loop i).trips) : Fin 4 → Nat :=
  let c16_1695 : Index := 16#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4498 : Index := Scalar.indexCast v3579
  let c0_1696 : Index := 0#32
  let c0_1697 : Index := 0#32
  ![16, v4498.toNat, 0, 0]
def k0_off515 (i : grid0.Coords) (k0_t4 : Fin (k0_t4_loop i).trips) : Fin 4 → Nat :=
  let c17_1698 : Index := 17#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4502 : Index := Scalar.indexCast v3579
  let c0_1699 : Index := 0#32
  let c0_1700 : Index := 0#32
  ![17, v4502.toNat, 0, 0]
def k0_off516 (i : grid0.Coords) (k0_t4 : Fin (k0_t4_loop i).trips) : Fin 4 → Nat :=
  let c18_1701 : Index := 18#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4506 : Index := Scalar.indexCast v3579
  let c0_1702 : Index := 0#32
  let c0_1703 : Index := 0#32
  ![18, v4506.toNat, 0, 0]
def k0_off517 (i : grid0.Coords) (k0_t4 : Fin (k0_t4_loop i).trips) : Fin 4 → Nat :=
  let c19_1704 : Index := 19#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4510 : Index := Scalar.indexCast v3579
  let c0_1705 : Index := 0#32
  let c0_1706 : Index := 0#32
  ![19, v4510.toNat, 0, 0]
def k0_off518 (i : grid0.Coords) (k0_t4 : Fin (k0_t4_loop i).trips) : Fin 4 → Nat :=
  let c20_1707 : Index := 20#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4514 : Index := Scalar.indexCast v3579
  let c0_1708 : Index := 0#32
  let c0_1709 : Index := 0#32
  ![20, v4514.toNat, 0, 0]
def k0_off519 (i : grid0.Coords) (k0_t4 : Fin (k0_t4_loop i).trips) : Fin 4 → Nat :=
  let c21_1710 : Index := 21#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4518 : Index := Scalar.indexCast v3579
  let c0_1711 : Index := 0#32
  let c0_1712 : Index := 0#32
  ![21, v4518.toNat, 0, 0]
def k0_off520 (i : grid0.Coords) (k0_t4 : Fin (k0_t4_loop i).trips) : Fin 4 → Nat :=
  let c22_1713 : Index := 22#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4522 : Index := Scalar.indexCast v3579
  let c0_1714 : Index := 0#32
  let c0_1715 : Index := 0#32
  ![22, v4522.toNat, 0, 0]
def k0_off521 (i : grid0.Coords) (k0_t4 : Fin (k0_t4_loop i).trips) : Fin 4 → Nat :=
  let c23_1716 : Index := 23#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4526 : Index := Scalar.indexCast v3579
  let c0_1717 : Index := 0#32
  let c0_1718 : Index := 0#32
  ![23, v4526.toNat, 0, 0]
def k0_off522 (i : grid0.Coords) (k0_t4 : Fin (k0_t4_loop i).trips) : Fin 4 → Nat :=
  let c24_1719 : Index := 24#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4530 : Index := Scalar.indexCast v3579
  let c0_1720 : Index := 0#32
  let c0_1721 : Index := 0#32
  ![24, v4530.toNat, 0, 0]
def k0_off523 (i : grid0.Coords) (k0_t4 : Fin (k0_t4_loop i).trips) : Fin 4 → Nat :=
  let c25_1722 : Index := 25#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4534 : Index := Scalar.indexCast v3579
  let c0_1723 : Index := 0#32
  let c0_1724 : Index := 0#32
  ![25, v4534.toNat, 0, 0]
def k0_off524 (i : grid0.Coords) (k0_t4 : Fin (k0_t4_loop i).trips) : Fin 4 → Nat :=
  let c26_1725 : Index := 26#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4538 : Index := Scalar.indexCast v3579
  let c0_1726 : Index := 0#32
  let c0_1727 : Index := 0#32
  ![26, v4538.toNat, 0, 0]
def k0_off525 (i : grid0.Coords) (k0_t4 : Fin (k0_t4_loop i).trips) : Fin 4 → Nat :=
  let c27_1728 : Index := 27#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4542 : Index := Scalar.indexCast v3579
  let c0_1729 : Index := 0#32
  let c0_1730 : Index := 0#32
  ![27, v4542.toNat, 0, 0]
def k0_off526 (i : grid0.Coords) (k0_t4 : Fin (k0_t4_loop i).trips) : Fin 4 → Nat :=
  let c28_1731 : Index := 28#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4546 : Index := Scalar.indexCast v3579
  let c0_1732 : Index := 0#32
  let c0_1733 : Index := 0#32
  ![28, v4546.toNat, 0, 0]
def k0_off527 (i : grid0.Coords) (k0_t4 : Fin (k0_t4_loop i).trips) : Fin 4 → Nat :=
  let c29_1734 : Index := 29#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4550 : Index := Scalar.indexCast v3579
  let c0_1735 : Index := 0#32
  let c0_1736 : Index := 0#32
  ![29, v4550.toNat, 0, 0]
def k0_off528 (i : grid0.Coords) (k0_t4 : Fin (k0_t4_loop i).trips) : Fin 4 → Nat :=
  let c30_1737 : Index := 30#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4554 : Index := Scalar.indexCast v3579
  let c0_1738 : Index := 0#32
  let c0_1739 : Index := 0#32
  ![30, v4554.toNat, 0, 0]
def k0_off529 (i : grid0.Coords) (k0_t4 : Fin (k0_t4_loop i).trips) : Fin 4 → Nat :=
  let c31_1740 : Index := 31#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c1_i32_113 : BitVec 32 := 1#32
  let arg24 : BitVec 32 := Scf.iv c0_i32_111 c1_i32_113 k0_t4
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4558 : Index := Scalar.indexCast v3579
  let c0_1741 : Index := 0#32
  let c0_1742 : Index := 0#32
  ![31, v4558.toNat, 0, 0]
@[reducible] def k0_t5_loop (i : grid0.Coords) : Scf.Loop 32 :=
  let c0_i32_111 : BitVec 32 := 0#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c2_i32_65 : BitVec 32 := 2#32
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let v215 : BitVec 32 := Scalar.addi c0_i32_111 v214
  let c1_i32_114 : BitVec 32 := 1#32
  ⟨v218, v215, c1_i32_114⟩
def k0_mult95 (i : grid0.Coords) (k0_t5 : Fin (k0_t5_loop i).trips) : BitVec 32 :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_145 : BitVec 32 := 1#32
  let v278 : BitVec 32 := Scalar.addi v277 c1_i32_145
  let c1_i32_35 : BitVec 32 := 1#32
  let v72 : BitVec 32 := Scalar.subi v71 c1_i32_35
  let v279 : BitVec 32 := Scalar.minsi v278 v72
  let c256_i32_146 : BitVec 32 := 256#32
  let v280 : BitVec 32 := Scalar.muli v279 c256_i32_146
  v280
def k0_off530 (i : grid0.Coords) (k0_t5 : Fin (k0_t5_loop i).trips) (c1_i32_145 : BitVec 32) : Fin 2 → Nat :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let v278 : BitVec 32 := Scalar.addi v277 c1_i32_145
  let c1_i32_35 : BitVec 32 := 1#32
  let v72 : BitVec 32 := Scalar.subi v71 c1_i32_35
  let v279 : BitVec 32 := Scalar.minsi v278 v72
  let c256_i32_146 : BitVec 32 := 256#32
  let v280 : BitVec 32 := Scalar.muli v279 c256_i32_146
  let v281 : BitVec 32 := v280
  let v282 : Index := Scalar.indexCast v281
  let c0_147 : Index := 0#32
  ![v282.toNat, 0]
def k0_off531 (i : grid0.Coords) : Fin 3 → Nat :=
  let arg1 : BitVec 32 := BitVec.ofNat 32 (i 1).val
  let c8_i32 : BitVec 32 := 8#32
  let c0_i32_36 : BitVec 32 := 0#32
  let v73 : BitVec 1 := Scalar.cmpi .eq c8_i32 c0_i32_36
  let c1_i32_37 : BitVec 32 := 1#32
  let v74 : BitVec 32 := Scalar.select v73 c1_i32_37 c8_i32
  let v75 : BitVec 32 := Scalar.remsi arg1 v74
  let c0_i32_39 : BitVec 32 := 0#32
  let v77 : BitVec 1 := Scalar.cmpi .slt v75 c0_i32_39
  let c0_i32_40 : BitVec 32 := 0#32
  let v78 : BitVec 1 := Scalar.cmpi .slt v74 c0_i32_40
  let v79 : BitVec 1 := Scalar.xori v77 v78
  let c0_i32_38 : BitVec 32 := 0#32
  let v76 : BitVec 1 := Scalar.cmpi .ne v75 c0_i32_38
  let v80 : BitVec 1 := Scalar.andi v79 v76
  let v81 : BitVec 32 := Scalar.addi v75 v74
  let v82 : BitVec 32 := Scalar.select v80 v81 v75
  let v284 : Index := Scalar.indexCast v82
  let c0_148 : Index := 0#32
  let c0_149 : Index := 0#32
  ![v284.toNat, 0, 0]
def k0_mult96 (i : grid0.Coords) (k0_t5 : Fin (k0_t5_loop i).trips) : BitVec 32 :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_35 : BitVec 32 := 1#32
  let v72 : BitVec 32 := Scalar.subi v71 c1_i32_35
  let v292 : BitVec 32 := Scalar.minsi v277 v72
  let c256_i32_153 : BitVec 32 := 256#32
  let v293 : BitVec 32 := Scalar.muli v292 c256_i32_153
  v293
def k0_mult97 (i : grid0.Coords) (k0_t5 : Fin (k0_t5_loop i).trips) : BitVec 32 :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_35 : BitVec 32 := 1#32
  let v72 : BitVec 32 := Scalar.subi v71 c1_i32_35
  let v292 : BitVec 32 := Scalar.minsi v277 v72
  let c256_i32_153 : BitVec 32 := 256#32
  let v293 : BitVec 32 := Scalar.muli v292 c256_i32_153
  let v294 : BitVec 32 := v293
  let c0_i32_154 : BitVec 32 := 0#32
  let v298 : BitVec 32 := Scalar.addi v294 c0_i32_154
  v298
def k0_off532 (i : grid0.Coords) (k0_t5 : Fin (k0_t5_loop i).trips) (c0_i32_154 : BitVec 32) : Fin 2 → Nat :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_35 : BitVec 32 := 1#32
  let v72 : BitVec 32 := Scalar.subi v71 c1_i32_35
  let v292 : BitVec 32 := Scalar.minsi v277 v72
  let c256_i32_153 : BitVec 32 := 256#32
  let v293 : BitVec 32 := Scalar.muli v292 c256_i32_153
  let v294 : BitVec 32 := v293
  let v298 : BitVec 32 := Scalar.addi v294 c0_i32_154
  let v299 : BitVec 32 := v298
  let v300 : Index := Scalar.indexCast v299
  let c0_155 : Index := 0#32
  ![v300.toNat, 0]
def k0_off533 (i : grid0.Coords) (k0_t5 : Fin (k0_t5_loop i).trips) (c0_i32_159 : BitVec 32) : Fin 3 → Nat :=
  let c2_i32_161 : BitVec 32 := 2#32
  let c0_i32_160 : BitVec 32 := 0#32
  let arg1 : BitVec 32 := BitVec.ofNat 32 (i 1).val
  let c2_i32_144 : BitVec 32 := 2#32
  let c2_i32_65 : BitVec 32 := 2#32
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_35 : BitVec 32 := 1#32
  let v72 : BitVec 32 := Scalar.subi v71 c1_i32_35
  let v292 : BitVec 32 := Scalar.minsi v277 v72
  let c2_i32_158 : BitVec 32 := 2#32
  let v309 : BitVec 32 := Scalar.muli v292 c2_i32_158
  let v310 : BitVec 32 := Scalar.addi v309 c0_i32_159
  let v311 : BitVec 32 := Scalar.subi arg1 v310
  let v312 : BitVec 32 := Scalar.maxsi c0_i32_160 v311
  let v313 : BitVec 32 := Scalar.minsi c2_i32_161 v312
  let v314 : Index := Scalar.indexCast v313
  let c0_162 : Index := 0#32
  let c0_163 : Index := 0#32
  ![v314.toNat, 0, 0]
def k0_mult98 (i : grid0.Coords) (k0_t5 : Fin (k0_t5_loop i).trips) : BitVec 32 :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_35 : BitVec 32 := 1#32
  let v72 : BitVec 32 := Scalar.subi v71 c1_i32_35
  let v292 : BitVec 32 := Scalar.minsi v277 v72
  let c256_i32_153 : BitVec 32 := 256#32
  let v293 : BitVec 32 := Scalar.muli v292 c256_i32_153
  let v294 : BitVec 32 := v293
  let c128_i32_166 : BitVec 32 := 128#32
  let v320 : BitVec 32 := Scalar.addi v294 c128_i32_166
  v320
def k0_off534 (i : grid0.Coords) (k0_t5 : Fin (k0_t5_loop i).trips) : Fin 2 → Nat :=
  let c0_179 : Index := 0#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_35 : BitVec 32 := 1#32
  let v72 : BitVec 32 := Scalar.subi v71 c1_i32_35
  let v292 : BitVec 32 := Scalar.minsi v277 v72
  let c256_i32_153 : BitVec 32 := 256#32
  let v293 : BitVec 32 := Scalar.muli v292 c256_i32_153
  let v294 : BitVec 32 := v293
  let v355 : Index := Scalar.indexCast v294
  ![0, v355.toNat]
def k0_mult99 (i : grid0.Coords) (k0_t5 : Fin (k0_t5_loop i).trips) : BitVec 32 :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c256_i32_193 : BitVec 32 := 256#32
  let v379 : BitVec 32 := Scalar.muli v277 c256_i32_193
  v379
def k0_off535 (i : grid0.Coords) (k0_t5 : Fin (k0_t5_loop i).trips) : Fin 2 → Nat :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c256_i32_193 : BitVec 32 := 256#32
  let v379 : BitVec 32 := Scalar.muli v277 c256_i32_193
  let v380 : BitVec 32 := v379
  let v381 : Index := Scalar.indexCast v380
  let c0_194 : Index := 0#32
  ![v381.toNat, 0]
def k0_off536 (i : grid0.Coords) : Fin 3 → Nat :=
  let arg1 : BitVec 32 := BitVec.ofNat 32 (i 1).val
  let c1_i32_185 : BitVec 32 := 1#32
  let v365 : BitVec 32 := Scalar.addi arg1 c1_i32_185
  let c8_i32_186 : BitVec 32 := 8#32
  let c0_i32_187 : BitVec 32 := 0#32
  let v366 : BitVec 1 := Scalar.cmpi .eq c8_i32_186 c0_i32_187
  let c1_i32_188 : BitVec 32 := 1#32
  let v367 : BitVec 32 := Scalar.select v366 c1_i32_188 c8_i32_186
  let v368 : BitVec 32 := Scalar.remsi v365 v367
  let c0_i32_190 : BitVec 32 := 0#32
  let v370 : BitVec 1 := Scalar.cmpi .slt v368 c0_i32_190
  let c0_i32_191 : BitVec 32 := 0#32
  let v371 : BitVec 1 := Scalar.cmpi .slt v367 c0_i32_191
  let v372 : BitVec 1 := Scalar.xori v370 v371
  let c0_i32_189 : BitVec 32 := 0#32
  let v369 : BitVec 1 := Scalar.cmpi .ne v368 c0_i32_189
  let v373 : BitVec 1 := Scalar.andi v372 v369
  let v374 : BitVec 32 := Scalar.addi v368 v367
  let v375 : BitVec 32 := Scalar.select v373 v374 v368
  let v383 : Index := Scalar.indexCast v375
  let c0_195 : Index := 0#32
  let c0_196 : Index := 0#32
  ![v383.toNat, 0, 0]
def k0_mult100 (i : grid0.Coords) (k0_t5 : Fin (k0_t5_loop i).trips) : BitVec 32 :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c256_i32_198 : BitVec 32 := 256#32
  let v387 : BitVec 32 := Scalar.muli v277 c256_i32_198
  let c0_i32_199 : BitVec 32 := 0#32
  let v388 : BitVec 32 := Scalar.addi v387 c0_i32_199
  v388
def k0_off537 (i : grid0.Coords) (k0_t5 : Fin (k0_t5_loop i).trips) (c0_i32_199 : BitVec 32) : Fin 2 → Nat :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c256_i32_198 : BitVec 32 := 256#32
  let v387 : BitVec 32 := Scalar.muli v277 c256_i32_198
  let v388 : BitVec 32 := Scalar.addi v387 c0_i32_199
  let v389 : BitVec 32 := v388
  let v421 : Index := Scalar.indexCast v389
  let c0_202 : Index := 0#32
  ![v421.toNat, 0]
def k0_mult101 (i : grid0.Coords) (k0_t5 : Fin (k0_t5_loop i).trips) : BitVec 32 :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c256_i32_204 : BitVec 32 := 256#32
  let v443 : BitVec 32 := Scalar.muli v277 c256_i32_204
  let c128_i32_205 : BitVec 32 := 128#32
  let v444 : BitVec 32 := Scalar.addi v443 c128_i32_205
  v444
def k0_off538 (i : grid0.Coords) (k0_t5 : Fin (k0_t5_loop i).trips) : Fin 4 → Nat :=
  let c0_446 : Index := 0#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let v1219 : Index := Scalar.indexCast v277
  let c0_447 : Index := 0#32
  let c0_448 : Index := 0#32
  ![0, v1219.toNat, 0, 0]
def k0_off539 (i : grid0.Coords) (k0_t5 : Fin (k0_t5_loop i).trips) : Fin 4 → Nat :=
  let c1_449 : Index := 1#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let v1223 : Index := Scalar.indexCast v277
  let c0_450 : Index := 0#32
  let c0_451 : Index := 0#32
  ![1, v1223.toNat, 0, 0]
def k0_off540 (i : grid0.Coords) (k0_t5 : Fin (k0_t5_loop i).trips) : Fin 4 → Nat :=
  let c2_452 : Index := 2#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let v1227 : Index := Scalar.indexCast v277
  let c0_453 : Index := 0#32
  let c0_454 : Index := 0#32
  ![2, v1227.toNat, 0, 0]
def k0_off541 (i : grid0.Coords) (k0_t5 : Fin (k0_t5_loop i).trips) : Fin 4 → Nat :=
  let c3_455 : Index := 3#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let v1231 : Index := Scalar.indexCast v277
  let c0_456 : Index := 0#32
  let c0_457 : Index := 0#32
  ![3, v1231.toNat, 0, 0]
def k0_off542 (i : grid0.Coords) (k0_t5 : Fin (k0_t5_loop i).trips) : Fin 4 → Nat :=
  let c4_458 : Index := 4#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let v1235 : Index := Scalar.indexCast v277
  let c0_459 : Index := 0#32
  let c0_460 : Index := 0#32
  ![4, v1235.toNat, 0, 0]
def k0_off543 (i : grid0.Coords) (k0_t5 : Fin (k0_t5_loop i).trips) : Fin 4 → Nat :=
  let c5_461 : Index := 5#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let v1239 : Index := Scalar.indexCast v277
  let c0_462 : Index := 0#32
  let c0_463 : Index := 0#32
  ![5, v1239.toNat, 0, 0]
def k0_off544 (i : grid0.Coords) (k0_t5 : Fin (k0_t5_loop i).trips) : Fin 4 → Nat :=
  let c6_464 : Index := 6#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let v1243 : Index := Scalar.indexCast v277
  let c0_465 : Index := 0#32
  let c0_466 : Index := 0#32
  ![6, v1243.toNat, 0, 0]
def k0_off545 (i : grid0.Coords) (k0_t5 : Fin (k0_t5_loop i).trips) : Fin 4 → Nat :=
  let c7_467 : Index := 7#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let v1247 : Index := Scalar.indexCast v277
  let c0_468 : Index := 0#32
  let c0_469 : Index := 0#32
  ![7, v1247.toNat, 0, 0]
def k0_off546 (i : grid0.Coords) (k0_t5 : Fin (k0_t5_loop i).trips) : Fin 4 → Nat :=
  let c8 : Index := 8#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let v1251 : Index := Scalar.indexCast v277
  let c0_470 : Index := 0#32
  let c0_471 : Index := 0#32
  ![8, v1251.toNat, 0, 0]
def k0_off547 (i : grid0.Coords) (k0_t5 : Fin (k0_t5_loop i).trips) : Fin 4 → Nat :=
  let c9 : Index := 9#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let v1255 : Index := Scalar.indexCast v277
  let c0_472 : Index := 0#32
  let c0_473 : Index := 0#32
  ![9, v1255.toNat, 0, 0]
def k0_off548 (i : grid0.Coords) (k0_t5 : Fin (k0_t5_loop i).trips) : Fin 4 → Nat :=
  let c10 : Index := 10#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let v1259 : Index := Scalar.indexCast v277
  let c0_474 : Index := 0#32
  let c0_475 : Index := 0#32
  ![10, v1259.toNat, 0, 0]
def k0_off549 (i : grid0.Coords) (k0_t5 : Fin (k0_t5_loop i).trips) : Fin 4 → Nat :=
  let c11 : Index := 11#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let v1263 : Index := Scalar.indexCast v277
  let c0_476 : Index := 0#32
  let c0_477 : Index := 0#32
  ![11, v1263.toNat, 0, 0]
def k0_off550 (i : grid0.Coords) (k0_t5 : Fin (k0_t5_loop i).trips) : Fin 4 → Nat :=
  let c12 : Index := 12#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let v1267 : Index := Scalar.indexCast v277
  let c0_478 : Index := 0#32
  let c0_479 : Index := 0#32
  ![12, v1267.toNat, 0, 0]
def k0_off551 (i : grid0.Coords) (k0_t5 : Fin (k0_t5_loop i).trips) : Fin 4 → Nat :=
  let c13 : Index := 13#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let v1271 : Index := Scalar.indexCast v277
  let c0_480 : Index := 0#32
  let c0_481 : Index := 0#32
  ![13, v1271.toNat, 0, 0]
def k0_off552 (i : grid0.Coords) (k0_t5 : Fin (k0_t5_loop i).trips) : Fin 4 → Nat :=
  let c14 : Index := 14#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let v1275 : Index := Scalar.indexCast v277
  let c0_482 : Index := 0#32
  let c0_483 : Index := 0#32
  ![14, v1275.toNat, 0, 0]
def k0_off553 (i : grid0.Coords) (k0_t5 : Fin (k0_t5_loop i).trips) : Fin 4 → Nat :=
  let c15 : Index := 15#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let v1279 : Index := Scalar.indexCast v277
  let c0_484 : Index := 0#32
  let c0_485 : Index := 0#32
  ![15, v1279.toNat, 0, 0]
def k0_off554 (i : grid0.Coords) (k0_t5 : Fin (k0_t5_loop i).trips) : Fin 4 → Nat :=
  let c16 : Index := 16#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let v1283 : Index := Scalar.indexCast v277
  let c0_486 : Index := 0#32
  let c0_487 : Index := 0#32
  ![16, v1283.toNat, 0, 0]
def k0_off555 (i : grid0.Coords) (k0_t5 : Fin (k0_t5_loop i).trips) : Fin 4 → Nat :=
  let c17 : Index := 17#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let v1287 : Index := Scalar.indexCast v277
  let c0_488 : Index := 0#32
  let c0_489 : Index := 0#32
  ![17, v1287.toNat, 0, 0]
def k0_off556 (i : grid0.Coords) (k0_t5 : Fin (k0_t5_loop i).trips) : Fin 4 → Nat :=
  let c18 : Index := 18#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let v1291 : Index := Scalar.indexCast v277
  let c0_490 : Index := 0#32
  let c0_491 : Index := 0#32
  ![18, v1291.toNat, 0, 0]
def k0_off557 (i : grid0.Coords) (k0_t5 : Fin (k0_t5_loop i).trips) : Fin 4 → Nat :=
  let c19 : Index := 19#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let v1295 : Index := Scalar.indexCast v277
  let c0_492 : Index := 0#32
  let c0_493 : Index := 0#32
  ![19, v1295.toNat, 0, 0]
def k0_off558 (i : grid0.Coords) (k0_t5 : Fin (k0_t5_loop i).trips) : Fin 4 → Nat :=
  let c20 : Index := 20#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let v1299 : Index := Scalar.indexCast v277
  let c0_494 : Index := 0#32
  let c0_495 : Index := 0#32
  ![20, v1299.toNat, 0, 0]
def k0_off559 (i : grid0.Coords) (k0_t5 : Fin (k0_t5_loop i).trips) : Fin 4 → Nat :=
  let c21 : Index := 21#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let v1303 : Index := Scalar.indexCast v277
  let c0_496 : Index := 0#32
  let c0_497 : Index := 0#32
  ![21, v1303.toNat, 0, 0]
def k0_off560 (i : grid0.Coords) (k0_t5 : Fin (k0_t5_loop i).trips) : Fin 4 → Nat :=
  let c22 : Index := 22#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let v1307 : Index := Scalar.indexCast v277
  let c0_498 : Index := 0#32
  let c0_499 : Index := 0#32
  ![22, v1307.toNat, 0, 0]
def k0_off561 (i : grid0.Coords) (k0_t5 : Fin (k0_t5_loop i).trips) : Fin 4 → Nat :=
  let c23 : Index := 23#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let v1311 : Index := Scalar.indexCast v277
  let c0_500 : Index := 0#32
  let c0_501 : Index := 0#32
  ![23, v1311.toNat, 0, 0]
def k0_off562 (i : grid0.Coords) (k0_t5 : Fin (k0_t5_loop i).trips) : Fin 4 → Nat :=
  let c24 : Index := 24#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let v1315 : Index := Scalar.indexCast v277
  let c0_502 : Index := 0#32
  let c0_503 : Index := 0#32
  ![24, v1315.toNat, 0, 0]
def k0_off563 (i : grid0.Coords) (k0_t5 : Fin (k0_t5_loop i).trips) : Fin 4 → Nat :=
  let c25 : Index := 25#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let v1319 : Index := Scalar.indexCast v277
  let c0_504 : Index := 0#32
  let c0_505 : Index := 0#32
  ![25, v1319.toNat, 0, 0]
def k0_off564 (i : grid0.Coords) (k0_t5 : Fin (k0_t5_loop i).trips) : Fin 4 → Nat :=
  let c26 : Index := 26#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let v1323 : Index := Scalar.indexCast v277
  let c0_506 : Index := 0#32
  let c0_507 : Index := 0#32
  ![26, v1323.toNat, 0, 0]
def k0_off565 (i : grid0.Coords) (k0_t5 : Fin (k0_t5_loop i).trips) : Fin 4 → Nat :=
  let c27 : Index := 27#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let v1327 : Index := Scalar.indexCast v277
  let c0_508 : Index := 0#32
  let c0_509 : Index := 0#32
  ![27, v1327.toNat, 0, 0]
def k0_off566 (i : grid0.Coords) (k0_t5 : Fin (k0_t5_loop i).trips) : Fin 4 → Nat :=
  let c28 : Index := 28#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let v1331 : Index := Scalar.indexCast v277
  let c0_510 : Index := 0#32
  let c0_511 : Index := 0#32
  ![28, v1331.toNat, 0, 0]

variable {F : FTy → Type} [BitOps F]

def k0_off567 (i : grid0.Coords) (k0_t5 : Fin (k0_t5_loop i).trips) : Fin 4 → Nat :=
  let c29 : Index := 29#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let v1335 : Index := Scalar.indexCast v277
  let c0_512 : Index := 0#32
  let c0_513 : Index := 0#32
  ![29, v1335.toNat, 0, 0]
def k0_off568 (i : grid0.Coords) (k0_t5 : Fin (k0_t5_loop i).trips) : Fin 4 → Nat :=
  let c30 : Index := 30#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let v1339 : Index := Scalar.indexCast v277
  let c0_514 : Index := 0#32
  let c0_515 : Index := 0#32
  ![30, v1339.toNat, 0, 0]
def k0_off569 (i : grid0.Coords) (k0_t5 : Fin (k0_t5_loop i).trips) : Fin 4 → Nat :=
  let c31 : Index := 31#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let v1343 : Index := Scalar.indexCast v277
  let c0_516 : Index := 0#32
  let c0_517 : Index := 0#32
  ![31, v1343.toNat, 0, 0]
def k0_mult102 (i : grid0.Coords) (k0_t5 : Fin (k0_t5_loop i).trips) : BitVec 32 :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c2_i32_518 : BitVec 32 := 2#32
  let v1347 : BitVec 32 := Scalar.addi v277 c2_i32_518
  let c1_i32_35 : BitVec 32 := 1#32
  let v72 : BitVec 32 := Scalar.subi v71 c1_i32_35
  let v1348 : BitVec 32 := Scalar.minsi v1347 v72
  let c256_i32_519 : BitVec 32 := 256#32
  let v1349 : BitVec 32 := Scalar.muli v1348 c256_i32_519
  v1349
def k0_mult103 (i : grid0.Coords) (k0_t5 : Fin (k0_t5_loop i).trips) : BitVec 32 :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_526 : BitVec 32 := 1#32
  let v1361 : BitVec 32 := Scalar.addi v277 c1_i32_526
  let c1_i32_35 : BitVec 32 := 1#32
  let v72 : BitVec 32 := Scalar.subi v71 c1_i32_35
  let v1362 : BitVec 32 := Scalar.minsi v1361 v72
  let c256_i32_527 : BitVec 32 := 256#32
  let v1363 : BitVec 32 := Scalar.muli v1362 c256_i32_527
  v1363
def k0_mult104 (i : grid0.Coords) (k0_t5 : Fin (k0_t5_loop i).trips) : BitVec 32 :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_526 : BitVec 32 := 1#32
  let v1361 : BitVec 32 := Scalar.addi v277 c1_i32_526
  let c1_i32_35 : BitVec 32 := 1#32
  let v72 : BitVec 32 := Scalar.subi v71 c1_i32_35
  let v1362 : BitVec 32 := Scalar.minsi v1361 v72
  let c256_i32_527 : BitVec 32 := 256#32
  let v1363 : BitVec 32 := Scalar.muli v1362 c256_i32_527
  let v1364 : BitVec 32 := v1363
  let c0_i32_528 : BitVec 32 := 0#32
  let v1368 : BitVec 32 := Scalar.addi v1364 c0_i32_528
  v1368
def k0_off570 (i : grid0.Coords) (k0_t5 : Fin (k0_t5_loop i).trips) (c0_i32_528 : BitVec 32) : Fin 2 → Nat :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_526 : BitVec 32 := 1#32
  let v1361 : BitVec 32 := Scalar.addi v277 c1_i32_526
  let c1_i32_35 : BitVec 32 := 1#32
  let v72 : BitVec 32 := Scalar.subi v71 c1_i32_35
  let v1362 : BitVec 32 := Scalar.minsi v1361 v72
  let c256_i32_527 : BitVec 32 := 256#32
  let v1363 : BitVec 32 := Scalar.muli v1362 c256_i32_527
  let v1364 : BitVec 32 := v1363
  let v1368 : BitVec 32 := Scalar.addi v1364 c0_i32_528
  let v1369 : BitVec 32 := v1368
  let v1370 : Index := Scalar.indexCast v1369
  let c0_529 : Index := 0#32
  ![v1370.toNat, 0]
def k0_off571 (i : grid0.Coords) (k0_t5 : Fin (k0_t5_loop i).trips) (c0_i32_533 : BitVec 32) : Fin 3 → Nat :=
  let c2_i32_535 : BitVec 32 := 2#32
  let c0_i32_534 : BitVec 32 := 0#32
  let arg1 : BitVec 32 := BitVec.ofNat 32 (i 1).val
  let c2_i32_144 : BitVec 32 := 2#32
  let c2_i32_65 : BitVec 32 := 2#32
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_526 : BitVec 32 := 1#32
  let v1361 : BitVec 32 := Scalar.addi v277 c1_i32_526
  let c1_i32_35 : BitVec 32 := 1#32
  let v72 : BitVec 32 := Scalar.subi v71 c1_i32_35
  let v1362 : BitVec 32 := Scalar.minsi v1361 v72
  let c2_i32_532 : BitVec 32 := 2#32
  let v1379 : BitVec 32 := Scalar.muli v1362 c2_i32_532
  let v1380 : BitVec 32 := Scalar.addi v1379 c0_i32_533
  let v1381 : BitVec 32 := Scalar.subi arg1 v1380
  let v1382 : BitVec 32 := Scalar.maxsi c0_i32_534 v1381
  let v1383 : BitVec 32 := Scalar.minsi c2_i32_535 v1382
  let v1384 : Index := Scalar.indexCast v1383
  let c0_536 : Index := 0#32
  let c0_537 : Index := 0#32
  ![v1384.toNat, 0, 0]
def k0_mult105 (i : grid0.Coords) (k0_t5 : Fin (k0_t5_loop i).trips) : BitVec 32 :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_526 : BitVec 32 := 1#32
  let v1361 : BitVec 32 := Scalar.addi v277 c1_i32_526
  let c1_i32_35 : BitVec 32 := 1#32
  let v72 : BitVec 32 := Scalar.subi v71 c1_i32_35
  let v1362 : BitVec 32 := Scalar.minsi v1361 v72
  let c256_i32_527 : BitVec 32 := 256#32
  let v1363 : BitVec 32 := Scalar.muli v1362 c256_i32_527
  let v1364 : BitVec 32 := v1363
  let c128_i32_540 : BitVec 32 := 128#32
  let v1390 : BitVec 32 := Scalar.addi v1364 c128_i32_540
  v1390
def k0_off572 (i : grid0.Coords) (k0_t5 : Fin (k0_t5_loop i).trips) : Fin 2 → Nat :=
  let c0_554 : Index := 0#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_526 : BitVec 32 := 1#32
  let v1361 : BitVec 32 := Scalar.addi v277 c1_i32_526
  let c1_i32_35 : BitVec 32 := 1#32
  let v72 : BitVec 32 := Scalar.subi v71 c1_i32_35
  let v1362 : BitVec 32 := Scalar.minsi v1361 v72
  let c256_i32_527 : BitVec 32 := 256#32
  let v1363 : BitVec 32 := Scalar.muli v1362 c256_i32_527
  let v1364 : BitVec 32 := v1363
  let v1425 : Index := Scalar.indexCast v1364
  ![0, v1425.toNat]
def k0_mult106 (i : grid0.Coords) (k0_t5 : Fin (k0_t5_loop i).trips) : BitVec 32 :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let c256_i32_569 : BitVec 32 := 256#32
  let v1450 : BitVec 32 := Scalar.muli v1435 c256_i32_569
  v1450
def k0_off573 (i : grid0.Coords) (k0_t5 : Fin (k0_t5_loop i).trips) : Fin 2 → Nat :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let c256_i32_569 : BitVec 32 := 256#32
  let v1450 : BitVec 32 := Scalar.muli v1435 c256_i32_569
  let v1451 : BitVec 32 := v1450
  let v1452 : Index := Scalar.indexCast v1451
  let c0_570 : Index := 0#32
  ![v1452.toNat, 0]
def k0_mult107 (i : grid0.Coords) (k0_t5 : Fin (k0_t5_loop i).trips) : BitVec 32 :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let c256_i32_574 : BitVec 32 := 256#32
  let v1458 : BitVec 32 := Scalar.muli v1435 c256_i32_574
  let c0_i32_575 : BitVec 32 := 0#32
  let v1459 : BitVec 32 := Scalar.addi v1458 c0_i32_575
  v1459
def k0_off574 (i : grid0.Coords) (k0_t5 : Fin (k0_t5_loop i).trips) (c0_i32_575 : BitVec 32) : Fin 2 → Nat :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let c256_i32_574 : BitVec 32 := 256#32
  let v1458 : BitVec 32 := Scalar.muli v1435 c256_i32_574
  let v1459 : BitVec 32 := Scalar.addi v1458 c0_i32_575
  let v1460 : BitVec 32 := v1459
  let v1492 : Index := Scalar.indexCast v1460
  let c0_580 : Index := 0#32
  ![v1492.toNat, 0]
def k0_mult108 (i : grid0.Coords) (k0_t5 : Fin (k0_t5_loop i).trips) : BitVec 32 :=
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let c256_i32_582 : BitVec 32 := 256#32
  let v1514 : BitVec 32 := Scalar.muli v1435 c256_i32_582
  let c128_i32_583 : BitVec 32 := 128#32
  let v1515 : BitVec 32 := Scalar.addi v1514 c128_i32_583
  v1515
def k0_off575 (i : grid0.Coords) (k0_t5 : Fin (k0_t5_loop i).trips) : Fin 4 → Nat :=
  let c0_830 : Index := 0#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2290 : Index := Scalar.indexCast v1435
  let c0_831 : Index := 0#32
  let c0_832 : Index := 0#32
  ![0, v2290.toNat, 0, 0]
def k0_off576 (i : grid0.Coords) (k0_t5 : Fin (k0_t5_loop i).trips) : Fin 4 → Nat :=
  let c1_833 : Index := 1#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2294 : Index := Scalar.indexCast v1435
  let c0_834 : Index := 0#32
  let c0_835 : Index := 0#32
  ![1, v2294.toNat, 0, 0]
def k0_off577 (i : grid0.Coords) (k0_t5 : Fin (k0_t5_loop i).trips) : Fin 4 → Nat :=
  let c2_836 : Index := 2#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2298 : Index := Scalar.indexCast v1435
  let c0_837 : Index := 0#32
  let c0_838 : Index := 0#32
  ![2, v2298.toNat, 0, 0]
def k0_off578 (i : grid0.Coords) (k0_t5 : Fin (k0_t5_loop i).trips) : Fin 4 → Nat :=
  let c3_839 : Index := 3#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2302 : Index := Scalar.indexCast v1435
  let c0_840 : Index := 0#32
  let c0_841 : Index := 0#32
  ![3, v2302.toNat, 0, 0]
def k0_off579 (i : grid0.Coords) (k0_t5 : Fin (k0_t5_loop i).trips) : Fin 4 → Nat :=
  let c4_842 : Index := 4#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2306 : Index := Scalar.indexCast v1435
  let c0_843 : Index := 0#32
  let c0_844 : Index := 0#32
  ![4, v2306.toNat, 0, 0]
def k0_off580 (i : grid0.Coords) (k0_t5 : Fin (k0_t5_loop i).trips) : Fin 4 → Nat :=
  let c5_845 : Index := 5#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2310 : Index := Scalar.indexCast v1435
  let c0_846 : Index := 0#32
  let c0_847 : Index := 0#32
  ![5, v2310.toNat, 0, 0]
def k0_off581 (i : grid0.Coords) (k0_t5 : Fin (k0_t5_loop i).trips) : Fin 4 → Nat :=
  let c6_848 : Index := 6#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2314 : Index := Scalar.indexCast v1435
  let c0_849 : Index := 0#32
  let c0_850 : Index := 0#32
  ![6, v2314.toNat, 0, 0]
def k0_off582 (i : grid0.Coords) (k0_t5 : Fin (k0_t5_loop i).trips) : Fin 4 → Nat :=
  let c7_851 : Index := 7#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2318 : Index := Scalar.indexCast v1435
  let c0_852 : Index := 0#32
  let c0_853 : Index := 0#32
  ![7, v2318.toNat, 0, 0]
def k0_off583 (i : grid0.Coords) (k0_t5 : Fin (k0_t5_loop i).trips) : Fin 4 → Nat :=
  let c8_854 : Index := 8#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2322 : Index := Scalar.indexCast v1435
  let c0_855 : Index := 0#32
  let c0_856 : Index := 0#32
  ![8, v2322.toNat, 0, 0]
def k0_off584 (i : grid0.Coords) (k0_t5 : Fin (k0_t5_loop i).trips) : Fin 4 → Nat :=
  let c9_857 : Index := 9#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2326 : Index := Scalar.indexCast v1435
  let c0_858 : Index := 0#32
  let c0_859 : Index := 0#32
  ![9, v2326.toNat, 0, 0]
def k0_off585 (i : grid0.Coords) (k0_t5 : Fin (k0_t5_loop i).trips) : Fin 4 → Nat :=
  let c10_860 : Index := 10#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2330 : Index := Scalar.indexCast v1435
  let c0_861 : Index := 0#32
  let c0_862 : Index := 0#32
  ![10, v2330.toNat, 0, 0]
def k0_off586 (i : grid0.Coords) (k0_t5 : Fin (k0_t5_loop i).trips) : Fin 4 → Nat :=
  let c11_863 : Index := 11#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2334 : Index := Scalar.indexCast v1435
  let c0_864 : Index := 0#32
  let c0_865 : Index := 0#32
  ![11, v2334.toNat, 0, 0]
def k0_off587 (i : grid0.Coords) (k0_t5 : Fin (k0_t5_loop i).trips) : Fin 4 → Nat :=
  let c12_866 : Index := 12#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2338 : Index := Scalar.indexCast v1435
  let c0_867 : Index := 0#32
  let c0_868 : Index := 0#32
  ![12, v2338.toNat, 0, 0]
def k0_off588 (i : grid0.Coords) (k0_t5 : Fin (k0_t5_loop i).trips) : Fin 4 → Nat :=
  let c13_869 : Index := 13#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2342 : Index := Scalar.indexCast v1435
  let c0_870 : Index := 0#32
  let c0_871 : Index := 0#32
  ![13, v2342.toNat, 0, 0]
def k0_off589 (i : grid0.Coords) (k0_t5 : Fin (k0_t5_loop i).trips) : Fin 4 → Nat :=
  let c14_872 : Index := 14#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2346 : Index := Scalar.indexCast v1435
  let c0_873 : Index := 0#32
  let c0_874 : Index := 0#32
  ![14, v2346.toNat, 0, 0]
def k0_off590 (i : grid0.Coords) (k0_t5 : Fin (k0_t5_loop i).trips) : Fin 4 → Nat :=
  let c15_875 : Index := 15#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2350 : Index := Scalar.indexCast v1435
  let c0_876 : Index := 0#32
  let c0_877 : Index := 0#32
  ![15, v2350.toNat, 0, 0]
def k0_off591 (i : grid0.Coords) (k0_t5 : Fin (k0_t5_loop i).trips) : Fin 4 → Nat :=
  let c16_878 : Index := 16#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2354 : Index := Scalar.indexCast v1435
  let c0_879 : Index := 0#32
  let c0_880 : Index := 0#32
  ![16, v2354.toNat, 0, 0]
def k0_off592 (i : grid0.Coords) (k0_t5 : Fin (k0_t5_loop i).trips) : Fin 4 → Nat :=
  let c17_881 : Index := 17#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2358 : Index := Scalar.indexCast v1435
  let c0_882 : Index := 0#32
  let c0_883 : Index := 0#32
  ![17, v2358.toNat, 0, 0]
def k0_off593 (i : grid0.Coords) (k0_t5 : Fin (k0_t5_loop i).trips) : Fin 4 → Nat :=
  let c18_884 : Index := 18#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2362 : Index := Scalar.indexCast v1435
  let c0_885 : Index := 0#32
  let c0_886 : Index := 0#32
  ![18, v2362.toNat, 0, 0]
def k0_off594 (i : grid0.Coords) (k0_t5 : Fin (k0_t5_loop i).trips) : Fin 4 → Nat :=
  let c19_887 : Index := 19#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2366 : Index := Scalar.indexCast v1435
  let c0_888 : Index := 0#32
  let c0_889 : Index := 0#32
  ![19, v2366.toNat, 0, 0]
def k0_off595 (i : grid0.Coords) (k0_t5 : Fin (k0_t5_loop i).trips) : Fin 4 → Nat :=
  let c20_890 : Index := 20#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2370 : Index := Scalar.indexCast v1435
  let c0_891 : Index := 0#32
  let c0_892 : Index := 0#32
  ![20, v2370.toNat, 0, 0]
def k0_off596 (i : grid0.Coords) (k0_t5 : Fin (k0_t5_loop i).trips) : Fin 4 → Nat :=
  let c21_893 : Index := 21#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2374 : Index := Scalar.indexCast v1435
  let c0_894 : Index := 0#32
  let c0_895 : Index := 0#32
  ![21, v2374.toNat, 0, 0]
def k0_off597 (i : grid0.Coords) (k0_t5 : Fin (k0_t5_loop i).trips) : Fin 4 → Nat :=
  let c22_896 : Index := 22#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2378 : Index := Scalar.indexCast v1435
  let c0_897 : Index := 0#32
  let c0_898 : Index := 0#32
  ![22, v2378.toNat, 0, 0]
def k0_off598 (i : grid0.Coords) (k0_t5 : Fin (k0_t5_loop i).trips) : Fin 4 → Nat :=
  let c23_899 : Index := 23#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2382 : Index := Scalar.indexCast v1435
  let c0_900 : Index := 0#32
  let c0_901 : Index := 0#32
  ![23, v2382.toNat, 0, 0]
def k0_off599 (i : grid0.Coords) (k0_t5 : Fin (k0_t5_loop i).trips) : Fin 4 → Nat :=
  let c24_902 : Index := 24#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2386 : Index := Scalar.indexCast v1435
  let c0_903 : Index := 0#32
  let c0_904 : Index := 0#32
  ![24, v2386.toNat, 0, 0]
def k0_off600 (i : grid0.Coords) (k0_t5 : Fin (k0_t5_loop i).trips) : Fin 4 → Nat :=
  let c25_905 : Index := 25#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2390 : Index := Scalar.indexCast v1435
  let c0_906 : Index := 0#32
  let c0_907 : Index := 0#32
  ![25, v2390.toNat, 0, 0]
def k0_off601 (i : grid0.Coords) (k0_t5 : Fin (k0_t5_loop i).trips) : Fin 4 → Nat :=
  let c26_908 : Index := 26#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2394 : Index := Scalar.indexCast v1435
  let c0_909 : Index := 0#32
  let c0_910 : Index := 0#32
  ![26, v2394.toNat, 0, 0]
def k0_off602 (i : grid0.Coords) (k0_t5 : Fin (k0_t5_loop i).trips) : Fin 4 → Nat :=
  let c27_911 : Index := 27#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2398 : Index := Scalar.indexCast v1435
  let c0_912 : Index := 0#32
  let c0_913 : Index := 0#32
  ![27, v2398.toNat, 0, 0]
def k0_off603 (i : grid0.Coords) (k0_t5 : Fin (k0_t5_loop i).trips) : Fin 4 → Nat :=
  let c28_914 : Index := 28#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2402 : Index := Scalar.indexCast v1435
  let c0_915 : Index := 0#32
  let c0_916 : Index := 0#32
  ![28, v2402.toNat, 0, 0]
def k0_off604 (i : grid0.Coords) (k0_t5 : Fin (k0_t5_loop i).trips) : Fin 4 → Nat :=
  let c29_917 : Index := 29#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2406 : Index := Scalar.indexCast v1435
  let c0_918 : Index := 0#32
  let c0_919 : Index := 0#32
  ![29, v2406.toNat, 0, 0]
def k0_off605 (i : grid0.Coords) (k0_t5 : Fin (k0_t5_loop i).trips) : Fin 4 → Nat :=
  let c30_920 : Index := 30#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2410 : Index := Scalar.indexCast v1435
  let c0_921 : Index := 0#32
  let c0_922 : Index := 0#32
  ![30, v2410.toNat, 0, 0]
def k0_off606 (i : grid0.Coords) (k0_t5 : Fin (k0_t5_loop i).trips) : Fin 4 → Nat :=
  let c31_923 : Index := 31#32
  let c2_i32_144 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_143 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v275 : BitVec 32 := Scalar.muli c2_i32_143 arg24
  let v276 : BitVec 32 := Scalar.addi v140 v275
  let v277 : BitVec 32 := Scalar.muli c2_i32_144 v276
  let c1_i32_560 : BitVec 32 := 1#32
  let v1435 : BitVec 32 := Scalar.addi v277 c1_i32_560
  let v2414 : Index := Scalar.indexCast v1435
  let c0_924 : Index := 0#32
  let c0_925 : Index := 0#32
  ![31, v2414.toNat, 0, 0]
def k0_mult109 (i : grid0.Coords) (k0_t5 : Fin (k0_t5_loop i).trips) : BitVec 32 :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_929 : BitVec 32 := 1#32
  let v2422 : BitVec 32 := Scalar.addi v2421 c1_i32_929
  let c1_i32_35 : BitVec 32 := 1#32
  let v72 : BitVec 32 := Scalar.subi v71 c1_i32_35
  let v2423 : BitVec 32 := Scalar.minsi v2422 v72
  let c256_i32_930 : BitVec 32 := 256#32
  let v2424 : BitVec 32 := Scalar.muli v2423 c256_i32_930
  v2424
def k0_off607 (i : grid0.Coords) (k0_t5 : Fin (k0_t5_loop i).trips) (c1_i32_929 : BitVec 32) : Fin 2 → Nat :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v2422 : BitVec 32 := Scalar.addi v2421 c1_i32_929
  let c1_i32_35 : BitVec 32 := 1#32
  let v72 : BitVec 32 := Scalar.subi v71 c1_i32_35
  let v2423 : BitVec 32 := Scalar.minsi v2422 v72
  let c256_i32_930 : BitVec 32 := 256#32
  let v2424 : BitVec 32 := Scalar.muli v2423 c256_i32_930
  let v2425 : BitVec 32 := v2424
  let v2426 : Index := Scalar.indexCast v2425
  let c0_931 : Index := 0#32
  ![v2426.toNat, 0]
def k0_mult110 (i : grid0.Coords) (k0_t5 : Fin (k0_t5_loop i).trips) : BitVec 32 :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_35 : BitVec 32 := 1#32
  let v72 : BitVec 32 := Scalar.subi v71 c1_i32_35
  let v2436 : BitVec 32 := Scalar.minsi v2421 v72
  let c256_i32_937 : BitVec 32 := 256#32
  let v2437 : BitVec 32 := Scalar.muli v2436 c256_i32_937
  v2437
def k0_mult111 (i : grid0.Coords) (k0_t5 : Fin (k0_t5_loop i).trips) : BitVec 32 :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_35 : BitVec 32 := 1#32
  let v72 : BitVec 32 := Scalar.subi v71 c1_i32_35
  let v2436 : BitVec 32 := Scalar.minsi v2421 v72
  let c256_i32_937 : BitVec 32 := 256#32
  let v2437 : BitVec 32 := Scalar.muli v2436 c256_i32_937
  let v2438 : BitVec 32 := v2437
  let c0_i32_938 : BitVec 32 := 0#32
  let v2442 : BitVec 32 := Scalar.addi v2438 c0_i32_938
  v2442
def k0_off608 (i : grid0.Coords) (k0_t5 : Fin (k0_t5_loop i).trips) (c0_i32_938 : BitVec 32) : Fin 2 → Nat :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_35 : BitVec 32 := 1#32
  let v72 : BitVec 32 := Scalar.subi v71 c1_i32_35
  let v2436 : BitVec 32 := Scalar.minsi v2421 v72
  let c256_i32_937 : BitVec 32 := 256#32
  let v2437 : BitVec 32 := Scalar.muli v2436 c256_i32_937
  let v2438 : BitVec 32 := v2437
  let v2442 : BitVec 32 := Scalar.addi v2438 c0_i32_938
  let v2443 : BitVec 32 := v2442
  let v2444 : Index := Scalar.indexCast v2443
  let c0_939 : Index := 0#32
  ![v2444.toNat, 0]
def k0_off609 (i : grid0.Coords) (k0_t5 : Fin (k0_t5_loop i).trips) (c0_i32_943 : BitVec 32) : Fin 3 → Nat :=
  let c2_i32_945 : BitVec 32 := 2#32
  let c0_i32_944 : BitVec 32 := 0#32
  let arg1 : BitVec 32 := BitVec.ofNat 32 (i 1).val
  let c2_i32_928 : BitVec 32 := 2#32
  let c2_i32_65 : BitVec 32 := 2#32
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_35 : BitVec 32 := 1#32
  let v72 : BitVec 32 := Scalar.subi v71 c1_i32_35
  let v2436 : BitVec 32 := Scalar.minsi v2421 v72
  let c2_i32_942 : BitVec 32 := 2#32
  let v2453 : BitVec 32 := Scalar.muli v2436 c2_i32_942
  let v2454 : BitVec 32 := Scalar.addi v2453 c0_i32_943
  let v2455 : BitVec 32 := Scalar.subi arg1 v2454
  let v2456 : BitVec 32 := Scalar.maxsi c0_i32_944 v2455
  let v2457 : BitVec 32 := Scalar.minsi c2_i32_945 v2456
  let v2458 : Index := Scalar.indexCast v2457
  let c0_946 : Index := 0#32
  let c0_947 : Index := 0#32
  ![v2458.toNat, 0, 0]
def k0_mult112 (i : grid0.Coords) (k0_t5 : Fin (k0_t5_loop i).trips) : BitVec 32 :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_35 : BitVec 32 := 1#32
  let v72 : BitVec 32 := Scalar.subi v71 c1_i32_35
  let v2436 : BitVec 32 := Scalar.minsi v2421 v72
  let c256_i32_937 : BitVec 32 := 256#32
  let v2437 : BitVec 32 := Scalar.muli v2436 c256_i32_937
  let v2438 : BitVec 32 := v2437
  let c128_i32_950 : BitVec 32 := 128#32
  let v2464 : BitVec 32 := Scalar.addi v2438 c128_i32_950
  v2464
def k0_off610 (i : grid0.Coords) (k0_t5 : Fin (k0_t5_loop i).trips) : Fin 2 → Nat :=
  let c0_964 : Index := 0#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_35 : BitVec 32 := 1#32
  let v72 : BitVec 32 := Scalar.subi v71 c1_i32_35
  let v2436 : BitVec 32 := Scalar.minsi v2421 v72
  let c256_i32_937 : BitVec 32 := 256#32
  let v2437 : BitVec 32 := Scalar.muli v2436 c256_i32_937
  let v2438 : BitVec 32 := v2437
  let v2499 : Index := Scalar.indexCast v2438
  ![0, v2499.toNat]
def k0_mult113 (i : grid0.Coords) (k0_t5 : Fin (k0_t5_loop i).trips) : BitVec 32 :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c256_i32_978 : BitVec 32 := 256#32
  let v2523 : BitVec 32 := Scalar.muli v2421 c256_i32_978
  v2523
def k0_off611 (i : grid0.Coords) (k0_t5 : Fin (k0_t5_loop i).trips) : Fin 2 → Nat :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c256_i32_978 : BitVec 32 := 256#32
  let v2523 : BitVec 32 := Scalar.muli v2421 c256_i32_978
  let v2524 : BitVec 32 := v2523
  let v2525 : Index := Scalar.indexCast v2524
  let c0_979 : Index := 0#32
  ![v2525.toNat, 0]
def k0_mult114 (i : grid0.Coords) (k0_t5 : Fin (k0_t5_loop i).trips) : BitVec 32 :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c256_i32_983 : BitVec 32 := 256#32
  let v2531 : BitVec 32 := Scalar.muli v2421 c256_i32_983
  let c0_i32_984 : BitVec 32 := 0#32
  let v2532 : BitVec 32 := Scalar.addi v2531 c0_i32_984
  v2532
def k0_off612 (i : grid0.Coords) (k0_t5 : Fin (k0_t5_loop i).trips) (c0_i32_984 : BitVec 32) : Fin 2 → Nat :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c256_i32_983 : BitVec 32 := 256#32
  let v2531 : BitVec 32 := Scalar.muli v2421 c256_i32_983
  let v2532 : BitVec 32 := Scalar.addi v2531 c0_i32_984
  let v2533 : BitVec 32 := v2532
  let v2565 : Index := Scalar.indexCast v2533
  let c0_989 : Index := 0#32
  ![v2565.toNat, 0]
def k0_mult115 (i : grid0.Coords) (k0_t5 : Fin (k0_t5_loop i).trips) : BitVec 32 :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c256_i32_991 : BitVec 32 := 256#32
  let v2587 : BitVec 32 := Scalar.muli v2421 c256_i32_991
  let c128_i32_992 : BitVec 32 := 128#32
  let v2588 : BitVec 32 := Scalar.addi v2587 c128_i32_992
  v2588
def k0_off613 (i : grid0.Coords) (k0_t5 : Fin (k0_t5_loop i).trips) : Fin 4 → Nat :=
  let c0_1239 : Index := 0#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3363 : Index := Scalar.indexCast v2421
  let c0_1240 : Index := 0#32
  let c0_1241 : Index := 0#32
  ![0, v3363.toNat, 0, 0]
def k0_off614 (i : grid0.Coords) (k0_t5 : Fin (k0_t5_loop i).trips) : Fin 4 → Nat :=
  let c1_1242 : Index := 1#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3367 : Index := Scalar.indexCast v2421
  let c0_1243 : Index := 0#32
  let c0_1244 : Index := 0#32
  ![1, v3367.toNat, 0, 0]
def k0_off615 (i : grid0.Coords) (k0_t5 : Fin (k0_t5_loop i).trips) : Fin 4 → Nat :=
  let c2_1245 : Index := 2#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3371 : Index := Scalar.indexCast v2421
  let c0_1246 : Index := 0#32
  let c0_1247 : Index := 0#32
  ![2, v3371.toNat, 0, 0]
def k0_off616 (i : grid0.Coords) (k0_t5 : Fin (k0_t5_loop i).trips) : Fin 4 → Nat :=
  let c3_1248 : Index := 3#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3375 : Index := Scalar.indexCast v2421
  let c0_1249 : Index := 0#32
  let c0_1250 : Index := 0#32
  ![3, v3375.toNat, 0, 0]
def k0_off617 (i : grid0.Coords) (k0_t5 : Fin (k0_t5_loop i).trips) : Fin 4 → Nat :=
  let c4_1251 : Index := 4#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3379 : Index := Scalar.indexCast v2421
  let c0_1252 : Index := 0#32
  let c0_1253 : Index := 0#32
  ![4, v3379.toNat, 0, 0]
def k0_off618 (i : grid0.Coords) (k0_t5 : Fin (k0_t5_loop i).trips) : Fin 4 → Nat :=
  let c5_1254 : Index := 5#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3383 : Index := Scalar.indexCast v2421
  let c0_1255 : Index := 0#32
  let c0_1256 : Index := 0#32
  ![5, v3383.toNat, 0, 0]
def k0_off619 (i : grid0.Coords) (k0_t5 : Fin (k0_t5_loop i).trips) : Fin 4 → Nat :=
  let c6_1257 : Index := 6#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3387 : Index := Scalar.indexCast v2421
  let c0_1258 : Index := 0#32
  let c0_1259 : Index := 0#32
  ![6, v3387.toNat, 0, 0]
def k0_off620 (i : grid0.Coords) (k0_t5 : Fin (k0_t5_loop i).trips) : Fin 4 → Nat :=
  let c7_1260 : Index := 7#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3391 : Index := Scalar.indexCast v2421
  let c0_1261 : Index := 0#32
  let c0_1262 : Index := 0#32
  ![7, v3391.toNat, 0, 0]
def k0_off621 (i : grid0.Coords) (k0_t5 : Fin (k0_t5_loop i).trips) : Fin 4 → Nat :=
  let c8_1263 : Index := 8#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3395 : Index := Scalar.indexCast v2421
  let c0_1264 : Index := 0#32
  let c0_1265 : Index := 0#32
  ![8, v3395.toNat, 0, 0]
def k0_off622 (i : grid0.Coords) (k0_t5 : Fin (k0_t5_loop i).trips) : Fin 4 → Nat :=
  let c9_1266 : Index := 9#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3399 : Index := Scalar.indexCast v2421
  let c0_1267 : Index := 0#32
  let c0_1268 : Index := 0#32
  ![9, v3399.toNat, 0, 0]
def k0_off623 (i : grid0.Coords) (k0_t5 : Fin (k0_t5_loop i).trips) : Fin 4 → Nat :=
  let c10_1269 : Index := 10#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3403 : Index := Scalar.indexCast v2421
  let c0_1270 : Index := 0#32
  let c0_1271 : Index := 0#32
  ![10, v3403.toNat, 0, 0]
def k0_off624 (i : grid0.Coords) (k0_t5 : Fin (k0_t5_loop i).trips) : Fin 4 → Nat :=
  let c11_1272 : Index := 11#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3407 : Index := Scalar.indexCast v2421
  let c0_1273 : Index := 0#32
  let c0_1274 : Index := 0#32
  ![11, v3407.toNat, 0, 0]
def k0_off625 (i : grid0.Coords) (k0_t5 : Fin (k0_t5_loop i).trips) : Fin 4 → Nat :=
  let c12_1275 : Index := 12#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3411 : Index := Scalar.indexCast v2421
  let c0_1276 : Index := 0#32
  let c0_1277 : Index := 0#32
  ![12, v3411.toNat, 0, 0]
def k0_off626 (i : grid0.Coords) (k0_t5 : Fin (k0_t5_loop i).trips) : Fin 4 → Nat :=
  let c13_1278 : Index := 13#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3415 : Index := Scalar.indexCast v2421
  let c0_1279 : Index := 0#32
  let c0_1280 : Index := 0#32
  ![13, v3415.toNat, 0, 0]
def k0_off627 (i : grid0.Coords) (k0_t5 : Fin (k0_t5_loop i).trips) : Fin 4 → Nat :=
  let c14_1281 : Index := 14#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3419 : Index := Scalar.indexCast v2421
  let c0_1282 : Index := 0#32
  let c0_1283 : Index := 0#32
  ![14, v3419.toNat, 0, 0]
def k0_off628 (i : grid0.Coords) (k0_t5 : Fin (k0_t5_loop i).trips) : Fin 4 → Nat :=
  let c15_1284 : Index := 15#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3423 : Index := Scalar.indexCast v2421
  let c0_1285 : Index := 0#32
  let c0_1286 : Index := 0#32
  ![15, v3423.toNat, 0, 0]
def k0_off629 (i : grid0.Coords) (k0_t5 : Fin (k0_t5_loop i).trips) : Fin 4 → Nat :=
  let c16_1287 : Index := 16#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3427 : Index := Scalar.indexCast v2421
  let c0_1288 : Index := 0#32
  let c0_1289 : Index := 0#32
  ![16, v3427.toNat, 0, 0]
def k0_off630 (i : grid0.Coords) (k0_t5 : Fin (k0_t5_loop i).trips) : Fin 4 → Nat :=
  let c17_1290 : Index := 17#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3431 : Index := Scalar.indexCast v2421
  let c0_1291 : Index := 0#32
  let c0_1292 : Index := 0#32
  ![17, v3431.toNat, 0, 0]
def k0_off631 (i : grid0.Coords) (k0_t5 : Fin (k0_t5_loop i).trips) : Fin 4 → Nat :=
  let c18_1293 : Index := 18#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3435 : Index := Scalar.indexCast v2421
  let c0_1294 : Index := 0#32
  let c0_1295 : Index := 0#32
  ![18, v3435.toNat, 0, 0]
def k0_off632 (i : grid0.Coords) (k0_t5 : Fin (k0_t5_loop i).trips) : Fin 4 → Nat :=
  let c19_1296 : Index := 19#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3439 : Index := Scalar.indexCast v2421
  let c0_1297 : Index := 0#32
  let c0_1298 : Index := 0#32
  ![19, v3439.toNat, 0, 0]
def k0_off633 (i : grid0.Coords) (k0_t5 : Fin (k0_t5_loop i).trips) : Fin 4 → Nat :=
  let c20_1299 : Index := 20#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3443 : Index := Scalar.indexCast v2421
  let c0_1300 : Index := 0#32
  let c0_1301 : Index := 0#32
  ![20, v3443.toNat, 0, 0]
def k0_off634 (i : grid0.Coords) (k0_t5 : Fin (k0_t5_loop i).trips) : Fin 4 → Nat :=
  let c21_1302 : Index := 21#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3447 : Index := Scalar.indexCast v2421
  let c0_1303 : Index := 0#32
  let c0_1304 : Index := 0#32
  ![21, v3447.toNat, 0, 0]
def k0_off635 (i : grid0.Coords) (k0_t5 : Fin (k0_t5_loop i).trips) : Fin 4 → Nat :=
  let c22_1305 : Index := 22#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3451 : Index := Scalar.indexCast v2421
  let c0_1306 : Index := 0#32
  let c0_1307 : Index := 0#32
  ![22, v3451.toNat, 0, 0]
def k0_off636 (i : grid0.Coords) (k0_t5 : Fin (k0_t5_loop i).trips) : Fin 4 → Nat :=
  let c23_1308 : Index := 23#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3455 : Index := Scalar.indexCast v2421
  let c0_1309 : Index := 0#32
  let c0_1310 : Index := 0#32
  ![23, v3455.toNat, 0, 0]
def k0_off637 (i : grid0.Coords) (k0_t5 : Fin (k0_t5_loop i).trips) : Fin 4 → Nat :=
  let c24_1311 : Index := 24#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3459 : Index := Scalar.indexCast v2421
  let c0_1312 : Index := 0#32
  let c0_1313 : Index := 0#32
  ![24, v3459.toNat, 0, 0]
def k0_off638 (i : grid0.Coords) (k0_t5 : Fin (k0_t5_loop i).trips) : Fin 4 → Nat :=
  let c25_1314 : Index := 25#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3463 : Index := Scalar.indexCast v2421
  let c0_1315 : Index := 0#32
  let c0_1316 : Index := 0#32
  ![25, v3463.toNat, 0, 0]
def k0_off639 (i : grid0.Coords) (k0_t5 : Fin (k0_t5_loop i).trips) : Fin 4 → Nat :=
  let c26_1317 : Index := 26#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3467 : Index := Scalar.indexCast v2421
  let c0_1318 : Index := 0#32
  let c0_1319 : Index := 0#32
  ![26, v3467.toNat, 0, 0]
def k0_off640 (i : grid0.Coords) (k0_t5 : Fin (k0_t5_loop i).trips) : Fin 4 → Nat :=
  let c27_1320 : Index := 27#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3471 : Index := Scalar.indexCast v2421
  let c0_1321 : Index := 0#32
  let c0_1322 : Index := 0#32
  ![27, v3471.toNat, 0, 0]
def k0_off641 (i : grid0.Coords) (k0_t5 : Fin (k0_t5_loop i).trips) : Fin 4 → Nat :=
  let c28_1323 : Index := 28#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3475 : Index := Scalar.indexCast v2421
  let c0_1324 : Index := 0#32
  let c0_1325 : Index := 0#32
  ![28, v3475.toNat, 0, 0]
def k0_off642 (i : grid0.Coords) (k0_t5 : Fin (k0_t5_loop i).trips) : Fin 4 → Nat :=
  let c29_1326 : Index := 29#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3479 : Index := Scalar.indexCast v2421
  let c0_1327 : Index := 0#32
  let c0_1328 : Index := 0#32
  ![29, v3479.toNat, 0, 0]
def k0_off643 (i : grid0.Coords) (k0_t5 : Fin (k0_t5_loop i).trips) : Fin 4 → Nat :=
  let c30_1329 : Index := 30#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3483 : Index := Scalar.indexCast v2421
  let c0_1330 : Index := 0#32
  let c0_1331 : Index := 0#32
  ![30, v3483.toNat, 0, 0]
def k0_off644 (i : grid0.Coords) (k0_t5 : Fin (k0_t5_loop i).trips) : Fin 4 → Nat :=
  let c31_1332 : Index := 31#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let v3487 : Index := Scalar.indexCast v2421
  let c0_1333 : Index := 0#32
  let c0_1334 : Index := 0#32
  ![31, v3487.toNat, 0, 0]
def k0_mult116 (i : grid0.Coords) (k0_t5 : Fin (k0_t5_loop i).trips) : BitVec 32 :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c2_i32_1335 : BitVec 32 := 2#32
  let v3491 : BitVec 32 := Scalar.addi v2421 c2_i32_1335
  let c1_i32_35 : BitVec 32 := 1#32
  let v72 : BitVec 32 := Scalar.subi v71 c1_i32_35
  let v3492 : BitVec 32 := Scalar.minsi v3491 v72
  let c256_i32_1336 : BitVec 32 := 256#32
  let v3493 : BitVec 32 := Scalar.muli v3492 c256_i32_1336
  v3493
def k0_mult117 (i : grid0.Coords) (k0_t5 : Fin (k0_t5_loop i).trips) : BitVec 32 :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1343 : BitVec 32 := 1#32
  let v3505 : BitVec 32 := Scalar.addi v2421 c1_i32_1343
  let c1_i32_35 : BitVec 32 := 1#32
  let v72 : BitVec 32 := Scalar.subi v71 c1_i32_35
  let v3506 : BitVec 32 := Scalar.minsi v3505 v72
  let c256_i32_1344 : BitVec 32 := 256#32
  let v3507 : BitVec 32 := Scalar.muli v3506 c256_i32_1344
  v3507
def k0_mult118 (i : grid0.Coords) (k0_t5 : Fin (k0_t5_loop i).trips) : BitVec 32 :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1343 : BitVec 32 := 1#32
  let v3505 : BitVec 32 := Scalar.addi v2421 c1_i32_1343
  let c1_i32_35 : BitVec 32 := 1#32
  let v72 : BitVec 32 := Scalar.subi v71 c1_i32_35
  let v3506 : BitVec 32 := Scalar.minsi v3505 v72
  let c256_i32_1344 : BitVec 32 := 256#32
  let v3507 : BitVec 32 := Scalar.muli v3506 c256_i32_1344
  let v3508 : BitVec 32 := v3507
  let c0_i32_1345 : BitVec 32 := 0#32
  let v3512 : BitVec 32 := Scalar.addi v3508 c0_i32_1345
  v3512
def k0_off645 (i : grid0.Coords) (k0_t5 : Fin (k0_t5_loop i).trips) (c0_i32_1345 : BitVec 32) : Fin 2 → Nat :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1343 : BitVec 32 := 1#32
  let v3505 : BitVec 32 := Scalar.addi v2421 c1_i32_1343
  let c1_i32_35 : BitVec 32 := 1#32
  let v72 : BitVec 32 := Scalar.subi v71 c1_i32_35
  let v3506 : BitVec 32 := Scalar.minsi v3505 v72
  let c256_i32_1344 : BitVec 32 := 256#32
  let v3507 : BitVec 32 := Scalar.muli v3506 c256_i32_1344
  let v3508 : BitVec 32 := v3507
  let v3512 : BitVec 32 := Scalar.addi v3508 c0_i32_1345
  let v3513 : BitVec 32 := v3512
  let v3514 : Index := Scalar.indexCast v3513
  let c0_1346 : Index := 0#32
  ![v3514.toNat, 0]
def k0_off646 (i : grid0.Coords) (k0_t5 : Fin (k0_t5_loop i).trips) (c0_i32_1350 : BitVec 32) : Fin 3 → Nat :=
  let c2_i32_1352 : BitVec 32 := 2#32
  let c0_i32_1351 : BitVec 32 := 0#32
  let arg1 : BitVec 32 := BitVec.ofNat 32 (i 1).val
  let c2_i32_928 : BitVec 32 := 2#32
  let c2_i32_65 : BitVec 32 := 2#32
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1343 : BitVec 32 := 1#32
  let v3505 : BitVec 32 := Scalar.addi v2421 c1_i32_1343
  let c1_i32_35 : BitVec 32 := 1#32
  let v72 : BitVec 32 := Scalar.subi v71 c1_i32_35
  let v3506 : BitVec 32 := Scalar.minsi v3505 v72
  let c2_i32_1349 : BitVec 32 := 2#32
  let v3523 : BitVec 32 := Scalar.muli v3506 c2_i32_1349
  let v3524 : BitVec 32 := Scalar.addi v3523 c0_i32_1350
  let v3525 : BitVec 32 := Scalar.subi arg1 v3524
  let v3526 : BitVec 32 := Scalar.maxsi c0_i32_1351 v3525
  let v3527 : BitVec 32 := Scalar.minsi c2_i32_1352 v3526
  let v3528 : Index := Scalar.indexCast v3527
  let c0_1353 : Index := 0#32
  let c0_1354 : Index := 0#32
  ![v3528.toNat, 0, 0]
def k0_mult119 (i : grid0.Coords) (k0_t5 : Fin (k0_t5_loop i).trips) : BitVec 32 :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1343 : BitVec 32 := 1#32
  let v3505 : BitVec 32 := Scalar.addi v2421 c1_i32_1343
  let c1_i32_35 : BitVec 32 := 1#32
  let v72 : BitVec 32 := Scalar.subi v71 c1_i32_35
  let v3506 : BitVec 32 := Scalar.minsi v3505 v72
  let c256_i32_1344 : BitVec 32 := 256#32
  let v3507 : BitVec 32 := Scalar.muli v3506 c256_i32_1344
  let v3508 : BitVec 32 := v3507
  let c128_i32_1357 : BitVec 32 := 128#32
  let v3534 : BitVec 32 := Scalar.addi v3508 c128_i32_1357
  v3534
def k0_off647 (i : grid0.Coords) (k0_t5 : Fin (k0_t5_loop i).trips) : Fin 2 → Nat :=
  let c0_1371 : Index := 0#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1343 : BitVec 32 := 1#32
  let v3505 : BitVec 32 := Scalar.addi v2421 c1_i32_1343
  let c1_i32_35 : BitVec 32 := 1#32
  let v72 : BitVec 32 := Scalar.subi v71 c1_i32_35
  let v3506 : BitVec 32 := Scalar.minsi v3505 v72
  let c256_i32_1344 : BitVec 32 := 256#32
  let v3507 : BitVec 32 := Scalar.muli v3506 c256_i32_1344
  let v3508 : BitVec 32 := v3507
  let v3569 : Index := Scalar.indexCast v3508
  ![0, v3569.toNat]
def k0_mult120 (i : grid0.Coords) (k0_t5 : Fin (k0_t5_loop i).trips) : BitVec 32 :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let c256_i32_1386 : BitVec 32 := 256#32
  let v3594 : BitVec 32 := Scalar.muli v3579 c256_i32_1386
  v3594
def k0_off648 (i : grid0.Coords) (k0_t5 : Fin (k0_t5_loop i).trips) : Fin 2 → Nat :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let c256_i32_1386 : BitVec 32 := 256#32
  let v3594 : BitVec 32 := Scalar.muli v3579 c256_i32_1386
  let v3595 : BitVec 32 := v3594
  let v3596 : Index := Scalar.indexCast v3595
  let c0_1387 : Index := 0#32
  ![v3596.toNat, 0]
def k0_mult121 (i : grid0.Coords) (k0_t5 : Fin (k0_t5_loop i).trips) : BitVec 32 :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let c256_i32_1391 : BitVec 32 := 256#32
  let v3602 : BitVec 32 := Scalar.muli v3579 c256_i32_1391
  let c0_i32_1392 : BitVec 32 := 0#32
  let v3603 : BitVec 32 := Scalar.addi v3602 c0_i32_1392
  v3603
def k0_off649 (i : grid0.Coords) (k0_t5 : Fin (k0_t5_loop i).trips) (c0_i32_1392 : BitVec 32) : Fin 2 → Nat :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let c256_i32_1391 : BitVec 32 := 256#32
  let v3602 : BitVec 32 := Scalar.muli v3579 c256_i32_1391
  let v3603 : BitVec 32 := Scalar.addi v3602 c0_i32_1392
  let v3604 : BitVec 32 := v3603
  let v3636 : Index := Scalar.indexCast v3604
  let c0_1397 : Index := 0#32
  ![v3636.toNat, 0]
def k0_mult122 (i : grid0.Coords) (k0_t5 : Fin (k0_t5_loop i).trips) : BitVec 32 :=
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let c256_i32_1399 : BitVec 32 := 256#32
  let v3658 : BitVec 32 := Scalar.muli v3579 c256_i32_1399
  let c128_i32_1400 : BitVec 32 := 128#32
  let v3659 : BitVec 32 := Scalar.addi v3658 c128_i32_1400
  v3659
def k0_off650 (i : grid0.Coords) (k0_t5 : Fin (k0_t5_loop i).trips) : Fin 4 → Nat :=
  let c0_1647 : Index := 0#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4434 : Index := Scalar.indexCast v3579
  let c0_1648 : Index := 0#32
  let c0_1649 : Index := 0#32
  ![0, v4434.toNat, 0, 0]
def k0_off651 (i : grid0.Coords) (k0_t5 : Fin (k0_t5_loop i).trips) : Fin 4 → Nat :=
  let c1_1650 : Index := 1#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4438 : Index := Scalar.indexCast v3579
  let c0_1651 : Index := 0#32
  let c0_1652 : Index := 0#32
  ![1, v4438.toNat, 0, 0]
def k0_off652 (i : grid0.Coords) (k0_t5 : Fin (k0_t5_loop i).trips) : Fin 4 → Nat :=
  let c2_1653 : Index := 2#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4442 : Index := Scalar.indexCast v3579
  let c0_1654 : Index := 0#32
  let c0_1655 : Index := 0#32
  ![2, v4442.toNat, 0, 0]
def k0_off653 (i : grid0.Coords) (k0_t5 : Fin (k0_t5_loop i).trips) : Fin 4 → Nat :=
  let c3_1656 : Index := 3#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4446 : Index := Scalar.indexCast v3579
  let c0_1657 : Index := 0#32
  let c0_1658 : Index := 0#32
  ![3, v4446.toNat, 0, 0]
def k0_off654 (i : grid0.Coords) (k0_t5 : Fin (k0_t5_loop i).trips) : Fin 4 → Nat :=
  let c4_1659 : Index := 4#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4450 : Index := Scalar.indexCast v3579
  let c0_1660 : Index := 0#32
  let c0_1661 : Index := 0#32
  ![4, v4450.toNat, 0, 0]
def k0_off655 (i : grid0.Coords) (k0_t5 : Fin (k0_t5_loop i).trips) : Fin 4 → Nat :=
  let c5_1662 : Index := 5#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4454 : Index := Scalar.indexCast v3579
  let c0_1663 : Index := 0#32
  let c0_1664 : Index := 0#32
  ![5, v4454.toNat, 0, 0]
def k0_off656 (i : grid0.Coords) (k0_t5 : Fin (k0_t5_loop i).trips) : Fin 4 → Nat :=
  let c6_1665 : Index := 6#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4458 : Index := Scalar.indexCast v3579
  let c0_1666 : Index := 0#32
  let c0_1667 : Index := 0#32
  ![6, v4458.toNat, 0, 0]
def k0_off657 (i : grid0.Coords) (k0_t5 : Fin (k0_t5_loop i).trips) : Fin 4 → Nat :=
  let c7_1668 : Index := 7#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4462 : Index := Scalar.indexCast v3579
  let c0_1669 : Index := 0#32
  let c0_1670 : Index := 0#32
  ![7, v4462.toNat, 0, 0]
def k0_off658 (i : grid0.Coords) (k0_t5 : Fin (k0_t5_loop i).trips) : Fin 4 → Nat :=
  let c8_1671 : Index := 8#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4466 : Index := Scalar.indexCast v3579
  let c0_1672 : Index := 0#32
  let c0_1673 : Index := 0#32
  ![8, v4466.toNat, 0, 0]
def k0_off659 (i : grid0.Coords) (k0_t5 : Fin (k0_t5_loop i).trips) : Fin 4 → Nat :=
  let c9_1674 : Index := 9#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4470 : Index := Scalar.indexCast v3579
  let c0_1675 : Index := 0#32
  let c0_1676 : Index := 0#32
  ![9, v4470.toNat, 0, 0]
def k0_off660 (i : grid0.Coords) (k0_t5 : Fin (k0_t5_loop i).trips) : Fin 4 → Nat :=
  let c10_1677 : Index := 10#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4474 : Index := Scalar.indexCast v3579
  let c0_1678 : Index := 0#32
  let c0_1679 : Index := 0#32
  ![10, v4474.toNat, 0, 0]
def k0_off661 (i : grid0.Coords) (k0_t5 : Fin (k0_t5_loop i).trips) : Fin 4 → Nat :=
  let c11_1680 : Index := 11#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4478 : Index := Scalar.indexCast v3579
  let c0_1681 : Index := 0#32
  let c0_1682 : Index := 0#32
  ![11, v4478.toNat, 0, 0]
def k0_off662 (i : grid0.Coords) (k0_t5 : Fin (k0_t5_loop i).trips) : Fin 4 → Nat :=
  let c12_1683 : Index := 12#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4482 : Index := Scalar.indexCast v3579
  let c0_1684 : Index := 0#32
  let c0_1685 : Index := 0#32
  ![12, v4482.toNat, 0, 0]
def k0_off663 (i : grid0.Coords) (k0_t5 : Fin (k0_t5_loop i).trips) : Fin 4 → Nat :=
  let c13_1686 : Index := 13#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4486 : Index := Scalar.indexCast v3579
  let c0_1687 : Index := 0#32
  let c0_1688 : Index := 0#32
  ![13, v4486.toNat, 0, 0]
def k0_off664 (i : grid0.Coords) (k0_t5 : Fin (k0_t5_loop i).trips) : Fin 4 → Nat :=
  let c14_1689 : Index := 14#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4490 : Index := Scalar.indexCast v3579
  let c0_1690 : Index := 0#32
  let c0_1691 : Index := 0#32
  ![14, v4490.toNat, 0, 0]
def k0_off665 (i : grid0.Coords) (k0_t5 : Fin (k0_t5_loop i).trips) : Fin 4 → Nat :=
  let c15_1692 : Index := 15#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4494 : Index := Scalar.indexCast v3579
  let c0_1693 : Index := 0#32
  let c0_1694 : Index := 0#32
  ![15, v4494.toNat, 0, 0]
def k0_off666 (i : grid0.Coords) (k0_t5 : Fin (k0_t5_loop i).trips) : Fin 4 → Nat :=
  let c16_1695 : Index := 16#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4498 : Index := Scalar.indexCast v3579
  let c0_1696 : Index := 0#32
  let c0_1697 : Index := 0#32
  ![16, v4498.toNat, 0, 0]
def k0_off667 (i : grid0.Coords) (k0_t5 : Fin (k0_t5_loop i).trips) : Fin 4 → Nat :=
  let c17_1698 : Index := 17#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4502 : Index := Scalar.indexCast v3579
  let c0_1699 : Index := 0#32
  let c0_1700 : Index := 0#32
  ![17, v4502.toNat, 0, 0]
def k0_off668 (i : grid0.Coords) (k0_t5 : Fin (k0_t5_loop i).trips) : Fin 4 → Nat :=
  let c18_1701 : Index := 18#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4506 : Index := Scalar.indexCast v3579
  let c0_1702 : Index := 0#32
  let c0_1703 : Index := 0#32
  ![18, v4506.toNat, 0, 0]
def k0_off669 (i : grid0.Coords) (k0_t5 : Fin (k0_t5_loop i).trips) : Fin 4 → Nat :=
  let c19_1704 : Index := 19#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4510 : Index := Scalar.indexCast v3579
  let c0_1705 : Index := 0#32
  let c0_1706 : Index := 0#32
  ![19, v4510.toNat, 0, 0]
def k0_off670 (i : grid0.Coords) (k0_t5 : Fin (k0_t5_loop i).trips) : Fin 4 → Nat :=
  let c20_1707 : Index := 20#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4514 : Index := Scalar.indexCast v3579
  let c0_1708 : Index := 0#32
  let c0_1709 : Index := 0#32
  ![20, v4514.toNat, 0, 0]
def k0_off671 (i : grid0.Coords) (k0_t5 : Fin (k0_t5_loop i).trips) : Fin 4 → Nat :=
  let c21_1710 : Index := 21#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4518 : Index := Scalar.indexCast v3579
  let c0_1711 : Index := 0#32
  let c0_1712 : Index := 0#32
  ![21, v4518.toNat, 0, 0]
def k0_off672 (i : grid0.Coords) (k0_t5 : Fin (k0_t5_loop i).trips) : Fin 4 → Nat :=
  let c22_1713 : Index := 22#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4522 : Index := Scalar.indexCast v3579
  let c0_1714 : Index := 0#32
  let c0_1715 : Index := 0#32
  ![22, v4522.toNat, 0, 0]
def k0_off673 (i : grid0.Coords) (k0_t5 : Fin (k0_t5_loop i).trips) : Fin 4 → Nat :=
  let c23_1716 : Index := 23#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4526 : Index := Scalar.indexCast v3579
  let c0_1717 : Index := 0#32
  let c0_1718 : Index := 0#32
  ![23, v4526.toNat, 0, 0]
def k0_off674 (i : grid0.Coords) (k0_t5 : Fin (k0_t5_loop i).trips) : Fin 4 → Nat :=
  let c24_1719 : Index := 24#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4530 : Index := Scalar.indexCast v3579
  let c0_1720 : Index := 0#32
  let c0_1721 : Index := 0#32
  ![24, v4530.toNat, 0, 0]
def k0_off675 (i : grid0.Coords) (k0_t5 : Fin (k0_t5_loop i).trips) : Fin 4 → Nat :=
  let c25_1722 : Index := 25#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4534 : Index := Scalar.indexCast v3579
  let c0_1723 : Index := 0#32
  let c0_1724 : Index := 0#32
  ![25, v4534.toNat, 0, 0]
def k0_off676 (i : grid0.Coords) (k0_t5 : Fin (k0_t5_loop i).trips) : Fin 4 → Nat :=
  let c26_1725 : Index := 26#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4538 : Index := Scalar.indexCast v3579
  let c0_1726 : Index := 0#32
  let c0_1727 : Index := 0#32
  ![26, v4538.toNat, 0, 0]
def k0_off677 (i : grid0.Coords) (k0_t5 : Fin (k0_t5_loop i).trips) : Fin 4 → Nat :=
  let c27_1728 : Index := 27#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4542 : Index := Scalar.indexCast v3579
  let c0_1729 : Index := 0#32
  let c0_1730 : Index := 0#32
  ![27, v4542.toNat, 0, 0]
def k0_off678 (i : grid0.Coords) (k0_t5 : Fin (k0_t5_loop i).trips) : Fin 4 → Nat :=
  let c28_1731 : Index := 28#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4546 : Index := Scalar.indexCast v3579
  let c0_1732 : Index := 0#32
  let c0_1733 : Index := 0#32
  ![28, v4546.toNat, 0, 0]
def k0_off679 (i : grid0.Coords) (k0_t5 : Fin (k0_t5_loop i).trips) : Fin 4 → Nat :=
  let c29_1734 : Index := 29#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4550 : Index := Scalar.indexCast v3579
  let c0_1735 : Index := 0#32
  let c0_1736 : Index := 0#32
  ![29, v4550.toNat, 0, 0]
def k0_off680 (i : grid0.Coords) (k0_t5 : Fin (k0_t5_loop i).trips) : Fin 4 → Nat :=
  let c30_1737 : Index := 30#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4554 : Index := Scalar.indexCast v3579
  let c0_1738 : Index := 0#32
  let c0_1739 : Index := 0#32
  ![30, v4554.toNat, 0, 0]
def k0_off681 (i : grid0.Coords) (k0_t5 : Fin (k0_t5_loop i).trips) : Fin 4 → Nat :=
  let c31_1740 : Index := 31#32
  let c2_i32_928 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_926 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t5
  let v2418 : BitVec 32 := Scalar.muli c2_i32_926 arg24
  let v2419 : BitVec 32 := Scalar.addi v140 v2418
  let c1_i32_927 : BitVec 32 := 1#32
  let v2420 : BitVec 32 := Scalar.addi v2419 c1_i32_927
  let v2421 : BitVec 32 := Scalar.muli c2_i32_928 v2420
  let c1_i32_1377 : BitVec 32 := 1#32
  let v3579 : BitVec 32 := Scalar.addi v2421 c1_i32_1377
  let v4558 : Index := Scalar.indexCast v3579
  let c0_1741 : Index := 0#32
  let c0_1742 : Index := 0#32
  ![31, v4558.toNat, 0, 0]
@[reducible] def k0_t6_loop (i : grid0.Coords) : Scf.Loop 32 :=
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_117 : BitVec 32 := 1#32
  ⟨v222, v227, c1_i32_117⟩
def k0_mult123 (i : grid0.Coords) (k0_t6 : Fin (k0_t6_loop i).trips) : BitVec 32 :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_144 : BitVec 32 := 1#32
  let v276 : BitVec 32 := Scalar.addi v275 c1_i32_144
  let c1_i32_35 : BitVec 32 := 1#32
  let v72 : BitVec 32 := Scalar.subi v71 c1_i32_35
  let v277 : BitVec 32 := Scalar.minsi v276 v72
  let c256_i32_145 : BitVec 32 := 256#32
  let v278 : BitVec 32 := Scalar.muli v277 c256_i32_145
  v278
def k0_off682 (i : grid0.Coords) (k0_t6 : Fin (k0_t6_loop i).trips) (c1_i32_144 : BitVec 32) : Fin 2 → Nat :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let v276 : BitVec 32 := Scalar.addi v275 c1_i32_144
  let c1_i32_35 : BitVec 32 := 1#32
  let v72 : BitVec 32 := Scalar.subi v71 c1_i32_35
  let v277 : BitVec 32 := Scalar.minsi v276 v72
  let c256_i32_145 : BitVec 32 := 256#32
  let v278 : BitVec 32 := Scalar.muli v277 c256_i32_145
  let v279 : BitVec 32 := v278
  let v280 : Index := Scalar.indexCast v279
  let c0_146 : Index := 0#32
  ![v280.toNat, 0]
def k0_off683 (i : grid0.Coords) : Fin 3 → Nat :=
  let arg1 : BitVec 32 := BitVec.ofNat 32 (i 1).val
  let c8_i32 : BitVec 32 := 8#32
  let c0_i32_36 : BitVec 32 := 0#32
  let v73 : BitVec 1 := Scalar.cmpi .eq c8_i32 c0_i32_36
  let c1_i32_37 : BitVec 32 := 1#32
  let v74 : BitVec 32 := Scalar.select v73 c1_i32_37 c8_i32
  let v75 : BitVec 32 := Scalar.remsi arg1 v74
  let c0_i32_39 : BitVec 32 := 0#32
  let v77 : BitVec 1 := Scalar.cmpi .slt v75 c0_i32_39
  let c0_i32_40 : BitVec 32 := 0#32
  let v78 : BitVec 1 := Scalar.cmpi .slt v74 c0_i32_40
  let v79 : BitVec 1 := Scalar.xori v77 v78
  let c0_i32_38 : BitVec 32 := 0#32
  let v76 : BitVec 1 := Scalar.cmpi .ne v75 c0_i32_38
  let v80 : BitVec 1 := Scalar.andi v79 v76
  let v81 : BitVec 32 := Scalar.addi v75 v74
  let v82 : BitVec 32 := Scalar.select v80 v81 v75
  let v282 : Index := Scalar.indexCast v82
  let c0_147 : Index := 0#32
  let c0_148 : Index := 0#32
  ![v282.toNat, 0, 0]
def k0_mult124 (i : grid0.Coords) (k0_t6 : Fin (k0_t6_loop i).trips) : BitVec 32 :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_35 : BitVec 32 := 1#32
  let v72 : BitVec 32 := Scalar.subi v71 c1_i32_35
  let v290 : BitVec 32 := Scalar.minsi v275 v72
  let c256_i32_152 : BitVec 32 := 256#32
  let v291 : BitVec 32 := Scalar.muli v290 c256_i32_152
  v291
def k0_mult125 (i : grid0.Coords) (k0_t6 : Fin (k0_t6_loop i).trips) : BitVec 32 :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_35 : BitVec 32 := 1#32
  let v72 : BitVec 32 := Scalar.subi v71 c1_i32_35
  let v290 : BitVec 32 := Scalar.minsi v275 v72
  let c256_i32_152 : BitVec 32 := 256#32
  let v291 : BitVec 32 := Scalar.muli v290 c256_i32_152
  let v292 : BitVec 32 := v291
  let c0_i32_153 : BitVec 32 := 0#32
  let v296 : BitVec 32 := Scalar.addi v292 c0_i32_153
  v296
def k0_off684 (i : grid0.Coords) (k0_t6 : Fin (k0_t6_loop i).trips) (c0_i32_153 : BitVec 32) : Fin 2 → Nat :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_35 : BitVec 32 := 1#32
  let v72 : BitVec 32 := Scalar.subi v71 c1_i32_35
  let v290 : BitVec 32 := Scalar.minsi v275 v72
  let c256_i32_152 : BitVec 32 := 256#32
  let v291 : BitVec 32 := Scalar.muli v290 c256_i32_152
  let v292 : BitVec 32 := v291
  let v296 : BitVec 32 := Scalar.addi v292 c0_i32_153
  let v297 : BitVec 32 := v296
  let v298 : Index := Scalar.indexCast v297
  let c0_154 : Index := 0#32
  ![v298.toNat, 0]
def k0_off685 (i : grid0.Coords) (k0_t6 : Fin (k0_t6_loop i).trips) (c0_i32_158 : BitVec 32) : Fin 3 → Nat :=
  let c2_i32_160 : BitVec 32 := 2#32
  let c0_i32_159 : BitVec 32 := 0#32
  let arg1 : BitVec 32 := BitVec.ofNat 32 (i 1).val
  let c2_i32_143 : BitVec 32 := 2#32
  let c2_i32_65 : BitVec 32 := 2#32
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_35 : BitVec 32 := 1#32
  let v72 : BitVec 32 := Scalar.subi v71 c1_i32_35
  let v290 : BitVec 32 := Scalar.minsi v275 v72
  let c2_i32_157 : BitVec 32 := 2#32
  let v307 : BitVec 32 := Scalar.muli v290 c2_i32_157
  let v308 : BitVec 32 := Scalar.addi v307 c0_i32_158
  let v309 : BitVec 32 := Scalar.subi arg1 v308
  let v310 : BitVec 32 := Scalar.maxsi c0_i32_159 v309
  let v311 : BitVec 32 := Scalar.minsi c2_i32_160 v310
  let v312 : Index := Scalar.indexCast v311
  let c0_161 : Index := 0#32
  let c0_162 : Index := 0#32
  ![v312.toNat, 0, 0]
def k0_mult126 (i : grid0.Coords) (k0_t6 : Fin (k0_t6_loop i).trips) : BitVec 32 :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_35 : BitVec 32 := 1#32
  let v72 : BitVec 32 := Scalar.subi v71 c1_i32_35
  let v290 : BitVec 32 := Scalar.minsi v275 v72
  let c256_i32_152 : BitVec 32 := 256#32
  let v291 : BitVec 32 := Scalar.muli v290 c256_i32_152
  let v292 : BitVec 32 := v291
  let c128_i32_165 : BitVec 32 := 128#32
  let v318 : BitVec 32 := Scalar.addi v292 c128_i32_165
  v318
def k0_off686 (i : grid0.Coords) (k0_t6 : Fin (k0_t6_loop i).trips) : Fin 2 → Nat :=
  let c0_178 : Index := 0#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_35 : BitVec 32 := 1#32
  let v72 : BitVec 32 := Scalar.subi v71 c1_i32_35
  let v290 : BitVec 32 := Scalar.minsi v275 v72
  let c256_i32_152 : BitVec 32 := 256#32
  let v291 : BitVec 32 := Scalar.muli v290 c256_i32_152
  let v292 : BitVec 32 := v291
  let v353 : Index := Scalar.indexCast v292
  ![0, v353.toNat]
def k0_mult127 (i : grid0.Coords) (k0_t6 : Fin (k0_t6_loop i).trips) : BitVec 32 :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c256_i32_192 : BitVec 32 := 256#32
  let v377 : BitVec 32 := Scalar.muli v275 c256_i32_192
  v377
def k0_off687 (i : grid0.Coords) (k0_t6 : Fin (k0_t6_loop i).trips) : Fin 2 → Nat :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c256_i32_192 : BitVec 32 := 256#32
  let v377 : BitVec 32 := Scalar.muli v275 c256_i32_192
  let v378 : BitVec 32 := v377
  let v379 : Index := Scalar.indexCast v378
  let c0_193 : Index := 0#32
  ![v379.toNat, 0]
def k0_off688 (i : grid0.Coords) : Fin 3 → Nat :=
  let arg1 : BitVec 32 := BitVec.ofNat 32 (i 1).val
  let c1_i32_184 : BitVec 32 := 1#32
  let v363 : BitVec 32 := Scalar.addi arg1 c1_i32_184
  let c8_i32_185 : BitVec 32 := 8#32
  let c0_i32_186 : BitVec 32 := 0#32
  let v364 : BitVec 1 := Scalar.cmpi .eq c8_i32_185 c0_i32_186
  let c1_i32_187 : BitVec 32 := 1#32
  let v365 : BitVec 32 := Scalar.select v364 c1_i32_187 c8_i32_185
  let v366 : BitVec 32 := Scalar.remsi v363 v365
  let c0_i32_189 : BitVec 32 := 0#32
  let v368 : BitVec 1 := Scalar.cmpi .slt v366 c0_i32_189
  let c0_i32_190 : BitVec 32 := 0#32
  let v369 : BitVec 1 := Scalar.cmpi .slt v365 c0_i32_190
  let v370 : BitVec 1 := Scalar.xori v368 v369
  let c0_i32_188 : BitVec 32 := 0#32
  let v367 : BitVec 1 := Scalar.cmpi .ne v366 c0_i32_188
  let v371 : BitVec 1 := Scalar.andi v370 v367
  let v372 : BitVec 32 := Scalar.addi v366 v365
  let v373 : BitVec 32 := Scalar.select v371 v372 v366
  let v381 : Index := Scalar.indexCast v373
  let c0_194 : Index := 0#32
  let c0_195 : Index := 0#32
  ![v381.toNat, 0, 0]
def k0_mult128 (i : grid0.Coords) (k0_t6 : Fin (k0_t6_loop i).trips) : BitVec 32 :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c256_i32_197 : BitVec 32 := 256#32
  let v385 : BitVec 32 := Scalar.muli v275 c256_i32_197
  let c0_i32_198 : BitVec 32 := 0#32
  let v386 : BitVec 32 := Scalar.addi v385 c0_i32_198
  v386
def k0_off689 (i : grid0.Coords) (k0_t6 : Fin (k0_t6_loop i).trips) (c0_i32_198 : BitVec 32) : Fin 2 → Nat :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c256_i32_197 : BitVec 32 := 256#32
  let v385 : BitVec 32 := Scalar.muli v275 c256_i32_197
  let v386 : BitVec 32 := Scalar.addi v385 c0_i32_198
  let v387 : BitVec 32 := v386
  let v419 : Index := Scalar.indexCast v387
  let c0_201 : Index := 0#32
  ![v419.toNat, 0]
def k0_mult129 (i : grid0.Coords) (k0_t6 : Fin (k0_t6_loop i).trips) : BitVec 32 :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c256_i32_203 : BitVec 32 := 256#32
  let v441 : BitVec 32 := Scalar.muli v275 c256_i32_203
  let c128_i32_204 : BitVec 32 := 128#32
  let v442 : BitVec 32 := Scalar.addi v441 c128_i32_204
  v442
def k0_off690 (i : grid0.Coords) (k0_t6 : Fin (k0_t6_loop i).trips) : Fin 4 → Nat :=
  let c0_445 : Index := 0#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let v1217 : Index := Scalar.indexCast v275
  let c0_446 : Index := 0#32
  let c0_447 : Index := 0#32
  ![0, v1217.toNat, 0, 0]
def k0_off691 (i : grid0.Coords) (k0_t6 : Fin (k0_t6_loop i).trips) : Fin 4 → Nat :=
  let c1_448 : Index := 1#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let v1221 : Index := Scalar.indexCast v275
  let c0_449 : Index := 0#32
  let c0_450 : Index := 0#32
  ![1, v1221.toNat, 0, 0]
def k0_off692 (i : grid0.Coords) (k0_t6 : Fin (k0_t6_loop i).trips) : Fin 4 → Nat :=
  let c2_451 : Index := 2#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let v1225 : Index := Scalar.indexCast v275
  let c0_452 : Index := 0#32
  let c0_453 : Index := 0#32
  ![2, v1225.toNat, 0, 0]
def k0_off693 (i : grid0.Coords) (k0_t6 : Fin (k0_t6_loop i).trips) : Fin 4 → Nat :=
  let c3_454 : Index := 3#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let v1229 : Index := Scalar.indexCast v275
  let c0_455 : Index := 0#32
  let c0_456 : Index := 0#32
  ![3, v1229.toNat, 0, 0]
def k0_off694 (i : grid0.Coords) (k0_t6 : Fin (k0_t6_loop i).trips) : Fin 4 → Nat :=
  let c4_457 : Index := 4#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let v1233 : Index := Scalar.indexCast v275
  let c0_458 : Index := 0#32
  let c0_459 : Index := 0#32
  ![4, v1233.toNat, 0, 0]
def k0_off695 (i : grid0.Coords) (k0_t6 : Fin (k0_t6_loop i).trips) : Fin 4 → Nat :=
  let c5_460 : Index := 5#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let v1237 : Index := Scalar.indexCast v275
  let c0_461 : Index := 0#32
  let c0_462 : Index := 0#32
  ![5, v1237.toNat, 0, 0]
def k0_off696 (i : grid0.Coords) (k0_t6 : Fin (k0_t6_loop i).trips) : Fin 4 → Nat :=
  let c6_463 : Index := 6#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let v1241 : Index := Scalar.indexCast v275
  let c0_464 : Index := 0#32
  let c0_465 : Index := 0#32
  ![6, v1241.toNat, 0, 0]
def k0_off697 (i : grid0.Coords) (k0_t6 : Fin (k0_t6_loop i).trips) : Fin 4 → Nat :=
  let c7_466 : Index := 7#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let v1245 : Index := Scalar.indexCast v275
  let c0_467 : Index := 0#32
  let c0_468 : Index := 0#32
  ![7, v1245.toNat, 0, 0]
def k0_off698 (i : grid0.Coords) (k0_t6 : Fin (k0_t6_loop i).trips) : Fin 4 → Nat :=
  let c8 : Index := 8#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let v1249 : Index := Scalar.indexCast v275
  let c0_469 : Index := 0#32
  let c0_470 : Index := 0#32
  ![8, v1249.toNat, 0, 0]
def k0_off699 (i : grid0.Coords) (k0_t6 : Fin (k0_t6_loop i).trips) : Fin 4 → Nat :=
  let c9 : Index := 9#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let v1253 : Index := Scalar.indexCast v275
  let c0_471 : Index := 0#32
  let c0_472 : Index := 0#32
  ![9, v1253.toNat, 0, 0]
def k0_off700 (i : grid0.Coords) (k0_t6 : Fin (k0_t6_loop i).trips) : Fin 4 → Nat :=
  let c10 : Index := 10#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let v1257 : Index := Scalar.indexCast v275
  let c0_473 : Index := 0#32
  let c0_474 : Index := 0#32
  ![10, v1257.toNat, 0, 0]
def k0_off701 (i : grid0.Coords) (k0_t6 : Fin (k0_t6_loop i).trips) : Fin 4 → Nat :=
  let c11 : Index := 11#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let v1261 : Index := Scalar.indexCast v275
  let c0_475 : Index := 0#32
  let c0_476 : Index := 0#32
  ![11, v1261.toNat, 0, 0]
def k0_off702 (i : grid0.Coords) (k0_t6 : Fin (k0_t6_loop i).trips) : Fin 4 → Nat :=
  let c12 : Index := 12#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let v1265 : Index := Scalar.indexCast v275
  let c0_477 : Index := 0#32
  let c0_478 : Index := 0#32
  ![12, v1265.toNat, 0, 0]
def k0_off703 (i : grid0.Coords) (k0_t6 : Fin (k0_t6_loop i).trips) : Fin 4 → Nat :=
  let c13 : Index := 13#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let v1269 : Index := Scalar.indexCast v275
  let c0_479 : Index := 0#32
  let c0_480 : Index := 0#32
  ![13, v1269.toNat, 0, 0]
def k0_off704 (i : grid0.Coords) (k0_t6 : Fin (k0_t6_loop i).trips) : Fin 4 → Nat :=
  let c14 : Index := 14#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let v1273 : Index := Scalar.indexCast v275
  let c0_481 : Index := 0#32
  let c0_482 : Index := 0#32
  ![14, v1273.toNat, 0, 0]
def k0_off705 (i : grid0.Coords) (k0_t6 : Fin (k0_t6_loop i).trips) : Fin 4 → Nat :=
  let c15 : Index := 15#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let v1277 : Index := Scalar.indexCast v275
  let c0_483 : Index := 0#32
  let c0_484 : Index := 0#32
  ![15, v1277.toNat, 0, 0]
def k0_off706 (i : grid0.Coords) (k0_t6 : Fin (k0_t6_loop i).trips) : Fin 4 → Nat :=
  let c16 : Index := 16#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let v1281 : Index := Scalar.indexCast v275
  let c0_485 : Index := 0#32
  let c0_486 : Index := 0#32
  ![16, v1281.toNat, 0, 0]
def k0_off707 (i : grid0.Coords) (k0_t6 : Fin (k0_t6_loop i).trips) : Fin 4 → Nat :=
  let c17 : Index := 17#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let v1285 : Index := Scalar.indexCast v275
  let c0_487 : Index := 0#32
  let c0_488 : Index := 0#32
  ![17, v1285.toNat, 0, 0]
def k0_off708 (i : grid0.Coords) (k0_t6 : Fin (k0_t6_loop i).trips) : Fin 4 → Nat :=
  let c18 : Index := 18#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let v1289 : Index := Scalar.indexCast v275
  let c0_489 : Index := 0#32
  let c0_490 : Index := 0#32
  ![18, v1289.toNat, 0, 0]
def k0_off709 (i : grid0.Coords) (k0_t6 : Fin (k0_t6_loop i).trips) : Fin 4 → Nat :=
  let c19 : Index := 19#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let v1293 : Index := Scalar.indexCast v275
  let c0_491 : Index := 0#32
  let c0_492 : Index := 0#32
  ![19, v1293.toNat, 0, 0]
def k0_off710 (i : grid0.Coords) (k0_t6 : Fin (k0_t6_loop i).trips) : Fin 4 → Nat :=
  let c20 : Index := 20#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let v1297 : Index := Scalar.indexCast v275
  let c0_493 : Index := 0#32
  let c0_494 : Index := 0#32
  ![20, v1297.toNat, 0, 0]
def k0_off711 (i : grid0.Coords) (k0_t6 : Fin (k0_t6_loop i).trips) : Fin 4 → Nat :=
  let c21 : Index := 21#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let v1301 : Index := Scalar.indexCast v275
  let c0_495 : Index := 0#32
  let c0_496 : Index := 0#32
  ![21, v1301.toNat, 0, 0]
def k0_off712 (i : grid0.Coords) (k0_t6 : Fin (k0_t6_loop i).trips) : Fin 4 → Nat :=
  let c22 : Index := 22#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let v1305 : Index := Scalar.indexCast v275
  let c0_497 : Index := 0#32
  let c0_498 : Index := 0#32
  ![22, v1305.toNat, 0, 0]
def k0_off713 (i : grid0.Coords) (k0_t6 : Fin (k0_t6_loop i).trips) : Fin 4 → Nat :=
  let c23 : Index := 23#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let v1309 : Index := Scalar.indexCast v275
  let c0_499 : Index := 0#32
  let c0_500 : Index := 0#32
  ![23, v1309.toNat, 0, 0]
def k0_off714 (i : grid0.Coords) (k0_t6 : Fin (k0_t6_loop i).trips) : Fin 4 → Nat :=
  let c24 : Index := 24#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let v1313 : Index := Scalar.indexCast v275
  let c0_501 : Index := 0#32
  let c0_502 : Index := 0#32
  ![24, v1313.toNat, 0, 0]
def k0_off715 (i : grid0.Coords) (k0_t6 : Fin (k0_t6_loop i).trips) : Fin 4 → Nat :=
  let c25 : Index := 25#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let v1317 : Index := Scalar.indexCast v275
  let c0_503 : Index := 0#32
  let c0_504 : Index := 0#32
  ![25, v1317.toNat, 0, 0]
def k0_off716 (i : grid0.Coords) (k0_t6 : Fin (k0_t6_loop i).trips) : Fin 4 → Nat :=
  let c26 : Index := 26#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let v1321 : Index := Scalar.indexCast v275
  let c0_505 : Index := 0#32
  let c0_506 : Index := 0#32
  ![26, v1321.toNat, 0, 0]
def k0_off717 (i : grid0.Coords) (k0_t6 : Fin (k0_t6_loop i).trips) : Fin 4 → Nat :=
  let c27 : Index := 27#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let v1325 : Index := Scalar.indexCast v275
  let c0_507 : Index := 0#32
  let c0_508 : Index := 0#32
  ![27, v1325.toNat, 0, 0]
def k0_off718 (i : grid0.Coords) (k0_t6 : Fin (k0_t6_loop i).trips) : Fin 4 → Nat :=
  let c28 : Index := 28#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let v1329 : Index := Scalar.indexCast v275
  let c0_509 : Index := 0#32
  let c0_510 : Index := 0#32
  ![28, v1329.toNat, 0, 0]
def k0_off719 (i : grid0.Coords) (k0_t6 : Fin (k0_t6_loop i).trips) : Fin 4 → Nat :=
  let c29 : Index := 29#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let v1333 : Index := Scalar.indexCast v275
  let c0_511 : Index := 0#32
  let c0_512 : Index := 0#32
  ![29, v1333.toNat, 0, 0]
def k0_off720 (i : grid0.Coords) (k0_t6 : Fin (k0_t6_loop i).trips) : Fin 4 → Nat :=
  let c30 : Index := 30#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let v1337 : Index := Scalar.indexCast v275
  let c0_513 : Index := 0#32
  let c0_514 : Index := 0#32
  ![30, v1337.toNat, 0, 0]
def k0_off721 (i : grid0.Coords) (k0_t6 : Fin (k0_t6_loop i).trips) : Fin 4 → Nat :=
  let c31 : Index := 31#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let v1341 : Index := Scalar.indexCast v275
  let c0_515 : Index := 0#32
  let c0_516 : Index := 0#32
  ![31, v1341.toNat, 0, 0]
def k0_mult130 (i : grid0.Coords) (k0_t6 : Fin (k0_t6_loop i).trips) : BitVec 32 :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c2_i32_517 : BitVec 32 := 2#32
  let v1345 : BitVec 32 := Scalar.addi v275 c2_i32_517
  let c1_i32_35 : BitVec 32 := 1#32
  let v72 : BitVec 32 := Scalar.subi v71 c1_i32_35
  let v1346 : BitVec 32 := Scalar.minsi v1345 v72
  let c256_i32_518 : BitVec 32 := 256#32
  let v1347 : BitVec 32 := Scalar.muli v1346 c256_i32_518
  v1347
def k0_mult131 (i : grid0.Coords) (k0_t6 : Fin (k0_t6_loop i).trips) : BitVec 32 :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_525 : BitVec 32 := 1#32
  let v1359 : BitVec 32 := Scalar.addi v275 c1_i32_525
  let c1_i32_35 : BitVec 32 := 1#32
  let v72 : BitVec 32 := Scalar.subi v71 c1_i32_35
  let v1360 : BitVec 32 := Scalar.minsi v1359 v72
  let c256_i32_526 : BitVec 32 := 256#32
  let v1361 : BitVec 32 := Scalar.muli v1360 c256_i32_526
  v1361
def k0_mult132 (i : grid0.Coords) (k0_t6 : Fin (k0_t6_loop i).trips) : BitVec 32 :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_525 : BitVec 32 := 1#32
  let v1359 : BitVec 32 := Scalar.addi v275 c1_i32_525
  let c1_i32_35 : BitVec 32 := 1#32
  let v72 : BitVec 32 := Scalar.subi v71 c1_i32_35
  let v1360 : BitVec 32 := Scalar.minsi v1359 v72
  let c256_i32_526 : BitVec 32 := 256#32
  let v1361 : BitVec 32 := Scalar.muli v1360 c256_i32_526
  let v1362 : BitVec 32 := v1361
  let c0_i32_527 : BitVec 32 := 0#32
  let v1366 : BitVec 32 := Scalar.addi v1362 c0_i32_527
  v1366
def k0_off722 (i : grid0.Coords) (k0_t6 : Fin (k0_t6_loop i).trips) (c0_i32_527 : BitVec 32) : Fin 2 → Nat :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_525 : BitVec 32 := 1#32
  let v1359 : BitVec 32 := Scalar.addi v275 c1_i32_525
  let c1_i32_35 : BitVec 32 := 1#32
  let v72 : BitVec 32 := Scalar.subi v71 c1_i32_35
  let v1360 : BitVec 32 := Scalar.minsi v1359 v72
  let c256_i32_526 : BitVec 32 := 256#32
  let v1361 : BitVec 32 := Scalar.muli v1360 c256_i32_526
  let v1362 : BitVec 32 := v1361
  let v1366 : BitVec 32 := Scalar.addi v1362 c0_i32_527
  let v1367 : BitVec 32 := v1366
  let v1368 : Index := Scalar.indexCast v1367
  let c0_528 : Index := 0#32
  ![v1368.toNat, 0]
def k0_off723 (i : grid0.Coords) (k0_t6 : Fin (k0_t6_loop i).trips) (c0_i32_532 : BitVec 32) : Fin 3 → Nat :=
  let c2_i32_534 : BitVec 32 := 2#32
  let c0_i32_533 : BitVec 32 := 0#32
  let arg1 : BitVec 32 := BitVec.ofNat 32 (i 1).val
  let c2_i32_143 : BitVec 32 := 2#32
  let c2_i32_65 : BitVec 32 := 2#32
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_525 : BitVec 32 := 1#32
  let v1359 : BitVec 32 := Scalar.addi v275 c1_i32_525
  let c1_i32_35 : BitVec 32 := 1#32
  let v72 : BitVec 32 := Scalar.subi v71 c1_i32_35
  let v1360 : BitVec 32 := Scalar.minsi v1359 v72
  let c2_i32_531 : BitVec 32 := 2#32
  let v1377 : BitVec 32 := Scalar.muli v1360 c2_i32_531
  let v1378 : BitVec 32 := Scalar.addi v1377 c0_i32_532
  let v1379 : BitVec 32 := Scalar.subi arg1 v1378
  let v1380 : BitVec 32 := Scalar.maxsi c0_i32_533 v1379
  let v1381 : BitVec 32 := Scalar.minsi c2_i32_534 v1380
  let v1382 : Index := Scalar.indexCast v1381
  let c0_535 : Index := 0#32
  let c0_536 : Index := 0#32
  ![v1382.toNat, 0, 0]
def k0_mult133 (i : grid0.Coords) (k0_t6 : Fin (k0_t6_loop i).trips) : BitVec 32 :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_525 : BitVec 32 := 1#32
  let v1359 : BitVec 32 := Scalar.addi v275 c1_i32_525
  let c1_i32_35 : BitVec 32 := 1#32
  let v72 : BitVec 32 := Scalar.subi v71 c1_i32_35
  let v1360 : BitVec 32 := Scalar.minsi v1359 v72
  let c256_i32_526 : BitVec 32 := 256#32
  let v1361 : BitVec 32 := Scalar.muli v1360 c256_i32_526
  let v1362 : BitVec 32 := v1361
  let c128_i32_539 : BitVec 32 := 128#32
  let v1388 : BitVec 32 := Scalar.addi v1362 c128_i32_539
  v1388
def k0_off724 (i : grid0.Coords) (k0_t6 : Fin (k0_t6_loop i).trips) : Fin 2 → Nat :=
  let c0_553 : Index := 0#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_525 : BitVec 32 := 1#32
  let v1359 : BitVec 32 := Scalar.addi v275 c1_i32_525
  let c1_i32_35 : BitVec 32 := 1#32
  let v72 : BitVec 32 := Scalar.subi v71 c1_i32_35
  let v1360 : BitVec 32 := Scalar.minsi v1359 v72
  let c256_i32_526 : BitVec 32 := 256#32
  let v1361 : BitVec 32 := Scalar.muli v1360 c256_i32_526
  let v1362 : BitVec 32 := v1361
  let v1423 : Index := Scalar.indexCast v1362
  ![0, v1423.toNat]
def k0_mult134 (i : grid0.Coords) (k0_t6 : Fin (k0_t6_loop i).trips) : BitVec 32 :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_559 : BitVec 32 := 1#32
  let v1433 : BitVec 32 := Scalar.addi v275 c1_i32_559
  let c256_i32_568 : BitVec 32 := 256#32
  let v1448 : BitVec 32 := Scalar.muli v1433 c256_i32_568
  v1448
def k0_off725 (i : grid0.Coords) (k0_t6 : Fin (k0_t6_loop i).trips) : Fin 2 → Nat :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_559 : BitVec 32 := 1#32
  let v1433 : BitVec 32 := Scalar.addi v275 c1_i32_559
  let c256_i32_568 : BitVec 32 := 256#32
  let v1448 : BitVec 32 := Scalar.muli v1433 c256_i32_568
  let v1449 : BitVec 32 := v1448
  let v1450 : Index := Scalar.indexCast v1449
  let c0_569 : Index := 0#32
  ![v1450.toNat, 0]
def k0_mult135 (i : grid0.Coords) (k0_t6 : Fin (k0_t6_loop i).trips) : BitVec 32 :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_559 : BitVec 32 := 1#32
  let v1433 : BitVec 32 := Scalar.addi v275 c1_i32_559
  let c256_i32_573 : BitVec 32 := 256#32
  let v1456 : BitVec 32 := Scalar.muli v1433 c256_i32_573
  let c0_i32_574 : BitVec 32 := 0#32
  let v1457 : BitVec 32 := Scalar.addi v1456 c0_i32_574
  v1457
def k0_off726 (i : grid0.Coords) (k0_t6 : Fin (k0_t6_loop i).trips) (c0_i32_574 : BitVec 32) : Fin 2 → Nat :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_559 : BitVec 32 := 1#32
  let v1433 : BitVec 32 := Scalar.addi v275 c1_i32_559
  let c256_i32_573 : BitVec 32 := 256#32
  let v1456 : BitVec 32 := Scalar.muli v1433 c256_i32_573
  let v1457 : BitVec 32 := Scalar.addi v1456 c0_i32_574
  let v1458 : BitVec 32 := v1457
  let v1490 : Index := Scalar.indexCast v1458
  let c0_579 : Index := 0#32
  ![v1490.toNat, 0]
def k0_mult136 (i : grid0.Coords) (k0_t6 : Fin (k0_t6_loop i).trips) : BitVec 32 :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_559 : BitVec 32 := 1#32
  let v1433 : BitVec 32 := Scalar.addi v275 c1_i32_559
  let c256_i32_581 : BitVec 32 := 256#32
  let v1512 : BitVec 32 := Scalar.muli v1433 c256_i32_581
  let c128_i32_582 : BitVec 32 := 128#32
  let v1513 : BitVec 32 := Scalar.addi v1512 c128_i32_582
  v1513
def k0_off727 (i : grid0.Coords) (k0_t6 : Fin (k0_t6_loop i).trips) : Fin 4 → Nat :=
  let c0_829 : Index := 0#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_559 : BitVec 32 := 1#32
  let v1433 : BitVec 32 := Scalar.addi v275 c1_i32_559
  let v2288 : Index := Scalar.indexCast v1433
  let c0_830 : Index := 0#32
  let c0_831 : Index := 0#32
  ![0, v2288.toNat, 0, 0]
def k0_off728 (i : grid0.Coords) (k0_t6 : Fin (k0_t6_loop i).trips) : Fin 4 → Nat :=
  let c1_832 : Index := 1#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_559 : BitVec 32 := 1#32
  let v1433 : BitVec 32 := Scalar.addi v275 c1_i32_559
  let v2292 : Index := Scalar.indexCast v1433
  let c0_833 : Index := 0#32
  let c0_834 : Index := 0#32
  ![1, v2292.toNat, 0, 0]
def k0_off729 (i : grid0.Coords) (k0_t6 : Fin (k0_t6_loop i).trips) : Fin 4 → Nat :=
  let c2_835 : Index := 2#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_559 : BitVec 32 := 1#32
  let v1433 : BitVec 32 := Scalar.addi v275 c1_i32_559
  let v2296 : Index := Scalar.indexCast v1433
  let c0_836 : Index := 0#32
  let c0_837 : Index := 0#32
  ![2, v2296.toNat, 0, 0]
def k0_off730 (i : grid0.Coords) (k0_t6 : Fin (k0_t6_loop i).trips) : Fin 4 → Nat :=
  let c3_838 : Index := 3#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_559 : BitVec 32 := 1#32
  let v1433 : BitVec 32 := Scalar.addi v275 c1_i32_559
  let v2300 : Index := Scalar.indexCast v1433
  let c0_839 : Index := 0#32
  let c0_840 : Index := 0#32
  ![3, v2300.toNat, 0, 0]
def k0_off731 (i : grid0.Coords) (k0_t6 : Fin (k0_t6_loop i).trips) : Fin 4 → Nat :=
  let c4_841 : Index := 4#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_559 : BitVec 32 := 1#32
  let v1433 : BitVec 32 := Scalar.addi v275 c1_i32_559
  let v2304 : Index := Scalar.indexCast v1433
  let c0_842 : Index := 0#32
  let c0_843 : Index := 0#32
  ![4, v2304.toNat, 0, 0]
def k0_off732 (i : grid0.Coords) (k0_t6 : Fin (k0_t6_loop i).trips) : Fin 4 → Nat :=
  let c5_844 : Index := 5#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_559 : BitVec 32 := 1#32
  let v1433 : BitVec 32 := Scalar.addi v275 c1_i32_559
  let v2308 : Index := Scalar.indexCast v1433
  let c0_845 : Index := 0#32
  let c0_846 : Index := 0#32
  ![5, v2308.toNat, 0, 0]
def k0_off733 (i : grid0.Coords) (k0_t6 : Fin (k0_t6_loop i).trips) : Fin 4 → Nat :=
  let c6_847 : Index := 6#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_559 : BitVec 32 := 1#32
  let v1433 : BitVec 32 := Scalar.addi v275 c1_i32_559
  let v2312 : Index := Scalar.indexCast v1433
  let c0_848 : Index := 0#32
  let c0_849 : Index := 0#32
  ![6, v2312.toNat, 0, 0]
def k0_off734 (i : grid0.Coords) (k0_t6 : Fin (k0_t6_loop i).trips) : Fin 4 → Nat :=
  let c7_850 : Index := 7#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_559 : BitVec 32 := 1#32
  let v1433 : BitVec 32 := Scalar.addi v275 c1_i32_559
  let v2316 : Index := Scalar.indexCast v1433
  let c0_851 : Index := 0#32
  let c0_852 : Index := 0#32
  ![7, v2316.toNat, 0, 0]
def k0_off735 (i : grid0.Coords) (k0_t6 : Fin (k0_t6_loop i).trips) : Fin 4 → Nat :=
  let c8_853 : Index := 8#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_559 : BitVec 32 := 1#32
  let v1433 : BitVec 32 := Scalar.addi v275 c1_i32_559
  let v2320 : Index := Scalar.indexCast v1433
  let c0_854 : Index := 0#32
  let c0_855 : Index := 0#32
  ![8, v2320.toNat, 0, 0]
def k0_off736 (i : grid0.Coords) (k0_t6 : Fin (k0_t6_loop i).trips) : Fin 4 → Nat :=
  let c9_856 : Index := 9#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_559 : BitVec 32 := 1#32
  let v1433 : BitVec 32 := Scalar.addi v275 c1_i32_559
  let v2324 : Index := Scalar.indexCast v1433
  let c0_857 : Index := 0#32
  let c0_858 : Index := 0#32
  ![9, v2324.toNat, 0, 0]
def k0_off737 (i : grid0.Coords) (k0_t6 : Fin (k0_t6_loop i).trips) : Fin 4 → Nat :=
  let c10_859 : Index := 10#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_559 : BitVec 32 := 1#32
  let v1433 : BitVec 32 := Scalar.addi v275 c1_i32_559
  let v2328 : Index := Scalar.indexCast v1433
  let c0_860 : Index := 0#32
  let c0_861 : Index := 0#32
  ![10, v2328.toNat, 0, 0]
def k0_off738 (i : grid0.Coords) (k0_t6 : Fin (k0_t6_loop i).trips) : Fin 4 → Nat :=
  let c11_862 : Index := 11#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_559 : BitVec 32 := 1#32
  let v1433 : BitVec 32 := Scalar.addi v275 c1_i32_559
  let v2332 : Index := Scalar.indexCast v1433
  let c0_863 : Index := 0#32
  let c0_864 : Index := 0#32
  ![11, v2332.toNat, 0, 0]
def k0_off739 (i : grid0.Coords) (k0_t6 : Fin (k0_t6_loop i).trips) : Fin 4 → Nat :=
  let c12_865 : Index := 12#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_559 : BitVec 32 := 1#32
  let v1433 : BitVec 32 := Scalar.addi v275 c1_i32_559
  let v2336 : Index := Scalar.indexCast v1433
  let c0_866 : Index := 0#32
  let c0_867 : Index := 0#32
  ![12, v2336.toNat, 0, 0]
def k0_off740 (i : grid0.Coords) (k0_t6 : Fin (k0_t6_loop i).trips) : Fin 4 → Nat :=
  let c13_868 : Index := 13#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_559 : BitVec 32 := 1#32
  let v1433 : BitVec 32 := Scalar.addi v275 c1_i32_559
  let v2340 : Index := Scalar.indexCast v1433
  let c0_869 : Index := 0#32
  let c0_870 : Index := 0#32
  ![13, v2340.toNat, 0, 0]
def k0_off741 (i : grid0.Coords) (k0_t6 : Fin (k0_t6_loop i).trips) : Fin 4 → Nat :=
  let c14_871 : Index := 14#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_559 : BitVec 32 := 1#32
  let v1433 : BitVec 32 := Scalar.addi v275 c1_i32_559
  let v2344 : Index := Scalar.indexCast v1433
  let c0_872 : Index := 0#32
  let c0_873 : Index := 0#32
  ![14, v2344.toNat, 0, 0]
def k0_off742 (i : grid0.Coords) (k0_t6 : Fin (k0_t6_loop i).trips) : Fin 4 → Nat :=
  let c15_874 : Index := 15#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_559 : BitVec 32 := 1#32
  let v1433 : BitVec 32 := Scalar.addi v275 c1_i32_559
  let v2348 : Index := Scalar.indexCast v1433
  let c0_875 : Index := 0#32
  let c0_876 : Index := 0#32
  ![15, v2348.toNat, 0, 0]
def k0_off743 (i : grid0.Coords) (k0_t6 : Fin (k0_t6_loop i).trips) : Fin 4 → Nat :=
  let c16_877 : Index := 16#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_559 : BitVec 32 := 1#32
  let v1433 : BitVec 32 := Scalar.addi v275 c1_i32_559
  let v2352 : Index := Scalar.indexCast v1433
  let c0_878 : Index := 0#32
  let c0_879 : Index := 0#32
  ![16, v2352.toNat, 0, 0]
def k0_off744 (i : grid0.Coords) (k0_t6 : Fin (k0_t6_loop i).trips) : Fin 4 → Nat :=
  let c17_880 : Index := 17#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_559 : BitVec 32 := 1#32
  let v1433 : BitVec 32 := Scalar.addi v275 c1_i32_559
  let v2356 : Index := Scalar.indexCast v1433
  let c0_881 : Index := 0#32
  let c0_882 : Index := 0#32
  ![17, v2356.toNat, 0, 0]
def k0_off745 (i : grid0.Coords) (k0_t6 : Fin (k0_t6_loop i).trips) : Fin 4 → Nat :=
  let c18_883 : Index := 18#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_559 : BitVec 32 := 1#32
  let v1433 : BitVec 32 := Scalar.addi v275 c1_i32_559
  let v2360 : Index := Scalar.indexCast v1433
  let c0_884 : Index := 0#32
  let c0_885 : Index := 0#32
  ![18, v2360.toNat, 0, 0]
def k0_off746 (i : grid0.Coords) (k0_t6 : Fin (k0_t6_loop i).trips) : Fin 4 → Nat :=
  let c19_886 : Index := 19#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_559 : BitVec 32 := 1#32
  let v1433 : BitVec 32 := Scalar.addi v275 c1_i32_559
  let v2364 : Index := Scalar.indexCast v1433
  let c0_887 : Index := 0#32
  let c0_888 : Index := 0#32
  ![19, v2364.toNat, 0, 0]
def k0_off747 (i : grid0.Coords) (k0_t6 : Fin (k0_t6_loop i).trips) : Fin 4 → Nat :=
  let c20_889 : Index := 20#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_559 : BitVec 32 := 1#32
  let v1433 : BitVec 32 := Scalar.addi v275 c1_i32_559
  let v2368 : Index := Scalar.indexCast v1433
  let c0_890 : Index := 0#32
  let c0_891 : Index := 0#32
  ![20, v2368.toNat, 0, 0]
def k0_off748 (i : grid0.Coords) (k0_t6 : Fin (k0_t6_loop i).trips) : Fin 4 → Nat :=
  let c21_892 : Index := 21#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_559 : BitVec 32 := 1#32
  let v1433 : BitVec 32 := Scalar.addi v275 c1_i32_559
  let v2372 : Index := Scalar.indexCast v1433
  let c0_893 : Index := 0#32
  let c0_894 : Index := 0#32
  ![21, v2372.toNat, 0, 0]
def k0_off749 (i : grid0.Coords) (k0_t6 : Fin (k0_t6_loop i).trips) : Fin 4 → Nat :=
  let c22_895 : Index := 22#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_559 : BitVec 32 := 1#32
  let v1433 : BitVec 32 := Scalar.addi v275 c1_i32_559
  let v2376 : Index := Scalar.indexCast v1433
  let c0_896 : Index := 0#32
  let c0_897 : Index := 0#32
  ![22, v2376.toNat, 0, 0]
def k0_off750 (i : grid0.Coords) (k0_t6 : Fin (k0_t6_loop i).trips) : Fin 4 → Nat :=
  let c23_898 : Index := 23#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_559 : BitVec 32 := 1#32
  let v1433 : BitVec 32 := Scalar.addi v275 c1_i32_559
  let v2380 : Index := Scalar.indexCast v1433
  let c0_899 : Index := 0#32
  let c0_900 : Index := 0#32
  ![23, v2380.toNat, 0, 0]
def k0_off751 (i : grid0.Coords) (k0_t6 : Fin (k0_t6_loop i).trips) : Fin 4 → Nat :=
  let c24_901 : Index := 24#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_559 : BitVec 32 := 1#32
  let v1433 : BitVec 32 := Scalar.addi v275 c1_i32_559
  let v2384 : Index := Scalar.indexCast v1433
  let c0_902 : Index := 0#32
  let c0_903 : Index := 0#32
  ![24, v2384.toNat, 0, 0]
def k0_off752 (i : grid0.Coords) (k0_t6 : Fin (k0_t6_loop i).trips) : Fin 4 → Nat :=
  let c25_904 : Index := 25#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_559 : BitVec 32 := 1#32
  let v1433 : BitVec 32 := Scalar.addi v275 c1_i32_559
  let v2388 : Index := Scalar.indexCast v1433
  let c0_905 : Index := 0#32
  let c0_906 : Index := 0#32
  ![25, v2388.toNat, 0, 0]
def k0_off753 (i : grid0.Coords) (k0_t6 : Fin (k0_t6_loop i).trips) : Fin 4 → Nat :=
  let c26_907 : Index := 26#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_559 : BitVec 32 := 1#32
  let v1433 : BitVec 32 := Scalar.addi v275 c1_i32_559
  let v2392 : Index := Scalar.indexCast v1433
  let c0_908 : Index := 0#32
  let c0_909 : Index := 0#32
  ![26, v2392.toNat, 0, 0]
def k0_off754 (i : grid0.Coords) (k0_t6 : Fin (k0_t6_loop i).trips) : Fin 4 → Nat :=
  let c27_910 : Index := 27#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_559 : BitVec 32 := 1#32
  let v1433 : BitVec 32 := Scalar.addi v275 c1_i32_559
  let v2396 : Index := Scalar.indexCast v1433
  let c0_911 : Index := 0#32
  let c0_912 : Index := 0#32
  ![27, v2396.toNat, 0, 0]
def k0_off755 (i : grid0.Coords) (k0_t6 : Fin (k0_t6_loop i).trips) : Fin 4 → Nat :=
  let c28_913 : Index := 28#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_559 : BitVec 32 := 1#32
  let v1433 : BitVec 32 := Scalar.addi v275 c1_i32_559
  let v2400 : Index := Scalar.indexCast v1433
  let c0_914 : Index := 0#32
  let c0_915 : Index := 0#32
  ![28, v2400.toNat, 0, 0]
def k0_off756 (i : grid0.Coords) (k0_t6 : Fin (k0_t6_loop i).trips) : Fin 4 → Nat :=
  let c29_916 : Index := 29#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_559 : BitVec 32 := 1#32
  let v1433 : BitVec 32 := Scalar.addi v275 c1_i32_559
  let v2404 : Index := Scalar.indexCast v1433
  let c0_917 : Index := 0#32
  let c0_918 : Index := 0#32
  ![29, v2404.toNat, 0, 0]
def k0_off757 (i : grid0.Coords) (k0_t6 : Fin (k0_t6_loop i).trips) : Fin 4 → Nat :=
  let c30_919 : Index := 30#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_559 : BitVec 32 := 1#32
  let v1433 : BitVec 32 := Scalar.addi v275 c1_i32_559
  let v2408 : Index := Scalar.indexCast v1433
  let c0_920 : Index := 0#32
  let c0_921 : Index := 0#32
  ![30, v2408.toNat, 0, 0]
def k0_off758 (i : grid0.Coords) (k0_t6 : Fin (k0_t6_loop i).trips) : Fin 4 → Nat :=
  let c31_922 : Index := 31#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t6
  let v275 : BitVec 32 := Scalar.muli c2_i32_143 arg24
  let c1_i32_559 : BitVec 32 := 1#32
  let v1433 : BitVec 32 := Scalar.addi v275 c1_i32_559
  let v2412 : Index := Scalar.indexCast v1433
  let c0_923 : Index := 0#32
  let c0_924 : Index := 0#32
  ![31, v2412.toNat, 0, 0]
@[reducible] def k0_t7_loop (i : grid0.Coords) : Scf.Loop 32 :=
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let v224 : BitVec 32 := Scalar.addi v222 v223
  let c1_i32_118 : BitVec 32 := 1#32
  ⟨v227, v224, c1_i32_118⟩
def k0_mult137 (i : grid0.Coords) (k0_t7 : Fin (k0_t7_loop i).trips) : BitVec 32 :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_144 : BitVec 32 := 1#32
  let v276 : BitVec 32 := Scalar.addi v275 c1_i32_144
  let c1_i32_35 : BitVec 32 := 1#32
  let v72 : BitVec 32 := Scalar.subi v71 c1_i32_35
  let v277 : BitVec 32 := Scalar.minsi v276 v72
  let c256_i32_145 : BitVec 32 := 256#32
  let v278 : BitVec 32 := Scalar.muli v277 c256_i32_145
  v278
def k0_off759 (i : grid0.Coords) (k0_t7 : Fin (k0_t7_loop i).trips) (c1_i32_144 : BitVec 32) : Fin 2 → Nat :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let v276 : BitVec 32 := Scalar.addi v275 c1_i32_144
  let c1_i32_35 : BitVec 32 := 1#32
  let v72 : BitVec 32 := Scalar.subi v71 c1_i32_35
  let v277 : BitVec 32 := Scalar.minsi v276 v72
  let c256_i32_145 : BitVec 32 := 256#32
  let v278 : BitVec 32 := Scalar.muli v277 c256_i32_145
  let v279 : BitVec 32 := v278
  let v280 : Index := Scalar.indexCast v279
  let c0_146 : Index := 0#32
  ![v280.toNat, 0]
def k0_off760 (i : grid0.Coords) : Fin 3 → Nat :=
  let arg1 : BitVec 32 := BitVec.ofNat 32 (i 1).val
  let c8_i32 : BitVec 32 := 8#32
  let c0_i32_36 : BitVec 32 := 0#32
  let v73 : BitVec 1 := Scalar.cmpi .eq c8_i32 c0_i32_36
  let c1_i32_37 : BitVec 32 := 1#32
  let v74 : BitVec 32 := Scalar.select v73 c1_i32_37 c8_i32
  let v75 : BitVec 32 := Scalar.remsi arg1 v74
  let c0_i32_39 : BitVec 32 := 0#32
  let v77 : BitVec 1 := Scalar.cmpi .slt v75 c0_i32_39
  let c0_i32_40 : BitVec 32 := 0#32
  let v78 : BitVec 1 := Scalar.cmpi .slt v74 c0_i32_40
  let v79 : BitVec 1 := Scalar.xori v77 v78
  let c0_i32_38 : BitVec 32 := 0#32
  let v76 : BitVec 1 := Scalar.cmpi .ne v75 c0_i32_38
  let v80 : BitVec 1 := Scalar.andi v79 v76
  let v81 : BitVec 32 := Scalar.addi v75 v74
  let v82 : BitVec 32 := Scalar.select v80 v81 v75
  let v282 : Index := Scalar.indexCast v82
  let c0_147 : Index := 0#32
  let c0_148 : Index := 0#32
  ![v282.toNat, 0, 0]
def k0_mult138 (i : grid0.Coords) (k0_t7 : Fin (k0_t7_loop i).trips) : BitVec 32 :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_35 : BitVec 32 := 1#32
  let v72 : BitVec 32 := Scalar.subi v71 c1_i32_35
  let v290 : BitVec 32 := Scalar.minsi v275 v72
  let c256_i32_152 : BitVec 32 := 256#32
  let v291 : BitVec 32 := Scalar.muli v290 c256_i32_152
  v291
def k0_mult139 (i : grid0.Coords) (k0_t7 : Fin (k0_t7_loop i).trips) : BitVec 32 :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_35 : BitVec 32 := 1#32
  let v72 : BitVec 32 := Scalar.subi v71 c1_i32_35
  let v290 : BitVec 32 := Scalar.minsi v275 v72
  let c256_i32_152 : BitVec 32 := 256#32
  let v291 : BitVec 32 := Scalar.muli v290 c256_i32_152
  let v292 : BitVec 32 := v291
  let c0_i32_153 : BitVec 32 := 0#32
  let v296 : BitVec 32 := Scalar.addi v292 c0_i32_153
  v296
def k0_off761 (i : grid0.Coords) (k0_t7 : Fin (k0_t7_loop i).trips) (c0_i32_153 : BitVec 32) : Fin 2 → Nat :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_35 : BitVec 32 := 1#32
  let v72 : BitVec 32 := Scalar.subi v71 c1_i32_35
  let v290 : BitVec 32 := Scalar.minsi v275 v72
  let c256_i32_152 : BitVec 32 := 256#32
  let v291 : BitVec 32 := Scalar.muli v290 c256_i32_152
  let v292 : BitVec 32 := v291
  let v296 : BitVec 32 := Scalar.addi v292 c0_i32_153
  let v297 : BitVec 32 := v296
  let v298 : Index := Scalar.indexCast v297
  let c0_154 : Index := 0#32
  ![v298.toNat, 0]
def k0_off762 (i : grid0.Coords) (k0_t7 : Fin (k0_t7_loop i).trips) (c0_i32_158 : BitVec 32) : Fin 3 → Nat :=
  let c2_i32_160 : BitVec 32 := 2#32
  let c0_i32_159 : BitVec 32 := 0#32
  let arg1 : BitVec 32 := BitVec.ofNat 32 (i 1).val
  let c2_i32_143 : BitVec 32 := 2#32
  let c2_i32_65 : BitVec 32 := 2#32
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_35 : BitVec 32 := 1#32
  let v72 : BitVec 32 := Scalar.subi v71 c1_i32_35
  let v290 : BitVec 32 := Scalar.minsi v275 v72
  let c2_i32_157 : BitVec 32 := 2#32
  let v307 : BitVec 32 := Scalar.muli v290 c2_i32_157
  let v308 : BitVec 32 := Scalar.addi v307 c0_i32_158
  let v309 : BitVec 32 := Scalar.subi arg1 v308
  let v310 : BitVec 32 := Scalar.maxsi c0_i32_159 v309
  let v311 : BitVec 32 := Scalar.minsi c2_i32_160 v310
  let v312 : Index := Scalar.indexCast v311
  let c0_161 : Index := 0#32
  let c0_162 : Index := 0#32
  ![v312.toNat, 0, 0]
def k0_mult140 (i : grid0.Coords) (k0_t7 : Fin (k0_t7_loop i).trips) : BitVec 32 :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_35 : BitVec 32 := 1#32
  let v72 : BitVec 32 := Scalar.subi v71 c1_i32_35
  let v290 : BitVec 32 := Scalar.minsi v275 v72
  let c256_i32_152 : BitVec 32 := 256#32
  let v291 : BitVec 32 := Scalar.muli v290 c256_i32_152
  let v292 : BitVec 32 := v291
  let c128_i32_165 : BitVec 32 := 128#32
  let v318 : BitVec 32 := Scalar.addi v292 c128_i32_165
  v318
def k0_off763 (i : grid0.Coords) (k0_t7 : Fin (k0_t7_loop i).trips) : Fin 2 → Nat :=
  let c0_178 : Index := 0#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_35 : BitVec 32 := 1#32
  let v72 : BitVec 32 := Scalar.subi v71 c1_i32_35
  let v290 : BitVec 32 := Scalar.minsi v275 v72
  let c256_i32_152 : BitVec 32 := 256#32
  let v291 : BitVec 32 := Scalar.muli v290 c256_i32_152
  let v292 : BitVec 32 := v291
  let v353 : Index := Scalar.indexCast v292
  ![0, v353.toNat]
def k0_mult141 (i : grid0.Coords) (k0_t7 : Fin (k0_t7_loop i).trips) : BitVec 32 :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c256_i32_192 : BitVec 32 := 256#32
  let v377 : BitVec 32 := Scalar.muli v275 c256_i32_192
  v377
def k0_off764 (i : grid0.Coords) (k0_t7 : Fin (k0_t7_loop i).trips) : Fin 2 → Nat :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c256_i32_192 : BitVec 32 := 256#32
  let v377 : BitVec 32 := Scalar.muli v275 c256_i32_192
  let v378 : BitVec 32 := v377
  let v379 : Index := Scalar.indexCast v378
  let c0_193 : Index := 0#32
  ![v379.toNat, 0]
def k0_off765 (i : grid0.Coords) : Fin 3 → Nat :=
  let arg1 : BitVec 32 := BitVec.ofNat 32 (i 1).val
  let c1_i32_184 : BitVec 32 := 1#32
  let v363 : BitVec 32 := Scalar.addi arg1 c1_i32_184
  let c8_i32_185 : BitVec 32 := 8#32
  let c0_i32_186 : BitVec 32 := 0#32
  let v364 : BitVec 1 := Scalar.cmpi .eq c8_i32_185 c0_i32_186
  let c1_i32_187 : BitVec 32 := 1#32
  let v365 : BitVec 32 := Scalar.select v364 c1_i32_187 c8_i32_185
  let v366 : BitVec 32 := Scalar.remsi v363 v365
  let c0_i32_189 : BitVec 32 := 0#32
  let v368 : BitVec 1 := Scalar.cmpi .slt v366 c0_i32_189
  let c0_i32_190 : BitVec 32 := 0#32
  let v369 : BitVec 1 := Scalar.cmpi .slt v365 c0_i32_190
  let v370 : BitVec 1 := Scalar.xori v368 v369
  let c0_i32_188 : BitVec 32 := 0#32
  let v367 : BitVec 1 := Scalar.cmpi .ne v366 c0_i32_188
  let v371 : BitVec 1 := Scalar.andi v370 v367
  let v372 : BitVec 32 := Scalar.addi v366 v365
  let v373 : BitVec 32 := Scalar.select v371 v372 v366
  let v381 : Index := Scalar.indexCast v373
  let c0_194 : Index := 0#32
  let c0_195 : Index := 0#32
  ![v381.toNat, 0, 0]
def k0_mult142 (i : grid0.Coords) (k0_t7 : Fin (k0_t7_loop i).trips) : BitVec 32 :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c256_i32_197 : BitVec 32 := 256#32
  let v385 : BitVec 32 := Scalar.muli v275 c256_i32_197
  let c0_i32_198 : BitVec 32 := 0#32
  let v386 : BitVec 32 := Scalar.addi v385 c0_i32_198
  v386
def k0_off766 (i : grid0.Coords) (k0_t7 : Fin (k0_t7_loop i).trips) (c0_i32_198 : BitVec 32) : Fin 2 → Nat :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c256_i32_197 : BitVec 32 := 256#32
  let v385 : BitVec 32 := Scalar.muli v275 c256_i32_197
  let v386 : BitVec 32 := Scalar.addi v385 c0_i32_198
  let v387 : BitVec 32 := v386
  let v419 : Index := Scalar.indexCast v387
  let c0_201 : Index := 0#32
  ![v419.toNat, 0]
def k0_mult143 (i : grid0.Coords) (k0_t7 : Fin (k0_t7_loop i).trips) : BitVec 32 :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c256_i32_203 : BitVec 32 := 256#32
  let v441 : BitVec 32 := Scalar.muli v275 c256_i32_203
  let c128_i32_204 : BitVec 32 := 128#32
  let v442 : BitVec 32 := Scalar.addi v441 c128_i32_204
  v442
def k0_off767 (i : grid0.Coords) (k0_t7 : Fin (k0_t7_loop i).trips) : Fin 4 → Nat :=
  let c0_445 : Index := 0#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let v1217 : Index := Scalar.indexCast v275
  let c0_446 : Index := 0#32
  let c0_447 : Index := 0#32
  ![0, v1217.toNat, 0, 0]
def k0_off768 (i : grid0.Coords) (k0_t7 : Fin (k0_t7_loop i).trips) : Fin 4 → Nat :=
  let c1_448 : Index := 1#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let v1221 : Index := Scalar.indexCast v275
  let c0_449 : Index := 0#32
  let c0_450 : Index := 0#32
  ![1, v1221.toNat, 0, 0]
def k0_off769 (i : grid0.Coords) (k0_t7 : Fin (k0_t7_loop i).trips) : Fin 4 → Nat :=
  let c2_451 : Index := 2#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let v1225 : Index := Scalar.indexCast v275
  let c0_452 : Index := 0#32
  let c0_453 : Index := 0#32
  ![2, v1225.toNat, 0, 0]
def k0_off770 (i : grid0.Coords) (k0_t7 : Fin (k0_t7_loop i).trips) : Fin 4 → Nat :=
  let c3_454 : Index := 3#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let v1229 : Index := Scalar.indexCast v275
  let c0_455 : Index := 0#32
  let c0_456 : Index := 0#32
  ![3, v1229.toNat, 0, 0]
def k0_off771 (i : grid0.Coords) (k0_t7 : Fin (k0_t7_loop i).trips) : Fin 4 → Nat :=
  let c4_457 : Index := 4#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let v1233 : Index := Scalar.indexCast v275
  let c0_458 : Index := 0#32
  let c0_459 : Index := 0#32
  ![4, v1233.toNat, 0, 0]
def k0_off772 (i : grid0.Coords) (k0_t7 : Fin (k0_t7_loop i).trips) : Fin 4 → Nat :=
  let c5_460 : Index := 5#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let v1237 : Index := Scalar.indexCast v275
  let c0_461 : Index := 0#32
  let c0_462 : Index := 0#32
  ![5, v1237.toNat, 0, 0]
def k0_off773 (i : grid0.Coords) (k0_t7 : Fin (k0_t7_loop i).trips) : Fin 4 → Nat :=
  let c6_463 : Index := 6#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let v1241 : Index := Scalar.indexCast v275
  let c0_464 : Index := 0#32
  let c0_465 : Index := 0#32
  ![6, v1241.toNat, 0, 0]
def k0_off774 (i : grid0.Coords) (k0_t7 : Fin (k0_t7_loop i).trips) : Fin 4 → Nat :=
  let c7_466 : Index := 7#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let v1245 : Index := Scalar.indexCast v275
  let c0_467 : Index := 0#32
  let c0_468 : Index := 0#32
  ![7, v1245.toNat, 0, 0]
def k0_off775 (i : grid0.Coords) (k0_t7 : Fin (k0_t7_loop i).trips) : Fin 4 → Nat :=
  let c8 : Index := 8#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let v1249 : Index := Scalar.indexCast v275
  let c0_469 : Index := 0#32
  let c0_470 : Index := 0#32
  ![8, v1249.toNat, 0, 0]
def k0_off776 (i : grid0.Coords) (k0_t7 : Fin (k0_t7_loop i).trips) : Fin 4 → Nat :=
  let c9 : Index := 9#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let v1253 : Index := Scalar.indexCast v275
  let c0_471 : Index := 0#32
  let c0_472 : Index := 0#32
  ![9, v1253.toNat, 0, 0]
def k0_off777 (i : grid0.Coords) (k0_t7 : Fin (k0_t7_loop i).trips) : Fin 4 → Nat :=
  let c10 : Index := 10#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let v1257 : Index := Scalar.indexCast v275
  let c0_473 : Index := 0#32
  let c0_474 : Index := 0#32
  ![10, v1257.toNat, 0, 0]
def k0_off778 (i : grid0.Coords) (k0_t7 : Fin (k0_t7_loop i).trips) : Fin 4 → Nat :=
  let c11 : Index := 11#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let v1261 : Index := Scalar.indexCast v275
  let c0_475 : Index := 0#32
  let c0_476 : Index := 0#32
  ![11, v1261.toNat, 0, 0]
def k0_off779 (i : grid0.Coords) (k0_t7 : Fin (k0_t7_loop i).trips) : Fin 4 → Nat :=
  let c12 : Index := 12#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let v1265 : Index := Scalar.indexCast v275
  let c0_477 : Index := 0#32
  let c0_478 : Index := 0#32
  ![12, v1265.toNat, 0, 0]
def k0_off780 (i : grid0.Coords) (k0_t7 : Fin (k0_t7_loop i).trips) : Fin 4 → Nat :=
  let c13 : Index := 13#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let v1269 : Index := Scalar.indexCast v275
  let c0_479 : Index := 0#32
  let c0_480 : Index := 0#32
  ![13, v1269.toNat, 0, 0]
def k0_off781 (i : grid0.Coords) (k0_t7 : Fin (k0_t7_loop i).trips) : Fin 4 → Nat :=
  let c14 : Index := 14#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let v1273 : Index := Scalar.indexCast v275
  let c0_481 : Index := 0#32
  let c0_482 : Index := 0#32
  ![14, v1273.toNat, 0, 0]
def k0_off782 (i : grid0.Coords) (k0_t7 : Fin (k0_t7_loop i).trips) : Fin 4 → Nat :=
  let c15 : Index := 15#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let v1277 : Index := Scalar.indexCast v275
  let c0_483 : Index := 0#32
  let c0_484 : Index := 0#32
  ![15, v1277.toNat, 0, 0]
def k0_off783 (i : grid0.Coords) (k0_t7 : Fin (k0_t7_loop i).trips) : Fin 4 → Nat :=
  let c16 : Index := 16#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let v1281 : Index := Scalar.indexCast v275
  let c0_485 : Index := 0#32
  let c0_486 : Index := 0#32
  ![16, v1281.toNat, 0, 0]
def k0_off784 (i : grid0.Coords) (k0_t7 : Fin (k0_t7_loop i).trips) : Fin 4 → Nat :=
  let c17 : Index := 17#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let v1285 : Index := Scalar.indexCast v275
  let c0_487 : Index := 0#32
  let c0_488 : Index := 0#32
  ![17, v1285.toNat, 0, 0]
def k0_off785 (i : grid0.Coords) (k0_t7 : Fin (k0_t7_loop i).trips) : Fin 4 → Nat :=
  let c18 : Index := 18#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let v1289 : Index := Scalar.indexCast v275
  let c0_489 : Index := 0#32
  let c0_490 : Index := 0#32
  ![18, v1289.toNat, 0, 0]
def k0_off786 (i : grid0.Coords) (k0_t7 : Fin (k0_t7_loop i).trips) : Fin 4 → Nat :=
  let c19 : Index := 19#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let v1293 : Index := Scalar.indexCast v275
  let c0_491 : Index := 0#32
  let c0_492 : Index := 0#32
  ![19, v1293.toNat, 0, 0]
def k0_off787 (i : grid0.Coords) (k0_t7 : Fin (k0_t7_loop i).trips) : Fin 4 → Nat :=
  let c20 : Index := 20#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let v1297 : Index := Scalar.indexCast v275
  let c0_493 : Index := 0#32
  let c0_494 : Index := 0#32
  ![20, v1297.toNat, 0, 0]
def k0_off788 (i : grid0.Coords) (k0_t7 : Fin (k0_t7_loop i).trips) : Fin 4 → Nat :=
  let c21 : Index := 21#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let v1301 : Index := Scalar.indexCast v275
  let c0_495 : Index := 0#32
  let c0_496 : Index := 0#32
  ![21, v1301.toNat, 0, 0]
def k0_off789 (i : grid0.Coords) (k0_t7 : Fin (k0_t7_loop i).trips) : Fin 4 → Nat :=
  let c22 : Index := 22#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let v1305 : Index := Scalar.indexCast v275
  let c0_497 : Index := 0#32
  let c0_498 : Index := 0#32
  ![22, v1305.toNat, 0, 0]
def k0_off790 (i : grid0.Coords) (k0_t7 : Fin (k0_t7_loop i).trips) : Fin 4 → Nat :=
  let c23 : Index := 23#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let v1309 : Index := Scalar.indexCast v275
  let c0_499 : Index := 0#32
  let c0_500 : Index := 0#32
  ![23, v1309.toNat, 0, 0]
def k0_off791 (i : grid0.Coords) (k0_t7 : Fin (k0_t7_loop i).trips) : Fin 4 → Nat :=
  let c24 : Index := 24#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let v1313 : Index := Scalar.indexCast v275
  let c0_501 : Index := 0#32
  let c0_502 : Index := 0#32
  ![24, v1313.toNat, 0, 0]
def k0_off792 (i : grid0.Coords) (k0_t7 : Fin (k0_t7_loop i).trips) : Fin 4 → Nat :=
  let c25 : Index := 25#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let v1317 : Index := Scalar.indexCast v275
  let c0_503 : Index := 0#32
  let c0_504 : Index := 0#32
  ![25, v1317.toNat, 0, 0]
def k0_off793 (i : grid0.Coords) (k0_t7 : Fin (k0_t7_loop i).trips) : Fin 4 → Nat :=
  let c26 : Index := 26#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let v1321 : Index := Scalar.indexCast v275
  let c0_505 : Index := 0#32
  let c0_506 : Index := 0#32
  ![26, v1321.toNat, 0, 0]
def k0_off794 (i : grid0.Coords) (k0_t7 : Fin (k0_t7_loop i).trips) : Fin 4 → Nat :=
  let c27 : Index := 27#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let v1325 : Index := Scalar.indexCast v275
  let c0_507 : Index := 0#32
  let c0_508 : Index := 0#32
  ![27, v1325.toNat, 0, 0]
def k0_off795 (i : grid0.Coords) (k0_t7 : Fin (k0_t7_loop i).trips) : Fin 4 → Nat :=
  let c28 : Index := 28#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let v1329 : Index := Scalar.indexCast v275
  let c0_509 : Index := 0#32
  let c0_510 : Index := 0#32
  ![28, v1329.toNat, 0, 0]
def k0_off796 (i : grid0.Coords) (k0_t7 : Fin (k0_t7_loop i).trips) : Fin 4 → Nat :=
  let c29 : Index := 29#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let v1333 : Index := Scalar.indexCast v275
  let c0_511 : Index := 0#32
  let c0_512 : Index := 0#32
  ![29, v1333.toNat, 0, 0]
def k0_off797 (i : grid0.Coords) (k0_t7 : Fin (k0_t7_loop i).trips) : Fin 4 → Nat :=
  let c30 : Index := 30#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let v1337 : Index := Scalar.indexCast v275
  let c0_513 : Index := 0#32
  let c0_514 : Index := 0#32
  ![30, v1337.toNat, 0, 0]
def k0_off798 (i : grid0.Coords) (k0_t7 : Fin (k0_t7_loop i).trips) : Fin 4 → Nat :=
  let c31 : Index := 31#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let v1341 : Index := Scalar.indexCast v275
  let c0_515 : Index := 0#32
  let c0_516 : Index := 0#32
  ![31, v1341.toNat, 0, 0]
def k0_mult144 (i : grid0.Coords) (k0_t7 : Fin (k0_t7_loop i).trips) : BitVec 32 :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c2_i32_517 : BitVec 32 := 2#32
  let v1345 : BitVec 32 := Scalar.addi v275 c2_i32_517
  let c1_i32_35 : BitVec 32 := 1#32
  let v72 : BitVec 32 := Scalar.subi v71 c1_i32_35
  let v1346 : BitVec 32 := Scalar.minsi v1345 v72
  let c256_i32_518 : BitVec 32 := 256#32
  let v1347 : BitVec 32 := Scalar.muli v1346 c256_i32_518
  v1347
def k0_mult145 (i : grid0.Coords) (k0_t7 : Fin (k0_t7_loop i).trips) : BitVec 32 :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_525 : BitVec 32 := 1#32
  let v1359 : BitVec 32 := Scalar.addi v275 c1_i32_525
  let c1_i32_35 : BitVec 32 := 1#32
  let v72 : BitVec 32 := Scalar.subi v71 c1_i32_35
  let v1360 : BitVec 32 := Scalar.minsi v1359 v72
  let c256_i32_526 : BitVec 32 := 256#32
  let v1361 : BitVec 32 := Scalar.muli v1360 c256_i32_526
  v1361
def k0_mult146 (i : grid0.Coords) (k0_t7 : Fin (k0_t7_loop i).trips) : BitVec 32 :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_525 : BitVec 32 := 1#32
  let v1359 : BitVec 32 := Scalar.addi v275 c1_i32_525
  let c1_i32_35 : BitVec 32 := 1#32
  let v72 : BitVec 32 := Scalar.subi v71 c1_i32_35
  let v1360 : BitVec 32 := Scalar.minsi v1359 v72
  let c256_i32_526 : BitVec 32 := 256#32
  let v1361 : BitVec 32 := Scalar.muli v1360 c256_i32_526
  let v1362 : BitVec 32 := v1361
  let c0_i32_527 : BitVec 32 := 0#32
  let v1366 : BitVec 32 := Scalar.addi v1362 c0_i32_527
  v1366
def k0_off799 (i : grid0.Coords) (k0_t7 : Fin (k0_t7_loop i).trips) (c0_i32_527 : BitVec 32) : Fin 2 → Nat :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_525 : BitVec 32 := 1#32
  let v1359 : BitVec 32 := Scalar.addi v275 c1_i32_525
  let c1_i32_35 : BitVec 32 := 1#32
  let v72 : BitVec 32 := Scalar.subi v71 c1_i32_35
  let v1360 : BitVec 32 := Scalar.minsi v1359 v72
  let c256_i32_526 : BitVec 32 := 256#32
  let v1361 : BitVec 32 := Scalar.muli v1360 c256_i32_526
  let v1362 : BitVec 32 := v1361
  let v1366 : BitVec 32 := Scalar.addi v1362 c0_i32_527
  let v1367 : BitVec 32 := v1366
  let v1368 : Index := Scalar.indexCast v1367
  let c0_528 : Index := 0#32
  ![v1368.toNat, 0]

variable {F : FTy → Type} [BitOps F]

def k0_off800 (i : grid0.Coords) (k0_t7 : Fin (k0_t7_loop i).trips) (c0_i32_532 : BitVec 32) : Fin 3 → Nat :=
  let c2_i32_534 : BitVec 32 := 2#32
  let c0_i32_533 : BitVec 32 := 0#32
  let arg1 : BitVec 32 := BitVec.ofNat 32 (i 1).val
  let c2_i32_143 : BitVec 32 := 2#32
  let c2_i32_65 : BitVec 32 := 2#32
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_525 : BitVec 32 := 1#32
  let v1359 : BitVec 32 := Scalar.addi v275 c1_i32_525
  let c1_i32_35 : BitVec 32 := 1#32
  let v72 : BitVec 32 := Scalar.subi v71 c1_i32_35
  let v1360 : BitVec 32 := Scalar.minsi v1359 v72
  let c2_i32_531 : BitVec 32 := 2#32
  let v1377 : BitVec 32 := Scalar.muli v1360 c2_i32_531
  let v1378 : BitVec 32 := Scalar.addi v1377 c0_i32_532
  let v1379 : BitVec 32 := Scalar.subi arg1 v1378
  let v1380 : BitVec 32 := Scalar.maxsi c0_i32_533 v1379
  let v1381 : BitVec 32 := Scalar.minsi c2_i32_534 v1380
  let v1382 : Index := Scalar.indexCast v1381
  let c0_535 : Index := 0#32
  let c0_536 : Index := 0#32
  ![v1382.toNat, 0, 0]
def k0_mult147 (i : grid0.Coords) (k0_t7 : Fin (k0_t7_loop i).trips) : BitVec 32 :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_525 : BitVec 32 := 1#32
  let v1359 : BitVec 32 := Scalar.addi v275 c1_i32_525
  let c1_i32_35 : BitVec 32 := 1#32
  let v72 : BitVec 32 := Scalar.subi v71 c1_i32_35
  let v1360 : BitVec 32 := Scalar.minsi v1359 v72
  let c256_i32_526 : BitVec 32 := 256#32
  let v1361 : BitVec 32 := Scalar.muli v1360 c256_i32_526
  let v1362 : BitVec 32 := v1361
  let c128_i32_539 : BitVec 32 := 128#32
  let v1388 : BitVec 32 := Scalar.addi v1362 c128_i32_539
  v1388
def k0_off801 (i : grid0.Coords) (k0_t7 : Fin (k0_t7_loop i).trips) : Fin 2 → Nat :=
  let c0_553 : Index := 0#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_525 : BitVec 32 := 1#32
  let v1359 : BitVec 32 := Scalar.addi v275 c1_i32_525
  let c1_i32_35 : BitVec 32 := 1#32
  let v72 : BitVec 32 := Scalar.subi v71 c1_i32_35
  let v1360 : BitVec 32 := Scalar.minsi v1359 v72
  let c256_i32_526 : BitVec 32 := 256#32
  let v1361 : BitVec 32 := Scalar.muli v1360 c256_i32_526
  let v1362 : BitVec 32 := v1361
  let v1423 : Index := Scalar.indexCast v1362
  ![0, v1423.toNat]
def k0_mult148 (i : grid0.Coords) (k0_t7 : Fin (k0_t7_loop i).trips) : BitVec 32 :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_559 : BitVec 32 := 1#32
  let v1433 : BitVec 32 := Scalar.addi v275 c1_i32_559
  let c256_i32_568 : BitVec 32 := 256#32
  let v1448 : BitVec 32 := Scalar.muli v1433 c256_i32_568
  v1448
def k0_off802 (i : grid0.Coords) (k0_t7 : Fin (k0_t7_loop i).trips) : Fin 2 → Nat :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_559 : BitVec 32 := 1#32
  let v1433 : BitVec 32 := Scalar.addi v275 c1_i32_559
  let c256_i32_568 : BitVec 32 := 256#32
  let v1448 : BitVec 32 := Scalar.muli v1433 c256_i32_568
  let v1449 : BitVec 32 := v1448
  let v1450 : Index := Scalar.indexCast v1449
  let c0_569 : Index := 0#32
  ![v1450.toNat, 0]
def k0_mult149 (i : grid0.Coords) (k0_t7 : Fin (k0_t7_loop i).trips) : BitVec 32 :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_559 : BitVec 32 := 1#32
  let v1433 : BitVec 32 := Scalar.addi v275 c1_i32_559
  let c256_i32_573 : BitVec 32 := 256#32
  let v1456 : BitVec 32 := Scalar.muli v1433 c256_i32_573
  let c0_i32_574 : BitVec 32 := 0#32
  let v1457 : BitVec 32 := Scalar.addi v1456 c0_i32_574
  v1457
def k0_off803 (i : grid0.Coords) (k0_t7 : Fin (k0_t7_loop i).trips) (c0_i32_574 : BitVec 32) : Fin 2 → Nat :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_559 : BitVec 32 := 1#32
  let v1433 : BitVec 32 := Scalar.addi v275 c1_i32_559
  let c256_i32_573 : BitVec 32 := 256#32
  let v1456 : BitVec 32 := Scalar.muli v1433 c256_i32_573
  let v1457 : BitVec 32 := Scalar.addi v1456 c0_i32_574
  let v1458 : BitVec 32 := v1457
  let v1490 : Index := Scalar.indexCast v1458
  let c0_579 : Index := 0#32
  ![v1490.toNat, 0]
def k0_mult150 (i : grid0.Coords) (k0_t7 : Fin (k0_t7_loop i).trips) : BitVec 32 :=
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_559 : BitVec 32 := 1#32
  let v1433 : BitVec 32 := Scalar.addi v275 c1_i32_559
  let c256_i32_581 : BitVec 32 := 256#32
  let v1512 : BitVec 32 := Scalar.muli v1433 c256_i32_581
  let c128_i32_582 : BitVec 32 := 128#32
  let v1513 : BitVec 32 := Scalar.addi v1512 c128_i32_582
  v1513
def k0_off804 (i : grid0.Coords) (k0_t7 : Fin (k0_t7_loop i).trips) : Fin 4 → Nat :=
  let c0_829 : Index := 0#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_559 : BitVec 32 := 1#32
  let v1433 : BitVec 32 := Scalar.addi v275 c1_i32_559
  let v2288 : Index := Scalar.indexCast v1433
  let c0_830 : Index := 0#32
  let c0_831 : Index := 0#32
  ![0, v2288.toNat, 0, 0]
def k0_off805 (i : grid0.Coords) (k0_t7 : Fin (k0_t7_loop i).trips) : Fin 4 → Nat :=
  let c1_832 : Index := 1#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_559 : BitVec 32 := 1#32
  let v1433 : BitVec 32 := Scalar.addi v275 c1_i32_559
  let v2292 : Index := Scalar.indexCast v1433
  let c0_833 : Index := 0#32
  let c0_834 : Index := 0#32
  ![1, v2292.toNat, 0, 0]
def k0_off806 (i : grid0.Coords) (k0_t7 : Fin (k0_t7_loop i).trips) : Fin 4 → Nat :=
  let c2_835 : Index := 2#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_559 : BitVec 32 := 1#32
  let v1433 : BitVec 32 := Scalar.addi v275 c1_i32_559
  let v2296 : Index := Scalar.indexCast v1433
  let c0_836 : Index := 0#32
  let c0_837 : Index := 0#32
  ![2, v2296.toNat, 0, 0]
def k0_off807 (i : grid0.Coords) (k0_t7 : Fin (k0_t7_loop i).trips) : Fin 4 → Nat :=
  let c3_838 : Index := 3#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_559 : BitVec 32 := 1#32
  let v1433 : BitVec 32 := Scalar.addi v275 c1_i32_559
  let v2300 : Index := Scalar.indexCast v1433
  let c0_839 : Index := 0#32
  let c0_840 : Index := 0#32
  ![3, v2300.toNat, 0, 0]
def k0_off808 (i : grid0.Coords) (k0_t7 : Fin (k0_t7_loop i).trips) : Fin 4 → Nat :=
  let c4_841 : Index := 4#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_559 : BitVec 32 := 1#32
  let v1433 : BitVec 32 := Scalar.addi v275 c1_i32_559
  let v2304 : Index := Scalar.indexCast v1433
  let c0_842 : Index := 0#32
  let c0_843 : Index := 0#32
  ![4, v2304.toNat, 0, 0]
def k0_off809 (i : grid0.Coords) (k0_t7 : Fin (k0_t7_loop i).trips) : Fin 4 → Nat :=
  let c5_844 : Index := 5#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_559 : BitVec 32 := 1#32
  let v1433 : BitVec 32 := Scalar.addi v275 c1_i32_559
  let v2308 : Index := Scalar.indexCast v1433
  let c0_845 : Index := 0#32
  let c0_846 : Index := 0#32
  ![5, v2308.toNat, 0, 0]
def k0_off810 (i : grid0.Coords) (k0_t7 : Fin (k0_t7_loop i).trips) : Fin 4 → Nat :=
  let c6_847 : Index := 6#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_559 : BitVec 32 := 1#32
  let v1433 : BitVec 32 := Scalar.addi v275 c1_i32_559
  let v2312 : Index := Scalar.indexCast v1433
  let c0_848 : Index := 0#32
  let c0_849 : Index := 0#32
  ![6, v2312.toNat, 0, 0]
def k0_off811 (i : grid0.Coords) (k0_t7 : Fin (k0_t7_loop i).trips) : Fin 4 → Nat :=
  let c7_850 : Index := 7#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_559 : BitVec 32 := 1#32
  let v1433 : BitVec 32 := Scalar.addi v275 c1_i32_559
  let v2316 : Index := Scalar.indexCast v1433
  let c0_851 : Index := 0#32
  let c0_852 : Index := 0#32
  ![7, v2316.toNat, 0, 0]
def k0_off812 (i : grid0.Coords) (k0_t7 : Fin (k0_t7_loop i).trips) : Fin 4 → Nat :=
  let c8_853 : Index := 8#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_559 : BitVec 32 := 1#32
  let v1433 : BitVec 32 := Scalar.addi v275 c1_i32_559
  let v2320 : Index := Scalar.indexCast v1433
  let c0_854 : Index := 0#32
  let c0_855 : Index := 0#32
  ![8, v2320.toNat, 0, 0]
def k0_off813 (i : grid0.Coords) (k0_t7 : Fin (k0_t7_loop i).trips) : Fin 4 → Nat :=
  let c9_856 : Index := 9#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_559 : BitVec 32 := 1#32
  let v1433 : BitVec 32 := Scalar.addi v275 c1_i32_559
  let v2324 : Index := Scalar.indexCast v1433
  let c0_857 : Index := 0#32
  let c0_858 : Index := 0#32
  ![9, v2324.toNat, 0, 0]
def k0_off814 (i : grid0.Coords) (k0_t7 : Fin (k0_t7_loop i).trips) : Fin 4 → Nat :=
  let c10_859 : Index := 10#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_559 : BitVec 32 := 1#32
  let v1433 : BitVec 32 := Scalar.addi v275 c1_i32_559
  let v2328 : Index := Scalar.indexCast v1433
  let c0_860 : Index := 0#32
  let c0_861 : Index := 0#32
  ![10, v2328.toNat, 0, 0]
def k0_off815 (i : grid0.Coords) (k0_t7 : Fin (k0_t7_loop i).trips) : Fin 4 → Nat :=
  let c11_862 : Index := 11#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_559 : BitVec 32 := 1#32
  let v1433 : BitVec 32 := Scalar.addi v275 c1_i32_559
  let v2332 : Index := Scalar.indexCast v1433
  let c0_863 : Index := 0#32
  let c0_864 : Index := 0#32
  ![11, v2332.toNat, 0, 0]
def k0_off816 (i : grid0.Coords) (k0_t7 : Fin (k0_t7_loop i).trips) : Fin 4 → Nat :=
  let c12_865 : Index := 12#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_559 : BitVec 32 := 1#32
  let v1433 : BitVec 32 := Scalar.addi v275 c1_i32_559
  let v2336 : Index := Scalar.indexCast v1433
  let c0_866 : Index := 0#32
  let c0_867 : Index := 0#32
  ![12, v2336.toNat, 0, 0]
def k0_off817 (i : grid0.Coords) (k0_t7 : Fin (k0_t7_loop i).trips) : Fin 4 → Nat :=
  let c13_868 : Index := 13#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_559 : BitVec 32 := 1#32
  let v1433 : BitVec 32 := Scalar.addi v275 c1_i32_559
  let v2340 : Index := Scalar.indexCast v1433
  let c0_869 : Index := 0#32
  let c0_870 : Index := 0#32
  ![13, v2340.toNat, 0, 0]
def k0_off818 (i : grid0.Coords) (k0_t7 : Fin (k0_t7_loop i).trips) : Fin 4 → Nat :=
  let c14_871 : Index := 14#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_559 : BitVec 32 := 1#32
  let v1433 : BitVec 32 := Scalar.addi v275 c1_i32_559
  let v2344 : Index := Scalar.indexCast v1433
  let c0_872 : Index := 0#32
  let c0_873 : Index := 0#32
  ![14, v2344.toNat, 0, 0]
def k0_off819 (i : grid0.Coords) (k0_t7 : Fin (k0_t7_loop i).trips) : Fin 4 → Nat :=
  let c15_874 : Index := 15#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_559 : BitVec 32 := 1#32
  let v1433 : BitVec 32 := Scalar.addi v275 c1_i32_559
  let v2348 : Index := Scalar.indexCast v1433
  let c0_875 : Index := 0#32
  let c0_876 : Index := 0#32
  ![15, v2348.toNat, 0, 0]
def k0_off820 (i : grid0.Coords) (k0_t7 : Fin (k0_t7_loop i).trips) : Fin 4 → Nat :=
  let c16_877 : Index := 16#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_559 : BitVec 32 := 1#32
  let v1433 : BitVec 32 := Scalar.addi v275 c1_i32_559
  let v2352 : Index := Scalar.indexCast v1433
  let c0_878 : Index := 0#32
  let c0_879 : Index := 0#32
  ![16, v2352.toNat, 0, 0]
def k0_off821 (i : grid0.Coords) (k0_t7 : Fin (k0_t7_loop i).trips) : Fin 4 → Nat :=
  let c17_880 : Index := 17#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_559 : BitVec 32 := 1#32
  let v1433 : BitVec 32 := Scalar.addi v275 c1_i32_559
  let v2356 : Index := Scalar.indexCast v1433
  let c0_881 : Index := 0#32
  let c0_882 : Index := 0#32
  ![17, v2356.toNat, 0, 0]
def k0_off822 (i : grid0.Coords) (k0_t7 : Fin (k0_t7_loop i).trips) : Fin 4 → Nat :=
  let c18_883 : Index := 18#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_559 : BitVec 32 := 1#32
  let v1433 : BitVec 32 := Scalar.addi v275 c1_i32_559
  let v2360 : Index := Scalar.indexCast v1433
  let c0_884 : Index := 0#32
  let c0_885 : Index := 0#32
  ![18, v2360.toNat, 0, 0]
def k0_off823 (i : grid0.Coords) (k0_t7 : Fin (k0_t7_loop i).trips) : Fin 4 → Nat :=
  let c19_886 : Index := 19#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_559 : BitVec 32 := 1#32
  let v1433 : BitVec 32 := Scalar.addi v275 c1_i32_559
  let v2364 : Index := Scalar.indexCast v1433
  let c0_887 : Index := 0#32
  let c0_888 : Index := 0#32
  ![19, v2364.toNat, 0, 0]
def k0_off824 (i : grid0.Coords) (k0_t7 : Fin (k0_t7_loop i).trips) : Fin 4 → Nat :=
  let c20_889 : Index := 20#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_559 : BitVec 32 := 1#32
  let v1433 : BitVec 32 := Scalar.addi v275 c1_i32_559
  let v2368 : Index := Scalar.indexCast v1433
  let c0_890 : Index := 0#32
  let c0_891 : Index := 0#32
  ![20, v2368.toNat, 0, 0]
def k0_off825 (i : grid0.Coords) (k0_t7 : Fin (k0_t7_loop i).trips) : Fin 4 → Nat :=
  let c21_892 : Index := 21#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_559 : BitVec 32 := 1#32
  let v1433 : BitVec 32 := Scalar.addi v275 c1_i32_559
  let v2372 : Index := Scalar.indexCast v1433
  let c0_893 : Index := 0#32
  let c0_894 : Index := 0#32
  ![21, v2372.toNat, 0, 0]
def k0_off826 (i : grid0.Coords) (k0_t7 : Fin (k0_t7_loop i).trips) : Fin 4 → Nat :=
  let c22_895 : Index := 22#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_559 : BitVec 32 := 1#32
  let v1433 : BitVec 32 := Scalar.addi v275 c1_i32_559
  let v2376 : Index := Scalar.indexCast v1433
  let c0_896 : Index := 0#32
  let c0_897 : Index := 0#32
  ![22, v2376.toNat, 0, 0]
def k0_off827 (i : grid0.Coords) (k0_t7 : Fin (k0_t7_loop i).trips) : Fin 4 → Nat :=
  let c23_898 : Index := 23#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_559 : BitVec 32 := 1#32
  let v1433 : BitVec 32 := Scalar.addi v275 c1_i32_559
  let v2380 : Index := Scalar.indexCast v1433
  let c0_899 : Index := 0#32
  let c0_900 : Index := 0#32
  ![23, v2380.toNat, 0, 0]
def k0_off828 (i : grid0.Coords) (k0_t7 : Fin (k0_t7_loop i).trips) : Fin 4 → Nat :=
  let c24_901 : Index := 24#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_559 : BitVec 32 := 1#32
  let v1433 : BitVec 32 := Scalar.addi v275 c1_i32_559
  let v2384 : Index := Scalar.indexCast v1433
  let c0_902 : Index := 0#32
  let c0_903 : Index := 0#32
  ![24, v2384.toNat, 0, 0]
def k0_off829 (i : grid0.Coords) (k0_t7 : Fin (k0_t7_loop i).trips) : Fin 4 → Nat :=
  let c25_904 : Index := 25#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_559 : BitVec 32 := 1#32
  let v1433 : BitVec 32 := Scalar.addi v275 c1_i32_559
  let v2388 : Index := Scalar.indexCast v1433
  let c0_905 : Index := 0#32
  let c0_906 : Index := 0#32
  ![25, v2388.toNat, 0, 0]
def k0_off830 (i : grid0.Coords) (k0_t7 : Fin (k0_t7_loop i).trips) : Fin 4 → Nat :=
  let c26_907 : Index := 26#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_559 : BitVec 32 := 1#32
  let v1433 : BitVec 32 := Scalar.addi v275 c1_i32_559
  let v2392 : Index := Scalar.indexCast v1433
  let c0_908 : Index := 0#32
  let c0_909 : Index := 0#32
  ![26, v2392.toNat, 0, 0]
def k0_off831 (i : grid0.Coords) (k0_t7 : Fin (k0_t7_loop i).trips) : Fin 4 → Nat :=
  let c27_910 : Index := 27#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_559 : BitVec 32 := 1#32
  let v1433 : BitVec 32 := Scalar.addi v275 c1_i32_559
  let v2396 : Index := Scalar.indexCast v1433
  let c0_911 : Index := 0#32
  let c0_912 : Index := 0#32
  ![27, v2396.toNat, 0, 0]
def k0_off832 (i : grid0.Coords) (k0_t7 : Fin (k0_t7_loop i).trips) : Fin 4 → Nat :=
  let c28_913 : Index := 28#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_559 : BitVec 32 := 1#32
  let v1433 : BitVec 32 := Scalar.addi v275 c1_i32_559
  let v2400 : Index := Scalar.indexCast v1433
  let c0_914 : Index := 0#32
  let c0_915 : Index := 0#32
  ![28, v2400.toNat, 0, 0]
def k0_off833 (i : grid0.Coords) (k0_t7 : Fin (k0_t7_loop i).trips) : Fin 4 → Nat :=
  let c29_916 : Index := 29#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_559 : BitVec 32 := 1#32
  let v1433 : BitVec 32 := Scalar.addi v275 c1_i32_559
  let v2404 : Index := Scalar.indexCast v1433
  let c0_917 : Index := 0#32
  let c0_918 : Index := 0#32
  ![29, v2404.toNat, 0, 0]
def k0_off834 (i : grid0.Coords) (k0_t7 : Fin (k0_t7_loop i).trips) : Fin 4 → Nat :=
  let c30_919 : Index := 30#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_559 : BitVec 32 := 1#32
  let v1433 : BitVec 32 := Scalar.addi v275 c1_i32_559
  let v2408 : Index := Scalar.indexCast v1433
  let c0_920 : Index := 0#32
  let c0_921 : Index := 0#32
  ![30, v2408.toNat, 0, 0]
def k0_off835 (i : grid0.Coords) (k0_t7 : Fin (k0_t7_loop i).trips) : Fin 4 → Nat :=
  let c31_922 : Index := 31#32
  let c2_i32_143 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t7
  let v275 : BitVec 32 := Scalar.muli c2_i32_143 arg24
  let c1_i32_559 : BitVec 32 := 1#32
  let v1433 : BitVec 32 := Scalar.addi v275 c1_i32_559
  let v2412 : Index := Scalar.indexCast v1433
  let c0_923 : Index := 0#32
  let c0_924 : Index := 0#32
  ![31, v2412.toNat, 0, 0]
@[reducible] def k0_t8_loop (i : grid0.Coords) : Scf.Loop 32 :=
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_141 : BitVec 32 := 1#32
  ⟨v103, v274, c1_i32_141⟩
def k0_mult151 (i : grid0.Coords) (k0_t8 : Fin (k0_t8_loop i).trips) : BitVec 32 :=
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v276 : BitVec 32 := Scalar.muli c2_i32_144 arg24
  let c256_i32_152 : BitVec 32 := 256#32
  let v290 : BitVec 32 := Scalar.muli v276 c256_i32_152
  v290
def k0_off836 (i : grid0.Coords) (k0_t8 : Fin (k0_t8_loop i).trips) : Fin 2 → Nat :=
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v276 : BitVec 32 := Scalar.muli c2_i32_144 arg24
  let c256_i32_152 : BitVec 32 := 256#32
  let v290 : BitVec 32 := Scalar.muli v276 c256_i32_152
  let v291 : BitVec 32 := v290
  let v292 : Index := Scalar.indexCast v291
  let c0_153 : Index := 0#32
  ![v292.toNat, 0]
def k0_off837 (i : grid0.Coords) : Fin 3 → Nat :=
  let arg1 : BitVec 32 := BitVec.ofNat 32 (i 1).val
  let c1_i32_143 : BitVec 32 := 1#32
  let v275 : BitVec 32 := Scalar.addi arg1 c1_i32_143
  let c8_i32_145 : BitVec 32 := 8#32
  let c0_i32_146 : BitVec 32 := 0#32
  let v277 : BitVec 1 := Scalar.cmpi .eq c8_i32_145 c0_i32_146
  let c1_i32_147 : BitVec 32 := 1#32
  let v278 : BitVec 32 := Scalar.select v277 c1_i32_147 c8_i32_145
  let v279 : BitVec 32 := Scalar.remsi v275 v278
  let c0_i32_149 : BitVec 32 := 0#32
  let v281 : BitVec 1 := Scalar.cmpi .slt v279 c0_i32_149
  let c0_i32_150 : BitVec 32 := 0#32
  let v282 : BitVec 1 := Scalar.cmpi .slt v278 c0_i32_150
  let v283 : BitVec 1 := Scalar.xori v281 v282
  let c0_i32_148 : BitVec 32 := 0#32
  let v280 : BitVec 1 := Scalar.cmpi .ne v279 c0_i32_148
  let v284 : BitVec 1 := Scalar.andi v283 v280
  let v285 : BitVec 32 := Scalar.addi v279 v278
  let v286 : BitVec 32 := Scalar.select v284 v285 v279
  let v294 : Index := Scalar.indexCast v286
  let c0_154 : Index := 0#32
  let c0_155 : Index := 0#32
  ![v294.toNat, 0, 0]
def k0_mult152 (i : grid0.Coords) (k0_t8 : Fin (k0_t8_loop i).trips) : BitVec 32 :=
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v276 : BitVec 32 := Scalar.muli c2_i32_144 arg24
  let c256_i32_157 : BitVec 32 := 256#32
  let v298 : BitVec 32 := Scalar.muli v276 c256_i32_157
  let c0_i32_158 : BitVec 32 := 0#32
  let v299 : BitVec 32 := Scalar.addi v298 c0_i32_158
  v299
def k0_off838 (i : grid0.Coords) (k0_t8 : Fin (k0_t8_loop i).trips) (c0_i32_158 : BitVec 32) : Fin 2 → Nat :=
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v276 : BitVec 32 := Scalar.muli c2_i32_144 arg24
  let c256_i32_157 : BitVec 32 := 256#32
  let v298 : BitVec 32 := Scalar.muli v276 c256_i32_157
  let v299 : BitVec 32 := Scalar.addi v298 c0_i32_158
  let v300 : BitVec 32 := v299
  let v332 : Index := Scalar.indexCast v300
  let c0_161 : Index := 0#32
  ![v332.toNat, 0]
def k0_mult153 (i : grid0.Coords) (k0_t8 : Fin (k0_t8_loop i).trips) : BitVec 32 :=
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v276 : BitVec 32 := Scalar.muli c2_i32_144 arg24
  let c256_i32_163 : BitVec 32 := 256#32
  let v354 : BitVec 32 := Scalar.muli v276 c256_i32_163
  let c128_i32_164 : BitVec 32 := 128#32
  let v355 : BitVec 32 := Scalar.addi v354 c128_i32_164
  v355
def k0_off839 (i : grid0.Coords) (k0_t8 : Fin (k0_t8_loop i).trips) : Fin 4 → Nat :=
  let c0_405 : Index := 0#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v276 : BitVec 32 := Scalar.muli c2_i32_144 arg24
  let v1130 : Index := Scalar.indexCast v276
  let c0_406 : Index := 0#32
  let c0_407 : Index := 0#32
  ![0, v1130.toNat, 0, 0]
def k0_off840 (i : grid0.Coords) (k0_t8 : Fin (k0_t8_loop i).trips) : Fin 4 → Nat :=
  let c1_408 : Index := 1#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v276 : BitVec 32 := Scalar.muli c2_i32_144 arg24
  let v1134 : Index := Scalar.indexCast v276
  let c0_409 : Index := 0#32
  let c0_410 : Index := 0#32
  ![1, v1134.toNat, 0, 0]
def k0_off841 (i : grid0.Coords) (k0_t8 : Fin (k0_t8_loop i).trips) : Fin 4 → Nat :=
  let c2_411 : Index := 2#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v276 : BitVec 32 := Scalar.muli c2_i32_144 arg24
  let v1138 : Index := Scalar.indexCast v276
  let c0_412 : Index := 0#32
  let c0_413 : Index := 0#32
  ![2, v1138.toNat, 0, 0]
def k0_off842 (i : grid0.Coords) (k0_t8 : Fin (k0_t8_loop i).trips) : Fin 4 → Nat :=
  let c3_414 : Index := 3#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v276 : BitVec 32 := Scalar.muli c2_i32_144 arg24
  let v1142 : Index := Scalar.indexCast v276
  let c0_415 : Index := 0#32
  let c0_416 : Index := 0#32
  ![3, v1142.toNat, 0, 0]
def k0_off843 (i : grid0.Coords) (k0_t8 : Fin (k0_t8_loop i).trips) : Fin 4 → Nat :=
  let c4_417 : Index := 4#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v276 : BitVec 32 := Scalar.muli c2_i32_144 arg24
  let v1146 : Index := Scalar.indexCast v276
  let c0_418 : Index := 0#32
  let c0_419 : Index := 0#32
  ![4, v1146.toNat, 0, 0]
def k0_off844 (i : grid0.Coords) (k0_t8 : Fin (k0_t8_loop i).trips) : Fin 4 → Nat :=
  let c5_420 : Index := 5#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v276 : BitVec 32 := Scalar.muli c2_i32_144 arg24
  let v1150 : Index := Scalar.indexCast v276
  let c0_421 : Index := 0#32
  let c0_422 : Index := 0#32
  ![5, v1150.toNat, 0, 0]
def k0_off845 (i : grid0.Coords) (k0_t8 : Fin (k0_t8_loop i).trips) : Fin 4 → Nat :=
  let c6_423 : Index := 6#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v276 : BitVec 32 := Scalar.muli c2_i32_144 arg24
  let v1154 : Index := Scalar.indexCast v276
  let c0_424 : Index := 0#32
  let c0_425 : Index := 0#32
  ![6, v1154.toNat, 0, 0]
def k0_off846 (i : grid0.Coords) (k0_t8 : Fin (k0_t8_loop i).trips) : Fin 4 → Nat :=
  let c7_426 : Index := 7#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v276 : BitVec 32 := Scalar.muli c2_i32_144 arg24
  let v1158 : Index := Scalar.indexCast v276
  let c0_427 : Index := 0#32
  let c0_428 : Index := 0#32
  ![7, v1158.toNat, 0, 0]
def k0_off847 (i : grid0.Coords) (k0_t8 : Fin (k0_t8_loop i).trips) : Fin 4 → Nat :=
  let c8 : Index := 8#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v276 : BitVec 32 := Scalar.muli c2_i32_144 arg24
  let v1162 : Index := Scalar.indexCast v276
  let c0_429 : Index := 0#32
  let c0_430 : Index := 0#32
  ![8, v1162.toNat, 0, 0]
def k0_off848 (i : grid0.Coords) (k0_t8 : Fin (k0_t8_loop i).trips) : Fin 4 → Nat :=
  let c9 : Index := 9#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v276 : BitVec 32 := Scalar.muli c2_i32_144 arg24
  let v1166 : Index := Scalar.indexCast v276
  let c0_431 : Index := 0#32
  let c0_432 : Index := 0#32
  ![9, v1166.toNat, 0, 0]
def k0_off849 (i : grid0.Coords) (k0_t8 : Fin (k0_t8_loop i).trips) : Fin 4 → Nat :=
  let c10 : Index := 10#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v276 : BitVec 32 := Scalar.muli c2_i32_144 arg24
  let v1170 : Index := Scalar.indexCast v276
  let c0_433 : Index := 0#32
  let c0_434 : Index := 0#32
  ![10, v1170.toNat, 0, 0]
def k0_off850 (i : grid0.Coords) (k0_t8 : Fin (k0_t8_loop i).trips) : Fin 4 → Nat :=
  let c11 : Index := 11#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v276 : BitVec 32 := Scalar.muli c2_i32_144 arg24
  let v1174 : Index := Scalar.indexCast v276
  let c0_435 : Index := 0#32
  let c0_436 : Index := 0#32
  ![11, v1174.toNat, 0, 0]
def k0_off851 (i : grid0.Coords) (k0_t8 : Fin (k0_t8_loop i).trips) : Fin 4 → Nat :=
  let c12 : Index := 12#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v276 : BitVec 32 := Scalar.muli c2_i32_144 arg24
  let v1178 : Index := Scalar.indexCast v276
  let c0_437 : Index := 0#32
  let c0_438 : Index := 0#32
  ![12, v1178.toNat, 0, 0]
def k0_off852 (i : grid0.Coords) (k0_t8 : Fin (k0_t8_loop i).trips) : Fin 4 → Nat :=
  let c13 : Index := 13#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v276 : BitVec 32 := Scalar.muli c2_i32_144 arg24
  let v1182 : Index := Scalar.indexCast v276
  let c0_439 : Index := 0#32
  let c0_440 : Index := 0#32
  ![13, v1182.toNat, 0, 0]
def k0_off853 (i : grid0.Coords) (k0_t8 : Fin (k0_t8_loop i).trips) : Fin 4 → Nat :=
  let c14 : Index := 14#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v276 : BitVec 32 := Scalar.muli c2_i32_144 arg24
  let v1186 : Index := Scalar.indexCast v276
  let c0_441 : Index := 0#32
  let c0_442 : Index := 0#32
  ![14, v1186.toNat, 0, 0]
def k0_off854 (i : grid0.Coords) (k0_t8 : Fin (k0_t8_loop i).trips) : Fin 4 → Nat :=
  let c15 : Index := 15#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v276 : BitVec 32 := Scalar.muli c2_i32_144 arg24
  let v1190 : Index := Scalar.indexCast v276
  let c0_443 : Index := 0#32
  let c0_444 : Index := 0#32
  ![15, v1190.toNat, 0, 0]
def k0_off855 (i : grid0.Coords) (k0_t8 : Fin (k0_t8_loop i).trips) : Fin 4 → Nat :=
  let c16 : Index := 16#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v276 : BitVec 32 := Scalar.muli c2_i32_144 arg24
  let v1194 : Index := Scalar.indexCast v276
  let c0_445 : Index := 0#32
  let c0_446 : Index := 0#32
  ![16, v1194.toNat, 0, 0]
def k0_off856 (i : grid0.Coords) (k0_t8 : Fin (k0_t8_loop i).trips) : Fin 4 → Nat :=
  let c17 : Index := 17#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v276 : BitVec 32 := Scalar.muli c2_i32_144 arg24
  let v1198 : Index := Scalar.indexCast v276
  let c0_447 : Index := 0#32
  let c0_448 : Index := 0#32
  ![17, v1198.toNat, 0, 0]
def k0_off857 (i : grid0.Coords) (k0_t8 : Fin (k0_t8_loop i).trips) : Fin 4 → Nat :=
  let c18 : Index := 18#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v276 : BitVec 32 := Scalar.muli c2_i32_144 arg24
  let v1202 : Index := Scalar.indexCast v276
  let c0_449 : Index := 0#32
  let c0_450 : Index := 0#32
  ![18, v1202.toNat, 0, 0]
def k0_off858 (i : grid0.Coords) (k0_t8 : Fin (k0_t8_loop i).trips) : Fin 4 → Nat :=
  let c19 : Index := 19#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v276 : BitVec 32 := Scalar.muli c2_i32_144 arg24
  let v1206 : Index := Scalar.indexCast v276
  let c0_451 : Index := 0#32
  let c0_452 : Index := 0#32
  ![19, v1206.toNat, 0, 0]
def k0_off859 (i : grid0.Coords) (k0_t8 : Fin (k0_t8_loop i).trips) : Fin 4 → Nat :=
  let c20 : Index := 20#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v276 : BitVec 32 := Scalar.muli c2_i32_144 arg24
  let v1210 : Index := Scalar.indexCast v276
  let c0_453 : Index := 0#32
  let c0_454 : Index := 0#32
  ![20, v1210.toNat, 0, 0]
def k0_off860 (i : grid0.Coords) (k0_t8 : Fin (k0_t8_loop i).trips) : Fin 4 → Nat :=
  let c21 : Index := 21#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v276 : BitVec 32 := Scalar.muli c2_i32_144 arg24
  let v1214 : Index := Scalar.indexCast v276
  let c0_455 : Index := 0#32
  let c0_456 : Index := 0#32
  ![21, v1214.toNat, 0, 0]
def k0_off861 (i : grid0.Coords) (k0_t8 : Fin (k0_t8_loop i).trips) : Fin 4 → Nat :=
  let c22 : Index := 22#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v276 : BitVec 32 := Scalar.muli c2_i32_144 arg24
  let v1218 : Index := Scalar.indexCast v276
  let c0_457 : Index := 0#32
  let c0_458 : Index := 0#32
  ![22, v1218.toNat, 0, 0]
def k0_off862 (i : grid0.Coords) (k0_t8 : Fin (k0_t8_loop i).trips) : Fin 4 → Nat :=
  let c23 : Index := 23#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v276 : BitVec 32 := Scalar.muli c2_i32_144 arg24
  let v1222 : Index := Scalar.indexCast v276
  let c0_459 : Index := 0#32
  let c0_460 : Index := 0#32
  ![23, v1222.toNat, 0, 0]
def k0_off863 (i : grid0.Coords) (k0_t8 : Fin (k0_t8_loop i).trips) : Fin 4 → Nat :=
  let c24 : Index := 24#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v276 : BitVec 32 := Scalar.muli c2_i32_144 arg24
  let v1226 : Index := Scalar.indexCast v276
  let c0_461 : Index := 0#32
  let c0_462 : Index := 0#32
  ![24, v1226.toNat, 0, 0]
def k0_off864 (i : grid0.Coords) (k0_t8 : Fin (k0_t8_loop i).trips) : Fin 4 → Nat :=
  let c25 : Index := 25#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v276 : BitVec 32 := Scalar.muli c2_i32_144 arg24
  let v1230 : Index := Scalar.indexCast v276
  let c0_463 : Index := 0#32
  let c0_464 : Index := 0#32
  ![25, v1230.toNat, 0, 0]
def k0_off865 (i : grid0.Coords) (k0_t8 : Fin (k0_t8_loop i).trips) : Fin 4 → Nat :=
  let c26 : Index := 26#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v276 : BitVec 32 := Scalar.muli c2_i32_144 arg24
  let v1234 : Index := Scalar.indexCast v276
  let c0_465 : Index := 0#32
  let c0_466 : Index := 0#32
  ![26, v1234.toNat, 0, 0]
def k0_off866 (i : grid0.Coords) (k0_t8 : Fin (k0_t8_loop i).trips) : Fin 4 → Nat :=
  let c27 : Index := 27#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v276 : BitVec 32 := Scalar.muli c2_i32_144 arg24
  let v1238 : Index := Scalar.indexCast v276
  let c0_467 : Index := 0#32
  let c0_468 : Index := 0#32
  ![27, v1238.toNat, 0, 0]
def k0_off867 (i : grid0.Coords) (k0_t8 : Fin (k0_t8_loop i).trips) : Fin 4 → Nat :=
  let c28 : Index := 28#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v276 : BitVec 32 := Scalar.muli c2_i32_144 arg24
  let v1242 : Index := Scalar.indexCast v276
  let c0_469 : Index := 0#32
  let c0_470 : Index := 0#32
  ![28, v1242.toNat, 0, 0]
def k0_off868 (i : grid0.Coords) (k0_t8 : Fin (k0_t8_loop i).trips) : Fin 4 → Nat :=
  let c29 : Index := 29#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v276 : BitVec 32 := Scalar.muli c2_i32_144 arg24
  let v1246 : Index := Scalar.indexCast v276
  let c0_471 : Index := 0#32
  let c0_472 : Index := 0#32
  ![29, v1246.toNat, 0, 0]
def k0_off869 (i : grid0.Coords) (k0_t8 : Fin (k0_t8_loop i).trips) : Fin 4 → Nat :=
  let c30 : Index := 30#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v276 : BitVec 32 := Scalar.muli c2_i32_144 arg24
  let v1250 : Index := Scalar.indexCast v276
  let c0_473 : Index := 0#32
  let c0_474 : Index := 0#32
  ![30, v1250.toNat, 0, 0]
def k0_off870 (i : grid0.Coords) (k0_t8 : Fin (k0_t8_loop i).trips) : Fin 4 → Nat :=
  let c31 : Index := 31#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v276 : BitVec 32 := Scalar.muli c2_i32_144 arg24
  let v1254 : Index := Scalar.indexCast v276
  let c0_475 : Index := 0#32
  let c0_476 : Index := 0#32
  ![31, v1254.toNat, 0, 0]
def k0_mult154 (i : grid0.Coords) (k0_t8 : Fin (k0_t8_loop i).trips) : BitVec 32 :=
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v1258 : BitVec 32 := Scalar.muli c2_i32_477 arg24
  let c1_i32_478 : BitVec 32 := 1#32
  let v1259 : BitVec 32 := Scalar.addi v1258 c1_i32_478
  let c256_i32_486 : BitVec 32 := 256#32
  let v1273 : BitVec 32 := Scalar.muli v1259 c256_i32_486
  v1273
def k0_off871 (i : grid0.Coords) (k0_t8 : Fin (k0_t8_loop i).trips) : Fin 2 → Nat :=
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v1258 : BitVec 32 := Scalar.muli c2_i32_477 arg24
  let c1_i32_478 : BitVec 32 := 1#32
  let v1259 : BitVec 32 := Scalar.addi v1258 c1_i32_478
  let c256_i32_486 : BitVec 32 := 256#32
  let v1273 : BitVec 32 := Scalar.muli v1259 c256_i32_486
  let v1274 : BitVec 32 := v1273
  let v1275 : Index := Scalar.indexCast v1274
  let c0_487 : Index := 0#32
  ![v1275.toNat, 0]
def k0_mult155 (i : grid0.Coords) (k0_t8 : Fin (k0_t8_loop i).trips) : BitVec 32 :=
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v1258 : BitVec 32 := Scalar.muli c2_i32_477 arg24
  let c1_i32_478 : BitVec 32 := 1#32
  let v1259 : BitVec 32 := Scalar.addi v1258 c1_i32_478
  let c256_i32_491 : BitVec 32 := 256#32
  let v1281 : BitVec 32 := Scalar.muli v1259 c256_i32_491
  let c0_i32_492 : BitVec 32 := 0#32
  let v1282 : BitVec 32 := Scalar.addi v1281 c0_i32_492
  v1282
def k0_off872 (i : grid0.Coords) (k0_t8 : Fin (k0_t8_loop i).trips) (c0_i32_492 : BitVec 32) : Fin 2 → Nat :=
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v1258 : BitVec 32 := Scalar.muli c2_i32_477 arg24
  let c1_i32_478 : BitVec 32 := 1#32
  let v1259 : BitVec 32 := Scalar.addi v1258 c1_i32_478
  let c256_i32_491 : BitVec 32 := 256#32
  let v1281 : BitVec 32 := Scalar.muli v1259 c256_i32_491
  let v1282 : BitVec 32 := Scalar.addi v1281 c0_i32_492
  let v1283 : BitVec 32 := v1282
  let v1315 : Index := Scalar.indexCast v1283
  let c0_497 : Index := 0#32
  ![v1315.toNat, 0]
def k0_mult156 (i : grid0.Coords) (k0_t8 : Fin (k0_t8_loop i).trips) : BitVec 32 :=
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v1258 : BitVec 32 := Scalar.muli c2_i32_477 arg24
  let c1_i32_478 : BitVec 32 := 1#32
  let v1259 : BitVec 32 := Scalar.addi v1258 c1_i32_478
  let c256_i32_499 : BitVec 32 := 256#32
  let v1337 : BitVec 32 := Scalar.muli v1259 c256_i32_499
  let c128_i32_500 : BitVec 32 := 128#32
  let v1338 : BitVec 32 := Scalar.addi v1337 c128_i32_500
  v1338
def k0_off873 (i : grid0.Coords) (k0_t8 : Fin (k0_t8_loop i).trips) : Fin 4 → Nat :=
  let c0_747 : Index := 0#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v1258 : BitVec 32 := Scalar.muli c2_i32_477 arg24
  let c1_i32_478 : BitVec 32 := 1#32
  let v1259 : BitVec 32 := Scalar.addi v1258 c1_i32_478
  let v2113 : Index := Scalar.indexCast v1259
  let c0_748 : Index := 0#32
  let c0_749 : Index := 0#32
  ![0, v2113.toNat, 0, 0]
def k0_off874 (i : grid0.Coords) (k0_t8 : Fin (k0_t8_loop i).trips) : Fin 4 → Nat :=
  let c1_750 : Index := 1#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v1258 : BitVec 32 := Scalar.muli c2_i32_477 arg24
  let c1_i32_478 : BitVec 32 := 1#32
  let v1259 : BitVec 32 := Scalar.addi v1258 c1_i32_478
  let v2117 : Index := Scalar.indexCast v1259
  let c0_751 : Index := 0#32
  let c0_752 : Index := 0#32
  ![1, v2117.toNat, 0, 0]
def k0_off875 (i : grid0.Coords) (k0_t8 : Fin (k0_t8_loop i).trips) : Fin 4 → Nat :=
  let c2_753 : Index := 2#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v1258 : BitVec 32 := Scalar.muli c2_i32_477 arg24
  let c1_i32_478 : BitVec 32 := 1#32
  let v1259 : BitVec 32 := Scalar.addi v1258 c1_i32_478
  let v2121 : Index := Scalar.indexCast v1259
  let c0_754 : Index := 0#32
  let c0_755 : Index := 0#32
  ![2, v2121.toNat, 0, 0]
def k0_off876 (i : grid0.Coords) (k0_t8 : Fin (k0_t8_loop i).trips) : Fin 4 → Nat :=
  let c3_756 : Index := 3#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v1258 : BitVec 32 := Scalar.muli c2_i32_477 arg24
  let c1_i32_478 : BitVec 32 := 1#32
  let v1259 : BitVec 32 := Scalar.addi v1258 c1_i32_478
  let v2125 : Index := Scalar.indexCast v1259
  let c0_757 : Index := 0#32
  let c0_758 : Index := 0#32
  ![3, v2125.toNat, 0, 0]
def k0_off877 (i : grid0.Coords) (k0_t8 : Fin (k0_t8_loop i).trips) : Fin 4 → Nat :=
  let c4_759 : Index := 4#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v1258 : BitVec 32 := Scalar.muli c2_i32_477 arg24
  let c1_i32_478 : BitVec 32 := 1#32
  let v1259 : BitVec 32 := Scalar.addi v1258 c1_i32_478
  let v2129 : Index := Scalar.indexCast v1259
  let c0_760 : Index := 0#32
  let c0_761 : Index := 0#32
  ![4, v2129.toNat, 0, 0]
def k0_off878 (i : grid0.Coords) (k0_t8 : Fin (k0_t8_loop i).trips) : Fin 4 → Nat :=
  let c5_762 : Index := 5#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v1258 : BitVec 32 := Scalar.muli c2_i32_477 arg24
  let c1_i32_478 : BitVec 32 := 1#32
  let v1259 : BitVec 32 := Scalar.addi v1258 c1_i32_478
  let v2133 : Index := Scalar.indexCast v1259
  let c0_763 : Index := 0#32
  let c0_764 : Index := 0#32
  ![5, v2133.toNat, 0, 0]
def k0_off879 (i : grid0.Coords) (k0_t8 : Fin (k0_t8_loop i).trips) : Fin 4 → Nat :=
  let c6_765 : Index := 6#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v1258 : BitVec 32 := Scalar.muli c2_i32_477 arg24
  let c1_i32_478 : BitVec 32 := 1#32
  let v1259 : BitVec 32 := Scalar.addi v1258 c1_i32_478
  let v2137 : Index := Scalar.indexCast v1259
  let c0_766 : Index := 0#32
  let c0_767 : Index := 0#32
  ![6, v2137.toNat, 0, 0]
def k0_off880 (i : grid0.Coords) (k0_t8 : Fin (k0_t8_loop i).trips) : Fin 4 → Nat :=
  let c7_768 : Index := 7#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v1258 : BitVec 32 := Scalar.muli c2_i32_477 arg24
  let c1_i32_478 : BitVec 32 := 1#32
  let v1259 : BitVec 32 := Scalar.addi v1258 c1_i32_478
  let v2141 : Index := Scalar.indexCast v1259
  let c0_769 : Index := 0#32
  let c0_770 : Index := 0#32
  ![7, v2141.toNat, 0, 0]
def k0_off881 (i : grid0.Coords) (k0_t8 : Fin (k0_t8_loop i).trips) : Fin 4 → Nat :=
  let c8_771 : Index := 8#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v1258 : BitVec 32 := Scalar.muli c2_i32_477 arg24
  let c1_i32_478 : BitVec 32 := 1#32
  let v1259 : BitVec 32 := Scalar.addi v1258 c1_i32_478
  let v2145 : Index := Scalar.indexCast v1259
  let c0_772 : Index := 0#32
  let c0_773 : Index := 0#32
  ![8, v2145.toNat, 0, 0]
def k0_off882 (i : grid0.Coords) (k0_t8 : Fin (k0_t8_loop i).trips) : Fin 4 → Nat :=
  let c9_774 : Index := 9#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v1258 : BitVec 32 := Scalar.muli c2_i32_477 arg24
  let c1_i32_478 : BitVec 32 := 1#32
  let v1259 : BitVec 32 := Scalar.addi v1258 c1_i32_478
  let v2149 : Index := Scalar.indexCast v1259
  let c0_775 : Index := 0#32
  let c0_776 : Index := 0#32
  ![9, v2149.toNat, 0, 0]
def k0_off883 (i : grid0.Coords) (k0_t8 : Fin (k0_t8_loop i).trips) : Fin 4 → Nat :=
  let c10_777 : Index := 10#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v1258 : BitVec 32 := Scalar.muli c2_i32_477 arg24
  let c1_i32_478 : BitVec 32 := 1#32
  let v1259 : BitVec 32 := Scalar.addi v1258 c1_i32_478
  let v2153 : Index := Scalar.indexCast v1259
  let c0_778 : Index := 0#32
  let c0_779 : Index := 0#32
  ![10, v2153.toNat, 0, 0]
def k0_off884 (i : grid0.Coords) (k0_t8 : Fin (k0_t8_loop i).trips) : Fin 4 → Nat :=
  let c11_780 : Index := 11#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v1258 : BitVec 32 := Scalar.muli c2_i32_477 arg24
  let c1_i32_478 : BitVec 32 := 1#32
  let v1259 : BitVec 32 := Scalar.addi v1258 c1_i32_478
  let v2157 : Index := Scalar.indexCast v1259
  let c0_781 : Index := 0#32
  let c0_782 : Index := 0#32
  ![11, v2157.toNat, 0, 0]
def k0_off885 (i : grid0.Coords) (k0_t8 : Fin (k0_t8_loop i).trips) : Fin 4 → Nat :=
  let c12_783 : Index := 12#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v1258 : BitVec 32 := Scalar.muli c2_i32_477 arg24
  let c1_i32_478 : BitVec 32 := 1#32
  let v1259 : BitVec 32 := Scalar.addi v1258 c1_i32_478
  let v2161 : Index := Scalar.indexCast v1259
  let c0_784 : Index := 0#32
  let c0_785 : Index := 0#32
  ![12, v2161.toNat, 0, 0]
def k0_off886 (i : grid0.Coords) (k0_t8 : Fin (k0_t8_loop i).trips) : Fin 4 → Nat :=
  let c13_786 : Index := 13#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v1258 : BitVec 32 := Scalar.muli c2_i32_477 arg24
  let c1_i32_478 : BitVec 32 := 1#32
  let v1259 : BitVec 32 := Scalar.addi v1258 c1_i32_478
  let v2165 : Index := Scalar.indexCast v1259
  let c0_787 : Index := 0#32
  let c0_788 : Index := 0#32
  ![13, v2165.toNat, 0, 0]
def k0_off887 (i : grid0.Coords) (k0_t8 : Fin (k0_t8_loop i).trips) : Fin 4 → Nat :=
  let c14_789 : Index := 14#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v1258 : BitVec 32 := Scalar.muli c2_i32_477 arg24
  let c1_i32_478 : BitVec 32 := 1#32
  let v1259 : BitVec 32 := Scalar.addi v1258 c1_i32_478
  let v2169 : Index := Scalar.indexCast v1259
  let c0_790 : Index := 0#32
  let c0_791 : Index := 0#32
  ![14, v2169.toNat, 0, 0]
def k0_off888 (i : grid0.Coords) (k0_t8 : Fin (k0_t8_loop i).trips) : Fin 4 → Nat :=
  let c15_792 : Index := 15#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v1258 : BitVec 32 := Scalar.muli c2_i32_477 arg24
  let c1_i32_478 : BitVec 32 := 1#32
  let v1259 : BitVec 32 := Scalar.addi v1258 c1_i32_478
  let v2173 : Index := Scalar.indexCast v1259
  let c0_793 : Index := 0#32
  let c0_794 : Index := 0#32
  ![15, v2173.toNat, 0, 0]
def k0_off889 (i : grid0.Coords) (k0_t8 : Fin (k0_t8_loop i).trips) : Fin 4 → Nat :=
  let c16_795 : Index := 16#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v1258 : BitVec 32 := Scalar.muli c2_i32_477 arg24
  let c1_i32_478 : BitVec 32 := 1#32
  let v1259 : BitVec 32 := Scalar.addi v1258 c1_i32_478
  let v2177 : Index := Scalar.indexCast v1259
  let c0_796 : Index := 0#32
  let c0_797 : Index := 0#32
  ![16, v2177.toNat, 0, 0]
def k0_off890 (i : grid0.Coords) (k0_t8 : Fin (k0_t8_loop i).trips) : Fin 4 → Nat :=
  let c17_798 : Index := 17#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v1258 : BitVec 32 := Scalar.muli c2_i32_477 arg24
  let c1_i32_478 : BitVec 32 := 1#32
  let v1259 : BitVec 32 := Scalar.addi v1258 c1_i32_478
  let v2181 : Index := Scalar.indexCast v1259
  let c0_799 : Index := 0#32
  let c0_800 : Index := 0#32
  ![17, v2181.toNat, 0, 0]
def k0_off891 (i : grid0.Coords) (k0_t8 : Fin (k0_t8_loop i).trips) : Fin 4 → Nat :=
  let c18_801 : Index := 18#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v1258 : BitVec 32 := Scalar.muli c2_i32_477 arg24
  let c1_i32_478 : BitVec 32 := 1#32
  let v1259 : BitVec 32 := Scalar.addi v1258 c1_i32_478
  let v2185 : Index := Scalar.indexCast v1259
  let c0_802 : Index := 0#32
  let c0_803 : Index := 0#32
  ![18, v2185.toNat, 0, 0]
def k0_off892 (i : grid0.Coords) (k0_t8 : Fin (k0_t8_loop i).trips) : Fin 4 → Nat :=
  let c19_804 : Index := 19#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v1258 : BitVec 32 := Scalar.muli c2_i32_477 arg24
  let c1_i32_478 : BitVec 32 := 1#32
  let v1259 : BitVec 32 := Scalar.addi v1258 c1_i32_478
  let v2189 : Index := Scalar.indexCast v1259
  let c0_805 : Index := 0#32
  let c0_806 : Index := 0#32
  ![19, v2189.toNat, 0, 0]
def k0_off893 (i : grid0.Coords) (k0_t8 : Fin (k0_t8_loop i).trips) : Fin 4 → Nat :=
  let c20_807 : Index := 20#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v1258 : BitVec 32 := Scalar.muli c2_i32_477 arg24
  let c1_i32_478 : BitVec 32 := 1#32
  let v1259 : BitVec 32 := Scalar.addi v1258 c1_i32_478
  let v2193 : Index := Scalar.indexCast v1259
  let c0_808 : Index := 0#32
  let c0_809 : Index := 0#32
  ![20, v2193.toNat, 0, 0]
def k0_off894 (i : grid0.Coords) (k0_t8 : Fin (k0_t8_loop i).trips) : Fin 4 → Nat :=
  let c21_810 : Index := 21#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v1258 : BitVec 32 := Scalar.muli c2_i32_477 arg24
  let c1_i32_478 : BitVec 32 := 1#32
  let v1259 : BitVec 32 := Scalar.addi v1258 c1_i32_478
  let v2197 : Index := Scalar.indexCast v1259
  let c0_811 : Index := 0#32
  let c0_812 : Index := 0#32
  ![21, v2197.toNat, 0, 0]
def k0_off895 (i : grid0.Coords) (k0_t8 : Fin (k0_t8_loop i).trips) : Fin 4 → Nat :=
  let c22_813 : Index := 22#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v1258 : BitVec 32 := Scalar.muli c2_i32_477 arg24
  let c1_i32_478 : BitVec 32 := 1#32
  let v1259 : BitVec 32 := Scalar.addi v1258 c1_i32_478
  let v2201 : Index := Scalar.indexCast v1259
  let c0_814 : Index := 0#32
  let c0_815 : Index := 0#32
  ![22, v2201.toNat, 0, 0]
def k0_off896 (i : grid0.Coords) (k0_t8 : Fin (k0_t8_loop i).trips) : Fin 4 → Nat :=
  let c23_816 : Index := 23#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v1258 : BitVec 32 := Scalar.muli c2_i32_477 arg24
  let c1_i32_478 : BitVec 32 := 1#32
  let v1259 : BitVec 32 := Scalar.addi v1258 c1_i32_478
  let v2205 : Index := Scalar.indexCast v1259
  let c0_817 : Index := 0#32
  let c0_818 : Index := 0#32
  ![23, v2205.toNat, 0, 0]
def k0_off897 (i : grid0.Coords) (k0_t8 : Fin (k0_t8_loop i).trips) : Fin 4 → Nat :=
  let c24_819 : Index := 24#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v1258 : BitVec 32 := Scalar.muli c2_i32_477 arg24
  let c1_i32_478 : BitVec 32 := 1#32
  let v1259 : BitVec 32 := Scalar.addi v1258 c1_i32_478
  let v2209 : Index := Scalar.indexCast v1259
  let c0_820 : Index := 0#32
  let c0_821 : Index := 0#32
  ![24, v2209.toNat, 0, 0]
def k0_off898 (i : grid0.Coords) (k0_t8 : Fin (k0_t8_loop i).trips) : Fin 4 → Nat :=
  let c25_822 : Index := 25#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v1258 : BitVec 32 := Scalar.muli c2_i32_477 arg24
  let c1_i32_478 : BitVec 32 := 1#32
  let v1259 : BitVec 32 := Scalar.addi v1258 c1_i32_478
  let v2213 : Index := Scalar.indexCast v1259
  let c0_823 : Index := 0#32
  let c0_824 : Index := 0#32
  ![25, v2213.toNat, 0, 0]
def k0_off899 (i : grid0.Coords) (k0_t8 : Fin (k0_t8_loop i).trips) : Fin 4 → Nat :=
  let c26_825 : Index := 26#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v1258 : BitVec 32 := Scalar.muli c2_i32_477 arg24
  let c1_i32_478 : BitVec 32 := 1#32
  let v1259 : BitVec 32 := Scalar.addi v1258 c1_i32_478
  let v2217 : Index := Scalar.indexCast v1259
  let c0_826 : Index := 0#32
  let c0_827 : Index := 0#32
  ![26, v2217.toNat, 0, 0]
def k0_off900 (i : grid0.Coords) (k0_t8 : Fin (k0_t8_loop i).trips) : Fin 4 → Nat :=
  let c27_828 : Index := 27#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v1258 : BitVec 32 := Scalar.muli c2_i32_477 arg24
  let c1_i32_478 : BitVec 32 := 1#32
  let v1259 : BitVec 32 := Scalar.addi v1258 c1_i32_478
  let v2221 : Index := Scalar.indexCast v1259
  let c0_829 : Index := 0#32
  let c0_830 : Index := 0#32
  ![27, v2221.toNat, 0, 0]
def k0_off901 (i : grid0.Coords) (k0_t8 : Fin (k0_t8_loop i).trips) : Fin 4 → Nat :=
  let c28_831 : Index := 28#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v1258 : BitVec 32 := Scalar.muli c2_i32_477 arg24
  let c1_i32_478 : BitVec 32 := 1#32
  let v1259 : BitVec 32 := Scalar.addi v1258 c1_i32_478
  let v2225 : Index := Scalar.indexCast v1259
  let c0_832 : Index := 0#32
  let c0_833 : Index := 0#32
  ![28, v2225.toNat, 0, 0]
def k0_off902 (i : grid0.Coords) (k0_t8 : Fin (k0_t8_loop i).trips) : Fin 4 → Nat :=
  let c29_834 : Index := 29#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v1258 : BitVec 32 := Scalar.muli c2_i32_477 arg24
  let c1_i32_478 : BitVec 32 := 1#32
  let v1259 : BitVec 32 := Scalar.addi v1258 c1_i32_478
  let v2229 : Index := Scalar.indexCast v1259
  let c0_835 : Index := 0#32
  let c0_836 : Index := 0#32
  ![29, v2229.toNat, 0, 0]
def k0_off903 (i : grid0.Coords) (k0_t8 : Fin (k0_t8_loop i).trips) : Fin 4 → Nat :=
  let c30_837 : Index := 30#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v1258 : BitVec 32 := Scalar.muli c2_i32_477 arg24
  let c1_i32_478 : BitVec 32 := 1#32
  let v1259 : BitVec 32 := Scalar.addi v1258 c1_i32_478
  let v2233 : Index := Scalar.indexCast v1259
  let c0_838 : Index := 0#32
  let c0_839 : Index := 0#32
  ![30, v2233.toNat, 0, 0]
def k0_off904 (i : grid0.Coords) (k0_t8 : Fin (k0_t8_loop i).trips) : Fin 4 → Nat :=
  let c31_840 : Index := 31#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_141 : BitVec 32 := 1#32
  let arg24 : BitVec 32 := Scf.iv v103 c1_i32_141 k0_t8
  let v1258 : BitVec 32 := Scalar.muli c2_i32_477 arg24
  let c1_i32_478 : BitVec 32 := 1#32
  let v1259 : BitVec 32 := Scalar.addi v1258 c1_i32_478
  let v2237 : Index := Scalar.indexCast v1259
  let c0_841 : Index := 0#32
  let c0_842 : Index := 0#32
  ![31, v2237.toNat, 0, 0]
@[reducible] def k0_t9_loop (i : grid0.Coords) : Scf.Loop 32 :=
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let v271 : BitVec 32 := Scalar.addi v103 v270
  let c1_i32_142 : BitVec 32 := 1#32
  ⟨v274, v271, c1_i32_142⟩
def k0_mult157 (i : grid0.Coords) (k0_t9 : Fin (k0_t9_loop i).trips) : BitVec 32 :=
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v276 : BitVec 32 := Scalar.muli c2_i32_144 arg24
  let c256_i32_152 : BitVec 32 := 256#32
  let v290 : BitVec 32 := Scalar.muli v276 c256_i32_152
  v290
def k0_off905 (i : grid0.Coords) (k0_t9 : Fin (k0_t9_loop i).trips) : Fin 2 → Nat :=
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v276 : BitVec 32 := Scalar.muli c2_i32_144 arg24
  let c256_i32_152 : BitVec 32 := 256#32
  let v290 : BitVec 32 := Scalar.muli v276 c256_i32_152
  let v291 : BitVec 32 := v290
  let v292 : Index := Scalar.indexCast v291
  let c0_153 : Index := 0#32
  ![v292.toNat, 0]
def k0_off906 (i : grid0.Coords) : Fin 3 → Nat :=
  let arg1 : BitVec 32 := BitVec.ofNat 32 (i 1).val
  let c1_i32_143 : BitVec 32 := 1#32
  let v275 : BitVec 32 := Scalar.addi arg1 c1_i32_143
  let c8_i32_145 : BitVec 32 := 8#32
  let c0_i32_146 : BitVec 32 := 0#32
  let v277 : BitVec 1 := Scalar.cmpi .eq c8_i32_145 c0_i32_146
  let c1_i32_147 : BitVec 32 := 1#32
  let v278 : BitVec 32 := Scalar.select v277 c1_i32_147 c8_i32_145
  let v279 : BitVec 32 := Scalar.remsi v275 v278
  let c0_i32_149 : BitVec 32 := 0#32
  let v281 : BitVec 1 := Scalar.cmpi .slt v279 c0_i32_149
  let c0_i32_150 : BitVec 32 := 0#32
  let v282 : BitVec 1 := Scalar.cmpi .slt v278 c0_i32_150
  let v283 : BitVec 1 := Scalar.xori v281 v282
  let c0_i32_148 : BitVec 32 := 0#32
  let v280 : BitVec 1 := Scalar.cmpi .ne v279 c0_i32_148
  let v284 : BitVec 1 := Scalar.andi v283 v280
  let v285 : BitVec 32 := Scalar.addi v279 v278
  let v286 : BitVec 32 := Scalar.select v284 v285 v279
  let v294 : Index := Scalar.indexCast v286
  let c0_154 : Index := 0#32
  let c0_155 : Index := 0#32
  ![v294.toNat, 0, 0]
def k0_mult158 (i : grid0.Coords) (k0_t9 : Fin (k0_t9_loop i).trips) : BitVec 32 :=
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v276 : BitVec 32 := Scalar.muli c2_i32_144 arg24
  let c256_i32_157 : BitVec 32 := 256#32
  let v298 : BitVec 32 := Scalar.muli v276 c256_i32_157
  let c0_i32_158 : BitVec 32 := 0#32
  let v299 : BitVec 32 := Scalar.addi v298 c0_i32_158
  v299
def k0_off907 (i : grid0.Coords) (k0_t9 : Fin (k0_t9_loop i).trips) (c0_i32_158 : BitVec 32) : Fin 2 → Nat :=
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v276 : BitVec 32 := Scalar.muli c2_i32_144 arg24
  let c256_i32_157 : BitVec 32 := 256#32
  let v298 : BitVec 32 := Scalar.muli v276 c256_i32_157
  let v299 : BitVec 32 := Scalar.addi v298 c0_i32_158
  let v300 : BitVec 32 := v299
  let v332 : Index := Scalar.indexCast v300
  let c0_161 : Index := 0#32
  ![v332.toNat, 0]
def k0_mult159 (i : grid0.Coords) (k0_t9 : Fin (k0_t9_loop i).trips) : BitVec 32 :=
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v276 : BitVec 32 := Scalar.muli c2_i32_144 arg24
  let c256_i32_163 : BitVec 32 := 256#32
  let v354 : BitVec 32 := Scalar.muli v276 c256_i32_163
  let c128_i32_164 : BitVec 32 := 128#32
  let v355 : BitVec 32 := Scalar.addi v354 c128_i32_164
  v355
def k0_off908 (i : grid0.Coords) (k0_t9 : Fin (k0_t9_loop i).trips) : Fin 4 → Nat :=
  let c0_405 : Index := 0#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v276 : BitVec 32 := Scalar.muli c2_i32_144 arg24
  let v1130 : Index := Scalar.indexCast v276
  let c0_406 : Index := 0#32
  let c0_407 : Index := 0#32
  ![0, v1130.toNat, 0, 0]
def k0_off909 (i : grid0.Coords) (k0_t9 : Fin (k0_t9_loop i).trips) : Fin 4 → Nat :=
  let c1_408 : Index := 1#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v276 : BitVec 32 := Scalar.muli c2_i32_144 arg24
  let v1134 : Index := Scalar.indexCast v276
  let c0_409 : Index := 0#32
  let c0_410 : Index := 0#32
  ![1, v1134.toNat, 0, 0]
def k0_off910 (i : grid0.Coords) (k0_t9 : Fin (k0_t9_loop i).trips) : Fin 4 → Nat :=
  let c2_411 : Index := 2#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v276 : BitVec 32 := Scalar.muli c2_i32_144 arg24
  let v1138 : Index := Scalar.indexCast v276
  let c0_412 : Index := 0#32
  let c0_413 : Index := 0#32
  ![2, v1138.toNat, 0, 0]
def k0_off911 (i : grid0.Coords) (k0_t9 : Fin (k0_t9_loop i).trips) : Fin 4 → Nat :=
  let c3_414 : Index := 3#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v276 : BitVec 32 := Scalar.muli c2_i32_144 arg24
  let v1142 : Index := Scalar.indexCast v276
  let c0_415 : Index := 0#32
  let c0_416 : Index := 0#32
  ![3, v1142.toNat, 0, 0]
def k0_off912 (i : grid0.Coords) (k0_t9 : Fin (k0_t9_loop i).trips) : Fin 4 → Nat :=
  let c4_417 : Index := 4#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v276 : BitVec 32 := Scalar.muli c2_i32_144 arg24
  let v1146 : Index := Scalar.indexCast v276
  let c0_418 : Index := 0#32
  let c0_419 : Index := 0#32
  ![4, v1146.toNat, 0, 0]
def k0_off913 (i : grid0.Coords) (k0_t9 : Fin (k0_t9_loop i).trips) : Fin 4 → Nat :=
  let c5_420 : Index := 5#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v276 : BitVec 32 := Scalar.muli c2_i32_144 arg24
  let v1150 : Index := Scalar.indexCast v276
  let c0_421 : Index := 0#32
  let c0_422 : Index := 0#32
  ![5, v1150.toNat, 0, 0]
def k0_off914 (i : grid0.Coords) (k0_t9 : Fin (k0_t9_loop i).trips) : Fin 4 → Nat :=
  let c6_423 : Index := 6#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v276 : BitVec 32 := Scalar.muli c2_i32_144 arg24
  let v1154 : Index := Scalar.indexCast v276
  let c0_424 : Index := 0#32
  let c0_425 : Index := 0#32
  ![6, v1154.toNat, 0, 0]
def k0_off915 (i : grid0.Coords) (k0_t9 : Fin (k0_t9_loop i).trips) : Fin 4 → Nat :=
  let c7_426 : Index := 7#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v276 : BitVec 32 := Scalar.muli c2_i32_144 arg24
  let v1158 : Index := Scalar.indexCast v276
  let c0_427 : Index := 0#32
  let c0_428 : Index := 0#32
  ![7, v1158.toNat, 0, 0]
def k0_off916 (i : grid0.Coords) (k0_t9 : Fin (k0_t9_loop i).trips) : Fin 4 → Nat :=
  let c8 : Index := 8#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v276 : BitVec 32 := Scalar.muli c2_i32_144 arg24
  let v1162 : Index := Scalar.indexCast v276
  let c0_429 : Index := 0#32
  let c0_430 : Index := 0#32
  ![8, v1162.toNat, 0, 0]
def k0_off917 (i : grid0.Coords) (k0_t9 : Fin (k0_t9_loop i).trips) : Fin 4 → Nat :=
  let c9 : Index := 9#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v276 : BitVec 32 := Scalar.muli c2_i32_144 arg24
  let v1166 : Index := Scalar.indexCast v276
  let c0_431 : Index := 0#32
  let c0_432 : Index := 0#32
  ![9, v1166.toNat, 0, 0]
def k0_off918 (i : grid0.Coords) (k0_t9 : Fin (k0_t9_loop i).trips) : Fin 4 → Nat :=
  let c10 : Index := 10#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v276 : BitVec 32 := Scalar.muli c2_i32_144 arg24
  let v1170 : Index := Scalar.indexCast v276
  let c0_433 : Index := 0#32
  let c0_434 : Index := 0#32
  ![10, v1170.toNat, 0, 0]
def k0_off919 (i : grid0.Coords) (k0_t9 : Fin (k0_t9_loop i).trips) : Fin 4 → Nat :=
  let c11 : Index := 11#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v276 : BitVec 32 := Scalar.muli c2_i32_144 arg24
  let v1174 : Index := Scalar.indexCast v276
  let c0_435 : Index := 0#32
  let c0_436 : Index := 0#32
  ![11, v1174.toNat, 0, 0]
def k0_off920 (i : grid0.Coords) (k0_t9 : Fin (k0_t9_loop i).trips) : Fin 4 → Nat :=
  let c12 : Index := 12#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v276 : BitVec 32 := Scalar.muli c2_i32_144 arg24
  let v1178 : Index := Scalar.indexCast v276
  let c0_437 : Index := 0#32
  let c0_438 : Index := 0#32
  ![12, v1178.toNat, 0, 0]
def k0_off921 (i : grid0.Coords) (k0_t9 : Fin (k0_t9_loop i).trips) : Fin 4 → Nat :=
  let c13 : Index := 13#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v276 : BitVec 32 := Scalar.muli c2_i32_144 arg24
  let v1182 : Index := Scalar.indexCast v276
  let c0_439 : Index := 0#32
  let c0_440 : Index := 0#32
  ![13, v1182.toNat, 0, 0]
def k0_off922 (i : grid0.Coords) (k0_t9 : Fin (k0_t9_loop i).trips) : Fin 4 → Nat :=
  let c14 : Index := 14#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v276 : BitVec 32 := Scalar.muli c2_i32_144 arg24
  let v1186 : Index := Scalar.indexCast v276
  let c0_441 : Index := 0#32
  let c0_442 : Index := 0#32
  ![14, v1186.toNat, 0, 0]
def k0_off923 (i : grid0.Coords) (k0_t9 : Fin (k0_t9_loop i).trips) : Fin 4 → Nat :=
  let c15 : Index := 15#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v276 : BitVec 32 := Scalar.muli c2_i32_144 arg24
  let v1190 : Index := Scalar.indexCast v276
  let c0_443 : Index := 0#32
  let c0_444 : Index := 0#32
  ![15, v1190.toNat, 0, 0]
def k0_off924 (i : grid0.Coords) (k0_t9 : Fin (k0_t9_loop i).trips) : Fin 4 → Nat :=
  let c16 : Index := 16#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v276 : BitVec 32 := Scalar.muli c2_i32_144 arg24
  let v1194 : Index := Scalar.indexCast v276
  let c0_445 : Index := 0#32
  let c0_446 : Index := 0#32
  ![16, v1194.toNat, 0, 0]
def k0_off925 (i : grid0.Coords) (k0_t9 : Fin (k0_t9_loop i).trips) : Fin 4 → Nat :=
  let c17 : Index := 17#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v276 : BitVec 32 := Scalar.muli c2_i32_144 arg24
  let v1198 : Index := Scalar.indexCast v276
  let c0_447 : Index := 0#32
  let c0_448 : Index := 0#32
  ![17, v1198.toNat, 0, 0]
def k0_off926 (i : grid0.Coords) (k0_t9 : Fin (k0_t9_loop i).trips) : Fin 4 → Nat :=
  let c18 : Index := 18#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v276 : BitVec 32 := Scalar.muli c2_i32_144 arg24
  let v1202 : Index := Scalar.indexCast v276
  let c0_449 : Index := 0#32
  let c0_450 : Index := 0#32
  ![18, v1202.toNat, 0, 0]
def k0_off927 (i : grid0.Coords) (k0_t9 : Fin (k0_t9_loop i).trips) : Fin 4 → Nat :=
  let c19 : Index := 19#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v276 : BitVec 32 := Scalar.muli c2_i32_144 arg24
  let v1206 : Index := Scalar.indexCast v276
  let c0_451 : Index := 0#32
  let c0_452 : Index := 0#32
  ![19, v1206.toNat, 0, 0]
def k0_off928 (i : grid0.Coords) (k0_t9 : Fin (k0_t9_loop i).trips) : Fin 4 → Nat :=
  let c20 : Index := 20#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v276 : BitVec 32 := Scalar.muli c2_i32_144 arg24
  let v1210 : Index := Scalar.indexCast v276
  let c0_453 : Index := 0#32
  let c0_454 : Index := 0#32
  ![20, v1210.toNat, 0, 0]
def k0_off929 (i : grid0.Coords) (k0_t9 : Fin (k0_t9_loop i).trips) : Fin 4 → Nat :=
  let c21 : Index := 21#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v276 : BitVec 32 := Scalar.muli c2_i32_144 arg24
  let v1214 : Index := Scalar.indexCast v276
  let c0_455 : Index := 0#32
  let c0_456 : Index := 0#32
  ![21, v1214.toNat, 0, 0]
def k0_off930 (i : grid0.Coords) (k0_t9 : Fin (k0_t9_loop i).trips) : Fin 4 → Nat :=
  let c22 : Index := 22#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v276 : BitVec 32 := Scalar.muli c2_i32_144 arg24
  let v1218 : Index := Scalar.indexCast v276
  let c0_457 : Index := 0#32
  let c0_458 : Index := 0#32
  ![22, v1218.toNat, 0, 0]
def k0_off931 (i : grid0.Coords) (k0_t9 : Fin (k0_t9_loop i).trips) : Fin 4 → Nat :=
  let c23 : Index := 23#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v276 : BitVec 32 := Scalar.muli c2_i32_144 arg24
  let v1222 : Index := Scalar.indexCast v276
  let c0_459 : Index := 0#32
  let c0_460 : Index := 0#32
  ![23, v1222.toNat, 0, 0]
def k0_off932 (i : grid0.Coords) (k0_t9 : Fin (k0_t9_loop i).trips) : Fin 4 → Nat :=
  let c24 : Index := 24#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v276 : BitVec 32 := Scalar.muli c2_i32_144 arg24
  let v1226 : Index := Scalar.indexCast v276
  let c0_461 : Index := 0#32
  let c0_462 : Index := 0#32
  ![24, v1226.toNat, 0, 0]
def k0_off933 (i : grid0.Coords) (k0_t9 : Fin (k0_t9_loop i).trips) : Fin 4 → Nat :=
  let c25 : Index := 25#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v276 : BitVec 32 := Scalar.muli c2_i32_144 arg24
  let v1230 : Index := Scalar.indexCast v276
  let c0_463 : Index := 0#32
  let c0_464 : Index := 0#32
  ![25, v1230.toNat, 0, 0]
def k0_off934 (i : grid0.Coords) (k0_t9 : Fin (k0_t9_loop i).trips) : Fin 4 → Nat :=
  let c26 : Index := 26#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v276 : BitVec 32 := Scalar.muli c2_i32_144 arg24
  let v1234 : Index := Scalar.indexCast v276
  let c0_465 : Index := 0#32
  let c0_466 : Index := 0#32
  ![26, v1234.toNat, 0, 0]
def k0_off935 (i : grid0.Coords) (k0_t9 : Fin (k0_t9_loop i).trips) : Fin 4 → Nat :=
  let c27 : Index := 27#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v276 : BitVec 32 := Scalar.muli c2_i32_144 arg24
  let v1238 : Index := Scalar.indexCast v276
  let c0_467 : Index := 0#32
  let c0_468 : Index := 0#32
  ![27, v1238.toNat, 0, 0]
def k0_off936 (i : grid0.Coords) (k0_t9 : Fin (k0_t9_loop i).trips) : Fin 4 → Nat :=
  let c28 : Index := 28#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v276 : BitVec 32 := Scalar.muli c2_i32_144 arg24
  let v1242 : Index := Scalar.indexCast v276
  let c0_469 : Index := 0#32
  let c0_470 : Index := 0#32
  ![28, v1242.toNat, 0, 0]
def k0_off937 (i : grid0.Coords) (k0_t9 : Fin (k0_t9_loop i).trips) : Fin 4 → Nat :=
  let c29 : Index := 29#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v276 : BitVec 32 := Scalar.muli c2_i32_144 arg24
  let v1246 : Index := Scalar.indexCast v276
  let c0_471 : Index := 0#32
  let c0_472 : Index := 0#32
  ![29, v1246.toNat, 0, 0]
def k0_off938 (i : grid0.Coords) (k0_t9 : Fin (k0_t9_loop i).trips) : Fin 4 → Nat :=
  let c30 : Index := 30#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v276 : BitVec 32 := Scalar.muli c2_i32_144 arg24
  let v1250 : Index := Scalar.indexCast v276
  let c0_473 : Index := 0#32
  let c0_474 : Index := 0#32
  ![30, v1250.toNat, 0, 0]
def k0_off939 (i : grid0.Coords) (k0_t9 : Fin (k0_t9_loop i).trips) : Fin 4 → Nat :=
  let c31 : Index := 31#32
  let c2_i32_144 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v276 : BitVec 32 := Scalar.muli c2_i32_144 arg24
  let v1254 : Index := Scalar.indexCast v276
  let c0_475 : Index := 0#32
  let c0_476 : Index := 0#32
  ![31, v1254.toNat, 0, 0]
def k0_mult160 (i : grid0.Coords) (k0_t9 : Fin (k0_t9_loop i).trips) : BitVec 32 :=
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v1258 : BitVec 32 := Scalar.muli c2_i32_477 arg24
  let c1_i32_478 : BitVec 32 := 1#32
  let v1259 : BitVec 32 := Scalar.addi v1258 c1_i32_478
  let c256_i32_486 : BitVec 32 := 256#32
  let v1273 : BitVec 32 := Scalar.muli v1259 c256_i32_486
  v1273
def k0_off940 (i : grid0.Coords) (k0_t9 : Fin (k0_t9_loop i).trips) : Fin 2 → Nat :=
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v1258 : BitVec 32 := Scalar.muli c2_i32_477 arg24
  let c1_i32_478 : BitVec 32 := 1#32
  let v1259 : BitVec 32 := Scalar.addi v1258 c1_i32_478
  let c256_i32_486 : BitVec 32 := 256#32
  let v1273 : BitVec 32 := Scalar.muli v1259 c256_i32_486
  let v1274 : BitVec 32 := v1273
  let v1275 : Index := Scalar.indexCast v1274
  let c0_487 : Index := 0#32
  ![v1275.toNat, 0]
def k0_mult161 (i : grid0.Coords) (k0_t9 : Fin (k0_t9_loop i).trips) : BitVec 32 :=
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v1258 : BitVec 32 := Scalar.muli c2_i32_477 arg24
  let c1_i32_478 : BitVec 32 := 1#32
  let v1259 : BitVec 32 := Scalar.addi v1258 c1_i32_478
  let c256_i32_491 : BitVec 32 := 256#32
  let v1281 : BitVec 32 := Scalar.muli v1259 c256_i32_491
  let c0_i32_492 : BitVec 32 := 0#32
  let v1282 : BitVec 32 := Scalar.addi v1281 c0_i32_492
  v1282
def k0_off941 (i : grid0.Coords) (k0_t9 : Fin (k0_t9_loop i).trips) (c0_i32_492 : BitVec 32) : Fin 2 → Nat :=
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v1258 : BitVec 32 := Scalar.muli c2_i32_477 arg24
  let c1_i32_478 : BitVec 32 := 1#32
  let v1259 : BitVec 32 := Scalar.addi v1258 c1_i32_478
  let c256_i32_491 : BitVec 32 := 256#32
  let v1281 : BitVec 32 := Scalar.muli v1259 c256_i32_491
  let v1282 : BitVec 32 := Scalar.addi v1281 c0_i32_492
  let v1283 : BitVec 32 := v1282
  let v1315 : Index := Scalar.indexCast v1283
  let c0_497 : Index := 0#32
  ![v1315.toNat, 0]
def k0_mult162 (i : grid0.Coords) (k0_t9 : Fin (k0_t9_loop i).trips) : BitVec 32 :=
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v1258 : BitVec 32 := Scalar.muli c2_i32_477 arg24
  let c1_i32_478 : BitVec 32 := 1#32
  let v1259 : BitVec 32 := Scalar.addi v1258 c1_i32_478
  let c256_i32_499 : BitVec 32 := 256#32
  let v1337 : BitVec 32 := Scalar.muli v1259 c256_i32_499
  let c128_i32_500 : BitVec 32 := 128#32
  let v1338 : BitVec 32 := Scalar.addi v1337 c128_i32_500
  v1338
def k0_off942 (i : grid0.Coords) (k0_t9 : Fin (k0_t9_loop i).trips) : Fin 4 → Nat :=
  let c0_747 : Index := 0#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v1258 : BitVec 32 := Scalar.muli c2_i32_477 arg24
  let c1_i32_478 : BitVec 32 := 1#32
  let v1259 : BitVec 32 := Scalar.addi v1258 c1_i32_478
  let v2113 : Index := Scalar.indexCast v1259
  let c0_748 : Index := 0#32
  let c0_749 : Index := 0#32
  ![0, v2113.toNat, 0, 0]
def k0_off943 (i : grid0.Coords) (k0_t9 : Fin (k0_t9_loop i).trips) : Fin 4 → Nat :=
  let c1_750 : Index := 1#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v1258 : BitVec 32 := Scalar.muli c2_i32_477 arg24
  let c1_i32_478 : BitVec 32 := 1#32
  let v1259 : BitVec 32 := Scalar.addi v1258 c1_i32_478
  let v2117 : Index := Scalar.indexCast v1259
  let c0_751 : Index := 0#32
  let c0_752 : Index := 0#32
  ![1, v2117.toNat, 0, 0]
def k0_off944 (i : grid0.Coords) (k0_t9 : Fin (k0_t9_loop i).trips) : Fin 4 → Nat :=
  let c2_753 : Index := 2#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v1258 : BitVec 32 := Scalar.muli c2_i32_477 arg24
  let c1_i32_478 : BitVec 32 := 1#32
  let v1259 : BitVec 32 := Scalar.addi v1258 c1_i32_478
  let v2121 : Index := Scalar.indexCast v1259
  let c0_754 : Index := 0#32
  let c0_755 : Index := 0#32
  ![2, v2121.toNat, 0, 0]
def k0_off945 (i : grid0.Coords) (k0_t9 : Fin (k0_t9_loop i).trips) : Fin 4 → Nat :=
  let c3_756 : Index := 3#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v1258 : BitVec 32 := Scalar.muli c2_i32_477 arg24
  let c1_i32_478 : BitVec 32 := 1#32
  let v1259 : BitVec 32 := Scalar.addi v1258 c1_i32_478
  let v2125 : Index := Scalar.indexCast v1259
  let c0_757 : Index := 0#32
  let c0_758 : Index := 0#32
  ![3, v2125.toNat, 0, 0]
def k0_off946 (i : grid0.Coords) (k0_t9 : Fin (k0_t9_loop i).trips) : Fin 4 → Nat :=
  let c4_759 : Index := 4#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v1258 : BitVec 32 := Scalar.muli c2_i32_477 arg24
  let c1_i32_478 : BitVec 32 := 1#32
  let v1259 : BitVec 32 := Scalar.addi v1258 c1_i32_478
  let v2129 : Index := Scalar.indexCast v1259
  let c0_760 : Index := 0#32
  let c0_761 : Index := 0#32
  ![4, v2129.toNat, 0, 0]
def k0_off947 (i : grid0.Coords) (k0_t9 : Fin (k0_t9_loop i).trips) : Fin 4 → Nat :=
  let c5_762 : Index := 5#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v1258 : BitVec 32 := Scalar.muli c2_i32_477 arg24
  let c1_i32_478 : BitVec 32 := 1#32
  let v1259 : BitVec 32 := Scalar.addi v1258 c1_i32_478
  let v2133 : Index := Scalar.indexCast v1259
  let c0_763 : Index := 0#32
  let c0_764 : Index := 0#32
  ![5, v2133.toNat, 0, 0]
def k0_off948 (i : grid0.Coords) (k0_t9 : Fin (k0_t9_loop i).trips) : Fin 4 → Nat :=
  let c6_765 : Index := 6#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v1258 : BitVec 32 := Scalar.muli c2_i32_477 arg24
  let c1_i32_478 : BitVec 32 := 1#32
  let v1259 : BitVec 32 := Scalar.addi v1258 c1_i32_478
  let v2137 : Index := Scalar.indexCast v1259
  let c0_766 : Index := 0#32
  let c0_767 : Index := 0#32
  ![6, v2137.toNat, 0, 0]
def k0_off949 (i : grid0.Coords) (k0_t9 : Fin (k0_t9_loop i).trips) : Fin 4 → Nat :=
  let c7_768 : Index := 7#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v1258 : BitVec 32 := Scalar.muli c2_i32_477 arg24
  let c1_i32_478 : BitVec 32 := 1#32
  let v1259 : BitVec 32 := Scalar.addi v1258 c1_i32_478
  let v2141 : Index := Scalar.indexCast v1259
  let c0_769 : Index := 0#32
  let c0_770 : Index := 0#32
  ![7, v2141.toNat, 0, 0]
def k0_off950 (i : grid0.Coords) (k0_t9 : Fin (k0_t9_loop i).trips) : Fin 4 → Nat :=
  let c8_771 : Index := 8#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v1258 : BitVec 32 := Scalar.muli c2_i32_477 arg24
  let c1_i32_478 : BitVec 32 := 1#32
  let v1259 : BitVec 32 := Scalar.addi v1258 c1_i32_478
  let v2145 : Index := Scalar.indexCast v1259
  let c0_772 : Index := 0#32
  let c0_773 : Index := 0#32
  ![8, v2145.toNat, 0, 0]
def k0_off951 (i : grid0.Coords) (k0_t9 : Fin (k0_t9_loop i).trips) : Fin 4 → Nat :=
  let c9_774 : Index := 9#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v1258 : BitVec 32 := Scalar.muli c2_i32_477 arg24
  let c1_i32_478 : BitVec 32 := 1#32
  let v1259 : BitVec 32 := Scalar.addi v1258 c1_i32_478
  let v2149 : Index := Scalar.indexCast v1259
  let c0_775 : Index := 0#32
  let c0_776 : Index := 0#32
  ![9, v2149.toNat, 0, 0]
def k0_off952 (i : grid0.Coords) (k0_t9 : Fin (k0_t9_loop i).trips) : Fin 4 → Nat :=
  let c10_777 : Index := 10#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v1258 : BitVec 32 := Scalar.muli c2_i32_477 arg24
  let c1_i32_478 : BitVec 32 := 1#32
  let v1259 : BitVec 32 := Scalar.addi v1258 c1_i32_478
  let v2153 : Index := Scalar.indexCast v1259
  let c0_778 : Index := 0#32
  let c0_779 : Index := 0#32
  ![10, v2153.toNat, 0, 0]
def k0_off953 (i : grid0.Coords) (k0_t9 : Fin (k0_t9_loop i).trips) : Fin 4 → Nat :=
  let c11_780 : Index := 11#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v1258 : BitVec 32 := Scalar.muli c2_i32_477 arg24
  let c1_i32_478 : BitVec 32 := 1#32
  let v1259 : BitVec 32 := Scalar.addi v1258 c1_i32_478
  let v2157 : Index := Scalar.indexCast v1259
  let c0_781 : Index := 0#32
  let c0_782 : Index := 0#32
  ![11, v2157.toNat, 0, 0]
def k0_off954 (i : grid0.Coords) (k0_t9 : Fin (k0_t9_loop i).trips) : Fin 4 → Nat :=
  let c12_783 : Index := 12#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v1258 : BitVec 32 := Scalar.muli c2_i32_477 arg24
  let c1_i32_478 : BitVec 32 := 1#32
  let v1259 : BitVec 32 := Scalar.addi v1258 c1_i32_478
  let v2161 : Index := Scalar.indexCast v1259
  let c0_784 : Index := 0#32
  let c0_785 : Index := 0#32
  ![12, v2161.toNat, 0, 0]
def k0_off955 (i : grid0.Coords) (k0_t9 : Fin (k0_t9_loop i).trips) : Fin 4 → Nat :=
  let c13_786 : Index := 13#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v1258 : BitVec 32 := Scalar.muli c2_i32_477 arg24
  let c1_i32_478 : BitVec 32 := 1#32
  let v1259 : BitVec 32 := Scalar.addi v1258 c1_i32_478
  let v2165 : Index := Scalar.indexCast v1259
  let c0_787 : Index := 0#32
  let c0_788 : Index := 0#32
  ![13, v2165.toNat, 0, 0]
def k0_off956 (i : grid0.Coords) (k0_t9 : Fin (k0_t9_loop i).trips) : Fin 4 → Nat :=
  let c14_789 : Index := 14#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v1258 : BitVec 32 := Scalar.muli c2_i32_477 arg24
  let c1_i32_478 : BitVec 32 := 1#32
  let v1259 : BitVec 32 := Scalar.addi v1258 c1_i32_478
  let v2169 : Index := Scalar.indexCast v1259
  let c0_790 : Index := 0#32
  let c0_791 : Index := 0#32
  ![14, v2169.toNat, 0, 0]
def k0_off957 (i : grid0.Coords) (k0_t9 : Fin (k0_t9_loop i).trips) : Fin 4 → Nat :=
  let c15_792 : Index := 15#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v1258 : BitVec 32 := Scalar.muli c2_i32_477 arg24
  let c1_i32_478 : BitVec 32 := 1#32
  let v1259 : BitVec 32 := Scalar.addi v1258 c1_i32_478
  let v2173 : Index := Scalar.indexCast v1259
  let c0_793 : Index := 0#32
  let c0_794 : Index := 0#32
  ![15, v2173.toNat, 0, 0]
def k0_off958 (i : grid0.Coords) (k0_t9 : Fin (k0_t9_loop i).trips) : Fin 4 → Nat :=
  let c16_795 : Index := 16#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v1258 : BitVec 32 := Scalar.muli c2_i32_477 arg24
  let c1_i32_478 : BitVec 32 := 1#32
  let v1259 : BitVec 32 := Scalar.addi v1258 c1_i32_478
  let v2177 : Index := Scalar.indexCast v1259
  let c0_796 : Index := 0#32
  let c0_797 : Index := 0#32
  ![16, v2177.toNat, 0, 0]
def k0_off959 (i : grid0.Coords) (k0_t9 : Fin (k0_t9_loop i).trips) : Fin 4 → Nat :=
  let c17_798 : Index := 17#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v1258 : BitVec 32 := Scalar.muli c2_i32_477 arg24
  let c1_i32_478 : BitVec 32 := 1#32
  let v1259 : BitVec 32 := Scalar.addi v1258 c1_i32_478
  let v2181 : Index := Scalar.indexCast v1259
  let c0_799 : Index := 0#32
  let c0_800 : Index := 0#32
  ![17, v2181.toNat, 0, 0]
def k0_off960 (i : grid0.Coords) (k0_t9 : Fin (k0_t9_loop i).trips) : Fin 4 → Nat :=
  let c18_801 : Index := 18#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v1258 : BitVec 32 := Scalar.muli c2_i32_477 arg24
  let c1_i32_478 : BitVec 32 := 1#32
  let v1259 : BitVec 32 := Scalar.addi v1258 c1_i32_478
  let v2185 : Index := Scalar.indexCast v1259
  let c0_802 : Index := 0#32
  let c0_803 : Index := 0#32
  ![18, v2185.toNat, 0, 0]
def k0_off961 (i : grid0.Coords) (k0_t9 : Fin (k0_t9_loop i).trips) : Fin 4 → Nat :=
  let c19_804 : Index := 19#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v1258 : BitVec 32 := Scalar.muli c2_i32_477 arg24
  let c1_i32_478 : BitVec 32 := 1#32
  let v1259 : BitVec 32 := Scalar.addi v1258 c1_i32_478
  let v2189 : Index := Scalar.indexCast v1259
  let c0_805 : Index := 0#32
  let c0_806 : Index := 0#32
  ![19, v2189.toNat, 0, 0]
def k0_off962 (i : grid0.Coords) (k0_t9 : Fin (k0_t9_loop i).trips) : Fin 4 → Nat :=
  let c20_807 : Index := 20#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v1258 : BitVec 32 := Scalar.muli c2_i32_477 arg24
  let c1_i32_478 : BitVec 32 := 1#32
  let v1259 : BitVec 32 := Scalar.addi v1258 c1_i32_478
  let v2193 : Index := Scalar.indexCast v1259
  let c0_808 : Index := 0#32
  let c0_809 : Index := 0#32
  ![20, v2193.toNat, 0, 0]
def k0_off963 (i : grid0.Coords) (k0_t9 : Fin (k0_t9_loop i).trips) : Fin 4 → Nat :=
  let c21_810 : Index := 21#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v1258 : BitVec 32 := Scalar.muli c2_i32_477 arg24
  let c1_i32_478 : BitVec 32 := 1#32
  let v1259 : BitVec 32 := Scalar.addi v1258 c1_i32_478
  let v2197 : Index := Scalar.indexCast v1259
  let c0_811 : Index := 0#32
  let c0_812 : Index := 0#32
  ![21, v2197.toNat, 0, 0]
def k0_off964 (i : grid0.Coords) (k0_t9 : Fin (k0_t9_loop i).trips) : Fin 4 → Nat :=
  let c22_813 : Index := 22#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v1258 : BitVec 32 := Scalar.muli c2_i32_477 arg24
  let c1_i32_478 : BitVec 32 := 1#32
  let v1259 : BitVec 32 := Scalar.addi v1258 c1_i32_478
  let v2201 : Index := Scalar.indexCast v1259
  let c0_814 : Index := 0#32
  let c0_815 : Index := 0#32
  ![22, v2201.toNat, 0, 0]
def k0_off965 (i : grid0.Coords) (k0_t9 : Fin (k0_t9_loop i).trips) : Fin 4 → Nat :=
  let c23_816 : Index := 23#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v1258 : BitVec 32 := Scalar.muli c2_i32_477 arg24
  let c1_i32_478 : BitVec 32 := 1#32
  let v1259 : BitVec 32 := Scalar.addi v1258 c1_i32_478
  let v2205 : Index := Scalar.indexCast v1259
  let c0_817 : Index := 0#32
  let c0_818 : Index := 0#32
  ![23, v2205.toNat, 0, 0]
def k0_off966 (i : grid0.Coords) (k0_t9 : Fin (k0_t9_loop i).trips) : Fin 4 → Nat :=
  let c24_819 : Index := 24#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v1258 : BitVec 32 := Scalar.muli c2_i32_477 arg24
  let c1_i32_478 : BitVec 32 := 1#32
  let v1259 : BitVec 32 := Scalar.addi v1258 c1_i32_478
  let v2209 : Index := Scalar.indexCast v1259
  let c0_820 : Index := 0#32
  let c0_821 : Index := 0#32
  ![24, v2209.toNat, 0, 0]
def k0_off967 (i : grid0.Coords) (k0_t9 : Fin (k0_t9_loop i).trips) : Fin 4 → Nat :=
  let c25_822 : Index := 25#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v1258 : BitVec 32 := Scalar.muli c2_i32_477 arg24
  let c1_i32_478 : BitVec 32 := 1#32
  let v1259 : BitVec 32 := Scalar.addi v1258 c1_i32_478
  let v2213 : Index := Scalar.indexCast v1259
  let c0_823 : Index := 0#32
  let c0_824 : Index := 0#32
  ![25, v2213.toNat, 0, 0]
def k0_off968 (i : grid0.Coords) (k0_t9 : Fin (k0_t9_loop i).trips) : Fin 4 → Nat :=
  let c26_825 : Index := 26#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v1258 : BitVec 32 := Scalar.muli c2_i32_477 arg24
  let c1_i32_478 : BitVec 32 := 1#32
  let v1259 : BitVec 32 := Scalar.addi v1258 c1_i32_478
  let v2217 : Index := Scalar.indexCast v1259
  let c0_826 : Index := 0#32
  let c0_827 : Index := 0#32
  ![26, v2217.toNat, 0, 0]
def k0_off969 (i : grid0.Coords) (k0_t9 : Fin (k0_t9_loop i).trips) : Fin 4 → Nat :=
  let c27_828 : Index := 27#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v1258 : BitVec 32 := Scalar.muli c2_i32_477 arg24
  let c1_i32_478 : BitVec 32 := 1#32
  let v1259 : BitVec 32 := Scalar.addi v1258 c1_i32_478
  let v2221 : Index := Scalar.indexCast v1259
  let c0_829 : Index := 0#32
  let c0_830 : Index := 0#32
  ![27, v2221.toNat, 0, 0]
def k0_off970 (i : grid0.Coords) (k0_t9 : Fin (k0_t9_loop i).trips) : Fin 4 → Nat :=
  let c28_831 : Index := 28#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v1258 : BitVec 32 := Scalar.muli c2_i32_477 arg24
  let c1_i32_478 : BitVec 32 := 1#32
  let v1259 : BitVec 32 := Scalar.addi v1258 c1_i32_478
  let v2225 : Index := Scalar.indexCast v1259
  let c0_832 : Index := 0#32
  let c0_833 : Index := 0#32
  ![28, v2225.toNat, 0, 0]
def k0_off971 (i : grid0.Coords) (k0_t9 : Fin (k0_t9_loop i).trips) : Fin 4 → Nat :=
  let c29_834 : Index := 29#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v1258 : BitVec 32 := Scalar.muli c2_i32_477 arg24
  let c1_i32_478 : BitVec 32 := 1#32
  let v1259 : BitVec 32 := Scalar.addi v1258 c1_i32_478
  let v2229 : Index := Scalar.indexCast v1259
  let c0_835 : Index := 0#32
  let c0_836 : Index := 0#32
  ![29, v2229.toNat, 0, 0]
def k0_off972 (i : grid0.Coords) (k0_t9 : Fin (k0_t9_loop i).trips) : Fin 4 → Nat :=
  let c30_837 : Index := 30#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v1258 : BitVec 32 := Scalar.muli c2_i32_477 arg24
  let c1_i32_478 : BitVec 32 := 1#32
  let v1259 : BitVec 32 := Scalar.addi v1258 c1_i32_478
  let v2233 : Index := Scalar.indexCast v1259
  let c0_838 : Index := 0#32
  let c0_839 : Index := 0#32
  ![30, v2233.toNat, 0, 0]
def k0_off973 (i : grid0.Coords) (k0_t9 : Fin (k0_t9_loop i).trips) : Fin 4 → Nat :=
  let c31_840 : Index := 31#32
  let c2_i32_477 : BitVec 32 := 2#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c1_i32_119 : BitVec 32 := 1#32
  let v230 : BitVec 32 := Scalar.addi arg1 c1_i32_119
  let c128_i32_120 : BitVec 32 := 128#32
  let v231 : BitVec 32 := Scalar.muli v230 c128_i32_120
  let c128_i32_121 : BitVec 32 := 128#32
  let v232 : BitVec 32 := Scalar.addi v231 c128_i32_121
  let c256_i32_122 : BitVec 32 := 256#32
  let v233 : BitVec 32 := Scalar.addi v232 c256_i32_122
  let c1_i32_123 : BitVec 32 := 1#32
  let v234 : BitVec 32 := Scalar.subi v233 c1_i32_123
  let c0_i32_125 : BitVec 32 := 0#32
  let v236 : BitVec 1 := Scalar.cmpi .sgt v234 c0_i32_125
  let v237 : BitVec 32 := Scalar.extui v236
  let c0_i32_126 : BitVec 32 := 0#32
  let v238 : BitVec 1 := Scalar.cmpi .slt v234 c0_i32_126
  let v239 : BitVec 32 := Scalar.extui v238
  let v240 : BitVec 32 := Scalar.subi v237 v239
  let c256_i32_124 : BitVec 32 := 256#32
  let c0_i32_127 : BitVec 32 := 0#32
  let v241 : BitVec 1 := Scalar.cmpi .sgt c256_i32_124 c0_i32_127
  let v242 : BitVec 32 := Scalar.extui v241
  let c0_i32_128 : BitVec 32 := 0#32
  let v243 : BitVec 1 := Scalar.cmpi .slt c256_i32_124 c0_i32_128
  let v244 : BitVec 32 := Scalar.extui v243
  let v245 : BitVec 32 := Scalar.subi v242 v244
  let v246 : BitVec 1 := Scalar.cmpi .ne v240 v245
  let v247 : BitVec 32 := Scalar.remsi v234 c256_i32_124
  let c0_i32_129 : BitVec 32 := 0#32
  let v248 : BitVec 1 := Scalar.cmpi .ne v247 c0_i32_129
  let v249 : BitVec 1 := Scalar.andi v246 v248
  let v235 : BitVec 32 := Scalar.divsi v234 c256_i32_124
  let c1_i32_130 : BitVec 32 := 1#32
  let v250 : BitVec 32 := Scalar.subi v235 c1_i32_130
  let v251 : BitVec 32 := Scalar.select v249 v250 v235
  let c1_i32_131 : BitVec 32 := 1#32
  let v252 : BitVec 32 := Scalar.addi v251 c1_i32_131
  let c0_i32_133 : BitVec 32 := 0#32
  let v254 : BitVec 1 := Scalar.cmpi .sgt v252 c0_i32_133
  let v255 : BitVec 32 := Scalar.extui v254
  let c0_i32_134 : BitVec 32 := 0#32
  let v256 : BitVec 1 := Scalar.cmpi .slt v252 c0_i32_134
  let v257 : BitVec 32 := Scalar.extui v256
  let v258 : BitVec 32 := Scalar.subi v255 v257
  let c2_i32_132 : BitVec 32 := 2#32
  let c0_i32_135 : BitVec 32 := 0#32
  let v259 : BitVec 1 := Scalar.cmpi .sgt c2_i32_132 c0_i32_135
  let v260 : BitVec 32 := Scalar.extui v259
  let c0_i32_136 : BitVec 32 := 0#32
  let v261 : BitVec 1 := Scalar.cmpi .slt c2_i32_132 c0_i32_136
  let v262 : BitVec 32 := Scalar.extui v261
  let v263 : BitVec 32 := Scalar.subi v260 v262
  let v264 : BitVec 1 := Scalar.cmpi .ne v258 v263
  let v265 : BitVec 32 := Scalar.remsi v252 c2_i32_132
  let c0_i32_137 : BitVec 32 := 0#32
  let v266 : BitVec 1 := Scalar.cmpi .ne v265 c0_i32_137
  let v267 : BitVec 1 := Scalar.andi v264 v266
  let v253 : BitVec 32 := Scalar.divsi v252 c2_i32_132
  let c1_i32_138 : BitVec 32 := 1#32
  let v268 : BitVec 32 := Scalar.subi v253 c1_i32_138
  let v269 : BitVec 32 := Scalar.select v267 v268 v253
  let v270 : BitVec 32 := Scalar.subi v269 v103
  let c1_i32_140 : BitVec 32 := 1#32
  let v272 : BitVec 32 := Scalar.divsi v270 c1_i32_140
  let v273 : BitVec 32 := Scalar.muli v272 c1_i32_140
  let v274 : BitVec 32 := Scalar.addi v103 v273
  let c1_i32_142 : BitVec 32 := 1#32
  let arg24 : BitVec 32 := Scf.iv v274 c1_i32_142 k0_t9
  let v1258 : BitVec 32 := Scalar.muli c2_i32_477 arg24
  let c1_i32_478 : BitVec 32 := 1#32
  let v1259 : BitVec 32 := Scalar.addi v1258 c1_i32_478
  let v2237 : Index := Scalar.indexCast v1259
  let c0_841 : Index := 0#32
  let c0_842 : Index := 0#32
  ![31, v2237.toNat, 0, 0]
def k0_cond8 (i : grid0.Coords) : BitVec 1 :=
  let arg1 : BitVec 32 := BitVec.ofNat 32 (i 1).val
  let c1_i32_93 : BitVec 32 := 1#32
  let v185 : BitVec 32 := Scalar.addi arg1 c1_i32_93
  let c32_i32_94 : BitVec 32 := 32#32
  let v186 : BitVec 1 := Scalar.cmpi .sge v185 c32_i32_94
  let v187 : BitVec 32 := Scalar.extui v186
  let c0_i32_96 : BitVec 32 := 0#32
  let v188 : BitVec 1 := Scalar.cmpi .ne v187 c0_i32_96
  v188

@[reducible] def k0_t10_loop (i : grid0.Coords) : Scf.Loop 32 :=
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_109 : BitVec 32 := 1#32
  ⟨c0_i32_107, v211, c1_i32_109⟩
def k0_mult163 (i : grid0.Coords) (k0_t10 : Fin (k0_t10_loop i).trips) : BitVec 32 :=
  let c2_i32_121 : BitVec 32 := 2#32
  let c0_i32_120 : BitVec 32 := 0#32
  let c2_i32_119 : BitVec 32 := 2#32
  let c0_i32_107 : BitVec 32 := 0#32
  let c1_i32_109 : BitVec 32 := 1#32
  let arg24 : BitVec 32 := Scf.iv c0_i32_107 c1_i32_109 k0_t10
  let v230 : BitVec 32 := Scalar.muli c2_i32_119 arg24
  let v231 : BitVec 32 := Scalar.addi c0_i32_120 v230
  let v232 : BitVec 32 := Scalar.muli c2_i32_121 v231
  let c1_i32_122 : BitVec 32 := 1#32
  let v233 : BitVec 32 := Scalar.addi v232 c1_i32_122
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v234 : BitVec 32 := Scalar.minsi v233 v72
  let c256_i32_123 : BitVec 32 := 256#32
  let v235 : BitVec 32 := Scalar.muli v234 c256_i32_123
  v235
def k0_off974 (i : grid0.Coords) (k0_t10 : Fin (k0_t10_loop i).trips) (c1_i32_122 : BitVec 32) : Fin 2 → Nat :=
  let c2_i32_121 : BitVec 32 := 2#32
  let c0_i32_120 : BitVec 32 := 0#32
  let c2_i32_119 : BitVec 32 := 2#32
  let c0_i32_107 : BitVec 32 := 0#32
  let c1_i32_109 : BitVec 32 := 1#32
  let arg24 : BitVec 32 := Scf.iv c0_i32_107 c1_i32_109 k0_t10
  let v230 : BitVec 32 := Scalar.muli c2_i32_119 arg24
  let v231 : BitVec 32 := Scalar.addi c0_i32_120 v230
  let v232 : BitVec 32 := Scalar.muli c2_i32_121 v231
  let v233 : BitVec 32 := Scalar.addi v232 c1_i32_122
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v234 : BitVec 32 := Scalar.minsi v233 v72
  let c256_i32_123 : BitVec 32 := 256#32
  let v235 : BitVec 32 := Scalar.muli v234 c256_i32_123
  let v236 : BitVec 32 := v235
  let v237 : Index := Scalar.indexCast v236
  let c0_124 : Index := 0#32
  ![v237.toNat, 0]
def k0_off975 (i : grid0.Coords) : Fin 3 → Nat :=
  let arg1 : BitVec 32 := BitVec.ofNat 32 (i 1).val
  let c8_i32 : BitVec 32 := 8#32
  let c0_i32_36 : BitVec 32 := 0#32
  let v73 : BitVec 1 := Scalar.cmpi .eq c8_i32 c0_i32_36
  let c1_i32_37 : BitVec 32 := 1#32
  let v74 : BitVec 32 := Scalar.select v73 c1_i32_37 c8_i32
  let v75 : BitVec 32 := Scalar.remsi arg1 v74
  let c0_i32_39 : BitVec 32 := 0#32
  let v77 : BitVec 1 := Scalar.cmpi .slt v75 c0_i32_39
  let c0_i32_40 : BitVec 32 := 0#32
  let v78 : BitVec 1 := Scalar.cmpi .slt v74 c0_i32_40
  let v79 : BitVec 1 := Scalar.xori v77 v78
  let c0_i32_38 : BitVec 32 := 0#32
  let v76 : BitVec 1 := Scalar.cmpi .ne v75 c0_i32_38
  let v80 : BitVec 1 := Scalar.andi v79 v76
  let v81 : BitVec 32 := Scalar.addi v75 v74
  let v82 : BitVec 32 := Scalar.select v80 v81 v75
  let v239 : Index := Scalar.indexCast v82
  let c0_125 : Index := 0#32
  let c0_126 : Index := 0#32
  ![v239.toNat, 0, 0]
def k0_mult164 (i : grid0.Coords) (k0_t10 : Fin (k0_t10_loop i).trips) : BitVec 32 :=
  let c2_i32_121 : BitVec 32 := 2#32
  let c0_i32_120 : BitVec 32 := 0#32
  let c2_i32_119 : BitVec 32 := 2#32
  let c0_i32_107 : BitVec 32 := 0#32
  let c1_i32_109 : BitVec 32 := 1#32
  let arg24 : BitVec 32 := Scf.iv c0_i32_107 c1_i32_109 k0_t10
  let v230 : BitVec 32 := Scalar.muli c2_i32_119 arg24
  let v231 : BitVec 32 := Scalar.addi c0_i32_120 v230
  let v232 : BitVec 32 := Scalar.muli c2_i32_121 v231
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v247 : BitVec 32 := Scalar.minsi v232 v72
  let c256_i32_130 : BitVec 32 := 256#32
  let v248 : BitVec 32 := Scalar.muli v247 c256_i32_130
  v248
def k0_mult165 (i : grid0.Coords) (k0_t10 : Fin (k0_t10_loop i).trips) : BitVec 32 :=
  let c2_i32_121 : BitVec 32 := 2#32
  let c0_i32_120 : BitVec 32 := 0#32
  let c2_i32_119 : BitVec 32 := 2#32
  let c0_i32_107 : BitVec 32 := 0#32
  let c1_i32_109 : BitVec 32 := 1#32
  let arg24 : BitVec 32 := Scf.iv c0_i32_107 c1_i32_109 k0_t10
  let v230 : BitVec 32 := Scalar.muli c2_i32_119 arg24
  let v231 : BitVec 32 := Scalar.addi c0_i32_120 v230
  let v232 : BitVec 32 := Scalar.muli c2_i32_121 v231
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v247 : BitVec 32 := Scalar.minsi v232 v72
  let c256_i32_130 : BitVec 32 := 256#32
  let v248 : BitVec 32 := Scalar.muli v247 c256_i32_130
  let v249 : BitVec 32 := v248
  let c0_i32_131 : BitVec 32 := 0#32
  let v253 : BitVec 32 := Scalar.addi v249 c0_i32_131
  v253
def k0_off976 (i : grid0.Coords) (k0_t10 : Fin (k0_t10_loop i).trips) (c0_i32_131 : BitVec 32) : Fin 2 → Nat :=
  let c2_i32_121 : BitVec 32 := 2#32
  let c0_i32_120 : BitVec 32 := 0#32
  let c2_i32_119 : BitVec 32 := 2#32
  let c0_i32_107 : BitVec 32 := 0#32
  let c1_i32_109 : BitVec 32 := 1#32
  let arg24 : BitVec 32 := Scf.iv c0_i32_107 c1_i32_109 k0_t10
  let v230 : BitVec 32 := Scalar.muli c2_i32_119 arg24
  let v231 : BitVec 32 := Scalar.addi c0_i32_120 v230
  let v232 : BitVec 32 := Scalar.muli c2_i32_121 v231
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v247 : BitVec 32 := Scalar.minsi v232 v72
  let c256_i32_130 : BitVec 32 := 256#32
  let v248 : BitVec 32 := Scalar.muli v247 c256_i32_130
  let v249 : BitVec 32 := v248
  let v253 : BitVec 32 := Scalar.addi v249 c0_i32_131
  let v254 : BitVec 32 := v253
  let v255 : Index := Scalar.indexCast v254
  let c0_132 : Index := 0#32
  ![v255.toNat, 0]
def k0_mult166 (i : grid0.Coords) (k0_t10 : Fin (k0_t10_loop i).trips) : BitVec 32 :=
  let c2_i32_121 : BitVec 32 := 2#32
  let c0_i32_120 : BitVec 32 := 0#32
  let c2_i32_119 : BitVec 32 := 2#32
  let c0_i32_107 : BitVec 32 := 0#32
  let c1_i32_109 : BitVec 32 := 1#32
  let arg24 : BitVec 32 := Scf.iv c0_i32_107 c1_i32_109 k0_t10
  let v230 : BitVec 32 := Scalar.muli c2_i32_119 arg24
  let v231 : BitVec 32 := Scalar.addi c0_i32_120 v230
  let v232 : BitVec 32 := Scalar.muli c2_i32_121 v231
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v247 : BitVec 32 := Scalar.minsi v232 v72
  let c256_i32_130 : BitVec 32 := 256#32
  let v248 : BitVec 32 := Scalar.muli v247 c256_i32_130
  let v249 : BitVec 32 := v248
  let c128_i32_137 : BitVec 32 := 128#32
  let v266 : BitVec 32 := Scalar.addi v249 c128_i32_137
  v266
def k0_off977 (i : grid0.Coords) (k0_t10 : Fin (k0_t10_loop i).trips) : Fin 2 → Nat :=
  let c0_144 : Index := 0#32
  let c2_i32_121 : BitVec 32 := 2#32
  let c0_i32_120 : BitVec 32 := 0#32
  let c2_i32_119 : BitVec 32 := 2#32
  let c0_i32_107 : BitVec 32 := 0#32
  let c1_i32_109 : BitVec 32 := 1#32
  let arg24 : BitVec 32 := Scf.iv c0_i32_107 c1_i32_109 k0_t10
  let v230 : BitVec 32 := Scalar.muli c2_i32_119 arg24
  let v231 : BitVec 32 := Scalar.addi c0_i32_120 v230
  let v232 : BitVec 32 := Scalar.muli c2_i32_121 v231
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v247 : BitVec 32 := Scalar.minsi v232 v72
  let c256_i32_130 : BitVec 32 := 256#32
  let v248 : BitVec 32 := Scalar.muli v247 c256_i32_130
  let v249 : BitVec 32 := v248
  let v292 : Index := Scalar.indexCast v249
  ![0, v292.toNat]
def k0_mult167 (i : grid0.Coords) (k0_t10 : Fin (k0_t10_loop i).trips) : BitVec 32 :=
  let c2_i32_121 : BitVec 32 := 2#32
  let c0_i32_120 : BitVec 32 := 0#32
  let c2_i32_119 : BitVec 32 := 2#32
  let c0_i32_107 : BitVec 32 := 0#32
  let c1_i32_109 : BitVec 32 := 1#32
  let arg24 : BitVec 32 := Scf.iv c0_i32_107 c1_i32_109 k0_t10
  let v230 : BitVec 32 := Scalar.muli c2_i32_119 arg24
  let v231 : BitVec 32 := Scalar.addi c0_i32_120 v230
  let v232 : BitVec 32 := Scalar.muli c2_i32_121 v231
  let c2_i32_150 : BitVec 32 := 2#32
  let v302 : BitVec 32 := Scalar.addi v232 c2_i32_150
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v303 : BitVec 32 := Scalar.minsi v302 v72
  let c256_i32_151 : BitVec 32 := 256#32
  let v304 : BitVec 32 := Scalar.muli v303 c256_i32_151
  v304
def k0_mult168 (i : grid0.Coords) (k0_t10 : Fin (k0_t10_loop i).trips) : BitVec 32 :=
  let c2_i32_121 : BitVec 32 := 2#32
  let c0_i32_120 : BitVec 32 := 0#32
  let c2_i32_119 : BitVec 32 := 2#32
  let c0_i32_107 : BitVec 32 := 0#32
  let c1_i32_109 : BitVec 32 := 1#32
  let arg24 : BitVec 32 := Scf.iv c0_i32_107 c1_i32_109 k0_t10
  let v230 : BitVec 32 := Scalar.muli c2_i32_119 arg24
  let v231 : BitVec 32 := Scalar.addi c0_i32_120 v230
  let v232 : BitVec 32 := Scalar.muli c2_i32_121 v231
  let c1_i32_158 : BitVec 32 := 1#32
  let v316 : BitVec 32 := Scalar.addi v232 c1_i32_158
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v317 : BitVec 32 := Scalar.minsi v316 v72
  let c256_i32_159 : BitVec 32 := 256#32
  let v318 : BitVec 32 := Scalar.muli v317 c256_i32_159
  v318
def k0_mult169 (i : grid0.Coords) (k0_t10 : Fin (k0_t10_loop i).trips) : BitVec 32 :=
  let c2_i32_121 : BitVec 32 := 2#32
  let c0_i32_120 : BitVec 32 := 0#32
  let c2_i32_119 : BitVec 32 := 2#32
  let c0_i32_107 : BitVec 32 := 0#32
  let c1_i32_109 : BitVec 32 := 1#32
  let arg24 : BitVec 32 := Scf.iv c0_i32_107 c1_i32_109 k0_t10
  let v230 : BitVec 32 := Scalar.muli c2_i32_119 arg24
  let v231 : BitVec 32 := Scalar.addi c0_i32_120 v230
  let v232 : BitVec 32 := Scalar.muli c2_i32_121 v231
  let c1_i32_158 : BitVec 32 := 1#32
  let v316 : BitVec 32 := Scalar.addi v232 c1_i32_158
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v317 : BitVec 32 := Scalar.minsi v316 v72
  let c256_i32_159 : BitVec 32 := 256#32
  let v318 : BitVec 32 := Scalar.muli v317 c256_i32_159
  let v319 : BitVec 32 := v318
  let c0_i32_160 : BitVec 32 := 0#32
  let v323 : BitVec 32 := Scalar.addi v319 c0_i32_160
  v323
def k0_off978 (i : grid0.Coords) (k0_t10 : Fin (k0_t10_loop i).trips) (c0_i32_160 : BitVec 32) : Fin 2 → Nat :=
  let c2_i32_121 : BitVec 32 := 2#32
  let c0_i32_120 : BitVec 32 := 0#32
  let c2_i32_119 : BitVec 32 := 2#32
  let c0_i32_107 : BitVec 32 := 0#32
  let c1_i32_109 : BitVec 32 := 1#32
  let arg24 : BitVec 32 := Scf.iv c0_i32_107 c1_i32_109 k0_t10
  let v230 : BitVec 32 := Scalar.muli c2_i32_119 arg24
  let v231 : BitVec 32 := Scalar.addi c0_i32_120 v230
  let v232 : BitVec 32 := Scalar.muli c2_i32_121 v231
  let c1_i32_158 : BitVec 32 := 1#32
  let v316 : BitVec 32 := Scalar.addi v232 c1_i32_158
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v317 : BitVec 32 := Scalar.minsi v316 v72
  let c256_i32_159 : BitVec 32 := 256#32
  let v318 : BitVec 32 := Scalar.muli v317 c256_i32_159
  let v319 : BitVec 32 := v318
  let v323 : BitVec 32 := Scalar.addi v319 c0_i32_160
  let v324 : BitVec 32 := v323
  let v325 : Index := Scalar.indexCast v324
  let c0_161 : Index := 0#32
  ![v325.toNat, 0]
def k0_mult170 (i : grid0.Coords) (k0_t10 : Fin (k0_t10_loop i).trips) : BitVec 32 :=
  let c2_i32_121 : BitVec 32 := 2#32
  let c0_i32_120 : BitVec 32 := 0#32
  let c2_i32_119 : BitVec 32 := 2#32
  let c0_i32_107 : BitVec 32 := 0#32
  let c1_i32_109 : BitVec 32 := 1#32
  let arg24 : BitVec 32 := Scf.iv c0_i32_107 c1_i32_109 k0_t10
  let v230 : BitVec 32 := Scalar.muli c2_i32_119 arg24
  let v231 : BitVec 32 := Scalar.addi c0_i32_120 v230
  let v232 : BitVec 32 := Scalar.muli c2_i32_121 v231
  let c1_i32_158 : BitVec 32 := 1#32
  let v316 : BitVec 32 := Scalar.addi v232 c1_i32_158
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v317 : BitVec 32 := Scalar.minsi v316 v72
  let c256_i32_159 : BitVec 32 := 256#32
  let v318 : BitVec 32 := Scalar.muli v317 c256_i32_159
  let v319 : BitVec 32 := v318
  let c128_i32_166 : BitVec 32 := 128#32
  let v336 : BitVec 32 := Scalar.addi v319 c128_i32_166
  v336
def k0_off979 (i : grid0.Coords) (k0_t10 : Fin (k0_t10_loop i).trips) : Fin 2 → Nat :=
  let c0_174 : Index := 0#32
  let c2_i32_121 : BitVec 32 := 2#32
  let c0_i32_120 : BitVec 32 := 0#32
  let c2_i32_119 : BitVec 32 := 2#32
  let c0_i32_107 : BitVec 32 := 0#32
  let c1_i32_109 : BitVec 32 := 1#32
  let arg24 : BitVec 32 := Scf.iv c0_i32_107 c1_i32_109 k0_t10
  let v230 : BitVec 32 := Scalar.muli c2_i32_119 arg24
  let v231 : BitVec 32 := Scalar.addi c0_i32_120 v230
  let v232 : BitVec 32 := Scalar.muli c2_i32_121 v231
  let c1_i32_158 : BitVec 32 := 1#32
  let v316 : BitVec 32 := Scalar.addi v232 c1_i32_158
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v317 : BitVec 32 := Scalar.minsi v316 v72
  let c256_i32_159 : BitVec 32 := 256#32
  let v318 : BitVec 32 := Scalar.muli v317 c256_i32_159
  let v319 : BitVec 32 := v318
  let v362 : Index := Scalar.indexCast v319
  ![0, v362.toNat]
def k0_mult171 (i : grid0.Coords) (k0_t10 : Fin (k0_t10_loop i).trips) : BitVec 32 :=
  let c2_i32_183 : BitVec 32 := 2#32
  let c0_i32_181 : BitVec 32 := 0#32
  let c2_i32_180 : BitVec 32 := 2#32
  let c0_i32_107 : BitVec 32 := 0#32
  let c1_i32_109 : BitVec 32 := 1#32
  let arg24 : BitVec 32 := Scf.iv c0_i32_107 c1_i32_109 k0_t10
  let v372 : BitVec 32 := Scalar.muli c2_i32_180 arg24
  let v373 : BitVec 32 := Scalar.addi c0_i32_181 v372
  let c1_i32_182 : BitVec 32 := 1#32
  let v374 : BitVec 32 := Scalar.addi v373 c1_i32_182
  let v375 : BitVec 32 := Scalar.muli c2_i32_183 v374
  let c1_i32_184 : BitVec 32 := 1#32
  let v376 : BitVec 32 := Scalar.addi v375 c1_i32_184
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v377 : BitVec 32 := Scalar.minsi v376 v72
  let c256_i32_185 : BitVec 32 := 256#32
  let v378 : BitVec 32 := Scalar.muli v377 c256_i32_185
  v378
def k0_off980 (i : grid0.Coords) (k0_t10 : Fin (k0_t10_loop i).trips) (c1_i32_184 : BitVec 32) : Fin 2 → Nat :=
  let c2_i32_183 : BitVec 32 := 2#32
  let c0_i32_181 : BitVec 32 := 0#32
  let c2_i32_180 : BitVec 32 := 2#32
  let c0_i32_107 : BitVec 32 := 0#32
  let c1_i32_109 : BitVec 32 := 1#32
  let arg24 : BitVec 32 := Scf.iv c0_i32_107 c1_i32_109 k0_t10
  let v372 : BitVec 32 := Scalar.muli c2_i32_180 arg24
  let v373 : BitVec 32 := Scalar.addi c0_i32_181 v372
  let c1_i32_182 : BitVec 32 := 1#32
  let v374 : BitVec 32 := Scalar.addi v373 c1_i32_182
  let v375 : BitVec 32 := Scalar.muli c2_i32_183 v374
  let v376 : BitVec 32 := Scalar.addi v375 c1_i32_184
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v377 : BitVec 32 := Scalar.minsi v376 v72
  let c256_i32_185 : BitVec 32 := 256#32
  let v378 : BitVec 32 := Scalar.muli v377 c256_i32_185
  let v379 : BitVec 32 := v378
  let v380 : Index := Scalar.indexCast v379
  let c0_186 : Index := 0#32
  ![v380.toNat, 0]
def k0_mult172 (i : grid0.Coords) (k0_t10 : Fin (k0_t10_loop i).trips) : BitVec 32 :=
  let c2_i32_183 : BitVec 32 := 2#32
  let c0_i32_181 : BitVec 32 := 0#32
  let c2_i32_180 : BitVec 32 := 2#32
  let c0_i32_107 : BitVec 32 := 0#32
  let c1_i32_109 : BitVec 32 := 1#32
  let arg24 : BitVec 32 := Scf.iv c0_i32_107 c1_i32_109 k0_t10
  let v372 : BitVec 32 := Scalar.muli c2_i32_180 arg24
  let v373 : BitVec 32 := Scalar.addi c0_i32_181 v372
  let c1_i32_182 : BitVec 32 := 1#32
  let v374 : BitVec 32 := Scalar.addi v373 c1_i32_182
  let v375 : BitVec 32 := Scalar.muli c2_i32_183 v374
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v390 : BitVec 32 := Scalar.minsi v375 v72
  let c256_i32_192 : BitVec 32 := 256#32
  let v391 : BitVec 32 := Scalar.muli v390 c256_i32_192
  v391
def k0_mult173 (i : grid0.Coords) (k0_t10 : Fin (k0_t10_loop i).trips) : BitVec 32 :=
  let c2_i32_183 : BitVec 32 := 2#32
  let c0_i32_181 : BitVec 32 := 0#32
  let c2_i32_180 : BitVec 32 := 2#32
  let c0_i32_107 : BitVec 32 := 0#32
  let c1_i32_109 : BitVec 32 := 1#32
  let arg24 : BitVec 32 := Scf.iv c0_i32_107 c1_i32_109 k0_t10
  let v372 : BitVec 32 := Scalar.muli c2_i32_180 arg24
  let v373 : BitVec 32 := Scalar.addi c0_i32_181 v372
  let c1_i32_182 : BitVec 32 := 1#32
  let v374 : BitVec 32 := Scalar.addi v373 c1_i32_182
  let v375 : BitVec 32 := Scalar.muli c2_i32_183 v374
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v390 : BitVec 32 := Scalar.minsi v375 v72
  let c256_i32_192 : BitVec 32 := 256#32
  let v391 : BitVec 32 := Scalar.muli v390 c256_i32_192
  let v392 : BitVec 32 := v391
  let c0_i32_193 : BitVec 32 := 0#32
  let v396 : BitVec 32 := Scalar.addi v392 c0_i32_193
  v396
def k0_off981 (i : grid0.Coords) (k0_t10 : Fin (k0_t10_loop i).trips) (c0_i32_193 : BitVec 32) : Fin 2 → Nat :=
  let c2_i32_183 : BitVec 32 := 2#32
  let c0_i32_181 : BitVec 32 := 0#32
  let c2_i32_180 : BitVec 32 := 2#32
  let c0_i32_107 : BitVec 32 := 0#32
  let c1_i32_109 : BitVec 32 := 1#32
  let arg24 : BitVec 32 := Scf.iv c0_i32_107 c1_i32_109 k0_t10
  let v372 : BitVec 32 := Scalar.muli c2_i32_180 arg24
  let v373 : BitVec 32 := Scalar.addi c0_i32_181 v372
  let c1_i32_182 : BitVec 32 := 1#32
  let v374 : BitVec 32 := Scalar.addi v373 c1_i32_182
  let v375 : BitVec 32 := Scalar.muli c2_i32_183 v374
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v390 : BitVec 32 := Scalar.minsi v375 v72
  let c256_i32_192 : BitVec 32 := 256#32
  let v391 : BitVec 32 := Scalar.muli v390 c256_i32_192
  let v392 : BitVec 32 := v391
  let v396 : BitVec 32 := Scalar.addi v392 c0_i32_193
  let v397 : BitVec 32 := v396
  let v398 : Index := Scalar.indexCast v397
  let c0_194 : Index := 0#32
  ![v398.toNat, 0]
def k0_mult174 (i : grid0.Coords) (k0_t10 : Fin (k0_t10_loop i).trips) : BitVec 32 :=
  let c2_i32_183 : BitVec 32 := 2#32
  let c0_i32_181 : BitVec 32 := 0#32
  let c2_i32_180 : BitVec 32 := 2#32
  let c0_i32_107 : BitVec 32 := 0#32
  let c1_i32_109 : BitVec 32 := 1#32
  let arg24 : BitVec 32 := Scf.iv c0_i32_107 c1_i32_109 k0_t10
  let v372 : BitVec 32 := Scalar.muli c2_i32_180 arg24
  let v373 : BitVec 32 := Scalar.addi c0_i32_181 v372
  let c1_i32_182 : BitVec 32 := 1#32
  let v374 : BitVec 32 := Scalar.addi v373 c1_i32_182
  let v375 : BitVec 32 := Scalar.muli c2_i32_183 v374
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v390 : BitVec 32 := Scalar.minsi v375 v72
  let c256_i32_192 : BitVec 32 := 256#32
  let v391 : BitVec 32 := Scalar.muli v390 c256_i32_192
  let v392 : BitVec 32 := v391
  let c128_i32_199 : BitVec 32 := 128#32
  let v409 : BitVec 32 := Scalar.addi v392 c128_i32_199
  v409
def k0_off982 (i : grid0.Coords) (k0_t10 : Fin (k0_t10_loop i).trips) : Fin 2 → Nat :=
  let c0_207 : Index := 0#32
  let c2_i32_183 : BitVec 32 := 2#32
  let c0_i32_181 : BitVec 32 := 0#32
  let c2_i32_180 : BitVec 32 := 2#32
  let c0_i32_107 : BitVec 32 := 0#32
  let c1_i32_109 : BitVec 32 := 1#32
  let arg24 : BitVec 32 := Scf.iv c0_i32_107 c1_i32_109 k0_t10
  let v372 : BitVec 32 := Scalar.muli c2_i32_180 arg24
  let v373 : BitVec 32 := Scalar.addi c0_i32_181 v372
  let c1_i32_182 : BitVec 32 := 1#32
  let v374 : BitVec 32 := Scalar.addi v373 c1_i32_182
  let v375 : BitVec 32 := Scalar.muli c2_i32_183 v374
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v390 : BitVec 32 := Scalar.minsi v375 v72
  let c256_i32_192 : BitVec 32 := 256#32
  let v391 : BitVec 32 := Scalar.muli v390 c256_i32_192
  let v392 : BitVec 32 := v391
  let v435 : Index := Scalar.indexCast v392
  ![0, v435.toNat]
def k0_mult175 (i : grid0.Coords) (k0_t10 : Fin (k0_t10_loop i).trips) : BitVec 32 :=
  let c2_i32_183 : BitVec 32 := 2#32
  let c0_i32_181 : BitVec 32 := 0#32
  let c2_i32_180 : BitVec 32 := 2#32
  let c0_i32_107 : BitVec 32 := 0#32
  let c1_i32_109 : BitVec 32 := 1#32
  let arg24 : BitVec 32 := Scf.iv c0_i32_107 c1_i32_109 k0_t10
  let v372 : BitVec 32 := Scalar.muli c2_i32_180 arg24
  let v373 : BitVec 32 := Scalar.addi c0_i32_181 v372
  let c1_i32_182 : BitVec 32 := 1#32
  let v374 : BitVec 32 := Scalar.addi v373 c1_i32_182
  let v375 : BitVec 32 := Scalar.muli c2_i32_183 v374
  let c2_i32_213 : BitVec 32 := 2#32
  let v445 : BitVec 32 := Scalar.addi v375 c2_i32_213
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v446 : BitVec 32 := Scalar.minsi v445 v72
  let c256_i32_214 : BitVec 32 := 256#32
  let v447 : BitVec 32 := Scalar.muli v446 c256_i32_214
  v447
def k0_mult176 (i : grid0.Coords) (k0_t10 : Fin (k0_t10_loop i).trips) : BitVec 32 :=
  let c2_i32_183 : BitVec 32 := 2#32
  let c0_i32_181 : BitVec 32 := 0#32
  let c2_i32_180 : BitVec 32 := 2#32
  let c0_i32_107 : BitVec 32 := 0#32
  let c1_i32_109 : BitVec 32 := 1#32
  let arg24 : BitVec 32 := Scf.iv c0_i32_107 c1_i32_109 k0_t10
  let v372 : BitVec 32 := Scalar.muli c2_i32_180 arg24
  let v373 : BitVec 32 := Scalar.addi c0_i32_181 v372
  let c1_i32_182 : BitVec 32 := 1#32
  let v374 : BitVec 32 := Scalar.addi v373 c1_i32_182
  let v375 : BitVec 32 := Scalar.muli c2_i32_183 v374
  let c1_i32_221 : BitVec 32 := 1#32
  let v459 : BitVec 32 := Scalar.addi v375 c1_i32_221
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v460 : BitVec 32 := Scalar.minsi v459 v72
  let c256_i32_222 : BitVec 32 := 256#32
  let v461 : BitVec 32 := Scalar.muli v460 c256_i32_222
  v461
def k0_mult177 (i : grid0.Coords) (k0_t10 : Fin (k0_t10_loop i).trips) : BitVec 32 :=
  let c2_i32_183 : BitVec 32 := 2#32
  let c0_i32_181 : BitVec 32 := 0#32
  let c2_i32_180 : BitVec 32 := 2#32
  let c0_i32_107 : BitVec 32 := 0#32
  let c1_i32_109 : BitVec 32 := 1#32
  let arg24 : BitVec 32 := Scf.iv c0_i32_107 c1_i32_109 k0_t10
  let v372 : BitVec 32 := Scalar.muli c2_i32_180 arg24
  let v373 : BitVec 32 := Scalar.addi c0_i32_181 v372
  let c1_i32_182 : BitVec 32 := 1#32
  let v374 : BitVec 32 := Scalar.addi v373 c1_i32_182
  let v375 : BitVec 32 := Scalar.muli c2_i32_183 v374
  let c1_i32_221 : BitVec 32 := 1#32
  let v459 : BitVec 32 := Scalar.addi v375 c1_i32_221
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v460 : BitVec 32 := Scalar.minsi v459 v72
  let c256_i32_222 : BitVec 32 := 256#32
  let v461 : BitVec 32 := Scalar.muli v460 c256_i32_222
  let v462 : BitVec 32 := v461
  let c0_i32_223 : BitVec 32 := 0#32
  let v466 : BitVec 32 := Scalar.addi v462 c0_i32_223
  v466
def k0_off983 (i : grid0.Coords) (k0_t10 : Fin (k0_t10_loop i).trips) (c0_i32_223 : BitVec 32) : Fin 2 → Nat :=
  let c2_i32_183 : BitVec 32 := 2#32
  let c0_i32_181 : BitVec 32 := 0#32
  let c2_i32_180 : BitVec 32 := 2#32
  let c0_i32_107 : BitVec 32 := 0#32
  let c1_i32_109 : BitVec 32 := 1#32
  let arg24 : BitVec 32 := Scf.iv c0_i32_107 c1_i32_109 k0_t10
  let v372 : BitVec 32 := Scalar.muli c2_i32_180 arg24
  let v373 : BitVec 32 := Scalar.addi c0_i32_181 v372
  let c1_i32_182 : BitVec 32 := 1#32
  let v374 : BitVec 32 := Scalar.addi v373 c1_i32_182
  let v375 : BitVec 32 := Scalar.muli c2_i32_183 v374
  let c1_i32_221 : BitVec 32 := 1#32
  let v459 : BitVec 32 := Scalar.addi v375 c1_i32_221
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v460 : BitVec 32 := Scalar.minsi v459 v72
  let c256_i32_222 : BitVec 32 := 256#32
  let v461 : BitVec 32 := Scalar.muli v460 c256_i32_222
  let v462 : BitVec 32 := v461
  let v466 : BitVec 32 := Scalar.addi v462 c0_i32_223
  let v467 : BitVec 32 := v466
  let v468 : Index := Scalar.indexCast v467
  let c0_224 : Index := 0#32
  ![v468.toNat, 0]
def k0_mult178 (i : grid0.Coords) (k0_t10 : Fin (k0_t10_loop i).trips) : BitVec 32 :=
  let c2_i32_183 : BitVec 32 := 2#32
  let c0_i32_181 : BitVec 32 := 0#32
  let c2_i32_180 : BitVec 32 := 2#32
  let c0_i32_107 : BitVec 32 := 0#32
  let c1_i32_109 : BitVec 32 := 1#32
  let arg24 : BitVec 32 := Scf.iv c0_i32_107 c1_i32_109 k0_t10
  let v372 : BitVec 32 := Scalar.muli c2_i32_180 arg24
  let v373 : BitVec 32 := Scalar.addi c0_i32_181 v372
  let c1_i32_182 : BitVec 32 := 1#32
  let v374 : BitVec 32 := Scalar.addi v373 c1_i32_182
  let v375 : BitVec 32 := Scalar.muli c2_i32_183 v374
  let c1_i32_221 : BitVec 32 := 1#32
  let v459 : BitVec 32 := Scalar.addi v375 c1_i32_221
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v460 : BitVec 32 := Scalar.minsi v459 v72
  let c256_i32_222 : BitVec 32 := 256#32
  let v461 : BitVec 32 := Scalar.muli v460 c256_i32_222
  let v462 : BitVec 32 := v461
  let c128_i32_229 : BitVec 32 := 128#32
  let v479 : BitVec 32 := Scalar.addi v462 c128_i32_229
  v479
def k0_off984 (i : grid0.Coords) (k0_t10 : Fin (k0_t10_loop i).trips) : Fin 2 → Nat :=
  let c0_237 : Index := 0#32
  let c2_i32_183 : BitVec 32 := 2#32
  let c0_i32_181 : BitVec 32 := 0#32
  let c2_i32_180 : BitVec 32 := 2#32
  let c0_i32_107 : BitVec 32 := 0#32
  let c1_i32_109 : BitVec 32 := 1#32
  let arg24 : BitVec 32 := Scf.iv c0_i32_107 c1_i32_109 k0_t10
  let v372 : BitVec 32 := Scalar.muli c2_i32_180 arg24
  let v373 : BitVec 32 := Scalar.addi c0_i32_181 v372
  let c1_i32_182 : BitVec 32 := 1#32
  let v374 : BitVec 32 := Scalar.addi v373 c1_i32_182
  let v375 : BitVec 32 := Scalar.muli c2_i32_183 v374
  let c1_i32_221 : BitVec 32 := 1#32
  let v459 : BitVec 32 := Scalar.addi v375 c1_i32_221
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v460 : BitVec 32 := Scalar.minsi v459 v72
  let c256_i32_222 : BitVec 32 := 256#32
  let v461 : BitVec 32 := Scalar.muli v460 c256_i32_222
  let v462 : BitVec 32 := v461
  let v505 : Index := Scalar.indexCast v462
  ![0, v505.toNat]
@[reducible] def k0_t11_loop (i : grid0.Coords) : Scf.Loop 32 :=
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let v208 : BitVec 32 := Scalar.addi c0_i32_107 v207
  let c1_i32_110 : BitVec 32 := 1#32
  ⟨v211, v208, c1_i32_110⟩
def k0_mult179 (i : grid0.Coords) (k0_t11 : Fin (k0_t11_loop i).trips) : BitVec 32 :=
  let c2_i32_121 : BitVec 32 := 2#32
  let c0_i32_120 : BitVec 32 := 0#32
  let c2_i32_119 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t11
  let v230 : BitVec 32 := Scalar.muli c2_i32_119 arg24
  let v231 : BitVec 32 := Scalar.addi c0_i32_120 v230
  let v232 : BitVec 32 := Scalar.muli c2_i32_121 v231
  let c1_i32_122 : BitVec 32 := 1#32
  let v233 : BitVec 32 := Scalar.addi v232 c1_i32_122
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v234 : BitVec 32 := Scalar.minsi v233 v72
  let c256_i32_123 : BitVec 32 := 256#32
  let v235 : BitVec 32 := Scalar.muli v234 c256_i32_123
  v235
def k0_off985 (i : grid0.Coords) (k0_t11 : Fin (k0_t11_loop i).trips) (c1_i32_122 : BitVec 32) : Fin 2 → Nat :=
  let c2_i32_121 : BitVec 32 := 2#32
  let c0_i32_120 : BitVec 32 := 0#32
  let c2_i32_119 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t11
  let v230 : BitVec 32 := Scalar.muli c2_i32_119 arg24
  let v231 : BitVec 32 := Scalar.addi c0_i32_120 v230
  let v232 : BitVec 32 := Scalar.muli c2_i32_121 v231
  let v233 : BitVec 32 := Scalar.addi v232 c1_i32_122
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v234 : BitVec 32 := Scalar.minsi v233 v72
  let c256_i32_123 : BitVec 32 := 256#32
  let v235 : BitVec 32 := Scalar.muli v234 c256_i32_123
  let v236 : BitVec 32 := v235
  let v237 : Index := Scalar.indexCast v236
  let c0_124 : Index := 0#32
  ![v237.toNat, 0]
def k0_off986 (i : grid0.Coords) : Fin 3 → Nat :=
  let arg1 : BitVec 32 := BitVec.ofNat 32 (i 1).val
  let c8_i32 : BitVec 32 := 8#32
  let c0_i32_36 : BitVec 32 := 0#32
  let v73 : BitVec 1 := Scalar.cmpi .eq c8_i32 c0_i32_36
  let c1_i32_37 : BitVec 32 := 1#32
  let v74 : BitVec 32 := Scalar.select v73 c1_i32_37 c8_i32
  let v75 : BitVec 32 := Scalar.remsi arg1 v74
  let c0_i32_39 : BitVec 32 := 0#32
  let v77 : BitVec 1 := Scalar.cmpi .slt v75 c0_i32_39
  let c0_i32_40 : BitVec 32 := 0#32
  let v78 : BitVec 1 := Scalar.cmpi .slt v74 c0_i32_40
  let v79 : BitVec 1 := Scalar.xori v77 v78
  let c0_i32_38 : BitVec 32 := 0#32
  let v76 : BitVec 1 := Scalar.cmpi .ne v75 c0_i32_38
  let v80 : BitVec 1 := Scalar.andi v79 v76
  let v81 : BitVec 32 := Scalar.addi v75 v74
  let v82 : BitVec 32 := Scalar.select v80 v81 v75
  let v239 : Index := Scalar.indexCast v82
  let c0_125 : Index := 0#32
  let c0_126 : Index := 0#32
  ![v239.toNat, 0, 0]
def k0_mult180 (i : grid0.Coords) (k0_t11 : Fin (k0_t11_loop i).trips) : BitVec 32 :=
  let c2_i32_121 : BitVec 32 := 2#32
  let c0_i32_120 : BitVec 32 := 0#32
  let c2_i32_119 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t11
  let v230 : BitVec 32 := Scalar.muli c2_i32_119 arg24
  let v231 : BitVec 32 := Scalar.addi c0_i32_120 v230
  let v232 : BitVec 32 := Scalar.muli c2_i32_121 v231
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v247 : BitVec 32 := Scalar.minsi v232 v72
  let c256_i32_130 : BitVec 32 := 256#32
  let v248 : BitVec 32 := Scalar.muli v247 c256_i32_130
  v248
def k0_mult181 (i : grid0.Coords) (k0_t11 : Fin (k0_t11_loop i).trips) : BitVec 32 :=
  let c2_i32_121 : BitVec 32 := 2#32
  let c0_i32_120 : BitVec 32 := 0#32
  let c2_i32_119 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t11
  let v230 : BitVec 32 := Scalar.muli c2_i32_119 arg24
  let v231 : BitVec 32 := Scalar.addi c0_i32_120 v230
  let v232 : BitVec 32 := Scalar.muli c2_i32_121 v231
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v247 : BitVec 32 := Scalar.minsi v232 v72
  let c256_i32_130 : BitVec 32 := 256#32
  let v248 : BitVec 32 := Scalar.muli v247 c256_i32_130
  let v249 : BitVec 32 := v248
  let c0_i32_131 : BitVec 32 := 0#32
  let v253 : BitVec 32 := Scalar.addi v249 c0_i32_131
  v253
def k0_off987 (i : grid0.Coords) (k0_t11 : Fin (k0_t11_loop i).trips) (c0_i32_131 : BitVec 32) : Fin 2 → Nat :=
  let c2_i32_121 : BitVec 32 := 2#32
  let c0_i32_120 : BitVec 32 := 0#32
  let c2_i32_119 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t11
  let v230 : BitVec 32 := Scalar.muli c2_i32_119 arg24
  let v231 : BitVec 32 := Scalar.addi c0_i32_120 v230
  let v232 : BitVec 32 := Scalar.muli c2_i32_121 v231
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v247 : BitVec 32 := Scalar.minsi v232 v72
  let c256_i32_130 : BitVec 32 := 256#32
  let v248 : BitVec 32 := Scalar.muli v247 c256_i32_130
  let v249 : BitVec 32 := v248
  let v253 : BitVec 32 := Scalar.addi v249 c0_i32_131
  let v254 : BitVec 32 := v253
  let v255 : Index := Scalar.indexCast v254
  let c0_132 : Index := 0#32
  ![v255.toNat, 0]
def k0_mult182 (i : grid0.Coords) (k0_t11 : Fin (k0_t11_loop i).trips) : BitVec 32 :=
  let c2_i32_121 : BitVec 32 := 2#32
  let c0_i32_120 : BitVec 32 := 0#32
  let c2_i32_119 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t11
  let v230 : BitVec 32 := Scalar.muli c2_i32_119 arg24
  let v231 : BitVec 32 := Scalar.addi c0_i32_120 v230
  let v232 : BitVec 32 := Scalar.muli c2_i32_121 v231
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v247 : BitVec 32 := Scalar.minsi v232 v72
  let c256_i32_130 : BitVec 32 := 256#32
  let v248 : BitVec 32 := Scalar.muli v247 c256_i32_130
  let v249 : BitVec 32 := v248
  let c128_i32_137 : BitVec 32 := 128#32
  let v266 : BitVec 32 := Scalar.addi v249 c128_i32_137
  v266
def k0_off988 (i : grid0.Coords) (k0_t11 : Fin (k0_t11_loop i).trips) : Fin 2 → Nat :=
  let c0_144 : Index := 0#32
  let c2_i32_121 : BitVec 32 := 2#32
  let c0_i32_120 : BitVec 32 := 0#32
  let c2_i32_119 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t11
  let v230 : BitVec 32 := Scalar.muli c2_i32_119 arg24
  let v231 : BitVec 32 := Scalar.addi c0_i32_120 v230
  let v232 : BitVec 32 := Scalar.muli c2_i32_121 v231
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v247 : BitVec 32 := Scalar.minsi v232 v72
  let c256_i32_130 : BitVec 32 := 256#32
  let v248 : BitVec 32 := Scalar.muli v247 c256_i32_130
  let v249 : BitVec 32 := v248
  let v292 : Index := Scalar.indexCast v249
  ![0, v292.toNat]
def k0_mult183 (i : grid0.Coords) (k0_t11 : Fin (k0_t11_loop i).trips) : BitVec 32 :=
  let c2_i32_121 : BitVec 32 := 2#32
  let c0_i32_120 : BitVec 32 := 0#32
  let c2_i32_119 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t11
  let v230 : BitVec 32 := Scalar.muli c2_i32_119 arg24
  let v231 : BitVec 32 := Scalar.addi c0_i32_120 v230
  let v232 : BitVec 32 := Scalar.muli c2_i32_121 v231
  let c2_i32_150 : BitVec 32 := 2#32
  let v302 : BitVec 32 := Scalar.addi v232 c2_i32_150
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v303 : BitVec 32 := Scalar.minsi v302 v72
  let c256_i32_151 : BitVec 32 := 256#32
  let v304 : BitVec 32 := Scalar.muli v303 c256_i32_151
  v304
def k0_mult184 (i : grid0.Coords) (k0_t11 : Fin (k0_t11_loop i).trips) : BitVec 32 :=
  let c2_i32_121 : BitVec 32 := 2#32
  let c0_i32_120 : BitVec 32 := 0#32
  let c2_i32_119 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t11
  let v230 : BitVec 32 := Scalar.muli c2_i32_119 arg24
  let v231 : BitVec 32 := Scalar.addi c0_i32_120 v230
  let v232 : BitVec 32 := Scalar.muli c2_i32_121 v231
  let c1_i32_158 : BitVec 32 := 1#32
  let v316 : BitVec 32 := Scalar.addi v232 c1_i32_158
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v317 : BitVec 32 := Scalar.minsi v316 v72
  let c256_i32_159 : BitVec 32 := 256#32
  let v318 : BitVec 32 := Scalar.muli v317 c256_i32_159
  v318
def k0_mult185 (i : grid0.Coords) (k0_t11 : Fin (k0_t11_loop i).trips) : BitVec 32 :=
  let c2_i32_121 : BitVec 32 := 2#32
  let c0_i32_120 : BitVec 32 := 0#32
  let c2_i32_119 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t11
  let v230 : BitVec 32 := Scalar.muli c2_i32_119 arg24
  let v231 : BitVec 32 := Scalar.addi c0_i32_120 v230
  let v232 : BitVec 32 := Scalar.muli c2_i32_121 v231
  let c1_i32_158 : BitVec 32 := 1#32
  let v316 : BitVec 32 := Scalar.addi v232 c1_i32_158
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v317 : BitVec 32 := Scalar.minsi v316 v72
  let c256_i32_159 : BitVec 32 := 256#32
  let v318 : BitVec 32 := Scalar.muli v317 c256_i32_159
  let v319 : BitVec 32 := v318
  let c0_i32_160 : BitVec 32 := 0#32
  let v323 : BitVec 32 := Scalar.addi v319 c0_i32_160
  v323
def k0_off989 (i : grid0.Coords) (k0_t11 : Fin (k0_t11_loop i).trips) (c0_i32_160 : BitVec 32) : Fin 2 → Nat :=
  let c2_i32_121 : BitVec 32 := 2#32
  let c0_i32_120 : BitVec 32 := 0#32
  let c2_i32_119 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t11
  let v230 : BitVec 32 := Scalar.muli c2_i32_119 arg24
  let v231 : BitVec 32 := Scalar.addi c0_i32_120 v230
  let v232 : BitVec 32 := Scalar.muli c2_i32_121 v231
  let c1_i32_158 : BitVec 32 := 1#32
  let v316 : BitVec 32 := Scalar.addi v232 c1_i32_158
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v317 : BitVec 32 := Scalar.minsi v316 v72
  let c256_i32_159 : BitVec 32 := 256#32
  let v318 : BitVec 32 := Scalar.muli v317 c256_i32_159
  let v319 : BitVec 32 := v318
  let v323 : BitVec 32 := Scalar.addi v319 c0_i32_160
  let v324 : BitVec 32 := v323
  let v325 : Index := Scalar.indexCast v324
  let c0_161 : Index := 0#32
  ![v325.toNat, 0]
def k0_mult186 (i : grid0.Coords) (k0_t11 : Fin (k0_t11_loop i).trips) : BitVec 32 :=
  let c2_i32_121 : BitVec 32 := 2#32
  let c0_i32_120 : BitVec 32 := 0#32
  let c2_i32_119 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t11
  let v230 : BitVec 32 := Scalar.muli c2_i32_119 arg24
  let v231 : BitVec 32 := Scalar.addi c0_i32_120 v230
  let v232 : BitVec 32 := Scalar.muli c2_i32_121 v231
  let c1_i32_158 : BitVec 32 := 1#32
  let v316 : BitVec 32 := Scalar.addi v232 c1_i32_158
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v317 : BitVec 32 := Scalar.minsi v316 v72
  let c256_i32_159 : BitVec 32 := 256#32
  let v318 : BitVec 32 := Scalar.muli v317 c256_i32_159
  let v319 : BitVec 32 := v318
  let c128_i32_166 : BitVec 32 := 128#32
  let v336 : BitVec 32 := Scalar.addi v319 c128_i32_166
  v336
def k0_off990 (i : grid0.Coords) (k0_t11 : Fin (k0_t11_loop i).trips) : Fin 2 → Nat :=
  let c0_174 : Index := 0#32
  let c2_i32_121 : BitVec 32 := 2#32
  let c0_i32_120 : BitVec 32 := 0#32
  let c2_i32_119 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t11
  let v230 : BitVec 32 := Scalar.muli c2_i32_119 arg24
  let v231 : BitVec 32 := Scalar.addi c0_i32_120 v230
  let v232 : BitVec 32 := Scalar.muli c2_i32_121 v231
  let c1_i32_158 : BitVec 32 := 1#32
  let v316 : BitVec 32 := Scalar.addi v232 c1_i32_158
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v317 : BitVec 32 := Scalar.minsi v316 v72
  let c256_i32_159 : BitVec 32 := 256#32
  let v318 : BitVec 32 := Scalar.muli v317 c256_i32_159
  let v319 : BitVec 32 := v318
  let v362 : Index := Scalar.indexCast v319
  ![0, v362.toNat]
def k0_mult187 (i : grid0.Coords) (k0_t11 : Fin (k0_t11_loop i).trips) : BitVec 32 :=
  let c2_i32_183 : BitVec 32 := 2#32
  let c0_i32_181 : BitVec 32 := 0#32
  let c2_i32_180 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t11
  let v372 : BitVec 32 := Scalar.muli c2_i32_180 arg24
  let v373 : BitVec 32 := Scalar.addi c0_i32_181 v372
  let c1_i32_182 : BitVec 32 := 1#32
  let v374 : BitVec 32 := Scalar.addi v373 c1_i32_182
  let v375 : BitVec 32 := Scalar.muli c2_i32_183 v374
  let c1_i32_184 : BitVec 32 := 1#32
  let v376 : BitVec 32 := Scalar.addi v375 c1_i32_184
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v377 : BitVec 32 := Scalar.minsi v376 v72
  let c256_i32_185 : BitVec 32 := 256#32
  let v378 : BitVec 32 := Scalar.muli v377 c256_i32_185
  v378
def k0_off991 (i : grid0.Coords) (k0_t11 : Fin (k0_t11_loop i).trips) (c1_i32_184 : BitVec 32) : Fin 2 → Nat :=
  let c2_i32_183 : BitVec 32 := 2#32
  let c0_i32_181 : BitVec 32 := 0#32
  let c2_i32_180 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t11
  let v372 : BitVec 32 := Scalar.muli c2_i32_180 arg24
  let v373 : BitVec 32 := Scalar.addi c0_i32_181 v372
  let c1_i32_182 : BitVec 32 := 1#32
  let v374 : BitVec 32 := Scalar.addi v373 c1_i32_182
  let v375 : BitVec 32 := Scalar.muli c2_i32_183 v374
  let v376 : BitVec 32 := Scalar.addi v375 c1_i32_184
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v377 : BitVec 32 := Scalar.minsi v376 v72
  let c256_i32_185 : BitVec 32 := 256#32
  let v378 : BitVec 32 := Scalar.muli v377 c256_i32_185
  let v379 : BitVec 32 := v378
  let v380 : Index := Scalar.indexCast v379
  let c0_186 : Index := 0#32
  ![v380.toNat, 0]
def k0_mult188 (i : grid0.Coords) (k0_t11 : Fin (k0_t11_loop i).trips) : BitVec 32 :=
  let c2_i32_183 : BitVec 32 := 2#32
  let c0_i32_181 : BitVec 32 := 0#32
  let c2_i32_180 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t11
  let v372 : BitVec 32 := Scalar.muli c2_i32_180 arg24
  let v373 : BitVec 32 := Scalar.addi c0_i32_181 v372
  let c1_i32_182 : BitVec 32 := 1#32
  let v374 : BitVec 32 := Scalar.addi v373 c1_i32_182
  let v375 : BitVec 32 := Scalar.muli c2_i32_183 v374
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v390 : BitVec 32 := Scalar.minsi v375 v72
  let c256_i32_192 : BitVec 32 := 256#32
  let v391 : BitVec 32 := Scalar.muli v390 c256_i32_192
  v391
def k0_mult189 (i : grid0.Coords) (k0_t11 : Fin (k0_t11_loop i).trips) : BitVec 32 :=
  let c2_i32_183 : BitVec 32 := 2#32
  let c0_i32_181 : BitVec 32 := 0#32
  let c2_i32_180 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t11
  let v372 : BitVec 32 := Scalar.muli c2_i32_180 arg24
  let v373 : BitVec 32 := Scalar.addi c0_i32_181 v372
  let c1_i32_182 : BitVec 32 := 1#32
  let v374 : BitVec 32 := Scalar.addi v373 c1_i32_182
  let v375 : BitVec 32 := Scalar.muli c2_i32_183 v374
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v390 : BitVec 32 := Scalar.minsi v375 v72
  let c256_i32_192 : BitVec 32 := 256#32
  let v391 : BitVec 32 := Scalar.muli v390 c256_i32_192
  let v392 : BitVec 32 := v391
  let c0_i32_193 : BitVec 32 := 0#32
  let v396 : BitVec 32 := Scalar.addi v392 c0_i32_193
  v396
def k0_off992 (i : grid0.Coords) (k0_t11 : Fin (k0_t11_loop i).trips) (c0_i32_193 : BitVec 32) : Fin 2 → Nat :=
  let c2_i32_183 : BitVec 32 := 2#32
  let c0_i32_181 : BitVec 32 := 0#32
  let c2_i32_180 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t11
  let v372 : BitVec 32 := Scalar.muli c2_i32_180 arg24
  let v373 : BitVec 32 := Scalar.addi c0_i32_181 v372
  let c1_i32_182 : BitVec 32 := 1#32
  let v374 : BitVec 32 := Scalar.addi v373 c1_i32_182
  let v375 : BitVec 32 := Scalar.muli c2_i32_183 v374
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v390 : BitVec 32 := Scalar.minsi v375 v72
  let c256_i32_192 : BitVec 32 := 256#32
  let v391 : BitVec 32 := Scalar.muli v390 c256_i32_192
  let v392 : BitVec 32 := v391
  let v396 : BitVec 32 := Scalar.addi v392 c0_i32_193
  let v397 : BitVec 32 := v396
  let v398 : Index := Scalar.indexCast v397
  let c0_194 : Index := 0#32
  ![v398.toNat, 0]
def k0_mult190 (i : grid0.Coords) (k0_t11 : Fin (k0_t11_loop i).trips) : BitVec 32 :=
  let c2_i32_183 : BitVec 32 := 2#32
  let c0_i32_181 : BitVec 32 := 0#32
  let c2_i32_180 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t11
  let v372 : BitVec 32 := Scalar.muli c2_i32_180 arg24
  let v373 : BitVec 32 := Scalar.addi c0_i32_181 v372
  let c1_i32_182 : BitVec 32 := 1#32
  let v374 : BitVec 32 := Scalar.addi v373 c1_i32_182
  let v375 : BitVec 32 := Scalar.muli c2_i32_183 v374
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v390 : BitVec 32 := Scalar.minsi v375 v72
  let c256_i32_192 : BitVec 32 := 256#32
  let v391 : BitVec 32 := Scalar.muli v390 c256_i32_192
  let v392 : BitVec 32 := v391
  let c128_i32_199 : BitVec 32 := 128#32
  let v409 : BitVec 32 := Scalar.addi v392 c128_i32_199
  v409
def k0_off993 (i : grid0.Coords) (k0_t11 : Fin (k0_t11_loop i).trips) : Fin 2 → Nat :=
  let c0_207 : Index := 0#32
  let c2_i32_183 : BitVec 32 := 2#32
  let c0_i32_181 : BitVec 32 := 0#32
  let c2_i32_180 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t11
  let v372 : BitVec 32 := Scalar.muli c2_i32_180 arg24
  let v373 : BitVec 32 := Scalar.addi c0_i32_181 v372
  let c1_i32_182 : BitVec 32 := 1#32
  let v374 : BitVec 32 := Scalar.addi v373 c1_i32_182
  let v375 : BitVec 32 := Scalar.muli c2_i32_183 v374
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v390 : BitVec 32 := Scalar.minsi v375 v72
  let c256_i32_192 : BitVec 32 := 256#32
  let v391 : BitVec 32 := Scalar.muli v390 c256_i32_192
  let v392 : BitVec 32 := v391
  let v435 : Index := Scalar.indexCast v392
  ![0, v435.toNat]
def k0_mult191 (i : grid0.Coords) (k0_t11 : Fin (k0_t11_loop i).trips) : BitVec 32 :=
  let c2_i32_183 : BitVec 32 := 2#32
  let c0_i32_181 : BitVec 32 := 0#32
  let c2_i32_180 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t11
  let v372 : BitVec 32 := Scalar.muli c2_i32_180 arg24
  let v373 : BitVec 32 := Scalar.addi c0_i32_181 v372
  let c1_i32_182 : BitVec 32 := 1#32
  let v374 : BitVec 32 := Scalar.addi v373 c1_i32_182
  let v375 : BitVec 32 := Scalar.muli c2_i32_183 v374
  let c2_i32_213 : BitVec 32 := 2#32
  let v445 : BitVec 32 := Scalar.addi v375 c2_i32_213
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v446 : BitVec 32 := Scalar.minsi v445 v72
  let c256_i32_214 : BitVec 32 := 256#32
  let v447 : BitVec 32 := Scalar.muli v446 c256_i32_214
  v447
def k0_mult192 (i : grid0.Coords) (k0_t11 : Fin (k0_t11_loop i).trips) : BitVec 32 :=
  let c2_i32_183 : BitVec 32 := 2#32
  let c0_i32_181 : BitVec 32 := 0#32
  let c2_i32_180 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t11
  let v372 : BitVec 32 := Scalar.muli c2_i32_180 arg24
  let v373 : BitVec 32 := Scalar.addi c0_i32_181 v372
  let c1_i32_182 : BitVec 32 := 1#32
  let v374 : BitVec 32 := Scalar.addi v373 c1_i32_182
  let v375 : BitVec 32 := Scalar.muli c2_i32_183 v374
  let c1_i32_221 : BitVec 32 := 1#32
  let v459 : BitVec 32 := Scalar.addi v375 c1_i32_221
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v460 : BitVec 32 := Scalar.minsi v459 v72
  let c256_i32_222 : BitVec 32 := 256#32
  let v461 : BitVec 32 := Scalar.muli v460 c256_i32_222
  v461
def k0_mult193 (i : grid0.Coords) (k0_t11 : Fin (k0_t11_loop i).trips) : BitVec 32 :=
  let c2_i32_183 : BitVec 32 := 2#32
  let c0_i32_181 : BitVec 32 := 0#32
  let c2_i32_180 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t11
  let v372 : BitVec 32 := Scalar.muli c2_i32_180 arg24
  let v373 : BitVec 32 := Scalar.addi c0_i32_181 v372
  let c1_i32_182 : BitVec 32 := 1#32
  let v374 : BitVec 32 := Scalar.addi v373 c1_i32_182
  let v375 : BitVec 32 := Scalar.muli c2_i32_183 v374
  let c1_i32_221 : BitVec 32 := 1#32
  let v459 : BitVec 32 := Scalar.addi v375 c1_i32_221
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v460 : BitVec 32 := Scalar.minsi v459 v72
  let c256_i32_222 : BitVec 32 := 256#32
  let v461 : BitVec 32 := Scalar.muli v460 c256_i32_222
  let v462 : BitVec 32 := v461
  let c0_i32_223 : BitVec 32 := 0#32
  let v466 : BitVec 32 := Scalar.addi v462 c0_i32_223
  v466
def k0_off994 (i : grid0.Coords) (k0_t11 : Fin (k0_t11_loop i).trips) (c0_i32_223 : BitVec 32) : Fin 2 → Nat :=
  let c2_i32_183 : BitVec 32 := 2#32
  let c0_i32_181 : BitVec 32 := 0#32
  let c2_i32_180 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t11
  let v372 : BitVec 32 := Scalar.muli c2_i32_180 arg24
  let v373 : BitVec 32 := Scalar.addi c0_i32_181 v372
  let c1_i32_182 : BitVec 32 := 1#32
  let v374 : BitVec 32 := Scalar.addi v373 c1_i32_182
  let v375 : BitVec 32 := Scalar.muli c2_i32_183 v374
  let c1_i32_221 : BitVec 32 := 1#32
  let v459 : BitVec 32 := Scalar.addi v375 c1_i32_221
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v460 : BitVec 32 := Scalar.minsi v459 v72
  let c256_i32_222 : BitVec 32 := 256#32
  let v461 : BitVec 32 := Scalar.muli v460 c256_i32_222
  let v462 : BitVec 32 := v461
  let v466 : BitVec 32 := Scalar.addi v462 c0_i32_223
  let v467 : BitVec 32 := v466
  let v468 : Index := Scalar.indexCast v467
  let c0_224 : Index := 0#32
  ![v468.toNat, 0]
def k0_mult194 (i : grid0.Coords) (k0_t11 : Fin (k0_t11_loop i).trips) : BitVec 32 :=
  let c2_i32_183 : BitVec 32 := 2#32
  let c0_i32_181 : BitVec 32 := 0#32
  let c2_i32_180 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t11
  let v372 : BitVec 32 := Scalar.muli c2_i32_180 arg24
  let v373 : BitVec 32 := Scalar.addi c0_i32_181 v372
  let c1_i32_182 : BitVec 32 := 1#32
  let v374 : BitVec 32 := Scalar.addi v373 c1_i32_182
  let v375 : BitVec 32 := Scalar.muli c2_i32_183 v374
  let c1_i32_221 : BitVec 32 := 1#32
  let v459 : BitVec 32 := Scalar.addi v375 c1_i32_221
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v460 : BitVec 32 := Scalar.minsi v459 v72
  let c256_i32_222 : BitVec 32 := 256#32
  let v461 : BitVec 32 := Scalar.muli v460 c256_i32_222
  let v462 : BitVec 32 := v461
  let c128_i32_229 : BitVec 32 := 128#32
  let v479 : BitVec 32 := Scalar.addi v462 c128_i32_229
  v479
def k0_off995 (i : grid0.Coords) (k0_t11 : Fin (k0_t11_loop i).trips) : Fin 2 → Nat :=
  let c0_237 : Index := 0#32
  let c2_i32_183 : BitVec 32 := 2#32
  let c0_i32_181 : BitVec 32 := 0#32
  let c2_i32_180 : BitVec 32 := 2#32
  let c0_i32_107 : BitVec 32 := 0#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v207 : BitVec 32 := Scalar.subi v139 c0_i32_107
  let c1_i32_108 : BitVec 32 := 1#32
  let v209 : BitVec 32 := Scalar.divsi v207 c1_i32_108
  let v210 : BitVec 32 := Scalar.muli v209 c1_i32_108
  let v211 : BitVec 32 := Scalar.addi c0_i32_107 v210
  let c1_i32_110 : BitVec 32 := 1#32
  let arg24 : BitVec 32 := Scf.iv v211 c1_i32_110 k0_t11
  let v372 : BitVec 32 := Scalar.muli c2_i32_180 arg24
  let v373 : BitVec 32 := Scalar.addi c0_i32_181 v372
  let c1_i32_182 : BitVec 32 := 1#32
  let v374 : BitVec 32 := Scalar.addi v373 c1_i32_182
  let v375 : BitVec 32 := Scalar.muli c2_i32_183 v374
  let c1_i32_221 : BitVec 32 := 1#32
  let v459 : BitVec 32 := Scalar.addi v375 c1_i32_221
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v460 : BitVec 32 := Scalar.minsi v459 v72
  let c256_i32_222 : BitVec 32 := 256#32
  let v461 : BitVec 32 := Scalar.muli v460 c256_i32_222
  let v462 : BitVec 32 := v461
  let v505 : Index := Scalar.indexCast v462
  ![0, v505.toNat]
@[reducible] def k0_t12_loop (i : grid0.Coords) : Scf.Loop 32 :=
  let c0_i32_111 : BitVec 32 := 0#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c2_i32_65 : BitVec 32 := 2#32
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_113 : BitVec 32 := 1#32
  ⟨c0_i32_111, v218, c1_i32_113⟩
def k0_mult195 (i : grid0.Coords) (k0_t12 : Fin (k0_t12_loop i).trips) : BitVec 32 :=
  let c2_i32_120 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_119 : BitVec 32 := 2#32
  let c0_i32_111 : BitVec 32 := 0#32
  let c1_i32_113 : BitVec 32 := 1#32
  let arg24 : BitVec 32 := Scf.iv c0_i32_111 c1_i32_113 k0_t12
  let v230 : BitVec 32 := Scalar.muli c2_i32_119 arg24
  let v231 : BitVec 32 := Scalar.addi v140 v230
  let v232 : BitVec 32 := Scalar.muli c2_i32_120 v231
  let c1_i32_121 : BitVec 32 := 1#32
  let v233 : BitVec 32 := Scalar.addi v232 c1_i32_121
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v234 : BitVec 32 := Scalar.minsi v233 v72
  let c256_i32_122 : BitVec 32 := 256#32
  let v235 : BitVec 32 := Scalar.muli v234 c256_i32_122
  v235
def k0_off996 (i : grid0.Coords) (k0_t12 : Fin (k0_t12_loop i).trips) (c1_i32_121 : BitVec 32) : Fin 2 → Nat :=
  let c2_i32_120 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_119 : BitVec 32 := 2#32
  let c0_i32_111 : BitVec 32 := 0#32
  let c1_i32_113 : BitVec 32 := 1#32
  let arg24 : BitVec 32 := Scf.iv c0_i32_111 c1_i32_113 k0_t12
  let v230 : BitVec 32 := Scalar.muli c2_i32_119 arg24
  let v231 : BitVec 32 := Scalar.addi v140 v230
  let v232 : BitVec 32 := Scalar.muli c2_i32_120 v231
  let v233 : BitVec 32 := Scalar.addi v232 c1_i32_121
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v234 : BitVec 32 := Scalar.minsi v233 v72
  let c256_i32_122 : BitVec 32 := 256#32
  let v235 : BitVec 32 := Scalar.muli v234 c256_i32_122
  let v236 : BitVec 32 := v235
  let v237 : Index := Scalar.indexCast v236
  let c0_123 : Index := 0#32
  ![v237.toNat, 0]
def k0_off997 (i : grid0.Coords) : Fin 3 → Nat :=
  let arg1 : BitVec 32 := BitVec.ofNat 32 (i 1).val
  let c8_i32 : BitVec 32 := 8#32
  let c0_i32_36 : BitVec 32 := 0#32
  let v73 : BitVec 1 := Scalar.cmpi .eq c8_i32 c0_i32_36
  let c1_i32_37 : BitVec 32 := 1#32
  let v74 : BitVec 32 := Scalar.select v73 c1_i32_37 c8_i32
  let v75 : BitVec 32 := Scalar.remsi arg1 v74
  let c0_i32_39 : BitVec 32 := 0#32
  let v77 : BitVec 1 := Scalar.cmpi .slt v75 c0_i32_39
  let c0_i32_40 : BitVec 32 := 0#32
  let v78 : BitVec 1 := Scalar.cmpi .slt v74 c0_i32_40
  let v79 : BitVec 1 := Scalar.xori v77 v78
  let c0_i32_38 : BitVec 32 := 0#32
  let v76 : BitVec 1 := Scalar.cmpi .ne v75 c0_i32_38
  let v80 : BitVec 1 := Scalar.andi v79 v76
  let v81 : BitVec 32 := Scalar.addi v75 v74
  let v82 : BitVec 32 := Scalar.select v80 v81 v75
  let v239 : Index := Scalar.indexCast v82
  let c0_124 : Index := 0#32
  let c0_125 : Index := 0#32
  ![v239.toNat, 0, 0]
def k0_mult196 (i : grid0.Coords) (k0_t12 : Fin (k0_t12_loop i).trips) : BitVec 32 :=
  let c2_i32_120 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_119 : BitVec 32 := 2#32
  let c0_i32_111 : BitVec 32 := 0#32
  let c1_i32_113 : BitVec 32 := 1#32
  let arg24 : BitVec 32 := Scf.iv c0_i32_111 c1_i32_113 k0_t12
  let v230 : BitVec 32 := Scalar.muli c2_i32_119 arg24
  let v231 : BitVec 32 := Scalar.addi v140 v230
  let v232 : BitVec 32 := Scalar.muli c2_i32_120 v231
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v247 : BitVec 32 := Scalar.minsi v232 v72
  let c256_i32_129 : BitVec 32 := 256#32
  let v248 : BitVec 32 := Scalar.muli v247 c256_i32_129
  v248
def k0_mult197 (i : grid0.Coords) (k0_t12 : Fin (k0_t12_loop i).trips) : BitVec 32 :=
  let c2_i32_120 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_119 : BitVec 32 := 2#32
  let c0_i32_111 : BitVec 32 := 0#32
  let c1_i32_113 : BitVec 32 := 1#32
  let arg24 : BitVec 32 := Scf.iv c0_i32_111 c1_i32_113 k0_t12
  let v230 : BitVec 32 := Scalar.muli c2_i32_119 arg24
  let v231 : BitVec 32 := Scalar.addi v140 v230
  let v232 : BitVec 32 := Scalar.muli c2_i32_120 v231
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v247 : BitVec 32 := Scalar.minsi v232 v72
  let c256_i32_129 : BitVec 32 := 256#32
  let v248 : BitVec 32 := Scalar.muli v247 c256_i32_129
  let v249 : BitVec 32 := v248
  let c0_i32_130 : BitVec 32 := 0#32
  let v253 : BitVec 32 := Scalar.addi v249 c0_i32_130
  v253
def k0_off998 (i : grid0.Coords) (k0_t12 : Fin (k0_t12_loop i).trips) (c0_i32_130 : BitVec 32) : Fin 2 → Nat :=
  let c2_i32_120 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_119 : BitVec 32 := 2#32
  let c0_i32_111 : BitVec 32 := 0#32
  let c1_i32_113 : BitVec 32 := 1#32
  let arg24 : BitVec 32 := Scf.iv c0_i32_111 c1_i32_113 k0_t12
  let v230 : BitVec 32 := Scalar.muli c2_i32_119 arg24
  let v231 : BitVec 32 := Scalar.addi v140 v230
  let v232 : BitVec 32 := Scalar.muli c2_i32_120 v231
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v247 : BitVec 32 := Scalar.minsi v232 v72
  let c256_i32_129 : BitVec 32 := 256#32
  let v248 : BitVec 32 := Scalar.muli v247 c256_i32_129
  let v249 : BitVec 32 := v248
  let v253 : BitVec 32 := Scalar.addi v249 c0_i32_130
  let v254 : BitVec 32 := v253
  let v255 : Index := Scalar.indexCast v254
  let c0_131 : Index := 0#32
  ![v255.toNat, 0]
def k0_off999 (i : grid0.Coords) (k0_t12 : Fin (k0_t12_loop i).trips) (c0_i32_135 : BitVec 32) : Fin 3 → Nat :=
  let c2_i32_137 : BitVec 32 := 2#32
  let c0_i32_136 : BitVec 32 := 0#32
  let arg1 : BitVec 32 := BitVec.ofNat 32 (i 1).val
  let c2_i32_120 : BitVec 32 := 2#32
  let c2_i32_65 : BitVec 32 := 2#32
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_119 : BitVec 32 := 2#32
  let c0_i32_111 : BitVec 32 := 0#32
  let c1_i32_113 : BitVec 32 := 1#32
  let arg24 : BitVec 32 := Scf.iv c0_i32_111 c1_i32_113 k0_t12
  let v230 : BitVec 32 := Scalar.muli c2_i32_119 arg24
  let v231 : BitVec 32 := Scalar.addi v140 v230
  let v232 : BitVec 32 := Scalar.muli c2_i32_120 v231
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v247 : BitVec 32 := Scalar.minsi v232 v72
  let c2_i32_134 : BitVec 32 := 2#32
  let v264 : BitVec 32 := Scalar.muli v247 c2_i32_134
  let v265 : BitVec 32 := Scalar.addi v264 c0_i32_135
  let v266 : BitVec 32 := Scalar.subi arg1 v265
  let v267 : BitVec 32 := Scalar.maxsi c0_i32_136 v266
  let v268 : BitVec 32 := Scalar.minsi c2_i32_137 v267
  let v269 : Index := Scalar.indexCast v268
  let c0_138 : Index := 0#32
  let c0_139 : Index := 0#32
  ![v269.toNat, 0, 0]
def k0_mult198 (i : grid0.Coords) (k0_t12 : Fin (k0_t12_loop i).trips) : BitVec 32 :=
  let c2_i32_120 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_119 : BitVec 32 := 2#32
  let c0_i32_111 : BitVec 32 := 0#32
  let c1_i32_113 : BitVec 32 := 1#32
  let arg24 : BitVec 32 := Scf.iv c0_i32_111 c1_i32_113 k0_t12
  let v230 : BitVec 32 := Scalar.muli c2_i32_119 arg24
  let v231 : BitVec 32 := Scalar.addi v140 v230
  let v232 : BitVec 32 := Scalar.muli c2_i32_120 v231
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v247 : BitVec 32 := Scalar.minsi v232 v72
  let c256_i32_129 : BitVec 32 := 256#32
  let v248 : BitVec 32 := Scalar.muli v247 c256_i32_129
  let v249 : BitVec 32 := v248
  let c128_i32_142 : BitVec 32 := 128#32
  let v275 : BitVec 32 := Scalar.addi v249 c128_i32_142
  v275
def k0_off1000 (i : grid0.Coords) (k0_t12 : Fin (k0_t12_loop i).trips) : Fin 2 → Nat :=
  let c0_155 : Index := 0#32
  let c2_i32_120 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_119 : BitVec 32 := 2#32
  let c0_i32_111 : BitVec 32 := 0#32
  let c1_i32_113 : BitVec 32 := 1#32
  let arg24 : BitVec 32 := Scf.iv c0_i32_111 c1_i32_113 k0_t12
  let v230 : BitVec 32 := Scalar.muli c2_i32_119 arg24
  let v231 : BitVec 32 := Scalar.addi v140 v230
  let v232 : BitVec 32 := Scalar.muli c2_i32_120 v231
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v247 : BitVec 32 := Scalar.minsi v232 v72
  let c256_i32_129 : BitVec 32 := 256#32
  let v248 : BitVec 32 := Scalar.muli v247 c256_i32_129
  let v249 : BitVec 32 := v248
  let v310 : Index := Scalar.indexCast v249
  ![0, v310.toNat]
def k0_mult199 (i : grid0.Coords) (k0_t12 : Fin (k0_t12_loop i).trips) : BitVec 32 :=
  let c2_i32_120 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_119 : BitVec 32 := 2#32
  let c0_i32_111 : BitVec 32 := 0#32
  let c1_i32_113 : BitVec 32 := 1#32
  let arg24 : BitVec 32 := Scf.iv c0_i32_111 c1_i32_113 k0_t12
  let v230 : BitVec 32 := Scalar.muli c2_i32_119 arg24
  let v231 : BitVec 32 := Scalar.addi v140 v230
  let v232 : BitVec 32 := Scalar.muli c2_i32_120 v231
  let c2_i32_161 : BitVec 32 := 2#32
  let v320 : BitVec 32 := Scalar.addi v232 c2_i32_161
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v321 : BitVec 32 := Scalar.minsi v320 v72
  let c256_i32_162 : BitVec 32 := 256#32
  let v322 : BitVec 32 := Scalar.muli v321 c256_i32_162
  v322
def k0_mult200 (i : grid0.Coords) (k0_t12 : Fin (k0_t12_loop i).trips) : BitVec 32 :=
  let c2_i32_120 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_119 : BitVec 32 := 2#32
  let c0_i32_111 : BitVec 32 := 0#32
  let c1_i32_113 : BitVec 32 := 1#32
  let arg24 : BitVec 32 := Scf.iv c0_i32_111 c1_i32_113 k0_t12
  let v230 : BitVec 32 := Scalar.muli c2_i32_119 arg24
  let v231 : BitVec 32 := Scalar.addi v140 v230
  let v232 : BitVec 32 := Scalar.muli c2_i32_120 v231
  let c1_i32_169 : BitVec 32 := 1#32
  let v334 : BitVec 32 := Scalar.addi v232 c1_i32_169
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v335 : BitVec 32 := Scalar.minsi v334 v72
  let c256_i32_170 : BitVec 32 := 256#32
  let v336 : BitVec 32 := Scalar.muli v335 c256_i32_170
  v336
def k0_mult201 (i : grid0.Coords) (k0_t12 : Fin (k0_t12_loop i).trips) : BitVec 32 :=
  let c2_i32_120 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_119 : BitVec 32 := 2#32
  let c0_i32_111 : BitVec 32 := 0#32
  let c1_i32_113 : BitVec 32 := 1#32
  let arg24 : BitVec 32 := Scf.iv c0_i32_111 c1_i32_113 k0_t12
  let v230 : BitVec 32 := Scalar.muli c2_i32_119 arg24
  let v231 : BitVec 32 := Scalar.addi v140 v230
  let v232 : BitVec 32 := Scalar.muli c2_i32_120 v231
  let c1_i32_169 : BitVec 32 := 1#32
  let v334 : BitVec 32 := Scalar.addi v232 c1_i32_169
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v335 : BitVec 32 := Scalar.minsi v334 v72
  let c256_i32_170 : BitVec 32 := 256#32
  let v336 : BitVec 32 := Scalar.muli v335 c256_i32_170
  let v337 : BitVec 32 := v336
  let c0_i32_171 : BitVec 32 := 0#32
  let v341 : BitVec 32 := Scalar.addi v337 c0_i32_171
  v341
def k0_off1001 (i : grid0.Coords) (k0_t12 : Fin (k0_t12_loop i).trips) (c0_i32_171 : BitVec 32) : Fin 2 → Nat :=
  let c2_i32_120 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_119 : BitVec 32 := 2#32
  let c0_i32_111 : BitVec 32 := 0#32
  let c1_i32_113 : BitVec 32 := 1#32
  let arg24 : BitVec 32 := Scf.iv c0_i32_111 c1_i32_113 k0_t12
  let v230 : BitVec 32 := Scalar.muli c2_i32_119 arg24
  let v231 : BitVec 32 := Scalar.addi v140 v230
  let v232 : BitVec 32 := Scalar.muli c2_i32_120 v231
  let c1_i32_169 : BitVec 32 := 1#32
  let v334 : BitVec 32 := Scalar.addi v232 c1_i32_169
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v335 : BitVec 32 := Scalar.minsi v334 v72
  let c256_i32_170 : BitVec 32 := 256#32
  let v336 : BitVec 32 := Scalar.muli v335 c256_i32_170
  let v337 : BitVec 32 := v336
  let v341 : BitVec 32 := Scalar.addi v337 c0_i32_171
  let v342 : BitVec 32 := v341
  let v343 : Index := Scalar.indexCast v342
  let c0_172 : Index := 0#32
  ![v343.toNat, 0]
def k0_off1002 (i : grid0.Coords) (k0_t12 : Fin (k0_t12_loop i).trips) (c0_i32_176 : BitVec 32) : Fin 3 → Nat :=
  let c2_i32_178 : BitVec 32 := 2#32
  let c0_i32_177 : BitVec 32 := 0#32
  let arg1 : BitVec 32 := BitVec.ofNat 32 (i 1).val
  let c2_i32_120 : BitVec 32 := 2#32
  let c2_i32_65 : BitVec 32 := 2#32
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_119 : BitVec 32 := 2#32
  let c0_i32_111 : BitVec 32 := 0#32
  let c1_i32_113 : BitVec 32 := 1#32
  let arg24 : BitVec 32 := Scf.iv c0_i32_111 c1_i32_113 k0_t12
  let v230 : BitVec 32 := Scalar.muli c2_i32_119 arg24
  let v231 : BitVec 32 := Scalar.addi v140 v230
  let v232 : BitVec 32 := Scalar.muli c2_i32_120 v231
  let c1_i32_169 : BitVec 32 := 1#32
  let v334 : BitVec 32 := Scalar.addi v232 c1_i32_169
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v335 : BitVec 32 := Scalar.minsi v334 v72
  let c2_i32_175 : BitVec 32 := 2#32
  let v352 : BitVec 32 := Scalar.muli v335 c2_i32_175
  let v353 : BitVec 32 := Scalar.addi v352 c0_i32_176
  let v354 : BitVec 32 := Scalar.subi arg1 v353
  let v355 : BitVec 32 := Scalar.maxsi c0_i32_177 v354
  let v356 : BitVec 32 := Scalar.minsi c2_i32_178 v355
  let v357 : Index := Scalar.indexCast v356
  let c0_179 : Index := 0#32
  let c0_180 : Index := 0#32
  ![v357.toNat, 0, 0]
def k0_mult202 (i : grid0.Coords) (k0_t12 : Fin (k0_t12_loop i).trips) : BitVec 32 :=
  let c2_i32_120 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_119 : BitVec 32 := 2#32
  let c0_i32_111 : BitVec 32 := 0#32
  let c1_i32_113 : BitVec 32 := 1#32
  let arg24 : BitVec 32 := Scf.iv c0_i32_111 c1_i32_113 k0_t12
  let v230 : BitVec 32 := Scalar.muli c2_i32_119 arg24
  let v231 : BitVec 32 := Scalar.addi v140 v230
  let v232 : BitVec 32 := Scalar.muli c2_i32_120 v231
  let c1_i32_169 : BitVec 32 := 1#32
  let v334 : BitVec 32 := Scalar.addi v232 c1_i32_169
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v335 : BitVec 32 := Scalar.minsi v334 v72
  let c256_i32_170 : BitVec 32 := 256#32
  let v336 : BitVec 32 := Scalar.muli v335 c256_i32_170
  let v337 : BitVec 32 := v336
  let c128_i32_183 : BitVec 32 := 128#32
  let v363 : BitVec 32 := Scalar.addi v337 c128_i32_183
  v363
def k0_off1003 (i : grid0.Coords) (k0_t12 : Fin (k0_t12_loop i).trips) : Fin 2 → Nat :=
  let c0_197 : Index := 0#32
  let c2_i32_120 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_119 : BitVec 32 := 2#32
  let c0_i32_111 : BitVec 32 := 0#32
  let c1_i32_113 : BitVec 32 := 1#32
  let arg24 : BitVec 32 := Scf.iv c0_i32_111 c1_i32_113 k0_t12
  let v230 : BitVec 32 := Scalar.muli c2_i32_119 arg24
  let v231 : BitVec 32 := Scalar.addi v140 v230
  let v232 : BitVec 32 := Scalar.muli c2_i32_120 v231
  let c1_i32_169 : BitVec 32 := 1#32
  let v334 : BitVec 32 := Scalar.addi v232 c1_i32_169
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v335 : BitVec 32 := Scalar.minsi v334 v72
  let c256_i32_170 : BitVec 32 := 256#32
  let v336 : BitVec 32 := Scalar.muli v335 c256_i32_170
  let v337 : BitVec 32 := v336
  let v398 : Index := Scalar.indexCast v337
  ![0, v398.toNat]
def k0_mult203 (i : grid0.Coords) (k0_t12 : Fin (k0_t12_loop i).trips) : BitVec 32 :=
  let c2_i32_205 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_203 : BitVec 32 := 2#32
  let c0_i32_111 : BitVec 32 := 0#32
  let c1_i32_113 : BitVec 32 := 1#32
  let arg24 : BitVec 32 := Scf.iv c0_i32_111 c1_i32_113 k0_t12
  let v408 : BitVec 32 := Scalar.muli c2_i32_203 arg24
  let v409 : BitVec 32 := Scalar.addi v140 v408
  let c1_i32_204 : BitVec 32 := 1#32
  let v410 : BitVec 32 := Scalar.addi v409 c1_i32_204
  let v411 : BitVec 32 := Scalar.muli c2_i32_205 v410
  let c1_i32_206 : BitVec 32 := 1#32
  let v412 : BitVec 32 := Scalar.addi v411 c1_i32_206
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v413 : BitVec 32 := Scalar.minsi v412 v72
  let c256_i32_207 : BitVec 32 := 256#32
  let v414 : BitVec 32 := Scalar.muli v413 c256_i32_207
  v414
def k0_off1004 (i : grid0.Coords) (k0_t12 : Fin (k0_t12_loop i).trips) (c1_i32_206 : BitVec 32) : Fin 2 → Nat :=
  let c2_i32_205 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_203 : BitVec 32 := 2#32
  let c0_i32_111 : BitVec 32 := 0#32
  let c1_i32_113 : BitVec 32 := 1#32
  let arg24 : BitVec 32 := Scf.iv c0_i32_111 c1_i32_113 k0_t12
  let v408 : BitVec 32 := Scalar.muli c2_i32_203 arg24
  let v409 : BitVec 32 := Scalar.addi v140 v408
  let c1_i32_204 : BitVec 32 := 1#32
  let v410 : BitVec 32 := Scalar.addi v409 c1_i32_204
  let v411 : BitVec 32 := Scalar.muli c2_i32_205 v410
  let v412 : BitVec 32 := Scalar.addi v411 c1_i32_206
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v413 : BitVec 32 := Scalar.minsi v412 v72
  let c256_i32_207 : BitVec 32 := 256#32
  let v414 : BitVec 32 := Scalar.muli v413 c256_i32_207
  let v415 : BitVec 32 := v414
  let v416 : Index := Scalar.indexCast v415
  let c0_208 : Index := 0#32
  ![v416.toNat, 0]
def k0_mult204 (i : grid0.Coords) (k0_t12 : Fin (k0_t12_loop i).trips) : BitVec 32 :=
  let c2_i32_205 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_203 : BitVec 32 := 2#32
  let c0_i32_111 : BitVec 32 := 0#32
  let c1_i32_113 : BitVec 32 := 1#32
  let arg24 : BitVec 32 := Scf.iv c0_i32_111 c1_i32_113 k0_t12
  let v408 : BitVec 32 := Scalar.muli c2_i32_203 arg24
  let v409 : BitVec 32 := Scalar.addi v140 v408
  let c1_i32_204 : BitVec 32 := 1#32
  let v410 : BitVec 32 := Scalar.addi v409 c1_i32_204
  let v411 : BitVec 32 := Scalar.muli c2_i32_205 v410
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v426 : BitVec 32 := Scalar.minsi v411 v72
  let c256_i32_214 : BitVec 32 := 256#32
  let v427 : BitVec 32 := Scalar.muli v426 c256_i32_214
  v427
def k0_mult205 (i : grid0.Coords) (k0_t12 : Fin (k0_t12_loop i).trips) : BitVec 32 :=
  let c2_i32_205 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_203 : BitVec 32 := 2#32
  let c0_i32_111 : BitVec 32 := 0#32
  let c1_i32_113 : BitVec 32 := 1#32
  let arg24 : BitVec 32 := Scf.iv c0_i32_111 c1_i32_113 k0_t12
  let v408 : BitVec 32 := Scalar.muli c2_i32_203 arg24
  let v409 : BitVec 32 := Scalar.addi v140 v408
  let c1_i32_204 : BitVec 32 := 1#32
  let v410 : BitVec 32 := Scalar.addi v409 c1_i32_204
  let v411 : BitVec 32 := Scalar.muli c2_i32_205 v410
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v426 : BitVec 32 := Scalar.minsi v411 v72
  let c256_i32_214 : BitVec 32 := 256#32
  let v427 : BitVec 32 := Scalar.muli v426 c256_i32_214
  let v428 : BitVec 32 := v427
  let c0_i32_215 : BitVec 32 := 0#32
  let v432 : BitVec 32 := Scalar.addi v428 c0_i32_215
  v432
def k0_off1005 (i : grid0.Coords) (k0_t12 : Fin (k0_t12_loop i).trips) (c0_i32_215 : BitVec 32) : Fin 2 → Nat :=
  let c2_i32_205 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_203 : BitVec 32 := 2#32
  let c0_i32_111 : BitVec 32 := 0#32
  let c1_i32_113 : BitVec 32 := 1#32
  let arg24 : BitVec 32 := Scf.iv c0_i32_111 c1_i32_113 k0_t12
  let v408 : BitVec 32 := Scalar.muli c2_i32_203 arg24
  let v409 : BitVec 32 := Scalar.addi v140 v408
  let c1_i32_204 : BitVec 32 := 1#32
  let v410 : BitVec 32 := Scalar.addi v409 c1_i32_204
  let v411 : BitVec 32 := Scalar.muli c2_i32_205 v410
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v426 : BitVec 32 := Scalar.minsi v411 v72
  let c256_i32_214 : BitVec 32 := 256#32
  let v427 : BitVec 32 := Scalar.muli v426 c256_i32_214
  let v428 : BitVec 32 := v427
  let v432 : BitVec 32 := Scalar.addi v428 c0_i32_215
  let v433 : BitVec 32 := v432
  let v434 : Index := Scalar.indexCast v433
  let c0_216 : Index := 0#32
  ![v434.toNat, 0]
def k0_off1006 (i : grid0.Coords) (k0_t12 : Fin (k0_t12_loop i).trips) (c0_i32_220 : BitVec 32) : Fin 3 → Nat :=
  let c2_i32_222 : BitVec 32 := 2#32
  let c0_i32_221 : BitVec 32 := 0#32
  let arg1 : BitVec 32 := BitVec.ofNat 32 (i 1).val
  let c2_i32_205 : BitVec 32 := 2#32
  let c2_i32_65 : BitVec 32 := 2#32
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_203 : BitVec 32 := 2#32
  let c0_i32_111 : BitVec 32 := 0#32
  let c1_i32_113 : BitVec 32 := 1#32
  let arg24 : BitVec 32 := Scf.iv c0_i32_111 c1_i32_113 k0_t12
  let v408 : BitVec 32 := Scalar.muli c2_i32_203 arg24
  let v409 : BitVec 32 := Scalar.addi v140 v408
  let c1_i32_204 : BitVec 32 := 1#32
  let v410 : BitVec 32 := Scalar.addi v409 c1_i32_204
  let v411 : BitVec 32 := Scalar.muli c2_i32_205 v410
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v426 : BitVec 32 := Scalar.minsi v411 v72
  let c2_i32_219 : BitVec 32 := 2#32
  let v443 : BitVec 32 := Scalar.muli v426 c2_i32_219
  let v444 : BitVec 32 := Scalar.addi v443 c0_i32_220
  let v445 : BitVec 32 := Scalar.subi arg1 v444
  let v446 : BitVec 32 := Scalar.maxsi c0_i32_221 v445
  let v447 : BitVec 32 := Scalar.minsi c2_i32_222 v446
  let v448 : Index := Scalar.indexCast v447
  let c0_223 : Index := 0#32
  let c0_224 : Index := 0#32
  ![v448.toNat, 0, 0]
def k0_mult206 (i : grid0.Coords) (k0_t12 : Fin (k0_t12_loop i).trips) : BitVec 32 :=
  let c2_i32_205 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_203 : BitVec 32 := 2#32
  let c0_i32_111 : BitVec 32 := 0#32
  let c1_i32_113 : BitVec 32 := 1#32
  let arg24 : BitVec 32 := Scf.iv c0_i32_111 c1_i32_113 k0_t12
  let v408 : BitVec 32 := Scalar.muli c2_i32_203 arg24
  let v409 : BitVec 32 := Scalar.addi v140 v408
  let c1_i32_204 : BitVec 32 := 1#32
  let v410 : BitVec 32 := Scalar.addi v409 c1_i32_204
  let v411 : BitVec 32 := Scalar.muli c2_i32_205 v410
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v426 : BitVec 32 := Scalar.minsi v411 v72
  let c256_i32_214 : BitVec 32 := 256#32
  let v427 : BitVec 32 := Scalar.muli v426 c256_i32_214
  let v428 : BitVec 32 := v427
  let c128_i32_227 : BitVec 32 := 128#32
  let v454 : BitVec 32 := Scalar.addi v428 c128_i32_227
  v454
def k0_off1007 (i : grid0.Coords) (k0_t12 : Fin (k0_t12_loop i).trips) : Fin 2 → Nat :=
  let c0_241 : Index := 0#32
  let c2_i32_205 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_203 : BitVec 32 := 2#32
  let c0_i32_111 : BitVec 32 := 0#32
  let c1_i32_113 : BitVec 32 := 1#32
  let arg24 : BitVec 32 := Scf.iv c0_i32_111 c1_i32_113 k0_t12
  let v408 : BitVec 32 := Scalar.muli c2_i32_203 arg24
  let v409 : BitVec 32 := Scalar.addi v140 v408
  let c1_i32_204 : BitVec 32 := 1#32
  let v410 : BitVec 32 := Scalar.addi v409 c1_i32_204
  let v411 : BitVec 32 := Scalar.muli c2_i32_205 v410
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v426 : BitVec 32 := Scalar.minsi v411 v72
  let c256_i32_214 : BitVec 32 := 256#32
  let v427 : BitVec 32 := Scalar.muli v426 c256_i32_214
  let v428 : BitVec 32 := v427
  let v489 : Index := Scalar.indexCast v428
  ![0, v489.toNat]
def k0_mult207 (i : grid0.Coords) (k0_t12 : Fin (k0_t12_loop i).trips) : BitVec 32 :=
  let c2_i32_205 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_203 : BitVec 32 := 2#32
  let c0_i32_111 : BitVec 32 := 0#32
  let c1_i32_113 : BitVec 32 := 1#32
  let arg24 : BitVec 32 := Scf.iv c0_i32_111 c1_i32_113 k0_t12
  let v408 : BitVec 32 := Scalar.muli c2_i32_203 arg24
  let v409 : BitVec 32 := Scalar.addi v140 v408
  let c1_i32_204 : BitVec 32 := 1#32
  let v410 : BitVec 32 := Scalar.addi v409 c1_i32_204
  let v411 : BitVec 32 := Scalar.muli c2_i32_205 v410
  let c2_i32_247 : BitVec 32 := 2#32
  let v499 : BitVec 32 := Scalar.addi v411 c2_i32_247
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v500 : BitVec 32 := Scalar.minsi v499 v72
  let c256_i32_248 : BitVec 32 := 256#32
  let v501 : BitVec 32 := Scalar.muli v500 c256_i32_248
  v501
def k0_mult208 (i : grid0.Coords) (k0_t12 : Fin (k0_t12_loop i).trips) : BitVec 32 :=
  let c2_i32_205 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_203 : BitVec 32 := 2#32
  let c0_i32_111 : BitVec 32 := 0#32
  let c1_i32_113 : BitVec 32 := 1#32
  let arg24 : BitVec 32 := Scf.iv c0_i32_111 c1_i32_113 k0_t12
  let v408 : BitVec 32 := Scalar.muli c2_i32_203 arg24
  let v409 : BitVec 32 := Scalar.addi v140 v408
  let c1_i32_204 : BitVec 32 := 1#32
  let v410 : BitVec 32 := Scalar.addi v409 c1_i32_204
  let v411 : BitVec 32 := Scalar.muli c2_i32_205 v410
  let c1_i32_255 : BitVec 32 := 1#32
  let v513 : BitVec 32 := Scalar.addi v411 c1_i32_255
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v514 : BitVec 32 := Scalar.minsi v513 v72
  let c256_i32_256 : BitVec 32 := 256#32
  let v515 : BitVec 32 := Scalar.muli v514 c256_i32_256
  v515
def k0_mult209 (i : grid0.Coords) (k0_t12 : Fin (k0_t12_loop i).trips) : BitVec 32 :=
  let c2_i32_205 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_203 : BitVec 32 := 2#32
  let c0_i32_111 : BitVec 32 := 0#32
  let c1_i32_113 : BitVec 32 := 1#32
  let arg24 : BitVec 32 := Scf.iv c0_i32_111 c1_i32_113 k0_t12
  let v408 : BitVec 32 := Scalar.muli c2_i32_203 arg24
  let v409 : BitVec 32 := Scalar.addi v140 v408
  let c1_i32_204 : BitVec 32 := 1#32
  let v410 : BitVec 32 := Scalar.addi v409 c1_i32_204
  let v411 : BitVec 32 := Scalar.muli c2_i32_205 v410
  let c1_i32_255 : BitVec 32 := 1#32
  let v513 : BitVec 32 := Scalar.addi v411 c1_i32_255
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v514 : BitVec 32 := Scalar.minsi v513 v72
  let c256_i32_256 : BitVec 32 := 256#32
  let v515 : BitVec 32 := Scalar.muli v514 c256_i32_256
  let v516 : BitVec 32 := v515
  let c0_i32_257 : BitVec 32 := 0#32
  let v520 : BitVec 32 := Scalar.addi v516 c0_i32_257
  v520
def k0_off1008 (i : grid0.Coords) (k0_t12 : Fin (k0_t12_loop i).trips) (c0_i32_257 : BitVec 32) : Fin 2 → Nat :=
  let c2_i32_205 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_203 : BitVec 32 := 2#32
  let c0_i32_111 : BitVec 32 := 0#32
  let c1_i32_113 : BitVec 32 := 1#32
  let arg24 : BitVec 32 := Scf.iv c0_i32_111 c1_i32_113 k0_t12
  let v408 : BitVec 32 := Scalar.muli c2_i32_203 arg24
  let v409 : BitVec 32 := Scalar.addi v140 v408
  let c1_i32_204 : BitVec 32 := 1#32
  let v410 : BitVec 32 := Scalar.addi v409 c1_i32_204
  let v411 : BitVec 32 := Scalar.muli c2_i32_205 v410
  let c1_i32_255 : BitVec 32 := 1#32
  let v513 : BitVec 32 := Scalar.addi v411 c1_i32_255
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v514 : BitVec 32 := Scalar.minsi v513 v72
  let c256_i32_256 : BitVec 32 := 256#32
  let v515 : BitVec 32 := Scalar.muli v514 c256_i32_256
  let v516 : BitVec 32 := v515
  let v520 : BitVec 32 := Scalar.addi v516 c0_i32_257
  let v521 : BitVec 32 := v520
  let v522 : Index := Scalar.indexCast v521
  let c0_258 : Index := 0#32
  ![v522.toNat, 0]
def k0_off1009 (i : grid0.Coords) (k0_t12 : Fin (k0_t12_loop i).trips) (c0_i32_262 : BitVec 32) : Fin 3 → Nat :=
  let c2_i32_264 : BitVec 32 := 2#32
  let c0_i32_263 : BitVec 32 := 0#32
  let arg1 : BitVec 32 := BitVec.ofNat 32 (i 1).val
  let c2_i32_205 : BitVec 32 := 2#32
  let c2_i32_65 : BitVec 32 := 2#32
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_203 : BitVec 32 := 2#32
  let c0_i32_111 : BitVec 32 := 0#32
  let c1_i32_113 : BitVec 32 := 1#32
  let arg24 : BitVec 32 := Scf.iv c0_i32_111 c1_i32_113 k0_t12
  let v408 : BitVec 32 := Scalar.muli c2_i32_203 arg24
  let v409 : BitVec 32 := Scalar.addi v140 v408
  let c1_i32_204 : BitVec 32 := 1#32
  let v410 : BitVec 32 := Scalar.addi v409 c1_i32_204
  let v411 : BitVec 32 := Scalar.muli c2_i32_205 v410
  let c1_i32_255 : BitVec 32 := 1#32
  let v513 : BitVec 32 := Scalar.addi v411 c1_i32_255
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v514 : BitVec 32 := Scalar.minsi v513 v72
  let c2_i32_261 : BitVec 32 := 2#32
  let v531 : BitVec 32 := Scalar.muli v514 c2_i32_261
  let v532 : BitVec 32 := Scalar.addi v531 c0_i32_262
  let v533 : BitVec 32 := Scalar.subi arg1 v532
  let v534 : BitVec 32 := Scalar.maxsi c0_i32_263 v533
  let v535 : BitVec 32 := Scalar.minsi c2_i32_264 v534
  let v536 : Index := Scalar.indexCast v535
  let c0_265 : Index := 0#32
  let c0_266 : Index := 0#32
  ![v536.toNat, 0, 0]
def k0_mult210 (i : grid0.Coords) (k0_t12 : Fin (k0_t12_loop i).trips) : BitVec 32 :=
  let c2_i32_205 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_203 : BitVec 32 := 2#32
  let c0_i32_111 : BitVec 32 := 0#32
  let c1_i32_113 : BitVec 32 := 1#32
  let arg24 : BitVec 32 := Scf.iv c0_i32_111 c1_i32_113 k0_t12
  let v408 : BitVec 32 := Scalar.muli c2_i32_203 arg24
  let v409 : BitVec 32 := Scalar.addi v140 v408
  let c1_i32_204 : BitVec 32 := 1#32
  let v410 : BitVec 32 := Scalar.addi v409 c1_i32_204
  let v411 : BitVec 32 := Scalar.muli c2_i32_205 v410
  let c1_i32_255 : BitVec 32 := 1#32
  let v513 : BitVec 32 := Scalar.addi v411 c1_i32_255
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v514 : BitVec 32 := Scalar.minsi v513 v72
  let c256_i32_256 : BitVec 32 := 256#32
  let v515 : BitVec 32 := Scalar.muli v514 c256_i32_256
  let v516 : BitVec 32 := v515
  let c128_i32_269 : BitVec 32 := 128#32
  let v542 : BitVec 32 := Scalar.addi v516 c128_i32_269
  v542
def k0_off1010 (i : grid0.Coords) (k0_t12 : Fin (k0_t12_loop i).trips) : Fin 2 → Nat :=
  let c0_283 : Index := 0#32
  let c2_i32_205 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_203 : BitVec 32 := 2#32
  let c0_i32_111 : BitVec 32 := 0#32
  let c1_i32_113 : BitVec 32 := 1#32
  let arg24 : BitVec 32 := Scf.iv c0_i32_111 c1_i32_113 k0_t12
  let v408 : BitVec 32 := Scalar.muli c2_i32_203 arg24
  let v409 : BitVec 32 := Scalar.addi v140 v408
  let c1_i32_204 : BitVec 32 := 1#32
  let v410 : BitVec 32 := Scalar.addi v409 c1_i32_204
  let v411 : BitVec 32 := Scalar.muli c2_i32_205 v410
  let c1_i32_255 : BitVec 32 := 1#32
  let v513 : BitVec 32 := Scalar.addi v411 c1_i32_255
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_35 : BitVec 32 := 1#32
  let v72 : BitVec 32 := Scalar.subi v71 c1_i32_35
  let v514 : BitVec 32 := Scalar.minsi v513 v72
  let c256_i32_256 : BitVec 32 := 256#32
  let v515 : BitVec 32 := Scalar.muli v514 c256_i32_256
  let v516 : BitVec 32 := v515
  let v577 : Index := Scalar.indexCast v516
  ![0, v577.toNat]
@[reducible] def k0_t13_loop (i : grid0.Coords) : Scf.Loop 32 :=
  let c0_i32_111 : BitVec 32 := 0#32
  let arg1 : BitVec 32 := BitVec.ofNat 32 (i 1).val
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let c2_i32_65 : BitVec 32 := 2#32
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let v215 : BitVec 32 := Scalar.addi c0_i32_111 v214
  let c1_i32_114 : BitVec 32 := 1#32
  ⟨v218, v215, c1_i32_114⟩
def k0_mult211 (i : grid0.Coords) (k0_t13 : Fin (k0_t13_loop i).trips) : BitVec 32 :=
  let c2_i32_120 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_119 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t13
  let v230 : BitVec 32 := Scalar.muli c2_i32_119 arg24
  let v231 : BitVec 32 := Scalar.addi v140 v230
  let v232 : BitVec 32 := Scalar.muli c2_i32_120 v231
  let c1_i32_121 : BitVec 32 := 1#32
  let v233 : BitVec 32 := Scalar.addi v232 c1_i32_121
  let c1_i32_35 : BitVec 32 := 1#32
  let v72 : BitVec 32 := Scalar.subi v71 c1_i32_35
  let v234 : BitVec 32 := Scalar.minsi v233 v72
  let c256_i32_122 : BitVec 32 := 256#32
  let v235 : BitVec 32 := Scalar.muli v234 c256_i32_122
  v235
def k0_off1011 (i : grid0.Coords) (k0_t13 : Fin (k0_t13_loop i).trips) (c1_i32_121 : BitVec 32) : Fin 2 → Nat :=
  let c2_i32_120 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_119 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t13
  let v230 : BitVec 32 := Scalar.muli c2_i32_119 arg24
  let v231 : BitVec 32 := Scalar.addi v140 v230
  let v232 : BitVec 32 := Scalar.muli c2_i32_120 v231
  let v233 : BitVec 32 := Scalar.addi v232 c1_i32_121
  let c1_i32_35 : BitVec 32 := 1#32
  let v72 : BitVec 32 := Scalar.subi v71 c1_i32_35
  let v234 : BitVec 32 := Scalar.minsi v233 v72
  let c256_i32_122 : BitVec 32 := 256#32
  let v235 : BitVec 32 := Scalar.muli v234 c256_i32_122
  let v236 : BitVec 32 := v235
  let v237 : Index := Scalar.indexCast v236
  let c0_123 : Index := 0#32
  ![v237.toNat, 0]
def k0_off1012 (i : grid0.Coords) : Fin 3 → Nat :=
  let arg1 : BitVec 32 := BitVec.ofNat 32 (i 1).val
  let c8_i32 : BitVec 32 := 8#32
  let c0_i32_36 : BitVec 32 := 0#32
  let v73 : BitVec 1 := Scalar.cmpi .eq c8_i32 c0_i32_36
  let c1_i32_37 : BitVec 32 := 1#32
  let v74 : BitVec 32 := Scalar.select v73 c1_i32_37 c8_i32
  let v75 : BitVec 32 := Scalar.remsi arg1 v74
  let c0_i32_39 : BitVec 32 := 0#32
  let v77 : BitVec 1 := Scalar.cmpi .slt v75 c0_i32_39
  let c0_i32_40 : BitVec 32 := 0#32
  let v78 : BitVec 1 := Scalar.cmpi .slt v74 c0_i32_40
  let v79 : BitVec 1 := Scalar.xori v77 v78
  let c0_i32_38 : BitVec 32 := 0#32
  let v76 : BitVec 1 := Scalar.cmpi .ne v75 c0_i32_38
  let v80 : BitVec 1 := Scalar.andi v79 v76
  let v81 : BitVec 32 := Scalar.addi v75 v74
  let v82 : BitVec 32 := Scalar.select v80 v81 v75
  let v239 : Index := Scalar.indexCast v82
  let c0_124 : Index := 0#32
  let c0_125 : Index := 0#32
  ![v239.toNat, 0, 0]
def k0_mult212 (i : grid0.Coords) (k0_t13 : Fin (k0_t13_loop i).trips) : BitVec 32 :=
  let c2_i32_120 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_119 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t13
  let v230 : BitVec 32 := Scalar.muli c2_i32_119 arg24
  let v231 : BitVec 32 := Scalar.addi v140 v230
  let v232 : BitVec 32 := Scalar.muli c2_i32_120 v231
  let c1_i32_35 : BitVec 32 := 1#32
  let v72 : BitVec 32 := Scalar.subi v71 c1_i32_35
  let v247 : BitVec 32 := Scalar.minsi v232 v72
  let c256_i32_129 : BitVec 32 := 256#32
  let v248 : BitVec 32 := Scalar.muli v247 c256_i32_129
  v248
def k0_mult213 (i : grid0.Coords) (k0_t13 : Fin (k0_t13_loop i).trips) : BitVec 32 :=
  let c2_i32_120 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_119 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t13
  let v230 : BitVec 32 := Scalar.muli c2_i32_119 arg24
  let v231 : BitVec 32 := Scalar.addi v140 v230
  let v232 : BitVec 32 := Scalar.muli c2_i32_120 v231
  let c1_i32_35 : BitVec 32 := 1#32
  let v72 : BitVec 32 := Scalar.subi v71 c1_i32_35
  let v247 : BitVec 32 := Scalar.minsi v232 v72
  let c256_i32_129 : BitVec 32 := 256#32
  let v248 : BitVec 32 := Scalar.muli v247 c256_i32_129
  let v249 : BitVec 32 := v248
  let c0_i32_130 : BitVec 32 := 0#32
  let v253 : BitVec 32 := Scalar.addi v249 c0_i32_130
  v253
def k0_off1013 (i : grid0.Coords) (k0_t13 : Fin (k0_t13_loop i).trips) (c0_i32_130 : BitVec 32) : Fin 2 → Nat :=
  let c2_i32_120 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_119 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t13
  let v230 : BitVec 32 := Scalar.muli c2_i32_119 arg24
  let v231 : BitVec 32 := Scalar.addi v140 v230
  let v232 : BitVec 32 := Scalar.muli c2_i32_120 v231
  let c1_i32_35 : BitVec 32 := 1#32
  let v72 : BitVec 32 := Scalar.subi v71 c1_i32_35
  let v247 : BitVec 32 := Scalar.minsi v232 v72
  let c256_i32_129 : BitVec 32 := 256#32
  let v248 : BitVec 32 := Scalar.muli v247 c256_i32_129
  let v249 : BitVec 32 := v248
  let v253 : BitVec 32 := Scalar.addi v249 c0_i32_130
  let v254 : BitVec 32 := v253
  let v255 : Index := Scalar.indexCast v254
  let c0_131 : Index := 0#32
  ![v255.toNat, 0]
def k0_off1014 (i : grid0.Coords) (k0_t13 : Fin (k0_t13_loop i).trips) (c0_i32_135 : BitVec 32) : Fin 3 → Nat :=
  let c2_i32_137 : BitVec 32 := 2#32
  let c0_i32_136 : BitVec 32 := 0#32
  let arg1 : BitVec 32 := BitVec.ofNat 32 (i 1).val
  let c2_i32_120 : BitVec 32 := 2#32
  let c2_i32_65 : BitVec 32 := 2#32
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_119 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t13
  let v230 : BitVec 32 := Scalar.muli c2_i32_119 arg24
  let v231 : BitVec 32 := Scalar.addi v140 v230
  let v232 : BitVec 32 := Scalar.muli c2_i32_120 v231
  let c1_i32_35 : BitVec 32 := 1#32
  let v72 : BitVec 32 := Scalar.subi v71 c1_i32_35
  let v247 : BitVec 32 := Scalar.minsi v232 v72
  let c2_i32_134 : BitVec 32 := 2#32
  let v264 : BitVec 32 := Scalar.muli v247 c2_i32_134
  let v265 : BitVec 32 := Scalar.addi v264 c0_i32_135
  let v266 : BitVec 32 := Scalar.subi arg1 v265
  let v267 : BitVec 32 := Scalar.maxsi c0_i32_136 v266
  let v268 : BitVec 32 := Scalar.minsi c2_i32_137 v267
  let v269 : Index := Scalar.indexCast v268
  let c0_138 : Index := 0#32
  let c0_139 : Index := 0#32
  ![v269.toNat, 0, 0]
def k0_mult214 (i : grid0.Coords) (k0_t13 : Fin (k0_t13_loop i).trips) : BitVec 32 :=
  let c2_i32_120 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_119 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t13
  let v230 : BitVec 32 := Scalar.muli c2_i32_119 arg24
  let v231 : BitVec 32 := Scalar.addi v140 v230
  let v232 : BitVec 32 := Scalar.muli c2_i32_120 v231
  let c1_i32_35 : BitVec 32 := 1#32
  let v72 : BitVec 32 := Scalar.subi v71 c1_i32_35
  let v247 : BitVec 32 := Scalar.minsi v232 v72
  let c256_i32_129 : BitVec 32 := 256#32
  let v248 : BitVec 32 := Scalar.muli v247 c256_i32_129
  let v249 : BitVec 32 := v248
  let c128_i32_142 : BitVec 32 := 128#32
  let v275 : BitVec 32 := Scalar.addi v249 c128_i32_142
  v275
def k0_off1015 (i : grid0.Coords) (k0_t13 : Fin (k0_t13_loop i).trips) : Fin 2 → Nat :=
  let c0_155 : Index := 0#32
  let c2_i32_120 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_119 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t13
  let v230 : BitVec 32 := Scalar.muli c2_i32_119 arg24
  let v231 : BitVec 32 := Scalar.addi v140 v230
  let v232 : BitVec 32 := Scalar.muli c2_i32_120 v231
  let c1_i32_35 : BitVec 32 := 1#32
  let v72 : BitVec 32 := Scalar.subi v71 c1_i32_35
  let v247 : BitVec 32 := Scalar.minsi v232 v72
  let c256_i32_129 : BitVec 32 := 256#32
  let v248 : BitVec 32 := Scalar.muli v247 c256_i32_129
  let v249 : BitVec 32 := v248
  let v310 : Index := Scalar.indexCast v249
  ![0, v310.toNat]
def k0_mult215 (i : grid0.Coords) (k0_t13 : Fin (k0_t13_loop i).trips) : BitVec 32 :=
  let c2_i32_120 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_119 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t13
  let v230 : BitVec 32 := Scalar.muli c2_i32_119 arg24
  let v231 : BitVec 32 := Scalar.addi v140 v230
  let v232 : BitVec 32 := Scalar.muli c2_i32_120 v231
  let c2_i32_161 : BitVec 32 := 2#32
  let v320 : BitVec 32 := Scalar.addi v232 c2_i32_161
  let c1_i32_35 : BitVec 32 := 1#32
  let v72 : BitVec 32 := Scalar.subi v71 c1_i32_35
  let v321 : BitVec 32 := Scalar.minsi v320 v72
  let c256_i32_162 : BitVec 32 := 256#32
  let v322 : BitVec 32 := Scalar.muli v321 c256_i32_162
  v322
def k0_mult216 (i : grid0.Coords) (k0_t13 : Fin (k0_t13_loop i).trips) : BitVec 32 :=
  let c2_i32_120 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_119 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t13
  let v230 : BitVec 32 := Scalar.muli c2_i32_119 arg24
  let v231 : BitVec 32 := Scalar.addi v140 v230
  let v232 : BitVec 32 := Scalar.muli c2_i32_120 v231
  let c1_i32_169 : BitVec 32 := 1#32
  let v334 : BitVec 32 := Scalar.addi v232 c1_i32_169
  let c1_i32_35 : BitVec 32 := 1#32
  let v72 : BitVec 32 := Scalar.subi v71 c1_i32_35
  let v335 : BitVec 32 := Scalar.minsi v334 v72
  let c256_i32_170 : BitVec 32 := 256#32
  let v336 : BitVec 32 := Scalar.muli v335 c256_i32_170
  v336
def k0_mult217 (i : grid0.Coords) (k0_t13 : Fin (k0_t13_loop i).trips) : BitVec 32 :=
  let c2_i32_120 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_119 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t13
  let v230 : BitVec 32 := Scalar.muli c2_i32_119 arg24
  let v231 : BitVec 32 := Scalar.addi v140 v230
  let v232 : BitVec 32 := Scalar.muli c2_i32_120 v231
  let c1_i32_169 : BitVec 32 := 1#32
  let v334 : BitVec 32 := Scalar.addi v232 c1_i32_169
  let c1_i32_35 : BitVec 32 := 1#32
  let v72 : BitVec 32 := Scalar.subi v71 c1_i32_35
  let v335 : BitVec 32 := Scalar.minsi v334 v72
  let c256_i32_170 : BitVec 32 := 256#32
  let v336 : BitVec 32 := Scalar.muli v335 c256_i32_170
  let v337 : BitVec 32 := v336
  let c0_i32_171 : BitVec 32 := 0#32
  let v341 : BitVec 32 := Scalar.addi v337 c0_i32_171
  v341
def k0_off1016 (i : grid0.Coords) (k0_t13 : Fin (k0_t13_loop i).trips) (c0_i32_171 : BitVec 32) : Fin 2 → Nat :=
  let c2_i32_120 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_119 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t13
  let v230 : BitVec 32 := Scalar.muli c2_i32_119 arg24
  let v231 : BitVec 32 := Scalar.addi v140 v230
  let v232 : BitVec 32 := Scalar.muli c2_i32_120 v231
  let c1_i32_169 : BitVec 32 := 1#32
  let v334 : BitVec 32 := Scalar.addi v232 c1_i32_169
  let c1_i32_35 : BitVec 32 := 1#32
  let v72 : BitVec 32 := Scalar.subi v71 c1_i32_35
  let v335 : BitVec 32 := Scalar.minsi v334 v72
  let c256_i32_170 : BitVec 32 := 256#32
  let v336 : BitVec 32 := Scalar.muli v335 c256_i32_170
  let v337 : BitVec 32 := v336
  let v341 : BitVec 32 := Scalar.addi v337 c0_i32_171
  let v342 : BitVec 32 := v341
  let v343 : Index := Scalar.indexCast v342
  let c0_172 : Index := 0#32
  ![v343.toNat, 0]
def k0_off1017 (i : grid0.Coords) (k0_t13 : Fin (k0_t13_loop i).trips) (c0_i32_176 : BitVec 32) : Fin 3 → Nat :=
  let c2_i32_178 : BitVec 32 := 2#32
  let c0_i32_177 : BitVec 32 := 0#32
  let arg1 : BitVec 32 := BitVec.ofNat 32 (i 1).val
  let c2_i32_120 : BitVec 32 := 2#32
  let c2_i32_65 : BitVec 32 := 2#32
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_119 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t13
  let v230 : BitVec 32 := Scalar.muli c2_i32_119 arg24
  let v231 : BitVec 32 := Scalar.addi v140 v230
  let v232 : BitVec 32 := Scalar.muli c2_i32_120 v231
  let c1_i32_169 : BitVec 32 := 1#32
  let v334 : BitVec 32 := Scalar.addi v232 c1_i32_169
  let c1_i32_35 : BitVec 32 := 1#32
  let v72 : BitVec 32 := Scalar.subi v71 c1_i32_35
  let v335 : BitVec 32 := Scalar.minsi v334 v72
  let c2_i32_175 : BitVec 32 := 2#32
  let v352 : BitVec 32 := Scalar.muli v335 c2_i32_175
  let v353 : BitVec 32 := Scalar.addi v352 c0_i32_176
  let v354 : BitVec 32 := Scalar.subi arg1 v353
  let v355 : BitVec 32 := Scalar.maxsi c0_i32_177 v354
  let v356 : BitVec 32 := Scalar.minsi c2_i32_178 v355
  let v357 : Index := Scalar.indexCast v356
  let c0_179 : Index := 0#32
  let c0_180 : Index := 0#32
  ![v357.toNat, 0, 0]
def k0_mult218 (i : grid0.Coords) (k0_t13 : Fin (k0_t13_loop i).trips) : BitVec 32 :=
  let c2_i32_120 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_119 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t13
  let v230 : BitVec 32 := Scalar.muli c2_i32_119 arg24
  let v231 : BitVec 32 := Scalar.addi v140 v230
  let v232 : BitVec 32 := Scalar.muli c2_i32_120 v231
  let c1_i32_169 : BitVec 32 := 1#32
  let v334 : BitVec 32 := Scalar.addi v232 c1_i32_169
  let c1_i32_35 : BitVec 32 := 1#32
  let v72 : BitVec 32 := Scalar.subi v71 c1_i32_35
  let v335 : BitVec 32 := Scalar.minsi v334 v72
  let c256_i32_170 : BitVec 32 := 256#32
  let v336 : BitVec 32 := Scalar.muli v335 c256_i32_170
  let v337 : BitVec 32 := v336
  let c128_i32_183 : BitVec 32 := 128#32
  let v363 : BitVec 32 := Scalar.addi v337 c128_i32_183
  v363
def k0_off1018 (i : grid0.Coords) (k0_t13 : Fin (k0_t13_loop i).trips) : Fin 2 → Nat :=
  let c0_197 : Index := 0#32
  let c2_i32_120 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_119 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t13
  let v230 : BitVec 32 := Scalar.muli c2_i32_119 arg24
  let v231 : BitVec 32 := Scalar.addi v140 v230
  let v232 : BitVec 32 := Scalar.muli c2_i32_120 v231
  let c1_i32_169 : BitVec 32 := 1#32
  let v334 : BitVec 32 := Scalar.addi v232 c1_i32_169
  let c1_i32_35 : BitVec 32 := 1#32
  let v72 : BitVec 32 := Scalar.subi v71 c1_i32_35
  let v335 : BitVec 32 := Scalar.minsi v334 v72
  let c256_i32_170 : BitVec 32 := 256#32
  let v336 : BitVec 32 := Scalar.muli v335 c256_i32_170
  let v337 : BitVec 32 := v336
  let v398 : Index := Scalar.indexCast v337
  ![0, v398.toNat]
def k0_mult219 (i : grid0.Coords) (k0_t13 : Fin (k0_t13_loop i).trips) : BitVec 32 :=
  let c2_i32_205 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_203 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t13
  let v408 : BitVec 32 := Scalar.muli c2_i32_203 arg24
  let v409 : BitVec 32 := Scalar.addi v140 v408
  let c1_i32_204 : BitVec 32 := 1#32
  let v410 : BitVec 32 := Scalar.addi v409 c1_i32_204
  let v411 : BitVec 32 := Scalar.muli c2_i32_205 v410
  let c1_i32_206 : BitVec 32 := 1#32
  let v412 : BitVec 32 := Scalar.addi v411 c1_i32_206
  let c1_i32_35 : BitVec 32 := 1#32
  let v72 : BitVec 32 := Scalar.subi v71 c1_i32_35
  let v413 : BitVec 32 := Scalar.minsi v412 v72
  let c256_i32_207 : BitVec 32 := 256#32
  let v414 : BitVec 32 := Scalar.muli v413 c256_i32_207
  v414
def k0_off1019 (i : grid0.Coords) (k0_t13 : Fin (k0_t13_loop i).trips) (c1_i32_206 : BitVec 32) : Fin 2 → Nat :=
  let c2_i32_205 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_203 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t13
  let v408 : BitVec 32 := Scalar.muli c2_i32_203 arg24
  let v409 : BitVec 32 := Scalar.addi v140 v408
  let c1_i32_204 : BitVec 32 := 1#32
  let v410 : BitVec 32 := Scalar.addi v409 c1_i32_204
  let v411 : BitVec 32 := Scalar.muli c2_i32_205 v410
  let v412 : BitVec 32 := Scalar.addi v411 c1_i32_206
  let c1_i32_35 : BitVec 32 := 1#32
  let v72 : BitVec 32 := Scalar.subi v71 c1_i32_35
  let v413 : BitVec 32 := Scalar.minsi v412 v72
  let c256_i32_207 : BitVec 32 := 256#32
  let v414 : BitVec 32 := Scalar.muli v413 c256_i32_207
  let v415 : BitVec 32 := v414
  let v416 : Index := Scalar.indexCast v415
  let c0_208 : Index := 0#32
  ![v416.toNat, 0]
def k0_mult220 (i : grid0.Coords) (k0_t13 : Fin (k0_t13_loop i).trips) : BitVec 32 :=
  let c2_i32_205 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_203 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t13
  let v408 : BitVec 32 := Scalar.muli c2_i32_203 arg24
  let v409 : BitVec 32 := Scalar.addi v140 v408
  let c1_i32_204 : BitVec 32 := 1#32
  let v410 : BitVec 32 := Scalar.addi v409 c1_i32_204
  let v411 : BitVec 32 := Scalar.muli c2_i32_205 v410
  let c1_i32_35 : BitVec 32 := 1#32
  let v72 : BitVec 32 := Scalar.subi v71 c1_i32_35
  let v426 : BitVec 32 := Scalar.minsi v411 v72
  let c256_i32_214 : BitVec 32 := 256#32
  let v427 : BitVec 32 := Scalar.muli v426 c256_i32_214
  v427
def k0_mult221 (i : grid0.Coords) (k0_t13 : Fin (k0_t13_loop i).trips) : BitVec 32 :=
  let c2_i32_205 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_203 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t13
  let v408 : BitVec 32 := Scalar.muli c2_i32_203 arg24
  let v409 : BitVec 32 := Scalar.addi v140 v408
  let c1_i32_204 : BitVec 32 := 1#32
  let v410 : BitVec 32 := Scalar.addi v409 c1_i32_204
  let v411 : BitVec 32 := Scalar.muli c2_i32_205 v410
  let c1_i32_35 : BitVec 32 := 1#32
  let v72 : BitVec 32 := Scalar.subi v71 c1_i32_35
  let v426 : BitVec 32 := Scalar.minsi v411 v72
  let c256_i32_214 : BitVec 32 := 256#32
  let v427 : BitVec 32 := Scalar.muli v426 c256_i32_214
  let v428 : BitVec 32 := v427
  let c0_i32_215 : BitVec 32 := 0#32
  let v432 : BitVec 32 := Scalar.addi v428 c0_i32_215
  v432
def k0_off1020 (i : grid0.Coords) (k0_t13 : Fin (k0_t13_loop i).trips) (c0_i32_215 : BitVec 32) : Fin 2 → Nat :=
  let c2_i32_205 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_203 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t13
  let v408 : BitVec 32 := Scalar.muli c2_i32_203 arg24
  let v409 : BitVec 32 := Scalar.addi v140 v408
  let c1_i32_204 : BitVec 32 := 1#32
  let v410 : BitVec 32 := Scalar.addi v409 c1_i32_204
  let v411 : BitVec 32 := Scalar.muli c2_i32_205 v410
  let c1_i32_35 : BitVec 32 := 1#32
  let v72 : BitVec 32 := Scalar.subi v71 c1_i32_35
  let v426 : BitVec 32 := Scalar.minsi v411 v72
  let c256_i32_214 : BitVec 32 := 256#32
  let v427 : BitVec 32 := Scalar.muli v426 c256_i32_214
  let v428 : BitVec 32 := v427
  let v432 : BitVec 32 := Scalar.addi v428 c0_i32_215
  let v433 : BitVec 32 := v432
  let v434 : Index := Scalar.indexCast v433
  let c0_216 : Index := 0#32
  ![v434.toNat, 0]
def k0_off1021 (i : grid0.Coords) (k0_t13 : Fin (k0_t13_loop i).trips) (c0_i32_220 : BitVec 32) : Fin 3 → Nat :=
  let c2_i32_222 : BitVec 32 := 2#32
  let c0_i32_221 : BitVec 32 := 0#32
  let arg1 : BitVec 32 := BitVec.ofNat 32 (i 1).val
  let c2_i32_205 : BitVec 32 := 2#32
  let c2_i32_65 : BitVec 32 := 2#32
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_203 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t13
  let v408 : BitVec 32 := Scalar.muli c2_i32_203 arg24
  let v409 : BitVec 32 := Scalar.addi v140 v408
  let c1_i32_204 : BitVec 32 := 1#32
  let v410 : BitVec 32 := Scalar.addi v409 c1_i32_204
  let v411 : BitVec 32 := Scalar.muli c2_i32_205 v410
  let c1_i32_35 : BitVec 32 := 1#32
  let v72 : BitVec 32 := Scalar.subi v71 c1_i32_35
  let v426 : BitVec 32 := Scalar.minsi v411 v72
  let c2_i32_219 : BitVec 32 := 2#32
  let v443 : BitVec 32 := Scalar.muli v426 c2_i32_219
  let v444 : BitVec 32 := Scalar.addi v443 c0_i32_220
  let v445 : BitVec 32 := Scalar.subi arg1 v444
  let v446 : BitVec 32 := Scalar.maxsi c0_i32_221 v445
  let v447 : BitVec 32 := Scalar.minsi c2_i32_222 v446
  let v448 : Index := Scalar.indexCast v447
  let c0_223 : Index := 0#32
  let c0_224 : Index := 0#32
  ![v448.toNat, 0, 0]
def k0_mult222 (i : grid0.Coords) (k0_t13 : Fin (k0_t13_loop i).trips) : BitVec 32 :=
  let c2_i32_205 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_203 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t13
  let v408 : BitVec 32 := Scalar.muli c2_i32_203 arg24
  let v409 : BitVec 32 := Scalar.addi v140 v408
  let c1_i32_204 : BitVec 32 := 1#32
  let v410 : BitVec 32 := Scalar.addi v409 c1_i32_204
  let v411 : BitVec 32 := Scalar.muli c2_i32_205 v410
  let c1_i32_35 : BitVec 32 := 1#32
  let v72 : BitVec 32 := Scalar.subi v71 c1_i32_35
  let v426 : BitVec 32 := Scalar.minsi v411 v72
  let c256_i32_214 : BitVec 32 := 256#32
  let v427 : BitVec 32 := Scalar.muli v426 c256_i32_214
  let v428 : BitVec 32 := v427
  let c128_i32_227 : BitVec 32 := 128#32
  let v454 : BitVec 32 := Scalar.addi v428 c128_i32_227
  v454
def k0_off1022 (i : grid0.Coords) (k0_t13 : Fin (k0_t13_loop i).trips) : Fin 2 → Nat :=
  let c0_241 : Index := 0#32
  let c2_i32_205 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_203 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t13
  let v408 : BitVec 32 := Scalar.muli c2_i32_203 arg24
  let v409 : BitVec 32 := Scalar.addi v140 v408
  let c1_i32_204 : BitVec 32 := 1#32
  let v410 : BitVec 32 := Scalar.addi v409 c1_i32_204
  let v411 : BitVec 32 := Scalar.muli c2_i32_205 v410
  let c1_i32_35 : BitVec 32 := 1#32
  let v72 : BitVec 32 := Scalar.subi v71 c1_i32_35
  let v426 : BitVec 32 := Scalar.minsi v411 v72
  let c256_i32_214 : BitVec 32 := 256#32
  let v427 : BitVec 32 := Scalar.muli v426 c256_i32_214
  let v428 : BitVec 32 := v427
  let v489 : Index := Scalar.indexCast v428
  ![0, v489.toNat]
def k0_mult223 (i : grid0.Coords) (k0_t13 : Fin (k0_t13_loop i).trips) : BitVec 32 :=
  let c2_i32_205 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_203 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t13
  let v408 : BitVec 32 := Scalar.muli c2_i32_203 arg24
  let v409 : BitVec 32 := Scalar.addi v140 v408
  let c1_i32_204 : BitVec 32 := 1#32
  let v410 : BitVec 32 := Scalar.addi v409 c1_i32_204
  let v411 : BitVec 32 := Scalar.muli c2_i32_205 v410
  let c2_i32_247 : BitVec 32 := 2#32
  let v499 : BitVec 32 := Scalar.addi v411 c2_i32_247
  let c1_i32_35 : BitVec 32 := 1#32
  let v72 : BitVec 32 := Scalar.subi v71 c1_i32_35
  let v500 : BitVec 32 := Scalar.minsi v499 v72
  let c256_i32_248 : BitVec 32 := 256#32
  let v501 : BitVec 32 := Scalar.muli v500 c256_i32_248
  v501
def k0_mult224 (i : grid0.Coords) (k0_t13 : Fin (k0_t13_loop i).trips) : BitVec 32 :=
  let c2_i32_205 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_203 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t13
  let v408 : BitVec 32 := Scalar.muli c2_i32_203 arg24
  let v409 : BitVec 32 := Scalar.addi v140 v408
  let c1_i32_204 : BitVec 32 := 1#32
  let v410 : BitVec 32 := Scalar.addi v409 c1_i32_204
  let v411 : BitVec 32 := Scalar.muli c2_i32_205 v410
  let c1_i32_255 : BitVec 32 := 1#32
  let v513 : BitVec 32 := Scalar.addi v411 c1_i32_255
  let c1_i32_35 : BitVec 32 := 1#32
  let v72 : BitVec 32 := Scalar.subi v71 c1_i32_35
  let v514 : BitVec 32 := Scalar.minsi v513 v72
  let c256_i32_256 : BitVec 32 := 256#32
  let v515 : BitVec 32 := Scalar.muli v514 c256_i32_256
  v515
def k0_mult225 (i : grid0.Coords) (k0_t13 : Fin (k0_t13_loop i).trips) : BitVec 32 :=
  let c2_i32_205 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_203 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t13
  let v408 : BitVec 32 := Scalar.muli c2_i32_203 arg24
  let v409 : BitVec 32 := Scalar.addi v140 v408
  let c1_i32_204 : BitVec 32 := 1#32
  let v410 : BitVec 32 := Scalar.addi v409 c1_i32_204
  let v411 : BitVec 32 := Scalar.muli c2_i32_205 v410
  let c1_i32_255 : BitVec 32 := 1#32
  let v513 : BitVec 32 := Scalar.addi v411 c1_i32_255
  let c1_i32_35 : BitVec 32 := 1#32
  let v72 : BitVec 32 := Scalar.subi v71 c1_i32_35
  let v514 : BitVec 32 := Scalar.minsi v513 v72
  let c256_i32_256 : BitVec 32 := 256#32
  let v515 : BitVec 32 := Scalar.muli v514 c256_i32_256
  let v516 : BitVec 32 := v515
  let c0_i32_257 : BitVec 32 := 0#32
  let v520 : BitVec 32 := Scalar.addi v516 c0_i32_257
  v520
def k0_off1023 (i : grid0.Coords) (k0_t13 : Fin (k0_t13_loop i).trips) (c0_i32_257 : BitVec 32) : Fin 2 → Nat :=
  let c2_i32_205 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_203 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t13
  let v408 : BitVec 32 := Scalar.muli c2_i32_203 arg24
  let v409 : BitVec 32 := Scalar.addi v140 v408
  let c1_i32_204 : BitVec 32 := 1#32
  let v410 : BitVec 32 := Scalar.addi v409 c1_i32_204
  let v411 : BitVec 32 := Scalar.muli c2_i32_205 v410
  let c1_i32_255 : BitVec 32 := 1#32
  let v513 : BitVec 32 := Scalar.addi v411 c1_i32_255
  let c1_i32_35 : BitVec 32 := 1#32
  let v72 : BitVec 32 := Scalar.subi v71 c1_i32_35
  let v514 : BitVec 32 := Scalar.minsi v513 v72
  let c256_i32_256 : BitVec 32 := 256#32
  let v515 : BitVec 32 := Scalar.muli v514 c256_i32_256
  let v516 : BitVec 32 := v515
  let v520 : BitVec 32 := Scalar.addi v516 c0_i32_257
  let v521 : BitVec 32 := v520
  let v522 : Index := Scalar.indexCast v521
  let c0_258 : Index := 0#32
  ![v522.toNat, 0]
def k0_off1024 (i : grid0.Coords) (k0_t13 : Fin (k0_t13_loop i).trips) (c0_i32_262 : BitVec 32) : Fin 3 → Nat :=
  let c2_i32_264 : BitVec 32 := 2#32
  let c0_i32_263 : BitVec 32 := 0#32
  let arg1 : BitVec 32 := BitVec.ofNat 32 (i 1).val
  let c2_i32_205 : BitVec 32 := 2#32
  let c2_i32_65 : BitVec 32 := 2#32
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_203 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t13
  let v408 : BitVec 32 := Scalar.muli c2_i32_203 arg24
  let v409 : BitVec 32 := Scalar.addi v140 v408
  let c1_i32_204 : BitVec 32 := 1#32
  let v410 : BitVec 32 := Scalar.addi v409 c1_i32_204
  let v411 : BitVec 32 := Scalar.muli c2_i32_205 v410
  let c1_i32_255 : BitVec 32 := 1#32
  let v513 : BitVec 32 := Scalar.addi v411 c1_i32_255
  let c1_i32_35 : BitVec 32 := 1#32
  let v72 : BitVec 32 := Scalar.subi v71 c1_i32_35
  let v514 : BitVec 32 := Scalar.minsi v513 v72
  let c2_i32_261 : BitVec 32 := 2#32
  let v531 : BitVec 32 := Scalar.muli v514 c2_i32_261
  let v532 : BitVec 32 := Scalar.addi v531 c0_i32_262
  let v533 : BitVec 32 := Scalar.subi arg1 v532
  let v534 : BitVec 32 := Scalar.maxsi c0_i32_263 v533
  let v535 : BitVec 32 := Scalar.minsi c2_i32_264 v534
  let v536 : Index := Scalar.indexCast v535
  let c0_265 : Index := 0#32
  let c0_266 : Index := 0#32
  ![v536.toNat, 0, 0]
def k0_mult226 (i : grid0.Coords) (k0_t13 : Fin (k0_t13_loop i).trips) : BitVec 32 :=
  let c2_i32_205 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_203 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t13
  let v408 : BitVec 32 := Scalar.muli c2_i32_203 arg24
  let v409 : BitVec 32 := Scalar.addi v140 v408
  let c1_i32_204 : BitVec 32 := 1#32
  let v410 : BitVec 32 := Scalar.addi v409 c1_i32_204
  let v411 : BitVec 32 := Scalar.muli c2_i32_205 v410
  let c1_i32_255 : BitVec 32 := 1#32
  let v513 : BitVec 32 := Scalar.addi v411 c1_i32_255
  let c1_i32_35 : BitVec 32 := 1#32
  let v72 : BitVec 32 := Scalar.subi v71 c1_i32_35
  let v514 : BitVec 32 := Scalar.minsi v513 v72
  let c256_i32_256 : BitVec 32 := 256#32
  let v515 : BitVec 32 := Scalar.muli v514 c256_i32_256
  let v516 : BitVec 32 := v515
  let c128_i32_269 : BitVec 32 := 128#32
  let v542 : BitVec 32 := Scalar.addi v516 c128_i32_269
  v542
def k0_off1025 (i : grid0.Coords) (k0_t13 : Fin (k0_t13_loop i).trips) : Fin 2 → Nat :=
  let c0_283 : Index := 0#32
  let c2_i32_205 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_203 : BitVec 32 := 2#32
  let c0_i32_111 : BitVec 32 := 0#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v214 : BitVec 32 := Scalar.subi v158 c0_i32_111
  let c1_i32_112 : BitVec 32 := 1#32
  let v216 : BitVec 32 := Scalar.divsi v214 c1_i32_112
  let v217 : BitVec 32 := Scalar.muli v216 c1_i32_112
  let v218 : BitVec 32 := Scalar.addi c0_i32_111 v217
  let c1_i32_114 : BitVec 32 := 1#32
  let arg24 : BitVec 32 := Scf.iv v218 c1_i32_114 k0_t13
  let v408 : BitVec 32 := Scalar.muli c2_i32_203 arg24
  let v409 : BitVec 32 := Scalar.addi v140 v408
  let c1_i32_204 : BitVec 32 := 1#32
  let v410 : BitVec 32 := Scalar.addi v409 c1_i32_204
  let v411 : BitVec 32 := Scalar.muli c2_i32_205 v410
  let c1_i32_255 : BitVec 32 := 1#32
  let v513 : BitVec 32 := Scalar.addi v411 c1_i32_255
  let c1_i32_35 : BitVec 32 := 1#32
  let v72 : BitVec 32 := Scalar.subi v71 c1_i32_35
  let v514 : BitVec 32 := Scalar.minsi v513 v72
  let c256_i32_256 : BitVec 32 := 256#32
  let v515 : BitVec 32 := Scalar.muli v514 c256_i32_256
  let v516 : BitVec 32 := v515
  let v577 : Index := Scalar.indexCast v516
  ![0, v577.toNat]
@[reducible] def k0_t14_loop (i : grid0.Coords) : Scf.Loop 32 :=
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_117 : BitVec 32 := 1#32
  ⟨v222, v227, c1_i32_117⟩
def k0_mult227 (i : grid0.Coords) (k0_t14 : Fin (k0_t14_loop i).trips) : BitVec 32 :=
  let c2_i32_119 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t14
  let v230 : BitVec 32 := Scalar.muli c2_i32_119 arg24
  let c1_i32_120 : BitVec 32 := 1#32
  let v231 : BitVec 32 := Scalar.addi v230 c1_i32_120
  let c1_i32_35 : BitVec 32 := 1#32
  let v72 : BitVec 32 := Scalar.subi v71 c1_i32_35
  let v232 : BitVec 32 := Scalar.minsi v231 v72
  let c256_i32_121 : BitVec 32 := 256#32
  let v233 : BitVec 32 := Scalar.muli v232 c256_i32_121
  v233
def k0_off1026 (i : grid0.Coords) (k0_t14 : Fin (k0_t14_loop i).trips) (c1_i32_120 : BitVec 32) : Fin 2 → Nat :=
  let c2_i32_119 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t14
  let v230 : BitVec 32 := Scalar.muli c2_i32_119 arg24
  let v231 : BitVec 32 := Scalar.addi v230 c1_i32_120
  let c1_i32_35 : BitVec 32 := 1#32
  let v72 : BitVec 32 := Scalar.subi v71 c1_i32_35
  let v232 : BitVec 32 := Scalar.minsi v231 v72
  let c256_i32_121 : BitVec 32 := 256#32
  let v233 : BitVec 32 := Scalar.muli v232 c256_i32_121
  let v234 : BitVec 32 := v233
  let v235 : Index := Scalar.indexCast v234
  let c0_122 : Index := 0#32
  ![v235.toNat, 0]
def k0_off1027 (i : grid0.Coords) : Fin 3 → Nat :=
  let arg1 : BitVec 32 := BitVec.ofNat 32 (i 1).val
  let c8_i32 : BitVec 32 := 8#32
  let c0_i32_36 : BitVec 32 := 0#32
  let v73 : BitVec 1 := Scalar.cmpi .eq c8_i32 c0_i32_36
  let c1_i32_37 : BitVec 32 := 1#32
  let v74 : BitVec 32 := Scalar.select v73 c1_i32_37 c8_i32
  let v75 : BitVec 32 := Scalar.remsi arg1 v74
  let c0_i32_39 : BitVec 32 := 0#32
  let v77 : BitVec 1 := Scalar.cmpi .slt v75 c0_i32_39
  let c0_i32_40 : BitVec 32 := 0#32
  let v78 : BitVec 1 := Scalar.cmpi .slt v74 c0_i32_40
  let v79 : BitVec 1 := Scalar.xori v77 v78
  let c0_i32_38 : BitVec 32 := 0#32
  let v76 : BitVec 1 := Scalar.cmpi .ne v75 c0_i32_38
  let v80 : BitVec 1 := Scalar.andi v79 v76
  let v81 : BitVec 32 := Scalar.addi v75 v74
  let v82 : BitVec 32 := Scalar.select v80 v81 v75
  let v237 : Index := Scalar.indexCast v82
  let c0_123 : Index := 0#32
  let c0_124 : Index := 0#32
  ![v237.toNat, 0, 0]
def k0_mult228 (i : grid0.Coords) (k0_t14 : Fin (k0_t14_loop i).trips) : BitVec 32 :=
  let c2_i32_119 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t14
  let v230 : BitVec 32 := Scalar.muli c2_i32_119 arg24
  let c1_i32_35 : BitVec 32 := 1#32
  let v72 : BitVec 32 := Scalar.subi v71 c1_i32_35
  let v245 : BitVec 32 := Scalar.minsi v230 v72
  let c256_i32_128 : BitVec 32 := 256#32
  let v246 : BitVec 32 := Scalar.muli v245 c256_i32_128
  v246
def k0_mult229 (i : grid0.Coords) (k0_t14 : Fin (k0_t14_loop i).trips) : BitVec 32 :=
  let c2_i32_119 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t14
  let v230 : BitVec 32 := Scalar.muli c2_i32_119 arg24
  let c1_i32_35 : BitVec 32 := 1#32
  let v72 : BitVec 32 := Scalar.subi v71 c1_i32_35
  let v245 : BitVec 32 := Scalar.minsi v230 v72
  let c256_i32_128 : BitVec 32 := 256#32
  let v246 : BitVec 32 := Scalar.muli v245 c256_i32_128
  let v247 : BitVec 32 := v246
  let c0_i32_129 : BitVec 32 := 0#32
  let v251 : BitVec 32 := Scalar.addi v247 c0_i32_129
  v251
def k0_off1028 (i : grid0.Coords) (k0_t14 : Fin (k0_t14_loop i).trips) (c0_i32_129 : BitVec 32) : Fin 2 → Nat :=
  let c2_i32_119 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t14
  let v230 : BitVec 32 := Scalar.muli c2_i32_119 arg24
  let c1_i32_35 : BitVec 32 := 1#32
  let v72 : BitVec 32 := Scalar.subi v71 c1_i32_35
  let v245 : BitVec 32 := Scalar.minsi v230 v72
  let c256_i32_128 : BitVec 32 := 256#32
  let v246 : BitVec 32 := Scalar.muli v245 c256_i32_128
  let v247 : BitVec 32 := v246
  let v251 : BitVec 32 := Scalar.addi v247 c0_i32_129
  let v252 : BitVec 32 := v251
  let v253 : Index := Scalar.indexCast v252
  let c0_130 : Index := 0#32
  ![v253.toNat, 0]
def k0_off1029 (i : grid0.Coords) (k0_t14 : Fin (k0_t14_loop i).trips) (c0_i32_134 : BitVec 32) : Fin 3 → Nat :=
  let c2_i32_136 : BitVec 32 := 2#32
  let c0_i32_135 : BitVec 32 := 0#32
  let arg1 : BitVec 32 := BitVec.ofNat 32 (i 1).val
  let c2_i32_119 : BitVec 32 := 2#32
  let c2_i32_65 : BitVec 32 := 2#32
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t14
  let v230 : BitVec 32 := Scalar.muli c2_i32_119 arg24
  let c1_i32_35 : BitVec 32 := 1#32
  let v72 : BitVec 32 := Scalar.subi v71 c1_i32_35
  let v245 : BitVec 32 := Scalar.minsi v230 v72
  let c2_i32_133 : BitVec 32 := 2#32
  let v262 : BitVec 32 := Scalar.muli v245 c2_i32_133
  let v263 : BitVec 32 := Scalar.addi v262 c0_i32_134
  let v264 : BitVec 32 := Scalar.subi arg1 v263
  let v265 : BitVec 32 := Scalar.maxsi c0_i32_135 v264
  let v266 : BitVec 32 := Scalar.minsi c2_i32_136 v265
  let v267 : Index := Scalar.indexCast v266
  let c0_137 : Index := 0#32
  let c0_138 : Index := 0#32
  ![v267.toNat, 0, 0]
def k0_mult230 (i : grid0.Coords) (k0_t14 : Fin (k0_t14_loop i).trips) : BitVec 32 :=
  let c2_i32_119 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t14
  let v230 : BitVec 32 := Scalar.muli c2_i32_119 arg24
  let c1_i32_35 : BitVec 32 := 1#32
  let v72 : BitVec 32 := Scalar.subi v71 c1_i32_35
  let v245 : BitVec 32 := Scalar.minsi v230 v72
  let c256_i32_128 : BitVec 32 := 256#32
  let v246 : BitVec 32 := Scalar.muli v245 c256_i32_128
  let v247 : BitVec 32 := v246
  let c128_i32_141 : BitVec 32 := 128#32
  let v273 : BitVec 32 := Scalar.addi v247 c128_i32_141
  v273
def k0_off1030 (i : grid0.Coords) (k0_t14 : Fin (k0_t14_loop i).trips) : Fin 2 → Nat :=
  let c0_154 : Index := 0#32
  let c2_i32_119 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t14
  let v230 : BitVec 32 := Scalar.muli c2_i32_119 arg24
  let c1_i32_35 : BitVec 32 := 1#32
  let v72 : BitVec 32 := Scalar.subi v71 c1_i32_35
  let v245 : BitVec 32 := Scalar.minsi v230 v72
  let c256_i32_128 : BitVec 32 := 256#32
  let v246 : BitVec 32 := Scalar.muli v245 c256_i32_128
  let v247 : BitVec 32 := v246
  let v308 : Index := Scalar.indexCast v247
  ![0, v308.toNat]
def k0_mult231 (i : grid0.Coords) (k0_t14 : Fin (k0_t14_loop i).trips) : BitVec 32 :=
  let c2_i32_119 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t14
  let v230 : BitVec 32 := Scalar.muli c2_i32_119 arg24
  let c2_i32_160 : BitVec 32 := 2#32
  let v318 : BitVec 32 := Scalar.addi v230 c2_i32_160
  let c1_i32_35 : BitVec 32 := 1#32
  let v72 : BitVec 32 := Scalar.subi v71 c1_i32_35
  let v319 : BitVec 32 := Scalar.minsi v318 v72
  let c256_i32_161 : BitVec 32 := 256#32
  let v320 : BitVec 32 := Scalar.muli v319 c256_i32_161
  v320
def k0_mult232 (i : grid0.Coords) (k0_t14 : Fin (k0_t14_loop i).trips) : BitVec 32 :=
  let c2_i32_119 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t14
  let v230 : BitVec 32 := Scalar.muli c2_i32_119 arg24
  let c1_i32_168 : BitVec 32 := 1#32
  let v332 : BitVec 32 := Scalar.addi v230 c1_i32_168
  let c1_i32_35 : BitVec 32 := 1#32
  let v72 : BitVec 32 := Scalar.subi v71 c1_i32_35
  let v333 : BitVec 32 := Scalar.minsi v332 v72
  let c256_i32_169 : BitVec 32 := 256#32
  let v334 : BitVec 32 := Scalar.muli v333 c256_i32_169
  v334
def k0_mult233 (i : grid0.Coords) (k0_t14 : Fin (k0_t14_loop i).trips) : BitVec 32 :=
  let c2_i32_119 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t14
  let v230 : BitVec 32 := Scalar.muli c2_i32_119 arg24
  let c1_i32_168 : BitVec 32 := 1#32
  let v332 : BitVec 32 := Scalar.addi v230 c1_i32_168
  let c1_i32_35 : BitVec 32 := 1#32
  let v72 : BitVec 32 := Scalar.subi v71 c1_i32_35
  let v333 : BitVec 32 := Scalar.minsi v332 v72
  let c256_i32_169 : BitVec 32 := 256#32
  let v334 : BitVec 32 := Scalar.muli v333 c256_i32_169
  let v335 : BitVec 32 := v334
  let c0_i32_170 : BitVec 32 := 0#32
  let v339 : BitVec 32 := Scalar.addi v335 c0_i32_170
  v339
def k0_off1031 (i : grid0.Coords) (k0_t14 : Fin (k0_t14_loop i).trips) (c0_i32_170 : BitVec 32) : Fin 2 → Nat :=
  let c2_i32_119 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t14
  let v230 : BitVec 32 := Scalar.muli c2_i32_119 arg24
  let c1_i32_168 : BitVec 32 := 1#32
  let v332 : BitVec 32 := Scalar.addi v230 c1_i32_168
  let c1_i32_35 : BitVec 32 := 1#32
  let v72 : BitVec 32 := Scalar.subi v71 c1_i32_35
  let v333 : BitVec 32 := Scalar.minsi v332 v72
  let c256_i32_169 : BitVec 32 := 256#32
  let v334 : BitVec 32 := Scalar.muli v333 c256_i32_169
  let v335 : BitVec 32 := v334
  let v339 : BitVec 32 := Scalar.addi v335 c0_i32_170
  let v340 : BitVec 32 := v339
  let v341 : Index := Scalar.indexCast v340
  let c0_171 : Index := 0#32
  ![v341.toNat, 0]
def k0_off1032 (i : grid0.Coords) (k0_t14 : Fin (k0_t14_loop i).trips) (c0_i32_175 : BitVec 32) : Fin 3 → Nat :=
  let c2_i32_177 : BitVec 32 := 2#32
  let c0_i32_176 : BitVec 32 := 0#32
  let arg1 : BitVec 32 := BitVec.ofNat 32 (i 1).val
  let c2_i32_119 : BitVec 32 := 2#32
  let c2_i32_65 : BitVec 32 := 2#32
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t14
  let v230 : BitVec 32 := Scalar.muli c2_i32_119 arg24
  let c1_i32_168 : BitVec 32 := 1#32
  let v332 : BitVec 32 := Scalar.addi v230 c1_i32_168
  let c1_i32_35 : BitVec 32 := 1#32
  let v72 : BitVec 32 := Scalar.subi v71 c1_i32_35
  let v333 : BitVec 32 := Scalar.minsi v332 v72
  let c2_i32_174 : BitVec 32 := 2#32
  let v350 : BitVec 32 := Scalar.muli v333 c2_i32_174
  let v351 : BitVec 32 := Scalar.addi v350 c0_i32_175
  let v352 : BitVec 32 := Scalar.subi arg1 v351
  let v353 : BitVec 32 := Scalar.maxsi c0_i32_176 v352
  let v354 : BitVec 32 := Scalar.minsi c2_i32_177 v353
  let v355 : Index := Scalar.indexCast v354
  let c0_178 : Index := 0#32
  let c0_179 : Index := 0#32
  ![v355.toNat, 0, 0]
def k0_mult234 (i : grid0.Coords) (k0_t14 : Fin (k0_t14_loop i).trips) : BitVec 32 :=
  let c2_i32_119 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t14
  let v230 : BitVec 32 := Scalar.muli c2_i32_119 arg24
  let c1_i32_168 : BitVec 32 := 1#32
  let v332 : BitVec 32 := Scalar.addi v230 c1_i32_168
  let c1_i32_35 : BitVec 32 := 1#32
  let v72 : BitVec 32 := Scalar.subi v71 c1_i32_35
  let v333 : BitVec 32 := Scalar.minsi v332 v72
  let c256_i32_169 : BitVec 32 := 256#32
  let v334 : BitVec 32 := Scalar.muli v333 c256_i32_169
  let v335 : BitVec 32 := v334
  let c128_i32_182 : BitVec 32 := 128#32
  let v361 : BitVec 32 := Scalar.addi v335 c128_i32_182
  v361
def k0_off1033 (i : grid0.Coords) (k0_t14 : Fin (k0_t14_loop i).trips) : Fin 2 → Nat :=
  let c0_196 : Index := 0#32
  let c2_i32_119 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let c1_i32_117 : BitVec 32 := 1#32
  let arg24 : BitVec 32 := Scf.iv v222 c1_i32_117 k0_t14
  let v230 : BitVec 32 := Scalar.muli c2_i32_119 arg24
  let c1_i32_168 : BitVec 32 := 1#32
  let v332 : BitVec 32 := Scalar.addi v230 c1_i32_168
  let c1_i32_35 : BitVec 32 := 1#32
  let v72 : BitVec 32 := Scalar.subi v71 c1_i32_35
  let v333 : BitVec 32 := Scalar.minsi v332 v72
  let c256_i32_169 : BitVec 32 := 256#32
  let v334 : BitVec 32 := Scalar.muli v333 c256_i32_169
  let v335 : BitVec 32 := v334
  let v396 : Index := Scalar.indexCast v335
  ![0, v396.toNat]
@[reducible] def k0_t15_loop (i : grid0.Coords) : Scf.Loop 32 :=
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let v224 : BitVec 32 := Scalar.addi v222 v223
  let c1_i32_118 : BitVec 32 := 1#32
  ⟨v227, v224, c1_i32_118⟩
def k0_mult235 (i : grid0.Coords) (k0_t15 : Fin (k0_t15_loop i).trips) : BitVec 32 :=
  let c2_i32_119 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t15
  let v230 : BitVec 32 := Scalar.muli c2_i32_119 arg24
  let c1_i32_120 : BitVec 32 := 1#32
  let v231 : BitVec 32 := Scalar.addi v230 c1_i32_120
  let c1_i32_35 : BitVec 32 := 1#32
  let v72 : BitVec 32 := Scalar.subi v71 c1_i32_35
  let v232 : BitVec 32 := Scalar.minsi v231 v72
  let c256_i32_121 : BitVec 32 := 256#32
  let v233 : BitVec 32 := Scalar.muli v232 c256_i32_121
  v233
def k0_off1034 (i : grid0.Coords) (k0_t15 : Fin (k0_t15_loop i).trips) (c1_i32_120 : BitVec 32) : Fin 2 → Nat :=
  let c2_i32_119 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t15
  let v230 : BitVec 32 := Scalar.muli c2_i32_119 arg24
  let v231 : BitVec 32 := Scalar.addi v230 c1_i32_120
  let c1_i32_35 : BitVec 32 := 1#32
  let v72 : BitVec 32 := Scalar.subi v71 c1_i32_35
  let v232 : BitVec 32 := Scalar.minsi v231 v72
  let c256_i32_121 : BitVec 32 := 256#32
  let v233 : BitVec 32 := Scalar.muli v232 c256_i32_121
  let v234 : BitVec 32 := v233
  let v235 : Index := Scalar.indexCast v234
  let c0_122 : Index := 0#32
  ![v235.toNat, 0]
def k0_off1035 (i : grid0.Coords) : Fin 3 → Nat :=
  let arg1 : BitVec 32 := BitVec.ofNat 32 (i 1).val
  let c8_i32 : BitVec 32 := 8#32
  let c0_i32_36 : BitVec 32 := 0#32
  let v73 : BitVec 1 := Scalar.cmpi .eq c8_i32 c0_i32_36
  let c1_i32_37 : BitVec 32 := 1#32
  let v74 : BitVec 32 := Scalar.select v73 c1_i32_37 c8_i32
  let v75 : BitVec 32 := Scalar.remsi arg1 v74
  let c0_i32_39 : BitVec 32 := 0#32
  let v77 : BitVec 1 := Scalar.cmpi .slt v75 c0_i32_39
  let c0_i32_40 : BitVec 32 := 0#32
  let v78 : BitVec 1 := Scalar.cmpi .slt v74 c0_i32_40
  let v79 : BitVec 1 := Scalar.xori v77 v78
  let c0_i32_38 : BitVec 32 := 0#32
  let v76 : BitVec 1 := Scalar.cmpi .ne v75 c0_i32_38
  let v80 : BitVec 1 := Scalar.andi v79 v76
  let v81 : BitVec 32 := Scalar.addi v75 v74
  let v82 : BitVec 32 := Scalar.select v80 v81 v75
  let v237 : Index := Scalar.indexCast v82
  let c0_123 : Index := 0#32
  let c0_124 : Index := 0#32
  ![v237.toNat, 0, 0]
def k0_mult236 (i : grid0.Coords) (k0_t15 : Fin (k0_t15_loop i).trips) : BitVec 32 :=
  let c2_i32_119 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t15
  let v230 : BitVec 32 := Scalar.muli c2_i32_119 arg24
  let c1_i32_35 : BitVec 32 := 1#32
  let v72 : BitVec 32 := Scalar.subi v71 c1_i32_35
  let v245 : BitVec 32 := Scalar.minsi v230 v72
  let c256_i32_128 : BitVec 32 := 256#32
  let v246 : BitVec 32 := Scalar.muli v245 c256_i32_128
  v246
def k0_mult237 (i : grid0.Coords) (k0_t15 : Fin (k0_t15_loop i).trips) : BitVec 32 :=
  let c2_i32_119 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t15
  let v230 : BitVec 32 := Scalar.muli c2_i32_119 arg24
  let c1_i32_35 : BitVec 32 := 1#32
  let v72 : BitVec 32 := Scalar.subi v71 c1_i32_35
  let v245 : BitVec 32 := Scalar.minsi v230 v72
  let c256_i32_128 : BitVec 32 := 256#32
  let v246 : BitVec 32 := Scalar.muli v245 c256_i32_128
  let v247 : BitVec 32 := v246
  let c0_i32_129 : BitVec 32 := 0#32
  let v251 : BitVec 32 := Scalar.addi v247 c0_i32_129
  v251
def k0_off1036 (i : grid0.Coords) (k0_t15 : Fin (k0_t15_loop i).trips) (c0_i32_129 : BitVec 32) : Fin 2 → Nat :=
  let c2_i32_119 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t15
  let v230 : BitVec 32 := Scalar.muli c2_i32_119 arg24
  let c1_i32_35 : BitVec 32 := 1#32
  let v72 : BitVec 32 := Scalar.subi v71 c1_i32_35
  let v245 : BitVec 32 := Scalar.minsi v230 v72
  let c256_i32_128 : BitVec 32 := 256#32
  let v246 : BitVec 32 := Scalar.muli v245 c256_i32_128
  let v247 : BitVec 32 := v246
  let v251 : BitVec 32 := Scalar.addi v247 c0_i32_129
  let v252 : BitVec 32 := v251
  let v253 : Index := Scalar.indexCast v252
  let c0_130 : Index := 0#32
  ![v253.toNat, 0]
def k0_off1037 (i : grid0.Coords) (k0_t15 : Fin (k0_t15_loop i).trips) (c0_i32_134 : BitVec 32) : Fin 3 → Nat :=
  let c2_i32_136 : BitVec 32 := 2#32
  let c0_i32_135 : BitVec 32 := 0#32
  let arg1 : BitVec 32 := BitVec.ofNat 32 (i 1).val
  let c2_i32_119 : BitVec 32 := 2#32
  let c2_i32_65 : BitVec 32 := 2#32
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t15
  let v230 : BitVec 32 := Scalar.muli c2_i32_119 arg24
  let c1_i32_35 : BitVec 32 := 1#32
  let v72 : BitVec 32 := Scalar.subi v71 c1_i32_35
  let v245 : BitVec 32 := Scalar.minsi v230 v72
  let c2_i32_133 : BitVec 32 := 2#32
  let v262 : BitVec 32 := Scalar.muli v245 c2_i32_133
  let v263 : BitVec 32 := Scalar.addi v262 c0_i32_134
  let v264 : BitVec 32 := Scalar.subi arg1 v263
  let v265 : BitVec 32 := Scalar.maxsi c0_i32_135 v264
  let v266 : BitVec 32 := Scalar.minsi c2_i32_136 v265
  let v267 : Index := Scalar.indexCast v266
  let c0_137 : Index := 0#32
  let c0_138 : Index := 0#32
  ![v267.toNat, 0, 0]
def k0_mult238 (i : grid0.Coords) (k0_t15 : Fin (k0_t15_loop i).trips) : BitVec 32 :=
  let c2_i32_119 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t15
  let v230 : BitVec 32 := Scalar.muli c2_i32_119 arg24
  let c1_i32_35 : BitVec 32 := 1#32
  let v72 : BitVec 32 := Scalar.subi v71 c1_i32_35
  let v245 : BitVec 32 := Scalar.minsi v230 v72
  let c256_i32_128 : BitVec 32 := 256#32
  let v246 : BitVec 32 := Scalar.muli v245 c256_i32_128
  let v247 : BitVec 32 := v246
  let c128_i32_141 : BitVec 32 := 128#32
  let v273 : BitVec 32 := Scalar.addi v247 c128_i32_141
  v273
def k0_off1038 (i : grid0.Coords) (k0_t15 : Fin (k0_t15_loop i).trips) : Fin 2 → Nat :=
  let c0_154 : Index := 0#32
  let c2_i32_119 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t15
  let v230 : BitVec 32 := Scalar.muli c2_i32_119 arg24
  let c1_i32_35 : BitVec 32 := 1#32
  let v72 : BitVec 32 := Scalar.subi v71 c1_i32_35
  let v245 : BitVec 32 := Scalar.minsi v230 v72
  let c256_i32_128 : BitVec 32 := 256#32
  let v246 : BitVec 32 := Scalar.muli v245 c256_i32_128
  let v247 : BitVec 32 := v246
  let v308 : Index := Scalar.indexCast v247
  ![0, v308.toNat]
def k0_mult239 (i : grid0.Coords) (k0_t15 : Fin (k0_t15_loop i).trips) : BitVec 32 :=
  let c2_i32_119 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t15
  let v230 : BitVec 32 := Scalar.muli c2_i32_119 arg24
  let c2_i32_160 : BitVec 32 := 2#32
  let v318 : BitVec 32 := Scalar.addi v230 c2_i32_160
  let c1_i32_35 : BitVec 32 := 1#32
  let v72 : BitVec 32 := Scalar.subi v71 c1_i32_35
  let v319 : BitVec 32 := Scalar.minsi v318 v72
  let c256_i32_161 : BitVec 32 := 256#32
  let v320 : BitVec 32 := Scalar.muli v319 c256_i32_161
  v320
def k0_mult240 (i : grid0.Coords) (k0_t15 : Fin (k0_t15_loop i).trips) : BitVec 32 :=
  let c2_i32_119 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t15
  let v230 : BitVec 32 := Scalar.muli c2_i32_119 arg24
  let c1_i32_168 : BitVec 32 := 1#32
  let v332 : BitVec 32 := Scalar.addi v230 c1_i32_168
  let c1_i32_35 : BitVec 32 := 1#32
  let v72 : BitVec 32 := Scalar.subi v71 c1_i32_35
  let v333 : BitVec 32 := Scalar.minsi v332 v72
  let c256_i32_169 : BitVec 32 := 256#32
  let v334 : BitVec 32 := Scalar.muli v333 c256_i32_169
  v334
def k0_mult241 (i : grid0.Coords) (k0_t15 : Fin (k0_t15_loop i).trips) : BitVec 32 :=
  let c2_i32_119 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t15
  let v230 : BitVec 32 := Scalar.muli c2_i32_119 arg24
  let c1_i32_168 : BitVec 32 := 1#32
  let v332 : BitVec 32 := Scalar.addi v230 c1_i32_168
  let c1_i32_35 : BitVec 32 := 1#32
  let v72 : BitVec 32 := Scalar.subi v71 c1_i32_35
  let v333 : BitVec 32 := Scalar.minsi v332 v72
  let c256_i32_169 : BitVec 32 := 256#32
  let v334 : BitVec 32 := Scalar.muli v333 c256_i32_169
  let v335 : BitVec 32 := v334
  let c0_i32_170 : BitVec 32 := 0#32
  let v339 : BitVec 32 := Scalar.addi v335 c0_i32_170
  v339
def k0_off1039 (i : grid0.Coords) (k0_t15 : Fin (k0_t15_loop i).trips) (c0_i32_170 : BitVec 32) : Fin 2 → Nat :=
  let c2_i32_119 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t15
  let v230 : BitVec 32 := Scalar.muli c2_i32_119 arg24
  let c1_i32_168 : BitVec 32 := 1#32
  let v332 : BitVec 32 := Scalar.addi v230 c1_i32_168
  let c1_i32_35 : BitVec 32 := 1#32
  let v72 : BitVec 32 := Scalar.subi v71 c1_i32_35
  let v333 : BitVec 32 := Scalar.minsi v332 v72
  let c256_i32_169 : BitVec 32 := 256#32
  let v334 : BitVec 32 := Scalar.muli v333 c256_i32_169
  let v335 : BitVec 32 := v334
  let v339 : BitVec 32 := Scalar.addi v335 c0_i32_170
  let v340 : BitVec 32 := v339
  let v341 : Index := Scalar.indexCast v340
  let c0_171 : Index := 0#32
  ![v341.toNat, 0]
def k0_off1040 (i : grid0.Coords) (k0_t15 : Fin (k0_t15_loop i).trips) (c0_i32_175 : BitVec 32) : Fin 3 → Nat :=
  let c2_i32_177 : BitVec 32 := 2#32
  let c0_i32_176 : BitVec 32 := 0#32
  let arg1 : BitVec 32 := BitVec.ofNat 32 (i 1).val
  let c2_i32_119 : BitVec 32 := 2#32
  let c2_i32_65 : BitVec 32 := 2#32
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t15
  let v230 : BitVec 32 := Scalar.muli c2_i32_119 arg24
  let c1_i32_168 : BitVec 32 := 1#32
  let v332 : BitVec 32 := Scalar.addi v230 c1_i32_168
  let c1_i32_35 : BitVec 32 := 1#32
  let v72 : BitVec 32 := Scalar.subi v71 c1_i32_35
  let v333 : BitVec 32 := Scalar.minsi v332 v72
  let c2_i32_174 : BitVec 32 := 2#32
  let v350 : BitVec 32 := Scalar.muli v333 c2_i32_174
  let v351 : BitVec 32 := Scalar.addi v350 c0_i32_175
  let v352 : BitVec 32 := Scalar.subi arg1 v351
  let v353 : BitVec 32 := Scalar.maxsi c0_i32_176 v352
  let v354 : BitVec 32 := Scalar.minsi c2_i32_177 v353
  let v355 : Index := Scalar.indexCast v354
  let c0_178 : Index := 0#32
  let c0_179 : Index := 0#32
  ![v355.toNat, 0, 0]
def k0_mult242 (i : grid0.Coords) (k0_t15 : Fin (k0_t15_loop i).trips) : BitVec 32 :=
  let c2_i32_119 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t15
  let v230 : BitVec 32 := Scalar.muli c2_i32_119 arg24
  let c1_i32_168 : BitVec 32 := 1#32
  let v332 : BitVec 32 := Scalar.addi v230 c1_i32_168
  let c1_i32_35 : BitVec 32 := 1#32
  let v72 : BitVec 32 := Scalar.subi v71 c1_i32_35
  let v333 : BitVec 32 := Scalar.minsi v332 v72
  let c256_i32_169 : BitVec 32 := 256#32
  let v334 : BitVec 32 := Scalar.muli v333 c256_i32_169
  let v335 : BitVec 32 := v334
  let c128_i32_182 : BitVec 32 := 128#32
  let v361 : BitVec 32 := Scalar.addi v335 c128_i32_182
  v361
def k0_off1041 (i : grid0.Coords) (k0_t15 : Fin (k0_t15_loop i).trips) : Fin 2 → Nat :=
  let c0_196 : Index := 0#32
  let c2_i32_119 : BitVec 32 := 2#32
  let c2_i32_65 : BitVec 32 := 2#32
  let arg1 : BitVec 32 := BitVec.ofNat 32 (i 1).val
  let c1_i32_49 : BitVec 32 := 1#32
  let v104 : BitVec 32 := Scalar.subi arg1 c1_i32_49
  let c0_i32_51 : BitVec 32 := 0#32
  let v106 : BitVec 1 := Scalar.cmpi .sgt v104 c0_i32_51
  let v107 : BitVec 32 := Scalar.extui v106
  let c0_i32_52 : BitVec 32 := 0#32
  let v108 : BitVec 1 := Scalar.cmpi .slt v104 c0_i32_52
  let v109 : BitVec 32 := Scalar.extui v108
  let v110 : BitVec 32 := Scalar.subi v107 v109
  let c4_i32_50 : BitVec 32 := 4#32
  let c0_i32_53 : BitVec 32 := 0#32
  let v111 : BitVec 1 := Scalar.cmpi .sgt c4_i32_50 c0_i32_53
  let v112 : BitVec 32 := Scalar.extui v111
  let c0_i32_54 : BitVec 32 := 0#32
  let v113 : BitVec 1 := Scalar.cmpi .slt c4_i32_50 c0_i32_54
  let v114 : BitVec 32 := Scalar.extui v113
  let v115 : BitVec 32 := Scalar.subi v112 v114
  let v116 : BitVec 1 := Scalar.cmpi .ne v110 v115
  let v117 : BitVec 32 := Scalar.remsi v104 c4_i32_50
  let c0_i32_55 : BitVec 32 := 0#32
  let v118 : BitVec 1 := Scalar.cmpi .ne v117 c0_i32_55
  let v119 : BitVec 1 := Scalar.andi v116 v118
  let v105 : BitVec 32 := Scalar.divsi v104 c4_i32_50
  let c1_i32_56 : BitVec 32 := 1#32
  let v120 : BitVec 32 := Scalar.subi v105 c1_i32_56
  let v121 : BitVec 32 := Scalar.select v119 v120 v105
  let c0_i32_57 : BitVec 32 := 0#32
  let v122 : BitVec 32 := Scalar.maxsi v121 c0_i32_57
  let c0_i32_59 : BitVec 32 := 0#32
  let v124 : BitVec 1 := Scalar.cmpi .sgt v122 c0_i32_59
  let v125 : BitVec 32 := Scalar.extui v124
  let c0_i32_60 : BitVec 32 := 0#32
  let v126 : BitVec 1 := Scalar.cmpi .slt v122 c0_i32_60
  let v127 : BitVec 32 := Scalar.extui v126
  let v128 : BitVec 32 := Scalar.subi v125 v127
  let c2_i32_58 : BitVec 32 := 2#32
  let c0_i32_61 : BitVec 32 := 0#32
  let v129 : BitVec 1 := Scalar.cmpi .sgt c2_i32_58 c0_i32_61
  let v130 : BitVec 32 := Scalar.extui v129
  let c0_i32_62 : BitVec 32 := 0#32
  let v131 : BitVec 1 := Scalar.cmpi .slt c2_i32_58 c0_i32_62
  let v132 : BitVec 32 := Scalar.extui v131
  let v133 : BitVec 32 := Scalar.subi v130 v132
  let v134 : BitVec 1 := Scalar.cmpi .ne v128 v133
  let v135 : BitVec 32 := Scalar.remsi v122 c2_i32_58
  let c0_i32_63 : BitVec 32 := 0#32
  let v136 : BitVec 1 := Scalar.cmpi .ne v135 c0_i32_63
  let v137 : BitVec 1 := Scalar.andi v134 v136
  let v123 : BitVec 32 := Scalar.divsi v122 c2_i32_58
  let c1_i32_64 : BitVec 32 := 1#32
  let v138 : BitVec 32 := Scalar.subi v123 c1_i32_64
  let v139 : BitVec 32 := Scalar.select v137 v138 v123
  let v140 : BitVec 32 := Scalar.muli c2_i32_65 v139
  let c2_i32_115 : BitVec 32 := 2#32
  let c128_i32 : BitVec 32 := 128#32
  let v51 : BitVec 32 := Scalar.muli arg1 c128_i32
  let c128_i32_26 : BitVec 32 := 128#32
  let v52 : BitVec 32 := Scalar.addi v51 c128_i32_26
  let c256_i32 : BitVec 32 := 256#32
  let v53 : BitVec 32 := Scalar.addi v52 c256_i32
  let c1_i32_27 : BitVec 32 := 1#32
  let v54 : BitVec 32 := Scalar.subi v53 c1_i32_27
  let c0_i32_29 : BitVec 32 := 0#32
  let v56 : BitVec 1 := Scalar.cmpi .sgt v54 c0_i32_29
  let v57 : BitVec 32 := Scalar.extui v56
  let c0_i32_30 : BitVec 32 := 0#32
  let v58 : BitVec 1 := Scalar.cmpi .slt v54 c0_i32_30
  let v59 : BitVec 32 := Scalar.extui v58
  let v60 : BitVec 32 := Scalar.subi v57 v59
  let c256_i32_28 : BitVec 32 := 256#32
  let c0_i32_31 : BitVec 32 := 0#32
  let v61 : BitVec 1 := Scalar.cmpi .sgt c256_i32_28 c0_i32_31
  let v62 : BitVec 32 := Scalar.extui v61
  let c0_i32_32 : BitVec 32 := 0#32
  let v63 : BitVec 1 := Scalar.cmpi .slt c256_i32_28 c0_i32_32
  let v64 : BitVec 32 := Scalar.extui v63
  let v65 : BitVec 32 := Scalar.subi v62 v64
  let v66 : BitVec 1 := Scalar.cmpi .ne v60 v65
  let v67 : BitVec 32 := Scalar.remsi v54 c256_i32_28
  let c0_i32_33 : BitVec 32 := 0#32
  let v68 : BitVec 1 := Scalar.cmpi .ne v67 c0_i32_33
  let v69 : BitVec 1 := Scalar.andi v66 v68
  let v55 : BitVec 32 := Scalar.divsi v54 c256_i32_28
  let c1_i32_34 : BitVec 32 := 1#32
  let v70 : BitVec 32 := Scalar.subi v55 c1_i32_34
  let v71 : BitVec 32 := Scalar.select v69 v70 v55
  let c1_i32_42 : BitVec 32 := 1#32
  let v86 : BitVec 32 := Scalar.addi v71 c1_i32_42
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c2_i32 : BitVec 32 := 2#32
  let c0_i32_45 : BitVec 32 := 0#32
  let v93 : BitVec 1 := Scalar.cmpi .sgt c2_i32 c0_i32_45
  let v94 : BitVec 32 := Scalar.extui v93
  let c0_i32_46 : BitVec 32 := 0#32
  let v95 : BitVec 1 := Scalar.cmpi .slt c2_i32 c0_i32_46
  let v96 : BitVec 32 := Scalar.extui v95
  let v97 : BitVec 32 := Scalar.subi v94 v96
  let v98 : BitVec 1 := Scalar.cmpi .ne v92 v97
  let v99 : BitVec 32 := Scalar.remsi v86 c2_i32
  let c0_i32_47 : BitVec 32 := 0#32
  let v100 : BitVec 1 := Scalar.cmpi .ne v99 c0_i32_47
  let v101 : BitVec 1 := Scalar.andi v98 v100
  let v87 : BitVec 32 := Scalar.divsi v86 c2_i32
  let c1_i32_48 : BitVec 32 := 1#32
  let v102 : BitVec 32 := Scalar.subi v87 c1_i32_48
  let v103 : BitVec 32 := Scalar.select v101 v102 v87
  let v141 : BitVec 32 := Scalar.subi v103 v140
  let c0_i32_67 : BitVec 32 := 0#32
  let v143 : BitVec 1 := Scalar.cmpi .sgt v141 c0_i32_67
  let v144 : BitVec 32 := Scalar.extui v143
  let c0_i32_68 : BitVec 32 := 0#32
  let v145 : BitVec 1 := Scalar.cmpi .slt v141 c0_i32_68
  let v146 : BitVec 32 := Scalar.extui v145
  let v147 : BitVec 32 := Scalar.subi v144 v146
  let c2_i32_66 : BitVec 32 := 2#32
  let c0_i32_69 : BitVec 32 := 0#32
  let v148 : BitVec 1 := Scalar.cmpi .sgt c2_i32_66 c0_i32_69
  let v149 : BitVec 32 := Scalar.extui v148
  let c0_i32_70 : BitVec 32 := 0#32
  let v150 : BitVec 1 := Scalar.cmpi .slt c2_i32_66 c0_i32_70
  let v151 : BitVec 32 := Scalar.extui v150
  let v152 : BitVec 32 := Scalar.subi v149 v151
  let v153 : BitVec 1 := Scalar.cmpi .ne v147 v152
  let v154 : BitVec 32 := Scalar.remsi v141 c2_i32_66
  let c0_i32_71 : BitVec 32 := 0#32
  let v155 : BitVec 1 := Scalar.cmpi .ne v154 c0_i32_71
  let v156 : BitVec 1 := Scalar.andi v153 v155
  let v142 : BitVec 32 := Scalar.divsi v141 c2_i32_66
  let c1_i32_72 : BitVec 32 := 1#32
  let v157 : BitVec 32 := Scalar.subi v142 c1_i32_72
  let v158 : BitVec 32 := Scalar.select v156 v157 v142
  let v221 : BitVec 32 := Scalar.muli c2_i32_115 v158
  let v222 : BitVec 32 := Scalar.addi v140 v221
  let v223 : BitVec 32 := Scalar.subi v103 v222
  let c1_i32_116 : BitVec 32 := 1#32
  let v225 : BitVec 32 := Scalar.divsi v223 c1_i32_116
  let v226 : BitVec 32 := Scalar.muli v225 c1_i32_116
  let v227 : BitVec 32 := Scalar.addi v222 v226
  let c1_i32_118 : BitVec 32 := 1#32
  let arg24 : BitVec 32 := Scf.iv v227 c1_i32_118 k0_t15
  let v230 : BitVec 32 := Scalar.muli c2_i32_119 arg24
  let c1_i32_168 : BitVec 32 := 1#32
  let v332 : BitVec 32 := Scalar.addi v230 c1_i32_168
  let c1_i32_35 : BitVec 32 := 1#32
  let v72 : BitVec 32 := Scalar.subi v71 c1_i32_35
  let v333 : BitVec 32 := Scalar.minsi v332 v72
  let c256_i32_169 : BitVec 32 := 256#32
  let v334 : BitVec 32 := Scalar.muli v333 c256_i32_169
  let v335 : BitVec 32 := v334
  let v396 : Index := Scalar.indexCast v335
  ![0, v396.toNat]
def k0_off1042 (i : grid0.Coords) : Fin 3 → Nat :=
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v196 : Index := Scalar.indexCast v9
  let c0_101 : Index := 0#32
  let c0_102 : Index := 0#32
  ![v196.toNat, 0, 0]
def k0_cond10 (i : grid0.Coords) : BitVec 1 :=
  let arg1 : BitVec 32 := BitVec.ofNat 32 (i 1).val
  let c1_i32_104 : BitVec 32 := 1#32
  let v203 : BitVec 32 := Scalar.addi arg1 c1_i32_104
  let c32_i32_105 : BitVec 32 := 32#32
  let v204 : BitVec 1 := Scalar.cmpi .slt v203 c32_i32_105
  let v205 : BitVec 32 := Scalar.extui v204
  let c0_i32_106 : BitVec 32 := 0#32
  let v206 : BitVec 1 := Scalar.cmpi .ne v205 c0_i32_106
  v206

@[reducible] def k0_t16_loop (i : grid0.Coords) : Scf.Loop 32 :=
  let c0_i32_341 : BitVec 32 := 0#32
  let arg1 : BitVec 32 := BitVec.ofNat 32 (i 1).val
  let c1_i32_107 : BitVec 32 := 1#32
  let v207 : BitVec 32 := Scalar.addi arg1 c1_i32_107
  let c128_i32_108 : BitVec 32 := 128#32
  let v208 : BitVec 32 := Scalar.muli v207 c128_i32_108
  let c128_i32_109 : BitVec 32 := 128#32
  let v209 : BitVec 32 := Scalar.addi v208 c128_i32_109
  let c256_i32_110 : BitVec 32 := 256#32
  let v210 : BitVec 32 := Scalar.addi v209 c256_i32_110
  let c1_i32_111 : BitVec 32 := 1#32
  let v211 : BitVec 32 := Scalar.subi v210 c1_i32_111
  let c0_i32_113 : BitVec 32 := 0#32
  let v213 : BitVec 1 := Scalar.cmpi .sgt v211 c0_i32_113
  let v214 : BitVec 32 := Scalar.extui v213
  let c0_i32_114 : BitVec 32 := 0#32
  let v215 : BitVec 1 := Scalar.cmpi .slt v211 c0_i32_114
  let v216 : BitVec 32 := Scalar.extui v215
  let v217 : BitVec 32 := Scalar.subi v214 v216
  let c256_i32_112 : BitVec 32 := 256#32
  let c0_i32_115 : BitVec 32 := 0#32
  let v218 : BitVec 1 := Scalar.cmpi .sgt c256_i32_112 c0_i32_115
  let v219 : BitVec 32 := Scalar.extui v218
  let c0_i32_116 : BitVec 32 := 0#32
  let v220 : BitVec 1 := Scalar.cmpi .slt c256_i32_112 c0_i32_116
  let v221 : BitVec 32 := Scalar.extui v220
  let v222 : BitVec 32 := Scalar.subi v219 v221
  let v223 : BitVec 1 := Scalar.cmpi .ne v217 v222
  let v224 : BitVec 32 := Scalar.remsi v211 c256_i32_112
  let c0_i32_117 : BitVec 32 := 0#32
  let v225 : BitVec 1 := Scalar.cmpi .ne v224 c0_i32_117
  let v226 : BitVec 1 := Scalar.andi v223 v225
  let v212 : BitVec 32 := Scalar.divsi v211 c256_i32_112
  let c1_i32_118 : BitVec 32 := 1#32
  let v227 : BitVec 32 := Scalar.subi v212 c1_i32_118
  let v228 : BitVec 32 := Scalar.select v226 v227 v212
  let v872 : BitVec 32 := Scalar.subi v228 c0_i32_341
  let c1_i32_342 : BitVec 32 := 1#32
  let v874 : BitVec 32 := Scalar.divsi v872 c1_i32_342
  let v875 : BitVec 32 := Scalar.muli v874 c1_i32_342
  let v876 : BitVec 32 := Scalar.addi c0_i32_341 v875
  let c1_i32_343 : BitVec 32 := 1#32
  ⟨c0_i32_341, v876, c1_i32_343⟩
def k0_mult243 (i : grid0.Coords) (k0_t16 : Fin (k0_t16_loop i).trips) : BitVec 32 :=
  let c0_i32_341 : BitVec 32 := 0#32
  let c1_i32_343 : BitVec 32 := 1#32
  let arg24 : BitVec 32 := Scf.iv c0_i32_341 c1_i32_343 k0_t16
  let c256_i32_356 : BitVec 32 := 256#32
  let v892 : BitVec 32 := Scalar.muli arg24 c256_i32_356
  v892
def k0_off1043 (i : grid0.Coords) (k0_t16 : Fin (k0_t16_loop i).trips) : Fin 2 → Nat :=
  let c0_i32_341 : BitVec 32 := 0#32
  let c1_i32_343 : BitVec 32 := 1#32
  let arg24 : BitVec 32 := Scf.iv c0_i32_341 c1_i32_343 k0_t16
  let c256_i32_356 : BitVec 32 := 256#32
  let v892 : BitVec 32 := Scalar.muli arg24 c256_i32_356
  let v893 : BitVec 32 := v892
  let v894 : Index := Scalar.indexCast v893
  let c0_357 : Index := 0#32
  ![v894.toNat, 0]
@[reducible] def k0_t17_loop (i : grid0.Coords) : Scf.Loop 32 :=
  let c0_i32_341 : BitVec 32 := 0#32
  let arg1 : BitVec 32 := BitVec.ofNat 32 (i 1).val
  let c1_i32_107 : BitVec 32 := 1#32
  let v207 : BitVec 32 := Scalar.addi arg1 c1_i32_107
  let c128_i32_108 : BitVec 32 := 128#32
  let v208 : BitVec 32 := Scalar.muli v207 c128_i32_108
  let c128_i32_109 : BitVec 32 := 128#32
  let v209 : BitVec 32 := Scalar.addi v208 c128_i32_109
  let c256_i32_110 : BitVec 32 := 256#32
  let v210 : BitVec 32 := Scalar.addi v209 c256_i32_110
  let c1_i32_111 : BitVec 32 := 1#32
  let v211 : BitVec 32 := Scalar.subi v210 c1_i32_111
  let c0_i32_113 : BitVec 32 := 0#32
  let v213 : BitVec 1 := Scalar.cmpi .sgt v211 c0_i32_113
  let v214 : BitVec 32 := Scalar.extui v213
  let c0_i32_114 : BitVec 32 := 0#32
  let v215 : BitVec 1 := Scalar.cmpi .slt v211 c0_i32_114
  let v216 : BitVec 32 := Scalar.extui v215
  let v217 : BitVec 32 := Scalar.subi v214 v216
  let c256_i32_112 : BitVec 32 := 256#32
  let c0_i32_115 : BitVec 32 := 0#32
  let v218 : BitVec 1 := Scalar.cmpi .sgt c256_i32_112 c0_i32_115
  let v219 : BitVec 32 := Scalar.extui v218
  let c0_i32_116 : BitVec 32 := 0#32
  let v220 : BitVec 1 := Scalar.cmpi .slt c256_i32_112 c0_i32_116
  let v221 : BitVec 32 := Scalar.extui v220
  let v222 : BitVec 32 := Scalar.subi v219 v221
  let v223 : BitVec 1 := Scalar.cmpi .ne v217 v222
  let v224 : BitVec 32 := Scalar.remsi v211 c256_i32_112
  let c0_i32_117 : BitVec 32 := 0#32
  let v225 : BitVec 1 := Scalar.cmpi .ne v224 c0_i32_117
  let v226 : BitVec 1 := Scalar.andi v223 v225
  let v212 : BitVec 32 := Scalar.divsi v211 c256_i32_112
  let c1_i32_118 : BitVec 32 := 1#32
  let v227 : BitVec 32 := Scalar.subi v212 c1_i32_118
  let v228 : BitVec 32 := Scalar.select v226 v227 v212
  let v872 : BitVec 32 := Scalar.subi v228 c0_i32_341
  let c1_i32_342 : BitVec 32 := 1#32
  let v874 : BitVec 32 := Scalar.divsi v872 c1_i32_342
  let v875 : BitVec 32 := Scalar.muli v874 c1_i32_342
  let v876 : BitVec 32 := Scalar.addi c0_i32_341 v875
  let v873 : BitVec 32 := Scalar.addi c0_i32_341 v872
  let c1_i32_344 : BitVec 32 := 1#32
  ⟨v876, v873, c1_i32_344⟩
def k0_mult244 (i : grid0.Coords) (k0_t17 : Fin (k0_t17_loop i).trips) : BitVec 32 :=
  let c0_i32_341 : BitVec 32 := 0#32
  let arg1 : BitVec 32 := BitVec.ofNat 32 (i 1).val
  let c1_i32_107 : BitVec 32 := 1#32
  let v207 : BitVec 32 := Scalar.addi arg1 c1_i32_107
  let c128_i32_108 : BitVec 32 := 128#32
  let v208 : BitVec 32 := Scalar.muli v207 c128_i32_108
  let c128_i32_109 : BitVec 32 := 128#32
  let v209 : BitVec 32 := Scalar.addi v208 c128_i32_109
  let c256_i32_110 : BitVec 32 := 256#32
  let v210 : BitVec 32 := Scalar.addi v209 c256_i32_110
  let c1_i32_111 : BitVec 32 := 1#32
  let v211 : BitVec 32 := Scalar.subi v210 c1_i32_111
  let c0_i32_113 : BitVec 32 := 0#32
  let v213 : BitVec 1 := Scalar.cmpi .sgt v211 c0_i32_113
  let v214 : BitVec 32 := Scalar.extui v213
  let c0_i32_114 : BitVec 32 := 0#32
  let v215 : BitVec 1 := Scalar.cmpi .slt v211 c0_i32_114
  let v216 : BitVec 32 := Scalar.extui v215
  let v217 : BitVec 32 := Scalar.subi v214 v216
  let c256_i32_112 : BitVec 32 := 256#32
  let c0_i32_115 : BitVec 32 := 0#32
  let v218 : BitVec 1 := Scalar.cmpi .sgt c256_i32_112 c0_i32_115
  let v219 : BitVec 32 := Scalar.extui v218
  let c0_i32_116 : BitVec 32 := 0#32
  let v220 : BitVec 1 := Scalar.cmpi .slt c256_i32_112 c0_i32_116
  let v221 : BitVec 32 := Scalar.extui v220
  let v222 : BitVec 32 := Scalar.subi v219 v221
  let v223 : BitVec 1 := Scalar.cmpi .ne v217 v222
  let v224 : BitVec 32 := Scalar.remsi v211 c256_i32_112
  let c0_i32_117 : BitVec 32 := 0#32
  let v225 : BitVec 1 := Scalar.cmpi .ne v224 c0_i32_117
  let v226 : BitVec 1 := Scalar.andi v223 v225
  let v212 : BitVec 32 := Scalar.divsi v211 c256_i32_112
  let c1_i32_118 : BitVec 32 := 1#32
  let v227 : BitVec 32 := Scalar.subi v212 c1_i32_118
  let v228 : BitVec 32 := Scalar.select v226 v227 v212
  let v872 : BitVec 32 := Scalar.subi v228 c0_i32_341
  let c1_i32_342 : BitVec 32 := 1#32
  let v874 : BitVec 32 := Scalar.divsi v872 c1_i32_342
  let v875 : BitVec 32 := Scalar.muli v874 c1_i32_342
  let v876 : BitVec 32 := Scalar.addi c0_i32_341 v875
  let c1_i32_344 : BitVec 32 := 1#32
  let arg24 : BitVec 32 := Scf.iv v876 c1_i32_344 k0_t17
  let c256_i32_356 : BitVec 32 := 256#32
  let v892 : BitVec 32 := Scalar.muli arg24 c256_i32_356
  v892
def k0_off1044 (i : grid0.Coords) (k0_t17 : Fin (k0_t17_loop i).trips) : Fin 2 → Nat :=
  let c0_i32_341 : BitVec 32 := 0#32
  let arg1 : BitVec 32 := BitVec.ofNat 32 (i 1).val
  let c1_i32_107 : BitVec 32 := 1#32
  let v207 : BitVec 32 := Scalar.addi arg1 c1_i32_107
  let c128_i32_108 : BitVec 32 := 128#32
  let v208 : BitVec 32 := Scalar.muli v207 c128_i32_108
  let c128_i32_109 : BitVec 32 := 128#32
  let v209 : BitVec 32 := Scalar.addi v208 c128_i32_109
  let c256_i32_110 : BitVec 32 := 256#32
  let v210 : BitVec 32 := Scalar.addi v209 c256_i32_110
  let c1_i32_111 : BitVec 32 := 1#32
  let v211 : BitVec 32 := Scalar.subi v210 c1_i32_111
  let c0_i32_113 : BitVec 32 := 0#32
  let v213 : BitVec 1 := Scalar.cmpi .sgt v211 c0_i32_113
  let v214 : BitVec 32 := Scalar.extui v213
  let c0_i32_114 : BitVec 32 := 0#32
  let v215 : BitVec 1 := Scalar.cmpi .slt v211 c0_i32_114
  let v216 : BitVec 32 := Scalar.extui v215
  let v217 : BitVec 32 := Scalar.subi v214 v216
  let c256_i32_112 : BitVec 32 := 256#32
  let c0_i32_115 : BitVec 32 := 0#32
  let v218 : BitVec 1 := Scalar.cmpi .sgt c256_i32_112 c0_i32_115
  let v219 : BitVec 32 := Scalar.extui v218
  let c0_i32_116 : BitVec 32 := 0#32
  let v220 : BitVec 1 := Scalar.cmpi .slt c256_i32_112 c0_i32_116
  let v221 : BitVec 32 := Scalar.extui v220
  let v222 : BitVec 32 := Scalar.subi v219 v221
  let v223 : BitVec 1 := Scalar.cmpi .ne v217 v222
  let v224 : BitVec 32 := Scalar.remsi v211 c256_i32_112
  let c0_i32_117 : BitVec 32 := 0#32
  let v225 : BitVec 1 := Scalar.cmpi .ne v224 c0_i32_117
  let v226 : BitVec 1 := Scalar.andi v223 v225
  let v212 : BitVec 32 := Scalar.divsi v211 c256_i32_112
  let c1_i32_118 : BitVec 32 := 1#32
  let v227 : BitVec 32 := Scalar.subi v212 c1_i32_118
  let v228 : BitVec 32 := Scalar.select v226 v227 v212
  let v872 : BitVec 32 := Scalar.subi v228 c0_i32_341
  let c1_i32_342 : BitVec 32 := 1#32
  let v874 : BitVec 32 := Scalar.divsi v872 c1_i32_342
  let v875 : BitVec 32 := Scalar.muli v874 c1_i32_342
  let v876 : BitVec 32 := Scalar.addi c0_i32_341 v875
  let c1_i32_344 : BitVec 32 := 1#32
  let arg24 : BitVec 32 := Scf.iv v876 c1_i32_344 k0_t17
  let c256_i32_356 : BitVec 32 := 256#32
  let v892 : BitVec 32 := Scalar.muli arg24 c256_i32_356
  let v893 : BitVec 32 := v892
  let v894 : Index := Scalar.indexCast v893
  let c0_357 : Index := 0#32
  ![v894.toNat, 0]
@[reducible] def k0_t18_loop : Scf.Loop 32 :=
  let c0_i32_348 : BitVec 32 := 0#32
  let c13_i32 : BitVec 32 := 13#32
  let v885 : BitVec 32 := Scalar.addi c0_i32_348 c13_i32
  let c1_i32_349 : BitVec 32 := 1#32
  ⟨c0_i32_348, v885, c1_i32_349⟩
@[reducible] def k0_t19_loop (i : grid0.Coords) : Scf.Loop 32 :=
  let c0_i32_358 : BitVec 32 := 0#32
  let arg1 : BitVec 32 := BitVec.ofNat 32 (i 1).val
  let c1_i32_107 : BitVec 32 := 1#32
  let v207 : BitVec 32 := Scalar.addi arg1 c1_i32_107
  let c128_i32_108 : BitVec 32 := 128#32
  let v208 : BitVec 32 := Scalar.muli v207 c128_i32_108
  let c128_i32_109 : BitVec 32 := 128#32
  let v209 : BitVec 32 := Scalar.addi v208 c128_i32_109
  let c256_i32_110 : BitVec 32 := 256#32
  let v210 : BitVec 32 := Scalar.addi v209 c256_i32_110
  let c1_i32_111 : BitVec 32 := 1#32
  let v211 : BitVec 32 := Scalar.subi v210 c1_i32_111
  let c0_i32_113 : BitVec 32 := 0#32
  let v213 : BitVec 1 := Scalar.cmpi .sgt v211 c0_i32_113
  let v214 : BitVec 32 := Scalar.extui v213
  let c0_i32_114 : BitVec 32 := 0#32
  let v215 : BitVec 1 := Scalar.cmpi .slt v211 c0_i32_114
  let v216 : BitVec 32 := Scalar.extui v215
  let v217 : BitVec 32 := Scalar.subi v214 v216
  let c256_i32_112 : BitVec 32 := 256#32
  let c0_i32_115 : BitVec 32 := 0#32
  let v218 : BitVec 1 := Scalar.cmpi .sgt c256_i32_112 c0_i32_115
  let v219 : BitVec 32 := Scalar.extui v218
  let c0_i32_116 : BitVec 32 := 0#32
  let v220 : BitVec 1 := Scalar.cmpi .slt c256_i32_112 c0_i32_116
  let v221 : BitVec 32 := Scalar.extui v220
  let v222 : BitVec 32 := Scalar.subi v219 v221
  let v223 : BitVec 1 := Scalar.cmpi .ne v217 v222
  let v224 : BitVec 32 := Scalar.remsi v211 c256_i32_112
  let c0_i32_117 : BitVec 32 := 0#32
  let v225 : BitVec 1 := Scalar.cmpi .ne v224 c0_i32_117
  let v226 : BitVec 1 := Scalar.andi v223 v225
  let v212 : BitVec 32 := Scalar.divsi v211 c256_i32_112
  let c1_i32_118 : BitVec 32 := 1#32
  let v227 : BitVec 32 := Scalar.subi v212 c1_i32_118
  let v228 : BitVec 32 := Scalar.select v226 v227 v212
  let v897 : BitVec 32 := Scalar.subi v228 c0_i32_358
  let c1_i32_359 : BitVec 32 := 1#32
  let v899 : BitVec 32 := Scalar.divsi v897 c1_i32_359
  let v900 : BitVec 32 := Scalar.muli v899 c1_i32_359
  let v901 : BitVec 32 := Scalar.addi c0_i32_358 v900
  let c1_i32_360 : BitVec 32 := 1#32
  ⟨c0_i32_358, v901, c1_i32_360⟩
def k0_mult245 (i : grid0.Coords) (k0_t19 : Fin (k0_t19_loop i).trips) : BitVec 32 :=
  let c0_i32_358 : BitVec 32 := 0#32
  let c1_i32_360 : BitVec 32 := 1#32
  let arg26 : BitVec 32 := Scf.iv c0_i32_358 c1_i32_360 k0_t19
  let c256_i32_363 : BitVec 32 := 256#32
  let v909 : BitVec 32 := Scalar.muli arg26 c256_i32_363
  v909
def k0_off1045 (i : grid0.Coords) (k0_t19 : Fin (k0_t19_loop i).trips) : Fin 2 → Nat :=
  let c0_i32_358 : BitVec 32 := 0#32
  let c1_i32_360 : BitVec 32 := 1#32
  let arg26 : BitVec 32 := Scf.iv c0_i32_358 c1_i32_360 k0_t19
  let c256_i32_363 : BitVec 32 := 256#32
  let v909 : BitVec 32 := Scalar.muli arg26 c256_i32_363
  let v910 : BitVec 32 := v909
  let v911 : Index := Scalar.indexCast v910
  let c0_364 : Index := 0#32
  ![v911.toNat, 0]
@[reducible] def k0_t20_loop (i : grid0.Coords) : Scf.Loop 32 :=
  let c0_i32_358 : BitVec 32 := 0#32
  let arg1 : BitVec 32 := BitVec.ofNat 32 (i 1).val
  let c1_i32_107 : BitVec 32 := 1#32
  let v207 : BitVec 32 := Scalar.addi arg1 c1_i32_107
  let c128_i32_108 : BitVec 32 := 128#32
  let v208 : BitVec 32 := Scalar.muli v207 c128_i32_108
  let c128_i32_109 : BitVec 32 := 128#32
  let v209 : BitVec 32 := Scalar.addi v208 c128_i32_109
  let c256_i32_110 : BitVec 32 := 256#32
  let v210 : BitVec 32 := Scalar.addi v209 c256_i32_110
  let c1_i32_111 : BitVec 32 := 1#32
  let v211 : BitVec 32 := Scalar.subi v210 c1_i32_111
  let c0_i32_113 : BitVec 32 := 0#32
  let v213 : BitVec 1 := Scalar.cmpi .sgt v211 c0_i32_113
  let v214 : BitVec 32 := Scalar.extui v213
  let c0_i32_114 : BitVec 32 := 0#32
  let v215 : BitVec 1 := Scalar.cmpi .slt v211 c0_i32_114
  let v216 : BitVec 32 := Scalar.extui v215
  let v217 : BitVec 32 := Scalar.subi v214 v216
  let c256_i32_112 : BitVec 32 := 256#32
  let c0_i32_115 : BitVec 32 := 0#32
  let v218 : BitVec 1 := Scalar.cmpi .sgt c256_i32_112 c0_i32_115
  let v219 : BitVec 32 := Scalar.extui v218
  let c0_i32_116 : BitVec 32 := 0#32
  let v220 : BitVec 1 := Scalar.cmpi .slt c256_i32_112 c0_i32_116
  let v221 : BitVec 32 := Scalar.extui v220
  let v222 : BitVec 32 := Scalar.subi v219 v221
  let v223 : BitVec 1 := Scalar.cmpi .ne v217 v222
  let v224 : BitVec 32 := Scalar.remsi v211 c256_i32_112
  let c0_i32_117 : BitVec 32 := 0#32
  let v225 : BitVec 1 := Scalar.cmpi .ne v224 c0_i32_117
  let v226 : BitVec 1 := Scalar.andi v223 v225
  let v212 : BitVec 32 := Scalar.divsi v211 c256_i32_112
  let c1_i32_118 : BitVec 32 := 1#32
  let v227 : BitVec 32 := Scalar.subi v212 c1_i32_118
  let v228 : BitVec 32 := Scalar.select v226 v227 v212
  let v897 : BitVec 32 := Scalar.subi v228 c0_i32_358
  let c1_i32_359 : BitVec 32 := 1#32
  let v899 : BitVec 32 := Scalar.divsi v897 c1_i32_359
  let v900 : BitVec 32 := Scalar.muli v899 c1_i32_359
  let v901 : BitVec 32 := Scalar.addi c0_i32_358 v900
  let v898 : BitVec 32 := Scalar.addi c0_i32_358 v897
  let c1_i32_361 : BitVec 32 := 1#32
  ⟨v901, v898, c1_i32_361⟩
def k0_mult246 (i : grid0.Coords) (k0_t20 : Fin (k0_t20_loop i).trips) : BitVec 32 :=
  let c0_i32_358 : BitVec 32 := 0#32
  let arg1 : BitVec 32 := BitVec.ofNat 32 (i 1).val
  let c1_i32_107 : BitVec 32 := 1#32
  let v207 : BitVec 32 := Scalar.addi arg1 c1_i32_107
  let c128_i32_108 : BitVec 32 := 128#32
  let v208 : BitVec 32 := Scalar.muli v207 c128_i32_108
  let c128_i32_109 : BitVec 32 := 128#32
  let v209 : BitVec 32 := Scalar.addi v208 c128_i32_109
  let c256_i32_110 : BitVec 32 := 256#32
  let v210 : BitVec 32 := Scalar.addi v209 c256_i32_110
  let c1_i32_111 : BitVec 32 := 1#32
  let v211 : BitVec 32 := Scalar.subi v210 c1_i32_111
  let c0_i32_113 : BitVec 32 := 0#32
  let v213 : BitVec 1 := Scalar.cmpi .sgt v211 c0_i32_113
  let v214 : BitVec 32 := Scalar.extui v213
  let c0_i32_114 : BitVec 32 := 0#32
  let v215 : BitVec 1 := Scalar.cmpi .slt v211 c0_i32_114
  let v216 : BitVec 32 := Scalar.extui v215
  let v217 : BitVec 32 := Scalar.subi v214 v216
  let c256_i32_112 : BitVec 32 := 256#32
  let c0_i32_115 : BitVec 32 := 0#32
  let v218 : BitVec 1 := Scalar.cmpi .sgt c256_i32_112 c0_i32_115
  let v219 : BitVec 32 := Scalar.extui v218
  let c0_i32_116 : BitVec 32 := 0#32
  let v220 : BitVec 1 := Scalar.cmpi .slt c256_i32_112 c0_i32_116
  let v221 : BitVec 32 := Scalar.extui v220
  let v222 : BitVec 32 := Scalar.subi v219 v221
  let v223 : BitVec 1 := Scalar.cmpi .ne v217 v222
  let v224 : BitVec 32 := Scalar.remsi v211 c256_i32_112
  let c0_i32_117 : BitVec 32 := 0#32
  let v225 : BitVec 1 := Scalar.cmpi .ne v224 c0_i32_117
  let v226 : BitVec 1 := Scalar.andi v223 v225
  let v212 : BitVec 32 := Scalar.divsi v211 c256_i32_112
  let c1_i32_118 : BitVec 32 := 1#32
  let v227 : BitVec 32 := Scalar.subi v212 c1_i32_118
  let v228 : BitVec 32 := Scalar.select v226 v227 v212
  let v897 : BitVec 32 := Scalar.subi v228 c0_i32_358
  let c1_i32_359 : BitVec 32 := 1#32
  let v899 : BitVec 32 := Scalar.divsi v897 c1_i32_359
  let v900 : BitVec 32 := Scalar.muli v899 c1_i32_359
  let v901 : BitVec 32 := Scalar.addi c0_i32_358 v900
  let c1_i32_361 : BitVec 32 := 1#32
  let arg26 : BitVec 32 := Scf.iv v901 c1_i32_361 k0_t20
  let c256_i32_363 : BitVec 32 := 256#32
  let v909 : BitVec 32 := Scalar.muli arg26 c256_i32_363
  v909
def k0_off1046 (i : grid0.Coords) (k0_t20 : Fin (k0_t20_loop i).trips) : Fin 2 → Nat :=
  let c0_i32_358 : BitVec 32 := 0#32
  let arg1 : BitVec 32 := BitVec.ofNat 32 (i 1).val
  let c1_i32_107 : BitVec 32 := 1#32
  let v207 : BitVec 32 := Scalar.addi arg1 c1_i32_107
  let c128_i32_108 : BitVec 32 := 128#32
  let v208 : BitVec 32 := Scalar.muli v207 c128_i32_108
  let c128_i32_109 : BitVec 32 := 128#32
  let v209 : BitVec 32 := Scalar.addi v208 c128_i32_109
  let c256_i32_110 : BitVec 32 := 256#32
  let v210 : BitVec 32 := Scalar.addi v209 c256_i32_110
  let c1_i32_111 : BitVec 32 := 1#32
  let v211 : BitVec 32 := Scalar.subi v210 c1_i32_111
  let c0_i32_113 : BitVec 32 := 0#32
  let v213 : BitVec 1 := Scalar.cmpi .sgt v211 c0_i32_113
  let v214 : BitVec 32 := Scalar.extui v213
  let c0_i32_114 : BitVec 32 := 0#32
  let v215 : BitVec 1 := Scalar.cmpi .slt v211 c0_i32_114
  let v216 : BitVec 32 := Scalar.extui v215
  let v217 : BitVec 32 := Scalar.subi v214 v216
  let c256_i32_112 : BitVec 32 := 256#32
  let c0_i32_115 : BitVec 32 := 0#32
  let v218 : BitVec 1 := Scalar.cmpi .sgt c256_i32_112 c0_i32_115
  let v219 : BitVec 32 := Scalar.extui v218
  let c0_i32_116 : BitVec 32 := 0#32
  let v220 : BitVec 1 := Scalar.cmpi .slt c256_i32_112 c0_i32_116
  let v221 : BitVec 32 := Scalar.extui v220
  let v222 : BitVec 32 := Scalar.subi v219 v221
  let v223 : BitVec 1 := Scalar.cmpi .ne v217 v222
  let v224 : BitVec 32 := Scalar.remsi v211 c256_i32_112
  let c0_i32_117 : BitVec 32 := 0#32
  let v225 : BitVec 1 := Scalar.cmpi .ne v224 c0_i32_117
  let v226 : BitVec 1 := Scalar.andi v223 v225
  let v212 : BitVec 32 := Scalar.divsi v211 c256_i32_112
  let c1_i32_118 : BitVec 32 := 1#32
  let v227 : BitVec 32 := Scalar.subi v212 c1_i32_118
  let v228 : BitVec 32 := Scalar.select v226 v227 v212
  let v897 : BitVec 32 := Scalar.subi v228 c0_i32_358
  let c1_i32_359 : BitVec 32 := 1#32
  let v899 : BitVec 32 := Scalar.divsi v897 c1_i32_359
  let v900 : BitVec 32 := Scalar.muli v899 c1_i32_359
  let v901 : BitVec 32 := Scalar.addi c0_i32_358 v900
  let c1_i32_361 : BitVec 32 := 1#32
  let arg26 : BitVec 32 := Scf.iv v901 c1_i32_361 k0_t20
  let c256_i32_363 : BitVec 32 := 256#32
  let v909 : BitVec 32 := Scalar.muli arg26 c256_i32_363
  let v910 : BitVec 32 := v909
  let v911 : Index := Scalar.indexCast v910
  let c0_364 : Index := 0#32
  ![v911.toNat, 0]
@[reducible] def k0_t21_loop (i : grid0.Coords) : Scf.Loop 32 :=
  let c0_i32_352 : BitVec 32 := 0#32
  let arg1 : BitVec 32 := BitVec.ofNat 32 (i 1).val
  let c1_i32_107 : BitVec 32 := 1#32
  let v207 : BitVec 32 := Scalar.addi arg1 c1_i32_107
  let c128_i32_108 : BitVec 32 := 128#32
  let v208 : BitVec 32 := Scalar.muli v207 c128_i32_108
  let c128_i32_109 : BitVec 32 := 128#32
  let v209 : BitVec 32 := Scalar.addi v208 c128_i32_109
  let c256_i32_110 : BitVec 32 := 256#32
  let v210 : BitVec 32 := Scalar.addi v209 c256_i32_110
  let c1_i32_111 : BitVec 32 := 1#32
  let v211 : BitVec 32 := Scalar.subi v210 c1_i32_111
  let c0_i32_113 : BitVec 32 := 0#32
  let v213 : BitVec 1 := Scalar.cmpi .sgt v211 c0_i32_113
  let v214 : BitVec 32 := Scalar.extui v213
  let c0_i32_114 : BitVec 32 := 0#32
  let v215 : BitVec 1 := Scalar.cmpi .slt v211 c0_i32_114
  let v216 : BitVec 32 := Scalar.extui v215
  let v217 : BitVec 32 := Scalar.subi v214 v216
  let c256_i32_112 : BitVec 32 := 256#32
  let c0_i32_115 : BitVec 32 := 0#32
  let v218 : BitVec 1 := Scalar.cmpi .sgt c256_i32_112 c0_i32_115
  let v219 : BitVec 32 := Scalar.extui v218
  let c0_i32_116 : BitVec 32 := 0#32
  let v220 : BitVec 1 := Scalar.cmpi .slt c256_i32_112 c0_i32_116
  let v221 : BitVec 32 := Scalar.extui v220
  let v222 : BitVec 32 := Scalar.subi v219 v221
  let v223 : BitVec 1 := Scalar.cmpi .ne v217 v222
  let v224 : BitVec 32 := Scalar.remsi v211 c256_i32_112
  let c0_i32_117 : BitVec 32 := 0#32
  let v225 : BitVec 1 := Scalar.cmpi .ne v224 c0_i32_117
  let v226 : BitVec 1 := Scalar.andi v223 v225
  let v212 : BitVec 32 := Scalar.divsi v211 c256_i32_112
  let c1_i32_118 : BitVec 32 := 1#32
  let v227 : BitVec 32 := Scalar.subi v212 c1_i32_118
  let v228 : BitVec 32 := Scalar.select v226 v227 v212
  let v887 : BitVec 32 := Scalar.subi v228 c0_i32_352
  let c1_i32_353 : BitVec 32 := 1#32
  let v889 : BitVec 32 := Scalar.divsi v887 c1_i32_353
  let v890 : BitVec 32 := Scalar.muli v889 c1_i32_353
  let v891 : BitVec 32 := Scalar.addi c0_i32_352 v890
  let c1_i32_354 : BitVec 32 := 1#32
  ⟨c0_i32_352, v891, c1_i32_354⟩
def k0_mult247 (i : grid0.Coords) (k0_t21 : Fin (k0_t21_loop i).trips) : BitVec 32 :=
  let c0_i32_352 : BitVec 32 := 0#32
  let c1_i32_354 : BitVec 32 := 1#32
  let arg24 : BitVec 32 := Scf.iv c0_i32_352 c1_i32_354 k0_t21
  let c256_i32_356 : BitVec 32 := 256#32
  let v892 : BitVec 32 := Scalar.muli arg24 c256_i32_356
  v892
def k0_off1047 (i : grid0.Coords) (k0_t21 : Fin (k0_t21_loop i).trips) : Fin 2 → Nat :=
  let c0_i32_352 : BitVec 32 := 0#32
  let c1_i32_354 : BitVec 32 := 1#32
  let arg24 : BitVec 32 := Scf.iv c0_i32_352 c1_i32_354 k0_t21
  let c256_i32_356 : BitVec 32 := 256#32
  let v892 : BitVec 32 := Scalar.muli arg24 c256_i32_356
  let v893 : BitVec 32 := v892
  let v894 : Index := Scalar.indexCast v893
  let c0_357 : Index := 0#32
  ![v894.toNat, 0]
@[reducible] def k0_t22_loop (i : grid0.Coords) : Scf.Loop 32 :=
  let c0_i32_352 : BitVec 32 := 0#32
  let arg1 : BitVec 32 := BitVec.ofNat 32 (i 1).val
  let c1_i32_107 : BitVec 32 := 1#32
  let v207 : BitVec 32 := Scalar.addi arg1 c1_i32_107
  let c128_i32_108 : BitVec 32 := 128#32
  let v208 : BitVec 32 := Scalar.muli v207 c128_i32_108
  let c128_i32_109 : BitVec 32 := 128#32
  let v209 : BitVec 32 := Scalar.addi v208 c128_i32_109
  let c256_i32_110 : BitVec 32 := 256#32
  let v210 : BitVec 32 := Scalar.addi v209 c256_i32_110
  let c1_i32_111 : BitVec 32 := 1#32
  let v211 : BitVec 32 := Scalar.subi v210 c1_i32_111
  let c0_i32_113 : BitVec 32 := 0#32
  let v213 : BitVec 1 := Scalar.cmpi .sgt v211 c0_i32_113
  let v214 : BitVec 32 := Scalar.extui v213
  let c0_i32_114 : BitVec 32 := 0#32
  let v215 : BitVec 1 := Scalar.cmpi .slt v211 c0_i32_114
  let v216 : BitVec 32 := Scalar.extui v215
  let v217 : BitVec 32 := Scalar.subi v214 v216
  let c256_i32_112 : BitVec 32 := 256#32
  let c0_i32_115 : BitVec 32 := 0#32
  let v218 : BitVec 1 := Scalar.cmpi .sgt c256_i32_112 c0_i32_115
  let v219 : BitVec 32 := Scalar.extui v218
  let c0_i32_116 : BitVec 32 := 0#32
  let v220 : BitVec 1 := Scalar.cmpi .slt c256_i32_112 c0_i32_116
  let v221 : BitVec 32 := Scalar.extui v220
  let v222 : BitVec 32 := Scalar.subi v219 v221
  let v223 : BitVec 1 := Scalar.cmpi .ne v217 v222
  let v224 : BitVec 32 := Scalar.remsi v211 c256_i32_112
  let c0_i32_117 : BitVec 32 := 0#32
  let v225 : BitVec 1 := Scalar.cmpi .ne v224 c0_i32_117
  let v226 : BitVec 1 := Scalar.andi v223 v225
  let v212 : BitVec 32 := Scalar.divsi v211 c256_i32_112
  let c1_i32_118 : BitVec 32 := 1#32
  let v227 : BitVec 32 := Scalar.subi v212 c1_i32_118
  let v228 : BitVec 32 := Scalar.select v226 v227 v212
  let v887 : BitVec 32 := Scalar.subi v228 c0_i32_352
  let c1_i32_353 : BitVec 32 := 1#32
  let v889 : BitVec 32 := Scalar.divsi v887 c1_i32_353
  let v890 : BitVec 32 := Scalar.muli v889 c1_i32_353
  let v891 : BitVec 32 := Scalar.addi c0_i32_352 v890
  let v888 : BitVec 32 := Scalar.addi c0_i32_352 v887
  let c1_i32_355 : BitVec 32 := 1#32
  ⟨v891, v888, c1_i32_355⟩
def k0_mult248 (i : grid0.Coords) (k0_t22 : Fin (k0_t22_loop i).trips) : BitVec 32 :=
  let c0_i32_352 : BitVec 32 := 0#32
  let arg1 : BitVec 32 := BitVec.ofNat 32 (i 1).val
  let c1_i32_107 : BitVec 32 := 1#32
  let v207 : BitVec 32 := Scalar.addi arg1 c1_i32_107
  let c128_i32_108 : BitVec 32 := 128#32
  let v208 : BitVec 32 := Scalar.muli v207 c128_i32_108
  let c128_i32_109 : BitVec 32 := 128#32
  let v209 : BitVec 32 := Scalar.addi v208 c128_i32_109
  let c256_i32_110 : BitVec 32 := 256#32
  let v210 : BitVec 32 := Scalar.addi v209 c256_i32_110
  let c1_i32_111 : BitVec 32 := 1#32
  let v211 : BitVec 32 := Scalar.subi v210 c1_i32_111
  let c0_i32_113 : BitVec 32 := 0#32
  let v213 : BitVec 1 := Scalar.cmpi .sgt v211 c0_i32_113
  let v214 : BitVec 32 := Scalar.extui v213
  let c0_i32_114 : BitVec 32 := 0#32
  let v215 : BitVec 1 := Scalar.cmpi .slt v211 c0_i32_114
  let v216 : BitVec 32 := Scalar.extui v215
  let v217 : BitVec 32 := Scalar.subi v214 v216
  let c256_i32_112 : BitVec 32 := 256#32
  let c0_i32_115 : BitVec 32 := 0#32
  let v218 : BitVec 1 := Scalar.cmpi .sgt c256_i32_112 c0_i32_115
  let v219 : BitVec 32 := Scalar.extui v218
  let c0_i32_116 : BitVec 32 := 0#32
  let v220 : BitVec 1 := Scalar.cmpi .slt c256_i32_112 c0_i32_116
  let v221 : BitVec 32 := Scalar.extui v220
  let v222 : BitVec 32 := Scalar.subi v219 v221
  let v223 : BitVec 1 := Scalar.cmpi .ne v217 v222
  let v224 : BitVec 32 := Scalar.remsi v211 c256_i32_112
  let c0_i32_117 : BitVec 32 := 0#32
  let v225 : BitVec 1 := Scalar.cmpi .ne v224 c0_i32_117
  let v226 : BitVec 1 := Scalar.andi v223 v225
  let v212 : BitVec 32 := Scalar.divsi v211 c256_i32_112
  let c1_i32_118 : BitVec 32 := 1#32
  let v227 : BitVec 32 := Scalar.subi v212 c1_i32_118
  let v228 : BitVec 32 := Scalar.select v226 v227 v212
  let v887 : BitVec 32 := Scalar.subi v228 c0_i32_352
  let c1_i32_353 : BitVec 32 := 1#32
  let v889 : BitVec 32 := Scalar.divsi v887 c1_i32_353
  let v890 : BitVec 32 := Scalar.muli v889 c1_i32_353
  let v891 : BitVec 32 := Scalar.addi c0_i32_352 v890
  let c1_i32_355 : BitVec 32 := 1#32
  let arg24 : BitVec 32 := Scf.iv v891 c1_i32_355 k0_t22
  let c256_i32_356 : BitVec 32 := 256#32
  let v892 : BitVec 32 := Scalar.muli arg24 c256_i32_356
  v892
def k0_off1048 (i : grid0.Coords) (k0_t22 : Fin (k0_t22_loop i).trips) : Fin 2 → Nat :=
  let c0_i32_352 : BitVec 32 := 0#32
  let arg1 : BitVec 32 := BitVec.ofNat 32 (i 1).val
  let c1_i32_107 : BitVec 32 := 1#32
  let v207 : BitVec 32 := Scalar.addi arg1 c1_i32_107
  let c128_i32_108 : BitVec 32 := 128#32
  let v208 : BitVec 32 := Scalar.muli v207 c128_i32_108
  let c128_i32_109 : BitVec 32 := 128#32
  let v209 : BitVec 32 := Scalar.addi v208 c128_i32_109
  let c256_i32_110 : BitVec 32 := 256#32
  let v210 : BitVec 32 := Scalar.addi v209 c256_i32_110
  let c1_i32_111 : BitVec 32 := 1#32
  let v211 : BitVec 32 := Scalar.subi v210 c1_i32_111
  let c0_i32_113 : BitVec 32 := 0#32
  let v213 : BitVec 1 := Scalar.cmpi .sgt v211 c0_i32_113
  let v214 : BitVec 32 := Scalar.extui v213
  let c0_i32_114 : BitVec 32 := 0#32
  let v215 : BitVec 1 := Scalar.cmpi .slt v211 c0_i32_114
  let v216 : BitVec 32 := Scalar.extui v215
  let v217 : BitVec 32 := Scalar.subi v214 v216
  let c256_i32_112 : BitVec 32 := 256#32
  let c0_i32_115 : BitVec 32 := 0#32
  let v218 : BitVec 1 := Scalar.cmpi .sgt c256_i32_112 c0_i32_115
  let v219 : BitVec 32 := Scalar.extui v218
  let c0_i32_116 : BitVec 32 := 0#32
  let v220 : BitVec 1 := Scalar.cmpi .slt c256_i32_112 c0_i32_116
  let v221 : BitVec 32 := Scalar.extui v220
  let v222 : BitVec 32 := Scalar.subi v219 v221
  let v223 : BitVec 1 := Scalar.cmpi .ne v217 v222
  let v224 : BitVec 32 := Scalar.remsi v211 c256_i32_112
  let c0_i32_117 : BitVec 32 := 0#32
  let v225 : BitVec 1 := Scalar.cmpi .ne v224 c0_i32_117
  let v226 : BitVec 1 := Scalar.andi v223 v225
  let v212 : BitVec 32 := Scalar.divsi v211 c256_i32_112
  let c1_i32_118 : BitVec 32 := 1#32
  let v227 : BitVec 32 := Scalar.subi v212 c1_i32_118
  let v228 : BitVec 32 := Scalar.select v226 v227 v212
  let v887 : BitVec 32 := Scalar.subi v228 c0_i32_352
  let c1_i32_353 : BitVec 32 := 1#32
  let v889 : BitVec 32 := Scalar.divsi v887 c1_i32_353
  let v890 : BitVec 32 := Scalar.muli v889 c1_i32_353
  let v891 : BitVec 32 := Scalar.addi c0_i32_352 v890
  let c1_i32_355 : BitVec 32 := 1#32
  let arg24 : BitVec 32 := Scf.iv v891 c1_i32_355 k0_t22
  let c256_i32_356 : BitVec 32 := 256#32
  let v892 : BitVec 32 := Scalar.muli arg24 c256_i32_356
  let v893 : BitVec 32 := v892
  let v894 : Index := Scalar.indexCast v893
  let c0_357 : Index := 0#32
  ![v894.toNat, 0]
def k0_cond9 (i : grid0.Coords) : BitVec 1 :=
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c3_i32 : BitVec 32 := 3#32
  let v200 : BitVec 1 := Scalar.cmpi .eq v9 c3_i32
  let v201 : BitVec 32 := Scalar.extui v200
  let c0_i32_103 : BitVec 32 := 0#32
  let v202 : BitVec 1 := Scalar.cmpi .ne v201 c0_i32_103
  v202

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let v2 : BitVec 1 := Scalar.cmpi .sgt arg1 c0_i32
  let c1_i32 : BitVec 32 := 1#32
  let c0_i32_0 : BitVec 32 := 0#32
  let v3 : BitVec 32 := Scalar.select v2 c1_i32 c0_i32_0
  let v4 : BitVec 32 := Scalar.addi v1 v3
  let c255_i32 : BitVec 32 := 255#32
  let v5 : BitVec 32 := Scalar.minsi v4 c255_i32
  let c4_i32 : BitVec 32 := 4#32
  let v6 : BitVec 32 := Scalar.divsi v5 c4_i32
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c0_i32_3 : BitVec 32 := 0#32
  let v12 : BitVec 1 := Scalar.cmpi .sgt c4_i32 c0_i32_3
  let v13 : BitVec 32 := Scalar.extui v12
  let c0_i32_4 : BitVec 32 := 0#32
  let v14 : BitVec 1 := Scalar.cmpi .slt c4_i32 c0_i32_4
  let v15 : BitVec 32 := Scalar.extui v14
  let v16 : BitVec 32 := Scalar.subi v13 v15
  let v17 : BitVec 1 := Scalar.cmpi .ne v11 v16
  let v18 : BitVec 32 := Scalar.remsi v5 c4_i32
  let c0_i32_5 : BitVec 32 := 0#32
  let v19 : BitVec 1 := Scalar.cmpi .ne v18 c0_i32_5
  let v20 : BitVec 1 := Scalar.andi v17 v19
  let c1_i32_6 : BitVec 32 := 1#32
  let v21 : BitVec 32 := Scalar.subi v6 c1_i32_6
  let v22 : BitVec 32 := Scalar.select v20 v21 v6
  let c0_i32_7 : BitVec 32 := 0#32
  let c0_i32_8 : BitVec 32 := 0#32
  ![v22.toNat, c0_i32_7.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let v2 : BitVec 32 := Scalar.addi v1 c1_i32
  let c255_i32 : BitVec 32 := 255#32
  let v3 : BitVec 32 := Scalar.minsi v2 c255_i32
  let c0_i32 : BitVec 32 := 0#32
  let c0_i32_0 : BitVec 32 := 0#32
  ![c0_i32.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S264x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x128x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

variable {F : FTy → Type} [BitOps F]
-- ==== Kernel2.lean ====
abbrev S8x4096x1024 : Shape := ⟨3, ![8, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 15
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S32768x1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S1x1024, .f32⟩
  | .hbm, ⟨11, _⟩ => ⟨S1024x2816, .bf16⟩
  | .hbm, ⟨12, _⟩ => ⟨S1024x2816, .bf16⟩
  | .hbm, ⟨13, _⟩ => ⟨S2816x1024, .bf16⟩
  | .hbm, ⟨14, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S8x4096x1024 : Shape := ⟨3, ![8, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x2816 : Shape := ⟨2, ![1024, 2816]⟩
abbrev S2816x1024 : Shape := ⟨2, ![2816, 1024]⟩
abbrev S32768x2816 : Shape := ⟨2, ![32768, 2816]⟩

abbrev nBuf : Space → Nat
  | .hbm => 43
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S32768x1024, .f32⟩
  | .hbm, ⟨6, _⟩ => ⟨S1024, .f32⟩
  | .hbm, ⟨7, _⟩ => ⟨S32768x1024, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x1024, .f32⟩
  | .hbm, ⟨19, _⟩ => ⟨S32768x1024, .f32⟩
  | .hbm, ⟨20, _⟩ => ⟨S1x1024, .f32⟩
  | .hbm, ⟨21, _⟩ => ⟨S32768x1024, .f32⟩
  | .hbm, ⟨22, _⟩ => ⟨S32768x1024, .f32⟩
  | .hbm, ⟨23, _⟩ => ⟨S1024x2816, .f32⟩
  | .hbm, ⟨24, _⟩ => ⟨S1024x2816, .f32⟩
  | .hbm, ⟨25, _⟩ => ⟨S2816x1024, .f32⟩
  | .hbm, ⟨26, _⟩ => ⟨S32768x2816, .f32⟩
  | .hbm, ⟨27, _⟩ => ⟨S32768x2816, .f32⟩
  | .hbm, ⟨28, _⟩ => ⟨S32768x2816, .f32⟩
  | .hbm, ⟨29, _⟩ => ⟨S_, .f32⟩
  | .hbm, ⟨30, _⟩ => ⟨S32768x2816, .f32⟩
  | .hbm, ⟨31, _⟩ => ⟨S32768x2816, .f32⟩
  | .hbm, ⟨32, _⟩ => ⟨S_, .f32⟩
  | .hbm, ⟨33, _⟩ => ⟨S32768x2816, .f32⟩
  | .hbm, ⟨34, _⟩ => ⟨S32768x2816, .f32⟩
  | .hbm, ⟨35, _⟩ => ⟨S32768x2816, .f32⟩
  | .hbm, ⟨36, _⟩ => ⟨S32768x2816, .f32⟩
  | .hbm, ⟨37, _⟩ => ⟨S32768x2816, .f32⟩
  | .hbm, ⟨38, _⟩ => ⟨S32768x1024, .f32⟩
  | .hbm, ⟨39, _⟩ => ⟨S_, .f32⟩
  | .hbm, ⟨40, _⟩ => ⟨S32768x1024, .f32⟩
  | .hbm, ⟨41, _⟩ => ⟨S32768x1024, .f32⟩
  | .hbm, ⟨42, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== Kernel3.lean ====
abbrev S32768x1024 : Shape := ⟨2, ![32768, 1024]⟩
abbrev S32768x2048 : Shape := ⟨2, ![32768, 2048]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 22
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S32768x2048, .bf16⟩
  | .hbm, ⟨2, _⟩ => ⟨S32768x1024, .bf16⟩
  | .hbm, ⟨3, _⟩ => ⟨S32768x1024, .bf16⟩
  | .hbm, ⟨4, _⟩ => ⟨S1x1024x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1024, .f32⟩
  | .hbm, ⟨10, _⟩ => ⟨S1024, .f32⟩
  | .hbm, ⟨11, _⟩ => ⟨S1024x2816, .f32⟩
  | .hbm, ⟨12, _⟩ => ⟨S1024x2816, .f32⟩
  | .hbm, ⟨13, _⟩ => ⟨S2816x1024, .f32⟩
  | .hbm, ⟨14, _⟩ => ⟨S1024x1024, .f32⟩
  | .hbm, ⟨15, _⟩ => ⟨S1024x1024, .bf16⟩
  | .hbm, ⟨16, _⟩ => ⟨S1x1024, .f32⟩
  | .hbm, ⟨17, _⟩ => ⟨S1024x2816, .bf16⟩
  | .hbm, ⟨18, _⟩ => ⟨S1024x2816, .bf16⟩
  | .hbm, ⟨19, _⟩ => ⟨S2816x1024, .bf16⟩
  | .hbm, ⟨20, _⟩ => ⟨S1x1024, .f32⟩
  | .hbm, ⟨21, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S32768x1024 : Shape := ⟨2, ![32768, 1024]⟩
abbrev S32768x2048 : Shape := ⟨2, ![32768, 2048]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S1024x1024 : Shape := ⟨2, ![1024, 1024]⟩
abbrev S32768 : Shape := ⟨1, ![32768]⟩
abbrev S32768x1 : Shape := ⟨2, ![32768, 1]⟩
abbrev S1024x2816 : Shape := ⟨2, ![1024, 2816]⟩
abbrev S2816x1024 : Shape := ⟨2, ![2816, 1024]⟩
abbrev S32768x2816 : Shape := ⟨2, ![32768, 2816]⟩

abbrev nBuf : Space → Nat
  | .hbm => 91
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x2048, .bf16⟩
  | .hbm, ⟨2, _⟩ => ⟨S32768x1024, .bf16⟩
  | .hbm, ⟨3, _⟩ => ⟨S32768x1024, .bf16⟩
  | .hbm, ⟨4, _⟩ => ⟨S1x1024x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1024, .f32⟩
  | .hbm, ⟨10, _⟩ => ⟨S32768x1024, .bf16⟩
  | .hbm, ⟨11, _⟩ => ⟨S32768x1024, .f32⟩
  | .hbm, ⟨12, _⟩ => ⟨S32768x1024, .bf16⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S_, .f32⟩
  | .hbm, ⟨17, _⟩ => ⟨S32768x1024, .f32⟩
  | .hbm, ⟨18, _⟩ => ⟨S32768x1024, .f32⟩
  | .hbm, ⟨19, _⟩ => ⟨S_, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768x1024, .f32⟩
  | .hbm, ⟨28, _⟩ => ⟨S32768x1024, .f32⟩
  | .hbm, ⟨29, _⟩ => ⟨S_, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S1024x1024, .f32⟩
  | .hbm, ⟨36, _⟩ => ⟨S32768x1024, .f32⟩
  | .hbm, ⟨37, _⟩ => ⟨S32768x1024, .f32⟩
  | .hbm, ⟨38, _⟩ => ⟨S1024, .f32⟩
  | .hbm, ⟨39, _⟩ => ⟨S32768x1024, .f32⟩
  | .hbm, ⟨40, _⟩ => ⟨S_, .f32⟩
  | .hbm, ⟨41, _⟩ => ⟨S32768, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S32768x1, .f32⟩
  | .hbm, ⟨50, _⟩ => ⟨S32768x1024, .f32⟩
  | .hbm, ⟨51, _⟩ => ⟨S32768x1024, .f32⟩
  | .hbm, ⟨52, _⟩ => ⟨S1x1024, .f32⟩
  | .hbm, ⟨53, _⟩ => ⟨S32768x1024, .f32⟩
  | .hbm, ⟨54, _⟩ => ⟨S32768x1024, .f32⟩
  | .hbm, ⟨55, _⟩ => ⟨S1024x2816, .f32⟩
  | .hbm, ⟨56, _⟩ => ⟨S1024x2816, .f32⟩
  | .hbm, ⟨57, _⟩ => ⟨S2816x1024, .f32⟩
  | .hbm, ⟨58, _⟩ => ⟨S32768x2816, .f32⟩
  | .hbm, ⟨59, _⟩ => ⟨S32768x2816, .f32⟩
  | .hbm, ⟨60, _⟩ => ⟨S32768x2816, .f32⟩
  | .hbm, ⟨61, _⟩ => ⟨S_, .f32⟩
  | .hbm, ⟨62, _⟩ => ⟨S32768x2816, .f32⟩
  | .hbm, ⟨63, _⟩ => ⟨S32768x2816, .f32⟩
  | .hbm, ⟨64, _⟩ => ⟨S_, .f32⟩
  | .hbm, ⟨65, _⟩ => ⟨S32768x2816, .f32⟩
  | .hbm, ⟨66, _⟩ => ⟨S32768x2816, .f32⟩
  | .hbm, ⟨67, _⟩ => ⟨S32768x2816, .f32⟩
  | .hbm, ⟨68, _⟩ => ⟨S32768x2816, .f32⟩
  | .hbm, ⟨69, _⟩ => ⟨S32768x2816, .f32⟩
  | .hbm, ⟨70, _⟩ => ⟨S32768x1024, .f32⟩
  | .hbm, ⟨71, _⟩ => ⟨S_, .f32⟩
  | .hbm, ⟨72, _⟩ => ⟨S32768x1024, .f32⟩
  | .hbm, ⟨73, _⟩ => ⟨S32768x1024, .f32⟩
  | .hbm, ⟨74, _⟩ => ⟨S32768x1024, .f32⟩
  | .hbm, ⟨75, _⟩ => ⟨S32768x1024, .f32⟩
  | .hbm, ⟨76, _⟩ => ⟨S_, .f32⟩
  | .hbm, ⟨77, _⟩ => ⟨S32768, .f32⟩
  | .hbm, ⟨78, _⟩ => ⟨S32768x1, .f32⟩
  | .hbm, ⟨79, _⟩ => ⟨S_, .f32⟩
  | .hbm, ⟨80, _⟩ => ⟨S32768x1, .f32⟩
  | .hbm, ⟨81, _⟩ => ⟨S32768x1, .f32⟩
  | .hbm, ⟨82, _⟩ => ⟨S_, .f32⟩
  | .hbm, ⟨83, _⟩ => ⟨S32768x1, .f32⟩
  | .hbm, ⟨84, _⟩ => ⟨S32768x1, .f32⟩
  | .hbm, ⟨85, _⟩ => ⟨S32768x1, .f32⟩
  | .hbm, ⟨86, _⟩ => ⟨S32768x1024, .f32⟩
  | .hbm, ⟨87, _⟩ => ⟨S32768x1024, .f32⟩
  | .hbm, ⟨88, _⟩ => ⟨S1x1024, .f32⟩
  | .hbm, ⟨89, _⟩ => ⟨S32768x1024, .f32⟩
  | .hbm, ⟨90, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_call0_v5 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_6 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_7 : Ref sig .tc := ⟨.hbm, 76, rfl⟩
abbrev main_v50 : Ref sig .tc := ⟨.hbm, 77, rfl⟩
abbrev main_v51 : Ref sig .tc := ⟨.hbm, 78, rfl⟩
abbrev main_cst_8 : Ref sig .tc := ⟨.hbm, 79, rfl⟩
abbrev main_v52 : Ref sig .tc := ⟨.hbm, 80, rfl⟩
abbrev main_v53 : Ref sig .tc := ⟨.hbm, 81, rfl⟩
abbrev main_cst_9 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩

abbrev nD : Nat := 1
abbrev τ : Topo := Topo.v7x

variable {F : FTy → Type} [FloatOps F]
-- ==== Kernel4.lean ====
abbrev S32768x1024 : Shape := ⟨2, ![32768, 1024]⟩
abbrev S1x1024 : Shape := ⟨2, ![1, 1024]⟩
abbrev S1x1024x6744 : Shape := ⟨3, ![1, 1024, 6744]⟩
abbrev S1x256 : Shape := ⟨2, ![1, 256]⟩
abbrev S1x64 : Shape := ⟨2, ![1, 64]⟩
abbrev S1x8 : Shape := ⟨2, ![1, 8]⟩
abbrev S1x4x3072 : Shape := ⟨3, ![1, 4, 3072]⟩
abbrev S1x128 : Shape := ⟨2, ![1, 128]⟩
abbrev S1024x6744 : Shape := ⟨2, ![1024, 6744]⟩
abbrev S1024x4096 : Shape := ⟨2, ![1024, 4096]⟩
abbrev S1024x2048 : Shape := ⟨2, ![1024, 2048]⟩
abbrev S1024x6144 : Shape := ⟨2, ![1024, 6144]⟩
abbrev S_ : Shape := ⟨0, ![]⟩
abbrev S1024x768 : Shape := ⟨2, ![1024, 768]⟩
abbrev S1024x256 : Shape := ⟨2, ![1024, 256]⟩
abbrev S1 : Shape := ⟨1, ![1]⟩
abbrev S1024x64 : Shape := ⟨2, ![1024, 64]⟩
abbrev S1024x8 : Shape := ⟨2, ![1024, 8]⟩
abbrev S8 : Shape := ⟨1, ![8]⟩
abbrev S2 : Shape := ⟨1, ![2]⟩
abbrev S1024 : Shape := ⟨1, ![1024]⟩
abbrev S256 : Shape := ⟨1, ![256]⟩
abbrev S64 : Shape := ⟨1, ![64]⟩
abbrev S4x3072 : Shape := ⟨2, ![4, 3072]⟩
abbrev S128 : Shape := ⟨1, ![128]⟩
abbrev S32768x2048 : Shape := ⟨2, ![32768, 2048]⟩
abbrev S32768x256 : Shape := ⟨2, ![32768, 256]⟩
abbrev S264x32768 : Shape := ⟨2, ![264, 32768]⟩
abbrev S32768x64 : Shape := ⟨2, ![32768, 64]⟩
abbrev S32x32768 : Shape := ⟨2, ![32, 32768]⟩
abbrev S512x1024 : Shape := ⟨2, ![512, 1024]⟩
abbrev S512x2048 : Shape := ⟨2, ![512, 2048]⟩
abbrev S512x256 : Shape := ⟨2, ![512, 256]⟩
abbrev S264x512 : Shape := ⟨2, ![264, 512]⟩
abbrev S512x64 : Shape := ⟨2, ![512, 64]⟩
abbrev S32x512 : Shape := ⟨2, ![32, 512]⟩
abbrev S512x4096 : Shape := ⟨2, ![512, 4096]⟩
abbrev S512x128 : Shape := ⟨2, ![512, 128]⟩
abbrev S264x3072 : Shape := ⟨2, ![264, 3072]⟩
abbrev S256x3072 : Shape := ⟨2, ![256, 3072]⟩
abbrev S8x128x128 : Shape := ⟨3, ![8, 128, 128]⟩
abbrev S8x3072 : Shape := ⟨2, ![8, 3072]⟩
abbrev S64x64 : Shape := ⟨2, ![64, 64]⟩
abbrev S512 : Shape := ⟨1, ![512]⟩
abbrev S512x1 : Shape := ⟨2, ![512, 1]⟩
abbrev S8x512 : Shape := ⟨2, ![8, 512]⟩
abbrev S256x512 : Shape := ⟨2, ![256, 512]⟩
abbrev S1x512 : Shape := ⟨2, ![1, 512]⟩
abbrev S1024x512 : Shape := ⟨2, ![1024, 512]⟩
abbrev S512x512 : Shape := ⟨2, ![512, 512]⟩
abbrev S64x128 : Shape := ⟨2, ![64, 128]⟩
abbrev S8x64 : Shape := ⟨2, ![8, 64]⟩
abbrev S64x1 : Shape := ⟨2, ![64, 1]⟩
abbrev S1x1 : Shape := ⟨2, ![1, 1]⟩
abbrev S1x64x128 : Shape := ⟨3, ![1, 64, 128]⟩
abbrev S32x64x128 : Shape := ⟨3, ![32, 64, 128]⟩
abbrev S1x64x1 : Shape := ⟨3, ![1, 64, 1]⟩
abbrev S32x64x1 : Shape := ⟨3, ![32, 64, 1]⟩
abbrev S1x1x64 : Shape := ⟨3, ![1, 1, 64]⟩
abbrev S32x1x64 : Shape := ⟨3, ![32, 1, 64]⟩
abbrev S1x1x1 : Shape := ⟨3, ![1, 1, 1]⟩
abbrev S32x1x1 : Shape := ⟨3, ![32, 1, 1]⟩
abbrev S32x64 : Shape := ⟨2, ![32, 64]⟩
abbrev S32x64x64 : Shape := ⟨3, ![32, 64, 64]⟩
abbrev S1x64x64 : Shape := ⟨3, ![1, 64, 64]⟩
abbrev S32x128x128 : Shape := ⟨3, ![32, 128, 128]⟩
abbrev S32x128x64 : Shape := ⟨3, ![32, 128, 64]⟩
abbrev S32x64x256 : Shape := ⟨3, ![32, 64, 256]⟩
abbrev S8x64x128 : Shape := ⟨3, ![8, 64, 128]⟩
abbrev S8x64x64 : Shape := ⟨3, ![8, 64, 64]⟩
abbrev S8x64x1 : Shape := ⟨3, ![8, 64, 1]⟩
abbrev S1x1x128 : Shape := ⟨3, ![1, 1, 128]⟩
abbrev S8x1x1 : Shape := ⟨3, ![8, 1, 1]⟩
abbrev S512x768 : Shape := ⟨2, ![512, 768]⟩
abbrev S128x512 : Shape := ⟨2, ![128, 512]⟩

abbrev nBuf : Space → Nat
  | .hbm => 83
  | .vmem => 36
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x6744, .f32⟩
  | .hbm, ⟨3, _⟩ => ⟨S1x256, .f32⟩
  | .hbm, ⟨4, _⟩ => ⟨S1x256, .f32⟩
  | .hbm, ⟨5, _⟩ => ⟨S1x64, .f32⟩
  | .hbm, ⟨6, _⟩ => ⟨S1x64, .f32⟩
  | .hbm, ⟨7, _⟩ => ⟨S1x8, .f32⟩
  | .hbm, ⟨8, _⟩ => ⟨S1x8, .f32⟩
  | .hbm, ⟨9, _⟩ => ⟨S1x4x3072, .f32⟩
  | .hbm, ⟨10, _⟩ => ⟨S1x128, .f32⟩
  | .hbm, ⟨11, _⟩ => ⟨S1024x6744, .f32⟩
  | .hbm, ⟨12, _⟩ => ⟨S1024x4096, .f32⟩
  | .hbm, ⟨13, _⟩ => ⟨S1024x2048, .f32⟩
  | .hbm, ⟨14, _⟩ => ⟨S1024x6144, .f32⟩
  | .hbm, ⟨15, _⟩ => ⟨S1024x6144, .bf16⟩
  | .hbm, ⟨16, _⟩ => ⟨S_, .f32⟩
  | .hbm, ⟨17, _⟩ => ⟨S1024x768, .f32⟩
  | .hbm, ⟨18, _⟩ => ⟨S1024x256, .f32⟩
  | .hbm, ⟨19, _⟩ => ⟨S_, .i32⟩
  | .hbm, ⟨20, _⟩ => ⟨S1, .i32⟩
  | .hbm, ⟨21, _⟩ => ⟨S1024x768, .f32⟩
  | .hbm, ⟨22, _⟩ => ⟨S1024x256, .f32⟩
  | .hbm, ⟨23, _⟩ => ⟨S_, .i32⟩
  | .hbm, ⟨24, _⟩ => ⟨S1, .i32⟩
  | .hbm, ⟨25, _⟩ => ⟨S1024x768, .f32⟩
  | .hbm, ⟨26, _⟩ => ⟨S1024x64, .f32⟩
  | .hbm, ⟨27, _⟩ => ⟨S_, .i32⟩
  | .hbm, ⟨28, _⟩ => ⟨S1, .i32⟩
  | .hbm, ⟨29, _⟩ => ⟨S1024x768, .f32⟩
  | .hbm, ⟨30, _⟩ => ⟨S1024x8, .f32⟩
  | .hbm, ⟨31, _⟩ => ⟨S_, .i32⟩
  | .hbm, ⟨32, _⟩ => ⟨S1, .i32⟩
  | .hbm, ⟨33, _⟩ => ⟨S1024x768, .f32⟩
  | .hbm, ⟨34, _⟩ => ⟨S1024x8, .f32⟩
  | .hbm, ⟨35, _⟩ => ⟨S_, .i32⟩
  | .hbm, ⟨36, _⟩ => ⟨S1, .i32⟩
  | .hbm, ⟨37, _⟩ => ⟨S1024x768, .f32⟩
  | .hbm, ⟨38, _⟩ => ⟨S1024x8, .f32⟩
  | .hbm, ⟨39, _⟩ => ⟨S_, .i32⟩
  | .hbm, ⟨40, _⟩ => ⟨S1, .i32⟩
  | .hbm, ⟨41, _⟩ => ⟨S1024x768, .f32⟩
  | .hbm, ⟨42, _⟩ => ⟨S_, .f32⟩
  | .hbm, ⟨43, _⟩ => ⟨S1x128, .f32⟩
  | .hbm, ⟨44, _⟩ => ⟨S8, .f32⟩
  | .hbm, ⟨45, _⟩ => ⟨S8, .f32⟩
  | .hbm, ⟨46, _⟩ => ⟨S8, .f32⟩
  | .hbm, ⟨47, _⟩ => ⟨S_, .i32⟩
  | .hbm, ⟨48, _⟩ => ⟨S1, .i32⟩
  | .hbm, ⟨49, _⟩ => ⟨S_, .i32⟩
  | .hbm, ⟨50, _⟩ => ⟨S1, .i32⟩
  | .hbm, ⟨51, _⟩ => ⟨S2, .i32⟩
  | .hbm, ⟨52, _⟩ => ⟨S1x128, .f32⟩
  | .hbm, ⟨53, _⟩ => ⟨S_, .f32⟩
  | .hbm, ⟨54, _⟩ => ⟨S1x128, .f32⟩
  | .hbm, ⟨55, _⟩ => ⟨S8, .f32⟩
  | .hbm, ⟨56, _⟩ => ⟨S_, .i32⟩
  | .hbm, ⟨57, _⟩ => ⟨S1, .i32⟩
  | .hbm, ⟨58, _⟩ => ⟨S_, .i32⟩
  | .hbm, ⟨59, _⟩ => ⟨S1, .i32⟩
  | .hbm, ⟨60, _⟩ => ⟨S2, .i32⟩
  | .hbm, ⟨61, _⟩ => ⟨S1x128, .f32⟩
  | .hbm, ⟨62, _⟩ => ⟨S1024, .f32⟩
  | .hbm, ⟨63, _⟩ => ⟨S1024x768, .bf16⟩
  | .hbm, ⟨64, _⟩ => ⟨S256, .f32⟩
  | .hbm, ⟨65, _⟩ => ⟨S256, .f32⟩
  | .hbm, ⟨66, _⟩ => ⟨S64, .f32⟩
  | .hbm, ⟨67, _⟩ => ⟨S64, .f32⟩
  | .hbm, ⟨68, _⟩ => ⟨S4x3072, .f32⟩
  | .hbm, ⟨69, _⟩ => ⟨S128, .f32⟩
  | .hbm, ⟨70, _⟩ => ⟨S1x1024, .f32⟩
  | .hbm, ⟨71, _⟩ => ⟨S1x256, .f32⟩
  | .hbm, ⟨72, _⟩ => ⟨S1x256, .f32⟩
  | .hbm, ⟨73, _⟩ => ⟨S1x64, .f32⟩
  | .hbm, ⟨74, _⟩ => ⟨S1x64, .f32⟩
  | .hbm, ⟨75, _⟩ => ⟨S1x128, .f32⟩
  | .hbm, ⟨76, _⟩ => ⟨S32768x2048, .bf16⟩
  | .hbm, ⟨77, _⟩ => ⟨S32768x256, .bf16⟩
  | .hbm, ⟨78, _⟩ => ⟨S32768x256, .bf16⟩
  | .hbm, ⟨79, _⟩ => ⟨S264x32768, .bf16⟩
  | .hbm, ⟨80, _⟩ => ⟨S32768x64, .bf16⟩
  | .hbm, ⟨81, _⟩ => ⟨S32x32768, .f32⟩
  | .hbm, ⟨82, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6144, .bf16⟩
  | .local _ .vmem, ⟨4, _⟩ => ⟨S1024x768, .bf16⟩
  | .local _ .vmem, ⟨5, _⟩ => ⟨S1x256, .f32⟩
  | .local _ .vmem, ⟨6, _⟩ => ⟨S1x256, .f32⟩
  | .local _ .vmem, ⟨7, _⟩ => ⟨S1x64, .f32⟩
  | .local _ .vmem, ⟨8, _⟩ => ⟨S1x64, .f32⟩
  | .local _ .vmem, ⟨9, _⟩ => ⟨S1x128, .f32⟩
  | .local _ .vmem, ⟨10, _⟩ => ⟨S1x128, .f32⟩
  | .local _ .vmem, ⟨11, _⟩ => ⟨S4x3072, .f32⟩
  | .local _ .vmem, ⟨12, _⟩ => ⟨S1x128, .f32⟩
  | .local _ .vmem, ⟨13, _⟩ => ⟨S512x2048, .bf16⟩
  | .local _ .vmem, ⟨14, _⟩ => ⟨S512x2048, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S264x512, .bf16⟩
  | .local _ .vmem, ⟨20, _⟩ => ⟨S264x512, .bf16⟩
  | .local _ .vmem, ⟨21, _⟩ => ⟨S512x64, .bf16⟩
  | .local _ .vmem, ⟨22, _⟩ => ⟨S512x64, .bf16⟩
  | .local _ .vmem, ⟨23, _⟩ => ⟨S32x512, .f32⟩
  | .local _ .vmem, ⟨24, _⟩ => ⟨S32x512, .f32⟩
  | .local _ .vmem, ⟨25, _⟩ => ⟨S512x1024, .bf16⟩
  | .local _ .vmem, ⟨26, _⟩ => ⟨S512x1024, .bf16⟩
  | .local _ .vmem, ⟨27, _⟩ => ⟨S512x4096, .bf16⟩
  | .local _ .vmem, ⟨28, _⟩ => ⟨S512x128, .f32⟩
  | .local _ .vmem, ⟨29, _⟩ => ⟨S32x512, .f32⟩
  | .local _ .vmem, ⟨30, _⟩ => ⟨S512x4096, .bf16⟩
  | .local _ .vmem, ⟨31, _⟩ => ⟨S512x128, .f32⟩
  | .local _ .vmem, ⟨32, _⟩ => ⟨S32x512, .f32⟩
  | .local _ .vmem, ⟨33, _⟩ => ⟨S264x3072, .f32⟩
  | .local _ .vmem, ⟨34, _⟩ => ⟨S256x3072, .f32⟩
  | .local _ .vmem, ⟨35, _⟩ => ⟨S8x128x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_c_9 : Ref sig .tc := ⟨.hbm, 56, rfl⟩
abbrev main_v34 : Ref sig .tc := ⟨.hbm, 57, rfl⟩
abbrev main_c_10 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52_0 : Ref sig .tc := ⟨.hbm, 76, rfl⟩
abbrev main_v52_1 : Ref sig .tc := ⟨.hbm, 77, rfl⟩
abbrev main_v52_2 : Ref sig .tc := ⟨.hbm, 78, rfl⟩
abbrev main_v52_3 : Ref sig .tc := ⟨.hbm, 79, rfl⟩
abbrev main_v52_4 : Ref sig .tc := ⟨.hbm, 80, rfl⟩
abbrev main_v52_5 : Ref sig .tc := ⟨.hbm, 81, rfl⟩
abbrev main_v52_6 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_scratch6 : Ref sig .tc := ⟨.vmem, 33, rfl⟩
abbrev cc0_scratch7 : Ref sig .tc := ⟨.vmem, 34, rfl⟩
abbrev cc0_scratch8 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![c0_i32.toNat, v0.toNat]

def cc0_transform_16 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![c0_i32.toNat, v0.toNat]

def cc0_transform_18 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S264x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x64 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S32x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference4Ideal.lean ====
abbrev S32768x1024 : Shape := ⟨2, ![32768, 1024]⟩
abbrev S1x1024 : Shape := ⟨2, ![1, 1024]⟩
abbrev S1x1024x6744 : Shape := ⟨3, ![1, 1024, 6744]⟩
abbrev S1x256 : Shape := ⟨2, ![1, 256]⟩
abbrev S1x64 : Shape := ⟨2, ![1, 64]⟩
abbrev S1x8 : Shape := ⟨2, ![1, 8]⟩
abbrev S1x4x3072 : Shape := ⟨3, ![1, 4, 3072]⟩
abbrev S1x128 : Shape := ⟨2, ![1, 128]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x6744 : Shape := ⟨2, ![1024, 6744]⟩
abbrev S32768x6744 : Shape := ⟨2, ![32768, 6744]⟩
abbrev S32768x8 : Shape := ⟨2, ![32768, 8]⟩
abbrev S32768x256 : Shape := ⟨2, ![32768, 256]⟩
abbrev S32768x64 : Shape := ⟨2, ![32768, 64]⟩
abbrev S32768x2048 : Shape := ⟨2, ![32768, 2048]⟩
abbrev S8 : Shape := ⟨1, ![8]⟩
abbrev S32768x32 : Shape := ⟨2, ![32768, 32]⟩
abbrev S256 : Shape := ⟨1, ![256]⟩
abbrev S256x32768 : Shape := ⟨2, ![256, 32768]⟩
abbrev S8x32768 : Shape := ⟨2, ![8, 32768]⟩
abbrev S264x32768 : Shape := ⟨2, ![264, 32768]⟩
abbrev S64 : Shape := ⟨1, ![64]⟩
abbrev S32x32768 : Shape := ⟨2, ![32, 32768]⟩

abbrev nBuf : Space → Nat
  | .hbm => 150
  | .vmem => 0
  | .smem => 0
  | _ => 0

abbrev hbmTy0_0 (i : Nat) : BufTy := match i % 128 with
  | 0 => ⟨S32768x1024, .f32⟩
  | 1 => ⟨S1x1024, .f32⟩
  | 2 => ⟨S1x1024x6744, .f32⟩
  | 3 => ⟨S1x256, .f32⟩
  | 4 => ⟨S1x256, .f32⟩
  | 5 => ⟨S1x64, .f32⟩
  | 6 => ⟨S1x64, .f32⟩
  | 7 => ⟨S1x8, .f32⟩
  | 8 => ⟨S1x8, .f32⟩
  | 9 => ⟨S1x4x3072, .f32⟩
  | 10 => ⟨S1x128, .f32⟩
  | 11 => ⟨S1024, .f32⟩
  | 12 => ⟨S32768x1024, .f32⟩
  | 13 => ⟨S_, .f32⟩
  | 14 => ⟨S32768, .f32⟩
  | 15 => ⟨S32768x1, .f32⟩
  | 16 => ⟨S_, .f32⟩
  | 17 => ⟨S32768x1, .f32⟩
  | 18 => ⟨S32768x1, .f32⟩
  | 19 => ⟨S_, .f32⟩
  | 20 => ⟨S32768x1, .f32⟩
  | 21 => ⟨S32768x1, .f32⟩
  | 22 => ⟨S32768x1, .f32⟩
  | 23 => ⟨S32768x1024, .f32⟩
  | 24 => ⟨S32768x1024, .f32⟩
  | 25 => ⟨S1x1024, .f32⟩
  | 26 => ⟨S32768x1024, .f32⟩
  | 27 => ⟨S32768x1024, .f32⟩
  | 28 => ⟨S1024x6744, .f32⟩
  | 29 => ⟨S32768x6744, .f32⟩
  | 30 => ⟨S32768x8, .f32⟩
  | 31 => ⟨S32768x8, .f32⟩
  | 32 => ⟨S32768x256, .f32⟩
  | 33 => ⟨S32768x256, .f32⟩
  | 34 => ⟨S32768x64, .f32⟩
  | 35 => ⟨S32768x8, .f32⟩
  | 36 => ⟨S32768x2048, .f32⟩
  | 37 => ⟨S32768x8, .f32⟩
  | 38 => ⟨S32768x8, .f32⟩
  | 39 => ⟨S_, .f32⟩
  | 40 => ⟨S32768x8, .f32⟩
  | 41 => ⟨S32768x8, .f32⟩
  | 42 => ⟨S_, .f32⟩
  | 43 => ⟨S32768x8, .f32⟩
  | 44 => ⟨S32768x8, .f32⟩
  | 45 => ⟨S8, .f32⟩
  | 46 => ⟨S8, .f32⟩
  | 47 => ⟨S8, .f32⟩
  | 48 => ⟨S8, .f32⟩
  | 49 => ⟨S1x8, .f32⟩
  | 50 => ⟨S32768x8, .f32⟩
  | 51 => ⟨S32768x8, .f32⟩
  | 52 => ⟨S_, .f32⟩
  | 53 => ⟨S32768x8, .f32⟩
  | 54 => ⟨S32768x8, .f32⟩
  | 55 => ⟨S32768x8, .f32⟩
  | 56 => ⟨S32768x8, .f32⟩
  | 57 => ⟨S32768x8, .i1⟩
  | 58 => ⟨S32768x8, .f32⟩
  | 59 => ⟨S32768x8, .f32⟩
  | 60 => ⟨S32768x8, .f32⟩
  | 61 => ⟨S32768x8, .f32⟩
  | 62 => ⟨S32768x8, .f32⟩
  | 63 => ⟨S32768x8, .f32⟩
  | 64 => ⟨S32768x8, .f32⟩
  | 65 => ⟨S32768x8, .f32⟩
  | 66 => ⟨S1x8, .f32⟩
  | 67 => ⟨S32768x8, .f32⟩
  | 68 => ⟨S32768x8, .f32⟩
  | 69 => ⟨S_, .f32⟩
  | 70 => ⟨S32768x8, .f32⟩
  | 71 => ⟨S32768x8, .f32⟩
  | 72 => ⟨S_, .f32⟩
  | 73 => ⟨S32768x8, .f32⟩
  | 74 => ⟨S32768x32, .f32⟩
  | 75 => ⟨S256, .f32⟩
  | 76 => ⟨S32768x256, .f32⟩
  | 77 => ⟨S_, .f32⟩
  | 78 => ⟨S32768, .f32⟩
  | 79 => ⟨S32768x1, .f32⟩
  | 80 => ⟨S_, .f32⟩
  | 81 => ⟨S32768x1, .f32⟩
  | 82 => ⟨S32768x1, .f32⟩
  | 83 => ⟨S_, .f32⟩
  | 84 => ⟨S32768x1, .f32⟩
  | 85 => ⟨S32768x1, .f32⟩
  | 86 => ⟨S32768x1, .f32⟩
  | 87 => ⟨S32768x256, .f32⟩
  | 88 => ⟨S32768x256, .f32⟩
  | 89 => ⟨S1x256, .f32⟩
  | 90 => ⟨S32768x256, .f32⟩
  | 91 => ⟨S32768x256, .f32⟩
  | 92 => ⟨S256x32768, .f32⟩
  | 93 => ⟨S_, .f32⟩
  | 94 => ⟨S8x32768, .f32⟩
  | 95 => ⟨S264x32768, .f32⟩
  | 96 => ⟨S32768x2048, .bf16⟩
  | 97 => ⟨S256, .f32⟩
  | 98 => ⟨S32768x256, .f32⟩
  | 99 => ⟨S_, .f32⟩
  | 100 => ⟨S32768, .f32⟩
  | 101 => ⟨S32768x1, .f32⟩
  | 102 => ⟨S_, .f32⟩
  | 103 => ⟨S32768x1, .f32⟩
  | 104 => ⟨S32768x1, .f32⟩
  | 105 => ⟨S_, .f32⟩
  | 106 => ⟨S32768x1, .f32⟩
  | 107 => ⟨S32768x1, .f32⟩
  | 108 => ⟨S32768x1, .f32⟩
  | 109 => ⟨S32768x256, .f32⟩
  | 110 => ⟨S32768x256, .f32⟩
  | 111 => ⟨S1x256, .f32⟩
  | 112 => ⟨S32768x256, .f32⟩
  | 113 => ⟨S32768x256, .f32⟩
  | 114 => ⟨S32768x256, .bf16⟩
  | 115 => ⟨S32768x256, .bf16⟩
  | 116 => ⟨S264x32768, .bf16⟩
  | 117 => ⟨S64, .f32⟩
  | 118 => ⟨S64, .f32⟩
  | 119 => ⟨S_, .f32⟩
  | 120 => ⟨S32768, .f32⟩
  | 121 => ⟨S32768x1, .f32⟩
  | 122 => ⟨S_, .f32⟩
  | 123 => ⟨S32768x1, .f32⟩
  | 124 => ⟨S32768x1, .f32⟩
  | 125 => ⟨S32768x64, .f32⟩
  | 126 => ⟨S32768x64, .f32⟩
  | 127 => ⟨S32768x64, .f32⟩
  | _ => ⟨S32768x1024, .f32⟩

abbrev hbmTy0_1 (i : Nat) : BufTy := match i % 128 with
  | 0 => ⟨S_, .f32⟩
  | 1 => ⟨S32768, .f32⟩
  | 2 => ⟨S32768x1, .f32⟩
  | 3 => ⟨S_, .f32⟩
  | 4 => ⟨S32768x1, .f32⟩
  | 5 => ⟨S32768x1, .f32⟩
  | 6 => ⟨S32768x64, .f32⟩
  | 7 => ⟨S32768x64, .f32⟩
  | 8 => ⟨S_, .f32⟩
  | 9 => ⟨S32768x1, .f32⟩
  | 10 => ⟨S32768x1, .f32⟩
  | 11 => ⟨S32768x1, .f32⟩
  | 12 => ⟨S32768x64, .f32⟩
  | 13 => ⟨S32768x64, .f32⟩
  | 14 => ⟨S1x64, .f32⟩
  | 15 => ⟨S32768x64, .f32⟩
  | 16 => ⟨S32768x64, .f32⟩
  | 17 => ⟨S1x64, .f32⟩
  | 18 => ⟨S32768x64, .f32⟩
  | 19 => ⟨S32768x64, .f32⟩
  | 20 => ⟨S32768x64, .bf16⟩
  | 21 => ⟨S32x32768, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call0_cst : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_v8 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_4 : Ref sig .tc := ⟨.hbm, 69, rfl⟩
abbrev main_v40 : Ref sig .tc := ⟨.hbm, 70, rfl⟩
abbrev main_v41 : Ref sig .tc := ⟨.hbm, 71, rfl⟩
abbrev main_cst_5 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_6 : Ref sig .tc := ⟨.hbm, 77, rfl⟩
abbrev main_v46 : Ref sig .tc := ⟨.hbm, 78, rfl⟩
abbrev main_v47 : Ref sig .tc := ⟨.hbm, 79, rfl⟩
abbrev main_cst_7 : Ref sig .tc := ⟨.hbm, 80, rfl⟩
abbrev main_v48 : Ref sig .tc := ⟨.hbm, 81, rfl⟩
abbrev main_v49 : Ref sig .tc := ⟨.hbm, 82, rfl⟩
abbrev main_cst_8 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_9 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_10 : Ref sig .tc := ⟨.hbm, 99, rfl⟩
abbrev main_v64 : Ref sig .tc := ⟨.hbm, 100, rfl⟩
abbrev main_v65 : Ref sig .tc := ⟨.hbm, 101, rfl⟩
abbrev main_cst_11 : Ref sig .tc := ⟨.hbm, 102, rfl⟩
abbrev main_v66 : Ref sig .tc := ⟨.hbm, 103, rfl⟩
abbrev main_v67 : Ref sig .tc := ⟨.hbm, 104, rfl⟩
abbrev main_cst_12 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_13 : Ref sig .tc := ⟨.hbm, 119, rfl⟩
abbrev main_v81 : Ref sig .tc := ⟨.hbm, 120, rfl⟩
abbrev main_v82 : Ref sig .tc := ⟨.hbm, 121, rfl⟩
abbrev main_cst_14 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_15 : Ref sig .tc := ⟨.hbm, 128, rfl⟩
abbrev main_v88 : Ref sig .tc := ⟨.hbm, 129, rfl⟩
abbrev main_v89 : Ref sig .tc := ⟨.hbm, 130, rfl⟩
abbrev main_cst_16 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_17 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩

abbrev nD : Nat := 1
abbrev τ : Topo := Topo.v7x

variable {F : FTy → Type} [FloatOps F]
-- ==== Proof.FfnSpec.lean ====
/- The feed-forward block of the layer over the extended reals: what one row of activations becomes. Both feed-forward calls and both
   references are compared with these functions of a row. -/
module

public import Idealize.ShloMosaic.PureOps.Ideal

@[expose] public section

noncomputable section

namespace Cert.Ffn

open Idealize.ShloMosaic

/-- One entry of a row divided by the row's root mean square, times its gain. -/
def rms (x g : Fin 1024 → EReal) (k : Fin 1024) : EReal :=
  x k * Ideal.rsqrt (Ideal.div (∑ l, x l * x l) (Ideal.ofBits .f32 0x44800000#32) + Ideal.ofBits .f32 0x358637BD#32) * g k

/-- The gate: the first number times its sigmoid, times the second. -/
def gate (a u : EReal) : EReal := a * Ideal.logistic a * u

/-- One hidden unit of a normalised row. -/
def unit (h : Fin 1024 → EReal) (wg wu : Fin 1024 → EReal) : EReal := gate (∑ k, h k * wg k) (∑ k, h k * wu k)

/-- The row plus half of the gated feed-forward network of its normalised form. -/
def ffn (x g : Fin 1024 → EReal) (wg wu : Fin 1024 → Fin 2816 → EReal) (wd : Fin 2816 → Fin 1024 → EReal) (c : Fin 1024) : EReal :=
  x c + Ideal.ofBits .f32 0x3F000000#32 * ∑ f, unit (rms x g) (fun k => wg k f) (fun k => wu k f) * wd f c

/-- The two mixers' outputs, gated by sigmoids and projected, added to the row. -/
def merge (x ga gb oa ob : Fin 1024 → EReal) (wo : Fin 1024 → Fin 1024 → EReal) (k : Fin 1024) : EReal :=
  x k + ∑ l, (Ideal.logistic (ga l) * oa l + Ideal.logistic (gb l) * ob l) * wo l k

end Cert.Ffn

end
-- ==== Proof.Ffn2.lean ====
module

public import proofs.«01_k».proof.Proof.FfnSpec
public import proofs.«01_k».proof.Defs
public import proofs.«01_k».proof.Proof.Gen.Kernel2Ideal.Value
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel2Ideal.Hand

open Cert.Kernel2Ideal Cert.Kernel2Ideal.Gen Idealize.ShloMosaic Idealize.ShloMosaic.TcCoe Idealize.SL.Sem

/-- The hidden units of a block of 512 normalised rows, all 2816 of them. -/
def units (h : FVec Ideal S512x1024 .bf16) (wg wu : FVec Ideal S1024x2816 .bf16) : FVec Ideal S512x2816 .bf16 :=
  fun y => Ffn.unit (fun k => h (ix2 (y 0) k)) (fun k => wg (ix2 k (y 1))) (fun k => wu (ix2 k (y 1)))

/-- 256 of the hidden units, from the weights of these alone. -/
def part (h : FVec Ideal S512x1024 .bf16) (wg wu : FVec Ideal S1024x256 .bf16) : FVec Ideal S512x256 .bf16 :=
  fun y => Ffn.unit (fun k => h (ix2 (y 0) k)) (fun k => wg (ix2 k (y 1))) (fun k => wu (ix2 k (y 1)))

/-- A chunk's units are the block's units at the chunk's columns. -/
theorem part_eq (h : FVec Ideal S512x1024 .bf16) (wg wu : FVec Ideal S1024x2816 .bf16) (o : ℕ)
    (hb : ∀ d, ![0, o] d + ![1024, 256] d ≤ S1024x2816.size d) (hb' : ∀ d, ![0, o] d + ![512, 256] d ≤ S512x2816.size d)
    (x : (Rect.unit (s := S512x2816) ![0, o] ![512, 256] hb').shape.Idx) :
    part h (View.ld (Val := Elt Ideal) (e' := .bf16) wg (Rect.unit (s := S1024x2816) ![0, o] ![1024, 256] hb)) (View.ld (Val := Elt Ideal) (e' := .bf16) wu (Rect.unit (s := S1024x2816) ![0, o] ![1024, 256] hb)) x
      = units h wg wu ((Rect.unit (s := S512x2816) ![0, o] ![512, 256] hb').emb x) := by
  pointwise [part, units, Ffn.unit]
  blk_point []

theorem pay11_eq (h : FVec Ideal S512x1024 .bf16) (wg wu : FVec Ideal S1024x256 .bf16) : k0_pay11 h wg wu = part h wg wu := by
  funext j
  idx_vars j
  pointwise [k0_pay11, part, Ffn.unit, Ffn.gate]

/-- The other chunks' stores, split over the body's parts in other places, store the same value. -/
theorem same (x : FVec Ideal S512x1024 .f32) (g : FVec Ideal S1x1024 .f32) (h : FVec Ideal S512x1024 .bf16) (wg wu : FVec Ideal S1024x256 .bf16) :
    k0_pay12 (F := Ideal) h wg wu = k0_pay11 (F := Ideal) h wg wu ∧ k0_pay15 (F := Ideal) h wg wu = k0_pay11 (F := Ideal) h wg wu ∧ k0_pay16 (F := Ideal) h wg wu = k0_pay11 (F := Ideal) h wg wu
      ∧ k0_pay17 (F := Ideal) h wg wu = k0_pay11 (F := Ideal) h wg wu ∧ k0_pay18 (F := Ideal) h wg wu = k0_pay11 (F := Ideal) h wg wu ∧ k0_pay2 (F := Ideal) h wg wu = k0_pay11 (F := Ideal) h wg wu
      ∧ k0_pay1 (k0_pay19 (F := Ideal) h wg wu) = k0_pay11 (F := Ideal) h wg wu ∧ k0_pay14 h (k0_pay13 (F := Ideal) h wg) wu = k0_pay11 (F := Ideal) h wg wu
      ∧ k0_pay6 (F := Ideal) x g wg wu = k0_pay11 (k0_pay5 (F := Ideal) x g) wg wu
      ∧ k0_pay10 (k0_pay7 (F := Ideal) x g wg) (k0_pay8 (F := Ideal) x g wu) (k0_pay9 (F := Ideal) x g wg) = k0_pay11 (k0_pay5 (F := Ideal) x g) wg wu :=
  ⟨rfl, rfl, rfl, rfl, rfl, rfl, rfl, rfl, rfl, rfl⟩

theorem pay5_eq (x : FVec Ideal S512x1024 .f32) (g : FVec Ideal S1x1024 .f32) (r : Fin 512) (k : Fin 1024) :
    k0_pay5 (F := Ideal) x g (ix2 r k) = Ffn.rms (fun l => x (ix2 r l)) (fun l => g (ix2 0 l)) k := by
  pointwise [k0_pay5, k0_pay4, Ffn.rms]

/-- So a store of a chunk's units is a block of the units. -/
theorem piece (h : FVec Ideal S512x1024 .bf16) (wg wu : FVec Ideal S1024x2816 .bf16) (o : ℕ)
    (hb : ∀ d, ![0, o] d + ![1024, 256] d ≤ S1024x2816.size d) (hb' : ∀ d, ![0, o] d + ![512, 256] d ≤ S512x2816.size d)
    (w : FVec Ideal S512x256 .bf16)
    (hw : w = part h (View.ld (Val := Elt Ideal) (e' := .bf16) wg (Rect.unit (s := S1024x2816) ![0, o] ![1024, 256] hb))
      (View.ld (Val := Elt Ideal) (e' := .bf16) wu (Rect.unit (s := S1024x2816) ![0, o] ![1024, 256] hb)))
    (x : (Rect.unit (s := S512x2816) ![0, o] ![512, 256] hb').shape.Idx) :
    w x = units h wg wu ((Rect.unit (s := S512x2816) ![0, o] ![512, 256] hb').emb x) := by
  rw [hw, part_eq h wg wu o hb hb' x]

/-- Stores of chunks of the units into the scratch, when they cover it, leave the units there. -/
theorem read_units {sg : RefSig} {κ : Kind} {sp : Space} (v : View sg κ sp S512x2816 .bf16) (h : FVec Ideal S512x1024 .bf16) (wg wu : FVec Ideal S1024x2816 .bf16) (L : List (View.Piece (Elt Ideal) S512x2816 .bf16))
    (hL : View.PiecesOf (units h wg wu) L) (hc : ∀ y : S512x2816.Idx, ∃ p ∈ L, y ∈ p.1.set)
    (hb : ∀ d, ![0, 0] d + ![512, 2816] d ≤ S512x2816.size d) :
    v.readCov L (Rect.unit (s := S512x2816) ![0, 0] ![512, 2816] hb).toLoadRect = units h wg wu := by
  rw [View.readCov_eq_canon']
  funext j
  rw [← View.canon_append_of_piecesOf (units h wg wu) [] L hL j (hc j), List.append_nil]
  refine congrArg (View.canon L) (funext fun d => Fin.ext ?_)
  show ![0, 0] d + 1 * (j d : ℕ) = (j d : ℕ)
  have h0 : (![0, 0] : Fin 2 → ℕ) d = 0 := by fin_cases d <;> rfl
  rw [h0, Nat.zero_add, Nat.one_mul]

variable (m : (ℓ : Loc nD τ sig) → Buf (Elt Ideal) ℓ)

/-- The call's result: every row of the activations through the feed-forward block. -/
def result (X : FVec Ideal S32768x1024 .f32) (g : FVec Ideal S1x1024 .f32) (wg wu : FVec Ideal S1024x2816 .bf16) (wd : FVec Ideal S2816x1024 .bf16) :
    FVec Ideal S32768x1024 .f32 :=
  fun i => Ffn.ffn (fun k => X (ix2 (i 0) k)) (fun k => g (ix2 0 k)) (fun k f => wg (ix2 k f)) (fun k f => wu (ix2 k f)) (fun f c => wd (ix2 f c)) (i 1)

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] :=
  (by decide +kernel : ∀ t : Fin grid0.N, _)

theorem point (c : Dev nD) (t : Fin cfg0.N) (y : S512x1024.Idx) :
    k0_pay3 (k0_pay4 (iblk m c 0 t)) (units (k0_pay5 (iblk m c 0 t) (iblk m c 1 t)) (iblk m c 2 t) (iblk m c 3 t)) (iblk m c 4 t) y
      = result (V m c main_v0) (V m c main_v5) (V m c main_v6) (V m c main_v7) (V m c main_v8) (((cfg0.win 5).blk t).view.emb y) := by
  pointwise [k0_pay3, units, Ffn.unit, k0_pay5, k0_pay4, result, Ffn.ffn, Ffn.rms]
  blk_point [iblk, idx t]

theorem final (c : Dev nD) : (dats m 0 c).arrAt 5 cfg0.N = result (V m c main_v0) (V m c main_v5) (V m c main_v6) (V m c main_v7) (V m c main_v8) := by
  refine (dats m 0 c).arrAt_eq_of_covers 5 _ (by decide +kernel) fun t hf y => ?_
  blk_simp
  rw [after0_5]
  unfold outsAt0
  frame_out
  rw [read_units (View.whole cc0_scratch0) (k0_pay5 (iblk m c 0 t) (iblk m c 1 t)) (iblk m c 2 t) (iblk m c 3 t) _ ?pieces (View.cover_of_tiledL _ ![512, 256] rfl)]
  case pieces =>
    have e := fun wg wu => same (iblk m c 0 t) (iblk m c 1 t) (k0_pay5 (iblk m c 0 t) (iblk m c 1 t)) wg wu
    simp only [forall_and] at e
    obtain ⟨e12, e15, e16, e17, e18, e2, e1, e14, e6, e10⟩ := e
    have p := fun wg wu => pay11_eq (k0_pay5 (iblk m c 0 t) (iblk m c 1 t)) wg wu
    exact ⟨piece _ _ _ 2560 inb_S1024x2816_S1024x256_0_2560 inb_S512x2816_S512x256_0_2560 _ ((e2 _ _).trans (p _ _)),
      piece _ _ _ 2304 inb_S1024x2816_S1024x256_0_2304 inb_S512x2816_S512x256_0_2304 _ ((e1 _ _).trans (p _ _)),
      piece _ _ _ 2048 inb_S1024x2816_S1024x256_0_2048 inb_S512x2816_S512x256_0_2048 _ ((e18 _ _).trans (p _ _)),
      piece _ _ _ 1792 inb_S1024x2816_S1024x256_0_1792 inb_S512x2816_S512x256_0_1792 _ ((e17 _ _).trans (p _ _)),
      piece _ _ _ 1536 inb_S1024x2816_S1024x256_0_1536 inb_S512x2816_S512x256_0_1536 _ ((e16 _ _).trans (p _ _)),
      piece _ _ _ 1280 inb_S1024x2816_S1024x256_0_1280 inb_S512x2816_S512x256_0_1280 _ ((e15 _ _).trans (p _ _)),
      piece _ _ _ 1024 inb_S1024x2816_S1024x256_0_1024 inb_S512x2816_S512x256_0_1024 _ ((e14 _ _).trans (p _ _)),
      piece _ _ _ 768 inb_S1024x2816_S1024x256_0_768 inb_S512x2816_S512x256_0_768 _ ((e12 _ _).trans (p _ _)),
      piece _ _ _ 512 inb_S1024x2816_S1024x256_0_512 inb_S512x2816_S512x256_0_512 _ (p _ _),
      piece _ _ _ 256 inb_S1024x2816_S1024x256_0_256 inb_S512x2816_S512x256_0_256 _ ((e10 _ _).trans (p _ _)),
      piece _ _ _ 0 inb_S1024x2816_S1024x256_0_0 inb_S512x2816_S512x256_0_0 _ ((e6 _ _).trans (p _ _)),
      trivial⟩
  exact point m c t y

/-- The same over the call's arguments as given. -/
def spec (X : FVec Ideal S8x4096x1024 .f32) (g : FVec Ideal S1x1024 .f32) (wg wu : FVec Ideal S1x1024x2816 .f32) (wd : FVec Ideal S1x2816x1024 .f32) :
    FVec Ideal S32768x1024 .f32 :=
  fun i => Ffn.ffn (fun k => shapeCast S32768x1024 X shapeCasts_S8x4096x1024_S32768x1024 (ix2 (i 0) k)) (fun k => g (ix2 0 k)) (fun k f => wg (ix3 0 k f)) (fun k f => wu (ix3 0 k f))
    (fun f c => wd (ix3 0 f c)) (i 1)

/-- The staged arrays, as the host code before the call prepares them. -/
theorem V_staged (c : Dev nD) :
    (V m c main_v0 : FVec Ideal _ .f32) = shapeCast S32768x1024 (m ((c : Thread nD τ).loc main_arg0)) shapeCasts_S8x4096x1024_S32768x1024
    ∧ (V m c main_v5 : FVec Ideal _ .f32) = shapeCast S1x1024 (shapeCast S1024 (m ((c : Thread nD τ).loc main_arg1)) shapeCasts_S1x1024_S1024) shapeCasts_S1024_S1x1024
    ∧ (V m c main_v6 : FVec Ideal _ .bf16) = truncf (F := Ideal) (φ := .f32) .bf16 (shapeCast S1024x2816 (m ((c : Thread nD τ).loc main_arg2)) shapeCasts_S1x1024x2816_S1024x2816) bitsLt_bf16_f32
    ∧ (V m c main_v7 : FVec Ideal _ .bf16) = truncf (F := Ideal) (φ := .f32) .bf16 (shapeCast S1024x2816 (m ((c : Thread nD τ).loc main_arg3)) shapeCasts_S1x1024x2816_S1024x2816) bitsLt_bf16_f32
    ∧ (V m c main_v8 : FVec Ideal _ .bf16) = truncf (F := Ideal) (φ := .f32) .bf16 (shapeCast S2816x1024 (m ((c : Thread nD τ).loc main_arg4)) shapeCasts_S1x2816x1024_S2816x1024) bitsLt_bf16_f32 := by
  simp only [V, hostOps0]
  refine ⟨?_, ?_, ?_, ?_, ?_⟩ <;> (after_results_simp <;> rfl)

/-- What the host code does to the arguments only lays them out. -/
theorem result_prepared (X : FVec Ideal S8x4096x1024 .f32) (g : FVec Ideal S1x1024 .f32) (wg wu : FVec Ideal S1x1024x2816 .f32) (wd : FVec Ideal S1x2816x1024 .f32) :
    result (shapeCast S32768x1024 X shapeCasts_S8x4096x1024_S32768x1024) (shapeCast S1x1024 (shapeCast S1024 g shapeCasts_S1x1024_S1024) shapeCasts_S1024_S1x1024)
      (truncf .bf16 (shapeCast S1024x2816 wg shapeCasts_S1x1024x2816_S1024x2816) bitsLt_bf16_f32)
      (truncf .bf16 (shapeCast S1024x2816 wu shapeCasts_S1x1024x2816_S1024x2816) bitsLt_bf16_f32)
      (truncf .bf16 (shapeCast S2816x1024 wd shapeCasts_S1x2816x1024_S2816x1024) bitsLt_bf16_f32) = spec X g wg wu wd := by
  funext i
  pointwise [result, spec, Ffn.ffn, Ffn.rms, Ffn.unit]

theorem final_spec (c : Dev nD) : (dats m 0 c).arrAt 5 cfg0.N
    = spec (m ((c : Thread nD τ).loc main_arg0)) (m ((c : Thread nD τ).loc main_arg1)) (m ((c : Thread nD τ).loc main_arg2))
        (m ((c : Thread nD τ).loc main_arg3)) (m ((c : Thread nD τ).loc main_arg4)) := by
  obtain ⟨e0, e5, e6, e7, e8⟩ := V_staged m c
  rw [final, e0, e5, e6, e7, e8]
  exact result_prepared _ _ _ _ _

end Cert.Kernel2Ideal.Hand

end
-- ==== Proof.Ffn2Ref.lean ====
module

public import proofs.«01_k».proof.Proof.Ffn2
public import proofs.«01_k».proof.Proof.Gen.Reference2Ideal.Run
public import Idealize.ShloMosaic.Lib.KernelVsHost

@[expose] public section

set_option maxRecDepth 16384

noncomputable section

namespace Cert.Reference2Ideal.Hand

open Cert.Reference2Ideal Cert.Reference2Ideal.Gen Idealize.ShloMosaic Idealize.ShloMosaic.TcCoe Idealize.SL.Sem

/-- The reference's normalised rows. -/
def normed (X2 : FVec Ideal S32768x1024 .f32) (g : FVec Ideal S1024 .f32) : FVec Ideal S32768x1024 .f32 :=
  mulf (mulf X2 (broadcastInDim S32768x1024 ![0, 1] bcast_S32768x1_S32768x1024_0_1 (Host.rsqrt (addf (Host.divf (broadcastInDim S32768x1 ![0] bcast_S32768_S32768x1_0 (Host.reduceAdd (mulf X2 X2) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))

/-- One of the reference's two products of the normalised rows with a weight. -/
def proj (H : FVec Ideal S32768x1024 .f32) (w : FVec Ideal S1x1024x2816 .f32) : FVec Ideal S32768x2816 .f32 :=
  Host.dotGeneral dot_S32768x1024_S1024x2816_S32768x2816_1_0_0_1_n_n none H (shapeCast _ w shapeCasts_S1x1024x2816_S1024x2816)

/-- The reference's gated units. -/
def gated (A U : FVec Ideal S32768x2816 .f32) : FVec Ideal S32768x2816 .f32 :=
  mulf (mulf A (Host.divf (broadcastInDim S32768x2816 ![] bcast_S_S32768x2816 (constant S_ .f32 0x3F800000#32)) (addf (broadcastInDim S32768x2816 ![] bcast_S_S32768x2816 (constant S_ .f32 0x3F800000#32)) (Host.exp (Host.negf A))))) U

/-- The reference's result from the gated units. -/
def closed (X2 : FVec Ideal S32768x1024 .f32) (B : FVec Ideal S32768x2816 .f32) (wd : FVec Ideal S1x2816x1024 .f32) : FVec Ideal S32768x1024 .f32 :=
  addf X2 (mulf (broadcastInDim S32768x1024 ![] bcast_S_S32768x1024 (constant S_ .f32 0x3F000000#32)) (Host.dotGeneral dot_S32768x2816_S2816x1024_S32768x1024_1_0_0_1_n_n none B (shapeCast _ wd shapeCasts_S1x2816x1024_S2816x1024)))

theorem normed_at (X2 : FVec Ideal S32768x1024 .f32) (g : FVec Ideal S1024 .f32) (n : Fin 32768) (k : Fin 1024) :
    normed X2 g (ix2 n k) = Ffn.rms (fun l => X2 (ix2 n l)) (fun l => g (ix1 l)) k := by
  pointwise [normed, Ffn.rms]

/-- A gain given as a one-row matrix. -/
theorem gain_at (g : FVec Ideal S1x1024 .f32) (l : Fin 1024) : shapeCast S1024 g shapeCasts_S1x1024_S1024 (ix1 l) = g (ix2 0 l) := by
  pointwise

theorem gated_at (H : FVec Ideal S32768x1024 .f32) (wg wu : FVec Ideal S1x1024x2816 .f32) (n : Fin 32768) (f : Fin 2816) :
    gated (proj H wg) (proj H wu) (ix2 n f) = Ffn.unit (fun k => H (ix2 n k)) (fun k => wg (ix3 0 k f)) (fun k => wu (ix3 0 k f)) := by
  have hp : ∀ w : FVec Ideal S1x1024x2816 .f32, proj H w (ix2 n f) = ∑ k : Fin 1024, H (ix2 n k) * w (ix3 0 k f) := fun w => by
    pointwise [proj]
  have hg : ∀ A U : FVec Ideal S32768x2816 .f32, gated A U (ix2 n f) = Ffn.gate (A (ix2 n f)) (U (ix2 n f)) := fun A U => by
    pointwise [gated, Ffn.gate, Ideal.logistic]
  rw [hg, hp, hp, Ffn.unit]

theorem closed_at (X2 : FVec Ideal S32768x1024 .f32) (B : FVec Ideal S32768x2816 .f32) (wd : FVec Ideal S1x2816x1024 .f32) (n : Fin 32768) (c : Fin 1024) :
    closed X2 B wd (ix2 n c) = X2 (ix2 n c) + Ideal.ofBits .f32 0x3F000000#32 * ∑ f : Fin 2816, B (ix2 n f) * wd (ix3 0 f c) := by
  pointwise [closed]

/-- The reference's feed-forward block of any rows. -/
def block (X2 : FVec Ideal S32768x1024 .f32) (g : FVec Ideal S1x1024 .f32) (wg wu : FVec Ideal S1x1024x2816 .f32) (wd : FVec Ideal S1x2816x1024 .f32) :
    FVec Ideal S32768x1024 .f32 :=
  closed X2 (gated (proj (normed X2 (shapeCast S1024 g shapeCasts_S1x1024_S1024)) wg) (proj (normed X2 (shapeCast S1024 g shapeCasts_S1x1024_S1024)) wu)) wd

theorem block_at (X2 : FVec Ideal S32768x1024 .f32) (g : FVec Ideal S1x1024 .f32) (wg wu : FVec Ideal S1x1024x2816 .f32) (wd : FVec Ideal S1x2816x1024 .f32)
    (n : Fin 32768) (c : Fin 1024) :
    block X2 g wg wu wd (ix2 n c)
      = Ffn.ffn (fun k => X2 (ix2 n k)) (fun k => g (ix2 0 k)) (fun k f => wg (ix3 0 k f)) (fun k f => wu (ix3 0 k f)) (fun f c => wd (ix3 0 f c)) c := by
  rw [block, closed_at]
  simp only [gated_at, normed_at, gain_at]
  rfl

/-- The reference computes the specification. -/
theorem ref_spec (X : FVec Ideal S8x4096x1024 .f32) (g : FVec Ideal S1x1024 .f32) (wg wu : FVec Ideal S1x1024x2816 .f32) (wd : FVec Ideal S1x2816x1024 .f32) :
    block (shapeCast S32768x1024 X shapeCasts_S8x4096x1024_S32768x1024) g wg wu wd = Kernel2Ideal.Hand.spec X g wg wu wd := by
  funext i
  idx_vars i
  exact block_at _ g wg wu wd _ _

/-- The reference's run, its result the specification of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25)
        = Kernel2Ideal.Hand.spec (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (ref_spec _ _ _ _ _), (h c).2⟩) (Value.run (F := Ideal) m ρ)

end Cert.Reference2Ideal.Hand

end
-- ==== Proof.Ffn3.lean ====
module

public import proofs.«01_k».proof.Proof.Ffn2
public import proofs.«01_k».proof.Proof.Gen.Kernel3Ideal.Value

@[expose] public section

set_option maxRecDepth 16384

noncomputable section

namespace Cert.Kernel3Ideal.Hand

open Cert.Kernel3Ideal Cert.Kernel3Ideal.Gen Idealize.ShloMosaic Idealize.ShloMosaic.TcCoe Idealize.SL.Sem

theorem chunk_eq (h : FVec Ideal S512x1024 .bf16) (wg wu : FVec Ideal S1024x256 .bf16) : k0_pay6 h wg wu = Kernel2Ideal.Hand.part h wg wu := by
  funext j
  idx_vars j
  pointwise [k0_pay6, Kernel2Ideal.Hand.part, Ffn.unit, Ffn.gate]

/-- The other chunks' stores, split over the body's parts in other places, store the same value. -/
theorem same (x : FVec Ideal S512x1024 .f32) (ga oa gb ob : FVec Ideal S512x1024 .bf16) (wo : FVec Ideal S1024x1024 .bf16) (g : FVec Ideal S1x1024 .f32)
    (h : FVec Ideal S512x1024 .bf16) (wg wu : FVec Ideal S1024x256 .bf16) :
    k0_pay7 (F := Ideal) h wg wu = k0_pay6 (F := Ideal) h wg wu ∧ k0_pay8 (F := Ideal) h wg wu = k0_pay6 (F := Ideal) h wg wu
      ∧ k0_pay9 (F := Ideal) h wg wu = k0_pay6 (F := Ideal) h wg wu ∧ k0_pay12 (F := Ideal) h wg wu = k0_pay6 (F := Ideal) h wg wu
      ∧ k0_pay13 (F := Ideal) h wg wu = k0_pay6 (F := Ideal) h wg wu ∧ k0_pay17 (F := Ideal) h wg wu = k0_pay6 (F := Ideal) h wg wu
      ∧ k0_pay18 (F := Ideal) h wg wu = k0_pay6 (F := Ideal) h wg wu
      ∧ k0_pay11 (k0_pay10 (F := Ideal) h wg wu) = k0_pay6 (F := Ideal) h wg wu
      ∧ k0_pay16 (F := Ideal) h (k0_pay14 h wg) (k0_pay15 wu) (constant S512x256 .f32 0#32) = k0_pay6 (F := Ideal) h wg wu
      ∧ k0_pay5 (F := Ideal) (k0_pay3 x ga oa gb ob wo g) (k0_pay4 x ga oa gb ob wo g wg) wu = k0_pay6 (F := Ideal) (k0_pay3 x ga oa gb ob wo g) wg wu :=
  ⟨rfl, rfl, rfl, rfl, rfl, rfl, rfl, rfl, rfl, rfl⟩

/-- The block's rows with the gated mixers' outputs added. -/
theorem merged_at (x : FVec Ideal S512x1024 .f32) (ga oa gb ob : FVec Ideal S512x1024 .bf16) (wo : FVec Ideal S1024x1024 .bf16) (r : Fin 512) (k : Fin 1024) :
    k0_pay2 (F := Ideal) x ga oa gb ob wo (ix2 r k)
      = Ffn.merge (fun l => x (ix2 r l)) (fun l => ga (ix2 r l)) (fun l => gb (ix2 r l)) (fun l => oa (ix2 r l)) (fun l => ob (ix2 r l)) (fun l k => wo (ix2 l k)) k := by
  pointwise [k0_pay2, Ffn.merge]

/-- Their normalised form. -/
theorem normed_at (x : FVec Ideal S512x1024 .f32) (ga oa gb ob : FVec Ideal S512x1024 .bf16) (wo : FVec Ideal S1024x1024 .bf16) (g : FVec Ideal S1x1024 .f32)
    (r : Fin 512) (k : Fin 1024) :
    k0_pay3 (F := Ideal) x ga oa gb ob wo g (ix2 r k) = Ffn.rms (fun l => k0_pay2 (F := Ideal) x ga oa gb ob wo (ix2 r l)) (fun l => g (ix2 0 l)) k := by
  pointwise [k0_pay3, Ffn.rms]

/-- The last store: the network's output added to the rows, and the sum normalised. -/
theorem last_at (X : FVec Ideal S512x1024 .f32) (B : FVec Ideal S512x2816 .bf16) (wd : FVec Ideal S2816x1024 .bf16) (fg : FVec Ideal S1x1024 .f32)
    (r : Fin 512) (k : Fin 1024) :
    k0_pay1 (F := Ideal) X B wd fg (ix2 r k)
      = Ffn.rms (fun l => X (ix2 r l) + Ideal.ofBits .f32 0x3F000000#32 * ∑ f : Fin 2816, B (ix2 r f) * wd (ix2 f l)) (fun l => fg (ix2 0 l)) k := by
  pointwise [k0_pay1, Ffn.rms]

variable (m : (ℓ : Loc nD τ sig) → Buf (Elt Ideal) ℓ)

/-- The call's result, row by row: merge, feed-forward block, final normalisation. -/
def result (X : FVec Ideal S32768x1024 .f32) (G : FVec Ideal S32768x2048 .bf16) (oa ob : FVec Ideal S32768x1024 .bf16) (wo : FVec Ideal S1024x1024 .bf16)
    (g : FVec Ideal S1x1024 .f32) (wg wu : FVec Ideal S1024x2816 .bf16) (wd : FVec Ideal S2816x1024 .bf16) (fg : FVec Ideal S1x1024 .f32) :
    FVec Ideal S32768x1024 .f32 :=
  fun i => Ffn.rms
    (Ffn.ffn
      (Ffn.merge (fun l => X (ix2 (i 0) l)) (fun l => G (ix2 (i 0) ⟨l, by omega⟩)) (fun l => G (ix2 (i 0) ⟨1024 + l, by omega⟩))
        (fun l => oa (ix2 (i 0) l)) (fun l => ob (ix2 (i 0) l)) (fun l k => wo (ix2 l k)))
      (fun k => g (ix2 0 k)) (fun k f => wg (ix2 k f)) (fun k f => wu (ix2 k f)) (fun f c => wd (ix2 f c)))
    (fun k => fg (ix2 0 k)) (i 1)

theorem idx : ∀ t : Fin cfg0.N, win0_0.index t = ![t.val, 0] ∧ win0_1.index t = ![t.val, 0] ∧ win0_2.index t = ![t.val, 1] ∧ win0_3.index t = ![t.val, 0]
    ∧ win0_4.index t = ![t.val, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![t.val, 0] :=
  (by decide +kernel : ∀ t : Fin grid0.N, _)

/-- Reads of a block's rows, at the rows the grid point stages. -/
theorem point (c : Dev nD) (t : Fin cfg0.N) (y : S512x1024.Idx) :
    k0_pay1 (F := Ideal) (k0_pay2 (iblk m c 0 t) (iblk m c 1 t) (iblk m c 3 t) (iblk m c 2 t) (iblk m c 4 t) (iblk m c 5 t))
      (Kernel2Ideal.Hand.units (k0_pay3 (F := Ideal) (iblk m c 0 t) (iblk m c 1 t) (iblk m c 3 t) (iblk m c 2 t) (iblk m c 4 t) (iblk m c 5 t) (iblk m c 6 t))
        (iblk m c 7 t) (iblk m c 8 t)) (iblk m c 9 t) (iblk m c 10 t) y
      = result (V m c main_arg0) (V m c main_arg1) (V m c main_arg2) (V m c main_arg3) (V m c main_v5) (V m c main_v6) (V m c main_v7) (V m c main_v8) (V m c main_v9)
          (V m c main_v10) (((cfg0.win 11).blk t).view.emb y) := by
  idx_vars y
  pointwise [last_at, merged_at, normed_at, Kernel2Ideal.Hand.units, Ffn.unit, result, Ffn.ffn, Ffn.rms, Ffn.merge]
  blk_point [iblk, idx t]

theorem final (c : Dev nD) : (dats m 0 c).arrAt 11 cfg0.N
    = result (V m c main_arg0) (V m c main_arg1) (V m c main_arg2) (V m c main_arg3) (V m c main_v5) (V m c main_v6) (V m c main_v7) (V m c main_v8) (V m c main_v9)
        (V m c main_v10) := by
  refine (dats m 0 c).arrAt_eq_of_covers 11 _ (by decide +kernel) fun t hf y => ?_
  blk_simp
  rw [after0_11]
  unfold outsAt0
  frame_out
  rw [Kernel2Ideal.Hand.read_units (View.whole cc0_scratch0)
    (k0_pay3 (iblk m c 0 t) (iblk m c 1 t) (iblk m c 3 t) (iblk m c 2 t) (iblk m c 4 t) (iblk m c 5 t) (iblk m c 6 t)) (iblk m c 7 t) (iblk m c 8 t) _ ?pieces
    (View.cover_of_tiledL _ ![512, 256] rfl)]
  case pieces =>
    have e := fun wg wu => same (iblk m c 0 t) (iblk m c 1 t) (iblk m c 3 t) (iblk m c 2 t) (iblk m c 4 t) (iblk m c 5 t) (iblk m c 6 t)
      (k0_pay3 (iblk m c 0 t) (iblk m c 1 t) (iblk m c 3 t) (iblk m c 2 t) (iblk m c 4 t) (iblk m c 5 t) (iblk m c 6 t)) wg wu
    have p := fun wg wu => chunk_eq (k0_pay3 (iblk m c 0 t) (iblk m c 1 t) (iblk m c 3 t) (iblk m c 2 t) (iblk m c 4 t) (iblk m c 5 t) (iblk m c 6 t)) wg wu
    simp only [forall_and] at e
    obtain ⟨e7, e8, e9, e12, e13, e17, e18, e11, e16, e5⟩ := e
    exact ⟨Kernel2Ideal.Hand.piece _ _ _ 2560 inb_S1024x2816_S1024x256_0_2560 inb_S512x2816_S512x256_0_2560 _ ((e18 _ _).trans (p _ _)),
      Kernel2Ideal.Hand.piece _ _ _ 2304 inb_S1024x2816_S1024x256_0_2304 inb_S512x2816_S512x256_0_2304 _ ((e17 _ _).trans (p _ _)),
      Kernel2Ideal.Hand.piece _ _ _ 2048 inb_S1024x2816_S1024x256_0_2048 inb_S512x2816_S512x256_0_2048 _ ((e16 _ _).trans (p _ _)),
      Kernel2Ideal.Hand.piece _ _ _ 1792 inb_S1024x2816_S1024x256_0_1792 inb_S512x2816_S512x256_0_1792 _ ((e13 _ _).trans (p _ _)),
      Kernel2Ideal.Hand.piece _ _ _ 1536 inb_S1024x2816_S1024x256_0_1536 inb_S512x2816_S512x256_0_1536 _ ((e12 _ _).trans (p _ _)),
      Kernel2Ideal.Hand.piece _ _ _ 1280 inb_S1024x2816_S1024x256_0_1280 inb_S512x2816_S512x256_0_1280 _ ((e11 _ _).trans (p _ _)),
      Kernel2Ideal.Hand.piece _ _ _ 1024 inb_S1024x2816_S1024x256_0_1024 inb_S512x2816_S512x256_0_1024 _ ((e9 _ _).trans (p _ _)),
      Kernel2Ideal.Hand.piece _ _ _ 768 inb_S1024x2816_S1024x256_0_768 inb_S512x2816_S512x256_0_768 _ ((e8 _ _).trans (p _ _)),
      Kernel2Ideal.Hand.piece _ _ _ 512 inb_S1024x2816_S1024x256_0_512 inb_S512x2816_S512x256_0_512 _ ((e7 _ _).trans (p _ _)),
      Kernel2Ideal.Hand.piece _ _ _ 256 inb_S1024x2816_S1024x256_0_256 inb_S512x2816_S512x256_0_256 _ (p _ _),
      Kernel2Ideal.Hand.piece _ _ _ 0 inb_S1024x2816_S1024x256_0_0 inb_S512x2816_S512x256_0_0 _ ((e5 _ _).trans (p _ _)),
      trivial⟩
  exact point m c t y

/-- The staged arrays, as the host code before the call prepares them. -/
theorem V_staged (c : Dev nD) :
    (V m c main_v5 : FVec Ideal _ .bf16) = truncf (F := Ideal) (φ := .f32) .bf16 (shapeCast S1024x1024 (m ((c : Thread nD τ).loc main_arg4)) shapeCasts_S1x1024x1024_S1024x1024) bitsLt_bf16_f32
    ∧ (V m c main_v6 : FVec Ideal _ .f32) = shapeCast S1x1024 (shapeCast S1024 (m ((c : Thread nD τ).loc main_arg5)) shapeCasts_S1x1024_S1024) shapeCasts_S1024_S1x1024
    ∧ (V m c main_v7 : FVec Ideal _ .bf16) = truncf (F := Ideal) (φ := .f32) .bf16 (shapeCast S1024x2816 (m ((c : Thread nD τ).loc main_arg6)) shapeCasts_S1x1024x2816_S1024x2816) bitsLt_bf16_f32
    ∧ (V m c main_v8 : FVec Ideal _ .bf16) = truncf (F := Ideal) (φ := .f32) .bf16 (shapeCast S1024x2816 (m ((c : Thread nD τ).loc main_arg7)) shapeCasts_S1x1024x2816_S1024x2816) bitsLt_bf16_f32
    ∧ (V m c main_v9 : FVec Ideal _ .bf16) = truncf (F := Ideal) (φ := .f32) .bf16 (shapeCast S2816x1024 (m ((c : Thread nD τ).loc main_arg8)) shapeCasts_S1x2816x1024_S2816x1024) bitsLt_bf16_f32
    ∧ (V m c main_v10 : FVec Ideal _ .f32) = shapeCast S1x1024 (m ((c : Thread nD τ).loc main_arg9)) shapeCasts_S1024_S1x1024 := by
  simp only [V, hostOps0]
  refine ⟨?_, ?_, ?_, ?_, ?_, ?_⟩ <;> (after_results_simp <;> rfl)

/-- The result over the call's arguments as given. -/
def spec (X : FVec Ideal S32768x1024 .f32) (G : FVec Ideal S32768x2048 .bf16) (oa ob : FVec Ideal S32768x1024 .bf16) (wo : FVec Ideal S1x1024x1024 .f32)
    (g : FVec Ideal S1x1024 .f32) (wg wu : FVec Ideal S1x1024x2816 .f32) (wd : FVec Ideal S1x2816x1024 .f32) (fg : FVec Ideal S1024 .f32) :
    FVec Ideal S32768x1024 .f32 :=
  fun i => Ffn.rms
    (Ffn.ffn
      (Ffn.merge (fun l => X (ix2 (i 0) l)) (fun l => G (ix2 (i 0) ⟨l, by omega⟩)) (fun l => G (ix2 (i 0) ⟨1024 + l, by omega⟩))
        (fun l => oa (ix2 (i 0) l)) (fun l => ob (ix2 (i 0) l)) (fun l k => wo (ix3 0 l k)))
      (fun k => g (ix2 0 k)) (fun k f => wg (ix3 0 k f)) (fun k f => wu (ix3 0 k f)) (fun f c => wd (ix3 0 f c)))
    (fun k => fg (ix1 k)) (i 1)

/-- What the host code does to the arguments only lays them out. -/
theorem result_prepared (X : FVec Ideal S32768x1024 .f32) (G : FVec Ideal S32768x2048 .bf16) (oa ob : FVec Ideal S32768x1024 .bf16) (wo : FVec Ideal S1x1024x1024 .f32)
    (g : FVec Ideal S1x1024 .f32) (wg wu : FVec Ideal S1x1024x2816 .f32) (wd : FVec Ideal S1x2816x1024 .f32) (fg : FVec Ideal S1024 .f32) :
    result X G oa ob (truncf .bf16 (shapeCast S1024x1024 wo shapeCasts_S1x1024x1024_S1024x1024) bitsLt_bf16_f32)
      (shapeCast S1x1024 (shapeCast S1024 g shapeCasts_S1x1024_S1024) shapeCasts_S1024_S1x1024)
      (truncf .bf16 (shapeCast S1024x2816 wg shapeCasts_S1x1024x2816_S1024x2816) bitsLt_bf16_f32)
      (truncf .bf16 (shapeCast S1024x2816 wu shapeCasts_S1x1024x2816_S1024x2816) bitsLt_bf16_f32)
      (truncf .bf16 (shapeCast S2816x1024 wd shapeCasts_S1x2816x1024_S2816x1024) bitsLt_bf16_f32)
      (shapeCast S1x1024 fg shapeCasts_S1024_S1x1024) = spec X G oa ob wo g wg wu wd fg := by
  funext i
  pointwise [result, spec, Ffn.ffn, Ffn.rms, Ffn.unit, Ffn.merge]

theorem final_spec (c : Dev nD) : (dats m 0 c).arrAt 11 cfg0.N
    = spec (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) := by
  obtain ⟨e5, e6, e7, e8, e9, e10⟩ := V_staged m c
  rw [final, V_main_arg0, V_main_arg1, V_main_arg2, V_main_arg3, e5, e6, e7, e8, e9, e10]
  exact result_prepared _ _ _ _ _ _ _ _ _ _

end Cert.Kernel3Ideal.Hand

end
-- ==== Proof.Ffn3Ref.lean ====
module

public import proofs.«01_k».proof.Proof.Ffn3
public import proofs.«01_k».proof.Proof.Ffn2Ref
public import proofs.«01_k».proof.Proof.Gen.Reference3Ideal.Run

@[expose] public section

set_option maxRecDepth 16384

noncomputable section

namespace Cert.Reference3Ideal.Hand

open Cert.Reference3Ideal Cert.Reference3Ideal.Gen Idealize.ShloMosaic Idealize.ShloMosaic.TcCoe Idealize.SL.Sem

/-- One mixer's output times the sigmoid of its gates. -/
def weighed (G O : FVec Ideal S32768x1024 .bf16) : FVec Ideal S32768x1024 .f32 :=
  mulf (Host.divf (broadcastInDim S32768x1024 ![] bcast_S_S32768x1024 (constant S_ .f32 0x3F800000#32)) (addf (broadcastInDim S32768x1024 ![] bcast_S_S32768x1024 (constant S_ .f32 0x3F800000#32)) (Host.exp (Host.negf (extf .f32 G bitsLt_bf16_f32))))) (extf .f32 O bitsLt_bf16_f32)

/-- The rows with the gated and projected outputs of the mixers added. -/
def merged (X : FVec Ideal S32768x1024 .f32) (G : FVec Ideal S32768x2048 .bf16) (oa ob : FVec Ideal S32768x1024 .bf16) (wo : FVec Ideal S1x1024x1024 .f32) :
    FVec Ideal S32768x1024 .f32 :=
  addf X (Host.dotGeneral dot_S32768x1024_S1024x1024_S32768x1024_1_0_0_1_n_n none
    (addf (weighed (extractStridedSlice S32768x1024 ![0, 0] G slices_S32768x2048_S32768x1024_0_0) oa)
      (weighed (extractStridedSlice S32768x1024 ![0, 1024] G slices_S32768x2048_S32768x1024_0_1024) ob))
    (shapeCast _ wo shapeCasts_S1x1024x1024_S1024x1024))

theorem merged_at (X : FVec Ideal S32768x1024 .f32) (G : FVec Ideal S32768x2048 .bf16) (oa ob : FVec Ideal S32768x1024 .bf16) (wo : FVec Ideal S1x1024x1024 .f32)
    (n : Fin 32768) (k : Fin 1024) :
    merged X G oa ob wo (ix2 n k)
      = Ffn.merge (fun l => X (ix2 n l)) (fun l => G (ix2 n ⟨l, by omega⟩)) (fun l => G (ix2 n ⟨1024 + l, by omega⟩)) (fun l => oa (ix2 n l)) (fun l => ob (ix2 n l))
          (fun l k => wo (ix3 0 l k)) k := by
  pointwise [merged, weighed, Ffn.merge, Ideal.logistic]

/-- The reference computes the specification. -/
theorem ref_spec (X : FVec Ideal S32768x1024 .f32) (G : FVec Ideal S32768x2048 .bf16) (oa ob : FVec Ideal S32768x1024 .bf16) (wo : FVec Ideal S1x1024x1024 .f32)
    (g : FVec Ideal S1x1024 .f32) (wg wu : FVec Ideal S1x1024x2816 .f32) (wd : FVec Ideal S1x2816x1024 .f32) (fg : FVec Ideal S1024 .f32) :
    Reference2Ideal.Hand.normed (Reference2Ideal.Hand.block (merged X G oa ob wo) g wg wu wd) fg = Kernel3Ideal.Hand.spec X G oa ob wo g wg wu wd fg := by
  funext i
  idx_vars i
  rw [Reference2Ideal.Hand.normed_at]
  simp only [Reference2Ideal.Hand.block_at, merged_at]
  rfl

/-- The reference's run, its result the specification of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v61)
        = Kernel3Ideal.Hand.spec (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (ref_spec _ _ _ _ _ _ _ _ _ _), (h c).2⟩) (Value.run (F := Ideal) m ρ)

end Cert.Reference3Ideal.Hand

end
-- ==== Proof.InProjSpec.lean ====
/- What the in-projection makes of one row of activations, over the extended reals: root-mean-square normalisation, the projections, and the
   small per-head numbers. The kernel and the reference are both compared with these functions of a row. -/
module

public import Idealize.ShloMosaic.PureOps.Ideal

@[expose] public section

noncomputable section

namespace Cert.InProj

open Idealize.ShloMosaic

/-- One entry of a row of `n` numbers divided by the row's root mean square (`d` the number of entries), times its gain. -/
def rms {n : ℕ} (d : EReal) (x g : Fin n → EReal) (k : Fin n) : EReal :=
  x k * Ideal.rsqrt (Ideal.div (∑ l, x l * x l) d + Ideal.ofBits .f32 0x358637BD#32) * g k

/-- The mean of a row of `n` numbers. -/
def mean {n : ℕ} (d : EReal) (x : Fin n → EReal) : EReal := Ideal.div (∑ l, x l) d

/-- One entry of a row after layer normalisation: less the mean, over the standard deviation, times the gain, plus the bias. -/
def layer {n : ℕ} (d : EReal) (x g b : Fin n → EReal) (k : Fin n) : EReal :=
  (x k - mean d x) * Ideal.rsqrt (Ideal.div (∑ l, (x l - mean d x) * (x l - mean d x)) d + Ideal.ofBits .f32 0x358637BD#32) * g k + b k

/-- The softplus function, `log (1 + exp z)`, in the form that does not overflow. -/
def softplus (z : EReal) : EReal :=
  max z 0 + Ideal.log (1 + Ideal.exp (0 - max z (-z)))

/-- Row `j` of the small per-head numbers: eight scaled index weights, eight write strengths, eight log decays, eight zeros. `p` are the
    projected columns, `a` the negated decay rates and `b` the decay biases, at their columns. -/
def small (p a b : ℕ → EReal) (j : ℕ) : EReal :=
  if j < 8 then p j * Ideal.ofBits .f32 0x3D3504F3#32
  else if j < 16 then Ideal.logistic (p j)
  else if j < 24 then a j * softplus (p j + b j)
  else 0

end Cert.InProj

end
-- ==== Proof.InProj.lean ====
module

public import proofs.«01_k».proof.Proof.FfnSpec
public import proofs.«01_k».proof.Proof.InProjSpec
public import proofs.«01_k».proof.Proof.Gen.Kernel4Ideal.Skeleton
public import Idealize.ShloMosaic.Lib.Pointwise
public import Idealize.ShloMosaic.Lib.Claim

@[expose] public section

set_option maxRecDepth 16384

noncomputable section

namespace Cert.Kernel4Ideal.Hand

open Cert.Kernel4Ideal Cert.Kernel4Ideal.Gen Idealize.ShloMosaic Idealize.ShloMosaic.TcCoe Idealize.SL.Sem

/-- A block's normalised rows. -/
theorem normed_at (x : FVec Ideal S512x1024 .f32) (g : FVec Ideal S1x1024 .f32) (r : Fin 512) (k : Fin 1024) :
    k0_pay63 (F := Ideal) x g (ix2 r k) = Ffn.rms (fun l => x (ix2 r l)) (fun l => g (ix2 0 l)) k := by
  pointwise [k0_pay63, Ffn.rms]

/-- 512 columns of the mixers' gates. -/
theorem gates_at (h : FVec Ideal S512x1024 .bf16) (w : FVec Ideal S1024x512 .bf16) (r : Fin 512) (k : Fin 512) :
    k0_pay379 (F := Ideal) h w (ix2 r k) = ∑ l : Fin 1024, h (ix2 r l) * w (ix2 l k) := by
  pointwise [k0_pay379]

/-- The projection onto the 768 remaining columns. -/
theorem proj_at (h : FVec Ideal S512x1024 .bf16) (w : FVec Ideal S1024x768 .bf16) (r : Fin 512) (k : Fin 768) :
    k0_pay654 (F := Ideal) h w (ix2 r k) = ∑ l : Fin 1024, h (ix2 r l) * w (ix2 l k) := by
  pointwise [k0_pay654]

/-- The normalised query latents. -/
theorem cq_at (h : FVec Ideal S512x1024 .bf16) (w : FVec Ideal S1024x768 .bf16) (g : FVec Ideal S1x256 .f32) (r : Fin 512) (k : Fin 256) :
    k0_pay655 (F := Ideal) h w g (ix2 r k)
      = InProj.rms (Ideal.ofBits .f32 0x43800000#32) (fun l : Fin 256 => k0_pay654 (F := Ideal) h w (ix2 r ⟨l, by omega⟩)) (fun l => g (ix2 0 l)) k := by
  pointwise [k0_pay655, InProj.rms]

/-- The normalised key-value latents. -/
theorem ckv_at (h : FVec Ideal S512x1024 .bf16) (w : FVec Ideal S1024x768 .bf16) (g : FVec Ideal S1x256 .f32) (r : Fin 512) (k : Fin 256) :
    k0_pay659 (F := Ideal) (k0_pay656 g) (k0_pay657 h w) (ix2 r k)
      = InProj.rms (Ideal.ofBits .f32 0x43800000#32) (fun l : Fin 256 => k0_pay654 (F := Ideal) h w (ix2 r ⟨256 + l, by omega⟩)) (fun l => g (ix2 0 l)) k := by
  pointwise [k0_pay659, k0_pay658, k0_pay656, k0_pay657, InProj.rms]

/-- The normalised key-value latents transposed, over eight rows of ones. -/
theorem ckvt_at (h : FVec Ideal S512x1024 .bf16) (w : FVec Ideal S1024x768 .bf16) (g : FVec Ideal S1x256 .f32) (k : Fin 264) (r : Fin 512) :
    k0_pay660 (F := Ideal) (k0_pay656 g) (k0_pay657 h w) (ix2 k r)
      = if hk : (k : ℕ) < 256 then k0_pay659 (F := Ideal) (k0_pay656 g) (k0_pay657 h w) (ix2 r ⟨k, hk⟩) else 1 := by
  pointwise [k0_pay660, k0_pay659]

/-- The normalised index keys. -/
theorem kidx_at (p : FVec Ideal S512x768 .f32) (g b : FVec Ideal S1x64 .f32) (r : Fin 512) (k : Fin 64) :
    k0_pay661 (F := Ideal) p g b (ix2 r k)
      = InProj.layer (Ideal.ofBits .f32 0x42800000#32) (fun l : Fin 64 => p (ix2 r ⟨512 + l, by omega⟩)) (fun l => g (ix2 0 l)) (fun l => b (ix2 0 l)) k := by
  pointwise [k0_pay661, InProj.layer, InProj.mean]

/-- The numbers at column `j` of a row of 128, past the first 640 of the projection's. -/
def wide (f : Fin 128 → EReal) (j : ℕ) : EReal := if h : j < 128 then f ⟨j, h⟩ else 0

/-- The comparisons of a row's number with the groups' ends. -/
theorem below : ∀ j : Fin 32, IntOp.cmpi .slt (BitVec.ofNat 32 j) 8#32 = BitVec.ofBool (decide ((j : ℕ) < 8))
    ∧ IntOp.cmpi .slt (BitVec.ofNat 32 j) 16#32 = BitVec.ofBool (decide ((j : ℕ) < 16))
    ∧ IntOp.cmpi .slt (BitVec.ofNat 32 j) 24#32 = BitVec.ofBool (decide ((j : ℕ) < 24)) := by decide

/-- The small per-head numbers, transposed. -/
theorem misc_at (p : FVec Ideal S512x768 .f32) (dtb na : FVec Ideal S1x128 .f32) (j : Fin 32) (r : Fin 512) :
    k0_pay666 (F := Ideal) (k0_pay662 p) (iota .tc S512x128 32 [1] iota_S512x128_d1_w32) (k0_pay663 p) dtb na (ix2 j r)
      = InProj.small (wide fun l => p (ix2 r ⟨640 + l, by omega⟩)) (wide fun l => na (ix2 0 l)) (wide fun l => dtb (ix2 0 l)) j := by
  pointwise [k0_pay666, k0_pay664, k0_pay662, k0_pay663, InProj.small, InProj.softplus, wide]
  have h128 : (j : ℕ) < 128 := by omega
  obtain ⟨h8, h16, h24⟩ := below j
  rw [h8, h16, h24]
  simp only [dif_pos h128]
  by_cases c8 : (j : ℕ) < 8
  · simp [c8, Scalar.select]
  by_cases c16 : (j : ℕ) < 16
  · simp [c8, c16, Scalar.select]
  by_cases c24 : (j : ℕ) < 24
  · simp [c8, c16, c24, Scalar.select]
    rfl
  · simp [c8, c16, c24, Scalar.select]

/-! The call's results over its arguments. -/

/-- Row `n` of the activations, normalised. -/
def hrow (X : FVec Ideal S32768x1024 .f32) (g : FVec Ideal S1x1024 .f32) (n : Fin 32768) (k : Fin 1024) : EReal :=
  Ffn.rms (fun l => X (ix2 n l)) (fun l => g (ix2 0 l)) k

/-- Row `n` of the projection onto the 768 columns. -/
def prow (X : FVec Ideal S32768x1024 .f32) (g : FVec Ideal S1x1024 .f32) (ws : FVec Ideal S1024x768 .bf16) (n : Fin 32768) (k : Fin 768) : EReal :=
  ∑ l : Fin 1024, hrow X g n l * ws (ix2 l k)

/-- The mixers' gates. -/
def gates (X : FVec Ideal S32768x1024 .f32) (g : FVec Ideal S1x1024 .f32) (wb : FVec Ideal S1024x6144 .bf16) : FVec Ideal S32768x2048 .bf16 :=
  fun i => ∑ l : Fin 1024, hrow X g (i 0) l * wb (ix2 l ⟨4096 + (i 1 : ℕ), by have h : (i 1 : ℕ) < 2048 := (i 1).isLt; omega⟩)

/-- The query latents. -/
def cq (X : FVec Ideal S32768x1024 .f32) (g : FVec Ideal S1x1024 .f32) (ws : FVec Ideal S1024x768 .bf16) (qn : FVec Ideal S1x256 .f32) :
    FVec Ideal S32768x256 .bf16 :=
  fun i => InProj.rms (Ideal.ofBits .f32 0x43800000#32) (fun l : Fin 256 => prow X g ws (i 0) ⟨l, by omega⟩) (fun l => qn (ix2 0 l)) (i 1)

/-- The key-value latents. -/
def ckv (X : FVec Ideal S32768x1024 .f32) (g : FVec Ideal S1x1024 .f32) (ws : FVec Ideal S1024x768 .bf16) (kn : FVec Ideal S1x256 .f32) :
    FVec Ideal S32768x256 .bf16 :=
  fun i => InProj.rms (Ideal.ofBits .f32 0x43800000#32) (fun l : Fin 256 => prow X g ws (i 0) ⟨256 + l, by omega⟩) (fun l => kn (ix2 0 l)) (i 1)

/-- The key-value latents transposed, over eight rows of ones. -/
def ckvt (X : FVec Ideal S32768x1024 .f32) (g : FVec Ideal S1x1024 .f32) (ws : FVec Ideal S1024x768 .bf16) (kn : FVec Ideal S1x256 .f32) :
    FVec Ideal S264x32768 .bf16 :=
  fun i => if h : (i 0 : ℕ) < 256 then ckv X g ws kn (ix2 (i 1) ⟨i 0, h⟩) else 1

/-- The index keys. -/
def kidx (X : FVec Ideal S32768x1024 .f32) (g : FVec Ideal S1x1024 .f32) (ws : FVec Ideal S1024x768 .bf16) (a b : FVec Ideal S1x64 .f32) :
    FVec Ideal S32768x64 .bf16 :=
  fun i => InProj.layer (Ideal.ofBits .f32 0x42800000#32) (fun l : Fin 64 => prow X g ws (i 0) ⟨512 + l, by omega⟩) (fun l => a (ix2 0 l))
    (fun l => b (ix2 0 l)) (i 1)

/-- The small per-head numbers, one column for each row of the activations. -/
def misc (X : FVec Ideal S32768x1024 .f32) (g : FVec Ideal S1x1024 .f32) (ws : FVec Ideal S1024x768 .bf16) (na dtb : FVec Ideal S1x128 .f32) :
    FVec Ideal S32x32768 .f32 :=
  fun i => InProj.small (wide fun l => prow X g ws (i 1) ⟨640 + l, by omega⟩) (wide fun l => na (ix2 0 l)) (wide fun l => dtb (ix2 0 l)) (i 0)

end Cert.Kernel4Ideal.Hand

end
-- ==== Proof.Packing.lean ====
module

public import Idealize.ShloMosaic.Lib.Routing.OpsOne

@[expose] public section

noncomputable section

namespace Cert.Packing

open Idealize.ShloMosaic Idealize.ShloMosaic.Routing Idealize.ShloMosaic.ValueIdx

/-- Entry `(a, k)` of a block of columns written from column `o` on lands at `(r, c)` exactly when `a` is `r` and `o + k` is `c`. -/
theorem lands_block {A N U : Nat} (d : ScatterDims (shape2 A N) (shape1 1) (shape2 A U)) (huw : d.updateWindowDims = [0, 1]) (hiw : d.insertedWindowDims = [])
    (hsd : d.scatterDimsToOperandDims = [1]) (hivd : d.indexVectorDim = 0) (idx : IVec (shape1 1) 32) (o : Nat) (hidx : (idx (ix1 0)).toInt = (o : Int))
    (a : Fin A) (k : Fin U) (r : Fin A) (c : Fin N) : d.resultIdx? (ix2 a k) idx = some (ix2 r c) ↔ (a : ℕ) = r ∧ o + (k : ℕ) = c := by
  obtain ⟨uw, iw, sd, iv, wf⟩ := d
  subst huw hiw hsd hivd
  have hwin0 : ScatterDims.window (s := shape2 A N) (si := shape1 1) ⟨[0, 1], [], [1], 0, wf⟩ (ix2 a k) 0 = a.val := rfl
  have hwin1 : ScatterDims.window (s := shape2 A N) (si := shape1 1) ⟨[0, 1], [], [1], 0, wf⟩ (ix2 a k) 1 = k.val := rfl
  have hstart0 : ScatterDims.start (s := shape2 A N) (si := shape1 1) ⟨[0, 1], [], [1], 0, wf⟩ (ix2 a k) idx 0 = 0 := rfl
  have hstart1 : ScatterDims.start (s := shape2 A N) (si := shape1 1) ⟨[0, 1], [], [1], 0, wf⟩ (ix2 a k) idx 1 = (o : Int) := by
    rw [← hidx]
    unfold ScatterDims.start
    rw [dif_pos (by simp)]
    refine congrArg (fun t => (idx t).toInt) (funext fun b' => ?_)
    match b' with
    | ⟨0, _⟩ => exact Subsingleton.elim (α := Fin 1) _ _
  rw [resultIdx?_ix2, hstart0, hwin0, hstart1, hwin1]
  omega

/-- A block of `U` columns written into a matrix from column `o` on, read at an entry: the block's entry inside, the matrix's elsewhere. -/
theorem block_set {α : Type} {A N U : Nat} (d : ScatterDims (shape2 A N) (shape1 1) (shape2 A U)) (huw : d.updateWindowDims = [0, 1])
    (hiw : d.insertedWindowDims = []) (hsd : d.scatterDimsToOperandDims = [1]) (hivd : d.indexVectorDim = 0) (x : (shape2 A N).Idx → α)
    (idx : IVec (shape1 1) 32) (o : Nat) (hidx : (idx (ix1 0)).toInt = (o : Int)) (u : (shape2 A U).Idx → α) (r : Fin A) (c : Fin N) :
    Host.scatter d (fun _ b => b) x idx u (ix2 r c) = if h : o ≤ (c : ℕ) ∧ (c : ℕ) < o + U then u (ix2 r ⟨c - o, by omega⟩) else x (ix2 r c) := by
  have lands : ∀ j : (shape2 A U).Idx, d.resultIdx? j idx = some (ix2 r c) → ((j 0 : Fin A) : ℕ) = r ∧ o + ((j 1 : Fin U) : ℕ) = c := fun j hj =>
    (lands_block d huw hiw hsd hivd idx o hidx (j 0) (j 1) r c).1 ((congrArg (fun t => d.resultIdx? t idx) (eq_ix2 j).symm).trans hj)
  by_cases h : o ≤ (c : ℕ) ∧ (c : ℕ) < o + U
  · rw [dif_pos h]
    refine scatter_set_hit d x idx u _ _ (fun j hj => ?_) (ix2 r ⟨c - o, by omega⟩) ((lands_block d huw hiw hsd hivd idx o hidx _ _ r c).2 ⟨rfl, ?_⟩)
    · obtain ⟨q0, q1⟩ := lands j hj
      refine (congrArg u (eq_ix2 j)).trans (congrArg₂ (fun a b => u (ix2 a b)) (Fin.ext q0) (Fin.ext ?_))
      show ((j 1 : Fin U) : ℕ) = c - o
      omega
    · show o + ((c : ℕ) - o) = c
      omega
  · rw [dif_neg h]
    refine scatter_set_miss d x idx u _ fun j hj => h ?_
    have q := (lands j hj).2
    have hlt : ((j 1 : Fin U) : ℕ) < U := (j 1 : Fin U).isLt
    omega

/-- Entry `k` of a part of a row written at `(i, o)` lands at `(r, c)` exactly when `i` is `r` and `o + k` is `c`. -/
theorem lands_part {A N U : Nat} (d : ScatterDims (shape2 A N) (shape1 2) (shape1 U)) (huw : d.updateWindowDims = [0]) (hiw : d.insertedWindowDims = [0])
    (hsd : d.scatterDimsToOperandDims = [0, 1]) (hivd : d.indexVectorDim = 0) (idx : IVec (shape1 2) 32) (i o : Nat)
    (h0 : (idx (ix1 0)).toInt = (i : Int)) (h1 : (idx (ix1 1)).toInt = (o : Int)) (k : Fin U) (r : Fin A) (c : Fin N) :
    d.resultIdx? (ix1 k) idx = some (ix2 r c) ↔ i = (r : ℕ) ∧ o + (k : ℕ) = c := by
  have hs0 := start_pair d hsd hivd idx (ix1 k) 0
  have hs1 := start_pair d hsd hivd idx (ix1 k) 1
  obtain ⟨uw, iw, sd, iv, wf⟩ := d
  subst huw hiw hsd hivd
  have hwin0 : ScatterDims.window (s := shape2 A N) (si := shape1 2) ⟨[0], [0], [0, 1], 0, wf⟩ (ix1 k) 0 = 0 := rfl
  have hwin1 : ScatterDims.window (s := shape2 A N) (si := shape1 2) ⟨[0], [0], [0, 1], 0, wf⟩ (ix1 k) 1 = k.val := rfl
  rw [resultIdx?_ix2, hs0, hs1, hwin0, hwin1, h0, h1]
  omega

/-- `U` numbers written into a row of a matrix from entry `o` on, read at an entry. -/
theorem part_set {α : Type} {A N U : Nat} (d : ScatterDims (shape2 A N) (shape1 2) (shape1 U)) (huw : d.updateWindowDims = [0])
    (hiw : d.insertedWindowDims = [0]) (hsd : d.scatterDimsToOperandDims = [0, 1]) (hivd : d.indexVectorDim = 0) (x : (shape2 A N).Idx → α)
    (idx : IVec (shape1 2) 32) (i o : Nat) (h0 : (idx (ix1 0)).toInt = (i : Int)) (h1 : (idx (ix1 1)).toInt = (o : Int)) (u : (shape1 U).Idx → α)
    (r : Fin A) (hr : i = (r : ℕ)) (c : Fin N) :
    Host.scatter d (fun _ b => b) x idx u (ix2 r c) = if h : o ≤ (c : ℕ) ∧ (c : ℕ) < o + U then u (ix1 ⟨c - o, by omega⟩) else x (ix2 r c) := by
  have lands : ∀ j : (shape1 U).Idx, d.resultIdx? j idx = some (ix2 r c) → i = (r : ℕ) ∧ o + ((j 0 : Fin U) : ℕ) = c := fun j hj =>
    (lands_part d huw hiw hsd hivd idx i o h0 h1 (j 0) r c).1 ((congrArg (fun t => d.resultIdx? t idx) (eq_ix1 j).symm).trans hj)
  by_cases h : o ≤ (c : ℕ) ∧ (c : ℕ) < o + U
  · rw [dif_pos h]
    refine scatter_set_hit d x idx u _ _ (fun j hj => ?_) (ix1 ⟨c - o, by omega⟩) ((lands_part d huw hiw hsd hivd idx i o h0 h1 _ r c).2 ⟨hr, ?_⟩)
    · have q := (lands j hj).2
      refine (congrArg u (eq_ix1 j)).trans (congrArg (fun a => u (ix1 a)) (Fin.ext ?_))
      show ((j 0 : Fin U) : ℕ) = c - o
      omega
    · show o + ((c : ℕ) - o) = c
      omega
  · rw [dif_neg h]
    refine scatter_set_miss d x idx u _ fun j hj => h ?_
    have q := (lands j hj).2
    have hlt : ((j 0 : Fin U) : ℕ) < U := (j 0 : Fin U).isLt
    omega

end Cert.Packing

end
-- ==== Proof.InProjPack.lean ====
module

public import proofs.«01_k».proof.Proof.InProj
public import proofs.«01_k».proof.Proof.Packing

@[expose] public section

set_option maxRecDepth 16384

noncomputable section

namespace Cert.Kernel4Ideal.Hand

open Cert.Kernel4Ideal Cert.Kernel4Ideal.Gen Idealize.ShloMosaic Idealize.ShloMosaic.TcCoe Idealize.SL.Sem

/-! The packed weights as functions of the layer's weights. -/

/-- The wide matrix: the 4096 columns of the delta rule's inputs, then the 2048 of the gates. -/
def wbig (W : FVec Ideal S1x1024x6744 .f32) : FVec Ideal S1024x6144 .bf16 :=
  fun i => if h : (i 1 : ℕ) < 4096 then W (ix3 0 (i 0) ⟨i 1, by omega⟩)
    else W (ix3 0 (i 0) ⟨4696 + ((i 1 : ℕ) - 4096), by have h : (i 1 : ℕ) < 6144 := (i 1).isLt; omega⟩)

/-- The narrow matrix: the latents' and the index keys' columns, and from column 640 on the index weights', the write strengths' and the decays'. -/
def wsmall (W : FVec Ideal S1x1024x6744 .f32) : FVec Ideal S1024x768 .bf16 :=
  fun i => if h : (i 1 : ℕ) < 576 then W (ix3 0 (i 0) ⟨4112 + (i 1 : ℕ), by omega⟩)
    else if h : 640 ≤ (i 1 : ℕ) ∧ (i 1 : ℕ) < 648 then W (ix3 0 (i 0) ⟨4688 + ((i 1 : ℕ) - 640), by omega⟩)
    else if h : 648 ≤ (i 1 : ℕ) ∧ (i 1 : ℕ) < 656 then W (ix3 0 (i 0) ⟨4096 + ((i 1 : ℕ) - 648), by omega⟩)
    else if h : 656 ≤ (i 1 : ℕ) ∧ (i 1 : ℕ) < 664 then W (ix3 0 (i 0) ⟨4104 + ((i 1 : ℕ) - 656), by omega⟩)
    else 0

/-- The row of negated decay rates, at entries 16 to 23. -/
def nega (A : FVec Ideal S1x8 .f32) : FVec Ideal S1x128 .f32 :=
  fun i => if h : 16 ≤ (i 1 : ℕ) ∧ (i 1 : ℕ) < 16 + 8 then -Ideal.exp (A (ix2 0 ⟨(i 1 : ℕ) - 16, by omega⟩)) else 0

/-- The row of decay biases, at entries 16 to 23. -/
def dtbp (B : FVec Ideal S1x8 .f32) : FVec Ideal S1x128 .f32 :=
  fun i => if h : 16 ≤ (i 1 : ℕ) ∧ (i 1 : ℕ) < 16 + 8 then B (ix2 0 ⟨(i 1 : ℕ) - 16, by omega⟩) else 0

/-! The host code packs them so. -/

/-- The wide matrix as the host code packs it. -/
def hostBig (W : FVec Ideal S1x1024x6744 .f32) : FVec Ideal S1024x6144 .bf16 :=
  truncf .bf16 (concatenate S1024x6144 1
    [⟨S1024x4096, (extractStridedSlice S1024x4096 ![0, 0] (shapeCast S1024x6744 W shapeCasts_S1x1024x6744_S1024x6744) slices_S1024x6744_S1024x4096_0_0 : FVec Ideal S1024x4096 .f32)⟩,
      ⟨S1024x2048, (extractStridedSlice S1024x2048 ![0, 4696] (shapeCast S1024x6744 W shapeCasts_S1x1024x6744_S1024x6744) slices_S1024x6744_S1024x2048_0_4696 : FVec Ideal S1024x2048 .f32)⟩]
    concatenates_S1024x4096_S1024x2048_S1024x6144_d1) bitsLt_bf16_f32

theorem hostBig_eq (W : FVec Ideal S1x1024x6744 .f32) : hostBig W = wbig W := by
  funext i
  idx_vars i
  pointwise [hostBig, wbig]

/-- The index of a column at which a block is written. -/
def at1 (o : BitVec 32) : IVec S1 32 := broadcastInDim S1 ![] bcast_S_S1 (constantI S_ 32 o)

/-- The narrow matrix as the host code packs it: blocks of columns written one after another into zeros. -/
def hostSmall (W : FVec Ideal S1x1024x6744 .f32) : FVec Ideal S1024x768 .bf16 :=
  let wl : FVec Ideal S1024x6744 .f32 := shapeCast S1024x6744 W shapeCasts_S1x1024x6744_S1024x6744
  truncf .bf16 (Host.scatter scatter_S1024x768_S1_S1024x8_01_n_1_0 (fun _ b => b)
    (Host.scatter scatter_S1024x768_S1_S1024x8_01_n_1_0 (fun _ b => b)
      (Host.scatter scatter_S1024x768_S1_S1024x8_01_n_1_0 (fun _ b => b)
        (Host.scatter scatter_S1024x768_S1_S1024x64_01_n_1_0 (fun _ b => b)
          (Host.scatter scatter_S1024x768_S1_S1024x256_01_n_1_0 (fun _ b => b)
            (Host.scatter scatter_S1024x768_S1_S1024x256_01_n_1_0 (fun _ b => b)
              (broadcastInDim S1024x768 ![] bcast_S_S1024x768 (constant S_ .f32 0x00000000#32) : FVec Ideal S1024x768 .f32)
              (at1 0#32) (extractStridedSlice S1024x256 ![0, 4112] wl slices_S1024x6744_S1024x256_0_4112))
            (at1 256#32) (extractStridedSlice S1024x256 ![0, 4368] wl slices_S1024x6744_S1024x256_0_4368))
          (at1 512#32) (extractStridedSlice S1024x64 ![0, 4624] wl slices_S1024x6744_S1024x64_0_4624))
        (at1 640#32) (extractStridedSlice S1024x8 ![0, 4688] wl slices_S1024x6744_S1024x8_0_4688))
      (at1 648#32) (extractStridedSlice S1024x8 ![0, 4096] wl slices_S1024x6744_S1024x8_0_4096))
    (at1 656#32) (extractStridedSlice S1024x8 ![0, 4104] wl slices_S1024x6744_S1024x8_0_4104)) bitsLt_bf16_f32

theorem put256 (x : FVec Ideal S1024x768 .f32) (o : BitVec 32) (n : ℕ) (hn : o.toInt = (n : Int)) (u : FVec Ideal S1024x256 .f32) (l : Fin 1024) (k : Fin 768) :
    Host.scatter scatter_S1024x768_S1_S1024x256_01_n_1_0 (fun _ b => b) x (at1 o) u (ix2 l k)
      = if h : n ≤ (k : ℕ) ∧ (k : ℕ) < n + 256 then u (ix2 l ⟨k - n, by omega⟩) else x (ix2 l k) :=
  Packing.block_set scatter_S1024x768_S1_S1024x256_01_n_1_0 rfl rfl rfl rfl x (at1 o) n hn u l k

theorem put64 (x : FVec Ideal S1024x768 .f32) (o : BitVec 32) (n : ℕ) (hn : o.toInt = (n : Int)) (u : FVec Ideal S1024x64 .f32) (l : Fin 1024) (k : Fin 768) :
    Host.scatter scatter_S1024x768_S1_S1024x64_01_n_1_0 (fun _ b => b) x (at1 o) u (ix2 l k)
      = if h : n ≤ (k : ℕ) ∧ (k : ℕ) < n + 64 then u (ix2 l ⟨k - n, by omega⟩) else x (ix2 l k) :=
  Packing.block_set scatter_S1024x768_S1_S1024x64_01_n_1_0 rfl rfl rfl rfl x (at1 o) n hn u l k

theorem put8 (x : FVec Ideal S1024x768 .f32) (o : BitVec 32) (n : ℕ) (hn : o.toInt = (n : Int)) (u : FVec Ideal S1024x8 .f32) (l : Fin 1024) (k : Fin 768) :
    Host.scatter scatter_S1024x768_S1_S1024x8_01_n_1_0 (fun _ b => b) x (at1 o) u (ix2 l k)
      = if h : n ≤ (k : ℕ) ∧ (k : ℕ) < n + 8 then u (ix2 l ⟨k - n, by omega⟩) else x (ix2 l k) :=
  Packing.block_set scatter_S1024x768_S1_S1024x8_01_n_1_0 rfl rfl rfl rfl x (at1 o) n hn u l k

theorem hostSmall_eq (W : FVec Ideal S1x1024x6744 .f32) : hostSmall W = wsmall W := by
  funext i
  idx_vars i
  pointwise [hostSmall, wsmall, put8 _ 656#32 656 rfl, put8 _ 648#32 648 rfl, put8 _ 640#32 640 rfl, put64 _ 512#32 512 rfl, put256 _ 256#32 256 rfl, put256 _ 0#32 0 rfl]
  split_ifs <;> first
    | rfl
    | (exfalso; omega)
    | exact congrArg (fun j => W (ix3 0 i0 j)) (Fin.ext (by simp only []; omega))

/-- The place in a row at which numbers are written. -/
def at2 (o : BitVec 32) : IVec S2 32 := concatenate S2 0 [⟨S1, at1 0#32⟩, ⟨S1, at1 o⟩] concatenates_S1_S1_S2_d0

theorem putRow (x : FVec Ideal S1x128 .f32) (u : FVec Ideal S8 .f32) (k : Fin 128) :
    Host.scatter scatter_S1x128_S2_S8_0_0_01_0 (fun _ b => b) x (at2 16#32) u (ix2 0 k)
      = if h : 16 ≤ (k : ℕ) ∧ (k : ℕ) < 16 + 8 then u (ix1 ⟨k - 16, by omega⟩) else x (ix2 0 k) :=
  Packing.part_set scatter_S1x128_S2_S8_0_0_01_0 rfl rfl rfl rfl x (at2 16#32) 0 16 rfl rfl u 0 rfl k

/-- The row of negated decay rates as the host code packs it. -/
def hostNega (A : FVec Ideal S1x8 .f32) : FVec Ideal S1x128 .f32 :=
  Host.scatter scatter_S1x128_S2_S8_0_0_01_0 (fun _ b => b) (broadcastInDim S1x128 ![] bcast_S_S1x128 (constant S_ .f32 0x00000000#32) : FVec Ideal S1x128 .f32)
    (at2 16#32) (Host.negf (Host.exp (shapeCast S8 A shapeCasts_S1x8_S8)))

theorem hostNega_eq (A : FVec Ideal S1x8 .f32) : hostNega A = nega A := by
  funext i
  idx_vars i
  obtain rfl : i0 = 0 := Subsingleton.elim _ _
  pointwise [hostNega, nega, putRow]

/-- The row of decay biases as the host code packs it. -/
def hostDtbp (B : FVec Ideal S1x8 .f32) : FVec Ideal S1x128 .f32 :=
  Host.scatter scatter_S1x128_S2_S8_0_0_01_0 (fun _ b => b) (broadcastInDim S1x128 ![] bcast_S_S1x128 (constant S_ .f32 0x00000000#32) : FVec Ideal S1x128 .f32)
    (at2 16#32) (shapeCast S8 B shapeCasts_S1x8_S8)

theorem hostDtbp_eq (B : FVec Ideal S1x8 .f32) : hostDtbp B = dtbp B := by
  funext i
  idx_vars i
  obtain rfl : i0 = 0 := Subsingleton.elim _ _
  pointwise [hostDtbp, dtbp, putRow]

end Cert.Kernel4Ideal.Hand

end
-- ==== Proof.InProjRef.lean ====
module

public import proofs.«01_k».proof.Proof.InProjPack
public import proofs.«01_k».proof.Proof.Gen.Reference4Ideal.Run

@[expose] public section

set_option maxRecDepth 16384

noncomputable section

namespace Cert.Reference4Ideal.Hand

open Cert.Reference4Ideal Cert.Reference4Ideal.Gen Idealize.ShloMosaic Idealize.ShloMosaic.TcCoe Idealize.SL.Sem

/-- The normalised rows. -/
def normed (X : FVec Ideal S32768x1024 .f32) (g : FVec Ideal S1x1024 .f32) : FVec Ideal S32768x1024 .f32 :=
  (mulf (mulf X (broadcastInDim S32768x1024 ![0, 1] bcast_S32768x1_S32768x1024_0_1 (Host.rsqrt (addf (Host.divf (broadcastInDim S32768x1 ![0] bcast_S32768_S32768x1_0 (Host.reduceAdd (mulf X X) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (shapeCast _ g shapeCasts_S1x1024_S1024))))

theorem normed_at (X : FVec Ideal S32768x1024 .f32) (g : FVec Ideal S1x1024 .f32) (n : Fin 32768) (k : Fin 1024) : normed X g (ix2 n k) = Kernel4Ideal.Hand.hrow X g n k := by
  pointwise [normed, Kernel4Ideal.Hand.hrow, Ffn.rms]

/-- The projection onto all the columns. -/
def proj (X : FVec Ideal S32768x1024 .f32) (g : FVec Ideal S1x1024 .f32) (W : FVec Ideal S1x1024x6744 .f32) : FVec Ideal S32768x6744 .f32 :=
  Host.dotGeneral dot_S32768x1024_S1024x6744_S32768x6744_1_0_0_1_n_n none (normed X g) (shapeCast S1024x6744 W shapeCasts_S1x1024x6744_S1024x6744)

theorem proj_at (X : FVec Ideal S32768x1024 .f32) (g : FVec Ideal S1x1024 .f32) (W : FVec Ideal S1x1024x6744 .f32) (n : Fin 32768) (k : Fin 6744) :
    proj X g W (ix2 n k) = ∑ l : Fin 1024, Kernel4Ideal.Hand.hrow X g n l * W (ix3 0 l k) := by
  pointwise [proj, normed_at]

/-! The packed matrix's columns are the projection's. -/

theorem prow_low (X : FVec Ideal S32768x1024 .f32) (g : FVec Ideal S1x1024 .f32) (W : FVec Ideal S1x1024x6744 .f32) (n : Fin 32768) (k : Fin 768) (j : Fin 6744) (hk : (k : ℕ) < 576) (hj : (j : ℕ) = 4112 + (k : ℕ)) :
    Kernel4Ideal.Hand.prow X g (Kernel4Ideal.Hand.wsmall W) n k = proj X g W (ix2 n j) := by
  rw [proj_at]
  refine Finset.sum_congr rfl fun l _ => congrArg (fun v => Kernel4Ideal.Hand.hrow X g n l * v) ?_
  show (if h : (k : ℕ) < 576 then _ else _) = _
  rw [dif_pos hk]
  exact congrArg (fun q => W (ix3 0 l q)) (Fin.ext hj.symm)

theorem prow_weight (X : FVec Ideal S32768x1024 .f32) (g : FVec Ideal S1x1024 .f32) (W : FVec Ideal S1x1024x6744 .f32) (n : Fin 32768) (k : Fin 768) (j : Fin 6744) (h0 : 640 ≤ (k : ℕ)) (h1 : (k : ℕ) < 648) (hj : (j : ℕ) = 4688 + ((k : ℕ) - 640)) :
    Kernel4Ideal.Hand.prow X g (Kernel4Ideal.Hand.wsmall W) n k = proj X g W (ix2 n j) := by
  rw [proj_at]
  refine Finset.sum_congr rfl fun l _ => congrArg (fun v => Kernel4Ideal.Hand.hrow X g n l * v) ?_
  show (if h : (k : ℕ) < 576 then _ else if h : 640 ≤ (k : ℕ) ∧ (k : ℕ) < 648 then _ else if h : 648 ≤ (k : ℕ) ∧ (k : ℕ) < 656 then _
    else if h : 656 ≤ (k : ℕ) ∧ (k : ℕ) < 664 then _ else _) = _
  rw [dif_neg (by omega)]
  rw [dif_pos ⟨h0, h1⟩]
  exact congrArg (fun q => W (ix3 0 l q)) (Fin.ext hj.symm)

theorem prow_strength (X : FVec Ideal S32768x1024 .f32) (g : FVec Ideal S1x1024 .f32) (W : FVec Ideal S1x1024x6744 .f32) (n : Fin 32768) (k : Fin 768) (j : Fin 6744) (h0 : 648 ≤ (k : ℕ)) (h1 : (k : ℕ) < 656) (hj : (j : ℕ) = 4096 + ((k : ℕ) - 648)) :
    Kernel4Ideal.Hand.prow X g (Kernel4Ideal.Hand.wsmall W) n k = proj X g W (ix2 n j) := by
  rw [proj_at]
  refine Finset.sum_congr rfl fun l _ => congrArg (fun v => Kernel4Ideal.Hand.hrow X g n l * v) ?_
  show (if h : (k : ℕ) < 576 then _ else if h : 640 ≤ (k : ℕ) ∧ (k : ℕ) < 648 then _ else if h : 648 ≤ (k : ℕ) ∧ (k : ℕ) < 656 then _
    else if h : 656 ≤ (k : ℕ) ∧ (k : ℕ) < 664 then _ else _) = _
  rw [dif_neg (by omega)]
  rw [dif_neg (by omega)]
  rw [dif_pos ⟨h0, h1⟩]
  exact congrArg (fun q => W (ix3 0 l q)) (Fin.ext hj.symm)

theorem prow_decay (X : FVec Ideal S32768x1024 .f32) (g : FVec Ideal S1x1024 .f32) (W : FVec Ideal S1x1024x6744 .f32) (n : Fin 32768) (k : Fin 768) (j : Fin 6744) (h0 : 656 ≤ (k : ℕ)) (h1 : (k : ℕ) < 664) (hj : (j : ℕ) = 4104 + ((k : ℕ) - 656)) :
    Kernel4Ideal.Hand.prow X g (Kernel4Ideal.Hand.wsmall W) n k = proj X g W (ix2 n j) := by
  rw [proj_at]
  refine Finset.sum_congr rfl fun l _ => congrArg (fun v => Kernel4Ideal.Hand.hrow X g n l * v) ?_
  show (if h : (k : ℕ) < 576 then _ else if h : 640 ≤ (k : ℕ) ∧ (k : ℕ) < 648 then _ else if h : 648 ≤ (k : ℕ) ∧ (k : ℕ) < 656 then _
    else if h : 656 ≤ (k : ℕ) ∧ (k : ℕ) < 664 then _ else _) = _
  rw [dif_neg (by omega)]
  rw [dif_neg (by omega), dif_neg (by omega)]
  rw [dif_pos ⟨h0, h1⟩]
  exact congrArg (fun q => W (ix3 0 l q)) (Fin.ext hj.symm)

/-- The gates. -/
theorem gates_eq (X : FVec Ideal S32768x1024 .f32) (g : FVec Ideal S1x1024 .f32) (W : FVec Ideal S1x1024x6744 .f32) :
    (truncf .bf16 (extractStridedSlice S32768x2048 ![0, 4696] (proj X g W) slices_S32768x6744_S32768x2048_0_4696) bitsLt_bf16_f32 : FVec Ideal S32768x2048 .bf16)
      = Kernel4Ideal.Hand.gates X g (Kernel4Ideal.Hand.wbig W) := by
  funext i
  idx_vars i
  pointwise [proj_at, Kernel4Ideal.Hand.gates, Kernel4Ideal.Hand.wbig]

/-- 256 columns of the projection, normalised. -/
def latent (Y : FVec Ideal S32768x256 .f32) (w : FVec Ideal S1x256 .f32) : FVec Ideal S32768x256 .f32 :=
  (mulf (mulf Y (broadcastInDim S32768x256 ![0, 1] bcast_S32768x1_S32768x256_0_1 (Host.rsqrt (addf (Host.divf (broadcastInDim S32768x1 ![0] bcast_S32768_S32768x1_0 (Host.reduceAdd (mulf Y Y) (constant S_ .f32 0x00000000#32) reducesTo_S32768x256_S32768_d1 h_S_)) (broadcastInDim S32768x1 ![] bcast_S_S32768x1 (constant S_ .f32 0x43800000#32))) (broadcastInDim S32768x1 ![] bcast_S_S32768x1 (constant S_ .f32 0x358637BD#32)))))) (broadcastInDim S32768x256 ![0, 1] bcast_S1x256_S32768x256_0_1 (broadcastInDim S1x256 ![1] bcast_S256_S1x256_1 (shapeCast _ w shapeCasts_S1x256_S256))))

theorem latent_at (Y : FVec Ideal S32768x256 .f32) (w : FVec Ideal S1x256 .f32) (n : Fin 32768) (k : Fin 256) :
    latent Y w (ix2 n k) = InProj.rms (Ideal.ofBits .f32 0x43800000#32) (fun l : Fin 256 => Y (ix2 n l)) (fun l => w (ix2 0 l)) k := by
  pointwise [latent, InProj.rms]

theorem cq_eq (X : FVec Ideal S32768x1024 .f32) (g : FVec Ideal S1x1024 .f32) (W : FVec Ideal S1x1024x6744 .f32) (w : FVec Ideal S1x256 .f32) :
    (truncf .bf16 (latent (extractStridedSlice S32768x256 ![0, 4112] (proj X g W) slices_S32768x6744_S32768x256_0_4112) w) bitsLt_bf16_f32 : FVec Ideal S32768x256 .bf16)
      = Kernel4Ideal.Hand.cq X g (Kernel4Ideal.Hand.wsmall W) w := by
  funext i
  idx_vars i
  refine (latent_at _ w i0 i1).trans ?_
  refine congrArg (fun f => InProj.rms (Ideal.ofBits .f32 0x43800000#32) f (fun l => w (ix2 0 l)) i1) (funext fun l => ?_)
  pointwise []
  exact (prow_low X g W i0 _ _ (by simp only []; omega) (by simp only [])).symm

theorem ckv_eq (X : FVec Ideal S32768x1024 .f32) (g : FVec Ideal S1x1024 .f32) (W : FVec Ideal S1x1024x6744 .f32) (w : FVec Ideal S1x256 .f32) :
    (truncf .bf16 (latent (extractStridedSlice S32768x256 ![0, 4368] (proj X g W) slices_S32768x6744_S32768x256_0_4368) w) bitsLt_bf16_f32 : FVec Ideal S32768x256 .bf16)
      = Kernel4Ideal.Hand.ckv X g (Kernel4Ideal.Hand.wsmall W) w := by
  funext i
  idx_vars i
  refine (latent_at _ w i0 i1).trans ?_
  refine congrArg (fun f => InProj.rms (Ideal.ofBits .f32 0x43800000#32) f (fun l => w (ix2 0 l)) i1) (funext fun l => ?_)
  pointwise []
  exact (prow_low X g W i0 _ _ (by simp only []; omega) (by simp only []; omega)).symm

theorem ckvt_eq (X : FVec Ideal S32768x1024 .f32) (g : FVec Ideal S1x1024 .f32) (W : FVec Ideal S1x1024x6744 .f32) (w : FVec Ideal S1x256 .f32) :
    (truncf .bf16 (concatenate S264x32768 0 [⟨S256x32768, (transpose S256x32768 [1, 0] (latent (extractStridedSlice S32768x256 ![0, 4368] (proj X g W) slices_S32768x6744_S32768x256_0_4368) w) transposes_S32768x256_S256x32768_1_0 : FVec Ideal S256x32768 .f32)⟩, ⟨S8x32768, (broadcastInDim S8x32768 ![] bcast_S_S8x32768 (constant S_ .f32 0x3F800000#32) : FVec Ideal S8x32768 .f32)⟩] concatenates_S256x32768_S8x32768_S264x32768_d0) bitsLt_bf16_f32 : FVec Ideal S264x32768 .bf16)
      = Kernel4Ideal.Hand.ckvt X g (Kernel4Ideal.Hand.wsmall W) w := by
  funext i
  idx_vars i
  show _ = (if h : (i0 : ℕ) < 256 then Kernel4Ideal.Hand.ckv X g (Kernel4Ideal.Hand.wsmall W) w (ix2 i1 ⟨i0, h⟩) else 1)
  rw [← ckv_eq]
  pointwise []

/-- Rows of 64 less their means. -/
def centred (Y : FVec Ideal S32768x64 .f32) : FVec Ideal S32768x64 .f32 :=
  (subf Y (broadcastInDim S32768x64 ![0, 1] bcast_S32768x1_S32768x64_0_1 (Host.divf (broadcastInDim S32768x1 ![0] bcast_S32768_S32768x1_0 (Host.reduceAdd Y (constant S_ .f32 0x00000000#32) reducesTo_S32768x64_S32768_d1 h_S_)) (broadcastInDim S32768x1 ![] bcast_S_S32768x1 (constant S_ .f32 0x42800000#32)))))

/-- The layer normalisation of rows of 64. -/
def layered (Y : FVec Ideal S32768x64 .f32) (a b : FVec Ideal S1x64 .f32) : FVec Ideal S32768x64 .bf16 :=
  truncf .bf16 (addf (mulf (mulf (centred Y) (broadcastInDim S32768x64 ![0, 1] bcast_S32768x1_S32768x64_0_1 (Host.rsqrt (addf (Host.divf (broadcastInDim S32768x1 ![0] bcast_S32768_S32768x1_0 (Host.reduceAdd (mulf (centred Y) (centred Y)) (constant S_ .f32 0x00000000#32) reducesTo_S32768x64_S32768_d1 h_S_)) (broadcastInDim S32768x1 ![] bcast_S_S32768x1 (constant S_ .f32 0x42800000#32))) (broadcastInDim S32768x1 ![] bcast_S_S32768x1 (constant S_ .f32 0x358637BD#32)))))) (broadcastInDim S32768x64 ![0, 1] bcast_S1x64_S32768x64_0_1 (broadcastInDim S1x64 ![1] bcast_S64_S1x64_1 (shapeCast _ a shapeCasts_S1x64_S64)))) (broadcastInDim S32768x64 ![0, 1] bcast_S1x64_S32768x64_0_1 (broadcastInDim S1x64 ![1] bcast_S64_S1x64_1 (shapeCast _ b shapeCasts_S1x64_S64)))) bitsLt_bf16_f32

theorem layered_at (Y : FVec Ideal S32768x64 .f32) (a b : FVec Ideal S1x64 .f32) (n : Fin 32768) (k : Fin 64) :
    layered Y a b (ix2 n k)
      = InProj.layer (Ideal.ofBits .f32 0x42800000#32) (fun l : Fin 64 => Y (ix2 n l)) (fun l => a (ix2 0 l)) (fun l => b (ix2 0 l)) k := by
  pointwise [layered, centred, InProj.layer, InProj.mean]

theorem kidx_eq (X : FVec Ideal S32768x1024 .f32) (g : FVec Ideal S1x1024 .f32) (W : FVec Ideal S1x1024x6744 .f32) (a b : FVec Ideal S1x64 .f32) :
    layered (extractStridedSlice S32768x64 ![0, 4624] (proj X g W) slices_S32768x6744_S32768x64_0_4624) a b = Kernel4Ideal.Hand.kidx X g (Kernel4Ideal.Hand.wsmall W) a b := by
  funext i
  idx_vars i
  refine (layered_at _ a b i0 i1).trans ?_
  refine congrArg (fun f => InProj.layer (Ideal.ofBits .f32 0x42800000#32) f (fun l => a (ix2 0 l)) (fun l => b (ix2 0 l)) i1) (funext fun l => ?_)
  pointwise []
  exact (prow_low X g W i0 _ _ (by simp only []; omega) (by simp only []; omega)).symm

/-- The softplus function of eight numbers a row. -/
def soft (Z : FVec Ideal S32768x8 .f32) : FVec Ideal S32768x8 .f32 :=
  (select (cmpf .une (subf Z (broadcastInDim S32768x8 ![] bcast_S_S32768x8 (constant S_ .f32 0x00000000#32))) (subf Z (broadcastInDim S32768x8 ![] bcast_S_S32768x8 (constant S_ .f32 0x00000000#32)))) (addf Z (broadcastInDim S32768x8 ![] bcast_S_S32768x8 (constant S_ .f32 0x00000000#32))) (addf (maximumf Z (broadcastInDim S32768x8 ![] bcast_S_S32768x8 (constant S_ .f32 0x00000000#32))) (Host.log1p (Host.exp (Host.negf (Host.absf (subf Z (broadcastInDim S32768x8 ![] bcast_S_S32768x8 (constant S_ .f32 0x00000000#32)))))))))

theorem soft_at (Z : FVec Ideal S32768x8 .f32) (n : Fin 32768) (k : Fin 8) : soft Z (ix2 n k) = InProj.softplus (Z (ix2 n k)) := by
  pointwise [soft, InProj.softplus]
  rw [if_neg (by simp), zero_sub]
  rfl

/-- The small per-head numbers. -/
def misc (P : FVec Ideal S32768x6744 .f32) (A B : FVec Ideal S1x8 .f32) : FVec Ideal S32x32768 .f32 :=
  transpose S32x32768 [1, 0] ((concatenate S32768x32 1 [⟨S32768x8, ((mulf (extractStridedSlice S32768x8 ![0, 4688] P slices_S32768x6744_S32768x8_0_4688) (broadcastInDim S32768x8 ![] bcast_S_S32768x8 (constant S_ .f32 0x3D3504F3#32))) : FVec Ideal S32768x8 .f32)⟩, ⟨S32768x8, ((Host.divf (broadcastInDim S32768x8 ![] bcast_S_S32768x8 (constant S_ .f32 0x3F800000#32)) (addf (broadcastInDim S32768x8 ![] bcast_S_S32768x8 (constant S_ .f32 0x3F800000#32)) (Host.exp (Host.negf (extractStridedSlice S32768x8 ![0, 4096] P slices_S32768x6744_S32768x8_0_4096))))) : FVec Ideal S32768x8 .f32)⟩, ⟨S32768x8, ((mulf (broadcastInDim S32768x8 ![0, 1] bcast_S1x8_S32768x8_0_1 (broadcastInDim S1x8 ![1] bcast_S8_S1x8_1 (Host.negf (Host.exp (shapeCast _ A shapeCasts_S1x8_S8))))) (soft (addf (extractStridedSlice S32768x8 ![0, 4104] P slices_S32768x6744_S32768x8_0_4104) (broadcastInDim S32768x8 ![0, 1] bcast_S1x8_S32768x8_0_1 (broadcastInDim S1x8 ![1] bcast_S8_S1x8_1 (shapeCast _ B shapeCasts_S1x8_S8)))))) : FVec Ideal S32768x8 .f32)⟩, ⟨S32768x8, ((broadcastInDim S32768x8 ![] bcast_S_S32768x8 (constant S_ .f32 0x00000000#32)) : FVec Ideal S32768x8 .f32)⟩] concatenates_S32768x8_S32768x8_S32768x8_S32768x8_S32768x32_d1 : FVec Ideal S32768x32 .f32)) transposes_S32768x32_S32x32768_1_0

theorem nega_at (A : FVec Ideal S1x8 .f32) (k : Fin 128) (j : Fin 8) (h : (k : ℕ) = 16 + (j : ℕ)) : Kernel4Ideal.Hand.nega A (ix2 0 k) = -Ideal.exp (A (ix2 0 j)) := by
  show (if h : 16 ≤ (k : ℕ) ∧ (k : ℕ) < 16 + 8 then _ else _) = _
  rw [dif_pos (by omega)]
  exact congrArg (fun q => -Ideal.exp (A (ix2 0 q))) (Fin.ext (by show (k : ℕ) - 16 = j; omega))

theorem dtbp_at (B : FVec Ideal S1x8 .f32) (k : Fin 128) (j : Fin 8) (h : (k : ℕ) = 16 + (j : ℕ)) : Kernel4Ideal.Hand.dtbp B (ix2 0 k) = B (ix2 0 j) := by
  show (if h : 16 ≤ (k : ℕ) ∧ (k : ℕ) < 16 + 8 then _ else _) = _
  rw [dif_pos (by omega)]
  exact congrArg (fun q => B (ix2 0 q)) (Fin.ext (by show (k : ℕ) - 16 = j; omega))

theorem misc_eq (X : FVec Ideal S32768x1024 .f32) (g : FVec Ideal S1x1024 .f32) (W : FVec Ideal S1x1024x6744 .f32) (A B : FVec Ideal S1x8 .f32) :
    misc (proj X g W) A B = Kernel4Ideal.Hand.misc X g (Kernel4Ideal.Hand.wsmall W) (Kernel4Ideal.Hand.nega A) (Kernel4Ideal.Hand.dtbp B) := by
  funext i
  idx_vars i
  pointwise [misc, Kernel4Ideal.Hand.misc, soft_at, InProj.small, Kernel4Ideal.Hand.wide, Ideal.logistic]
  have h128 : (i0 : ℕ) < 128 := by omega
  simp only [dif_pos h128]
  by_cases c8 : (i0 : ℕ) < 8
  · rw [dif_pos c8, if_pos c8, prow_weight X g W i1 ⟨640 + i0, by omega⟩ ⟨4688 + i0, by omega⟩ (by simp only []; omega) (by simp only []; omega) (by simp only []; omega)]
  rw [dif_neg c8, if_neg c8]
  by_cases c16 : (i0 : ℕ) < 16
  · rw [dif_pos (by omega), if_pos c16, prow_strength X g W i1 ⟨640 + i0, by omega⟩ ⟨4096 + (i0 - 8), by omega⟩ (by simp only []; omega) (by simp only []; omega) (by simp only []; omega)]
  rw [dif_neg (by omega), if_neg c16]
  by_cases c24 : (i0 : ℕ) < 24
  · rw [dif_pos (by omega), if_pos c24, prow_decay X g W i1 ⟨640 + i0, by omega⟩ ⟨4104 + (i0 - 8 - 8), by omega⟩ (by simp only []; omega) (by simp only []; omega) (by simp only []; omega),
      nega_at A ⟨i0, h128⟩ ⟨i0 - 8 - 8, by omega⟩ (by simp only []; omega), dtbp_at B ⟨i0, h128⟩ ⟨i0 - 8 - 8, by omega⟩ (by simp only []; omega)]
  · rw [dif_neg (by omega), if_neg c24]

/-- The reference's run, its results the specification's of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v61) = Kernel4Ideal.Hand.gates (m ((c.tc : Thread nD τ).loc main_arg0)) (m ((c.tc : Thread nD τ).loc main_arg1)) (Kernel4Ideal.Hand.wbig (m ((c.tc : Thread nD τ).loc main_arg2)))
      ∧ r.2.mem ((c.tc : Thread nD τ).loc main_v76) = Kernel4Ideal.Hand.cq (m ((c.tc : Thread nD τ).loc main_arg0)) (m ((c.tc : Thread nD τ).loc main_arg1)) (Kernel4Ideal.Hand.wsmall (m ((c.tc : Thread nD τ).loc main_arg2))) (m ((c.tc : Thread nD τ).loc main_arg3))
      ∧ r.2.mem ((c.tc : Thread nD τ).loc main_v77) = Kernel4Ideal.Hand.ckv (m ((c.tc : Thread nD τ).loc main_arg0)) (m ((c.tc : Thread nD τ).loc main_arg1)) (Kernel4Ideal.Hand.wsmall (m ((c.tc : Thread nD τ).loc main_arg2))) (m ((c.tc : Thread nD τ).loc main_arg4))
      ∧ r.2.mem ((c.tc : Thread nD τ).loc main_v78) = Kernel4Ideal.Hand.ckvt (m ((c.tc : Thread nD τ).loc main_arg0)) (m ((c.tc : Thread nD τ).loc main_arg1)) (Kernel4Ideal.Hand.wsmall (m ((c.tc : Thread nD τ).loc main_arg2))) (m ((c.tc : Thread nD τ).loc main_arg4))
      ∧ r.2.mem ((c.tc : Thread nD τ).loc main_v105) = Kernel4Ideal.Hand.kidx (m ((c.tc : Thread nD τ).loc main_arg0)) (m ((c.tc : Thread nD τ).loc main_arg1)) (Kernel4Ideal.Hand.wsmall (m ((c.tc : Thread nD τ).loc main_arg2))) (m ((c.tc : Thread nD τ).loc main_arg5)) (m ((c.tc : Thread nD τ).loc main_arg6))
      ∧ r.2.mem ((c.tc : Thread nD τ).loc main_v106) = Kernel4Ideal.Hand.misc (m ((c.tc : Thread nD τ).loc main_arg0)) (m ((c.tc : Thread nD τ).loc main_arg1)) (Kernel4Ideal.Hand.wsmall (m ((c.tc : Thread nD τ).loc main_arg2))) (Kernel4Ideal.Hand.nega (m ((c.tc : Thread nD τ).loc main_arg7))) (Kernel4Ideal.Hand.dtbp (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => by
    obtain ⟨h0, h1, h2, h3, h4, h5, hr⟩ := h c
    exact ⟨h0.trans (gates_eq _ _ _), h1.trans (cq_eq _ _ _ _), h2.trans (ckv_eq _ _ _ _), h3.trans (ckvt_eq _ _ _ _), h4.trans (kidx_eq _ _ _ _ _),
      h5.trans (misc_eq _ _ _ _ _), hr⟩) (Value.run (F := Ideal) m ρ)

end Cert.Reference4Ideal.Hand

end
-- ==== Proof.InProjRun.lean ====
module

public import proofs.«01_k».proof.Defs
public import proofs.«01_k».proof.Proof.InProjPack
public import proofs.«01_k».proof.Proof.Gen.Kernel4Ideal.Value
public import Idealize.ShloMosaic.Lib.Pipeline.ValueKit
public import Idealize.ShloMosaic.Lib.Pipeline.ReadBack

@[expose] public section

set_option maxRecDepth 16384

noncomputable section

namespace Cert.Kernel4Ideal.Hand

open Cert.Kernel4Ideal Cert.Kernel4Ideal.Gen Idealize.ShloMosaic Idealize.ShloMosaic.TcCoe Idealize.SL.Sem

/-- The gates of a block of 512 normalised rows. -/
def blockGates (h : FVec Ideal S512x1024 .bf16) (wb : FVec Ideal S1024x6144 .bf16) : FVec Ideal S512x2048 .bf16 :=
  fun y => ∑ l : Fin 1024, h (ix2 (y 0) l) * wb (ix2 l ⟨4096 + (y 1 : ℕ), by have h : (y 1 : ℕ) < 2048 := (y 1).isLt; omega⟩)

/-- A store of 512 of its columns is a block of the gates. -/
theorem piece (h : FVec Ideal S512x1024 .bf16) (wb : FVec Ideal S1024x6144 .bf16) (o : ℕ)
    (hb : ∀ d, ![0, 4096 + o] d + ![1024, 512] d ≤ S1024x6144.size d) (hb' : ∀ d, ![0, o] d + ![512, 512] d ≤ S512x2048.size d)
    (w : FVec Ideal S512x512 .bf16)
    (hw : w = k0_pay379 (F := Ideal) h (View.ld (Val := Elt Ideal) (e' := .bf16) wb (Rect.unit (s := S1024x6144) ![0, 4096 + o] ![1024, 512] hb)))
    (x : (Rect.unit (s := S512x2048) ![0, o] ![512, 512] hb').shape.Idx) :
    w x = blockGates h wb ((Rect.unit (s := S512x2048) ![0, o] ![512, 512] hb').emb x) := by
  rw [hw]
  pointwise [k0_pay379, blockGates]
  blk_point []

/-- Stores of blocks of the gates, when they cover the staging buffer, leave the gates there. -/
theorem read_gates (h : FVec Ideal S512x1024 .bf16) (wb : FVec Ideal S1024x6144 .bf16) (L : List (View.Piece (Elt Ideal) S512x2048 .bf16))
    (hL : View.PiecesOf (blockGates h wb) L) (hc : ∀ y : S512x2048.Idx, ∃ p ∈ L, y ∈ p.1.set) (y : S512x2048.Idx) :
    View.canon L y = blockGates h wb y := by
  rw [← View.canon_append_of_piecesOf (blockGates h wb) [] L hL y (hc y), List.append_nil]

/-- The stores' values are one function of the weights' columns. -/
theorem same (h : FVec Ideal S512x1024 .bf16) (w : FVec Ideal S1024x512 .bf16) :
    k0_pay384 (F := Ideal) h w = k0_pay379 (F := Ideal) h w ∧ k0_pay388 (F := Ideal) h w = k0_pay379 (F := Ideal) h w
      ∧ k0_pay394 (F := Ideal) h w = k0_pay379 (F := Ideal) h w := by
  refine ⟨?_, ?_, ?_⟩ <;> funext j <;> idx_vars j <;> pointwise [k0_pay384, k0_pay388, k0_pay394, k0_pay379]

/-- The four stores together leave the block's gates in the staging buffer. -/
theorem read_four (h : FVec Ideal S512x1024 .bf16) (wb : FVec Ideal S1024x6144 .bf16) (w0 w1 w2 w3 : FVec Ideal S512x512 .bf16)
    (e0 : w0 = k0_pay379 (F := Ideal) h (View.ld (Val := Elt Ideal) (e' := .bf16) wb (Rect.unit (s := S1024x6144) ![0, 4096] ![1024, 512] inb_S1024x6144_S1024x512_0_4096)))
    (e1 : w1 = k0_pay379 (F := Ideal) h (View.ld (Val := Elt Ideal) (e' := .bf16) wb (Rect.unit (s := S1024x6144) ![0, 4608] ![1024, 512] inb_S1024x6144_S1024x512_0_4608)))
    (e2 : w2 = k0_pay379 (F := Ideal) h (View.ld (Val := Elt Ideal) (e' := .bf16) wb (Rect.unit (s := S1024x6144) ![0, 5120] ![1024, 512] inb_S1024x6144_S1024x512_0_5120)))
    (e3 : w3 = k0_pay379 (F := Ideal) h (View.ld (Val := Elt Ideal) (e' := .bf16) wb (Rect.unit (s := S1024x6144) ![0, 5632] ![1024, 512] inb_S1024x6144_S1024x512_0_5632))) :
    ∀ y : S512x2048.Idx, View.canon (Val := Elt Ideal) (e := .bf16)
      [⟨Rect.unit ![0, 1536] ![512, 512] inb_S512x2048_S512x512_0_1536, w3⟩, ⟨Rect.unit ![0, 1024] ![512, 512] inb_S512x2048_S512x512_0_1024, w2⟩,
        ⟨Rect.unit ![0, 512] ![512, 512] inb_S512x2048_S512x512_0_512, w1⟩, ⟨Rect.unit ![0, 0] ![512, 512] inb_S512x2048_S512x512_0_0, w0⟩] y = blockGates h wb y :=
  read_gates h wb _ ⟨piece h wb 1536 inb_S1024x6144_S1024x512_0_5632 inb_S512x2048_S512x512_0_1536 w3 e3,
    piece h wb 1024 inb_S1024x6144_S1024x512_0_5120 inb_S512x2048_S512x512_0_1024 w2 e2,
    piece h wb 512 inb_S1024x6144_S1024x512_0_4608 inb_S512x2048_S512x512_0_512 w1 e1,
    piece h wb 0 inb_S1024x6144_S1024x512_0_4096 inb_S512x2048_S512x512_0_0 w0 e0, trivial⟩
    (View.cover_of_tiledL _ ![512, 512] rfl)

variable (m : (ℓ : Loc nD τ sig) → Buf (Elt Ideal) ℓ)

theorem idx : ∀ t : Fin cfg0.N, win0_0.index t = ![min t.val 63, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_12.index t = ![min t.val 63, 0] ∧ win0_13.index t = ![min t.val 63, 0] ∧ win0_14.index t = ![min t.val 63, 0] ∧ win0_15.index t = ![0, min t.val 63]
    ∧ win0_16.index t = ![min t.val 63, 0] ∧ win0_17.index t = ![0, min t.val 63] :=
  (by decide +kernel : ∀ t : Fin grid0.N, _)

theorem point13 (c : Dev nD) (t : Fin cfg0.N) (y : S512x256.Idx) :
    k0_pay655 (F := Ideal) (k0_pay63 (iblk m c 0 t) (iblk m c 1 t)) (iblk m c 3 t) (iblk m c 4 t) y
      = cq (V m c main_arg0) (V m c main_v46) (V m c main_v39) (V m c main_v47) (((View.whole main_v52_1).slice (win0_13.rect t)).emb y) := by
  idx_vars y
  pointwise [cq_at, proj_at, normed_at, cq, prow, hrow, Ffn.rms, InProj.rms]
  blk_point [iblk, idx t]

theorem point14 (c : Dev nD) (t : Fin cfg0.N) (y : S512x256.Idx) :
    k0_pay659 (F := Ideal) (k0_pay656 (iblk m c 5 t)) (k0_pay657 (k0_pay63 (iblk m c 0 t) (iblk m c 1 t)) (iblk m c 3 t)) y
      = ckv (V m c main_arg0) (V m c main_v46) (V m c main_v39) (V m c main_v48) (((View.whole main_v52_2).slice (win0_14.rect t)).emb y) := by
  idx_vars y
  pointwise [ckv_at, proj_at, normed_at, ckv, prow, hrow, Ffn.rms, InProj.rms]
  blk_point [iblk, idx t]

theorem point15 (c : Dev nD) (t : Fin cfg0.N) (y : S264x512.Idx) :
    k0_pay660 (F := Ideal) (k0_pay656 (iblk m c 5 t)) (k0_pay657 (k0_pay63 (iblk m c 0 t) (iblk m c 1 t)) (iblk m c 3 t)) y
      = ckvt (V m c main_arg0) (V m c main_v46) (V m c main_v39) (V m c main_v48) (((View.whole main_v52_3).slice (win0_15.rect t)).emb y) := by
  idx_vars y
  have e0 : ((((View.whole main_v52_3).slice (win0_15.rect t)).emb (ix2 y0 y1) 0 : Fin 264) : ℕ) = y0 := by
    blk_simp [idx t]
  have e1 : ((((View.whole main_v52_3).slice (win0_15.rect t)).emb (ix2 y0 y1) 1 : Fin 32768) : ℕ) = min t.val 63 * 512 + y1 := by
    blk_simp [idx t]
  rw [ckvt_at]
  by_cases hk : (y0 : ℕ) < 256
  · rw [dif_pos hk, point14 m c t]
    refine Eq.symm ((dif_pos (show _ < _ by rw [e0]; exact hk)).trans (congrArg (ckv _ _ _ _) ?_))
    funext d
    fin_cases d
    · exact Fin.ext (e1.trans (by blk_simp [idx t]; rfl))
    · exact Fin.ext (e0.trans (by blk_simp [idx t]; rfl))
  · rw [dif_neg hk]
    exact Eq.symm (dif_neg (show ¬ _ < _ by rw [e0]; exact hk))

theorem point16 (c : Dev nD) (t : Fin cfg0.N) (y : S512x64.Idx) :
    k0_pay661 (F := Ideal) (k0_pay654 (k0_pay63 (iblk m c 0 t) (iblk m c 1 t)) (iblk m c 3 t)) (iblk m c 6 t) (iblk m c 7 t) y
      = kidx (V m c main_arg0) (V m c main_v46) (V m c main_v39) (V m c main_v49) (V m c main_v50) (((View.whole main_v52_4).slice (win0_16.rect t)).emb y) := by
  idx_vars y
  pointwise [kidx_at, proj_at, normed_at, kidx, prow, hrow, Ffn.rms, InProj.layer, InProj.mean]
  blk_point [iblk, idx t]

theorem point12 (c : Dev nD) (t : Fin cfg0.N) (y : S512x2048.Idx) :
    blockGates (k0_pay63 (F := Ideal) (iblk m c 0 t) (iblk m c 1 t)) (iblk m c 2 t) y
      = gates (V m c main_arg0) (V m c main_v46) (V m c main_v4) (((View.whole main_v52_0).slice (win0_12.rect t)).emb y) := by
  idx_vars y
  pointwise [blockGates, normed_at, gates, hrow, Ffn.rms]
  blk_point [iblk, idx t]

theorem final13 (c : Dev nD) : (dats m 0 c).arrAt 13 cfg0.N = cq (V m c main_arg0) (V m c main_v46) (V m c main_v39) (V m c main_v47) := by
  refine (dats m 0 c).arrAt_eq_of_covers 13 _ (by decide +kernel) fun t hf y => ?_
  blk_simp
  rw [after0_13]
  by_cases h0 : t.val % 65 = 0
  · rw [outsAt0_A m c t h0]
    frame_out
    exact point13 m c t y
  · rw [outsAt0_B m c t h0]
    frame_out
    exact point13 m c t y

theorem final14 (c : Dev nD) : (dats m 0 c).arrAt 14 cfg0.N = ckv (V m c main_arg0) (V m c main_v46) (V m c main_v39) (V m c main_v48) := by
  refine (dats m 0 c).arrAt_eq_of_covers 14 _ (by decide +kernel) fun t hf y => ?_
  blk_simp
  rw [after0_14]
  by_cases h0 : t.val % 65 = 0
  · rw [outsAt0_A m c t h0]
    frame_out
    exact point14 m c t y
  · rw [outsAt0_B m c t h0]
    frame_out
    exact point14 m c t y

theorem final15 (c : Dev nD) : (dats m 0 c).arrAt 15 cfg0.N = ckvt (V m c main_arg0) (V m c main_v46) (V m c main_v39) (V m c main_v48) := by
  refine (dats m 0 c).arrAt_eq_of_covers 15 _ (by decide +kernel) fun t hf y => ?_
  blk_simp
  rw [after0_15]
  by_cases h0 : t.val % 65 = 0
  · rw [outsAt0_A m c t h0]
    frame_out
    exact point15 m c t y
  · rw [outsAt0_B m c t h0]
    frame_out
    exact point15 m c t y

theorem final16 (c : Dev nD) : (dats m 0 c).arrAt 16 cfg0.N = kidx (V m c main_arg0) (V m c main_v46) (V m c main_v39) (V m c main_v49) (V m c main_v50) := by
  refine (dats m 0 c).arrAt_eq_of_covers 16 _ (by decide +kernel) fun t hf y => ?_
  blk_simp
  rw [after0_16]
  by_cases h0 : t.val % 65 = 0
  · rw [outsAt0_A m c t h0]
    frame_out
    exact point16 m c t y
  · rw [outsAt0_B m c t h0]
    frame_out
    exact point16 m c t y

theorem final12 (c : Dev nD) : (dats m 0 c).arrAt 12 cfg0.N = gates (V m c main_arg0) (V m c main_v46) (V m c main_v4) := by
  refine (dats m 0 c).arrAt_eq_of_covers 12 _ (by decide +kernel) fun t hf y => ?_
  blk_simp
  rw [after0_12]
  by_cases h0 : t.val % 65 = 0
  · rw [outsAt0_A m c t h0]
    frame_out
    exact (read_four _ _ _ _ _ _ rfl (same _ _).1 (same _ _).2.1 (same _ _).2.2 y).trans (point12 m c t y)
  · rw [outsAt0_B m c t h0]
    frame_out
    exact (read_four _ _ _ _ _ _ rfl (same _ _).1 (same _ _).2.1 (same _ _).2.2 y).trans (point12 m c t y)

/-- A row of the block's projection, as a row of the whole. -/
theorem row_at (c : Dev nD) (t : Fin cfg0.N) (r : Fin 512) (k : Fin 768) (n : Fin 32768) (hn : (n : ℕ) = min t.val 63 * 512 + r) :
    k0_pay654 (F := Ideal) (k0_pay63 (iblk m c 0 t) (iblk m c 1 t)) (iblk m c 3 t) (ix2 r k)
      = prow (V m c main_arg0) (V m c main_v46) (V m c main_v39) n k := by
  pointwise [proj_at, normed_at, prow, hrow, Ffn.rms]
  blk_point [iblk, idx t]

theorem point17 (c : Dev nD) (t : Fin cfg0.N) (y : S32x512.Idx) :
    k0_pay666 (F := Ideal) (k0_pay662 (k0_pay654 (k0_pay63 (iblk m c 0 t) (iblk m c 1 t)) (iblk m c 3 t)))
      (iota .tc S512x128 32 [1] iota_S512x128_d1_w32)
      (k0_pay663 (k0_pay654 (k0_pay63 (iblk m c 0 t) (iblk m c 1 t)) (iblk m c 3 t))) (iblk m c 9 t) (iblk m c 8 t) y
      = misc (V m c main_arg0) (V m c main_v46) (V m c main_v39) (V m c main_v31) (V m c main_v37)
          (((View.whole main_v52_5).slice (win0_17.rect t)).emb y) := by
  idx_vars y
  have e0 : ((((View.whole main_v52_5).slice (win0_17.rect t)).emb (ix2 y0 y1) 0 : Fin 32) : ℕ) = y0 := by
    blk_simp [idx t]
  have e1 : ((((View.whole main_v52_5).slice (win0_17.rect t)).emb (ix2 y0 y1) 1 : Fin 32768) : ℕ) = min t.val 63 * 512 + y1 := by
    blk_simp [idx t]
  rw [misc_at]
  show _ = InProj.small _ _ _ _
  rw [e0]
  refine congr (congr (congr (congrArg InProj.small (congrArg wide (funext fun l => ?_))) (congrArg wide (funext fun l => ?_))) (congrArg wide (funext fun l => ?_))) rfl
  · exact row_at m c t y1 _ _ e1
  · blk_point [iblk, idx t]
  · blk_point [iblk, idx t]

theorem final17 (c : Dev nD) : (dats m 0 c).arrAt 17 cfg0.N = misc (V m c main_arg0) (V m c main_v46) (V m c main_v39) (V m c main_v31) (V m c main_v37) := by
  refine (dats m 0 c).arrAt_eq_of_covers 17 _ (by decide +kernel) fun t hf y => ?_
  blk_simp
  rw [after0_17]
  by_cases h0 : t.val % 65 = 0
  · rw [outsAt0_A m c t h0]
    frame_out
    exact point17 m c t y
  · rw [outsAt0_B m c t h0]
    frame_out
    exact point17 m c t y

/-- The staged vectors are the arguments: the host code reshapes them there and back. -/
theorem V_staged (c : Dev nD) :
    (V m c main_v46 : FVec Ideal _ .f32) = shapeCast S1x1024 (shapeCast S1024 (m ((c : Thread nD τ).loc main_arg1)) shapeCasts_S1x1024_S1024) shapeCasts_S1024_S1x1024
    ∧ (V m c main_v47 : FVec Ideal _ .f32) = shapeCast S1x256 (shapeCast S256 (m ((c : Thread nD τ).loc main_arg3)) shapeCasts_S1x256_S256) shapeCasts_S256_S1x256
    ∧ (V m c main_v48 : FVec Ideal _ .f32) = shapeCast S1x256 (shapeCast S256 (m ((c : Thread nD τ).loc main_arg4)) shapeCasts_S1x256_S256) shapeCasts_S256_S1x256
    ∧ (V m c main_v49 : FVec Ideal _ .f32) = shapeCast S1x64 (shapeCast S64 (m ((c : Thread nD τ).loc main_arg5)) shapeCasts_S1x64_S64) shapeCasts_S64_S1x64
    ∧ (V m c main_v50 : FVec Ideal _ .f32) = shapeCast S1x64 (shapeCast S64 (m ((c : Thread nD τ).loc main_arg6)) shapeCasts_S1x64_S64) shapeCasts_S64_S1x64 := by
  simp only [V, hostOps0]
  refine ⟨?_, ?_, ?_, ?_, ?_⟩ <;> (after_results_simp <;> rfl)

/-- The staged matrices and rows are the packed weights. -/
theorem V_big (c : Dev nD) : (V m c main_v4 : FVec Ideal _ .bf16) = hostBig (m ((c : Thread nD τ).loc main_arg2)) := by
  simp only [V, hostOps0]
  after_results_simp <;> rfl

theorem V_small (c : Dev nD) : (V m c main_v39 : FVec Ideal _ .bf16) = hostSmall (m ((c : Thread nD τ).loc main_arg2)) := by
  simp only [V, hostOps0]
  after_results_simp <;> rfl

theorem V_nega (c : Dev nD) : (V m c main_v31 : FVec Ideal _ .f32) = hostNega (m ((c : Thread nD τ).loc main_arg7)) := by
  simp only [V, hostOps0]
  after_results_simp <;> rfl

theorem V_dtbp (c : Dev nD) : (V m c main_v37 : FVec Ideal _ .f32) = hostDtbp (m ((c : Thread nD τ).loc main_arg8)) := by
  simp only [V, hostOps0]
  after_results_simp <;> rfl

theorem back1024 (g : FVec Ideal S1x1024 .f32) : shapeCast S1x1024 (shapeCast S1024 g shapeCasts_S1x1024_S1024) shapeCasts_S1024_S1x1024 = g := by
  funext j
  idx_vars j
  pointwise []

theorem back256 (g : FVec Ideal S1x256 .f32) : shapeCast S1x256 (shapeCast S256 g shapeCasts_S1x256_S256) shapeCasts_S256_S1x256 = g := by
  funext j
  idx_vars j
  pointwise []

theorem back64 (g : FVec Ideal S1x64 .f32) : shapeCast S1x64 (shapeCast S64 g shapeCasts_S1x64_S64) shapeCasts_S64_S1x64 = g := by
  funext j
  idx_vars j
  pointwise []

/-- The staged vectors, over the arguments. -/
theorem V_vectors (c : Dev nD) :
    (V m c main_v46 : FVec Ideal _ .f32) = (m ((c : Thread nD τ).loc main_arg1))
    ∧ (V m c main_v47 : FVec Ideal _ .f32) = (m ((c : Thread nD τ).loc main_arg3))
    ∧ (V m c main_v48 : FVec Ideal _ .f32) = (m ((c : Thread nD τ).loc main_arg4))
    ∧ (V m c main_v49 : FVec Ideal _ .f32) = (m ((c : Thread nD τ).loc main_arg5))
    ∧ (V m c main_v50 : FVec Ideal _ .f32) = (m ((c : Thread nD τ).loc main_arg6)) := by
  obtain ⟨e46, e47, e48, e49, e50⟩ := V_staged m c
  exact ⟨e46.trans (back1024 _), e47.trans (back256 _), e48.trans (back256 _), e49.trans (back64 _), e50.trans (back64 _)⟩

theorem es (c : Dev nD) : (V m c main_v39 : FVec Ideal _ .bf16) = wsmall (m ((c : Thread nD τ).loc main_arg2)) := (V_small m c).trans (hostSmall_eq _)

set_option maxHeartbeats 1000000 in
theorem result12 (c : Dev nD) : (dats m 0 c).arrAt 12 cfg0.N = gates (m ((c : Thread nD τ).loc main_arg0)) (m ((c : Thread nD τ).loc main_arg1)) (wbig (m ((c : Thread nD τ).loc main_arg2))) :=
  (final12 m c).trans (congr (congr (congrArg gates (V_main_arg0 m c)) (V_vectors m c).1) ((V_big m c).trans (hostBig_eq _)))

set_option maxHeartbeats 1000000 in
theorem result13 (c : Dev nD) : (dats m 0 c).arrAt 13 cfg0.N = cq (m ((c : Thread nD τ).loc main_arg0)) (m ((c : Thread nD τ).loc main_arg1)) (wsmall (m ((c : Thread nD τ).loc main_arg2))) (m ((c : Thread nD τ).loc main_arg3)) :=
  (final13 m c).trans (congr (congr (congr (congrArg cq (V_main_arg0 m c)) (V_vectors m c).1) (es m c)) (V_vectors m c).2.1)

set_option maxHeartbeats 1000000 in
theorem result14 (c : Dev nD) : (dats m 0 c).arrAt 14 cfg0.N = ckv (m ((c : Thread nD τ).loc main_arg0)) (m ((c : Thread nD τ).loc main_arg1)) (wsmall (m ((c : Thread nD τ).loc main_arg2))) (m ((c : Thread nD τ).loc main_arg4)) :=
  (final14 m c).trans (congr (congr (congr (congrArg ckv (V_main_arg0 m c)) (V_vectors m c).1) (es m c)) (V_vectors m c).2.2.1)

set_option maxHeartbeats 1000000 in
theorem result15 (c : Dev nD) : (dats m 0 c).arrAt 15 cfg0.N = ckvt (m ((c : Thread nD τ).loc main_arg0)) (m ((c : Thread nD τ).loc main_arg1)) (wsmall (m ((c : Thread nD τ).loc main_arg2))) (m ((c : Thread nD τ).loc main_arg4)) :=
  (final15 m c).trans (congr (congr (congr (congrArg ckvt (V_main_arg0 m c)) (V_vectors m c).1) (es m c)) (V_vectors m c).2.2.1)

set_option maxHeartbeats 1000000 in
theorem result16 (c : Dev nD) : (dats m 0 c).arrAt 16 cfg0.N = kidx (m ((c : Thread nD τ).loc main_arg0)) (m ((c : Thread nD τ).loc main_arg1)) (wsmall (m ((c : Thread nD τ).loc main_arg2))) (m ((c : Thread nD τ).loc main_arg5)) (m ((c : Thread nD τ).loc main_arg6)) :=
  (final16 m c).trans (congr (congr (congr (congr (congrArg kidx (V_main_arg0 m c)) (V_vectors m c).1) (es m c)) (V_vectors m c).2.2.2.1) (V_vectors m c).2.2.2.2)

set_option maxHeartbeats 1000000 in
theorem result17 (c : Dev nD) : (dats m 0 c).arrAt 17 cfg0.N = misc (m ((c : Thread nD τ).loc main_arg0)) (m ((c : Thread nD τ).loc main_arg1)) (wsmall (m ((c : Thread nD τ).loc main_arg2))) (nega (m ((c : Thread nD τ).loc main_arg7))) (dtbp (m ((c : Thread nD τ).loc main_arg8))) :=
  (final17 m c).trans (congr (congr (congr (congr (congrArg misc (V_main_arg0 m c)) (V_vectors m c).1) (es m c)) ((V_nega m c).trans (hostNega_eq _))) ((V_dtbp m c).trans (hostDtbp_eq _)))

/-- The six results, over the call's arguments. -/
theorem finals (c : Dev nD) :
    (dats m 0 c).arrAt 12 cfg0.N = gates (m ((c : Thread nD τ).loc main_arg0)) (m ((c : Thread nD τ).loc main_arg1)) (wbig (m ((c : Thread nD τ).loc main_arg2)))
    ∧ (dats m 0 c).arrAt 13 cfg0.N = cq (m ((c : Thread nD τ).loc main_arg0)) (m ((c : Thread nD τ).loc main_arg1)) (wsmall (m ((c : Thread nD τ).loc main_arg2))) (m ((c : Thread nD τ).loc main_arg3))
    ∧ (dats m 0 c).arrAt 14 cfg0.N = ckv (m ((c : Thread nD τ).loc main_arg0)) (m ((c : Thread nD τ).loc main_arg1)) (wsmall (m ((c : Thread nD τ).loc main_arg2))) (m ((c : Thread nD τ).loc main_arg4))
    ∧ (dats m 0 c).arrAt 15 cfg0.N = ckvt (m ((c : Thread nD τ).loc main_arg0)) (m ((c : Thread nD τ).loc main_arg1)) (wsmall (m ((c : Thread nD τ).loc main_arg2))) (m ((c : Thread nD τ).loc main_arg4))
    ∧ (dats m 0 c).arrAt 16 cfg0.N = kidx (m ((c : Thread nD τ).loc main_arg0)) (m ((c : Thread nD τ).loc main_arg1)) (wsmall (m ((c : Thread nD τ).loc main_arg2))) (m ((c : Thread nD τ).loc main_arg5)) (m ((c : Thread nD τ).loc main_arg6))
    ∧ (dats m 0 c).arrAt 17 cfg0.N = misc (m ((c : Thread nD τ).loc main_arg0)) (m ((c : Thread nD τ).loc main_arg1)) (wsmall (m ((c : Thread nD τ).loc main_arg2))) (nega (m ((c : Thread nD τ).loc main_arg7))) (dtbp (m ((c : Thread nD τ).loc main_arg8))) :=
  ⟨result12 m c, result13 m c, result14 m c, result15 m c, result16 m c, result17 m c⟩

end Cert.Kernel4Ideal.Hand

end
-- ==== Proof.Safe.lean ====
module

public import proofs.«01_k».proof.Kernel
public import Idealize.ShloMosaic.Lib.Tactic
public import Idealize.ShloMosaic.Lib.Pipeline.Kit

@[expose] public section

noncomputable section

/-! Programs that keep an assertion. `Safe c I p` says that the program `p`, run on core `c` from `I`, ends with `I`
    again, whatever it returns. It is closed under the ways a kernel body is built — sequence, branch, counted loop —
    so a body of loads and stores keeps any `I` that every one of its loads and stores keeps. -/

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel

variable {F : FTy → Type} [BitOps F] [Facts]

local notation "𝕄" => MT nD τ sig Unit (Elt F) ℕ (UR sig nD τ) ℕ

/-- From `I` the program `p` ends, and leaves `I`. -/
def Safe (c : Dev nD) (I : sProp 𝕄) {α : Type} (p : Prog (TpuEff nD τ sig (Elt F) Λ₀ .tc) α) : Prop :=
  ∀ E : Set ℕ, I ⊢ wp frame (wpE (defs₀ (F := F)) Variants.none (c : Thread nD τ) none) E p (fun _ => I)

/-- Every load of the memref keeps `I`. -/
abbrev Loads (c : Dev nD) (I : sProp 𝕄) {cs : CoreSpace} {s : Shape} {e : EltTy} (m : Memref sig .tc cs s e) : Prop :=
  ∀ (r : LoadRect s) (hl : m.view.LoadsAt r), Safe c I (Prog.lift (.load m r hl))

/-- Every store to the memref keeps `I`. -/
abbrev Stores (c : Dev nD) (I : sProp 𝕄) {cs : CoreSpace} {s : Shape} {e : EltTy} (m : Memref sig .tc cs s e) : Prop :=
  ∀ (r : Rect s) (w : r.shape.Idx → Elt F e) (Mk : Finset r.shape.Idx) (hx : (m.access r).Stores Mk)
    (hm : Mk = Finset.univ ∨ ∀ a, r.stride a = 1), Safe c I (Prog.lift (.store m r w Mk hx hm))

theorem Safe.pure {c : Dev nD} {I : sProp 𝕄} {α : Type} (a : α) : Safe c I (Pure.pure a : Prog (TpuEff nD τ sig (Elt F) Λ₀ .tc) α) := fun E =>
  le_wp_ret frame (wpE (defs₀ (F := F)) Variants.none (c : Thread nD τ) none) E a (fun _ => I)

theorem Safe.bind {c : Dev nD} {I : sProp 𝕄} {α β : Type} {p : Prog (TpuEff nD τ sig (Elt F) Λ₀ .tc) α} {k : α → Prog (TpuEff nD τ sig (Elt F) Λ₀ .tc) β}
    (hp : Safe c I p) (hk : ∀ a, Safe c I (k a)) : Safe c I (p >>= k) := fun E => by
  rw [wp_bind]
  exact (hp E).trans (wp_mono _ _ _ fun a => hk a E)

theorem Safe.dite {c : Dev nD} {I : sProp 𝕄} {α : Type} {P : Prop} [Decidable P] {a : P → Prog (TpuEff nD τ sig (Elt F) Λ₀ .tc) α}
    {b : ¬P → Prog (TpuEff nD τ sig (Elt F) Λ₀ .tc) α} (ha : ∀ h, Safe c I (a h)) (hb : ∀ h, Safe c I (b h)) :
    Safe c I (if h : P then a h else b h) := by
  split
  · exact ha _
  · exact hb _

theorem Safe.ite {c : Dev nD} {I : sProp 𝕄} {α : Type} {P : Prop} [Decidable P] {a b : Prog (TpuEff nD τ sig (Elt F) Λ₀ .tc) α}
    (ha : Safe c I a) (hb : Safe c I b) : Safe c I (if P then a else b) := by
  split
  · exact ha
  · exact hb

theorem Safe.loop {c : Dev nD} {I : sProp 𝕄} {w : ℕ} {σ : Type} (l : Scf.Loop w) (hok : l.OK) (init : σ)
    {body : Fin l.trips → σ → Prog (TpuEff nD τ sig (Elt F) Λ₀ .tc) σ} (h : ∀ k acc, Safe c I (body k acc)) :
    Safe c I (Scf.Loop.for l hok init body) := fun E => by
  refine BIBase.Entails.trans ?_ (Scf.wp_for frame (wpE (defs₀ (F := F)) Variants.none (c : Thread nD τ) none) E
    l.lb l.ub l.st hok init body (fun _ _ => I) (fun k acc => h k acc E))
  iintro HI
  isplitl [HI]
  · iexact HI
  · iintro %acc H
    iexact H

/-- A memref whose elements `I` holds, and takes back as they were, may be loaded from. -/
theorem Loads.of {c : Dev nD} {I : sProp 𝕄} {cs : CoreSpace} {s : Shape} {e : EltTy} {m : Memref sig .tc cs s e}
    (h : I ⊢ iprop(∃ f, (m.view.loc (c : Thread nD τ) ↦[m.view.set]{fullShare} f) ∗ ((m.view.loc (c : Thread nD τ) ↦[m.view.set]{fullShare} f) -∗ I))) :
    Loads c I m := fun r hl E => by
  refine h.trans ?_
  iintro ⟨%f, H, Hk⟩
  iapply (wp_load (defs := defs₀ (F := F)) Variants.none (c : Thread nD τ) none E (m := m) (r := r) (hl := hl) (k := .ret)
    (S := m.view.set) (q := fullShare) (f := f) (View.setOn_subset_set _ _)) $$ H
  iintro H
  iapply (le_wp_ret frame (wpE (defs₀ (F := F)) Variants.none (c : Thread nD τ) none) E _ (fun _ => I))
  iapply Hk
  iexact H

/-- A memref whose elements `I` holds at anything may be stored to. -/
theorem Stores.of {c : Dev nD} {I : sProp 𝕄} {cs : CoreSpace} {s : Shape} {e : EltTy} {m : Memref sig .tc cs s e}
    (h : I ⊢ iprop(∃ f, (m.view.loc (c : Thread nD τ) ↦[m.view.set]{fullShare} f) ∗ (∀ f', (m.view.loc (c : Thread nD τ) ↦[m.view.set]{fullShare} f') -∗ I))) :
    Stores c I m := fun r w Mk hx hm E => by
  refine h.trans ?_
  iintro ⟨%f, H, Hk⟩
  iapply (wp_store (defs := defs₀ (F := F)) Variants.none (c : Thread nD τ) none E (m := m) (r := r) (w := w) (Mk := Mk) (hx := hx) (hm := hm)
    (k := .ret) (S := m.view.set) (f := f) ((View.setOn_subset_set _ _).trans (View.set_slice_subset _ _))) $$ H
  iintro H
  iapply (le_wp_ret frame (wpE (defs₀ (F := F)) Variants.none (c : Thread nD τ) none) E _ (fun _ => I))
  iapply Hk
  iexact H

/-- Every buffer of the body may be loaded from, and every output and scratch buffer stored to, keeping `I`. -/
structure Held (c : Dev nD) (I : sProp 𝕄)
    (arg2 : Memref sig .tc .vmem S512x256 .bf16)
    (arg3 : Memref sig .tc .vmem S32x128 .f32)
    (arg4 : Memref sig .tc .vmem S32x128 .f32)
    (arg5 : Memref sig .tc .vmem S4096x64 .bf16)
    (arg6 : Memref sig .tc .vmem S4096x256 .bf16)
    (arg7 : Memref sig .tc .vmem S264x4096 .bf16)
    (arg8 : Memref sig .tc .vmem S512x256 .bf16)
    (arg9 : Memref sig .tc .vmem S1024x256 .bf16)
    (arg10 : Memref sig .tc .vmem S8x256x128 .bf16)
    (arg11 : Memref sig .tc .vmem S8x128x256 .bf16)
    (arg12 : Memref sig .tc .vmem S3x128x1024 .bf16)
    (arg13 : Memref sig .tc .vmem S512x1024 .bf16)
    (arg14 : Memref sig .tc .vmem S4096x128 .i32)
    (arg15 : Memref sig .tc .vmem S4096x128 .i32)
    (arg16 : Memref sig .tc .vmem S32x16x8x128 .i32)
    (arg17 : Memref sig .tc .vmem S8x128 .i32)
    (arg18 : Memref sig .tc .vmem S264x1024 .f32)
    (arg19 : Memref sig .tc .vmem S256x1024 .bf16)
    (arg20 : Memref sig .tc .vmem S256x1024 .bf16)
    (arg21 : Memref sig .tc .vmem S8x64x1024 .bf16)
    (arg22 : Memref sig .tc .vmem S8x256x1024 .bf16)
    (arg23 : Memref sig .tc .vmem S4x256x1024 .bf16) : Prop where
  l2 : Loads c I arg2
  l3 : Loads c I arg3
  l4 : Loads c I arg4
  l5 : Loads c I arg5
  l6 : Loads c I arg6
  l7 : Loads c I arg7
  l8 : Loads c I arg8
  l9 : Loads c I arg9
  l10 : Loads c I arg10
  l11 : Loads c I arg11
  l12 : Loads c I arg12
  l13 : Loads c I arg13
  l14 : Loads c I arg14
  l15 : Loads c I arg15
  l16 : Loads c I arg16
  l17 : Loads c I arg17
  l18 : Loads c I arg18
  l19 : Loads c I arg19
  l20 : Loads c I arg20
  l21 : Loads c I arg21
  l22 : Loads c I arg22
  l23 : Loads c I arg23
  s13 : Stores c I arg13
  s14 : Stores c I arg14
  s15 : Stores c I arg15
  s16 : Stores c I arg16
  s17 : Stores c I arg17
  s18 : Stores c I arg18
  s19 : Stores c I arg19
  s20 : Stores c I arg20
  s21 : Stores c I arg21
  s22 : Stores c I arg22
  s23 : Stores c I arg23

end Cert.Kernel.Hand

end
-- ==== Proof.Body.lean ====
module

public import proofs.«01_k».proof.Proof.Safe

@[expose] public section

set_option maxHeartbeats 8000000
set_option maxRecDepth 16384

noncomputable section

/-! The loads and stores of the body all keep what they are given, block by block: a score tile, the selection, the
    passes over the kept keys, then the body itself. -/

namespace Cert.Kernel.Hand

open Idealize.ShloMosaic Idealize.ShloMosaic.TcCoe
open Idealize.SL Idealize.SL.RA Idealize.SL.BI Idealize.SL.Sem
open Cert.Kernel

variable {F : FTy → Type} [BitOps F] [Facts]

local notation "𝕄" => MT nD τ sig Unit (Elt F) ℕ (UR sig nD τ) ℕ

variable {i : grid0.Coords}
  {arg2 : Memref sig .tc .vmem S512x256 .bf16} {harg2 : arg2.IsWhole}
  {arg3 : Memref sig .tc .vmem S32x128 .f32} {harg3 : arg3.IsWhole}
  {arg4 : Memref sig .tc .vmem S32x128 .f32} {harg4 : arg4.IsWhole}
  {arg5 : Memref sig .tc .vmem S4096x64 .bf16} {harg5 : arg5.IsWhole}
  {arg6 : Memref sig .tc .vmem S4096x256 .bf16} {harg6 : arg6.IsWhole}
  {arg7 : Memref sig .tc .vmem S264x4096 .bf16} {harg7 : arg7.IsWhole}
  {arg8 : Memref sig .tc .vmem S512x256 .bf16} {harg8 : arg8.IsWhole}
  {arg9 : Memref sig .tc .vmem S1024x256 .bf16} {harg9 : arg9.IsWhole}
  {arg10 : Memref sig .tc .vmem S8x256x128 .bf16} {harg10 : arg10.IsWhole}
  {arg11 : Memref sig .tc .vmem S8x128x256 .bf16} {harg11 : arg11.IsWhole}
  {arg12 : Memref sig .tc .vmem S3x128x1024 .bf16} {harg12 : arg12.IsWhole}
  {arg13 : Memref sig .tc .vmem S512x1024 .bf16} {harg13 : arg13.IsWhole}
  {arg14 : Memref sig .tc .vmem S4096x128 .i32} {harg14 : arg14.IsWhole}
  {arg15 : Memref sig .tc .vmem S4096x128 .i32} {harg15 : arg15.IsWhole}
  {arg16 : Memref sig .tc .vmem S32x16x8x128 .i32} {harg16 : arg16.IsWhole}
  {arg17 : Memref sig .tc .vmem S8x128 .i32} {harg17 : arg17.IsWhole}
  {arg18 : Memref sig .tc .vmem S264x1024 .f32} {harg18 : arg18.IsWhole}
  {arg19 : Memref sig .tc .vmem S256x1024 .bf16} {harg19 : arg19.IsWhole}
  {arg20 : Memref sig .tc .vmem S256x1024 .bf16} {harg20 : arg20.IsWhole}
  {arg21 : Memref sig .tc .vmem S8x64x1024 .bf16} {harg21 : arg21.IsWhole}
  {arg22 : Memref sig .tc .vmem S8x256x1024 .bf16} {harg22 : arg22.IsWhole}
  {arg23 : Memref sig .tc .vmem S4x256x1024 .bf16} {harg23 : arg23.IsWhole}

/-- `I` is kept by this block. -/
theorem k0_part17_safe {c : Dev nD} {I : sProp 𝕄} (h : Held c I arg2 arg3 arg4 arg5 arg6 arg7 arg8 arg9 arg10 arg11 arg12 arg13 arg14 arg15 arg16 arg17 arg18 arg19 arg20 arg21 arg22 arg23)
    (v12 : IVec S256x128 32) (k0_h4 : k0_cond4 i = 1#1) (v2775 : IVec S1x128 32) :
    Safe c I (k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v12 k0_h4 v2775) := by
  delta k0_part17
  repeat' first
    | with_reducible refine Safe.bind ?_ fun _ => ?_
    | with_reducible exact Safe.pure _
    | with_reducible refine Safe.loop _ _ _ fun _ _ => ?_
    | with_reducible refine Safe.dite (fun _ => ?_) fun _ => ?_
    | with_reducible refine Safe.ite ?_ ?_
    | with_reducible exact h.l2 _ _
    | with_reducible exact h.l3 _ _
    | with_reducible exact h.l4 _ _
    | with_reducible exact h.l5 _ _
    | with_reducible exact h.l6 _ _
    | with_reducible exact h.l7 _ _
    | with_reducible exact h.l8 _ _
    | with_reducible exact h.l9 _ _
    | with_reducible exact h.l10 _ _
    | with_reducible exact h.l11 _ _
    | with_reducible exact h.l12 _ _
    | with_reducible exact h.l13 _ _
    | with_reducible exact h.l14 _ _
    | with_reducible exact h.l15 _ _
    | with_reducible exact h.l16 _ _
    | with_reducible exact h.l17 _ _
    | with_reducible exact h.l18 _ _
    | with_reducible exact h.l19 _ _
    | with_reducible exact h.l20 _ _
    | with_reducible exact h.l21 _ _
    | with_reducible exact h.l22 _ _
    | with_reducible exact h.l23 _ _
    | with_reducible exact h.s13 _ _ _ _ _
    | with_reducible exact h.s14 _ _ _ _ _
    | with_reducible exact h.s15 _ _ _ _ _
    | with_reducible exact h.s16 _ _ _ _ _
    | with_reducible exact h.s17 _ _ _ _ _
    | with_reducible exact h.s18 _ _ _ _ _
    | with_reducible exact h.s19 _ _ _ _ _
    | with_reducible exact h.s20 _ _ _ _ _
    | with_reducible exact h.s21 _ _ _ _ _
    | with_reducible exact h.s22 _ _ _ _ _
    | with_reducible exact h.s23 _ _ _ _ _

/-- `I` is kept by this block. -/
theorem k0_part79_safe {c : Dev nD} {I : sProp 𝕄} (h : Held c I arg2 arg3 arg4 arg5 arg6 arg7 arg8 arg9 arg10 arg11 arg12 arg13 arg14 arg15 arg16 arg17 arg18 arg19 arg20 arg21 arg22 arg23)
    (v10 : IVec S128x128 32) (v11 : IVec S128x128 32) (k0_h4 : k0_cond4 i = 1#1) :
    Safe c I (k0_part79 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v10 v11 k0_h4) := by
  delta k0_part79
  repeat' first
    | with_reducible refine Safe.bind ?_ fun _ => ?_
    | with_reducible exact Safe.pure _
    | with_reducible refine Safe.loop _ _ _ fun _ _ => ?_
    | with_reducible refine Safe.dite (fun _ => ?_) fun _ => ?_
    | with_reducible refine Safe.ite ?_ ?_
    | with_reducible exact h.l2 _ _
    | with_reducible exact h.l3 _ _
    | with_reducible exact h.l4 _ _
    | with_reducible exact h.l5 _ _
    | with_reducible exact h.l6 _ _
    | with_reducible exact h.l7 _ _
    | with_reducible exact h.l8 _ _
    | with_reducible exact h.l9 _ _
    | with_reducible exact h.l10 _ _
    | with_reducible exact h.l11 _ _
    | with_reducible exact h.l12 _ _
    | with_reducible exact h.l13 _ _
    | with_reducible exact h.l14 _ _
    | with_reducible exact h.l15 _ _
    | with_reducible exact h.l16 _ _
    | with_reducible exact h.l17 _ _
    | with_reducible exact h.l18 _ _
    | with_reducible exact h.l19 _ _
    | with_reducible exact h.l20 _ _
    | with_reducible exact h.l21 _ _
    | with_reducible exact h.l22 _ _
    | with_reducible exact h.l23 _ _
    | with_reducible exact h.s13 _ _ _ _ _
    | with_reducible exact h.s14 _ _ _ _ _
    | with_reducible exact h.s15 _ _ _ _ _
    | with_reducible exact h.s16 _ _ _ _ _
    | with_reducible exact h.s17 _ _ _ _ _
    | with_reducible exact h.s18 _ _ _ _ _
    | with_reducible exact h.s19 _ _ _ _ _
    | with_reducible exact h.s20 _ _ _ _ _
    | with_reducible exact h.s21 _ _ _ _ _
    | with_reducible exact h.s22 _ _ _ _ _
    | with_reducible exact h.s23 _ _ _ _ _
  all_goals delta k0_part18 k0_part19 k0_part20 k0_part21 k0_part22 k0_part23 k0_part24 k0_part25 k0_part26
              k0_part27 k0_part28 k0_part29 k0_part30 k0_part31 k0_part32 k0_part33 k0_part34 k0_part35 k0_part36
              k0_part37 k0_part38 k0_part39 k0_part40 k0_part41 k0_part42 k0_part43 k0_part44 k0_part45 k0_part46
              k0_part47 k0_part48 k0_part49 k0_part50 k0_part51 k0_part52 k0_part53 k0_part54 k0_part55 k0_part56
              k0_part57 k0_part58 k0_part59 k0_part60 k0_part61 k0_part62 k0_part63 k0_part64 k0_part65 k0_part66
              k0_part67 k0_part68 k0_part69 k0_part70 k0_part71 k0_part72 k0_part73 k0_part74 k0_part75 k0_part76
              k0_part77
  repeat' first
    | with_reducible refine Safe.bind ?_ fun _ => ?_
    | with_reducible exact Safe.pure _
    | with_reducible refine Safe.loop _ _ _ fun _ _ => ?_
    | with_reducible refine Safe.dite (fun _ => ?_) fun _ => ?_
    | with_reducible refine Safe.ite ?_ ?_
    | with_reducible exact h.l2 _ _
    | with_reducible exact h.l3 _ _
    | with_reducible exact h.l4 _ _
    | with_reducible exact h.l5 _ _
    | with_reducible exact h.l6 _ _
    | with_reducible exact h.l7 _ _
    | with_reducible exact h.l8 _ _
    | with_reducible exact h.l9 _ _
    | with_reducible exact h.l10 _ _
    | with_reducible exact h.l11 _ _
    | with_reducible exact h.l12 _ _
    | with_reducible exact h.l13 _ _
    | with_reducible exact h.l14 _ _
    | with_reducible exact h.l15 _ _
    | with_reducible exact h.l16 _ _
    | with_reducible exact h.l17 _ _
    | with_reducible exact h.l18 _ _
    | with_reducible exact h.l19 _ _
    | with_reducible exact h.l20 _ _
    | with_reducible exact h.l21 _ _
    | with_reducible exact h.l22 _ _
    | with_reducible exact h.l23 _ _
    | with_reducible exact h.s13 _ _ _ _ _
    | with_reducible exact h.s14 _ _ _ _ _
    | with_reducible exact h.s15 _ _ _ _ _
    | with_reducible exact h.s16 _ _ _ _ _
    | with_reducible exact h.s17 _ _ _ _ _
    | with_reducible exact h.s18 _ _ _ _ _
    | with_reducible exact h.s19 _ _ _ _ _
    | with_reducible exact h.s20 _ _ _ _ _
    | with_reducible exact h.s21 _ _ _ _ _
    | with_reducible exact h.s22 _ _ _ _ _
    | with_reducible exact h.s23 _ _ _ _ _

/-- `I` is kept by this block. -/
theorem k0_part179_safe {c : Dev nD} {I : sProp 𝕄} (h : Held c I arg2 arg3 arg4 arg5 arg6 arg7 arg8 arg9 arg10 arg11 arg12 arg13 arg14 arg15 arg16 arg17 arg18 arg19 arg20 arg21 arg22 arg23)
    (arg1 : BitVec 32) (v10 : IVec S128x128 32) (v11 : IVec S128x128 32) (v46 : Vec F S1x128 .i32) (v72 : BitVec 32) (v82 : BitVec 32) (v180 : FVec F S1x1024 .f32) (c2147483647_i32 : BitVec 32) (k0_h7 : k0_cond7 i = 1#1) (c0_i32_107 : BitVec 32) (c1_i32_109 : BitVec 32) (k0_t2 : Fin (k0_t2_loop i).trips) (arg25 : FVec F S1x1024 .f32) :
    Safe c I (k0_part179 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v10 v11 v46 v72 v82 v180 c2147483647_i32 k0_h7 c0_i32_107 c1_i32_109 k0_t2 arg25) := by
  delta k0_part179
  repeat' first
    | with_reducible refine Safe.bind ?_ fun _ => ?_
    | with_reducible exact Safe.pure _
    | with_reducible refine Safe.loop _ _ _ fun _ _ => ?_
    | with_reducible refine Safe.dite (fun _ => ?_) fun _ => ?_
    | with_reducible refine Safe.ite ?_ ?_
    | with_reducible exact h.l2 _ _
    | with_reducible exact h.l3 _ _
    | with_reducible exact h.l4 _ _
    | with_reducible exact h.l5 _ _
    | with_reducible exact h.l6 _ _
    | with_reducible exact h.l7 _ _
    | with_reducible exact h.l8 _ _
    | with_reducible exact h.l9 _ _
    | with_reducible exact h.l10 _ _
    | with_reducible exact h.l11 _ _
    | with_reducible exact h.l12 _ _
    | with_reducible exact h.l13 _ _
    | with_reducible exact h.l14 _ _
    | with_reducible exact h.l15 _ _
    | with_reducible exact h.l16 _ _
    | with_reducible exact h.l17 _ _
    | with_reducible exact h.l18 _ _
    | with_reducible exact h.l19 _ _
    | with_reducible exact h.l20 _ _
    | with_reducible exact h.l21 _ _
    | with_reducible exact h.l22 _ _
    | with_reducible exact h.l23 _ _
    | with_reducible exact h.s13 _ _ _ _ _
    | with_reducible exact h.s14 _ _ _ _ _
    | with_reducible exact h.s15 _ _ _ _ _
    | with_reducible exact h.s16 _ _ _ _ _
    | with_reducible exact h.s17 _ _ _ _ _
    | with_reducible exact h.s18 _ _ _ _ _
    | with_reducible exact h.s19 _ _ _ _ _
    | with_reducible exact h.s20 _ _ _ _ _
    | with_reducible exact h.s21 _ _ _ _ _
    | with_reducible exact h.s22 _ _ _ _ _
    | with_reducible exact h.s23 _ _ _ _ _
  all_goals delta k0_part80 k0_part81 k0_part82 k0_part83 k0_part84 k0_part85 k0_part86 k0_part87 k0_part88
              k0_part89 k0_part90 k0_part91 k0_part92 k0_part93 k0_part94 k0_part95 k0_part96 k0_part97 k0_part98
              k0_part99 k0_part100 k0_part101 k0_part102 k0_part103 k0_part104 k0_part105 k0_part106 k0_part107
              k0_part108 k0_part109 k0_part110 k0_part111 k0_part112 k0_part113 k0_part114 k0_part115 k0_part116
              k0_part117 k0_part118 k0_part119 k0_part120 k0_part121 k0_part122 k0_part123 k0_part124 k0_part125
              k0_part126 k0_part127 k0_part128 k0_part129 k0_part130 k0_part131 k0_part132 k0_part133 k0_part134
              k0_part135 k0_part136 k0_part137 k0_part138 k0_part139
  repeat' first
    | with_reducible refine Safe.bind ?_ fun _ => ?_
    | with_reducible exact Safe.pure _
    | with_reducible refine Safe.loop _ _ _ fun _ _ => ?_
    | with_reducible refine Safe.dite (fun _ => ?_) fun _ => ?_
    | with_reducible refine Safe.ite ?_ ?_
    | with_reducible exact h.l2 _ _
    | with_reducible exact h.l3 _ _
    | with_reducible exact h.l4 _ _
    | with_reducible exact h.l5 _ _
    | with_reducible exact h.l6 _ _
    | with_reducible exact h.l7 _ _
    | with_reducible exact h.l8 _ _
    | with_reducible exact h.l9 _ _
    | with_reducible exact h.l10 _ _
    | with_reducible exact h.l11 _ _
    | with_reducible exact h.l12 _ _
    | with_reducible exact h.l13 _ _
    | with_reducible exact h.l14 _ _
    | with_reducible exact h.l15 _ _
    | with_reducible exact h.l16 _ _
    | with_reducible exact h.l17 _ _
    | with_reducible exact h.l18 _ _
    | with_reducible exact h.l19 _ _
    | with_reducible exact h.l20 _ _
    | with_reducible exact h.l21 _ _
    | with_reducible exact h.l22 _ _
    | with_reducible exact h.l23 _ _
    | with_reducible exact h.s13 _ _ _ _ _
    | with_reducible exact h.s14 _ _ _ _ _
    | with_reducible exact h.s15 _ _ _ _ _
    | with_reducible exact h.s16 _ _ _ _ _
    | with_reducible exact h.s17 _ _ _ _ _
    | with_reducible exact h.s18 _ _ _ _ _
    | with_reducible exact h.s19 _ _ _ _ _
    | with_reducible exact h.s20 _ _ _ _ _
    | with_reducible exact h.s21 _ _ _ _ _
    | with_reducible exact h.s22 _ _ _ _ _
    | with_reducible exact h.s23 _ _ _ _ _

/-- `I` is kept by this block. -/
theorem k0_part279_safe {c : Dev nD} {I : sProp 𝕄} (h : Held c I arg2 arg3 arg4 arg5 arg6 arg7 arg8 arg9 arg10 arg11 arg12 arg13 arg14 arg15 arg16 arg17 arg18 arg19 arg20 arg21 arg22 arg23)
    (arg1 : BitVec 32) (v10 : IVec S128x128 32) (v11 : IVec S128x128 32) (v46 : Vec F S1x128 .i32) (v72 : BitVec 32) (v82 : BitVec 32) (v180 : FVec F S1x1024 .f32) (c2147483647_i32 : BitVec 32) (k0_h7 : k0_cond7 i = 1#1) (v211 : BitVec 32) (c1_i32_110 : BitVec 32) (k0_t3 : Fin (k0_t3_loop i).trips) (arg25 : FVec F S1x1024 .f32) :
    Safe c I (k0_part279 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v10 v11 v46 v72 v82 v180 c2147483647_i32 k0_h7 v211 c1_i32_110 k0_t3 arg25) := by
  delta k0_part279
  repeat' first
    | with_reducible refine Safe.bind ?_ fun _ => ?_
    | with_reducible exact Safe.pure _
    | with_reducible refine Safe.loop _ _ _ fun _ _ => ?_
    | with_reducible refine Safe.dite (fun _ => ?_) fun _ => ?_
    | with_reducible refine Safe.ite ?_ ?_
    | with_reducible exact h.l2 _ _
    | with_reducible exact h.l3 _ _
    | with_reducible exact h.l4 _ _
    | with_reducible exact h.l5 _ _
    | with_reducible exact h.l6 _ _
    | with_reducible exact h.l7 _ _
    | with_reducible exact h.l8 _ _
    | with_reducible exact h.l9 _ _
    | with_reducible exact h.l10 _ _
    | with_reducible exact h.l11 _ _
    | with_reducible exact h.l12 _ _
    | with_reducible exact h.l13 _ _
    | with_reducible exact h.l14 _ _
    | with_reducible exact h.l15 _ _
    | with_reducible exact h.l16 _ _
    | with_reducible exact h.l17 _ _
    | with_reducible exact h.l18 _ _
    | with_reducible exact h.l19 _ _
    | with_reducible exact h.l20 _ _
    | with_reducible exact h.l21 _ _
    | with_reducible exact h.l22 _ _
    | with_reducible exact h.l23 _ _
    | with_reducible exact h.s13 _ _ _ _ _
    | with_reducible exact h.s14 _ _ _ _ _
    | with_reducible exact h.s15 _ _ _ _ _
    | with_reducible exact h.s16 _ _ _ _ _
    | with_reducible exact h.s17 _ _ _ _ _
    | with_reducible exact h.s18 _ _ _ _ _
    | with_reducible exact h.s19 _ _ _ _ _
    | with_reducible exact h.s20 _ _ _ _ _
    | with_reducible exact h.s21 _ _ _ _ _
    | with_reducible exact h.s22 _ _ _ _ _
    | with_reducible exact h.s23 _ _ _ _ _
  all_goals delta k0_part180 k0_part181 k0_part182 k0_part183 k0_part184 k0_part185 k0_part186 k0_part187
              k0_part188 k0_part189 k0_part190 k0_part191 k0_part192 k0_part193 k0_part194 k0_part195 k0_part196
              k0_part197 k0_part198 k0_part199 k0_part200 k0_part201 k0_part202 k0_part203 k0_part204 k0_part205
              k0_part206 k0_part207 k0_part208 k0_part209 k0_part210 k0_part211 k0_part212 k0_part213 k0_part214
              k0_part215 k0_part216 k0_part217 k0_part218 k0_part219 k0_part220 k0_part221 k0_part222 k0_part223
              k0_part224 k0_part225 k0_part226 k0_part227 k0_part228 k0_part229 k0_part230 k0_part231 k0_part232
              k0_part233 k0_part234 k0_part235 k0_part236 k0_part237 k0_part238 k0_part239
  repeat' first
    | with_reducible refine Safe.bind ?_ fun _ => ?_
    | with_reducible exact Safe.pure _
    | with_reducible refine Safe.loop _ _ _ fun _ _ => ?_
    | with_reducible refine Safe.dite (fun _ => ?_) fun _ => ?_
    | with_reducible refine Safe.ite ?_ ?_
    | with_reducible exact h.l2 _ _
    | with_reducible exact h.l3 _ _
    | with_reducible exact h.l4 _ _
    | with_reducible exact h.l5 _ _
    | with_reducible exact h.l6 _ _
    | with_reducible exact h.l7 _ _
    | with_reducible exact h.l8 _ _
    | with_reducible exact h.l9 _ _
    | with_reducible exact h.l10 _ _
    | with_reducible exact h.l11 _ _
    | with_reducible exact h.l12 _ _
    | with_reducible exact h.l13 _ _
    | with_reducible exact h.l14 _ _
    | with_reducible exact h.l15 _ _
    | with_reducible exact h.l16 _ _
    | with_reducible exact h.l17 _ _
    | with_reducible exact h.l18 _ _
    | with_reducible exact h.l19 _ _
    | with_reducible exact h.l20 _ _
    | with_reducible exact h.l21 _ _
    | with_reducible exact h.l22 _ _
    | with_reducible exact h.l23 _ _
    | with_reducible exact h.s13 _ _ _ _ _
    | with_reducible exact h.s14 _ _ _ _ _
    | with_reducible exact h.s15 _ _ _ _ _
    | with_reducible exact h.s16 _ _ _ _ _
    | with_reducible exact h.s17 _ _ _ _ _
    | with_reducible exact h.s18 _ _ _ _ _
    | with_reducible exact h.s19 _ _ _ _ _
    | with_reducible exact h.s20 _ _ _ _ _
    | with_reducible exact h.s21 _ _ _ _ _
    | with_reducible exact h.s22 _ _ _ _ _
    | with_reducible exact h.s23 _ _ _ _ _

/-- `I` is kept by this block. -/
theorem k0_part381_safe {c : Dev nD} {I : sProp 𝕄} (h : Held c I arg2 arg3 arg4 arg5 arg6 arg7 arg8 arg9 arg10 arg11 arg12 arg13 arg14 arg15 arg16 arg17 arg18 arg19 arg20 arg21 arg22 arg23)
    (arg1 : BitVec 32) (v10 : IVec S128x128 32) (v11 : IVec S128x128 32) (v46 : Vec F S1x128 .i32) (v72 : BitVec 32) (v82 : BitVec 32) (v140 : BitVec 32) (v180 : FVec F S1x1024 .f32) (c2147483647_i32 : BitVec 32) (k0_h7 : k0_cond7 i = 1#1) (c0_i32_111 : BitVec 32) (c1_i32_113 : BitVec 32) (k0_t4 : Fin (k0_t4_loop i).trips) (arg25 : FVec F S1x1024 .f32) :
    Safe c I (k0_part381 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v10 v11 v46 v72 v82 v140 v180 c2147483647_i32 k0_h7 c0_i32_111 c1_i32_113 k0_t4 arg25) := by
  delta k0_part381
  repeat' first
    | with_reducible refine Safe.bind ?_ fun _ => ?_
    | with_reducible exact Safe.pure _
    | with_reducible refine Safe.loop _ _ _ fun _ _ => ?_
    | with_reducible refine Safe.dite (fun _ => ?_) fun _ => ?_
    | with_reducible refine Safe.ite ?_ ?_
    | with_reducible exact h.l2 _ _
    | with_reducible exact h.l3 _ _
    | with_reducible exact h.l4 _ _
    | with_reducible exact h.l5 _ _
    | with_reducible exact h.l6 _ _
    | with_reducible exact h.l7 _ _
    | with_reducible exact h.l8 _ _
    | with_reducible exact h.l9 _ _
    | with_reducible exact h.l10 _ _
    | with_reducible exact h.l11 _ _
    | with_reducible exact h.l12 _ _
    | with_reducible exact h.l13 _ _
    | with_reducible exact h.l14 _ _
    | with_reducible exact h.l15 _ _
    | with_reducible exact h.l16 _ _
    | with_reducible exact h.l17 _ _
    | with_reducible exact h.l18 _ _
    | with_reducible exact h.l19 _ _
    | with_reducible exact h.l20 _ _
    | with_reducible exact h.l21 _ _
    | with_reducible exact h.l22 _ _
    | with_reducible exact h.l23 _ _
    | with_reducible exact h.s13 _ _ _ _ _
    | with_reducible exact h.s14 _ _ _ _ _
    | with_reducible exact h.s15 _ _ _ _ _
    | with_reducible exact h.s16 _ _ _ _ _
    | with_reducible exact h.s17 _ _ _ _ _
    | with_reducible exact h.s18 _ _ _ _ _
    | with_reducible exact h.s19 _ _ _ _ _
    | with_reducible exact h.s20 _ _ _ _ _
    | with_reducible exact h.s21 _ _ _ _ _
    | with_reducible exact h.s22 _ _ _ _ _
    | with_reducible exact h.s23 _ _ _ _ _
  all_goals delta k0_part280 k0_part281 k0_part282 k0_part283 k0_part284 k0_part285 k0_part286 k0_part287
              k0_part288 k0_part289 k0_part290 k0_part291 k0_part292 k0_part293 k0_part294 k0_part295 k0_part296
              k0_part297 k0_part298 k0_part299 k0_part300 k0_part301 k0_part302 k0_part303 k0_part304 k0_part305
              k0_part306 k0_part307 k0_part308 k0_part309 k0_part310 k0_part311 k0_part312 k0_part313 k0_part314
              k0_part315 k0_part316 k0_part317 k0_part318 k0_part319 k0_part320 k0_part321 k0_part322 k0_part323
              k0_part324 k0_part325 k0_part326 k0_part327 k0_part328 k0_part329 k0_part330 k0_part331 k0_part332
              k0_part333 k0_part334 k0_part335 k0_part336 k0_part337 k0_part338 k0_part339
  repeat' first
    | with_reducible refine Safe.bind ?_ fun _ => ?_
    | with_reducible exact Safe.pure _
    | with_reducible refine Safe.loop _ _ _ fun _ _ => ?_
    | with_reducible refine Safe.dite (fun _ => ?_) fun _ => ?_
    | with_reducible refine Safe.ite ?_ ?_
    | with_reducible exact h.l2 _ _
    | with_reducible exact h.l3 _ _
    | with_reducible exact h.l4 _ _
    | with_reducible exact h.l5 _ _
    | with_reducible exact h.l6 _ _
    | with_reducible exact h.l7 _ _
    | with_reducible exact h.l8 _ _
    | with_reducible exact h.l9 _ _
    | with_reducible exact h.l10 _ _
    | with_reducible exact h.l11 _ _
    | with_reducible exact h.l12 _ _
    | with_reducible exact h.l13 _ _
    | with_reducible exact h.l14 _ _
    | with_reducible exact h.l15 _ _
    | with_reducible exact h.l16 _ _
    | with_reducible exact h.l17 _ _
    | with_reducible exact h.l18 _ _
    | with_reducible exact h.l19 _ _
    | with_reducible exact h.l20 _ _
    | with_reducible exact h.l21 _ _
    | with_reducible exact h.l22 _ _
    | with_reducible exact h.l23 _ _
    | with_reducible exact h.s13 _ _ _ _ _
    | with_reducible exact h.s14 _ _ _ _ _
    | with_reducible exact h.s15 _ _ _ _ _
    | with_reducible exact h.s16 _ _ _ _ _
    | with_reducible exact h.s17 _ _ _ _ _
    | with_reducible exact h.s18 _ _ _ _ _
    | with_reducible exact h.s19 _ _ _ _ _
    | with_reducible exact h.s20 _ _ _ _ _
    | with_reducible exact h.s21 _ _ _ _ _
    | with_reducible exact h.s22 _ _ _ _ _
    | with_reducible exact h.s23 _ _ _ _ _

/-- `I` is kept by this block. -/
theorem k0_part483_safe {c : Dev nD} {I : sProp 𝕄} (h : Held c I arg2 arg3 arg4 arg5 arg6 arg7 arg8 arg9 arg10 arg11 arg12 arg13 arg14 arg15 arg16 arg17 arg18 arg19 arg20 arg21 arg22 arg23)
    (arg1 : BitVec 32) (v10 : IVec S128x128 32) (v11 : IVec S128x128 32) (v46 : Vec F S1x128 .i32) (v72 : BitVec 32) (v82 : BitVec 32) (v140 : BitVec 32) (v180 : FVec F S1x1024 .f32) (c2147483647_i32 : BitVec 32) (k0_h7 : k0_cond7 i = 1#1) (v218 : BitVec 32) (c1_i32_114 : BitVec 32) (k0_t5 : Fin (k0_t5_loop i).trips) (arg25 : FVec F S1x1024 .f32) :
    Safe c I (k0_part483 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v10 v11 v46 v72 v82 v140 v180 c2147483647_i32 k0_h7 v218 c1_i32_114 k0_t5 arg25) := by
  delta k0_part483
  repeat' first
    | with_reducible refine Safe.bind ?_ fun _ => ?_
    | with_reducible exact Safe.pure _
    | with_reducible refine Safe.loop _ _ _ fun _ _ => ?_
    | with_reducible refine Safe.dite (fun _ => ?_) fun _ => ?_
    | with_reducible refine Safe.ite ?_ ?_
    | with_reducible exact h.l2 _ _
    | with_reducible exact h.l3 _ _
    | with_reducible exact h.l4 _ _
    | with_reducible exact h.l5 _ _
    | with_reducible exact h.l6 _ _
    | with_reducible exact h.l7 _ _
    | with_reducible exact h.l8 _ _
    | with_reducible exact h.l9 _ _
    | with_reducible exact h.l10 _ _
    | with_reducible exact h.l11 _ _
    | with_reducible exact h.l12 _ _
    | with_reducible exact h.l13 _ _
    | with_reducible exact h.l14 _ _
    | with_reducible exact h.l15 _ _
    | with_reducible exact h.l16 _ _
    | with_reducible exact h.l17 _ _
    | with_reducible exact h.l18 _ _
    | with_reducible exact h.l19 _ _
    | with_reducible exact h.l20 _ _
    | with_reducible exact h.l21 _ _
    | with_reducible exact h.l22 _ _
    | with_reducible exact h.l23 _ _
    | with_reducible exact h.s13 _ _ _ _ _
    | with_reducible exact h.s14 _ _ _ _ _
    | with_reducible exact h.s15 _ _ _ _ _
    | with_reducible exact h.s16 _ _ _ _ _
    | with_reducible exact h.s17 _ _ _ _ _
    | with_reducible exact h.s18 _ _ _ _ _
    | with_reducible exact h.s19 _ _ _ _ _
    | with_reducible exact h.s20 _ _ _ _ _
    | with_reducible exact h.s21 _ _ _ _ _
    | with_reducible exact h.s22 _ _ _ _ _
    | with_reducible exact h.s23 _ _ _ _ _
  all_goals delta k0_part382 k0_part383 k0_part384 k0_part385 k0_part386 k0_part387 k0_part388 k0_part389
              k0_part390 k0_part391 k0_part392 k0_part393 k0_part394 k0_part395 k0_part396 k0_part397 k0_part398
              k0_part399 k0_part400 k0_part401 k0_part402 k0_part403 k0_part404 k0_part405 k0_part406 k0_part407
              k0_part408 k0_part409 k0_part410 k0_part411 k0_part412 k0_part413 k0_part414 k0_part415 k0_part416
              k0_part417 k0_part418 k0_part419 k0_part420 k0_part421 k0_part422 k0_part423 k0_part424 k0_part425
              k0_part426 k0_part427 k0_part428 k0_part429 k0_part430 k0_part431 k0_part432 k0_part433 k0_part434
              k0_part435 k0_part436 k0_part437 k0_part438 k0_part439 k0_part440 k0_part441
  repeat' first
    | with_reducible refine Safe.bind ?_ fun _ => ?_
    | with_reducible exact Safe.pure _
    | with_reducible refine Safe.loop _ _ _ fun _ _ => ?_
    | with_reducible refine Safe.dite (fun _ => ?_) fun _ => ?_
    | with_reducible refine Safe.ite ?_ ?_
    | with_reducible exact h.l2 _ _
    | with_reducible exact h.l3 _ _
    | with_reducible exact h.l4 _ _
    | with_reducible exact h.l5 _ _
    | with_reducible exact h.l6 _ _
    | with_reducible exact h.l7 _ _
    | with_reducible exact h.l8 _ _
    | with_reducible exact h.l9 _ _
    | with_reducible exact h.l10 _ _
    | with_reducible exact h.l11 _ _
    | with_reducible exact h.l12 _ _
    | with_reducible exact h.l13 _ _
    | with_reducible exact h.l14 _ _
    | with_reducible exact h.l15 _ _
    | with_reducible exact h.l16 _ _
    | with_reducible exact h.l17 _ _
    | with_reducible exact h.l18 _ _
    | with_reducible exact h.l19 _ _
    | with_reducible exact h.l20 _ _
    | with_reducible exact h.l21 _ _
    | with_reducible exact h.l22 _ _
    | with_reducible exact h.l23 _ _
    | with_reducible exact h.s13 _ _ _ _ _
    | with_reducible exact h.s14 _ _ _ _ _
    | with_reducible exact h.s15 _ _ _ _ _
    | with_reducible exact h.s16 _ _ _ _ _
    | with_reducible exact h.s17 _ _ _ _ _
    | with_reducible exact h.s18 _ _ _ _ _
    | with_reducible exact h.s19 _ _ _ _ _
    | with_reducible exact h.s20 _ _ _ _ _
    | with_reducible exact h.s21 _ _ _ _ _
    | with_reducible exact h.s22 _ _ _ _ _
    | with_reducible exact h.s23 _ _ _ _ _

/-- `I` is kept by this block. -/
theorem k0_part534_safe {c : Dev nD} {I : sProp 𝕄} (h : Held c I arg2 arg3 arg4 arg5 arg6 arg7 arg8 arg9 arg10 arg11 arg12 arg13 arg14 arg15 arg16 arg17 arg18 arg19 arg20 arg21 arg22 arg23)
    (arg1 : BitVec 32) (v10 : IVec S128x128 32) (v11 : IVec S128x128 32) (v46 : Vec F S1x128 .i32) (v72 : BitVec 32) (v82 : BitVec 32) (v180 : FVec F S1x1024 .f32) (c2147483647_i32 : BitVec 32) (k0_h7 : k0_cond7 i = 1#1) (v222 : BitVec 32) (c1_i32_117 : BitVec 32) (k0_t6 : Fin (k0_t6_loop i).trips) (arg25 : FVec F S1x1024 .f32) :
    Safe c I (k0_part534 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v10 v11 v46 v72 v82 v180 c2147483647_i32 k0_h7 v222 c1_i32_117 k0_t6 arg25) := by
  delta k0_part534
  repeat' first
    | with_reducible refine Safe.bind ?_ fun _ => ?_
    | with_reducible exact Safe.pure _
    | with_reducible refine Safe.loop _ _ _ fun _ _ => ?_
    | with_reducible refine Safe.dite (fun _ => ?_) fun _ => ?_
    | with_reducible refine Safe.ite ?_ ?_
    | with_reducible exact h.l2 _ _
    | with_reducible exact h.l3 _ _
    | with_reducible exact h.l4 _ _
    | with_reducible exact h.l5 _ _
    | with_reducible exact h.l6 _ _
    | with_reducible exact h.l7 _ _
    | with_reducible exact h.l8 _ _
    | with_reducible exact h.l9 _ _
    | with_reducible exact h.l10 _ _
    | with_reducible exact h.l11 _ _
    | with_reducible exact h.l12 _ _
    | with_reducible exact h.l13 _ _
    | with_reducible exact h.l14 _ _
    | with_reducible exact h.l15 _ _
    | with_reducible exact h.l16 _ _
    | with_reducible exact h.l17 _ _
    | with_reducible exact h.l18 _ _
    | with_reducible exact h.l19 _ _
    | with_reducible exact h.l20 _ _
    | with_reducible exact h.l21 _ _
    | with_reducible exact h.l22 _ _
    | with_reducible exact h.l23 _ _
    | with_reducible exact h.s13 _ _ _ _ _
    | with_reducible exact h.s14 _ _ _ _ _
    | with_reducible exact h.s15 _ _ _ _ _
    | with_reducible exact h.s16 _ _ _ _ _
    | with_reducible exact h.s17 _ _ _ _ _
    | with_reducible exact h.s18 _ _ _ _ _
    | with_reducible exact h.s19 _ _ _ _ _
    | with_reducible exact h.s20 _ _ _ _ _
    | with_reducible exact h.s21 _ _ _ _ _
    | with_reducible exact h.s22 _ _ _ _ _
    | with_reducible exact h.s23 _ _ _ _ _
  all_goals delta k0_part484 k0_part485 k0_part486 k0_part487 k0_part488 k0_part489 k0_part490 k0_part491
              k0_part492 k0_part493 k0_part494 k0_part495 k0_part496 k0_part497 k0_part498 k0_part499 k0_part500
              k0_part501 k0_part502 k0_part503 k0_part504 k0_part505 k0_part506 k0_part507 k0_part508 k0_part509
              k0_part510 k0_part511 k0_part512 k0_part513 k0_part514 k0_part515 k0_part516 k0_part517 k0_part518
              k0_part519 k0_part520 k0_part521 k0_part522 k0_part523 k0_part524 k0_part525 k0_part526 k0_part527
              k0_part528 k0_part529 k0_part530 k0_part531 k0_part532 k0_part533
  repeat' first
    | with_reducible refine Safe.bind ?_ fun _ => ?_
    | with_reducible exact Safe.pure _
    | with_reducible refine Safe.loop _ _ _ fun _ _ => ?_
    | with_reducible refine Safe.dite (fun _ => ?_) fun _ => ?_
    | with_reducible refine Safe.ite ?_ ?_
    | with_reducible exact h.l2 _ _
    | with_reducible exact h.l3 _ _
    | with_reducible exact h.l4 _ _
    | with_reducible exact h.l5 _ _
    | with_reducible exact h.l6 _ _
    | with_reducible exact h.l7 _ _
    | with_reducible exact h.l8 _ _
    | with_reducible exact h.l9 _ _
    | with_reducible exact h.l10 _ _
    | with_reducible exact h.l11 _ _
    | with_reducible exact h.l12 _ _
    | with_reducible exact h.l13 _ _
    | with_reducible exact h.l14 _ _
    | with_reducible exact h.l15 _ _
    | with_reducible exact h.l16 _ _
    | with_reducible exact h.l17 _ _
    | with_reducible exact h.l18 _ _
    | with_reducible exact h.l19 _ _
    | with_reducible exact h.l20 _ _
    | with_reducible exact h.l21 _ _
    | with_reducible exact h.l22 _ _
    | with_reducible exact h.l23 _ _
    | with_reducible exact h.s13 _ _ _ _ _
    | with_reducible exact h.s14 _ _ _ _ _
    | with_reducible exact h.s15 _ _ _ _ _
    | with_reducible exact h.s16 _ _ _ _ _
    | with_reducible exact h.s17 _ _ _ _ _
    | with_reducible exact h.s18 _ _ _ _ _
    | with_reducible exact h.s19 _ _ _ _ _
    | with_reducible exact h.s20 _ _ _ _ _
    | with_reducible exact h.s21 _ _ _ _ _
    | with_reducible exact h.s22 _ _ _ _ _
    | with_reducible exact h.s23 _ _ _ _ _

/-- `I` is kept by this block. -/
theorem k0_part585_safe {c : Dev nD} {I : sProp 𝕄} (h : Held c I arg2 arg3 arg4 arg5 arg6 arg7 arg8 arg9 arg10 arg11 arg12 arg13 arg14 arg15 arg16 arg17 arg18 arg19 arg20 arg21 arg22 arg23)
    (arg1 : BitVec 32) (v10 : IVec S128x128 32) (v11 : IVec S128x128 32) (v46 : Vec F S1x128 .i32) (v72 : BitVec 32) (v82 : BitVec 32) (v180 : FVec F S1x1024 .f32) (c2147483647_i32 : BitVec 32) (k0_h7 : k0_cond7 i = 1#1) (v227 : BitVec 32) (c1_i32_118 : BitVec 32) (k0_t7 : Fin (k0_t7_loop i).trips) (arg25 : FVec F S1x1024 .f32) :
    Safe c I (k0_part585 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v10 v11 v46 v72 v82 v180 c2147483647_i32 k0_h7 v227 c1_i32_118 k0_t7 arg25) := by
  delta k0_part585
  repeat' first
    | with_reducible refine Safe.bind ?_ fun _ => ?_
    | with_reducible exact Safe.pure _
    | with_reducible refine Safe.loop _ _ _ fun _ _ => ?_
    | with_reducible refine Safe.dite (fun _ => ?_) fun _ => ?_
    | with_reducible refine Safe.ite ?_ ?_
    | with_reducible exact h.l2 _ _
    | with_reducible exact h.l3 _ _
    | with_reducible exact h.l4 _ _
    | with_reducible exact h.l5 _ _
    | with_reducible exact h.l6 _ _
    | with_reducible exact h.l7 _ _
    | with_reducible exact h.l8 _ _
    | with_reducible exact h.l9 _ _
    | with_reducible exact h.l10 _ _
    | with_reducible exact h.l11 _ _
    | with_reducible exact h.l12 _ _
    | with_reducible exact h.l13 _ _
    | with_reducible exact h.l14 _ _
    | with_reducible exact h.l15 _ _
    | with_reducible exact h.l16 _ _
    | with_reducible exact h.l17 _ _
    | with_reducible exact h.l18 _ _
    | with_reducible exact h.l19 _ _
    | with_reducible exact h.l20 _ _
    | with_reducible exact h.l21 _ _
    | with_reducible exact h.l22 _ _
    | with_reducible exact h.l23 _ _
    | with_reducible exact h.s13 _ _ _ _ _
    | with_reducible exact h.s14 _ _ _ _ _
    | with_reducible exact h.s15 _ _ _ _ _
    | with_reducible exact h.s16 _ _ _ _ _
    | with_reducible exact h.s17 _ _ _ _ _
    | with_reducible exact h.s18 _ _ _ _ _
    | with_reducible exact h.s19 _ _ _ _ _
    | with_reducible exact h.s20 _ _ _ _ _
    | with_reducible exact h.s21 _ _ _ _ _
    | with_reducible exact h.s22 _ _ _ _ _
    | with_reducible exact h.s23 _ _ _ _ _
  all_goals delta k0_part535 k0_part536 k0_part537 k0_part538 k0_part539 k0_part540 k0_part541 k0_part542
              k0_part543 k0_part544 k0_part545 k0_part546 k0_part547 k0_part548 k0_part549 k0_part550 k0_part551
              k0_part552 k0_part553 k0_part554 k0_part555 k0_part556 k0_part557 k0_part558 k0_part559 k0_part560
              k0_part561 k0_part562 k0_part563 k0_part564 k0_part565 k0_part566 k0_part567 k0_part568 k0_part569
              k0_part570 k0_part571 k0_part572 k0_part573 k0_part574 k0_part575 k0_part576 k0_part577 k0_part578
              k0_part579 k0_part580 k0_part581 k0_part582 k0_part583 k0_part584
  repeat' first
    | with_reducible refine Safe.bind ?_ fun _ => ?_
    | with_reducible exact Safe.pure _
    | with_reducible refine Safe.loop _ _ _ fun _ _ => ?_
    | with_reducible refine Safe.dite (fun _ => ?_) fun _ => ?_
    | with_reducible refine Safe.ite ?_ ?_
    | with_reducible exact h.l2 _ _
    | with_reducible exact h.l3 _ _
    | with_reducible exact h.l4 _ _
    | with_reducible exact h.l5 _ _
    | with_reducible exact h.l6 _ _
    | with_reducible exact h.l7 _ _
    | with_reducible exact h.l8 _ _
    | with_reducible exact h.l9 _ _
    | with_reducible exact h.l10 _ _
    | with_reducible exact h.l11 _ _
    | with_reducible exact h.l12 _ _
    | with_reducible exact h.l13 _ _
    | with_reducible exact h.l14 _ _
    | with_reducible exact h.l15 _ _
    | with_reducible exact h.l16 _ _
    | with_reducible exact h.l17 _ _
    | with_reducible exact h.l18 _ _
    | with_reducible exact h.l19 _ _
    | with_reducible exact h.l20 _ _
    | with_reducible exact h.l21 _ _
    | with_reducible exact h.l22 _ _
    | with_reducible exact h.l23 _ _
    | with_reducible exact h.s13 _ _ _ _ _
    | with_reducible exact h.s14 _ _ _ _ _
    | with_reducible exact h.s15 _ _ _ _ _
    | with_reducible exact h.s16 _ _ _ _ _
    | with_reducible exact h.s17 _ _ _ _ _
    | with_reducible exact h.s18 _ _ _ _ _
    | with_reducible exact h.s19 _ _ _ _ _
    | with_reducible exact h.s20 _ _ _ _ _
    | with_reducible exact h.s21 _ _ _ _ _
    | with_reducible exact h.s22 _ _ _ _ _
    | with_reducible exact h.s23 _ _ _ _ _

/-- `I` is kept by this block. -/
theorem k0_part678_safe {c : Dev nD} {I : sProp 𝕄} (h : Held c I arg2 arg3 arg4 arg5 arg6 arg7 arg8 arg9 arg10 arg11 arg12 arg13 arg14 arg15 arg16 arg17 arg18 arg19 arg20 arg21 arg22 arg23)
    (arg1 : BitVec 32) (v10 : IVec S128x128 32) (v11 : IVec S128x128 32) (v46 : Vec F S1x128 .i32) (v72 : BitVec 32) (v82 : BitVec 32) (v85 : FVec F S1x1024 .f32) (v103 : BitVec 32) (v139 : BitVec 32) (v140 : BitVec 32) (v158 : BitVec 32) (v180 : FVec F S1x1024 .f32) (c2147483647_i32 : BitVec 32) (k0_h7 : k0_cond7 i = 1#1) :
    Safe c I (k0_part678 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v10 v11 v46 v72 v82 v85 v103 v139 v140 v158 v180 c2147483647_i32 k0_h7) := by
  delta k0_part678
  repeat' first
    | with_reducible refine Safe.bind ?_ fun _ => ?_
    | with_reducible exact Safe.pure _
    | with_reducible refine Safe.loop _ _ _ fun _ _ => ?_
    | with_reducible refine Safe.dite (fun _ => ?_) fun _ => ?_
    | with_reducible refine Safe.ite ?_ ?_
    | with_reducible refine k0_part179_safe h ..
    | with_reducible refine k0_part279_safe h ..
    | with_reducible refine k0_part381_safe h ..
    | with_reducible refine k0_part483_safe h ..
    | with_reducible refine k0_part534_safe h ..
    | with_reducible refine k0_part585_safe h ..
    | with_reducible exact h.l2 _ _
    | with_reducible exact h.l3 _ _
    | with_reducible exact h.l4 _ _
    | with_reducible exact h.l5 _ _
    | with_reducible exact h.l6 _ _
    | with_reducible exact h.l7 _ _
    | with_reducible exact h.l8 _ _
    | with_reducible exact h.l9 _ _
    | with_reducible exact h.l10 _ _
    | with_reducible exact h.l11 _ _
    | with_reducible exact h.l12 _ _
    | with_reducible exact h.l13 _ _
    | with_reducible exact h.l14 _ _
    | with_reducible exact h.l15 _ _
    | with_reducible exact h.l16 _ _
    | with_reducible exact h.l17 _ _
    | with_reducible exact h.l18 _ _
    | with_reducible exact h.l19 _ _
    | with_reducible exact h.l20 _ _
    | with_reducible exact h.l21 _ _
    | with_reducible exact h.l22 _ _
    | with_reducible exact h.l23 _ _
    | with_reducible exact h.s13 _ _ _ _ _
    | with_reducible exact h.s14 _ _ _ _ _
    | with_reducible exact h.s15 _ _ _ _ _
    | with_reducible exact h.s16 _ _ _ _ _
    | with_reducible exact h.s17 _ _ _ _ _
    | with_reducible exact h.s18 _ _ _ _ _
    | with_reducible exact h.s19 _ _ _ _ _
    | with_reducible exact h.s20 _ _ _ _ _
    | with_reducible exact h.s21 _ _ _ _ _
    | with_reducible exact h.s22 _ _ _ _ _
    | with_reducible exact h.s23 _ _ _ _ _
  all_goals delta k0_part140 k0_part141 k0_part142 k0_part143 k0_part144 k0_part145 k0_part146 k0_part147
              k0_part148 k0_part149 k0_part150 k0_part151 k0_part152 k0_part153 k0_part154 k0_part155 k0_part156
              k0_part157 k0_part158 k0_part159 k0_part160 k0_part161 k0_part162 k0_part163 k0_part164 k0_part165
              k0_part166 k0_part167 k0_part168 k0_part169 k0_part170 k0_part171 k0_part172 k0_part173 k0_part174
              k0_part175 k0_part176 k0_part177 k0_part178 k0_part240 k0_part241 k0_part242 k0_part243 k0_part244
              k0_part245 k0_part246 k0_part247 k0_part248 k0_part249 k0_part250 k0_part251 k0_part252 k0_part253
              k0_part254 k0_part255 k0_part256 k0_part257 k0_part258 k0_part259 k0_part260 k0_part261 k0_part262
              k0_part263 k0_part264 k0_part265 k0_part266 k0_part267 k0_part268 k0_part269 k0_part270 k0_part271
              k0_part272 k0_part273 k0_part274 k0_part275 k0_part276 k0_part277 k0_part278 k0_part340 k0_part341
              k0_part342 k0_part343 k0_part344 k0_part345 k0_part346 k0_part347 k0_part348 k0_part349 k0_part350
              k0_part351 k0_part352 k0_part353 k0_part354 k0_part355 k0_part356 k0_part357 k0_part358 k0_part359
              k0_part360 k0_part361 k0_part362 k0_part363 k0_part364 k0_part365 k0_part366 k0_part367 k0_part368
              k0_part369 k0_part370 k0_part371 k0_part372 k0_part373 k0_part374 k0_part375 k0_part376 k0_part377
              k0_part378 k0_part379 k0_part380 k0_part442 k0_part443 k0_part444 k0_part445 k0_part446 k0_part447
              k0_part448 k0_part449 k0_part450 k0_part451 k0_part452 k0_part453 k0_part454 k0_part455 k0_part456
              k0_part457 k0_part458 k0_part459 k0_part460 k0_part461 k0_part462 k0_part463 k0_part464 k0_part465
              k0_part466 k0_part467 k0_part468 k0_part469 k0_part470 k0_part471 k0_part472 k0_part473 k0_part474
              k0_part475 k0_part476 k0_part477 k0_part478 k0_part479 k0_part480 k0_part481 k0_part482
  repeat' first
    | with_reducible refine Safe.bind ?_ fun _ => ?_
    | with_reducible exact Safe.pure _
    | with_reducible refine Safe.loop _ _ _ fun _ _ => ?_
    | with_reducible refine Safe.dite (fun _ => ?_) fun _ => ?_
    | with_reducible refine Safe.ite ?_ ?_
    | with_reducible refine k0_part179_safe h ..
    | with_reducible refine k0_part279_safe h ..
    | with_reducible refine k0_part381_safe h ..
    | with_reducible refine k0_part483_safe h ..
    | with_reducible refine k0_part534_safe h ..
    | with_reducible refine k0_part585_safe h ..
    | with_reducible exact h.l2 _ _
    | with_reducible exact h.l3 _ _
    | with_reducible exact h.l4 _ _
    | with_reducible exact h.l5 _ _
    | with_reducible exact h.l6 _ _
    | with_reducible exact h.l7 _ _
    | with_reducible exact h.l8 _ _
    | with_reducible exact h.l9 _ _
    | with_reducible exact h.l10 _ _
    | with_reducible exact h.l11 _ _
    | with_reducible exact h.l12 _ _
    | with_reducible exact h.l13 _ _
    | with_reducible exact h.l14 _ _
    | with_reducible exact h.l15 _ _
    | with_reducible exact h.l16 _ _
    | with_reducible exact h.l17 _ _
    | with_reducible exact h.l18 _ _
    | with_reducible exact h.l19 _ _
    | with_reducible exact h.l20 _ _
    | with_reducible exact h.l21 _ _
    | with_reducible exact h.l22 _ _
    | with_reducible exact h.l23 _ _
    | with_reducible exact h.s13 _ _ _ _ _
    | with_reducible exact h.s14 _ _ _ _ _
    | with_reducible exact h.s15 _ _ _ _ _
    | with_reducible exact h.s16 _ _ _ _ _
    | with_reducible exact h.s17 _ _ _ _ _
    | with_reducible exact h.s18 _ _ _ _ _
    | with_reducible exact h.s19 _ _ _ _ _
    | with_reducible exact h.s20 _ _ _ _ _
    | with_reducible exact h.s21 _ _ _ _ _
    | with_reducible exact h.s22 _ _ _ _ _
    | with_reducible exact h.s23 _ _ _ _ _

/-- `I` is kept by this block. -/
theorem k0_part701_safe {c : Dev nD} {I : sProp 𝕄} (h : Held c I arg2 arg3 arg4 arg5 arg6 arg7 arg8 arg9 arg10 arg11 arg12 arg13 arg14 arg15 arg16 arg17 arg18 arg19 arg20 arg21 arg22 arg23)
    (arg1 : BitVec 32) (v46 : Vec F S1x128 .i32) (v72 : BitVec 32) (v82 : BitVec 32) (v140 : BitVec 32) (c2147483647_i32_95 : BitVec 32) (k0_h8 : k0_cond8 i = 1#1) (c0_i32_111 : BitVec 32) (c1_i32_113 : BitVec 32) (k0_t12 : Fin (k0_t12_loop i).trips) (arg25 : FVec F S1x1024 .f32) :
    Safe c I (k0_part701 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v46 v72 v82 v140 c2147483647_i32_95 k0_h8 c0_i32_111 c1_i32_113 k0_t12 arg25) := by
  delta k0_part701
  repeat' first
    | with_reducible refine Safe.bind ?_ fun _ => ?_
    | with_reducible exact Safe.pure _
    | with_reducible refine Safe.loop _ _ _ fun _ _ => ?_
    | with_reducible refine Safe.dite (fun _ => ?_) fun _ => ?_
    | with_reducible refine Safe.ite ?_ ?_
    | with_reducible exact h.l2 _ _
    | with_reducible exact h.l3 _ _
    | with_reducible exact h.l4 _ _
    | with_reducible exact h.l5 _ _
    | with_reducible exact h.l6 _ _
    | with_reducible exact h.l7 _ _
    | with_reducible exact h.l8 _ _
    | with_reducible exact h.l9 _ _
    | with_reducible exact h.l10 _ _
    | with_reducible exact h.l11 _ _
    | with_reducible exact h.l12 _ _
    | with_reducible exact h.l13 _ _
    | with_reducible exact h.l14 _ _
    | with_reducible exact h.l15 _ _
    | with_reducible exact h.l16 _ _
    | with_reducible exact h.l17 _ _
    | with_reducible exact h.l18 _ _
    | with_reducible exact h.l19 _ _
    | with_reducible exact h.l20 _ _
    | with_reducible exact h.l21 _ _
    | with_reducible exact h.l22 _ _
    | with_reducible exact h.l23 _ _
    | with_reducible exact h.s13 _ _ _ _ _
    | with_reducible exact h.s14 _ _ _ _ _
    | with_reducible exact h.s15 _ _ _ _ _
    | with_reducible exact h.s16 _ _ _ _ _
    | with_reducible exact h.s17 _ _ _ _ _
    | with_reducible exact h.s18 _ _ _ _ _
    | with_reducible exact h.s19 _ _ _ _ _
    | with_reducible exact h.s20 _ _ _ _ _
    | with_reducible exact h.s21 _ _ _ _ _
    | with_reducible exact h.s22 _ _ _ _ _
    | with_reducible exact h.s23 _ _ _ _ _
  all_goals delta k0_part693 k0_part694 k0_part695 k0_part696 k0_part697 k0_part698 k0_part699 k0_part700
  repeat' first
    | with_reducible refine Safe.bind ?_ fun _ => ?_
    | with_reducible exact Safe.pure _
    | with_reducible refine Safe.loop _ _ _ fun _ _ => ?_
    | with_reducible refine Safe.dite (fun _ => ?_) fun _ => ?_
    | with_reducible refine Safe.ite ?_ ?_
    | with_reducible exact h.l2 _ _
    | with_reducible exact h.l3 _ _
    | with_reducible exact h.l4 _ _
    | with_reducible exact h.l5 _ _
    | with_reducible exact h.l6 _ _
    | with_reducible exact h.l7 _ _
    | with_reducible exact h.l8 _ _
    | with_reducible exact h.l9 _ _
    | with_reducible exact h.l10 _ _
    | with_reducible exact h.l11 _ _
    | with_reducible exact h.l12 _ _
    | with_reducible exact h.l13 _ _
    | with_reducible exact h.l14 _ _
    | with_reducible exact h.l15 _ _
    | with_reducible exact h.l16 _ _
    | with_reducible exact h.l17 _ _
    | with_reducible exact h.l18 _ _
    | with_reducible exact h.l19 _ _
    | with_reducible exact h.l20 _ _
    | with_reducible exact h.l21 _ _
    | with_reducible exact h.l22 _ _
    | with_reducible exact h.l23 _ _
    | with_reducible exact h.s13 _ _ _ _ _
    | with_reducible exact h.s14 _ _ _ _ _
    | with_reducible exact h.s15 _ _ _ _ _
    | with_reducible exact h.s16 _ _ _ _ _
    | with_reducible exact h.s17 _ _ _ _ _
    | with_reducible exact h.s18 _ _ _ _ _
    | with_reducible exact h.s19 _ _ _ _ _
    | with_reducible exact h.s20 _ _ _ _ _
    | with_reducible exact h.s21 _ _ _ _ _
    | with_reducible exact h.s22 _ _ _ _ _
    | with_reducible exact h.s23 _ _ _ _ _

/-- `I` is kept by this block. -/
theorem k0_part710_safe {c : Dev nD} {I : sProp 𝕄} (h : Held c I arg2 arg3 arg4 arg5 arg6 arg7 arg8 arg9 arg10 arg11 arg12 arg13 arg14 arg15 arg16 arg17 arg18 arg19 arg20 arg21 arg22 arg23)
    (arg1 : BitVec 32) (v46 : Vec F S1x128 .i32) (v72 : BitVec 32) (v82 : BitVec 32) (v140 : BitVec 32) (c2147483647_i32_95 : BitVec 32) (k0_h8 : k0_cond8 i = 1#1) (v218 : BitVec 32) (c1_i32_114 : BitVec 32) (k0_t13 : Fin (k0_t13_loop i).trips) (arg25 : FVec F S1x1024 .f32) :
    Safe c I (k0_part710 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v46 v72 v82 v140 c2147483647_i32_95 k0_h8 v218 c1_i32_114 k0_t13 arg25) := by
  delta k0_part710
  repeat' first
    | with_reducible refine Safe.bind ?_ fun _ => ?_
    | with_reducible exact Safe.pure _
    | with_reducible refine Safe.loop _ _ _ fun _ _ => ?_
    | with_reducible refine Safe.dite (fun _ => ?_) fun _ => ?_
    | with_reducible refine Safe.ite ?_ ?_
    | with_reducible exact h.l2 _ _
    | with_reducible exact h.l3 _ _
    | with_reducible exact h.l4 _ _
    | with_reducible exact h.l5 _ _
    | with_reducible exact h.l6 _ _
    | with_reducible exact h.l7 _ _
    | with_reducible exact h.l8 _ _
    | with_reducible exact h.l9 _ _
    | with_reducible exact h.l10 _ _
    | with_reducible exact h.l11 _ _
    | with_reducible exact h.l12 _ _
    | with_reducible exact h.l13 _ _
    | with_reducible exact h.l14 _ _
    | with_reducible exact h.l15 _ _
    | with_reducible exact h.l16 _ _
    | with_reducible exact h.l17 _ _
    | with_reducible exact h.l18 _ _
    | with_reducible exact h.l19 _ _
    | with_reducible exact h.l20 _ _
    | with_reducible exact h.l21 _ _
    | with_reducible exact h.l22 _ _
    | with_reducible exact h.l23 _ _
    | with_reducible exact h.s13 _ _ _ _ _
    | with_reducible exact h.s14 _ _ _ _ _
    | with_reducible exact h.s15 _ _ _ _ _
    | with_reducible exact h.s16 _ _ _ _ _
    | with_reducible exact h.s17 _ _ _ _ _
    | with_reducible exact h.s18 _ _ _ _ _
    | with_reducible exact h.s19 _ _ _ _ _
    | with_reducible exact h.s20 _ _ _ _ _
    | with_reducible exact h.s21 _ _ _ _ _
    | with_reducible exact h.s22 _ _ _ _ _
    | with_reducible exact h.s23 _ _ _ _ _
  all_goals delta k0_part702 k0_part703 k0_part704 k0_part705 k0_part706 k0_part707 k0_part708 k0_part709
  repeat' first
    | with_reducible refine Safe.bind ?_ fun _ => ?_
    | with_reducible exact Safe.pure _
    | with_reducible refine Safe.loop _ _ _ fun _ _ => ?_
    | with_reducible refine Safe.dite (fun _ => ?_) fun _ => ?_
    | with_reducible refine Safe.ite ?_ ?_
    | with_reducible exact h.l2 _ _
    | with_reducible exact h.l3 _ _
    | with_reducible exact h.l4 _ _
    | with_reducible exact h.l5 _ _
    | with_reducible exact h.l6 _ _
    | with_reducible exact h.l7 _ _
    | with_reducible exact h.l8 _ _
    | with_reducible exact h.l9 _ _
    | with_reducible exact h.l10 _ _
    | with_reducible exact h.l11 _ _
    | with_reducible exact h.l12 _ _
    | with_reducible exact h.l13 _ _
    | with_reducible exact h.l14 _ _
    | with_reducible exact h.l15 _ _
    | with_reducible exact h.l16 _ _
    | with_reducible exact h.l17 _ _
    | with_reducible exact h.l18 _ _
    | with_reducible exact h.l19 _ _
    | with_reducible exact h.l20 _ _
    | with_reducible exact h.l21 _ _
    | with_reducible exact h.l22 _ _
    | with_reducible exact h.l23 _ _
    | with_reducible exact h.s13 _ _ _ _ _
    | with_reducible exact h.s14 _ _ _ _ _
    | with_reducible exact h.s15 _ _ _ _ _
    | with_reducible exact h.s16 _ _ _ _ _
    | with_reducible exact h.s17 _ _ _ _ _
    | with_reducible exact h.s18 _ _ _ _ _
    | with_reducible exact h.s19 _ _ _ _ _
    | with_reducible exact h.s20 _ _ _ _ _
    | with_reducible exact h.s21 _ _ _ _ _
    | with_reducible exact h.s22 _ _ _ _ _
    | with_reducible exact h.s23 _ _ _ _ _

/-- `I` is kept by this block. -/
theorem k0_part738_safe {c : Dev nD} {I : sProp 𝕄} (h : Held c I arg2 arg3 arg4 arg5 arg6 arg7 arg8 arg9 arg10 arg11 arg12 arg13 arg14 arg15 arg16 arg17 arg18 arg19 arg20 arg21 arg22 arg23)
    (arg1 : BitVec 32) (v12 : IVec S256x128 32) (k0_h10 : k0_cond10 i = 1#1) :
    Safe c I (k0_part738 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v12 k0_h10) := by
  delta k0_part738
  repeat' first
    | with_reducible refine Safe.bind ?_ fun _ => ?_
    | with_reducible exact Safe.pure _
    | with_reducible refine Safe.loop _ _ _ fun _ _ => ?_
    | with_reducible refine Safe.dite (fun _ => ?_) fun _ => ?_
    | with_reducible refine Safe.ite ?_ ?_
    | with_reducible exact h.l2 _ _
    | with_reducible exact h.l3 _ _
    | with_reducible exact h.l4 _ _
    | with_reducible exact h.l5 _ _
    | with_reducible exact h.l6 _ _
    | with_reducible exact h.l7 _ _
    | with_reducible exact h.l8 _ _
    | with_reducible exact h.l9 _ _
    | with_reducible exact h.l10 _ _
    | with_reducible exact h.l11 _ _
    | with_reducible exact h.l12 _ _
    | with_reducible exact h.l13 _ _
    | with_reducible exact h.l14 _ _
    | with_reducible exact h.l15 _ _
    | with_reducible exact h.l16 _ _
    | with_reducible exact h.l17 _ _
    | with_reducible exact h.l18 _ _
    | with_reducible exact h.l19 _ _
    | with_reducible exact h.l20 _ _
    | with_reducible exact h.l21 _ _
    | with_reducible exact h.l22 _ _
    | with_reducible exact h.l23 _ _
    | with_reducible exact h.s13 _ _ _ _ _
    | with_reducible exact h.s14 _ _ _ _ _
    | with_reducible exact h.s15 _ _ _ _ _
    | with_reducible exact h.s16 _ _ _ _ _
    | with_reducible exact h.s17 _ _ _ _ _
    | with_reducible exact h.s18 _ _ _ _ _
    | with_reducible exact h.s19 _ _ _ _ _
    | with_reducible exact h.s20 _ _ _ _ _
    | with_reducible exact h.s21 _ _ _ _ _
    | with_reducible exact h.s22 _ _ _ _ _
    | with_reducible exact h.s23 _ _ _ _ _
  all_goals delta k0_part723 k0_part724 k0_part725 k0_part726 k0_part727 k0_part728 k0_part729 k0_part730
              k0_part731 k0_part732 k0_part733 k0_part734 k0_part735 k0_part736 k0_part737
  repeat' first
    | with_reducible refine Safe.bind ?_ fun _ => ?_
    | with_reducible exact Safe.pure _
    | with_reducible refine Safe.loop _ _ _ fun _ _ => ?_
    | with_reducible refine Safe.dite (fun _ => ?_) fun _ => ?_
    | with_reducible refine Safe.ite ?_ ?_
    | with_reducible exact h.l2 _ _
    | with_reducible exact h.l3 _ _
    | with_reducible exact h.l4 _ _
    | with_reducible exact h.l5 _ _
    | with_reducible exact h.l6 _ _
    | with_reducible exact h.l7 _ _
    | with_reducible exact h.l8 _ _
    | with_reducible exact h.l9 _ _
    | with_reducible exact h.l10 _ _
    | with_reducible exact h.l11 _ _
    | with_reducible exact h.l12 _ _
    | with_reducible exact h.l13 _ _
    | with_reducible exact h.l14 _ _
    | with_reducible exact h.l15 _ _
    | with_reducible exact h.l16 _ _
    | with_reducible exact h.l17 _ _
    | with_reducible exact h.l18 _ _
    | with_reducible exact h.l19 _ _
    | with_reducible exact h.l20 _ _
    | with_reducible exact h.l21 _ _
    | with_reducible exact h.l22 _ _
    | with_reducible exact h.l23 _ _
    | with_reducible exact h.s13 _ _ _ _ _
    | with_reducible exact h.s14 _ _ _ _ _
    | with_reducible exact h.s15 _ _ _ _ _
    | with_reducible exact h.s16 _ _ _ _ _
    | with_reducible exact h.s17 _ _ _ _ _
    | with_reducible exact h.s18 _ _ _ _ _
    | with_reducible exact h.s19 _ _ _ _ _
    | with_reducible exact h.s20 _ _ _ _ _
    | with_reducible exact h.s21 _ _ _ _ _
    | with_reducible exact h.s22 _ _ _ _ _
    | with_reducible exact h.s23 _ _ _ _ _

/-- `I` is kept by this block. -/
theorem k0_part739_safe {c : Dev nD} {I : sProp 𝕄} (h : Held c I arg2 arg3 arg4 arg5 arg6 arg7 arg8 arg9 arg10 arg11 arg12 arg13 arg14 arg15 arg16 arg17 arg18 arg19 arg20 arg21 arg22 arg23)
     :
    Safe c I (k0_part739 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  delta k0_part739
  repeat' first
    | with_reducible refine Safe.bind ?_ fun _ => ?_
    | with_reducible exact Safe.pure _
    | with_reducible refine Safe.loop _ _ _ fun _ _ => ?_
    | with_reducible refine Safe.dite (fun _ => ?_) fun _ => ?_
    | with_reducible refine Safe.ite ?_ ?_
    | with_reducible exact h.l2 _ _
    | with_reducible exact h.l3 _ _
    | with_reducible exact h.l4 _ _
    | with_reducible exact h.l5 _ _
    | with_reducible exact h.l6 _ _
    | with_reducible exact h.l7 _ _
    | with_reducible exact h.l8 _ _
    | with_reducible exact h.l9 _ _
    | with_reducible exact h.l10 _ _
    | with_reducible exact h.l11 _ _
    | with_reducible exact h.l12 _ _
    | with_reducible exact h.l13 _ _
    | with_reducible exact h.l14 _ _
    | with_reducible exact h.l15 _ _
    | with_reducible exact h.l16 _ _
    | with_reducible exact h.l17 _ _
    | with_reducible exact h.l18 _ _
    | with_reducible exact h.l19 _ _
    | with_reducible exact h.l20 _ _
    | with_reducible exact h.l21 _ _
    | with_reducible exact h.l22 _ _
    | with_reducible exact h.l23 _ _
    | with_reducible exact h.s13 _ _ _ _ _
    | with_reducible exact h.s14 _ _ _ _ _
    | with_reducible exact h.s15 _ _ _ _ _
    | with_reducible exact h.s16 _ _ _ _ _
    | with_reducible exact h.s17 _ _ _ _ _
    | with_reducible exact h.s18 _ _ _ _ _
    | with_reducible exact h.s19 _ _ _ _ _
    | with_reducible exact h.s20 _ _ _ _ _
    | with_reducible exact h.s21 _ _ _ _ _
    | with_reducible exact h.s22 _ _ _ _ _
    | with_reducible exact h.s23 _ _ _ _ _
  all_goals delta k0_part1 k0_part2 k0_part3 k0_part4 k0_part5 k0_part6 k0_part7
  repeat' first
    | with_reducible refine Safe.bind ?_ fun _ => ?_
    | with_reducible exact Safe.pure _
    | with_reducible refine Safe.loop _ _ _ fun _ _ => ?_
    | with_reducible refine Safe.dite (fun _ => ?_) fun _ => ?_
    | with_reducible refine Safe.ite ?_ ?_
    | with_reducible exact h.l2 _ _
    | with_reducible exact h.l3 _ _
    | with_reducible exact h.l4 _ _
    | with_reducible exact h.l5 _ _
    | with_reducible exact h.l6 _ _
    | with_reducible exact h.l7 _ _
    | with_reducible exact h.l8 _ _
    | with_reducible exact h.l9 _ _
    | with_reducible exact h.l10 _ _
    | with_reducible exact h.l11 _ _
    | with_reducible exact h.l12 _ _
    | with_reducible exact h.l13 _ _
    | with_reducible exact h.l14 _ _
    | with_reducible exact h.l15 _ _
    | with_reducible exact h.l16 _ _
    | with_reducible exact h.l17 _ _
    | with_reducible exact h.l18 _ _
    | with_reducible exact h.l19 _ _
    | with_reducible exact h.l20 _ _
    | with_reducible exact h.l21 _ _
    | with_reducible exact h.l22 _ _
    | with_reducible exact h.l23 _ _
    | with_reducible exact h.s13 _ _ _ _ _
    | with_reducible exact h.s14 _ _ _ _ _
    | with_reducible exact h.s15 _ _ _ _ _
    | with_reducible exact h.s16 _ _ _ _ _
    | with_reducible exact h.s17 _ _ _ _ _
    | with_reducible exact h.s18 _ _ _ _ _
    | with_reducible exact h.s19 _ _ _ _ _
    | with_reducible exact h.s20 _ _ _ _ _
    | with_reducible exact h.s21 _ _ _ _ _
    | with_reducible exact h.s22 _ _ _ _ _
    | with_reducible exact h.s23 _ _ _ _ _

/-- `I` is kept by this block. -/
theorem k0_part740_safe {c : Dev nD} {I : sProp 𝕄} (h : Held c I arg2 arg3 arg4 arg5 arg6 arg7 arg8 arg9 arg10 arg11 arg12 arg13 arg14 arg15 arg16 arg17 arg18 arg19 arg20 arg21 arg22 arg23)
    (arg1 : BitVec 32) (v10 : IVec S128x128 32) (v11 : IVec S128x128 32) (v12 : IVec S256x128 32) (v34 : BitVec 1) (c1_i32_17 : BitVec 32) :
    Safe c I (k0_part740 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v10 v11 v12 v34 c1_i32_17) := by
  delta k0_part740
  repeat' first
    | with_reducible refine Safe.bind ?_ fun _ => ?_
    | with_reducible exact Safe.pure _
    | with_reducible refine Safe.loop _ _ _ fun _ _ => ?_
    | with_reducible refine Safe.dite (fun _ => ?_) fun _ => ?_
    | with_reducible refine Safe.ite ?_ ?_
    | with_reducible refine k0_part79_safe h ..
    | with_reducible refine k0_part17_safe h ..
    | with_reducible exact h.l2 _ _
    | with_reducible exact h.l3 _ _
    | with_reducible exact h.l4 _ _
    | with_reducible exact h.l5 _ _
    | with_reducible exact h.l6 _ _
    | with_reducible exact h.l7 _ _
    | with_reducible exact h.l8 _ _
    | with_reducible exact h.l9 _ _
    | with_reducible exact h.l10 _ _
    | with_reducible exact h.l11 _ _
    | with_reducible exact h.l12 _ _
    | with_reducible exact h.l13 _ _
    | with_reducible exact h.l14 _ _
    | with_reducible exact h.l15 _ _
    | with_reducible exact h.l16 _ _
    | with_reducible exact h.l17 _ _
    | with_reducible exact h.l18 _ _
    | with_reducible exact h.l19 _ _
    | with_reducible exact h.l20 _ _
    | with_reducible exact h.l21 _ _
    | with_reducible exact h.l22 _ _
    | with_reducible exact h.l23 _ _
    | with_reducible exact h.s13 _ _ _ _ _
    | with_reducible exact h.s14 _ _ _ _ _
    | with_reducible exact h.s15 _ _ _ _ _
    | with_reducible exact h.s16 _ _ _ _ _
    | with_reducible exact h.s17 _ _ _ _ _
    | with_reducible exact h.s18 _ _ _ _ _
    | with_reducible exact h.s19 _ _ _ _ _
    | with_reducible exact h.s20 _ _ _ _ _
    | with_reducible exact h.s21 _ _ _ _ _
    | with_reducible exact h.s22 _ _ _ _ _
    | with_reducible exact h.s23 _ _ _ _ _
  all_goals delta k0_part8 k0_part9 k0_part10 k0_part11 k0_part12 k0_part13 k0_part14 k0_part15 k0_part16
              k0_part78
  repeat' first
    | with_reducible refine Safe.bind ?_ fun _ => ?_
    | with_reducible exact Safe.pure _
    | with_reducible refine Safe.loop _ _ _ fun _ _ => ?_
    | with_reducible refine Safe.dite (fun _ => ?_) fun _ => ?_
    | with_reducible refine Safe.ite ?_ ?_
    | with_reducible refine k0_part79_safe h ..
    | with_reducible refine k0_part17_safe h ..
    | with_reducible exact h.l2 _ _
    | with_reducible exact h.l3 _ _
    | with_reducible exact h.l4 _ _
    | with_reducible exact h.l5 _ _
    | with_reducible exact h.l6 _ _
    | with_reducible exact h.l7 _ _
    | with_reducible exact h.l8 _ _
    | with_reducible exact h.l9 _ _
    | with_reducible exact h.l10 _ _
    | with_reducible exact h.l11 _ _
    | with_reducible exact h.l12 _ _
    | with_reducible exact h.l13 _ _
    | with_reducible exact h.l14 _ _
    | with_reducible exact h.l15 _ _
    | with_reducible exact h.l16 _ _
    | with_reducible exact h.l17 _ _
    | with_reducible exact h.l18 _ _
    | with_reducible exact h.l19 _ _
    | with_reducible exact h.l20 _ _
    | with_reducible exact h.l21 _ _
    | with_reducible exact h.l22 _ _
    | with_reducible exact h.l23 _ _
    | with_reducible exact h.s13 _ _ _ _ _
    | with_reducible exact h.s14 _ _ _ _ _
    | with_reducible exact h.s15 _ _ _ _ _
    | with_reducible exact h.s16 _ _ _ _ _
    | with_reducible exact h.s17 _ _ _ _ _
    | with_reducible exact h.s18 _ _ _ _ _
    | with_reducible exact h.s19 _ _ _ _ _
    | with_reducible exact h.s20 _ _ _ _ _
    | with_reducible exact h.s21 _ _ _ _ _
    | with_reducible exact h.s22 _ _ _ _ _
    | with_reducible exact h.s23 _ _ _ _ _

/-- The whole body keeps `I`. -/
theorem cc0_dsa_safe {c : Dev nD} {I : sProp 𝕄} (h : Held c I arg2 arg3 arg4 arg5 arg6 arg7 arg8 arg9 arg10 arg11 arg12 arg13 arg14 arg15 arg16 arg17 arg18 arg19 arg20 arg21 arg22 arg23) :
    Safe c I (cc0_dsa i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) := by
  delta cc0_dsa
  repeat' first
    | with_reducible refine Safe.bind ?_ fun _ => ?_
    | with_reducible exact Safe.pure _
    | with_reducible refine Safe.loop _ _ _ fun _ _ => ?_
    | with_reducible refine Safe.dite (fun _ => ?_) fun _ => ?_
    | with_reducible refine Safe.ite ?_ ?_
    | with_reducible refine k0_part739_safe h ..
    | with_reducible refine k0_part740_safe h ..
    | with_reducible refine k0_part678_safe h ..
    | with_reducible refine k0_part701_safe h ..
    | with_reducible refine k0_part710_safe h ..
    | with_reducible refine k0_part738_safe h ..
    | with_reducible exact h.l2 _ _
    | with_reducible exact h.l3 _ _
    | with_reducible exact h.l4 _ _
    | with_reducible exact h.l5 _ _
    | with_reducible exact h.l6 _ _
    | with_reducible exact h.l7 _ _
    | with_reducible exact h.l8 _ _
    | with_reducible exact h.l9 _ _
    | with_reducible exact h.l10 _ _
    | with_reducible exact h.l11 _ _
    | with_reducible exact h.l12 _ _
    | with_reducible exact h.l13 _ _
    | with_reducible exact h.l14 _ _
    | with_reducible exact h.l15 _ _
    | with_reducible exact h.l16 _ _
    | with_reducible exact h.l17 _ _
    | with_reducible exact h.l18 _ _
    | with_reducible exact h.l19 _ _
    | with_reducible exact h.l20 _ _
    | with_reducible exact h.l21 _ _
    | with_reducible exact h.l22 _ _
    | with_reducible exact h.l23 _ _
    | with_reducible exact h.s13 _ _ _ _ _
    | with_reducible exact h.s14 _ _ _ _ _
    | with_reducible exact h.s15 _ _ _ _ _
    | with_reducible exact h.s16 _ _ _ _ _
    | with_reducible exact h.s17 _ _ _ _ _
    | with_reducible exact h.s18 _ _ _ _ _
    | with_reducible exact h.s19 _ _ _ _ _
    | with_reducible exact h.s20 _ _ _ _ _
    | with_reducible exact h.s21 _ _ _ _ _
    | with_reducible exact h.s22 _ _ _ _ _
    | with_reducible exact h.s23 _ _ _ _ _
  all_goals delta k0_part741 k0_part742 k0_part743 k0_part586 k0_part587 k0_part588 k0_part589 k0_part590
              k0_part591 k0_part592 k0_part593 k0_part594 k0_part595 k0_part596 k0_part597 k0_part598 k0_part599
              k0_part600 k0_part601 k0_part602 k0_part603 k0_part604 k0_part605 k0_part606 k0_part607 k0_part608
              k0_part609 k0_part610 k0_part611 k0_part612 k0_part613 k0_part614 k0_part615 k0_part616 k0_part617
              k0_part618 k0_part619 k0_part620 k0_part621 k0_part622 k0_part623 k0_part624 k0_part625 k0_part626
              k0_part627 k0_part628 k0_part629 k0_part630 k0_part631 k0_part632 k0_part633 k0_part634 k0_part635
              k0_part636 k0_part637 k0_part638 k0_part639 k0_part640 k0_part641 k0_part642 k0_part643 k0_part644
              k0_part645 k0_part646 k0_part647 k0_part648 k0_part649 k0_part650 k0_part651 k0_part652 k0_part653
              k0_part654 k0_part655 k0_part656 k0_part657 k0_part658 k0_part659 k0_part660 k0_part661 k0_part662
              k0_part663 k0_part664 k0_part665 k0_part666 k0_part667 k0_part668 k0_part669 k0_part670 k0_part671
              k0_part672 k0_part673 k0_part674 k0_part675 k0_part676 k0_part677 k0_part685 k0_part692 k0_part711
              k0_part712 k0_part713 k0_part714 k0_part715 k0_part716 k0_part717 k0_part718 k0_part719 k0_part720
              k0_part721 k0_part722
  repeat' first
    | with_reducible refine Safe.bind ?_ fun _ => ?_
    | with_reducible exact Safe.pure _
    | with_reducible refine Safe.loop _ _ _ fun _ _ => ?_
    | with_reducible refine Safe.dite (fun _ => ?_) fun _ => ?_
    | with_reducible refine Safe.ite ?_ ?_
    | with_reducible refine k0_part739_safe h ..
    | with_reducible refine k0_part740_safe h ..
    | with_reducible refine k0_part678_safe h ..
    | with_reducible refine k0_part701_safe h ..
    | with_reducible refine k0_part710_safe h ..
    | with_reducible refine k0_part738_safe h ..
    | with_reducible exact h.l2 _ _
    | with_reducible exact h.l3 _ _
    | with_reducible exact h.l4 _ _
    | with_reducible exact h.l5 _ _
    | with_reducible exact h.l6 _ _
    | with_reducible exact h.l7 _ _
    | with_reducible exact h.l8 _ _
    | with_reducible exact h.l9 _ _
    | with_reducible exact h.l10 _ _
    | with_reducible exact h.l11 _ _
    | with_reducible exact h.l12 _ _
    | with_reducible exact h.l13 _ _
    | with_reducible exact h.l14 _ _
    | with_reducible exact h.l15 _ _
    | with_reducible exact h.l16 _ _
    | with_reducible exact h.l17 _ _
    | with_reducible exact h.l18 _ _
    | with_reducible exact h.l19 _ _
    | with_reducible exact h.l20 _ _
    | with_reducible exact h.l21 _ _
    | with_reducible exact h.l22 _ _
    | with_reducible exact h.l23 _ _
    | with_reducible exact h.s13 _ _ _ _ _
    | with_reducible exact h.s14 _ _ _ _ _
    | with_reducible exact h.s15 _ _ _ _ _
    | with_reducible exact h.s16 _ _ _ _ _
    | with_reducible exact h.s17 _ _ _ _ _
    | with_reducible exact h.s18 _ _ _ _ _
    | with_reducible exact h.s19 _ _ _ _ _
    | with_reducible exact h.s20 _ _ _ _ _
    | with_reducible exact h.s21 _ _ _ _ _
    | with_reducible exact h.s22 _ _ _ _ _
    | with_reducible exact h.s23 _ _ _ _ _
  all_goals delta k0_part679 k0_part680 k0_part681 k0_part682 k0_part683 k0_part684 k0_part686 k0_part687
              k0_part688 k0_part689 k0_part690 k0_part691
  repeat' first
    | with_reducible refine Safe.bind ?_ fun _ => ?_
    | with_reducible exact Safe.pure _
    | with_reducible refine Safe.loop _ _ _ fun _ _ => ?_
    | with_reducible refine Safe.dite (fun _ => ?_) fun _ => ?_
    | with_reducible refine Safe.ite ?_ ?_
    | with_reducible exact h.l2 _ _
    | with_reducible exact h.l3 _ _
    | with_reducible exact h.l4 _ _
    | with_reducible exact h.l5 _ _
    | with_reducible exact h.l6 _ _
    | with_reducible exact h.l7 _ _
    | with_reducible exact h.l8 _ _
    | with_reducible exact h.l9 _ _
    | with_reducible exact h.l10 _ _
    | with_reducible exact h.l11 _ _
    | with_reducible exact h.l12 _ _
    | with_reducible exact h.l13 _ _
    | with_reducible exact h.l14 _ _
    | with_reducible exact h.l15 _ _
    | with_reducible exact h.l16 _ _
    | with_reducible exact h.l17 _ _
    | with_reducible exact h.l18 _ _
    | with_reducible exact h.l19 _ _
    | with_reducible exact h.l20 _ _
    | with_reducible exact h.l21 _ _
    | with_reducible exact h.l22 _ _
    | with_reducible exact h.l23 _ _
    | with_reducible exact h.s13 _ _ _ _ _
    | with_reducible exact h.s14 _ _ _ _ _
    | with_reducible exact h.s15 _ _ _ _ _
    | with_reducible exact h.s16 _ _ _ _ _
    | with_reducible exact h.s17 _ _ _ _ _
    | with_reducible exact h.s18 _ _ _ _ _
    | with_reducible exact h.s19 _ _ _ _ _
    | with_reducible exact h.s20 _ _ _ _ _
    | with_reducible exact h.s21 _ _ _ _ _
    | with_reducible exact h.s22 _ _ _ _ _
    | with_reducible exact h.s23 _ _ _ _ _

end Cert.Kernel.Hand

end
-- ==== Proof.DsaFrame.lean ====
module

public import proofs.«01_k».proof.Proof.Body
public import proofs.«01_k».proof.Proof.Gen.Kernel.Frame
public import Idealize.ShloMosaic.Lib.Claim

@[expose] public section

set_option maxRecDepth 16384

noncomputable section

/-! The frame of the attention call. Nothing is said of what its staged blocks and its scratch hold: each point finds
    them at some contents and leaves them at some contents, which is enough for the body to run without a fault, for
    every argument to end as it was, and for every semaphore to end at zero. -/

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [BitOps F]

local notation "𝕄" => MT nD τ sig Unit (Elt F) ℕ (UR sig nD τ) ℕ

/-- `I` lends `P` and takes it back. -/
def Lends (I P : sProp 𝕄) : Prop := I ⊢ iprop(P ∗ (P -∗ I))

theorem Lends.refl {P : sProp 𝕄} : Lends P P := by
  unfold Lends
  iintro H
  isplitl [H]
  · iexact H
  · iintro H; iexact H

theorem Lends.left {P Q R : sProp 𝕄} (h : Lends Q P) : Lends iprop(Q ∗ R) P := by
  unfold Lends at h ⊢
  iintro ⟨HQ, HR⟩
  ihave ⟨HP, Hk⟩ := h $$ HQ
  isplitl [HP]
  · iexact HP
  · iintro HP
    isplitl [HP Hk]
    · iapply Hk; iexact HP
    · iexact HR

theorem Lends.right {P Q R : sProp 𝕄} (h : Lends R P) : Lends iprop(Q ∗ R) P := by
  unfold Lends at h ⊢
  iintro ⟨HQ, HR⟩
  ihave ⟨HP, Hk⟩ := h $$ HR
  isplitl [HP]
  · iexact HP
  · iintro HP
    isplitl [HQ]
    · iexact HQ
    · iapply Hk; iexact HP

/-- A memref lent at some contents may be loaded from, -/
theorem Lends.loads {c : Dev nD} {I : sProp 𝕄} {cs : CoreSpace} {s : Shape} {e : EltTy} {m : Memref sig .tc cs s e}
    (h : Lends I iprop(∃ X, owns (c : Thread nD τ) m fullShare X)) : Loads c I m :=
  Loads.of (by
    refine BIBase.Entails.trans h ?_
    unfold owns
    iintro ⟨⟨%X, %f, %hf, H⟩, Hk⟩
    iexists f
    isplitl [H]
    · iexact H
    · iintro H
      iapply Hk
      iexists X; iexists f
      isplitr
      · ipureintro; exact hf
      · iexact H)

/-- and stored to. -/
theorem Lends.stores {c : Dev nD} {I : sProp 𝕄} {cs : CoreSpace} {s : Shape} {e : EltTy} {m : Memref sig .tc cs s e}
    (h : Lends I iprop(∃ X, owns (c : Thread nD τ) m fullShare X)) : Stores c I m :=
  Stores.of (by
    refine BIBase.Entails.trans h ?_
    unfold owns
    iintro ⟨⟨%X, %f, %hf, H⟩, Hk⟩
    iexists f
    isplitl [H]
    · iexact H
    · iintro %f' H
      iapply Hk
      iexists (m.view.read (Elt F) f'); iexists f'
      isplitr
      · ipureintro; rfl
      · iexact H)

variable (m : (ℓ : Loc nD τ sig) → Buf (Elt F) ℓ) (ρ : Dev nD → PrngReg)

/-- The proof data: the arrays as the region finds them, the staged blocks at no named contents. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

theorem dats_A (c : Dev nD) (w : Fin cfg0.W) : (dats m 0 c).A w = V m c (Pipeline.arrRef spec0 w) := by
  dsimp only [dats]

/-- What the body holds at a point: the scratch buffers, the generator register, what it owes, and its staged blocks. -/
def held (c : Dev nD) (t : Fin cfg0.N) : sProp 𝕄 :=
  iprop(Pipeline.ΦA spec0 c ∗ (dats m 0 c).owesAt () t.castSucc
    ∗ bigSep Finset.univ fun w : Fin cfg0.W => iprop(∃ X, owns (c : Thread nD τ) ((cfg0.win w).stage (cfg0.slots t w)) fullShare X))

theorem scratch_eq (c : Dev nD) :
    (Pipeline.ΦA spec0 c : sProp 𝕄) = iprop((
      (∃ X, owns (c : Thread nD τ) (Memref.whole cc0_scratch0) fullShare X)
      ∗ (∃ X, owns (c : Thread nD τ) (Memref.whole cc0_scratch1) fullShare X)
      ∗ (∃ X, owns (c : Thread nD τ) (Memref.whole cc0_scratch2) fullShare X)
      ∗ (∃ X, owns (c : Thread nD τ) (Memref.whole cc0_scratch3) fullShare X)
      ∗ (∃ X, owns (c : Thread nD τ) (Memref.whole cc0_scratch4) fullShare X)
      ∗ (∃ X, owns (c : Thread nD τ) (Memref.whole cc0_scratch5) fullShare X)
      ∗ (∃ X, owns (c : Thread nD τ) (Memref.whole cc0_scratch6) fullShare X)
      ∗ (∃ X, owns (c : Thread nD τ) (Memref.whole cc0_scratch7) fullShare X)
      ∗ (∃ X, owns (c : Thread nD τ) (Memref.whole cc0_scratch8) fullShare X)
      ∗ (∃ X, owns (c : Thread nD τ) (Memref.whole cc0_scratch9) fullShare X)) ∗ ∃ r, prngReg c r) := by
  unfold Pipeline.ΦA; rw [scopedRest0_eq]; simp only [owns_whole]; try rfl

theorem held_eq (c : Dev nD) (t : Fin cfg0.N) :
    held m c t = iprop(((
      (∃ X, owns (c : Thread nD τ) (Memref.whole cc0_scratch0) fullShare X)
      ∗ (∃ X, owns (c : Thread nD τ) (Memref.whole cc0_scratch1) fullShare X)
      ∗ (∃ X, owns (c : Thread nD τ) (Memref.whole cc0_scratch2) fullShare X)
      ∗ (∃ X, owns (c : Thread nD τ) (Memref.whole cc0_scratch3) fullShare X)
      ∗ (∃ X, owns (c : Thread nD τ) (Memref.whole cc0_scratch4) fullShare X)
      ∗ (∃ X, owns (c : Thread nD τ) (Memref.whole cc0_scratch5) fullShare X)
      ∗ (∃ X, owns (c : Thread nD τ) (Memref.whole cc0_scratch6) fullShare X)
      ∗ (∃ X, owns (c : Thread nD τ) (Memref.whole cc0_scratch7) fullShare X)
      ∗ (∃ X, owns (c : Thread nD τ) (Memref.whole cc0_scratch8) fullShare X)
      ∗ (∃ X, owns (c : Thread nD τ) (Memref.whole cc0_scratch9) fullShare X)) ∗ ∃ r, prngReg c r) ∗ (dats m 0 c).owesAt () t.castSucc
      ∗ (∃ X, owns (c : Thread nD τ) (win0_0.stage (cfg0.slots t 0)) fullShare X)
      ∗ (∃ X, owns (c : Thread nD τ) (win0_1.stage (cfg0.slots t 1)) fullShare X)
      ∗ (∃ X, owns (c : Thread nD τ) (win0_2.stage (cfg0.slots t 2)) fullShare X)
      ∗ (∃ X, owns (c : Thread nD τ) (win0_3.stage (cfg0.slots t 3)) fullShare X)
      ∗ (∃ X, owns (c : Thread nD τ) (win0_4.stage (cfg0.slots t 4)) fullShare X)
      ∗ (∃ X, owns (c : Thread nD τ) (win0_5.stage (cfg0.slots t 5)) fullShare X)
      ∗ (∃ X, owns (c : Thread nD τ) (win0_6.stage (cfg0.slots t 6)) fullShare X)
      ∗ (∃ X, owns (c : Thread nD τ) (win0_7.stage (cfg0.slots t 7)) fullShare X)
      ∗ (∃ X, owns (c : Thread nD τ) (win0_8.stage (cfg0.slots t 8)) fullShare X)
      ∗ (∃ X, owns (c : Thread nD τ) (win0_9.stage (cfg0.slots t 9)) fullShare X)
      ∗ (∃ X, owns (c : Thread nD τ) (win0_10.stage (cfg0.slots t 10)) fullShare X)
      ∗ (∃ X, owns (c : Thread nD τ) (win0_11.stage (cfg0.slots t 11)) fullShare X)) := by
  unfold held; rw [scratch_eq, bigSep_W0]; try rfl

theorem lends_w0 (c : Dev nD) (t : Fin cfg0.N) : Lends (held m c t) iprop(∃ X, owns (c : Thread nD τ) (win0_0.stage (cfg0.slots t 0)) fullShare X) := by
  rw [held_eq]; exact .right (.right (.left .refl))
theorem lends_w1 (c : Dev nD) (t : Fin cfg0.N) : Lends (held m c t) iprop(∃ X, owns (c : Thread nD τ) (win0_1.stage (cfg0.slots t 1)) fullShare X) := by
  rw [held_eq]; exact .right (.right (.right (.left .refl)))
theorem lends_w2 (c : Dev nD) (t : Fin cfg0.N) : Lends (held m c t) iprop(∃ X, owns (c : Thread nD τ) (win0_2.stage (cfg0.slots t 2)) fullShare X) := by
  rw [held_eq]; exact .right (.right (.right (.right (.left .refl))))
theorem lends_w3 (c : Dev nD) (t : Fin cfg0.N) : Lends (held m c t) iprop(∃ X, owns (c : Thread nD τ) (win0_3.stage (cfg0.slots t 3)) fullShare X) := by
  rw [held_eq]; exact .right (.right (.right (.right (.right (.left .refl)))))
theorem lends_w4 (c : Dev nD) (t : Fin cfg0.N) : Lends (held m c t) iprop(∃ X, owns (c : Thread nD τ) (win0_4.stage (cfg0.slots t 4)) fullShare X) := by
  rw [held_eq]; exact .right (.right (.right (.right (.right (.right (.left .refl))))))
theorem lends_w5 (c : Dev nD) (t : Fin cfg0.N) : Lends (held m c t) iprop(∃ X, owns (c : Thread nD τ) (win0_5.stage (cfg0.slots t 5)) fullShare X) := by
  rw [held_eq]; exact .right (.right (.right (.right (.right (.right (.right (.left .refl)))))))
theorem lends_w6 (c : Dev nD) (t : Fin cfg0.N) : Lends (held m c t) iprop(∃ X, owns (c : Thread nD τ) (win0_6.stage (cfg0.slots t 6)) fullShare X) := by
  rw [held_eq]; exact .right (.right (.right (.right (.right (.right (.right (.right (.left .refl))))))))
theorem lends_w7 (c : Dev nD) (t : Fin cfg0.N) : Lends (held m c t) iprop(∃ X, owns (c : Thread nD τ) (win0_7.stage (cfg0.slots t 7)) fullShare X) := by
  rw [held_eq]; exact .right (.right (.right (.right (.right (.right (.right (.right (.right (.left .refl)))))))))
theorem lends_w8 (c : Dev nD) (t : Fin cfg0.N) : Lends (held m c t) iprop(∃ X, owns (c : Thread nD τ) (win0_8.stage (cfg0.slots t 8)) fullShare X) := by
  rw [held_eq]; exact .right (.right (.right (.right (.right (.right (.right (.right (.right (.right (.left .refl))))))))))
theorem lends_w9 (c : Dev nD) (t : Fin cfg0.N) : Lends (held m c t) iprop(∃ X, owns (c : Thread nD τ) (win0_9.stage (cfg0.slots t 9)) fullShare X) := by
  rw [held_eq]; exact .right (.right (.right (.right (.right (.right (.right (.right (.right (.right (.right (.left .refl)))))))))))
theorem lends_w10 (c : Dev nD) (t : Fin cfg0.N) : Lends (held m c t) iprop(∃ X, owns (c : Thread nD τ) (win0_10.stage (cfg0.slots t 10)) fullShare X) := by
  rw [held_eq]; exact .right (.right (.right (.right (.right (.right (.right (.right (.right (.right (.right (.right (.left .refl))))))))))))
theorem lends_w11 (c : Dev nD) (t : Fin cfg0.N) : Lends (held m c t) iprop(∃ X, owns (c : Thread nD τ) (win0_11.stage (cfg0.slots t 11)) fullShare X) := by
  rw [held_eq]; exact .right (.right (.right (.right (.right (.right (.right (.right (.right (.right (.right (.right (.right .refl))))))))))))
theorem lends_s0 (c : Dev nD) (t : Fin cfg0.N) : Lends (held m c t) iprop(∃ X, owns (c : Thread nD τ) (Memref.whole cc0_scratch0) fullShare X) := by
  rw [held_eq]; exact .left (.left (.left .refl))
theorem lends_s1 (c : Dev nD) (t : Fin cfg0.N) : Lends (held m c t) iprop(∃ X, owns (c : Thread nD τ) (Memref.whole cc0_scratch1) fullShare X) := by
  rw [held_eq]; exact .left (.left (.right (.left .refl)))
theorem lends_s2 (c : Dev nD) (t : Fin cfg0.N) : Lends (held m c t) iprop(∃ X, owns (c : Thread nD τ) (Memref.whole cc0_scratch2) fullShare X) := by
  rw [held_eq]; exact .left (.left (.right (.right (.left .refl))))
theorem lends_s3 (c : Dev nD) (t : Fin cfg0.N) : Lends (held m c t) iprop(∃ X, owns (c : Thread nD τ) (Memref.whole cc0_scratch3) fullShare X) := by
  rw [held_eq]; exact .left (.left (.right (.right (.right (.left .refl)))))
theorem lends_s4 (c : Dev nD) (t : Fin cfg0.N) : Lends (held m c t) iprop(∃ X, owns (c : Thread nD τ) (Memref.whole cc0_scratch4) fullShare X) := by
  rw [held_eq]; exact .left (.left (.right (.right (.right (.right (.left .refl))))))
theorem lends_s5 (c : Dev nD) (t : Fin cfg0.N) : Lends (held m c t) iprop(∃ X, owns (c : Thread nD τ) (Memref.whole cc0_scratch5) fullShare X) := by
  rw [held_eq]; exact .left (.left (.right (.right (.right (.right (.right (.left .refl)))))))
theorem lends_s6 (c : Dev nD) (t : Fin cfg0.N) : Lends (held m c t) iprop(∃ X, owns (c : Thread nD τ) (Memref.whole cc0_scratch6) fullShare X) := by
  rw [held_eq]; exact .left (.left (.right (.right (.right (.right (.right (.right (.left .refl))))))))
theorem lends_s7 (c : Dev nD) (t : Fin cfg0.N) : Lends (held m c t) iprop(∃ X, owns (c : Thread nD τ) (Memref.whole cc0_scratch7) fullShare X) := by
  rw [held_eq]; exact .left (.left (.right (.right (.right (.right (.right (.right (.right (.left .refl)))))))))
theorem lends_s8 (c : Dev nD) (t : Fin cfg0.N) : Lends (held m c t) iprop(∃ X, owns (c : Thread nD τ) (Memref.whole cc0_scratch8) fullShare X) := by
  rw [held_eq]; exact .left (.left (.right (.right (.right (.right (.right (.right (.right (.right (.left .refl))))))))))
theorem lends_s9 (c : Dev nD) (t : Fin cfg0.N) : Lends (held m c t) iprop(∃ X, owns (c : Thread nD τ) (Memref.whole cc0_scratch9) fullShare X) := by
  rw [held_eq]; exact .left (.left (.right (.right (.right (.right (.right (.right (.right (.right (.right .refl))))))))))
theorem body_held (c : Dev nD) (t : Fin cfg0.N) : Held c (held m c t) (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (win0_11.stage (cfg0.slots t 11)) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) where
  l2 := (lends_w0 m c t).loads
  l3 := (lends_w1 m c t).loads
  l4 := (lends_w2 m c t).loads
  l5 := (lends_w3 m c t).loads
  l6 := (lends_w4 m c t).loads
  l7 := (lends_w5 m c t).loads
  l8 := (lends_w6 m c t).loads
  l9 := (lends_w7 m c t).loads
  l10 := (lends_w8 m c t).loads
  l11 := (lends_w9 m c t).loads
  l12 := (lends_w10 m c t).loads
  l13 := (lends_w11 m c t).loads
  l14 := (lends_s0 m c t).loads
  l15 := (lends_s1 m c t).loads
  l16 := (lends_s2 m c t).loads
  l17 := (lends_s3 m c t).loads
  l18 := (lends_s4 m c t).loads
  l19 := (lends_s5 m c t).loads
  l20 := (lends_s6 m c t).loads
  l21 := (lends_s7 m c t).loads
  l22 := (lends_s8 m c t).loads
  l23 := (lends_s9 m c t).loads
  s13 := (lends_w11 m c t).stores
  s14 := (lends_s0 m c t).stores
  s15 := (lends_s1 m c t).stores
  s16 := (lends_s2 m c t).stores
  s17 := (lends_s3 m c t).stores
  s18 := (lends_s4 m c t).stores
  s19 := (lends_s5 m c t).stores
  s20 := (lends_s6 m c t).stores
  s21 := (lends_s7 m c t).stores
  s22 := (lends_s8 m c t).stores
  s23 := (lends_s9 m c t).stores

theorem body_safe (c : Dev nD) (t : Fin cfg0.N) : Safe c (held m c t) (bodyAt0 t) :=
  cc0_dsa_safe (body_held m c t)

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ (fun _ => true) := fun t => by
  rw [defs₀_row]
  exact triple_restated (body_safe m c t Set.univ) rfl .rfl fun _ => .rfl

set_option backward.isDefEq.respectTransparency.types false in
theorem run_quiescent : θ_run defs (onTc (τ := τ) (main (F := F))) (s₀ m ρ)
    (fun r => Pipeline.RDat.FramePost (cfgs 0) (fun c => (dats m 0 c).toRForget fun _ => true) (V m) r ∧ r.2.sem = fun _ => 0) :=
  Pipeline.θ_run_frame_forget_shared (Q' := _) cfgs (dats m) (0 : Fin 1) launch₀0 defs₀ Variants.none (fun _ => true) m ρ main
    (hbody := fun c => (body_obligation m c).loose) (hq := fun _ _ _ => rfl)
    (howed := fun _ _ => rfl) (V := V m) (hmain := hmain m Variants.none) (hA := dats_A m) (hΦ := fun _ _ => rfl)

/-- An input window's array ends as the region found it. -/
theorem arr_kept {r : PUnit × MemSt nD τ sig (Elt F)}
    (h : Pipeline.RDat.FramePost (cfgs 0) (fun c => (dats m 0 c).toRForget fun _ => true) (V m) r) (c : Dev nD) (w : Fin 12)
    (hin : (cfg0.win w).isOut = false) : r.2.mem ((spec0 w).arr.view.loc (c.tc : Thread nD τ)) = V m c (Pipeline.arrRef spec0 w) :=
  (h.arr_in c w hin).trans (dats_A m c w)

/-- The frame: it runs, its arguments end as they were, and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(arr_kept m h.1 c 0 rfl).trans (V_main_arg0 m c),
      (arr_kept m h.1 c 2 rfl).trans (V_main_arg1 m c),
      (arr_kept m h.1 c 3 rfl).trans (V_main_arg2 m c),
      (arr_kept m h.1 c 4 rfl).trans (V_main_arg3 m c),
      (arr_kept m h.1 c 5 rfl).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c)⟩, h.2⟩)
    (run_quiescent m ρ)

end Cert.Kernel.Hand

end
-- ==== Proof.lean ====
/- The proof of the claims: the frames, and the three value claims. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Ffn2Ref
public import proofs.«01_k».proof.Proof.Ffn3Ref
public import proofs.«01_k».proof.Proof.InProjRef
public import proofs.«01_k».proof.Proof.InProjRun
public import proofs.«01_k».proof.Proof.DsaFrame
public import Idealize.ShloMosaic.Adequacy
public import Idealize.ShloMosaic.Init

@[expose] public section

noncomputable section

namespace Cert.Proof

open Idealize.ShloMosaic Idealize.SL.Sem

/-- The kernel's result and the reference's, on arguments that agree, are one specification. -/
theorem value2 : Cert.algebraic_Kernel2Ideal_Reference2Ideal := fun m ρ m' ρ' _ hag =>
  ⟨fun c => Cert.Kernel2Ideal.Hand.spec (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)),
    (θ_run _ _ _).mono (fun _ h c => ⟨(h c).1.trans (Cert.Kernel2Ideal.Hand.final_spec m c), (h c).2⟩) (Cert.Kernel2Ideal.Value.run_blocks m ρ),
    (θ_run _ _ _).mono (fun _ h c => ⟨(h c).1.trans (by obtain ⟨h0, h1, h2, h3, h4⟩ := hag c; rw [h0, h1, h2, h3, h4]), (h c).2⟩) (Cert.Reference2Ideal.Hand.run m' ρ')⟩

/-- The reference ends with its arguments kept and its semaphores at zero. -/
theorem reference2 : Cert.quiescent_Reference2Ideal := fun m ρ _ =>
  (θ_run _ _ _).mono (fun r h => ⟨fun c => (h c).2, sem_eq_zero_of_no_sems (by decide) r.2⟩) (Cert.Reference2Ideal.Value.run (F := Ideal) m ρ)

/-- The kernel's result and the reference's, on arguments that agree, are one specification. -/
theorem value3 : Cert.algebraic_Kernel3Ideal_Reference3Ideal := fun m ρ m' ρ' _ hag =>
  ⟨fun c => Cert.Kernel3Ideal.Hand.spec (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)),
    (θ_run _ _ _).mono (fun _ h c => ⟨(h c).1.trans (Cert.Kernel3Ideal.Hand.final_spec m c), (h c).2⟩) (Cert.Kernel3Ideal.Value.run_blocks m ρ),
    (θ_run _ _ _).mono (fun _ h c => ⟨(h c).1.trans (by obtain ⟨h0, h1, h2, h3, h4, h5, h6, h7, h8, h9⟩ := hag c; rw [h0, h1, h2, h3, h4, h5, h6, h7, h8, h9]), (h c).2⟩) (Cert.Reference3Ideal.Hand.run m' ρ')⟩

/-- The reference ends with its arguments kept and its semaphores at zero. -/
theorem reference3 : Cert.quiescent_Reference3Ideal := fun m ρ _ =>
  (θ_run _ _ _).mono (fun r h => ⟨fun c => (h c).2, sem_eq_zero_of_no_sems (by decide) r.2⟩) (Cert.Reference3Ideal.Value.run (F := Ideal) m ρ)

set_option maxHeartbeats 2000000 in
/-- The kernel's six results and the reference's, on arguments that agree, are the same six specifications. -/
theorem value4 : Cert.algebraic_Kernel4Ideal_Reference4Ideal := fun m ρ m' ρ' _ hag =>
  ⟨fun c => Cert.Kernel4Ideal.Hand.gates (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (Cert.Kernel4Ideal.Hand.wbig (m ((c.tc : Thread Cert.Kernel4Ideal.nD Cert.Kernel4Ideal.τ).loc Cert.Kernel4Ideal.main_arg2))),
    fun c => Cert.Kernel4Ideal.Hand.cq (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (Cert.Kernel4Ideal.Hand.wsmall (m ((c.tc : Thread Cert.Kernel4Ideal.nD Cert.Kernel4Ideal.τ).loc Cert.Kernel4Ideal.main_arg2))) (m ((c.tc : Thread Cert.Kernel4Ideal.nD Cert.Kernel4Ideal.τ).loc Cert.Kernel4Ideal.main_arg3)),
    fun c => Cert.Kernel4Ideal.Hand.ckv (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (Cert.Kernel4Ideal.Hand.wsmall (m ((c.tc : Thread Cert.Kernel4Ideal.nD Cert.Kernel4Ideal.τ).loc Cert.Kernel4Ideal.main_arg2))) (m ((c.tc : Thread Cert.Kernel4Ideal.nD Cert.Kernel4Ideal.τ).loc Cert.Kernel4Ideal.main_arg4)),
    fun c => Cert.Kernel4Ideal.Hand.ckvt (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (Cert.Kernel4Ideal.Hand.wsmall (m ((c.tc : Thread Cert.Kernel4Ideal.nD Cert.Kernel4Ideal.τ).loc Cert.Kernel4Ideal.main_arg2))) (m ((c.tc : Thread Cert.Kernel4Ideal.nD Cert.Kernel4Ideal.τ).loc Cert.Kernel4Ideal.main_arg4)),
    fun c => Cert.Kernel4Ideal.Hand.kidx (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (Cert.Kernel4Ideal.Hand.wsmall (m ((c.tc : Thread Cert.Kernel4Ideal.nD Cert.Kernel4Ideal.τ).loc Cert.Kernel4Ideal.main_arg2))) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)),
    fun c => Cert.Kernel4Ideal.Hand.misc (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (Cert.Kernel4Ideal.Hand.wsmall (m ((c.tc : Thread Cert.Kernel4Ideal.nD Cert.Kernel4Ideal.τ).loc Cert.Kernel4Ideal.main_arg2))) (Cert.Kernel4Ideal.Hand.nega (m ((c.tc : Thread Cert.Kernel4Ideal.nD Cert.Kernel4Ideal.τ).loc Cert.Kernel4Ideal.main_arg7))) (Cert.Kernel4Ideal.Hand.dtbp (m ((c.tc : Thread Cert.Kernel4Ideal.nD Cert.Kernel4Ideal.τ).loc Cert.Kernel4Ideal.main_arg8))),
    (θ_run _ _ _).mono (fun _ h c => by
      obtain ⟨e0, e1, e2, e3, e4, e5⟩ := Cert.Kernel4Ideal.Hand.finals m c
      obtain ⟨r0, r1, r2, r3, r4, r5, _, kept⟩ := h c
      exact ⟨r0.trans e0, r1.trans e1, r2.trans e2, r3.trans e3, r4.trans e4, r5.trans e5, kept⟩) (Cert.Kernel4Ideal.Value.run_blocks m ρ),
    (θ_run _ _ _).mono (fun _ h c => by
      obtain ⟨h0, h1, h2, h3, h4, h5, h6, h7, h8, h9, h10⟩ := hag c
      obtain ⟨r0, r1, r2, r3, r4, r5, kept⟩ := h c
      exact ⟨r0.trans (congr (congr (congrArg Cert.Kernel4Ideal.Hand.gates h0) h1) (congrArg Cert.Kernel4Ideal.Hand.wbig h2)),
        r1.trans (congr (congr (congr (congrArg Cert.Kernel4Ideal.Hand.cq h0) h1) (congrArg Cert.Kernel4Ideal.Hand.wsmall h2)) h3),
        r2.trans (congr (congr (congr (congrArg Cert.Kernel4Ideal.Hand.ckv h0) h1) (congrArg Cert.Kernel4Ideal.Hand.wsmall h2)) h4),
        r3.trans (congr (congr (congr (congrArg Cert.Kernel4Ideal.Hand.ckvt h0) h1) (congrArg Cert.Kernel4Ideal.Hand.wsmall h2)) h4),
        r4.trans (congr (congr (congr (congr (congrArg Cert.Kernel4Ideal.Hand.kidx h0) h1) (congrArg Cert.Kernel4Ideal.Hand.wsmall h2)) h5) h6),
        r5.trans (congr (congr (congr (congr (congrArg Cert.Kernel4Ideal.Hand.misc h0) h1) (congrArg Cert.Kernel4Ideal.Hand.wsmall h2)) (congrArg Cert.Kernel4Ideal.Hand.nega h7)) (congrArg Cert.Kernel4Ideal.Hand.dtbp h8)), kept⟩) (Cert.Reference4Ideal.Hand.run m' ρ')⟩

/-- The reference ends with its arguments kept and its semaphores at zero. -/
theorem reference4 : Cert.quiescent_Reference4Ideal := fun m ρ _ =>
  (θ_run _ _ _).mono (fun r h => ⟨fun c => (h c).2.2.2.2.2.2, sem_eq_zero_of_no_sems (by decide) r.2⟩) (Cert.Reference4Ideal.Value.run (F := Ideal) m ρ)

theorem claim : Cert.Claim :=
  ⟨Cert.Kernel.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    fun m ρ _ => Cert.Kernel.Hand.frame m ρ,
    fun m ρ _ => Cert.Kernel2.Gen.frame m ρ,
    fun m ρ _ => Cert.Kernel2Ideal.Gen.frame m ρ,
    reference2,
    fun m ρ _ => Cert.Kernel3.Gen.frame m ρ,
    fun m ρ _ => Cert.Kernel3Ideal.Gen.frame m ρ,
    reference3,
    fun m ρ _ => Cert.Kernel4.Gen.frame m ρ,
    fun m ρ _ => Cert.Kernel4Ideal.Gen.frame m ρ,
    reference4,
    trivial,
    value2,
    trivial,
    value3,
    trivial,
    value4⟩

end Cert.Proof

end
